-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Kernel32Ideal_finite32 [hPre_finite32 : Cert.Pre_finite32.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4))).1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4))).2.1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4))).2.2.1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4))).2.2.2 = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_finite32 [hPre_finite32 : Cert.Pre_finite32.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4))).1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4))).2.1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4))).2.2.1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4))).2.2.2 = (fun _ => 1#1)

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Kernel33Ideal_finite33 [hPre_finite33 : Cert.Pre_finite33.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_finite33.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3))).1 = (fun _ => 1#1)
    ∧ (Cert.Pre_finite33.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3))).2.1 = (fun _ => 1#1)
    ∧ (Cert.Pre_finite33.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3))).2.2 = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_finite33 [hPre_finite33 : Cert.Pre_finite33.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_finite33.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3))).1 = (fun _ => 1#1)
    ∧ (Cert.Pre_finite33.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3))).2.1 = (fun _ => 1#1)
    ∧ (Cert.Pre_finite33.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3))).2.2 = (fun _ => 1#1)

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_finite34 [hPre_finite34 : Cert.Pre_finite34.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2))).1 = (fun _ => 1#1)
    ∧ (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2))).2 = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_finite34 [hPre_finite34 : Cert.Pre_finite34.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2))).1 = (fun _ => 1#1)
    ∧ (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2))).2 = (fun _ => 1#1)

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Kernel42Ideal_finite42 [hPre_finite42 : Cert.Pre_finite42.Facts] (m : (ℓ : Loc Cert.Kernel42Ideal.nD Cert.Kernel42Ideal.τ Cert.Kernel42Ideal.sig) → Buf (Elt Ideal) ℓ) : Prop :=
  ∀ c : Dev Cert.Kernel42Ideal.nD,
    (Cert.Pre_finite42.fn (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1)) (m ((c.tc : Thread Cert.Kernel42Ideal.nD Cert.Kernel42Ideal.τ).loc Cert.Kernel42Ideal.main_arg2)) (m ((c.tc : Thread Cert.Kernel42Ideal.nD Cert.Kernel42Ideal.τ).loc Cert.Kernel42Ideal.main_arg3))).1 = (fun _ => 1#1)
    ∧ (Cert.Pre_finite42.fn (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1)) (m ((c.tc : Thread Cert.Kernel42Ideal.nD Cert.Kernel42Ideal.τ).loc Cert.Kernel42Ideal.main_arg2)) (m ((c.tc : Thread Cert.Kernel42Ideal.nD Cert.Kernel42Ideal.τ).loc Cert.Kernel42Ideal.main_arg3))).2.1 = (fun _ => 1#1)
    ∧ (Cert.Pre_finite42.fn (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1)) (m ((c.tc : Thread Cert.Kernel42Ideal.nD Cert.Kernel42Ideal.τ).loc Cert.Kernel42Ideal.main_arg2)) (m ((c.tc : Thread Cert.Kernel42Ideal.nD Cert.Kernel42Ideal.τ).loc Cert.Kernel42Ideal.main_arg3))).2.2.1 = (fun _ => 1#1)
    ∧ (Cert.Pre_finite42.fn (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1)) (m ((c.tc : Thread Cert.Kernel42Ideal.nD Cert.Kernel42Ideal.τ).loc Cert.Kernel42Ideal.main_arg2)) (m ((c.tc : Thread Cert.Kernel42Ideal.nD Cert.Kernel42Ideal.τ).loc Cert.Kernel42Ideal.main_arg3))).2.2.2 = (fun _ => 1#1)

def Pre_Reference42Ideal (m : (ℓ : Loc Cert.Reference42Ideal.nD Cert.Reference42Ideal.τ Cert.Reference42Ideal.sig) → Buf (Elt Ideal) ℓ) : Prop :=
  True

def Pre_Reference42Ideal_finite42 [hPre_finite42 : Cert.Pre_finite42.Facts] (m : (ℓ : Loc Cert.Reference42Ideal.nD Cert.Reference42Ideal.τ Cert.Reference42Ideal.sig) → Buf (Elt Ideal) ℓ) : Prop :=
  ∀ c : Dev Cert.Reference42Ideal.nD,
    (Cert.Pre_finite42.fn (F := Ideal) (m ((c.tc : Thread Cert.Reference42Ideal.nD Cert.Reference42Ideal.τ).loc Cert.Reference42Ideal.main_arg0)) (m ((c.tc : Thread Cert.Reference42Ideal.nD Cert.Reference42Ideal.τ).loc Cert.Reference42Ideal.main_arg1)) (m ((c.tc : Thread Cert.Reference42Ideal.nD Cert.Reference42Ideal.τ).loc Cert.Reference42Ideal.main_arg2)) (m ((c.tc : Thread Cert.Reference42Ideal.nD Cert.Reference42Ideal.τ).loc Cert.Reference42Ideal.main_arg3))).1 = (fun _ => 1#1)
    ∧ (Cert.Pre_finite42.fn (F := Ideal) (m ((c.tc : Thread Cert.Reference42Ideal.nD Cert.Reference42Ideal.τ).loc Cert.Reference42Ideal.main_arg0)) (m ((c.tc : Thread Cert.Reference42Ideal.nD Cert.Reference42Ideal.τ).loc Cert.Reference42Ideal.main_arg1)) (m ((c.tc : Thread Cert.Reference42Ideal.nD Cert.Reference42Ideal.τ).loc Cert.Reference42Ideal.main_arg2)) (m ((c.tc : Thread Cert.Reference42Ideal.nD Cert.Reference42Ideal.τ).loc Cert.Reference42Ideal.main_arg3))).2.1 = (fun _ => 1#1)
    ∧ (Cert.Pre_finite42.fn (F := Ideal) (m ((c.tc : Thread Cert.Reference42Ideal.nD Cert.Reference42Ideal.τ).loc Cert.Reference42Ideal.main_arg0)) (m ((c.tc : Thread Cert.Reference42Ideal.nD Cert.Reference42Ideal.τ).loc Cert.Reference42Ideal.main_arg1)) (m ((c.tc : Thread Cert.Reference42Ideal.nD Cert.Reference42Ideal.τ).loc Cert.Reference42Ideal.main_arg2)) (m ((c.tc : Thread Cert.Reference42Ideal.nD Cert.Reference42Ideal.τ).loc Cert.Reference42Ideal.main_arg3))).2.2.1 = (fun _ => 1#1)
    ∧ (Cert.Pre_finite42.fn (F := Ideal) (m ((c.tc : Thread Cert.Reference42Ideal.nD Cert.Reference42Ideal.τ).loc Cert.Reference42Ideal.main_arg0)) (m ((c.tc : Thread Cert.Reference42Ideal.nD Cert.Reference42Ideal.τ).loc Cert.Reference42Ideal.main_arg1)) (m ((c.tc : Thread Cert.Reference42Ideal.nD Cert.Reference42Ideal.τ).loc Cert.Reference42Ideal.main_arg2)) (m ((c.tc : Thread Cert.Reference42Ideal.nD Cert.Reference42Ideal.τ).loc Cert.Reference42Ideal.main_arg3))).2.2.2 = (fun _ => 1#1)

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Kernel43Ideal_finite43 [hPre_finite43 : Cert.Pre_finite43.Facts] (m : (ℓ : Loc Cert.Kernel43Ideal.nD Cert.Kernel43Ideal.τ Cert.Kernel43Ideal.sig) → Buf (Elt Ideal) ℓ) : Prop :=
  ∀ c : Dev Cert.Kernel43Ideal.nD,
    (Cert.Pre_finite43.fn (F := Ideal) (m ((c.tc : Thread Cert.Kernel43Ideal.nD Cert.Kernel43Ideal.τ).loc Cert.Kernel43Ideal.main_arg0)) (m ((c.tc : Thread Cert.Kernel43Ideal.nD Cert.Kernel43Ideal.τ).loc Cert.Kernel43Ideal.main_arg1)) (m ((c.tc : Thread Cert.Kernel43Ideal.nD Cert.Kernel43Ideal.τ).loc Cert.Kernel43Ideal.main_arg2))).1 = (fun _ => 1#1)
    ∧ (Cert.Pre_finite43.fn (F := Ideal) (m ((c.tc : Thread Cert.Kernel43Ideal.nD Cert.Kernel43Ideal.τ).loc Cert.Kernel43Ideal.main_arg0)) (m ((c.tc : Thread Cert.Kernel43Ideal.nD Cert.Kernel43Ideal.τ).loc Cert.Kernel43Ideal.main_arg1)) (m ((c.tc : Thread Cert.Kernel43Ideal.nD Cert.Kernel43Ideal.τ).loc Cert.Kernel43Ideal.main_arg2))).2 = (fun _ => 1#1)

def Pre_Reference43Ideal (m : (ℓ : Loc Cert.Reference43Ideal.nD Cert.Reference43Ideal.τ Cert.Reference43Ideal.sig) → Buf (Elt Ideal) ℓ) : Prop :=
  True

def Pre_Reference43Ideal_finite43 [hPre_finite43 : Cert.Pre_finite43.Facts] (m : (ℓ : Loc Cert.Reference43Ideal.nD Cert.Reference43Ideal.τ Cert.Reference43Ideal.sig) → Buf (Elt Ideal) ℓ) : Prop :=
  ∀ c : Dev Cert.Reference43Ideal.nD,
    (Cert.Pre_finite43.fn (F := Ideal) (m ((c.tc : Thread Cert.Reference43Ideal.nD Cert.Reference43Ideal.τ).loc Cert.Reference43Ideal.main_arg0)) (m ((c.tc : Thread Cert.Reference43Ideal.nD Cert.Reference43Ideal.τ).loc Cert.Reference43Ideal.main_arg1)) (m ((c.tc : Thread Cert.Reference43Ideal.nD Cert.Reference43Ideal.τ).loc Cert.Reference43Ideal.main_arg2))).1 = (fun _ => 1#1)
    ∧ (Cert.Pre_finite43.fn (F := Ideal) (m ((c.tc : Thread Cert.Reference43Ideal.nD Cert.Reference43Ideal.τ).loc Cert.Reference43Ideal.main_arg0)) (m ((c.tc : Thread Cert.Reference43Ideal.nD Cert.Reference43Ideal.τ).loc Cert.Reference43Ideal.main_arg1)) (m ((c.tc : Thread Cert.Reference43Ideal.nD Cert.Reference43Ideal.τ).loc Cert.Reference43Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Kernel32Ideal_pre_finite32 [hKernel32Ideal : Cert.Kernel32Ideal.Facts] [hPre_finite32 : Cert.Pre_finite32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal_finite32 m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def quiescent_Reference32Ideal_pre_finite32 [hReference32Ideal : Cert.Reference32Ideal.Facts] [hPre_finite32 : Cert.Pre_finite32.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_finite32 m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Kernel33Ideal_pre_finite33 [hKernel33Ideal : Cert.Kernel33Ideal.Facts] [hPre_finite33 : Cert.Pre_finite33.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal_finite33 m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Reference33Ideal_pre_finite33 [hReference33Ideal : Cert.Reference33Ideal.Facts] [hPre_finite33 : Cert.Pre_finite33.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_finite33 m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Kernel34Ideal_pre_finite34 [hKernel34Ideal : Cert.Kernel34Ideal.Facts] [hPre_finite34 : Cert.Pre_finite34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_finite34 m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Reference34Ideal_pre_finite34 [hReference34Ideal : Cert.Reference34Ideal.Facts] [hPre_finite34 : Cert.Pre_finite34.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_finite34 m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Kernel42Ideal_pre_finite42 [hKernel42Ideal : Cert.Kernel42Ideal.Facts] [hPre_finite42 : Cert.Pre_finite42.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal_finite42 m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Reference42Ideal_pre_finite42 [hReference42Ideal : Cert.Reference42Ideal.Facts] [hPre_finite42 : Cert.Pre_finite42.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal_finite42 m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ r.2.sem = fun _ => 0)

def quiescent_Kernel43Ideal_pre_finite43 [hKernel43Ideal : Cert.Kernel43Ideal.Facts] [hPre_finite43 : Cert.Pre_finite43.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal_finite43 m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2))
      ∧ r.2.sem = fun _ => 0)

def quiescent_Reference43Ideal_pre_finite43 [hReference43Ideal : Cert.Reference43Ideal.Facts] [hPre_finite43 : Cert.Pre_finite43.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal_finite43 m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v3_0)) (v1 : (c : Dev Cert.Kernel30Ideal.nD) → Buf (Elt Ideal) ((c.tc : Thread Cert.Kernel30Ideal.nD Cert.Kernel30Ideal.τ).loc Cert.Kernel30Ideal.main_v3_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v3_0) = v0 c
          ∧ r.2.mem ((c.tc : Thread Cert.Kernel30Ideal.nD Cert.Kernel30Ideal.τ).loc Cert.Kernel30Ideal.main_v3_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_v15) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v2_0)) (v1 : (c : Dev Cert.Kernel31Ideal.nD) → Buf (Elt Ideal) ((c.tc : Thread Cert.Kernel31Ideal.nD Cert.Kernel31Ideal.τ).loc Cert.Kernel31Ideal.main_v2_1)) (v2 : (c : Dev Cert.Kernel31Ideal.nD) → Buf (Elt Ideal) ((c.tc : Thread Cert.Kernel31Ideal.nD Cert.Kernel31Ideal.τ).loc Cert.Kernel31Ideal.main_v2_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v2_0) = v0 c
          ∧ r.2.mem ((c.tc : Thread Cert.Kernel31Ideal.nD Cert.Kernel31Ideal.τ).loc Cert.Kernel31Ideal.main_v2_1) = v1 c
          ∧ r.2.mem ((c.tc : Thread Cert.Kernel31Ideal.nD Cert.Kernel31Ideal.τ).loc Cert.Kernel31Ideal.main_v2_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v18) = v0 c
          ∧ r.2.mem ((c.tc : Thread Cert.Reference31Ideal.nD Cert.Reference31Ideal.τ).loc Cert.Reference31Ideal.main_v19) = v1 c
          ∧ r.2.mem ((c.tc : Thread Cert.Reference31Ideal.nD Cert.Reference31Ideal.τ).loc Cert.Reference31Ideal.main_v24) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal_pre_finite32 [hKernel32Ideal : Cert.Kernel32Ideal.Facts] [hReference32Ideal : Cert.Reference32Ideal.Facts] [hPre_finite32 : Cert.Pre_finite32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal_finite32 m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v3_0)) (v1 : (c : Dev Cert.Kernel32Ideal.nD) → Buf (Elt Ideal) ((c.tc : Thread Cert.Kernel32Ideal.nD Cert.Kernel32Ideal.τ).loc Cert.Kernel32Ideal.main_v3_1)) (v2 : (c : Dev Cert.Kernel32Ideal.nD) → Buf (Elt Ideal) ((c.tc : Thread Cert.Kernel32Ideal.nD Cert.Kernel32Ideal.τ).loc Cert.Kernel32Ideal.main_v3_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v3_0) = v0 c
          ∧ r.2.mem ((c.tc : Thread Cert.Kernel32Ideal.nD Cert.Kernel32Ideal.τ).loc Cert.Kernel32Ideal.main_v3_1) = v1 c
          ∧ r.2.mem ((c.tc : Thread Cert.Kernel32Ideal.nD Cert.Kernel32Ideal.τ).loc Cert.Kernel32Ideal.main_v3_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v38) = v0 c
          ∧ r.2.mem ((c.tc : Thread Cert.Reference32Ideal.nD Cert.Reference32Ideal.τ).loc Cert.Reference32Ideal.main_v40) = v1 c
          ∧ r.2.mem ((c.tc : Thread Cert.Reference32Ideal.nD Cert.Reference32Ideal.τ).loc Cert.Reference32Ideal.main_v41) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def preserves_Kernel33_Kernel33Ideal : Prop :=
  True

def algebraic_Kernel33Ideal_Reference33Ideal_pre_finite33 [hKernel33Ideal : Cert.Kernel33Ideal.Facts] [hReference33Ideal : Cert.Reference33Ideal.Facts] [hPre_finite33 : Cert.Pre_finite33.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal_finite33 m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v2_0)) (v1 : (c : Dev Cert.Kernel33Ideal.nD) → Buf (Elt Ideal) ((c.tc : Thread Cert.Kernel33Ideal.nD Cert.Kernel33Ideal.τ).loc Cert.Kernel33Ideal.main_v2_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v2_0) = v0 c
          ∧ r.2.mem ((c.tc : Thread Cert.Kernel33Ideal.nD Cert.Kernel33Ideal.τ).loc Cert.Kernel33Ideal.main_v2_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v36) = v0 c
          ∧ r.2.mem ((c.tc : Thread Cert.Reference33Ideal.nD Cert.Reference33Ideal.τ).loc Cert.Reference33Ideal.main_v37) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  IdealRules.named_const.Statement Cert.Kernel34Ideal.κ "mask" .f32 0xF149F2CA#32 ⊥
  ∧ IdealRules.named_const.Statement Cert.Kernel34Ideal.κ "inv_ln2" .f32 0x3FB8AA3B#32 (((Real.log 2)⁻¹ : ℝ) : EReal)

def algebraic_Kernel34Ideal_Reference34Ideal_pre_finite34 [hKernel34Ideal : Cert.Kernel34Ideal.Facts] [hReference34Ideal : Cert.Reference34Ideal.Facts] [hPre_finite34 : Cert.Pre_finite34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_finite34 m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v9_0)) (v1 : (c : Dev Cert.Kernel34Ideal.nD) → Buf (Elt Ideal) ((c.tc : Thread Cert.Kernel34Ideal.nD Cert.Kernel34Ideal.τ).loc Cert.Kernel34Ideal.main_v9_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v9_0) = v0 c
          ∧ r.2.mem ((c.tc : Thread Cert.Kernel34Ideal.nD Cert.Kernel34Ideal.τ).loc Cert.Kernel34Ideal.main_v9_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v26) = v0 c
          ∧ r.2.mem ((c.tc : Thread Cert.Reference34Ideal.nD Cert.Reference34Ideal.τ).loc Cert.Reference34Ideal.main_v34) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_v26) = v1 c
          ∧ r.2.mem ((c.tc : Thread Cert.Reference35Ideal.nD Cert.Reference35Ideal.τ).loc Cert.Reference35Ideal.main_v7) = v2 c
          ∧ r.2.mem ((c.tc : Thread Cert.Reference35Ideal.nD Cert.Reference35Ideal.τ).loc Cert.Reference35Ideal.main_v13) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)) (v3 : (c : Dev Cert.Kernel36Ideal.nD) → Buf (Elt Ideal) ((c.tc : Thread Cert.Kernel36Ideal.nD Cert.Kernel36Ideal.τ).loc Cert.Kernel36Ideal.main_v0_3)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_v0_3) = v3 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v1) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v6) = v2 c
          ∧ r.2.mem ((c.tc : Thread Cert.Reference36Ideal.nD Cert.Reference36Ideal.τ).loc Cert.Reference36Ideal.main_v12) = v3 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)) (v3 : (c : Dev Cert.Kernel37Ideal.nD) → Buf (Elt Ideal) ((c.tc : Thread Cert.Kernel37Ideal.nD Cert.Kernel37Ideal.τ).loc Cert.Kernel37Ideal.main_v0_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_v0_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v1) = v0 c
          ∧ r.2.mem ((c.tc : Thread Cert.Reference37Ideal.nD Cert.Reference37Ideal.τ).loc Cert.Reference37Ideal.main_v25) = v1 c
          ∧ r.2.mem ((c.tc : Thread Cert.Reference37Ideal.nD Cert.Reference37Ideal.τ).loc Cert.Reference37Ideal.main_v6) = v2 c
          ∧ r.2.mem ((c.tc : Thread Cert.Reference37Ideal.nD Cert.Reference37Ideal.τ).loc Cert.Reference37Ideal.main_v12) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v1) = v0 c
          ∧ r.2.mem ((c.tc : Thread Cert.Reference38Ideal.nD Cert.Reference38Ideal.τ).loc Cert.Reference38Ideal.main_v25) = v1 c
          ∧ r.2.mem ((c.tc : Thread Cert.Reference38Ideal.nD Cert.Reference38Ideal.τ).loc Cert.Reference38Ideal.main_v6) = v2 c
          ∧ r.2.mem ((c.tc : Thread Cert.Reference38Ideal.nD Cert.Reference38Ideal.τ).loc Cert.Reference38Ideal.main_v12) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v1) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_v6) = v2 c
          ∧ r.2.mem ((c.tc : Thread Cert.Reference39Ideal.nD Cert.Reference39Ideal.τ).loc Cert.Reference39Ideal.main_v12) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v1) = v0 c
          ∧ r.2.mem ((c.tc : Thread Cert.Reference40Ideal.nD Cert.Reference40Ideal.τ).loc Cert.Reference40Ideal.main_v25) = v1 c
          ∧ r.2.mem ((c.tc : Thread Cert.Reference40Ideal.nD Cert.Reference40Ideal.τ).loc Cert.Reference40Ideal.main_v6) = v2 c
          ∧ r.2.mem ((c.tc : Thread Cert.Reference40Ideal.nD Cert.Reference40Ideal.τ).loc Cert.Reference40Ideal.main_v12) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)) (v3 : (c : Dev Cert.Kernel41Ideal.nD) → Buf (Elt Ideal) ((c.tc : Thread Cert.Kernel41Ideal.nD Cert.Kernel41Ideal.τ).loc Cert.Kernel41Ideal.main_v0_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_v0_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v1) = v0 c
          ∧ r.2.mem ((c.tc : Thread Cert.Reference41Ideal.nD Cert.Reference41Ideal.τ).loc Cert.Reference41Ideal.main_v25) = v1 c
          ∧ r.2.mem ((c.tc : Thread Cert.Reference41Ideal.nD Cert.Reference41Ideal.τ).loc Cert.Reference41Ideal.main_v6) = v2 c
          ∧ r.2.mem ((c.tc : Thread Cert.Reference41Ideal.nD Cert.Reference41Ideal.τ).loc Cert.Reference41Ideal.main_v12) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  IdealRules.named_const.Statement Cert.Kernel42Ideal.κ "ln2" .f32 0x3F317218#32 ((Real.log 2 : ℝ) : EReal)

def algebraic_Kernel42Ideal_Reference42Ideal_pre_finite42 [hKernel42Ideal : Cert.Kernel42Ideal.Facts] [hReference42Ideal : Cert.Reference42Ideal.Facts] [hPre_finite42 : Cert.Pre_finite42.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal_finite42 m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v38_0)) (v1 : (c : Dev Cert.Kernel42Ideal.nD) → Buf (Elt Ideal) ((c.tc : Thread Cert.Kernel42Ideal.nD Cert.Kernel42Ideal.τ).loc Cert.Kernel42Ideal.main_v38_1)) (v2 : (c : Dev Cert.Kernel42Ideal.nD) → Buf (Elt Ideal) ((c.tc : Thread Cert.Kernel42Ideal.nD Cert.Kernel42Ideal.τ).loc Cert.Kernel42Ideal.main_v38_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v38_0) = v0 c
          ∧ r.2.mem ((c.tc : Thread Cert.Kernel42Ideal.nD Cert.Kernel42Ideal.τ).loc Cert.Kernel42Ideal.main_v38_1) = v1 c
          ∧ r.2.mem ((c.tc : Thread Cert.Kernel42Ideal.nD Cert.Kernel42Ideal.τ).loc Cert.Kernel42Ideal.main_v38_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v64) = v0 c
          ∧ r.2.mem ((c.tc : Thread Cert.Reference42Ideal.nD Cert.Reference42Ideal.τ).loc Cert.Reference42Ideal.main_v65) = v1 c
          ∧ r.2.mem ((c.tc : Thread Cert.Reference42Ideal.nD Cert.Reference42Ideal.τ).loc Cert.Reference42Ideal.main_v66) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  IdealRules.named_const.Statement Cert.Kernel43Ideal.κ "inv_ln2" .f32 0x3FB8AA3B#32 (((Real.log 2)⁻¹ : ℝ) : EReal)

def algebraic_Kernel43Ideal_Reference43Ideal_pre_finite43 [hKernel43Ideal : Cert.Kernel43Ideal.Facts] [hReference43Ideal : Cert.Reference43Ideal.Facts] [hPre_finite43 : Cert.Pre_finite43.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal_finite43 m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)) →
    ∃ (v0 : (c : Dev Cert.Kernel43Ideal.nD) → Buf (Elt Ideal) ((c.tc : Thread Cert.Kernel43Ideal.nD Cert.Kernel43Ideal.τ).loc Cert.Kernel43Ideal.main_v9_0)) (v1 : (c : Dev Cert.Kernel43Ideal.nD) → Buf (Elt Ideal) ((c.tc : Thread Cert.Kernel43Ideal.nD Cert.Kernel43Ideal.τ).loc Cert.Kernel43Ideal.main_v9_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v9_0) = v0 c
          ∧ r.2.mem ((c.tc : Thread Cert.Kernel43Ideal.nD Cert.Kernel43Ideal.τ).loc Cert.Kernel43Ideal.main_v9_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v19) = v0 c
          ∧ r.2.mem ((c.tc : Thread Cert.Reference43Ideal.nD Cert.Reference43Ideal.τ).loc Cert.Reference43Ideal.main_v27) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hPre_finite : Cert.Pre_finite.Facts) (hPre_finite32 : Cert.Pre_finite32.Facts) (hPre_finite33 : Cert.Pre_finite33.Facts) (hPre_finite34 : Cert.Pre_finite34.Facts) (hPre_finite42 : Cert.Pre_finite42.Facts) (hPre_finite43 : Cert.Pre_finite43.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Kernel32Ideal_pre_finite32 (hKernel32Ideal := hKernel32Ideal) (hPre_finite32 := hPre_finite32)
    ∧ quiescent_Reference32Ideal (hReference32Ideal := hReference32Ideal)
    ∧ quiescent_Reference32Ideal_pre_finite32 (hReference32Ideal := hReference32Ideal) (hPre_finite32 := hPre_finite32)
    ∧ quiescent_Kernel33 (hKernel33 := hKernel33)
    ∧ quiescent_Kernel33Ideal (hKernel33Ideal := hKernel33Ideal)
    ∧ quiescent_Kernel33Ideal_pre_finite33 (hKernel33Ideal := hKernel33Ideal) (hPre_finite33 := hPre_finite33)
    ∧ quiescent_Reference33Ideal (hReference33Ideal := hReference33Ideal)
    ∧ quiescent_Reference33Ideal_pre_finite33 (hReference33Ideal := hReference33Ideal) (hPre_finite33 := hPre_finite33)
    ∧ quiescent_Kernel34 (hKernel34 := hKernel34)
    ∧ quiescent_Kernel34Ideal (hKernel34Ideal := hKernel34Ideal)
    ∧ quiescent_Kernel34Ideal_pre_finite34 (hKernel34Ideal := hKernel34Ideal) (hPre_finite34 := hPre_finite34)
    ∧ quiescent_Reference34Ideal (hReference34Ideal := hReference34Ideal)
    ∧ quiescent_Reference34Ideal_pre_finite34 (hReference34Ideal := hReference34Ideal) (hPre_finite34 := hPre_finite34)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Kernel42Ideal_pre_finite42 (hKernel42Ideal := hKernel42Ideal) (hPre_finite42 := hPre_finite42)
    ∧ quiescent_Reference42Ideal (hReference42Ideal := hReference42Ideal)
    ∧ quiescent_Reference42Ideal_pre_finite42 (hReference42Ideal := hReference42Ideal) (hPre_finite42 := hPre_finite42)
    ∧ quiescent_Kernel43 (hKernel43 := hKernel43)
    ∧ quiescent_Kernel43Ideal (hKernel43Ideal := hKernel43Ideal)
    ∧ quiescent_Kernel43Ideal_pre_finite43 (hKernel43Ideal := hKernel43Ideal) (hPre_finite43 := hPre_finite43)
    ∧ quiescent_Reference43Ideal (hReference43Ideal := hReference43Ideal)
    ∧ quiescent_Reference43Ideal_pre_finite43 (hReference43Ideal := hReference43Ideal) (hPre_finite43 := hPre_finite43)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal_pre_finite32 (hKernel32Ideal := hKernel32Ideal) (hReference32Ideal := hReference32Ideal) (hPre_finite32 := hPre_finite32)
    ∧ preserves_Kernel33_Kernel33Ideal
    ∧ algebraic_Kernel33Ideal_Reference33Ideal_pre_finite33 (hKernel33Ideal := hKernel33Ideal) (hReference33Ideal := hReference33Ideal) (hPre_finite33 := hPre_finite33)
    ∧ preserves_Kernel34_Kernel34Ideal
    ∧ algebraic_Kernel34Ideal_Reference34Ideal_pre_finite34 (hKernel34Ideal := hKernel34Ideal) (hReference34Ideal := hReference34Ideal) (hPre_finite34 := hPre_finite34)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal_pre_finite42 (hKernel42Ideal := hKernel42Ideal) (hReference42Ideal := hReference42Ideal) (hPre_finite42 := hPre_finite42)
    ∧ preserves_Kernel43_Kernel43Ideal
    ∧ algebraic_Kernel43Ideal_Reference43Ideal_pre_finite43 (hKernel43Ideal := hKernel43Ideal) (hReference43Ideal := hReference43Ideal) (hPre_finite43 := hPre_finite43)
-- ==== Pre_finite.lean ====
abbrev S8192x2048 : Shape := ⟨2, ![8192, 2048]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  bcast_S_S8192x1024 : S_.BroadcastsInDim S8192x1024 (![] : Fin 0 → Fin S8192x1024.rank)

variable [Facts]

def fn {F : FTy → Type} [FloatOps F] (main_arg0 : FVec F S8192x2048 .f32) (main_arg1 : FVec F S8192x2048 .f32) (main_arg2 : FVec F S8192x1024 .f32) (main_arg3 : FVec F S8192x1024 .f32) : IVec S8192x2048 1 × IVec S8192x2048 1 × IVec S8192x1024 1 × IVec S8192x1024 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite32.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1024 .f32) (main_arg2 : FVec F S1024x4096 .f32) (main_arg3 : FVec F S8192x4096 .f32) (main_arg4 : FVec F S8192x1024 .f32) : IVec S8192x1024 1 × IVec S1024 1 × IVec S1024x4096 1 × IVec S8192x4096 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S8192x4096 .f32 := Host.absf main_arg3
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  (main_v2, main_v5, main_v8, main_v11)
-- ==== Pre_finite33.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) (main_arg3 : FVec F S8192x1024 .f32) : IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite34.lean ====
abbrev S8192x2048 : Shape := ⟨2, ![8192, 2048]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .f32) (main_arg2 : FVec F S8192x1024 .f32) : IVec S8192x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  (main_v2, main_v5)
-- ==== Pre_finite42.lean ====
abbrev S8192x512 : Shape := ⟨2, ![8192, 512]⟩
abbrev S1024x512 : Shape := ⟨2, ![1024, 512]⟩
abbrev S1024x1024 : Shape := ⟨2, ![1024, 1024]⟩
abbrev S_ : Shape := ⟨0, ![]⟩

class Facts : Prop where
  bcast_S_S8192x512 : S_.BroadcastsInDim S8192x512 (![] : Fin 0 → Fin S8192x512.rank)
  bcast_S_S1024x512 : S_.BroadcastsInDim S1024x512 (![] : Fin 0 → Fin S1024x512.rank)
  slices_S1024x1024_S1024x512_0_512 : S1024x1024.Slices ![0, 512] S1024x512

variable [Facts]

def fn {F : FTy → Type} [FloatOps F] (main_arg0 : FVec F S8192x512 .f32) (main_arg1 : FVec F S1024x512 .f32) (main_arg2 : FVec F S1024x1024 .f32) (main_arg3 : FVec F S8192x512 .f32) : IVec S8192x512 1 × IVec S1024x512 1 × IVec S1024x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S1024x512 .f32 := Host.absf main_arg1
  let main_cst_0 : FVec F S_ .f32 := constant S_ .f32 0x7F800000#32
  let main_v4 : FVec F S1024x512 .f32 := broadcastInDim S1024x512 ![] bcast_S_S1024x512 main_cst_0
  let main_v5 : IVec S1024x512 1 := cmpf .olt main_v3 main_v4
  let main_v6 : FVec F S1024x512 .f32 := (extractStridedSlice S1024x512 ![0, 512] · slices_S1024x1024_S1024x512_0_512) main_arg2
  let main_v7 : FVec F S1024x512 .f32 := Host.absf main_v6
  let main_cst_1 : FVec F S_ .f32 := constant S_ .f32 0x7F800000#32
  let main_v8 : FVec F S1024x512 .f32 := broadcastInDim S1024x512 ![] bcast_S_S1024x512 main_cst_1
  let main_v9 : IVec S1024x512 1 := cmpf .olt main_v7 main_v8
  let main_v10 : FVec F S8192x512 .f32 := Host.absf main_arg3
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  (main_v2, main_v5, main_v9, main_v12)
-- ==== Pre_finite43.lean ====
abbrev S8192x512 : Shape := ⟨2, ![8192, 512]⟩
abbrev S1024x512 : Shape := ⟨2, ![1024, 512]⟩
abbrev S1024x1024 : Shape := ⟨2, ![1024, 1024]⟩
abbrev S_ : Shape := ⟨0, ![]⟩

class Facts : Prop where
  bcast_S_S8192x512 : S_.BroadcastsInDim S8192x512 (![] : Fin 0 → Fin S8192x512.rank)
  bcast_S_S1024x512 : S_.BroadcastsInDim S1024x512 (![] : Fin 0 → Fin S1024x512.rank)

variable [Facts]

def fn {F : FTy → Type} [FloatOps F] (main_arg0 : FVec F S8192x512 .f32) (main_arg1 : FVec F S1024x512 .f32) (main_arg2 : FVec F S1024x1024 .f32) : IVec S8192x512 1 × IVec S1024x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S1024x512 .f32 := Host.absf main_arg1
  let main_cst_0 : FVec F S_ .f32 := constant S_ .f32 0x7F800000#32
  let main_v4 : FVec F S1024x512 .f32 := broadcastInDim S1024x512 ![] bcast_S_S1024x512 main_cst_0
  let main_v5 : IVec S1024x512 1 := cmpf .olt main_v3 main_v4
  (main_v2, main_v5)
-- ==== Kernel.lean ====
abbrev S8192x2048 : Shape := ⟨2, ![8192, 2048]⟩
abbrev S8192x1024 : Shape := ⟨2, ![8192, 1024]⟩
abbrev S4x2048x8x256 : Shape := ⟨4, ![4, 2048, 8, 256]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S8x4x2048x1 : Shape := ⟨4, ![8, 4, 2048, 1]⟩
abbrev S8x8192x1 : Shape := ⟨3, ![8, 8192, 1]⟩
abbrev S2048x256 : Shape := ⟨2, ![2048, 256]⟩
abbrev S2048x128 : Shape := ⟨2, ![2048, 128]⟩
abbrev S1x2048x1 : Shape := ⟨3, ![1, 2048, 1]⟩
abbrev S256x256 : Shape := ⟨2, ![256, 256]⟩
abbrev S256x128 : Shape := ⟨2, ![256, 128]⟩
abbrev S1x256x1 : Shape := ⟨3, ![1, 256, 1]⟩
abbrev S256x1 : Shape := ⟨2, ![256, 1]⟩
abbrev S1792x256 : Shape := ⟨2, ![1792, 256]⟩
abbrev S1792x128 : Shape := ⟨2, ![1792, 128]⟩
abbrev S1x1792x1 : Shape := ⟨3, ![1, 1792, 1]⟩
abbrev S1792x1 : Shape := ⟨2, ![1792, 1]⟩
abbrev S1536x256 : Shape := ⟨2, ![1536, 256]⟩
abbrev S1536x128 : Shape := ⟨2, ![1536, 128]⟩
abbrev S1x1536x1 : Shape := ⟨3, ![1, 1536, 1]⟩
abbrev S1536x1 : Shape := ⟨2, ![1536, 1]⟩
abbrev S1280x256 : Shape := ⟨2, ![1280, 256]⟩
abbrev S1280x128 : Shape := ⟨2, ![1280, 128]⟩
abbrev S1x1280x1 : Shape := ⟨3, ![1, 1280, 1]⟩
abbrev S1280x1 : Shape := ⟨2, ![1280, 1]⟩
abbrev S1024x256 : Shape := ⟨2, ![1024, 256]⟩
abbrev S1024x128 : Shape := ⟨2, ![1024, 128]⟩
abbrev S1x1024x1 : Shape := ⟨3, ![1, 1024, 1]⟩
abbrev S1024x1 : Shape := ⟨2, ![1024, 1]⟩
abbrev S768x256 : Shape := ⟨2, ![768, 256]⟩
abbrev S768x128 : Shape := ⟨2, ![768, 128]⟩
abbrev S1x768x1 : Shape := ⟨3, ![1, 768, 1]⟩
abbrev S768x1 : Shape := ⟨2, ![768, 1]⟩
abbrev S512x256 : Shape := ⟨2, ![512, 256]⟩
abbrev S512x128 : Shape := ⟨2, ![512, 128]⟩
abbrev S1x512x1 : Shape := ⟨3, ![1, 512, 1]⟩
abbrev S512x1 : Shape := ⟨2, ![512, 1]⟩

abbrev nBuf : Space → Nat
  | .hbm => 62
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S4x2048x8x256, .f32⟩
  | .hbm, ⟨5, _⟩ => ⟨S4x2048x8x256, .f32⟩
  | .hbm, ⟨6, _⟩ => ⟨S4x2048x8x128, .f32⟩
  | .hbm, ⟨7, _⟩ => ⟨S4x8x2048x2048, .f32⟩
  | .hbm, ⟨8, _⟩ => ⟨S_, .f32⟩
  | .hbm, ⟨9, _⟩ => ⟨S4x8x2048x2048, .f32⟩
  | .hbm, ⟨10, _⟩ => ⟨S4x8x2048x2048, .f32⟩
  | .hbm, ⟨11, _⟩ => ⟨S2048, .i32⟩
  | .hbm, ⟨12, _⟩ => ⟨S2048x1, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S1x1x2048x2048, .i1⟩
  | .hbm, ⟨18, _⟩ => ⟨S_, .f32⟩
  | .hbm, ⟨19, _⟩ => ⟨S_, .f32⟩
  | .hbm, ⟨20, _⟩ => ⟨S4x8x2048x2048, .i1⟩
  | .hbm, ⟨21, _⟩ => ⟨S4x8x2048x2048, .f32⟩
  | .hbm, ⟨22, _⟩ => ⟨S4x8x2048x2048, .f32⟩
  | .hbm, ⟨23, _⟩ => ⟨S_, .f32⟩
  | .hbm, ⟨24, _⟩ => ⟨S4x8x2048, .f32⟩
  | .hbm, ⟨25, _⟩ => ⟨S4x8x2048x1, .f32⟩
  | .hbm, ⟨26, _⟩ => ⟨S4x8x2048x2048, .f32⟩
  | .hbm, ⟨27, _⟩ => ⟨S4x8x2048x2048, .f32⟩
  | .hbm, ⟨28, _⟩ => ⟨S4x8x2048x2048, .f32⟩
  | .hbm, ⟨29, _⟩ => ⟨S_, .f32⟩
  | .hbm, ⟨30, _⟩ => ⟨S4x8x2048, .f32⟩
  | .hbm, ⟨31, _⟩ => ⟨S4x8x2048x1, .f32⟩
  | .hbm, ⟨32, _⟩ => ⟨S4x8x2048x2048, .f32⟩
  | .hbm, ⟨33, _⟩ => ⟨S4x8x2048x2048, .f32⟩
  | .hbm, ⟨34, _⟩ => ⟨S4x8x128x2048, .f32⟩
  | .hbm, ⟨35, _⟩ => ⟨S4x2048x8x128, .f32⟩
  | .hbm, ⟨36, _⟩ => ⟨S8192x1024, .f32⟩
  | .hbm, ⟨37, _⟩ => ⟨S8192x1024, .bf16⟩
  | .hbm, ⟨38, _⟩ => ⟨S4x8x2048x1, .f32⟩
  | .hbm, ⟨39, _⟩ => ⟨S4x8x2048x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4x8x2048x1, .f32⟩
  | .hbm, ⟨44, _⟩ => ⟨S4x8x2048x1, .f32⟩
  | .hbm, ⟨45, _⟩ => ⟨S8x4x2048x1, .f32⟩
  | .hbm, ⟨46, _⟩ => ⟨S8x8192x1, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S8192x2048, .bf16⟩
  | .hbm, ⟨56, _⟩ => ⟨S8192x2048, .bf16⟩
  | .hbm, ⟨57, _⟩ => ⟨S8192x1024, .bf16⟩
  | .hbm, ⟨58, _⟩ => ⟨S8192x1024, .bf16⟩
  | .hbm, ⟨59, _⟩ => ⟨S8192x2048, .bf16⟩
  | .hbm, ⟨60, _⟩ => ⟨S8192x2048, .bf16⟩
  | .hbm, ⟨61, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x2048x1, .f32⟩
  | .local _ .vmem, ⟨11, _⟩ => ⟨S1x2048x1, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x128, .bf16⟩
  | .local _ .vmem, ⟨17, _⟩ => ⟨S2048x128, .bf16⟩
  | .local _ .vmem, ⟨18, _⟩ => ⟨S2048x1, .f32⟩
  | .local _ .vmem, ⟨19, _⟩ => ⟨S2048x128, .bf16⟩
  | .local _ .vmem, ⟨20, _⟩ => ⟨S2048x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45_0 : Ref sig .tc := ⟨.hbm, 59, rfl⟩
abbrev main_v45_1 : Ref sig .tc := ⟨.hbm, 60, rfl⟩
abbrev main_v45_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8192x2048 : Shape := ⟨2, ![8192, 2048]⟩
abbrev S8192x1024 : Shape := ⟨2, ![8192, 1024]⟩
abbrev S4x2048x8x256 : Shape := ⟨4, ![4, 2048, 8, 256]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x8x2048x256 : Shape := ⟨4, ![4, 8, 2048, 256]⟩

abbrev nBuf : Space → Nat
  | .hbm => 101
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S4x2048x8x256, .f32⟩
  | .hbm, ⟨5, _⟩ => ⟨S4x2048x8x256, .f32⟩
  | .hbm, ⟨6, _⟩ => ⟨S4x2048x8x128, .f32⟩
  | .hbm, ⟨7, _⟩ => ⟨S4x8x2048x2048, .f32⟩
  | .hbm, ⟨8, _⟩ => ⟨S_, .f32⟩
  | .hbm, ⟨9, _⟩ => ⟨S4x8x2048x2048, .f32⟩
  | .hbm, ⟨10, _⟩ => ⟨S4x8x2048x2048, .f32⟩
  | .hbm, ⟨11, _⟩ => ⟨S2048, .i32⟩
  | .hbm, ⟨12, _⟩ => ⟨S2048x1, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S1x1x2048x2048, .i1⟩
  | .hbm, ⟨18, _⟩ => ⟨S_, .f32⟩
  | .hbm, ⟨19, _⟩ => ⟨S_, .f32⟩
  | .hbm, ⟨20, _⟩ => ⟨S4x8x2048x2048, .i1⟩
  | .hbm, ⟨21, _⟩ => ⟨S4x8x2048x2048, .f32⟩
  | .hbm, ⟨22, _⟩ => ⟨S4x8x2048x2048, .f32⟩
  | .hbm, ⟨23, _⟩ => ⟨S_, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S4x8x2048x1, .f32⟩
  | .hbm, ⟨28, _⟩ => ⟨S4x8x2048x2048, .f32⟩
  | .hbm, ⟨29, _⟩ => ⟨S4x8x2048x2048, .i1⟩
  | .hbm, ⟨30, _⟩ => ⟨S4x8x2048x2048, .f32⟩
  | .hbm, ⟨31, _⟩ => ⟨S_, .f32⟩
  | .hbm, ⟨32, _⟩ => ⟨S4x8x2048, .f32⟩
  | .hbm, ⟨33, _⟩ => ⟨S_, .f32⟩
  | .hbm, ⟨34, _⟩ => ⟨S4x8x2048, .f32⟩
  | .hbm, ⟨35, _⟩ => ⟨S4x8x2048, .f32⟩
  | .hbm, ⟨36, _⟩ => ⟨S_, .f32⟩
  | .hbm, ⟨37, _⟩ => ⟨S4x8x2048, .f32⟩
  | .hbm, ⟨38, _⟩ => ⟨S4x8x2048, .i1⟩
  | .hbm, ⟨39, _⟩ => ⟨S_, .f32⟩
  | .hbm, ⟨40, _⟩ => ⟨S4x8x2048, .f32⟩
  | .hbm, ⟨41, _⟩ => ⟨S4x8x2048, .i1⟩
  | .hbm, ⟨42, _⟩ => ⟨S_, .f32⟩
  | .hbm, ⟨43, _⟩ => ⟨S4x8x2048, .f32⟩
  | .hbm, ⟨44, _⟩ => ⟨S_, .f32⟩
  | .hbm, ⟨45, _⟩ => ⟨S4x8x2048, .f32⟩
  | .hbm, ⟨46, _⟩ => ⟨S_, .f32⟩
  | .hbm, ⟨47, _⟩ => ⟨S4x8x2048, .f32⟩
  | .hbm, ⟨48, _⟩ => ⟨S4x8x2048, .f32⟩
  | .hbm, ⟨49, _⟩ => ⟨S4x8x2048, .f32⟩
  | .hbm, ⟨50, _⟩ => ⟨S4x8x2048x1, .f32⟩
  | .hbm, ⟨51, _⟩ => ⟨S4x8x2048x2048, .f32⟩
  | .hbm, ⟨52, _⟩ => ⟨S4x8x2048x2048, .f32⟩
  | .hbm, ⟨53, _⟩ => ⟨S4x8x2048x2048, .f32⟩
  | .hbm, ⟨54, _⟩ => ⟨S_, .f32⟩
  | .hbm, ⟨55, _⟩ => ⟨S4x8x2048, .f32⟩
  | .hbm, ⟨56, _⟩ => ⟨S4x8x2048x1, .f32⟩
  | .hbm, ⟨57, _⟩ => ⟨S4x8x2048x2048, .f32⟩
  | .hbm, ⟨58, _⟩ => ⟨S4x8x2048x2048, .f32⟩
  | .hbm, ⟨59, _⟩ => ⟨S4x8x2048x1, .f32⟩
  | .hbm, ⟨60, _⟩ => ⟨S_, .f32⟩
  | .hbm, ⟨61, _⟩ => ⟨S4x8x2048x1, .f32⟩
  | .hbm, ⟨62, _⟩ => ⟨S4x8x2048x1, .f32⟩
  | .hbm, ⟨63, _⟩ => ⟨S4x8x128x2048, .f32⟩
  | .hbm, ⟨64, _⟩ => ⟨S4x2048x8x128, .f32⟩
  | .hbm, ⟨65, _⟩ => ⟨S8192x1024, .f32⟩
  | .hbm, ⟨66, _⟩ => ⟨S4x2048x8x128, .f32⟩
  | .hbm, ⟨67, _⟩ => ⟨S4x8x128x2048, .f32⟩
  | .hbm, ⟨68, _⟩ => ⟨S4x8x2048x2048, .f32⟩
  | .hbm, ⟨69, _⟩ => ⟨S4x8x128x2048, .f32⟩
  | .hbm, ⟨70, _⟩ => ⟨S4x2048x8x128, .f32⟩
  | .hbm, ⟨71, _⟩ => ⟨S4x8x2048x2048, .f32⟩
  | .hbm, ⟨72, _⟩ => ⟨S4x8x2048x2048, .f32⟩
  | .hbm, ⟨73, _⟩ => ⟨S4x8x2048x2048, .f32⟩
  | .hbm, ⟨74, _⟩ => ⟨S_, .f32⟩
  | .hbm, ⟨75, _⟩ => ⟨S4x8x2048, .f32⟩
  | .hbm, ⟨76, _⟩ => ⟨S4x8x2048x1, .f32⟩
  | .hbm, ⟨77, _⟩ => ⟨S4x8x2048x1, .f32⟩
  | .hbm, ⟨78, _⟩ => ⟨S4x8x2048x2048, .f32⟩
  | .hbm, ⟨79, _⟩ => ⟨S4x8x2048x2048, .f32⟩
  | .hbm, ⟨80, _⟩ => ⟨S_, .f32⟩
  | .hbm, ⟨81, _⟩ => ⟨S4x8x2048, .f32⟩
  | .hbm, ⟨82, _⟩ => ⟨S4x8x2048x2048, .f32⟩
  | .hbm, ⟨83, _⟩ => ⟨S4x8x2048x2048, .f32⟩
  | .hbm, ⟨84, _⟩ => ⟨S4x8x2048x2048, .f32⟩
  | .hbm, ⟨85, _⟩ => ⟨S_, .f32⟩
  | .hbm, ⟨86, _⟩ => ⟨S4x8x2048x2048, .f32⟩
  | .hbm, ⟨87, _⟩ => ⟨S4x8x2048x2048, .f32⟩
  | .hbm, ⟨88, _⟩ => ⟨S_, .f32⟩
  | .hbm, ⟨89, _⟩ => ⟨S4x8x2048x2048, .f32⟩
  | .hbm, ⟨90, _⟩ => ⟨S4x8x2048x2048, .f32⟩
  | .hbm, ⟨91, _⟩ => ⟨S4x8x2048x256, .f32⟩
  | .hbm, ⟨92, _⟩ => ⟨S4x2048x8x256, .f32⟩
  | .hbm, ⟨93, _⟩ => ⟨S4x8x2048x256, .f32⟩
  | .hbm, ⟨94, _⟩ => ⟨S4x2048x8x256, .f32⟩
  | .hbm, ⟨95, _⟩ => ⟨S8192x1024, .f32⟩
  | .hbm, ⟨96, _⟩ => ⟨S8192x2048, .f32⟩
  | .hbm, ⟨97, _⟩ => ⟨S8192x2048, .f32⟩
  | .hbm, ⟨98, _⟩ => ⟨S8192x2048, .bf16⟩
  | .hbm, ⟨99, _⟩ => ⟨S8192x2048, .bf16⟩
  | .hbm, ⟨100, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Kernel2.lean ====
abbrev S8192x4096 : Shape := ⟨2, ![8192, 4096]⟩
abbrev S4096x1024 : Shape := ⟨2, ![4096, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .bf16⟩
  | .hbm, ⟨4, _⟩ => ⟨S4096x1024, .bf16⟩
  | .hbm, ⟨5, _⟩ => ⟨S8192x4096, .bf16⟩
  | .hbm, ⟨6, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S8192x4096 : Shape := ⟨2, ![8192, 4096]⟩
abbrev S4096x1024 : Shape := ⟨2, ![4096, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x4096, .bf16⟩
  | .hbm, ⟨4, _⟩ => ⟨S8192x1024, .bf16⟩
  | .hbm, ⟨5, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S8192x1024 : Shape := ⟨2, ![8192, 1024]⟩
abbrev S1024x4096 : Shape := ⟨2, ![1024, 4096]⟩
abbrev S8192x4096 : Shape := ⟨2, ![8192, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x1024, .bf16⟩
  | .hbm, ⟨4, _⟩ => ⟨S8192x4096, .bf16⟩
  | .hbm, ⟨5, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8192x1024 : Shape := ⟨2, ![8192, 1024]⟩
abbrev S1024x5376 : Shape := ⟨2, ![1024, 5376]⟩
abbrev S8192x5376 : Shape := ⟨2, ![8192, 5376]⟩
abbrev S2048x1024 : Shape := ⟨2, ![2048, 1024]⟩
abbrev S1024x1792 : Shape := ⟨2, ![1024, 1792]⟩
abbrev S2048x1792 : Shape := ⟨2, ![2048, 1792]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x1024, .bf16⟩
  | .hbm, ⟨3, _⟩ => ⟨S1024x5376, .bf16⟩
  | .hbm, ⟨4, _⟩ => ⟨S8192x5376, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1792, .bf16⟩
  | .local _ .vmem, ⟨3, _⟩ => ⟨S1024x1792, .bf16⟩
  | .local _ .vmem, ⟨4, _⟩ => ⟨S2048x1792, .bf16⟩
  | .local _ .vmem, ⟨5, _⟩ => ⟨S2048x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x5376 : Shape := ⟨2, ![1024, 5376]⟩
abbrev S8192x5376 : Shape := ⟨2, ![8192, 5376]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x5376, .f32⟩
  | .hbm, ⟨3, _⟩ => ⟨S8192x5376, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S8192x1024 : Shape := ⟨2, ![8192, 1024]⟩
abbrev S1024x5376 : Shape := ⟨2, ![1024, 5376]⟩
abbrev S8192x5376 : Shape := ⟨2, ![8192, 5376]⟩
abbrev S512x5376 : Shape := ⟨2, ![512, 5376]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x5376, .f32⟩
  | .hbm, ⟨3, _⟩ => ⟨S8192x5376, .bf16⟩
  | .hbm, ⟨4, _⟩ => ⟨S1024x5376, .bf16⟩
  | .hbm, ⟨5, _⟩ => ⟨S8192x1024, .bf16⟩
  | .local _ .vmem, ⟨0, _⟩ => ⟨S1024x5376, .bf16⟩
  | .local _ .vmem, ⟨1, _⟩ => ⟨S1024x5376, .bf16⟩
  | .local _ .vmem, ⟨2, _⟩ => ⟨S512x5376, .bf16⟩
  | .local _ .vmem, ⟨3, _⟩ => ⟨S512x5376, .bf16⟩
  | .local _ .vmem, ⟨4, _⟩ => ⟨S1024x512, .bf16⟩
  | .local _ .vmem, ⟨5, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x5376 : Shape := ⟨2, ![1024, 5376]⟩
abbrev S8192x5376 : Shape := ⟨2, ![8192, 5376]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x5376, .f32⟩
  | .hbm, ⟨3, _⟩ => ⟨S8192x5376, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8192x1024 : Shape := ⟨2, ![8192, 1024]⟩
abbrev S1024x5376 : Shape := ⟨2, ![1024, 5376]⟩
abbrev S8192x5376 : Shape := ⟨2, ![8192, 5376]⟩
abbrev S512x5376 : Shape := ⟨2, ![512, 5376]⟩
abbrev S2048x512 : Shape := ⟨2, ![2048, 512]⟩
abbrev S2048x1792 : Shape := ⟨2, ![2048, 1792]⟩
abbrev S512x1792 : Shape := ⟨2, ![512, 1792]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x5376, .f32⟩
  | .hbm, ⟨3, _⟩ => ⟨S8192x1024, .bf16⟩
  | .hbm, ⟨4, _⟩ => ⟨S8192x5376, .bf16⟩
  | .hbm, ⟨5, _⟩ => ⟨S512x5376, .bf16⟩
  | .local _ .vmem, ⟨0, _⟩ => ⟨S2048x512, .bf16⟩
  | .local _ .vmem, ⟨1, _⟩ => ⟨S2048x512, .bf16⟩
  | .local _ .vmem, ⟨2, _⟩ => ⟨S2048x1792, .bf16⟩
  | .local _ .vmem, ⟨3, _⟩ => ⟨S2048x1792, .bf16⟩
  | .local _ .vmem, ⟨4, _⟩ => ⟨S512x1792, .bf16⟩
  | .local _ .vmem, ⟨5, _⟩ => ⟨S512x1792, .bf16⟩
  | .local _ .vmem, ⟨6, _⟩ => ⟨S512x1792, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x5376 : Shape := ⟨2, ![1024, 5376]⟩
abbrev S8192x5376 : Shape := ⟨2, ![8192, 5376]⟩
abbrev S5376x1024 : Shape := ⟨2, ![5376, 1024]⟩
abbrev S512x5376 : Shape := ⟨2, ![512, 5376]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x5376, .f32⟩
  | .hbm, ⟨3, _⟩ => ⟨S8192x5376, .f32⟩
  | .hbm, ⟨4, _⟩ => ⟨S5376x1024, .f32⟩
  | .hbm, ⟨5, _⟩ => ⟨S1024x5376, .f32⟩
  | .hbm, ⟨6, _⟩ => ⟨S512x5376, .f32⟩
  | .hbm, ⟨7, _⟩ => ⟨S512x5376, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x5376 : Shape := ⟨2, ![1024, 5376]⟩
abbrev S8192x5376 : Shape := ⟨2, ![8192, 5376]⟩
abbrev S512x5376 : Shape := ⟨2, ![512, 5376]⟩
abbrev S2048x512 : Shape := ⟨2, ![2048, 512]⟩
abbrev S2048x1792 : Shape := ⟨2, ![2048, 1792]⟩
abbrev S512x1792 : Shape := ⟨2, ![512, 1792]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x5376, .f32⟩
  | .hbm, ⟨3, _⟩ => ⟨S8192x1024, .bf16⟩
  | .hbm, ⟨4, _⟩ => ⟨S8192x5376, .bf16⟩
  | .hbm, ⟨5, _⟩ => ⟨S512x5376, .bf16⟩
  | .local _ .vmem, ⟨0, _⟩ => ⟨S2048x512, .bf16⟩
  | .local _ .vmem, ⟨1, _⟩ => ⟨S2048x512, .bf16⟩
  | .local _ .vmem, ⟨2, _⟩ => ⟨S2048x1792, .bf16⟩
  | .local _ .vmem, ⟨3, _⟩ => ⟨S2048x1792, .bf16⟩
  | .local _ .vmem, ⟨4, _⟩ => ⟨S512x1792, .bf16⟩
  | .local _ .vmem, ⟨5, _⟩ => ⟨S512x1792, .bf16⟩
  | .local _ .vmem, ⟨6, _⟩ => ⟨S512x1792, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x5376 : Shape := ⟨2, ![1024, 5376]⟩
abbrev S8192x5376 : Shape := ⟨2, ![8192, 5376]⟩
abbrev S5376x1024 : Shape := ⟨2, ![5376, 1024]⟩
abbrev S512x5376 : Shape := ⟨2, ![512, 5376]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S8192x5376, .f32⟩
  | .hbm, ⟨3, _⟩ => ⟨S8192x5376, .f32⟩
  | .hbm, ⟨4, _⟩ => ⟨S5376x1024, .f32⟩
  | .hbm, ⟨5, _⟩ => ⟨S1024x5376, .f32⟩
  | .hbm, ⟨6, _⟩ => ⟨S512x5376, .f32⟩
  | .hbm, ⟨7, _⟩ => ⟨S512x5376, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x384 : Shape := ⟨2, ![8192, 384]⟩
abbrev S384x2048 : Shape := ⟨2, ![384, 2048]⟩
abbrev S8192x2048 : Shape := ⟨2, ![8192, 2048]⟩
abbrev S2048x384 : Shape := ⟨2, ![2048, 384]⟩
abbrev S384x1024 : Shape := ⟨2, ![384, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x2048, .f32⟩
  | .hbm, ⟨2, _⟩ => ⟨S8192x384, .bf16⟩
  | .hbm, ⟨3, _⟩ => ⟨S384x2048, .bf16⟩
  | .hbm, ⟨4, _⟩ => ⟨S8192x2048, .bf16⟩
  | .local _ .vmem, ⟨0, _⟩ => ⟨S2048x384, .bf16⟩
  | .local _ .vmem, ⟨1, _⟩ => ⟨S2048x384, .bf16⟩
  | .local _ .vmem, ⟨2, _⟩ => ⟨S384x1024, .bf16⟩
  | .local _ .vmem, ⟨3, _⟩ => ⟨S384x1024, .bf16⟩
  | .local _ .vmem, ⟨4, _⟩ => ⟨S2048x1024, .bf16⟩
  | .local _ .vmem, ⟨5, _⟩ => ⟨S2048x1024, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x384 : Shape := ⟨2, ![8192, 384]⟩
abbrev S384x2048 : Shape := ⟨2, ![384, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x2048, .f32⟩
  | .hbm, ⟨2, _⟩ => ⟨S8192x2048, .f32⟩
  | .hbm, ⟨3, _⟩ => ⟨S8192x2048, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S8192x256 : Shape := ⟨2, ![8192, 256]⟩
abbrev S256x2048 : Shape := ⟨2, ![256, 2048]⟩
abbrev S8192x2048 : Shape := ⟨2, ![8192, 2048]⟩
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x256, .bf16⟩
  | .hbm, ⟨3, _⟩ => ⟨S256x2048, .bf16⟩
  | .hbm, ⟨4, _⟩ => ⟨S8192x2048, .bf16⟩
  | .local _ .vmem, ⟨0, _⟩ => ⟨S2048x256, .bf16⟩
  | .local _ .vmem, ⟨1, _⟩ => ⟨S2048x256, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S2048x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S8192x384 : Shape := ⟨2, ![8192, 384]⟩
abbrev S384x2048 : Shape := ⟨2, ![384, 2048]⟩
abbrev S8192x2048 : Shape := ⟨2, ![8192, 2048]⟩
abbrev S2048x384 : Shape := ⟨2, ![2048, 384]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8192x384, .f32⟩
  | .hbm, ⟨1, _⟩ => ⟨S384x2048, .f32⟩
  | .hbm, ⟨2, _⟩ => ⟨S8192x2048, .f32⟩
  | .hbm, ⟨3, _⟩ => ⟨S8192x384, .bf16⟩
  | .hbm, ⟨4, _⟩ => ⟨S8192x2048, .bf16⟩
  | .hbm, ⟨5, _⟩ => ⟨S384x2048, .bf16⟩
  | .local _ .vmem, ⟨0, _⟩ => ⟨S2048x384, .bf16⟩
  | .local _ .vmem, ⟨1, _⟩ => ⟨S2048x384, .bf16⟩
  | .local _ .vmem, ⟨2, _⟩ => ⟨S2048x2048, .bf16⟩
  | .local _ .vmem, ⟨3, _⟩ => ⟨S2048x2048, .bf16⟩
  | .local _ .vmem, ⟨4, _⟩ => ⟨S384x2048, .bf16⟩
  | .local _ .vmem, ⟨5, _⟩ => ⟨S384x2048, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x384 : Shape := ⟨2, ![8192, 384]⟩
abbrev S384x2048 : Shape := ⟨2, ![384, 2048]⟩
abbrev S8192x2048 : Shape := ⟨2, ![8192, 2048]⟩
abbrev S2048x384 : Shape := ⟨2, ![2048, 384]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x2048, .f32⟩
  | .hbm, ⟨2, _⟩ => ⟨S8192x2048, .f32⟩
  | .hbm, ⟨3, _⟩ => ⟨S8192x2048, .f32⟩
  | .hbm, ⟨4, _⟩ => ⟨S2048x384, .f32⟩
  | .hbm, ⟨5, _⟩ => ⟨S384x2048, .f32⟩
  | .hbm, ⟨6, _⟩ => ⟨S384x2048, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8192x384 : Shape := ⟨2, ![8192, 384]⟩
abbrev S384x2048 : Shape := ⟨2, ![384, 2048]⟩
abbrev S8192x2048 : Shape := ⟨2, ![8192, 2048]⟩
abbrev S1024x2048 : Shape := ⟨2, ![1024, 2048]⟩
abbrev S1024x384 : Shape := ⟨2, ![1024, 384]⟩

abbrev nBuf : Space → Nat
  | .hbm => 6
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x2048, .f32⟩
  | .hbm, ⟨2, _⟩ => ⟨S8192x2048, .f32⟩
  | .hbm, ⟨3, _⟩ => ⟨S8192x2048, .bf16⟩
  | .hbm, ⟨4, _⟩ => ⟨S384x2048, .bf16⟩
  | .hbm, ⟨5, _⟩ => ⟨S8192x384, .bf16⟩
  | .local _ .vmem, ⟨0, _⟩ => ⟨S1024x2048, .bf16⟩
  | .local _ .vmem, ⟨1, _⟩ => ⟨S1024x2048, .bf16⟩
  | .local _ .vmem, ⟨2, _⟩ => ⟨S384x2048, .bf16⟩
  | .local _ .vmem, ⟨3, _⟩ => ⟨S1024x384, .bf16⟩
  | .local _ .vmem, ⟨4, _⟩ => ⟨S1024x384, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x384 : Shape := ⟨2, ![8192, 384]⟩
abbrev S384x2048 : Shape := ⟨2, ![384, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x2048, .f32⟩
  | .hbm, ⟨2, _⟩ => ⟨S8192x2048, .f32⟩
  | .hbm, ⟨3, _⟩ => ⟨S8192x2048, .f32⟩
  | .hbm, ⟨4, _⟩ => ⟨S8192x384, .f32⟩
  | .hbm, ⟨5, _⟩ => ⟨S8192x384, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S8192x256 : Shape := ⟨2, ![8192, 256]⟩
abbrev S256x2048 : Shape := ⟨2, ![256, 2048]⟩
abbrev S8192x2048 : Shape := ⟨2, ![8192, 2048]⟩
abbrev S2048x256 : Shape := ⟨2, ![2048, 256]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x256, .bf16⟩
  | .hbm, ⟨4, _⟩ => ⟨S8192x2048, .bf16⟩
  | .hbm, ⟨5, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S256x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x256 : Shape := ⟨2, ![8192, 256]⟩
abbrev S256x2048 : Shape := ⟨2, ![256, 2048]⟩
abbrev S8192x2048 : Shape := ⟨2, ![8192, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .f32⟩
  | .hbm, ⟨4, _⟩ => ⟨S2048x256, .f32⟩
  | .hbm, ⟨5, _⟩ => ⟨S256x2048, .f32⟩
  | .hbm, ⟨6, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S8192x256 : Shape := ⟨2, ![8192, 256]⟩
abbrev S256x2048 : Shape := ⟨2, ![256, 2048]⟩
abbrev S8192x2048 : Shape := ⟨2, ![8192, 2048]⟩
abbrev S1024x2048 : Shape := ⟨2, ![1024, 2048]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .bf16⟩
  | .hbm, ⟨4, _⟩ => ⟨S256x2048, .bf16⟩
  | .hbm, ⟨5, _⟩ => ⟨S8192x256, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .bf16⟩
  | .local _ .vmem, ⟨4, _⟩ => ⟨S1024x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .f32⟩
  | .hbm, ⟨4, _⟩ => ⟨S8192x256, .f32⟩
  | .hbm, ⟨5, _⟩ => ⟨S8192x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x512, .bf16⟩
  | .hbm, ⟨3, _⟩ => ⟨S512x1024, .bf16⟩
  | .hbm, ⟨4, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S8192x512 : Shape := ⟨2, ![8192, 512]⟩
abbrev S512x1024 : Shape := ⟨2, ![512, 1024]⟩
abbrev S8192x1024 : Shape := ⟨2, ![8192, 1024]⟩
abbrev S2048x1024 : Shape := ⟨2, ![2048, 1024]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | .hbm, ⟨5, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x512, .bf16⟩
  | .hbm, ⟨3, _⟩ => ⟨S512x1024, .bf16⟩
  | .hbm, ⟨4, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S8192x512 : Shape := ⟨2, ![8192, 512]⟩
abbrev S512x1024 : Shape := ⟨2, ![512, 1024]⟩
abbrev S8192x1024 : Shape := ⟨2, ![8192, 1024]⟩
abbrev S2048x1024 : Shape := ⟨2, ![2048, 1024]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | .hbm, ⟨5, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel26.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .bf16⟩
  | .hbm, ⟨3, _⟩ => ⟨S1024x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S1024x1024 : Shape := ⟨2, ![1024, 1024]⟩

abbrev nBuf : Space → Nat
  | .hbm => 6
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference28Ideal.lean ====
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel29.lean ====
abbrev S1024x1024 : Shape := ⟨2, ![1024, 1024]⟩

abbrev nBuf : Space → Nat
  | .hbm => 6
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference29Ideal.lean ====
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel30.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .bf16⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference30Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel31.lean ====
abbrev S8192x4096 : Shape := ⟨2, ![8192, 4096]⟩
abbrev S4096x1024 : Shape := ⟨2, ![4096, 1024]⟩
abbrev S8192x1024 : Shape := ⟨2, ![8192, 1024]⟩
abbrev S1x128 : Shape := ⟨2, ![1, 128]⟩
abbrev S512x4096 : Shape := ⟨2, ![512, 4096]⟩
abbrev S512x1024 : Shape := ⟨2, ![512, 1024]⟩
abbrev S512x128 : Shape := ⟨2, ![512, 128]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S8192x4096, .bf16⟩
  | .hbm, ⟨5, _⟩ => ⟨S4096x1024, .bf16⟩
  | .hbm, ⟨6, _⟩ => ⟨S8192x1024, .f32⟩
  | .hbm, ⟨7, _⟩ => ⟨S8192x1024, .bf16⟩
  | .hbm, ⟨8, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let arg1 : BitVec 32 := BitVec.ofNat 32 (i 1).val
  let c0_i32_11 : BitVec 32 := 0#32
  let v33 : BitVec 1 := Scalar.cmpi .eq arg1 c0_i32_11
  let v34 : BitVec 1 := Scalar.andi v32 v33
  let v37 : BitVec 32 := Scalar.extui v34
  let c0_i32_13 : BitVec 32 := 0#32
  let v38 : BitVec 1 := Scalar.cmpi .ne v37 c0_i32_13
  v38

def k0_cond2 (i : grid0.Coords) : BitVec 1 :=
  let arg0 : BitVec 32 := BitVec.ofNat 32 (i 0).val
  let c0_i32 : BitVec 32 := 0#32
  let v32 : BitVec 1 := Scalar.cmpi .eq arg0 c0_i32
  let arg1 : BitVec 32 := BitVec.ofNat 32 (i 1).val
  let c0_i32_11 : BitVec 32 := 0#32
  let v33 : BitVec 1 := Scalar.cmpi .eq arg1 c0_i32_11
  let v34 : BitVec 1 := Scalar.andi v32 v33
  let v_true : BitVec 1 := 1#1
  let v39 : BitVec 1 := Scalar.xori v34 v_true
  let v40 : BitVec 32 := Scalar.extui v39
  let c0_i32_14 : BitVec 32 := 0#32
  let v41 : BitVec 1 := Scalar.cmpi .ne v40 c0_i32_14
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference31Ideal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S8192 : Shape := ⟨1, ![8192]⟩
abbrev S65536x128 : Shape := ⟨2, ![65536, 128]⟩
abbrev S128 : Shape := ⟨1, ![128]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .f32⟩
  | .hbm, ⟨35, _⟩ => ⟨S8192x1024, .f32⟩
  | .hbm, ⟨36, _⟩ => ⟨S65536x128, .f32⟩
  | .hbm, ⟨37, _⟩ => ⟨S_, .f32⟩
  | .hbm, ⟨38, _⟩ => ⟨S128, .f32⟩
  | .hbm, ⟨39, _⟩ => ⟨S1x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel32.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let arg1 : BitVec 32 := BitVec.ofNat 32 (i 1).val
  let c0_i32_18 : BitVec 32 := 0#32
  let v39 : BitVec 1 := Scalar.cmpi .eq arg1 c0_i32_18
  let v40 : BitVec 1 := Scalar.andi v38 v39
  let v43 : BitVec 32 := Scalar.extui v40
  let c0_i32_20 : BitVec 32 := 0#32
  let v44 : BitVec 1 := Scalar.cmpi .ne v43 c0_i32_20
  v44

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let arg1 : BitVec 32 := BitVec.ofNat 32 (i 1).val
  let c0_i32_18 : BitVec 32 := 0#32
  let v39 : BitVec 1 := Scalar.cmpi .eq arg1 c0_i32_18
  let v40 : BitVec 1 := Scalar.andi v38 v39
  let v_true : BitVec 1 := 1#1
  let v45 : BitVec 1 := Scalar.xori v40 v_true
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference32Ideal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel33.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v35 : BitVec 32 := Scalar.extui v32
  let c0_i32_14 : BitVec 32 := 0#32
  let v36 : BitVec 1 := Scalar.cmpi .ne v35 c0_i32_14
  v36

def k0_cond2 (i : grid0.Coords) : BitVec 1 :=
  let arg0 : BitVec 32 := BitVec.ofNat 32 (i 0).val
  let c0_i32 : BitVec 32 := 0#32
  let v32 : BitVec 1 := Scalar.cmpi .eq arg0 c0_i32
  let v_true : BitVec 1 := 1#1
  let v37 : BitVec 1 := Scalar.xori v32 v_true
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference33Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel34.lean ====
abbrev S8192x2048 : Shape := ⟨2, ![8192, 2048]⟩
abbrev S8192x1024 : Shape := ⟨2, ![8192, 1024]⟩
abbrev S_ : Shape := ⟨0, ![]⟩
abbrev S8x8192x1 : Shape := ⟨3, ![8, 8192, 1]⟩
abbrev S2048x256 : Shape := ⟨2, ![2048, 256]⟩
abbrev S2048x128 : Shape := ⟨2, ![2048, 128]⟩
abbrev S1x2048x1 : Shape := ⟨3, ![1, 2048, 1]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S1x256x1 : Shape := ⟨3, ![1, 256, 1]⟩
abbrev S512x256 : Shape := ⟨2, ![512, 256]⟩
abbrev S256x512 : Shape := ⟨2, ![256, 512]⟩
abbrev S512x128 : Shape := ⟨2, ![512, 128]⟩
abbrev S768x256 : Shape := ⟨2, ![768, 256]⟩
abbrev S256x768 : Shape := ⟨2, ![256, 768]⟩
abbrev S768x128 : Shape := ⟨2, ![768, 128]⟩
abbrev S1024x256 : Shape := ⟨2, ![1024, 256]⟩
abbrev S256x1024 : Shape := ⟨2, ![256, 1024]⟩
abbrev S1024x128 : Shape := ⟨2, ![1024, 128]⟩
abbrev S1280x256 : Shape := ⟨2, ![1280, 256]⟩
abbrev S256x1280 : Shape := ⟨2, ![256, 1280]⟩
abbrev S1280x128 : Shape := ⟨2, ![1280, 128]⟩
abbrev S1536x256 : Shape := ⟨2, ![1536, 256]⟩
abbrev S256x1536 : Shape := ⟨2, ![256, 1536]⟩
abbrev S1536x128 : Shape := ⟨2, ![1536, 128]⟩
abbrev S1792x256 : Shape := ⟨2, ![1792, 256]⟩
abbrev S256x1792 : Shape := ⟨2, ![256, 1792]⟩
abbrev S1792x128 : Shape := ⟨2, ![1792, 128]⟩

abbrev nBuf : Space → Nat
  | .hbm => 16
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .bf16⟩
  | .hbm, ⟨12, _⟩ => ⟨S8192x2048, .bf16⟩
  | .hbm, ⟨13, _⟩ => ⟨S8192x1024, .bf16⟩
  | .hbm, ⟨14, _⟩ => ⟨S8192x1024, .bf16⟩
  | .hbm, ⟨15, _⟩ => ⟨S8x8192x1, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel34Ideal.lean ====
variable {F : FTy → Type} [FloatOps F] [Named F]
def κ : String → Option EReal := fun
  | "inv_ln2" => some (((Real.log 2)⁻¹ : ℝ) : EReal)
  | "mask" => some ⊥
  | _ => none
-- ==== Reference34Ideal.lean ====
abbrev S8192x2048 : Shape := ⟨2, ![8192, 2048]⟩
abbrev S8192x1024 : Shape := ⟨2, ![8192, 1024]⟩
abbrev S4x2048x8x256 : Shape := ⟨4, ![4, 2048, 8, 256]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S8x4x2048x1 : Shape := ⟨4, ![8, 4, 2048, 1]⟩
abbrev S8x8192x1 : Shape := ⟨3, ![8, 8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S4x2048x8x256, .f32⟩
  | .hbm, ⟨4, _⟩ => ⟨S4x2048x8x256, .f32⟩
  | .hbm, ⟨5, _⟩ => ⟨S4x2048x8x128, .f32⟩
  | .hbm, ⟨6, _⟩ => ⟨S4x8x2048x2048, .f32⟩
  | .hbm, ⟨7, _⟩ => ⟨S_, .f32⟩
  | .hbm, ⟨8, _⟩ => ⟨S4x8x2048x2048, .f32⟩
  | .hbm, ⟨9, _⟩ => ⟨S4x8x2048x2048, .f32⟩
  | .hbm, ⟨10, _⟩ => ⟨S2048, .i32⟩
  | .hbm, ⟨11, _⟩ => ⟨S2048x1, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S1x1x2048x2048, .i1⟩
  | .hbm, ⟨17, _⟩ => ⟨S_, .f32⟩
  | .hbm, ⟨18, _⟩ => ⟨S_, .f32⟩
  | .hbm, ⟨19, _⟩ => ⟨S4x8x2048x2048, .i1⟩
  | .hbm, ⟨20, _⟩ => ⟨S4x8x2048x2048, .f32⟩
  | .hbm, ⟨21, _⟩ => ⟨S4x8x2048x2048, .f32⟩
  | .hbm, ⟨22, _⟩ => ⟨S_, .f32⟩
  | .hbm, ⟨23, _⟩ => ⟨S4x8x2048, .f32⟩
  | .hbm, ⟨24, _⟩ => ⟨S4x8x2048x1, .f32⟩
  | .hbm, ⟨25, _⟩ => ⟨S4x8x2048x2048, .f32⟩
  | .hbm, ⟨26, _⟩ => ⟨S4x8x2048x2048, .f32⟩
  | .hbm, ⟨27, _⟩ => ⟨S4x8x2048x2048, .f32⟩
  | .hbm, ⟨28, _⟩ => ⟨S_, .f32⟩
  | .hbm, ⟨29, _⟩ => ⟨S4x8x2048, .f32⟩
  | .hbm, ⟨30, _⟩ => ⟨S4x8x2048x1, .f32⟩
  | .hbm, ⟨31, _⟩ => ⟨S4x8x2048x2048, .f32⟩
  | .hbm, ⟨32, _⟩ => ⟨S4x8x2048x2048, .f32⟩
  | .hbm, ⟨33, _⟩ => ⟨S4x8x128x2048, .f32⟩
  | .hbm, ⟨34, _⟩ => ⟨S4x2048x8x128, .f32⟩
  | .hbm, ⟨35, _⟩ => ⟨S8192x1024, .f32⟩
  | .hbm, ⟨36, _⟩ => ⟨S8192x1024, .bf16⟩
  | .hbm, ⟨37, _⟩ => ⟨S4x8x2048x1, .f32⟩
  | .hbm, ⟨38, _⟩ => ⟨S4x8x2048x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x8x2048x1, .f32⟩
  | .hbm, ⟨43, _⟩ => ⟨S4x8x2048x1, .f32⟩
  | .hbm, ⟨44, _⟩ => ⟨S8x4x2048x1, .f32⟩
  | .hbm, ⟨45, _⟩ => ⟨S8x8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel35.lean ====
abbrev S8x512x664 : Shape := ⟨3, ![8, 512, 664]⟩
abbrev S1024x664 : Shape := ⟨2, ![1024, 664]⟩
abbrev S8x256x664 : Shape := ⟨3, ![8, 256, 664]⟩
abbrev S256x664 : Shape := ⟨2, ![256, 664]⟩
abbrev S1x256x664 : Shape := ⟨3, ![1, 256, 664]⟩

abbrev nBuf : Space → Nat
  | .hbm => 9
  | .vmem => 18
  | .smem => 0
  | _ => 0

abbrev bufTy : (tb : Table) → Fin (tcTables nBuf tb) → BufTy
  | .hbm, ⟨0, _⟩ => ⟨S8x512x664, .bf16⟩
  | .hbm, ⟨1, _⟩ => ⟨S8x512x664, .bf16⟩
  | .hbm, ⟨2, _⟩ => ⟨S1024x664, .f32⟩
  | .hbm, ⟨3, _⟩ => ⟨S1024x664, .f32⟩
  | .hbm, ⟨4, _⟩ => ⟨S1024x664, .f32⟩
  | .hbm, ⟨5, _⟩ => ⟨S1024x664, .f32⟩
  | .hbm, ⟨6, _⟩ => ⟨S1024x664, .f32⟩
  | .hbm, ⟨7, _⟩ => ⟨S1024x664, .f32⟩
  | .hbm, ⟨8, _⟩ => ⟨S1024x664, .f32⟩
  | .local _ .vmem, ⟨0, _⟩ => ⟨S8x256x664, .bf16⟩
  | .local _ .vmem, ⟨1, _⟩ => ⟨S8x256x664, .bf16⟩
  | .local _ .vmem, ⟨2, _⟩ => ⟨S8x256x664, .bf16⟩
  | .local _ .vmem, ⟨3, _⟩ => ⟨S8x256x664, .bf16⟩
  | .local _ .vmem, ⟨4, _⟩ => ⟨S256x664, .f32⟩
  | .local _ .vmem, ⟨5, _⟩ => ⟨S256x664, .f32⟩
  | .local _ .vmem, ⟨6, _⟩ => ⟨S256x664, .f32⟩
  | .local _ .vmem, ⟨7, _⟩ => ⟨S256x664, .f32⟩
  | .local _ .vmem, ⟨8, _⟩ => ⟨S256x664, .f32⟩
  | .local _ .vmem, ⟨9, _⟩ => ⟨S256x664, .f32⟩
  | .local _ .vmem, ⟨10, _⟩ => ⟨S256x664, .f32⟩
  | .local _ .vmem, ⟨11, _⟩ => ⟨S256x664, .f32⟩
  | .local _ .vmem, ⟨12, _⟩ => ⟨S256x664, .f32⟩
  | .local _ .vmem, ⟨13, _⟩ => ⟨S256x664, .f32⟩
  | .local _ .vmem, ⟨14, _⟩ => ⟨S256x664, .f32⟩
  | .local _ .vmem, ⟨15, _⟩ => ⟨S256x664, .f32⟩
  | .local _ .vmem, ⟨16, _⟩ => ⟨S256x664, .f32⟩
  | .local _ .vmem, ⟨17, _⟩ => ⟨S256x664, .f32⟩
  | _, _ => ⟨S8x512x664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x664 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference35Ideal.lean ====
abbrev S8x512x664 : Shape := ⟨3, ![8, 512, 664]⟩
abbrev S1024x664 : Shape := ⟨2, ![1024, 664]⟩
abbrev S8x1024x664 : Shape := ⟨3, ![8, 1024, 664]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x512x664, .bf16⟩
  | .hbm, ⟨1, _⟩ => ⟨S8x512x664, .bf16⟩
  | .hbm, ⟨2, _⟩ => ⟨S1024x664, .f32⟩
  | .hbm, ⟨3, _⟩ => ⟨S1024x664, .f32⟩
  | .hbm, ⟨4, _⟩ => ⟨S1024x664, .f32⟩
  | .hbm, ⟨5, _⟩ => ⟨S8x1024x664, .bf16⟩
  | .hbm, ⟨6, _⟩ => ⟨S8x1024x664, .f32⟩
  | .hbm, ⟨7, _⟩ => ⟨S_, .f32⟩
  | .hbm, ⟨8, _⟩ => ⟨S1024x664, .f32⟩
  | .hbm, ⟨9, _⟩ => ⟨S_, .f32⟩
  | .hbm, ⟨10, _⟩ => ⟨S1024x664, .f32⟩
  | .hbm, ⟨11, _⟩ => ⟨S1024x664, .f32⟩
  | .hbm, ⟨12, _⟩ => ⟨S_, .f32⟩
  | .hbm, ⟨13, _⟩ => ⟨S1024x664, .f32⟩
  | .hbm, ⟨14, _⟩ => ⟨S1024x664, .f32⟩
  | .hbm, ⟨15, _⟩ => ⟨S1024x664, .f32⟩
  | .hbm, ⟨16, _⟩ => ⟨S_, .f32⟩
  | .hbm, ⟨17, _⟩ => ⟨S1024x664, .f32⟩
  | .hbm, ⟨18, _⟩ => ⟨S1024x664, .f32⟩
  | .hbm, ⟨19, _⟩ => ⟨S1024x664, .f32⟩
  | .hbm, ⟨20, _⟩ => ⟨S_, .f32⟩
  | .hbm, ⟨21, _⟩ => ⟨S1024x664, .f32⟩
  | .hbm, ⟨22, _⟩ => ⟨S1024x664, .f32⟩
  | .hbm, ⟨23, _⟩ => ⟨S1024x664, .f32⟩
  | .hbm, ⟨24, _⟩ => ⟨S_, .f32⟩
  | .hbm, ⟨25, _⟩ => ⟨S1024x664, .f32⟩
  | .hbm, ⟨26, _⟩ => ⟨S1024x664, .f32⟩
  | .hbm, ⟨27, _⟩ => ⟨S_, .f32⟩
  | .hbm, ⟨28, _⟩ => ⟨S1024x664, .f32⟩
  | .hbm, ⟨29, _⟩ => ⟨S1024x664, .f32⟩
  | .hbm, ⟨30, _⟩ => ⟨S1024x664, .f32⟩
  | .hbm, ⟨31, _⟩ => ⟨S_, .f32⟩
  | .hbm, ⟨32, _⟩ => ⟨S1024x664, .f32⟩
  | .hbm, ⟨33, _⟩ => ⟨S1024x664, .f32⟩
  | .hbm, ⟨34, _⟩ => ⟨S1024x664, .f32⟩
  | .hbm, ⟨35, _⟩ => ⟨S_, .f32⟩
  | .hbm, ⟨36, _⟩ => ⟨S1024x664, .f32⟩
  | .hbm, ⟨37, _⟩ => ⟨S1024x664, .f32⟩
  | .hbm, ⟨38, _⟩ => ⟨S1024x664, .f32⟩
  | .hbm, ⟨39, _⟩ => ⟨S_, .f32⟩
  | .hbm, ⟨40, _⟩ => ⟨S1024x664, .f32⟩
  | .hbm, ⟨41, _⟩ => ⟨S1024x664, .f32⟩
  | _, _ => ⟨S8x512x664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel36.lean ====
abbrev S8x384x192 : Shape := ⟨3, ![8, 384, 192]⟩
abbrev S384x192 : Shape := ⟨2, ![384, 192]⟩
abbrev S1x384x192 : Shape := ⟨3, ![1, 384, 192]⟩

abbrev nBuf : Space → Nat
  | .hbm => 8
  | .vmem => 8
  | .smem => 0
  | _ => 0

abbrev bufTy : (tb : Table) → Fin (tcTables nBuf tb) → BufTy
  | .hbm, ⟨0, _⟩ => ⟨S8x384x192, .bf16⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S384x192, .f32⟩
  | .hbm, ⟨5, _⟩ => ⟨S384x192, .f32⟩
  | .hbm, ⟨6, _⟩ => ⟨S384x192, .f32⟩
  | .hbm, ⟨7, _⟩ => ⟨S384x192, .f32⟩
  | .local _ .vmem, ⟨0, _⟩ => ⟨S8x384x192, .bf16⟩
  | .local _ .vmem, ⟨1, _⟩ => ⟨S384x192, .f32⟩
  | .local _ .vmem, ⟨2, _⟩ => ⟨S384x192, .f32⟩
  | .local _ .vmem, ⟨3, _⟩ => ⟨S384x192, .f32⟩
  | .local _ .vmem, ⟨4, _⟩ => ⟨S384x192, .f32⟩
  | .local _ .vmem, ⟨5, _⟩ => ⟨S384x192, .f32⟩
  | .local _ .vmem, ⟨6, _⟩ => ⟨S384x192, .f32⟩
  | .local _ .vmem, ⟨7, _⟩ => ⟨S384x192, .f32⟩
  | _, _ => ⟨S8x384x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S384x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference36Ideal.lean ====
abbrev S8x384x192 : Shape := ⟨3, ![8, 384, 192]⟩
abbrev S384x192 : Shape := ⟨2, ![384, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x384x192, .bf16⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S8x384x192, .f32⟩
  | .hbm, ⟨5, _⟩ => ⟨S_, .f32⟩
  | .hbm, ⟨6, _⟩ => ⟨S384x192, .f32⟩
  | .hbm, ⟨7, _⟩ => ⟨S_, .f32⟩
  | .hbm, ⟨8, _⟩ => ⟨S384x192, .f32⟩
  | .hbm, ⟨9, _⟩ => ⟨S384x192, .f32⟩
  | .hbm, ⟨10, _⟩ => ⟨S_, .f32⟩
  | .hbm, ⟨11, _⟩ => ⟨S384x192, .f32⟩
  | .hbm, ⟨12, _⟩ => ⟨S384x192, .f32⟩
  | .hbm, ⟨13, _⟩ => ⟨S384x192, .f32⟩
  | .hbm, ⟨14, _⟩ => ⟨S_, .f32⟩
  | .hbm, ⟨15, _⟩ => ⟨S384x192, .f32⟩
  | .hbm, ⟨16, _⟩ => ⟨S384x192, .f32⟩
  | .hbm, ⟨17, _⟩ => ⟨S384x192, .f32⟩
  | .hbm, ⟨18, _⟩ => ⟨S_, .f32⟩
  | .hbm, ⟨19, _⟩ => ⟨S384x192, .f32⟩
  | .hbm, ⟨20, _⟩ => ⟨S384x192, .f32⟩
  | .hbm, ⟨21, _⟩ => ⟨S384x192, .f32⟩
  | .hbm, ⟨22, _⟩ => ⟨S_, .f32⟩
  | .hbm, ⟨23, _⟩ => ⟨S384x192, .f32⟩
  | .hbm, ⟨24, _⟩ => ⟨S384x192, .f32⟩
  | .hbm, ⟨25, _⟩ => ⟨S_, .f32⟩
  | .hbm, ⟨26, _⟩ => ⟨S384x192, .f32⟩
  | .hbm, ⟨27, _⟩ => ⟨S384x192, .f32⟩
  | .hbm, ⟨28, _⟩ => ⟨S384x192, .f32⟩
  | .hbm, ⟨29, _⟩ => ⟨S_, .f32⟩
  | .hbm, ⟨30, _⟩ => ⟨S384x192, .f32⟩
  | .hbm, ⟨31, _⟩ => ⟨S384x192, .f32⟩
  | .hbm, ⟨32, _⟩ => ⟨S384x192, .f32⟩
  | .hbm, ⟨33, _⟩ => ⟨S_, .f32⟩
  | .hbm, ⟨34, _⟩ => ⟨S384x192, .f32⟩
  | .hbm, ⟨35, _⟩ => ⟨S384x192, .f32⟩
  | .hbm, ⟨36, _⟩ => ⟨S384x192, .f32⟩
  | .hbm, ⟨37, _⟩ => ⟨S_, .f32⟩
  | .hbm, ⟨38, _⟩ => ⟨S384x192, .f32⟩
  | .hbm, ⟨39, _⟩ => ⟨S384x192, .f32⟩
  | _, _ => ⟨S8x384x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel37.lean ====
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S8x256x256, .bf16⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference37Ideal.lean ====
abbrev S8x256x256 : Shape := ⟨3, ![8, 256, 256]⟩
abbrev S256x256 : Shape := ⟨2, ![256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel38.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference38Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel39.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference39Ideal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel40.lean ====
abbrev S8x1024x512 : Shape := ⟨3, ![8, 1024, 512]⟩
abbrev S1024x512 : Shape := ⟨2, ![1024, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference40Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel41.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference41Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel42.lean ====
abbrev S8192x512 : Shape := ⟨2, ![8192, 512]⟩
abbrev S1024x512 : Shape := ⟨2, ![1024, 512]⟩
abbrev S1024x1024 : Shape := ⟨2, ![1024, 1024]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x8192x1 : Shape := ⟨3, ![4, 8192, 1]⟩
abbrev S2048x128 : Shape := ⟨2, ![2048, 128]⟩
abbrev S256x128 : Shape := ⟨2, ![256, 128]⟩
abbrev S1x2048x1 : Shape := ⟨3, ![1, 2048, 1]⟩
abbrev S2048x1 : Shape := ⟨2, ![2048, 1]⟩
abbrev S2048 : Shape := ⟨1, ![2048]⟩
abbrev S2048x256 : Shape := ⟨2, ![2048, 256]⟩

abbrev nBuf : Space → Nat
  | .hbm => 51
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024x1024, .f32⟩
  | .hbm, ⟨3, _⟩ => ⟨S8192x512, .f32⟩
  | .hbm, ⟨4, _⟩ => ⟨S4x2048x4x128, .f32⟩
  | .hbm, ⟨5, _⟩ => ⟨S4x256x4x128, .f32⟩
  | .hbm, ⟨6, _⟩ => ⟨S1024x512, .f32⟩
  | .hbm, ⟨7, _⟩ => ⟨S4x256x4x128, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S4x4x2048x1, .f32⟩
  | .hbm, ⟨15, _⟩ => ⟨S4x4x2048x256, .f32⟩
  | .hbm, ⟨16, _⟩ => ⟨S4x4x2048x256, .f32⟩
  | .hbm, ⟨17, _⟩ => ⟨S4x4x2048x256, .f32⟩
  | .hbm, ⟨18, _⟩ => ⟨S_, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .f32⟩
  | .hbm, ⟨23, _⟩ => ⟨S4x4x128x2048, .f32⟩
  | .hbm, ⟨24, _⟩ => ⟨S4x2048x4x128, .f32⟩
  | .hbm, ⟨25, _⟩ => ⟨S8192x512, .f32⟩
  | .hbm, ⟨26, _⟩ => ⟨S8192x512, .bf16⟩
  | .hbm, ⟨27, _⟩ => ⟨S4x4x2048x1, .f32⟩
  | .hbm, ⟨28, _⟩ => ⟨S4x4x2048x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4x4x2048x1, .f32⟩
  | .hbm, ⟨33, _⟩ => ⟨S4x4x2048x1, .f32⟩
  | .hbm, ⟨34, _⟩ => ⟨S4x4x2048x1, .f32⟩
  | .hbm, ⟨35, _⟩ => ⟨S4x8192x1, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .bf16⟩
  | .hbm, ⟨45, _⟩ => ⟨S1024x512, .bf16⟩
  | .hbm, ⟨46, _⟩ => ⟨S1024x1024, .bf16⟩
  | .hbm, ⟨47, _⟩ => ⟨S8192x512, .bf16⟩
  | .hbm, ⟨48, _⟩ => ⟨S8192x512, .bf16⟩
  | .hbm, ⟨49, _⟩ => ⟨S1024x512, .bf16⟩
  | .hbm, ⟨50, _⟩ => ⟨S1024x512, .bf16⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x2048x1, .f32⟩
  | .local _ .vmem, ⟨11, _⟩ => ⟨S1x2048x1, .f32⟩
  | .local _ .vmem, ⟨12, _⟩ => ⟨S2048x128, .bf16⟩
  | .local _ .vmem, ⟨13, _⟩ => ⟨S2048x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S2048x1, .f32⟩
  | .local _ .vmem, ⟨19, _⟩ => ⟨S2048x128, .bf16⟩
  | .local _ .vmem, ⟨20, _⟩ => ⟨S2048x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel42Ideal.lean ====
variable {F : FTy → Type} [FloatOps F] [Named F]
def κ : String → Option EReal := fun
  | "ln2" => some ((Real.log 2 : ℝ) : EReal)
  | _ => none
-- ==== Reference42Ideal.lean ====
abbrev S8192x512 : Shape := ⟨2, ![8192, 512]⟩
abbrev S1024x512 : Shape := ⟨2, ![1024, 512]⟩
abbrev S1024x1024 : Shape := ⟨2, ![1024, 1024]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x128x256 : Shape := ⟨4, ![4, 4, 128, 256]⟩
abbrev S4x4x256x128 : Shape := ⟨4, ![4, 4, 256, 128]⟩
abbrev S4x4x2048x128 : Shape := ⟨4, ![4, 4, 2048, 128]⟩

abbrev nBuf : Space → Nat
  | .hbm => 85
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024x1024, .f32⟩
  | .hbm, ⟨3, _⟩ => ⟨S8192x512, .f32⟩
  | .hbm, ⟨4, _⟩ => ⟨S1024x512, .f32⟩
  | .hbm, ⟨5, _⟩ => ⟨S4x2048x4x128, .f32⟩
  | .hbm, ⟨6, _⟩ => ⟨S4x256x4x128, .f32⟩
  | .hbm, ⟨7, _⟩ => ⟨S4x256x4x128, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S4x4x2048x1, .f32⟩
  | .hbm, ⟨15, _⟩ => ⟨S4x4x2048x256, .f32⟩
  | .hbm, ⟨16, _⟩ => ⟨S4x4x2048x256, .i1⟩
  | .hbm, ⟨17, _⟩ => ⟨S4x4x2048x256, .f32⟩
  | .hbm, ⟨18, _⟩ => ⟨S_, .f32⟩
  | .hbm, ⟨19, _⟩ => ⟨S4x4x2048, .f32⟩
  | .hbm, ⟨20, _⟩ => ⟨S_, .f32⟩
  | .hbm, ⟨21, _⟩ => ⟨S4x4x2048, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .i1⟩
  | .hbm, ⟨26, _⟩ => ⟨S_, .f32⟩
  | .hbm, ⟨27, _⟩ => ⟨S4x4x2048, .f32⟩
  | .hbm, ⟨28, _⟩ => ⟨S4x4x2048, .i1⟩
  | .hbm, ⟨29, _⟩ => ⟨S_, .f32⟩
  | .hbm, ⟨30, _⟩ => ⟨S4x4x2048, .f32⟩
  | .hbm, ⟨31, _⟩ => ⟨S_, .f32⟩
  | .hbm, ⟨32, _⟩ => ⟨S4x4x2048, .f32⟩
  | .hbm, ⟨33, _⟩ => ⟨S_, .f32⟩
  | .hbm, ⟨34, _⟩ => ⟨S4x4x2048, .f32⟩
  | .hbm, ⟨35, _⟩ => ⟨S4x4x2048, .f32⟩
  | .hbm, ⟨36, _⟩ => ⟨S4x4x2048, .f32⟩
  | .hbm, ⟨37, _⟩ => ⟨S4x4x2048x1, .f32⟩
  | .hbm, ⟨38, _⟩ => ⟨S4x4x2048x256, .f32⟩
  | .hbm, ⟨39, _⟩ => ⟨S4x4x2048x256, .f32⟩
  | .hbm, ⟨40, _⟩ => ⟨S4x4x2048x256, .f32⟩
  | .hbm, ⟨41, _⟩ => ⟨S_, .f32⟩
  | .hbm, ⟨42, _⟩ => ⟨S4x4x2048, .f32⟩
  | .hbm, ⟨43, _⟩ => ⟨S4x4x2048x1, .f32⟩
  | .hbm, ⟨44, _⟩ => ⟨S4x4x2048x256, .f32⟩
  | .hbm, ⟨45, _⟩ => ⟨S4x4x2048x256, .f32⟩
  | .hbm, ⟨46, _⟩ => ⟨S4x4x2048x1, .f32⟩
  | .hbm, ⟨47, _⟩ => ⟨S_, .f32⟩
  | .hbm, ⟨48, _⟩ => ⟨S4x4x2048x1, .f32⟩
  | .hbm, ⟨49, _⟩ => ⟨S4x4x2048x1, .f32⟩
  | .hbm, ⟨50, _⟩ => ⟨S4x4x128x2048, .f32⟩
  | .hbm, ⟨51, _⟩ => ⟨S4x2048x4x128, .f32⟩
  | .hbm, ⟨52, _⟩ => ⟨S8192x512, .f32⟩
  | .hbm, ⟨53, _⟩ => ⟨S4x2048x4x128, .f32⟩
  | .hbm, ⟨54, _⟩ => ⟨S4x4x128x2048, .f32⟩
  | .hbm, ⟨55, _⟩ => ⟨S4x4x2048x256, .f32⟩
  | .hbm, ⟨56, _⟩ => ⟨S4x4x128x256, .f32⟩
  | .hbm, ⟨57, _⟩ => ⟨S4x256x4x128, .f32⟩
  | .hbm, ⟨58, _⟩ => ⟨S4x4x2048x256, .f32⟩
  | .hbm, ⟨59, _⟩ => ⟨S4x4x2048x256, .f32⟩
  | .hbm, ⟨60, _⟩ => ⟨S4x4x2048x256, .f32⟩
  | .hbm, ⟨61, _⟩ => ⟨S_, .f32⟩
  | .hbm, ⟨62, _⟩ => ⟨S4x4x2048, .f32⟩
  | .hbm, ⟨63, _⟩ => ⟨S4x4x2048x1, .f32⟩
  | .hbm, ⟨64, _⟩ => ⟨S4x4x2048x1, .f32⟩
  | .hbm, ⟨65, _⟩ => ⟨S4x4x2048x256, .f32⟩
  | .hbm, ⟨66, _⟩ => ⟨S4x4x2048x256, .f32⟩
  | .hbm, ⟨67, _⟩ => ⟨S_, .f32⟩
  | .hbm, ⟨68, _⟩ => ⟨S4x4x2048, .f32⟩
  | .hbm, ⟨69, _⟩ => ⟨S4x4x2048x256, .f32⟩
  | .hbm, ⟨70, _⟩ => ⟨S4x4x2048x256, .f32⟩
  | .hbm, ⟨71, _⟩ => ⟨S4x4x2048x256, .f32⟩
  | .hbm, ⟨72, _⟩ => ⟨S_, .f32⟩
  | .hbm, ⟨73, _⟩ => ⟨S4x4x2048x256, .f32⟩
  | .hbm, ⟨74, _⟩ => ⟨S4x4x2048x256, .f32⟩
  | .hbm, ⟨75, _⟩ => ⟨S4x4x256x128, .f32⟩
  | .hbm, ⟨76, _⟩ => ⟨S4x256x4x128, .f32⟩
  | .hbm, ⟨77, _⟩ => ⟨S4x4x2048x128, .f32⟩
  | .hbm, ⟨78, _⟩ => ⟨S4x2048x4x128, .f32⟩
  | .hbm, ⟨79, _⟩ => ⟨S1024x512, .f32⟩
  | .hbm, ⟨80, _⟩ => ⟨S1024x512, .f32⟩
  | .hbm, ⟨81, _⟩ => ⟨S8192x512, .f32⟩
  | .hbm, ⟨82, _⟩ => ⟨S8192x512, .bf16⟩
  | .hbm, ⟨83, _⟩ => ⟨S1024x512, .bf16⟩
  | .hbm, ⟨84, _⟩ => ⟨S1024x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel43.lean ====
abbrev S8192x512 : Shape := ⟨2, ![8192, 512]⟩
abbrev S1024x512 : Shape := ⟨2, ![1024, 512]⟩
abbrev S1024x1024 : Shape := ⟨2, ![1024, 1024]⟩
abbrev S_ : Shape := ⟨0, ![]⟩
abbrev S4x8192x1 : Shape := ⟨3, ![4, 8192, 1]⟩
abbrev S2048x128 : Shape := ⟨2, ![2048, 128]⟩
abbrev S256x128 : Shape := ⟨2, ![256, 128]⟩
abbrev S1x2048x1 : Shape := ⟨3, ![1, 2048, 1]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1x1024x1 : Shape := ⟨3, ![1, 1024, 1]⟩

abbrev nBuf : Space → Nat
  | .hbm => 16
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024x1024, .f32⟩
  | .hbm, ⟨3, _⟩ => ⟨S_, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .bf16⟩
  | .hbm, ⟨12, _⟩ => ⟨S1024x512, .bf16⟩
  | .hbm, ⟨13, _⟩ => ⟨S1024x1024, .bf16⟩
  | .hbm, ⟨14, _⟩ => ⟨S8192x512, .bf16⟩
  | .hbm, ⟨15, _⟩ => ⟨S4x8192x1, .f32⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel43Ideal.lean ====
variable {F : FTy → Type} [FloatOps F] [Named F]
def κ : String → Option EReal := fun
  | "inv_ln2" => some (((Real.log 2)⁻¹ : ℝ) : EReal)
  | _ => none
-- ==== Reference43Ideal.lean ====
abbrev S8192x512 : Shape := ⟨2, ![8192, 512]⟩
abbrev S1024x512 : Shape := ⟨2, ![1024, 512]⟩
abbrev S1024x1024 : Shape := ⟨2, ![1024, 1024]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x8192x1 : Shape := ⟨3, ![4, 8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024x1024, .f32⟩
  | .hbm, ⟨3, _⟩ => ⟨S4x2048x4x128, .f32⟩
  | .hbm, ⟨4, _⟩ => ⟨S4x256x4x128, .f32⟩
  | .hbm, ⟨5, _⟩ => ⟨S1024x512, .f32⟩
  | .hbm, ⟨6, _⟩ => ⟨S4x256x4x128, .f32⟩
  | .hbm, ⟨7, _⟩ => ⟨S4x4x2048x256, .f32⟩
  | .hbm, ⟨8, _⟩ => ⟨S_, .f32⟩
  | .hbm, ⟨9, _⟩ => ⟨S4x4x2048x256, .f32⟩
  | .hbm, ⟨10, _⟩ => ⟨S4x4x2048x256, .f32⟩
  | .hbm, ⟨11, _⟩ => ⟨S_, .f32⟩
  | .hbm, ⟨12, _⟩ => ⟨S4x4x2048, .f32⟩
  | .hbm, ⟨13, _⟩ => ⟨S4x4x2048x1, .f32⟩
  | .hbm, ⟨14, _⟩ => ⟨S4x4x2048x256, .f32⟩
  | .hbm, ⟨15, _⟩ => ⟨S4x4x2048x256, .f32⟩
  | .hbm, ⟨16, _⟩ => ⟨S4x4x2048x256, .f32⟩
  | .hbm, ⟨17, _⟩ => ⟨S_, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x128x2048, .f32⟩
  | .hbm, ⟨23, _⟩ => ⟨S4x2048x4x128, .f32⟩
  | .hbm, ⟨24, _⟩ => ⟨S8192x512, .f32⟩
  | .hbm, ⟨25, _⟩ => ⟨S8192x512, .bf16⟩
  | .hbm, ⟨26, _⟩ => ⟨S4x4x2048x1, .f32⟩
  | .hbm, ⟨27, _⟩ => ⟨S4x4x2048x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4x2048x1, .f32⟩
  | .hbm, ⟨32, _⟩ => ⟨S4x4x2048x1, .f32⟩
  | .hbm, ⟨33, _⟩ => ⟨S4x4x2048x1, .f32⟩
  | .hbm, ⟨34, _⟩ => ⟨S4x8192x1, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Softmax.lean ====
/- The mathematics of softmax attention and of its gradient over the reals, and the bridge to the extended reals.

   One head of the attention: `n` queries, `m` keys, scores `s i j`, a set `M i j` of the pairs attended. The
   probabilities are `prob`, the gradient of the scores is `dscore`. Everything here is independent of how a
   program tiles the scores. -/
module

public import Idealize.ShloMosaic.PureOps.Ideal
public import Idealize.ShloMosaic.Lib.MatmulPlain

@[expose] public section

noncomputable section

namespace Attn

open Idealize.ShloMosaic

/-- A finite sum of reals, read in the extended reals. -/
theorem coe_sum {ι : Type} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- A sum of products of reals, read in the extended reals. -/
theorem coe_sum_mul {ι : Type} [Fintype ι] (f g : ι → ℝ) :
    (∑ k, (f k : EReal) * (g k : EReal)) = ((∑ k, f k * g k : ℝ) : EReal) := by
  rw [← coe_sum]
  exact Finset.sum_congr rfl fun k _ => (EReal.coe_mul _ _).symm

section
variable {n m D E : ℕ}

/-- The weight of key `j` for query `i`: the exponential of the score, zero outside the mask. -/
def wt (M : Fin n → Fin m → Prop) [∀ i j, Decidable (M i j)] (s : Fin n → Fin m → ℝ) (i : Fin n) (j : Fin m) : ℝ :=
  if M i j then Real.exp (s i j) else 0

/-- The sum of a row's weights. -/
def den (M : Fin n → Fin m → Prop) [∀ i j, Decidable (M i j)] (s : Fin n → Fin m → ℝ) (i : Fin n) : ℝ :=
  ∑ j, wt M s i j

/-- The probability of key `j` for query `i`. -/
def prob (M : Fin n → Fin m → Prop) [∀ i j, Decidable (M i j)] (s : Fin n → Fin m → ℝ) (i : Fin n) (j : Fin m) : ℝ :=
  wt M s i j / den M s i

/-- The gradient of the scores: each probability times the gradient reaching it, less the row's mean of that gradient. -/
def dscore (M : Fin n → Fin m → Prop) [∀ i j, Decidable (M i j)] (s dp : Fin n → Fin m → ℝ) (i : Fin n) (j : Fin m) : ℝ :=
  prob M s i j * (dp i j - ∑ t, prob M s i t * dp i t)

variable (M : Fin n → Fin m → Prop) [∀ i j, Decidable (M i j)] (s dp : Fin n → Fin m → ℝ)

theorem den_pos {i : Fin n} (h : ∃ j, M i j) : 0 < den M s i := by
  obtain ⟨j, hj⟩ := h
  refine Finset.sum_pos' (fun t _ => ?_) ⟨j, Finset.mem_univ _, ?_⟩
  · unfold wt; split_ifs
    · exact (Real.exp_pos _).le
    · exact le_rfl
  · unfold wt; rw [if_pos hj]; exact Real.exp_pos _

theorem prob_off {i : Fin n} {j : Fin m} (h : ¬ M i j) : prob M s i j = 0 := by
  unfold prob wt; rw [if_neg h, zero_div]

theorem dscore_off {i : Fin n} {j : Fin m} (h : ¬ M i j) : dscore M s dp i j = 0 := by
  unfold dscore; rw [prob_off M s h, zero_mul]

/-! ### A shift of the scores -/

/-- The weight with a row shift `x` taken off the score. -/
theorem wt_shift (x : ℝ) (i : Fin n) (j : Fin m) :
    (if M i j then Real.exp (s i j - x) else 0) = wt M s i j * Real.exp (-x) := by
  unfold wt; split_ifs
  · rw [sub_eq_add_neg, Real.exp_add]
  · rw [zero_mul]

theorem den_shift (x : ℝ) (i : Fin n) :
    (∑ j, if M i j then Real.exp (s i j - x) else 0) = den M s i * Real.exp (-x) := by
  unfold den; rw [Finset.sum_mul]
  exact Finset.sum_congr rfl fun j _ => wt_shift M s x i j

theorem prob_shift (x : ℝ) (i : Fin n) (j : Fin m) :
    (if M i j then Real.exp (s i j - x) else 0) / (∑ t, if M i t then Real.exp (s i t - x) else 0) = prob M s i j := by
  rw [den_shift, wt_shift]
  exact mul_div_mul_right _ _ (Real.exp_pos _).ne'

theorem den_shift_pos (x : ℝ) {i : Fin n} (h : ∃ j, M i j) :
    0 < (∑ j, if M i j then Real.exp (s i j - x) else 0) := by
  rw [den_shift]; exact mul_pos (den_pos M s h) (Real.exp_pos _)

/-- The probability from the base-two exponential of the score less the row's logarithm, both divided by `log 2`. -/
theorem exp2_prob {i : Fin n} {j : Fin m} (x : ℝ) (h : M i j) :
    Real.rpow 2 (s i j / Real.log 2 - (x + Real.log (∑ t, if M i t then Real.exp (s i t - x) else 0)) / Real.log 2)
      = prob M s i j := by
  have hl : Real.log 2 ≠ 0 := (Real.log_pos one_lt_two).ne'
  have hD := den_shift_pos M s x ⟨j, h⟩
  rw [← prob_shift M s x i j, if_pos h]
  have e2 : ∀ y : ℝ, Real.rpow 2 y = Real.exp (Real.log 2 * y) := fun y => Real.rpow_def_of_pos two_pos y
  rw [e2, ← sub_div, mul_div_cancel₀ _ hl, ← sub_sub, Real.exp_sub, Real.exp_log hD]

/-- A softmax's gradient as reverse differentiation writes it: through the quotient `e / l`. -/
theorem dscore_of_quotient (x : ℝ) (i : Fin n) (j : Fin m) (h : ∃ t, M i t) :
    let e : Fin m → ℝ := fun t => if M i t then Real.exp (s i t - x) else 0
    let l : ℝ := ∑ t, e t
    (dp i j / l + -(∑ t, dp i t * (1 / (l * l)) * e t)) * e j = dscore M s dp i j := by
  intro e l
  have hl : l ≠ 0 := (den_shift_pos M s x h).ne'
  unfold dscore
  rw [← prob_shift M s x i j]
  have : ∑ t, prob M s i t * dp i t = l * ∑ t, dp i t * (1 / (l * l)) * e t := by
    rw [Finset.mul_sum]
    refine Finset.sum_congr rfl fun t _ => ?_
    rw [← prob_shift M s x i t]
    change e t / l * dp i t = _
    field_simp
  rw [this]
  change _ = e j / l * _
  field_simp
  ring

end

/-! ### The extended reals -/

theorem div_coe' (x y : ℝ) (h : y ≠ 0) : Ideal.div (x : EReal) (y : EReal) = ((x / y : ℝ) : EReal) := by
  rw [Ideal.div_coe h, ← EReal.coe_mul]; congr 1; field_simp

/-- The maximum of a row that has at least one finite score, the others being real or `⊥`, is real. -/
theorem fold_max_real {ι : Type} (t : Finset ι) (f : ι → EReal) (h1 : ∀ k ∈ t, f k ≠ ⊤) (k : ι) (hk : k ∈ t) (h2 : f k ≠ ⊥) :
    ∃ x : ℝ, t.fold max ⊥ f = (x : EReal) := by
  have a : t.fold max ⊥ f ≠ ⊤ := by
    intro h
    have : (t.fold max ⊥ f) < ⊤ := by
      rw [Finset.fold_max_lt]
      exact ⟨bot_lt_top, fun y hy => lt_top_iff_ne_top.2 (h1 y hy)⟩
    exact this.ne h
  have b : t.fold max ⊥ f ≠ ⊥ := by
    have : f k ≤ t.fold max ⊥ f := by
      rw [Finset.le_fold_max]
      exact Or.inr ⟨k, hk, le_rfl⟩
    exact ne_bot_of_le_ne_bot h2 this
  exact ⟨_, (EReal.coe_toReal a b).symm⟩

end Attn

end
-- ==== Proof.Tiles.lean ====
/- One tile of the attention's backward pass, for any number of query rows: what its vectors hold, entry by entry, when
   its operands hold real numbers.

   A tile takes `n` query rows from row `a` of the arrays and one block of `T` keys from row `b`. It forms the scores
   (masked on the diagonal), the probabilities `2 ^ (score − row logarithm)`, the gradient of the scores, and the tile's
   shares of the gradients of the queries, the keys and the values. -/
module

public import proofs.«01_k».proof.Proof.Softmax
public import Idealize.ShloMosaic.Lib.Pointwise
public import Idealize.ShloMosaic.Lib.WordCmp
public import Idealize.ShloMosaic.Lib.Pipeline.ValueKit

@[expose] public section

noncomputable section

namespace Attn

open Idealize.ShloMosaic

/-- A matrix's shape. -/
abbrev M2 (r c : ℕ) : Shape := ⟨2, ![r, c]⟩
/-- The shape of a one-headed column of rows. -/
abbrev M3 (r : ℕ) : Shape := ⟨3, ![1, r, 1]⟩

/-! ### The products -/

/-- Both operands contracted on their rows: `K×M` by `K×N`, giving `M×N`. -/
def rowsDims (K M N : ℕ) : DotDims (M2 K M) (M2 K N) (M2 M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem rowsDims_rank (K M N : ℕ) : (rowsDims K M N).contr.rank = 1 := rfl
theorem rowsDims_size (K M N : ℕ) : (rowsDims K M N).contr.size ⟨0, by rw [rowsDims_rank]; exact Nat.one_pos⟩ = K := rfl
def rowsContr (K M N : ℕ) : (rowsDims K M N).contr.Idx ≃ Fin K := ValueIdx.contrEquiv1 _ K (rowsDims_rank K M N) (rowsDims_size K M N)

/-- The product contracted on rows, at an entry. -/
theorem matmul_rows_apply {K M N : ℕ} {φ₁ φ₂ : FTy} (prec : Option ContractPrecision)
    (lhs : FVec Ideal (M2 K M) φ₁) (rhs : FVec Ideal (M2 K N) φ₂) (acc : FVec Ideal (M2 M N) .f32) (r : Fin M) (c : Fin N) :
    FloatOps.matmul (rowsDims K M N) prec lhs rhs acc (ix2 r c) = acc (ix2 r c) + ∑ k : Fin K, lhs (ix2 k r) * rhs (ix2 k c) := by
  rw [Ideal.matmul_apply, ← Equiv.sum_comp (rowsContr K M N).symm]
  refine congrArg (acc (ix2 r c) + ·) (Finset.sum_congr rfl fun k _ => ?_)
  have hk := ValueIdx.contrEquiv1_symm_val _ K (rowsDims_rank K M N) (rowsDims_size K M N) k
  have el : (rowsDims K M N).lhsIdx (ix2 r c) ((rowsContr K M N).symm k) = ix2 k r := by
    funext a; apply Fin.ext
    match a with
    | ⟨0, _⟩ => exact hk
    | ⟨1, _⟩ => rfl
  have er : (rowsDims K M N).rhsIdx (ix2 r c) ((rowsContr K M N).symm k) = ix2 k c := by
    funext a; apply Fin.ext
    match a with
    | ⟨0, _⟩ => exact hk
    | ⟨1, _⟩ => rfl
  rw [el, er]

/-- The zero constant is zero. -/
theorem zero_const (s : Shape) (i : s.Idx) : (constant s .f32 0x00000000#32 : FVec Ideal s .f32) i = 0 := by
  pointwise

/-- A column of row values along the lanes. -/
theorem bcast_col {α : Type} {n T : ℕ} (x : (M2 n 1).Idx → α) (h : (M2 n 1).Broadcasts (M2 n T)) (r : Fin n) (t : Fin T) :
    broadcastTo (M2 n T) x h (ix2 r t) = x (ix2 r 0) := by
  refine congrArg x (funext fun a => Fin.ext ?_)
  match a with
  | ⟨0, _⟩ =>
    by_cases h1 : n = 1
    · subst h1; have := r.isLt; simp only [M2, ix2]; split <;> simp_all
    · simp only [M2]; rw [dif_neg (by simpa using h1)]; rfl
  | ⟨1, _⟩ => rfl

/-- A one-headed column read as a matrix of one lane. -/
theorem cast_col {α : Type} {n : ℕ} (x : (M3 n).Idx → α) (h : (M3 n).ShapeCasts (M2 n 1)) (r : Fin n) :
    shapeCast (M2 n 1) x h (ix2 r 0) = x (ix3 0 r 0) := by
  refine congrArg x (Shape.reshapeEquiv_eq_of_rowMajor h ?_)
  rw [rowMajor_val3 (ix3 0 r 0) (n * 1) 1 rfl rfl, rowMajor_val2 (ix2 r 0) 1 rfl]
  show 0 * _ + (r : ℕ) * 1 + 0 = (r : ℕ) * 1 + 0
  omega

/-! ### A tile's vectors -/

section
variable {n T D E : ℕ}

/-- Scores of `n` queries against `T` keys. -/
def scores (q : FVec Ideal (M2 n D) .bf16) (k : FVec Ideal (M2 T D) .bf16) : FVec Ideal (M2 n T) .f32 :=
  matmul (DotDims.transposedRhs n D T) none q k (constant (M2 n T) .f32 0x00000000#32)

/-- The scores of a square block on the diagonal, `mask` above it. -/
def causal (s : FVec Ideal (M2 n n) .f32) (mask : Ideal .f32) (h0 : (M2 n n).Iotas .tc 32 [0]) (h1 : (M2 n n).Iotas .tc 32 [1]) :
    FVec Ideal (M2 n n) .f32 :=
  select (cmpi .sge (iota .tc (M2 n n) 32 [0] h0) (iota .tc (M2 n n) 32 [1] h1)) s (broadcast (M2 n n) mask)

/-- Probabilities from the scores and the rows' logarithms. -/
def probs (s : FVec Ideal (M2 n T) .f32) (l : FVec Ideal (M2 n 1) .f32) (h : (M2 n 1).Broadcasts (M2 n T)) : FVec Ideal (M2 n T) .f32 :=
  exp2 (subf s (broadcastTo (M2 n T) l h))

/-- The gradient of the scores from the probabilities, the gradient of the output, the values and the rows' dots. -/
def grads (p : FVec Ideal (M2 n T) .f32) (g : FVec Ideal (M2 n E) .bf16) (v : FVec Ideal (M2 T E) .bf16)
    (dl : FVec Ideal (M2 n 1) .f32) (h : (M2 n 1).Broadcasts (M2 n T)) (hb : FTy.bits .bf16 < FTy.bits .f32) : FVec Ideal (M2 n T) .bf16 :=
  truncf .bf16 (mulf p (subf (matmul (DotDims.transposedRhs n E T) none g v (constant (M2 n T) .f32 0x00000000#32))
    (broadcastTo (M2 n T) dl h))) hb

/-- A sum over the tile's rows of products of a column of the one with a column of the other. -/
def overRows (x : FVec Ideal (M2 n T) .bf16) (y : FVec Ideal (M2 n E) .bf16) : FVec Ideal (M2 T E) .f32 :=
  matmul (rowsDims n T E) none x y (constant (M2 T E) .f32 0x00000000#32)

/-- The tile's share of the gradient of the queries, times the scale `c`. -/
def overKeys (ds : FVec Ideal (M2 n T) .bf16) (k : FVec Ideal (M2 T D) .bf16) (c : Ideal .f32) : FVec Ideal (M2 n D) .f32 :=
  mulf (matmul (DotDims.plain n T D) none ds k (constant (M2 n D) .f32 0x00000000#32)) (broadcast (M2 n D) c)

theorem scores_apply (q : FVec Ideal (M2 n D) .bf16) (k : FVec Ideal (M2 T D) .bf16) (r : Fin n) (t : Fin T) (Q K : Fin D → ℝ)
    (hq : ∀ d, q (ix2 r d) = (Q d : EReal)) (hk : ∀ d, k (ix2 t d) = (K d : EReal)) :
    scores q k (ix2 r t) = ((∑ d, Q d * K d : ℝ) : EReal) := by
  refine (Ideal.matmul_transposedRhs_apply none q k _ r t).trans ?_
  rw [zero_const, zero_add, ← coe_sum_mul]
  exact Finset.sum_congr rfl fun d _ => congrArg₂ (· * ·) (hq d) (hk d)

theorem causal_apply (s : FVec Ideal (M2 n n) .f32) (mask : Ideal .f32) (h0) (h1) (hn : n ≤ 2 ^ 31) (r t : Fin n) :
    causal s mask h0 h1 (ix2 r t) = if (t : ℕ) ≤ r then s (ix2 r t) else mask := by
  have hr := r.isLt
  have ht := t.isLt
  show Scalar.select (IntOp.cmpi .sge (BitVec.ofNat 32 (0 * n + (r : ℕ))) (BitVec.ofNat 32 (0 * n + (t : ℕ)))) _ _ = _
  rw [Nat.zero_mul, Nat.zero_add, Nat.zero_add, WordCmp.cmpi_sge_ofNat (by omega) (by omega)]
  by_cases h : (t : ℕ) ≤ r
  · rw [if_pos h, decide_eq_true h]; rfl
  · rw [if_neg h, decide_eq_false h]; rfl

theorem probs_apply (s : FVec Ideal (M2 n T) .f32) (l : FVec Ideal (M2 n 1) .f32) (h) (r : Fin n) (t : Fin T) (x y : ℝ)
    (hs : s (ix2 r t) = (x : EReal)) (hl : l (ix2 r 0) = (y : EReal)) : probs s l h (ix2 r t) = ((Real.rpow 2 (x - y) : ℝ) : EReal) := by
  show Ideal.exp2 (s (ix2 r t) - broadcastTo (M2 n T) l h (ix2 r t)) = _
  rw [bcast_col, hs, hl, ← EReal.coe_sub, Ideal.exp2_coe]

theorem probs_bot (s : FVec Ideal (M2 n T) .f32) (l : FVec Ideal (M2 n 1) .f32) (h) (r : Fin n) (t : Fin T)
    (hs : s (ix2 r t) = (⊥ : EReal)) : probs s l h (ix2 r t) = ((0 : ℝ) : EReal) := by
  show Ideal.exp2 (s (ix2 r t) - broadcastTo (M2 n T) l h (ix2 r t)) = _
  rw [hs, EReal.bot_sub]; rfl

theorem grads_apply (p : FVec Ideal (M2 n T) .f32) (g : FVec Ideal (M2 n E) .bf16) (v : FVec Ideal (M2 T E) .bf16)
    (dl : FVec Ideal (M2 n 1) .f32) (h) (hb) (r : Fin n) (t : Fin T) (P : ℝ) (G V : Fin E → ℝ) (δ : ℝ)
    (hp : p (ix2 r t) = (P : EReal)) (hg : ∀ e, g (ix2 r e) = (G e : EReal)) (hv : ∀ e, v (ix2 t e) = (V e : EReal))
    (hd : dl (ix2 r 0) = (δ : EReal)) : grads p g v dl h hb (ix2 r t) = ((P * ((∑ e, G e * V e) - δ) : ℝ) : EReal) := by
  have hm : FloatOps.matmul (DotDims.transposedRhs n E T) none g v (constant (M2 n T) .f32 0x00000000#32) (ix2 r t)
      = ((∑ e, G e * V e : ℝ) : EReal) := by
    refine (Ideal.matmul_transposedRhs_apply none g v _ r t).trans ?_
    rw [zero_const, zero_add, ← coe_sum_mul]
    exact Finset.sum_congr rfl fun e _ => congrArg₂ (· * ·) (hg e) (hv e)
  show p (ix2 r t) * (FloatOps.matmul (DotDims.transposedRhs n E T) none g v (constant (M2 n T) .f32 0x00000000#32) (ix2 r t)
    - broadcastTo (M2 n T) dl h (ix2 r t)) = _
  rw [hm, bcast_col, hp, hd, ← EReal.coe_sub, ← EReal.coe_mul]

theorem overRows_apply (x : FVec Ideal (M2 n T) .bf16) (y : FVec Ideal (M2 n E) .bf16) (t : Fin T) (e : Fin E) (X Y : Fin n → ℝ)
    (hx : ∀ r, x (ix2 r t) = (X r : EReal)) (hy : ∀ r, y (ix2 r e) = (Y r : EReal)) :
    overRows x y (ix2 t e) = ((∑ r, X r * Y r : ℝ) : EReal) := by
  refine (matmul_rows_apply none x y _ t e).trans ?_
  rw [zero_const, zero_add, ← coe_sum_mul]
  exact Finset.sum_congr rfl fun r _ => congrArg₂ (· * ·) (hx r) (hy r)

theorem overKeys_apply (ds : FVec Ideal (M2 n T) .bf16) (k : FVec Ideal (M2 T D) .bf16) (c : Ideal .f32) (r : Fin n) (d : Fin D)
    (X K : Fin T → ℝ) (C : ℝ) (hx : ∀ t, ds (ix2 r t) = (X t : EReal)) (hk : ∀ t, k (ix2 t d) = (K t : EReal)) (hc : c = (C : EReal)) :
    overKeys ds k c (ix2 r d) = (((∑ t, X t * K t) * C : ℝ) : EReal) := by
  have hm : FloatOps.matmul (DotDims.plain n T D) none ds k (constant (M2 n D) .f32 0x00000000#32) (ix2 r d)
      = ((∑ t, X t * K t : ℝ) : EReal) := by
    refine (Ideal.matmul_plain_apply none ds k _ r d).trans ?_
    rw [zero_const, zero_add, ← coe_sum_mul]
    exact Finset.sum_congr rfl fun t _ => congrArg₂ (· * ·) (hx t) (hk t)
  show FloatOps.matmul (DotDims.plain n T D) none ds k (constant (M2 n D) .f32 0x00000000#32) (ix2 r d) * c = _
  rw [hm, hc, ← EReal.coe_mul]

end

/-! ### Rows of an array -/

/-- `n` rows from row `a` lie inside an array of `R` rows. -/
theorem inRows {R C a n : ℕ} (h : a + n ≤ R) : ∀ k, (![a, 0] : Fin 2 → ℕ) k + (M2 n C).size k ≤ (M2 R C).size k := by
  intro k
  match k with
  | ⟨0, _⟩ => exact h
  | ⟨1, _⟩ => exact (Nat.zero_add _).le

/-- The same for a one-headed column. -/
theorem inRows3 {R a n : ℕ} (h : a + n ≤ R) : ∀ k, (![0, a, 0] : Fin 3 → ℕ) k + (M3 n).size k ≤ (M3 R).size k := by
  intro k
  match k with
  | ⟨0, _⟩ => exact le_rfl
  | ⟨1, _⟩ => exact h
  | ⟨2, _⟩ => exact le_rfl

/-- The rectangle of `n` rows from row `a`. -/
abbrev band (R C a n : ℕ) (h : a + n ≤ R) : Rect (M2 R C) := Rect.unit (s := M2 R C) ![a, 0] (M2 n C).size (inRows h)

/-- Rows `a … a + n` of a matrix. -/
def rows {R C : ℕ} {φ : EltTy} (x : Vec Ideal (M2 R C) φ) (a n : ℕ) (h : a + n ≤ R) : Vec Ideal (M2 n C) φ :=
  View.ld x (band R C a n h)

theorem rows_apply {R C : ℕ} {φ : EltTy} (x : Vec Ideal (M2 R C) φ) (a n : ℕ) (h : a + n ≤ R) (r : Fin n) (c : Fin C) :
    rows x a n h (ix2 r c) = x (ix2 ⟨a + r, by omega⟩ c) := by
  refine View.ld_unit_apply_of x ![a, 0] (M2 n C).size (inRows h) (ix2 r c) _ fun k => ?_
  match k with
  | ⟨0, _⟩ => rfl
  | ⟨1, _⟩ => exact (Nat.zero_add _).symm

/-- Rows `a … a + n` of a one-headed column, as a column. -/
def rows3 {R : ℕ} (x : Vec Ideal (M3 R) .f32) (a n : ℕ) (h : a + n ≤ R) (hc : (M3 n).ShapeCasts (M2 n 1)) : Vec Ideal (M2 n 1) .f32 :=
  shapeCast (M2 n 1) (View.ld x (Rect.unit (s := M3 R) ![0, a, 0] (M3 n).size (inRows3 h))) hc

theorem rows3_apply {R : ℕ} (x : Vec Ideal (M3 R) .f32) (a n : ℕ) (h : a + n ≤ R) (hc) (r : Fin n) :
    rows3 x a n h hc (ix2 r 0) = x (ix3 0 ⟨a + r, by omega⟩ 0) := by
  unfold rows3
  rw [cast_col]
  refine View.ld_unit_apply_of x ![0, a, 0] (M3 n).size (inRows3 h) (ix3 0 r 0) _ fun k => ?_
  match k with
  | ⟨0, _⟩ => rfl
  | ⟨1, _⟩ => rfl
  | ⟨2, _⟩ => rfl

/-! ### Stores of rows -/

/-- What an array holds after a store of `n` rows from row `a`: the stored rows there, what it held elsewhere. -/
theorem canon_rows {R C : ℕ} {φ : EltTy} (a n : ℕ) (h : a + n ≤ R)
    (w : Vec Ideal (M2 n C) φ) (L : List (View.Piece (Elt Ideal) (M2 R C) φ)) (i : Fin R) (d : Fin C) (z : Elt Ideal φ)
    (hw : ∀ r : Fin n, (i : ℕ) = a + r → w (ix2 r d) = z) (hL : ((i : ℕ) < a ∨ a + n ≤ i) → View.canon L (ix2 i d) = z) :
    View.canon (⟨band R C a n h, w⟩ :: L) (ix2 i d) = z := by
  by_cases hi : a ≤ (i : ℕ) ∧ (i : ℕ) < a + n
  · have e : (band R C a n h).emb (ix2 ⟨i - a, by omega⟩ d : (M2 n C).Idx) = ix2 i d := by
      funext k
      apply Fin.ext
      refine (Rect.idx_unit_val _ _ (inRows h) _ k).trans ?_
      match k with
      | ⟨0, _⟩ => show a + (i - a) = i; omega
      | ⟨1, _⟩ => exact Nat.zero_add _
    have hx : w (ix2 ⟨i - a, by omega⟩ d) = z := hw _ (by show (i : ℕ) = a + (i - a); omega)
    rw [← e]
    exact (View.canon_cons_emb (Val := Elt Ideal) (band R C a n h) w L _).trans hx
  · rw [View.canon_cons_of_not_mem]
    · exact hL (by omega)
    · intro hm
      obtain ⟨y, hy⟩ := LoadRect.exists_idx_of_mem _ hm
      apply hi
      have h0 := congrArg (fun z : (M2 R C).Idx => (z 0 : ℕ)) hy
      have h1 : (((band R C a n h).emb y) 0 : ℕ) = a + y 0 := Rect.idx_unit_val _ _ (inRows h) y 0
      have h2 : (y 0 : ℕ) < n := (y 0).isLt
      have h3 : a + (y 0 : ℕ) = i := h1.symm.trans h0
      omega

/-- A load of the rows a list of stores left. -/
def stored {R C : ℕ} {φ : EltTy} (L : List (View.Piece (Elt Ideal) (M2 R C) φ)) (a n : ℕ) (h : a + n ≤ R) : Vec Ideal (M2 n C) φ :=
  rows (View.canon L) a n h

theorem stored_apply {R C : ℕ} {φ : EltTy} (L : List (View.Piece (Elt Ideal) (M2 R C) φ)) (a n : ℕ) (h : a + n ≤ R) (r : Fin n) (c : Fin C) :
    stored L a n h (ix2 r c) = View.canon L (ix2 ⟨a + r, by omega⟩ c) := rows_apply _ a n h r c

/-! ### The two kinds of tile -/

section
variable {R U D E : ℕ} (x0 : Vec Ideal (M2 R D) .bf16) (x1 : Vec Ideal (M2 U D) .bf16) (x2 : Vec Ideal (M2 U E) .bf16)
  (x4 : Vec Ideal (M2 R E) .bf16) (dl : Vec Ideal (M2 R 1) .f32) (x5 : Vec Ideal (M3 R) .f32)

/-- The shapes' side conditions a tile of `n` rows and `T` keys takes. -/
structure TileOk (n T : ℕ) : Prop where
  bc : (M2 n 1).Broadcasts (M2 n T)
  cc : (M3 n).ShapeCasts (M2 n 1)

/-- Probabilities of rows `a … a + n` and keys `b … b + T`, all of them attended. -/
def pRest (a n b T : ℕ) (ha : a + n ≤ R) (hb : b + T ≤ U) (ok : TileOk n T) : FVec Ideal (M2 n T) .f32 :=
  probs (scores (rows x0 a n ha) (rows x1 b T hb)) (rows3 x5 a n ha ok.cc) ok.bc

/-- Probabilities of rows and keys `a … a + n`, attended on and below the diagonal. -/
def pDiag (mask : Ideal .f32) (a n : ℕ) (ha : a + n ≤ R) (hb : a + n ≤ U) (ok : TileOk n n) (h0 : (M2 n n).Iotas .tc 32 [0]) (h1 : (M2 n n).Iotas .tc 32 [1]) :
    FVec Ideal (M2 n n) .f32 :=
  probs (causal (scores (rows x0 a n ha) (rows x1 a n hb)) mask h0 h1) (rows3 x5 a n ha ok.cc) ok.bc

/-- The gradient of the scores of rows `a … a + n` and keys `b … b + T` from their probabilities. -/
def dsTile (a n b T : ℕ) (p : FVec Ideal (M2 n T) .f32) (ha : a + n ≤ R) (hb : b + T ≤ U) (ok : TileOk n T) (ht : FTy.bits .bf16 < FTy.bits .f32) :
    FVec Ideal (M2 n T) .bf16 :=
  grads p (rows x4 a n ha) (rows x2 b T hb) (rows dl a n ha) ok.bc ht

end

/-! ### Sums over rows -/

/-- A sum over all rows of a function that is zero below row `a`, as the sums over two runs of rows. -/
theorem sum_two (f : ℕ → ℝ) (a n m R : ℕ) (hR : a + n + m = R) (h0 : ∀ i, i < a → f i = 0) :
    (∑ r : Fin n, f (a + r)) + (∑ r : Fin m, f (a + n + r)) = ∑ i : Fin R, f i := by
  subst hR
  rw [Finset.sum_range (fun i => f i) |>.symm, ← Finset.sum_range (fun r => f (a + r)), ← Finset.sum_range (fun r => f (a + n + r)),
    Finset.sum_range_add f (a + n) m, Finset.sum_range_add f a n, Finset.sum_eq_zero (s := Finset.range a) (fun i hi => h0 i (Finset.mem_range.1 hi)), zero_add]

end Attn

end
-- ==== Proof.Products.lean ====
/- Plain products over the extended reals, entry by entry, and what the modules on the plain products share. -/
module

public import proofs.«01_k».proof.Proof.Tiles
public import Idealize.ShloMosaic.Lib.Pipeline.ValueKit
public import Idealize.ShloMosaic.Lib.MatmulPlain

@[expose] public section

set_option maxRecDepth 16384

noncomputable section

namespace Products

open Idealize.ShloMosaic Idealize.ShloMosaic.TcCoe Idealize.SL.Sem Attn

/-- An index of a matrix, by its two coordinates. -/
theorem idx2 {n0 n1 : ℕ} (f : (M2 n0 n1).Idx) (a : Fin n0) (b : Fin n1) (h0 : (f 0 : ℕ) = a) (h1 : (f 1 : ℕ) = b) :
    f = ix2 a b := by
  rw [eq_ix2 f]; exact congrArg₂ ix2 (Fin.ext h0) (Fin.ext h1)

/-- An index of a stack of matrices, by its three coordinates. -/
theorem idx3 {n0 n1 n2 : ℕ} (f : (⟨3, ![n0, n1, n2]⟩ : Shape).Idx) (a : Fin n0) (b : Fin n1) (c : Fin n2)
    (h0 : (f 0 : ℕ) = a) (h1 : (f 1 : ℕ) = b) (h2 : (f 2 : ℕ) = c) : f = ix3 a b c := by
  rw [eq_ix3 f]; obtain rfl := Fin.ext h0; obtain rfl := Fin.ext h1; obtain rfl := Fin.ext h2; rfl

variable {M K N : ℕ} {φ₁ φ₂ : FTy}

/-- A product with the second factor transposed. -/
theorem nt (lhs : FVec Ideal (M2 M K) φ₁) (rhs : FVec Ideal (M2 N K) φ₂) (r : Fin M) (c : Fin N) :
    FloatOps.matmul (DotDims.transposedRhs M K N) none lhs rhs (constant (M2 M N) .f32 0x00000000#32) (ix2 r c)
      = ∑ k : Fin K, lhs (ix2 r k) * rhs (ix2 c k) := by
  refine (Ideal.matmul_transposedRhs_apply none lhs rhs _ r c).trans ?_
  rw [zero_const, zero_add]; rfl

/-- A product with neither factor transposed. -/
theorem nn (lhs : FVec Ideal (M2 M K) φ₁) (rhs : FVec Ideal (M2 K N) φ₂) (r : Fin M) (c : Fin N) :
    FloatOps.matmul (DotDims.plain M K N) none lhs rhs (constant (M2 M N) .f32 0x00000000#32) (ix2 r c)
      = ∑ k : Fin K, lhs (ix2 r k) * rhs (ix2 k c) := by
  refine (Ideal.matmul_plain_apply none lhs rhs _ r c).trans ?_
  rw [zero_const, zero_add]; rfl

/-- A product with the first factor transposed. -/
theorem tn (lhs : FVec Ideal (M2 K M) φ₁) (rhs : FVec Ideal (M2 K N) φ₂) (r : Fin M) (c : Fin N) :
    FloatOps.matmul (rowsDims K M N) none lhs rhs (constant (M2 M N) .f32 0x00000000#32) (ix2 r c)
      = ∑ k : Fin K, lhs (ix2 k r) * rhs (ix2 k c) := by
  rw [matmul_rows_apply, zero_const, zero_add]

theorem two_lit : Ideal.ofBits .f32 0x40000000#32 = 2 := by
  simp [Ideal.ofBits, Ideal.ieee, -EReal.coe_mul]; norm_num; norm_cast

theorem zero_bf16 : Ideal.ofBits .bf16 0x0000#16 = 0 := by
  simp [Ideal.ofBits, Ideal.ieee, -EReal.coe_mul]

/-- The squared positive part. -/
def sqPos (a : EReal) : EReal := max a 0 * max a 0

/-- Row `k` of the span `s` of 2048 rows. -/
def spanRow (s : Fin 4) (k : Fin 2048) : Fin 8192 := ⟨s * 2048 + k, by omega⟩

/-- The four spans make up all rows. -/
theorem sum_spans (f : Fin 8192 → EReal) : ∑ s : Fin 4, ∑ k : Fin 2048, f (spanRow s k) = ∑ l, f l :=
  Fin.sum_mul_add_fin 4 2048 f rfl

/-- A column of the one against a column of the other, over all rows. -/
def colDot {M N : ℕ} (x : (M2 8192 M).Idx → EReal) (y : (M2 8192 N).Idx → EReal) (i : Fin M) (j : Fin N) : EReal :=
  ∑ k : Fin 8192, x (ix2 k i) * y (ix2 k j)

end Products

end
-- ==== Proof.Da1.lean ====
/- The gradient of the feed-forward network's hidden layer: each block of the kernel's result is the reference's. -/
module

public import proofs.«01_k».proof.Proof.Products
public import proofs.«01_k».proof.Proof.Gen.Kernel2Ideal.Value
public import proofs.«01_k».proof.Proof.Gen.Reference2Ideal.Read

@[expose] public section

set_option maxRecDepth 16384

noncomputable section

namespace Cert.Kernel2Ideal.Da1

open Idealize.ShloMosaic Idealize.ShloMosaic.TcCoe Idealize.SL.Sem Cert.Kernel2Ideal Cert.Kernel2Ideal.Gen Attn
open Products

/-- One entry of the result: the product's entry times the derivative of the squared positive part. -/
def entry (dot a : EReal) : EReal := dot * (2 * max a 0)

/-- What the body leaves, entry by entry: the product over the 1024 columns, times the derivative. -/
theorem pay (x0 : Vec Ideal S2048x1024 .bf16) (x1 : Vec Ideal S1024x1024 .bf16) (x2 : Vec Ideal S2048x1024 .bf16) (i : Fin 2048) (d : Fin 1024) :
    k0_pay1 (F := Ideal) x0 x1 x2 (ix2 i d) = entry (∑ k : Fin 1024, x0 (ix2 i k) * x1 (ix2 d k)) (x2 (ix2 i d)) := by
  unfold k0_pay1
  rw [shapeCast_self, shapeCast_self, shapeCast_self]
  show FloatOps.matmul (DotDims.transposedRhs 2048 1024 1024) none x0 x1 _ (ix2 i d) * (Ideal.ofBits .f32 0x40000000#32 * max (x2 (ix2 i d)) (Ideal.ofBits .f32 0x00000000#32)) = _
  rw [Ideal.ofBits_zero_f32, two_lit, entry]
  exact congrArg (· * _) (nt (M := 2048) (K := 1024) (N := 1024) x0 x1 i d)

theorem blockOut (x0 : Vec Ideal S2048x1024 .bf16) (x1 : Vec Ideal S1024x1024 .bf16) (x2 : Vec Ideal S2048x1024 .bf16) :
    out0_3 x0 x1 x2 = k0_pay1 x0 x1 x2 := by
  frame_out

variable (m : (ℓ : Loc nD τ sig) → Buf (Elt Ideal) ℓ) (c : Dev nD)

theorem V_dy : V m c main_v0 = (m ((c : Thread nD τ).loc main_arg2) : FVec Ideal S8192x1024 .f32) := by
  dsimp only [V, hostOps0, List.flatten_cons, List.flatten_nil, List.cons_append, List.nil_append]
  after_results_simp <;> rfl

theorem V_w : V m c main_v1 = (m ((c : Thread nD τ).loc main_arg1) : FVec Ideal S4096x1024 .f32) := by
  dsimp only [V, hostOps0, List.flatten_cons, List.flatten_nil, List.cons_append, List.nil_append]
  after_results_simp <;> rfl

theorem V_a : V m c main_v2 = (m ((c : Thread nD τ).loc main_arg0) : FVec Ideal S8192x4096 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩
/-- The columns of the block at a grid point. -/
def col (t : Fin cfg0.N) (d : Fin 1024) : Fin 4096 := ⟨1024 * (grid0.coords t 1 : ℕ) + d, by have := (grid0.coords t 1).isLt; have := d.isLt; change _ < 4 at *; omega⟩

theorem index0 : ∀ t : Fin grid0.N, win0_0.index t 0 = (grid0.coords t 0 : ℕ) ∧ win0_0.index t 1 = 0 := by decide +kernel
theorem index1 : ∀ t : Fin grid0.N, win0_1.index t 0 = (grid0.coords t 1 : ℕ) ∧ win0_1.index t 1 = 0 := by decide +kernel
theorem index2 : ∀ t : Fin grid0.N, win0_2.index t 0 = (grid0.coords t 0 : ℕ) ∧ win0_2.index t 1 = (grid0.coords t 1 : ℕ) := by decide +kernel
theorem index3 : ∀ t : Fin grid0.N, win0_3.index t 0 = (grid0.coords t 0 : ℕ) ∧ win0_3.index t 1 = (grid0.coords t 1 : ℕ) := by decide +kernel

theorem block0 (t : Fin cfg0.N) (i : Fin 2048) (k : Fin 1024) :
    iblk m c 0 t (ix2 i k) = (m ((c : Thread nD τ).loc main_arg2) : FVec Ideal S8192x1024 .f32) (ix2 (row t i) k) := by
  rw [← V_dy m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 1024) (k : Fin 1024) :
    iblk m c 1 t (ix2 i k) = (m ((c : Thread nD τ).loc main_arg1) : FVec Ideal S4096x1024 .f32) (ix2 (col t i) k) := by
  rw [← V_w m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; show _ * 1024 + _ = _; simp only [col]; rw [mul_comm]; rfl
  · show ((win0_1.rect t).emb (ix2 i k) 1 : ℕ) = _
    rw [Pipeline.Window.rect_emb_val win0_1 t, (index1 t).2]; simp

theorem block2 (t : Fin cfg0.N) (i : Fin 2048) (k : Fin 1024) :
    iblk m c 2 t (ix2 i k) = (m ((c : Thread nD τ).loc main_arg0) : FVec Ideal S8192x4096 .f32) (ix2 (row t i) (col t k)) := by
  rw [← V_a m c]
  show V m c main_v2 ((win0_2.blk t).view.emb (ix2 i k)) = _
  congr 1
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; show _ * 1024 + _ = _; simp only [col]; rw [mul_comm]; rfl

theorem emb3 (t : Fin cfg0.N) (i : Fin 2048) (k : Fin 1024) : (win0_3.blk t).view.emb (ix2 i k) = ix2 (row t i) (col t k) := by
  refine idx2 _ _ _ ?_ ?_
  · show ((win0_3.rect t).emb (ix2 i k) 0 : ℕ) = _
    rw [Pipeline.Window.rect_emb_val win0_3 t, (index3 t).1]; show _ * 2048 + _ = _; simp only [row]; rw [mul_comm]; rfl
  · show ((win0_3.rect t).emb (ix2 i k) 1 : ℕ) = _
    rw [Pipeline.Window.rect_emb_val win0_3 t, (index3 t).2]; show _ * 1024 + _ = _; simp only [col]; rw [mul_comm]; rfl

open Cert.Reference2Ideal.Read in
/-- The reference's entry. Where the hidden value is not positive both sides are zero. -/
theorem ref (x0 : FVec Ideal S8192x4096 .f32) (x1 : FVec Ideal S4096x1024 .f32) (x2 : FVec Ideal S8192x1024 .f32) (i : Fin 8192) (d : Fin 4096) :
    val_main_v12 (F := Ideal) x0 x1 x2 (ix2 i d) = entry (∑ k : Fin 1024, x2 (ix2 i k) * x1 (ix2 d k)) (x0 (ix2 i d)) := by
  rw [val_main_v12_apply, val_main_v11_apply]
  rw [val_main_v9_apply, val_main_v8_apply, val_main_v6_apply, val_main_v5_apply, val_main_cst_1_apply, val_main_v0_apply, val_main_call0_v0_apply, val_main_call0_cst_apply, val_main_v2_apply, val_main_v1_apply, val_main_cst_apply, val_main_v10_apply, val_main_cst_2_apply]
  simp only [pointwise]
  rw [two_lit, entry]
  have e : ∀ k, x2 (lidx_main_v8 (ix2 i d) k) * x1 (ridx_main_v8 (ix2 i d) k) = x2 (ix2 i k) * x1 (ix2 d k) := fun k => by
    rw [idx2 (lidx_main_v8 (ix2 i d) k) i k rfl rfl, idx2 (ridx_main_v8 (ix2 i d) k) d k rfl rfl]
  simp only [e]
  split_ifs with h
  · rfl
  · rw [max_eq_right (not_lt.mp h), mul_zero, mul_zero]

theorem array : (dats m 0 c).arrAt 3 cfg0.N = Cert.Reference2Ideal.Read.val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  obtain ⟨i, d, rfl⟩ : ∃ (i : Fin 2048) (d : Fin 1024), y = ix2 i d := ⟨y 0, y 1, eq_ix2 y⟩
  rw [emb3, after0_3]
  dsimp only
  rw [blockOut, pay, ref]
  simp only [block0, block1, block2]

end Cert.Kernel2Ideal.Da1

end
-- ==== Proof.DFf2.lean ====
/- The gradient of the feed-forward network's second matrix: the kernel sums the rows in four spans of 2048 in its
   accumulator; over the extended reals that is the reference's sum over all 8192 rows. -/
module

public import proofs.«01_k».proof.Proof.Products
public import proofs.«01_k».proof.Proof.Gen.Kernel3Ideal.Value
public import proofs.«01_k».proof.Proof.Gen.Reference3Ideal.Read

@[expose] public section

set_option maxRecDepth 16384

noncomputable section

namespace Cert.Kernel3Ideal.DFf2

open Idealize.ShloMosaic Idealize.ShloMosaic.TcCoe Idealize.SL.Sem Cert.Kernel3Ideal Cert.Kernel3Ideal.Gen Attn Products

/-- One span's share of one entry. -/
def part (x0 x1 : Vec Ideal S2048x1024 .bf16) (i d : Fin 1024) : EReal := ∑ k : Fin 2048, sqPos (x0 (ix2 k i)) * x1 (ix2 k d)

theorem pay1 (x0 x1 : Vec Ideal S2048x1024 .bf16) (i d : Fin 1024) : k0_pay1 (F := Ideal) x0 x1 (ix2 i d) = part x0 x1 i d := by
  unfold k0_pay1
  rw [shapeCast_self, shapeCast_self]
  refine (tn (K := 2048) (M := 1024) (N := 1024) (φ₁ := .bf16) (φ₂ := .bf16) _ x1 i d).trans ?_
  refine Finset.sum_congr rfl fun k _ => congrArg (· * _) ?_
  show max (x0 (ix2 k i)) (Ideal.ofBits .bf16 0x0000#16) * max (x0 (ix2 k i)) (Ideal.ofBits .bf16 0x0000#16) = _
  rw [zero_bf16, sqPos]

variable (m : (ℓ : Loc nD τ sig) → Buf (Elt Ideal) ℓ) (c : Dev nD)

/-- The accumulator after the first span. -/
theorem accA (t : Fin cfg0.N) (h : t.val % 4 = 0) (i d : Fin 1024) :
    (outsAt0 m c t.val t.isLt).2 (ix2 i d) = 0 + part (iblk m c 0 t) (iblk m c 1 t) i d := by
  rw [outsAt0_A m c t h (by omega) (by omega)]
  frame_out
  unfold k0_pay2
  rw [shapeCast_self, pay1, zero_add]

/-- The accumulator after a later span. -/
theorem accB (t : Fin cfg0.N) (h : ¬t.val % 4 = 0) (i d : Fin 1024) :
    (outsAt0 m c t.val t.isLt).2 (ix2 i d) = (outsAt0 m c (t.val - 1) (Nat.lt_of_le_of_lt (Nat.sub_le _ _) t.isLt)).2 (ix2 i d) + part (iblk m c 0 t) (iblk m c 1 t) i d := by
  by_cases h3 : t.val % 4 = 3
  · rw [outsAt0_C m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)
  · rw [outsAt0_B m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)

/-- What a block's last grid point writes back is its accumulator. -/
theorem last (t : Fin cfg0.N) (h3 : t.val % 4 = 3) (i d : Fin 1024) :
    (outsAt0 m c t.val t.isLt).1 (ix2 i d) = (outsAt0 m c t.val t.isLt).2 (ix2 i d) := by
  rw [outsAt0_C m c t (by omega) (by omega) h3]
  frame_out
  rfl

/-- The accumulator at a block's last grid point: the four spans' shares. -/
theorem spans (t : Fin cfg0.N) (h3 : t.val % 4 = 3) (i d : Fin 1024) :
    (outsAt0 m c t.val t.isLt).2 (ix2 i d)
      = 0 + ∑ s : Fin 4, part (iblk m c 0 ⟨4 * (t.val / 4) + s.val, Pipeline.run_point_lt_of_flush t h3 s⟩) (iblk m c 1 ⟨4 * (t.val / 4) + s.val, Pipeline.run_point_lt_of_flush t h3 s⟩) i d :=
  Pipeline.eq_sum_fin_of_reset_step_of_flush (fun n h => (outsAt0 m c n h).2 (ix2 i d)) 4 0 (fun t => part (iblk m c 0 t) (iblk m c 1 t) i d)
    (fun t h => accA m c t h i d) (fun t h => accB m c t h i d) t h3

theorem V_a : V m c main_v0 = (m ((c : Thread nD τ).loc main_arg0) : FVec Ideal S8192x4096 .f32) := by
  dsimp only [V, hostOps0, List.flatten_cons, List.flatten_nil, List.cons_append, List.nil_append]
  after_results_simp <;> rfl

theorem V_dy : V m c main_v1 = (m ((c : Thread nD τ).loc main_arg2) : FVec Ideal S8192x1024 .f32) := by
  dsimp only [V, hostOps0, List.flatten_cons, List.flatten_nil, List.cons_append, List.nil_append]
  after_results_simp <;> rfl

theorem index0 : ∀ t : Fin grid0.N, win0_0.index t 0 = (t : ℕ) % 4 ∧ win0_0.index t 1 = (t : ℕ) / 4 := by decide +kernel
theorem index1 : ∀ t : Fin grid0.N, win0_1.index t 0 = (t : ℕ) % 4 ∧ win0_1.index t 1 = 0 := by decide +kernel
theorem index2 : ∀ t : Fin grid0.N, win0_2.index t 0 = (t : ℕ) / 4 ∧ win0_2.index t 1 = 0 := by decide +kernel

/-- The rows of the result a grid point works on. -/
def row (t : Fin cfg0.N) (i : Fin 1024) : Fin 4096 := ⟨t / 4 * 1024 + i, by have h : (t : ℕ) < 16 := lt_of_lt_of_eq t.isLt N_0; omega⟩

theorem block0 (t u : Fin cfg0.N) (s : Fin 4) (hs : (u : ℕ) % 4 = s) (hq : (u : ℕ) / 4 = t / 4) (k : Fin 2048) (i : Fin 1024) :
    iblk m c 0 u (ix2 k i) = (m ((c : Thread nD τ).loc main_arg0) : FVec Ideal S8192x4096 .f32) (ix2 (spanRow s k) (row t i)) := by
  rw [← V_a m c]
  show V m c main_v0 ((win0_0.blk u).view.emb (ix2 k i)) = _
  congr 1
  refine idx2 _ _ _ ?_ ?_
  · show ((win0_0.rect u).emb (ix2 k i) 0 : ℕ) = _
    rw [Pipeline.Window.rect_emb_val win0_0 u, (index0 u).1, hs]; rfl
  · show ((win0_0.rect u).emb (ix2 k i) 1 : ℕ) = _
    rw [Pipeline.Window.rect_emb_val win0_0 u, (index0 u).2, hq]; rfl

theorem block1 (u : Fin cfg0.N) (s : Fin 4) (hs : (u : ℕ) % 4 = s) (k : Fin 2048) (d : Fin 1024) :
    iblk m c 1 u (ix2 k d) = (m ((c : Thread nD τ).loc main_arg2) : FVec Ideal S8192x1024 .f32) (ix2 (spanRow s k) d) := by
  rw [← V_dy m c]
  show V m c main_v1 ((win0_1.blk u).view.emb (ix2 k d)) = _
  congr 1
  refine idx2 _ _ _ ?_ ?_
  · show ((win0_1.rect u).emb (ix2 k d) 0 : ℕ) = _
    rw [Pipeline.Window.rect_emb_val win0_1 u, (index1 u).1, hs]; rfl
  · show ((win0_1.rect u).emb (ix2 k d) 1 : ℕ) = _
    rw [Pipeline.Window.rect_emb_val win0_1 u, (index1 u).2]; simp

theorem emb2 (t : Fin cfg0.N) (i d : Fin 1024) : (win0_2.blk t).view.emb (ix2 i d) = ix2 (row t i) d := by
  refine idx2 _ _ _ ?_ ?_
  · show ((win0_2.rect t).emb (ix2 i d) 0 : ℕ) = _
    rw [Pipeline.Window.rect_emb_val win0_2 t, (index2 t).1]; rfl
  · show ((win0_2.rect t).emb (ix2 i d) 1 : ℕ) = _
    rw [Pipeline.Window.rect_emb_val win0_2 t, (index2 t).2]; simp

open Cert.Reference3Ideal.Read in
/-- The reference's entry: the sum over all rows. -/
theorem ref (x0 : FVec Ideal S8192x4096 .f32) (x2 : FVec Ideal S8192x1024 .f32) (i : Fin 4096) (d : Fin 1024) :
    val_main_v5 (F := Ideal) x0 x2 (ix2 i d) = ∑ k : Fin 8192, sqPos (x0 (ix2 k i)) * x2 (ix2 k d) := by
  rw [val_main_v5_apply, val_main_v4_apply, idx2 (idx_main_v4 (ix2 i d)) d i rfl rfl, val_main_v3_apply]
  refine Finset.sum_congr rfl fun k _ => ?_
  rw [idx2 (lidx_main_v3 (ix2 d i) k) k d rfl rfl, idx2 (ridx_main_v3 (ix2 d i) k) k i rfl rfl, val_main_v1_apply, val_main_v0_apply,
    val_main_call0_v0_apply, val_main_call0_cst_apply, mul_comm]
  simp only [pointwise]
  rfl

/-- What a block's last grid point writes back, entry by entry. -/
theorem entry (t : Fin cfg0.N) (h3 : t.val % 4 = 3) (i d : Fin 1024) :
    (outsAt0 m c t.val t.isLt).1 (ix2 i d)
      = ∑ k : Fin 8192, sqPos ((m ((c : Thread nD τ).loc main_arg0) : FVec Ideal S8192x4096 .f32) (ix2 k (row t i))) * (m ((c : Thread nD τ).loc main_arg2) : FVec Ideal S8192x1024 .f32) (ix2 k d) := by
  rw [last m c t h3, spans m c t h3, zero_add, ← sum_spans]
  refine Finset.sum_congr rfl fun s _ => Finset.sum_congr rfl fun k _ => ?_
  have hs := s.isLt
  rw [block0 m c t _ s (by dsimp only; omega) (by dsimp only; omega), block1 m c _ s (by dsimp only; omega)]

/-- The kernel's result is the reference's. -/
theorem array : (dats m 0 c).arrAt 2 cfg0.N = Cert.Reference3Ideal.Read.val_main_v5 (F := Ideal) (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  obtain ⟨i, d, rfl⟩ : ∃ (i : Fin 1024) (d : Fin 1024), y = ix2 i d := ⟨y 0, y 1, eq_ix2 y⟩
  rw [emb2, after0_2]
  dsimp only
  rw [entry m c t h3, ref]

end Cert.Kernel3Ideal.DFf2

end
-- ==== Proof.DFf1.lean ====
/- The gradient of the feed-forward network's first matrix, in eight column shards: the kernel sums the rows in four spans of
   2048 in its accumulator, and writes the two halves of the accumulator's columns as two shards. -/
module

public import proofs.«01_k».proof.Proof.Products
public import proofs.«01_k».proof.Proof.Gen.Kernel4Ideal.Value
public import proofs.«01_k».proof.Proof.Gen.Reference4Ideal.Read

@[expose] public section

set_option maxRecDepth 16384

noncomputable section

namespace Cert.Kernel4Ideal.DFf1

open Idealize.ShloMosaic Idealize.ShloMosaic.TcCoe Idealize.SL.Sem Cert.Kernel4Ideal Cert.Kernel4Ideal.Gen Attn Products

/-- One span's share of one entry. -/
def part (x0 x1 : Vec Ideal S2048x1024 .bf16) (i d : Fin 1024) : EReal := ∑ k : Fin 2048, x0 (ix2 k i) * x1 (ix2 k d)

theorem pay1 (x0 x1 : Vec Ideal S2048x1024 .bf16) (i d : Fin 1024) : k0_pay1 (F := Ideal) x0 x1 (ix2 i d) = part x0 x1 i d := by
  unfold k0_pay1
  rw [shapeCast_self, shapeCast_self]
  exact tn (K := 2048) (M := 1024) (N := 1024) (φ₁ := .bf16) (φ₂ := .bf16) x0 x1 i d

variable (m : (ℓ : Loc nD τ sig) → Buf (Elt Ideal) ℓ) (c : Dev nD)

/-- The accumulator after the first span. -/
theorem accA (t : Fin cfg0.N) (h : t.val % 4 = 0) (i d : Fin 1024) :
    (outsAt0 m c t.val t.isLt).2 (ix2 i d) = 0 + part (iblk m c 0 t) (iblk m c 1 t) i d := by
  rw [outsAt0_A m c t h (by omega) (by omega)]
  frame_out
  unfold k0_pay2
  rw [shapeCast_self, pay1, zero_add]

/-- The accumulator after a later span. -/
theorem accB (t : Fin cfg0.N) (h : ¬t.val % 4 = 0) (i d : Fin 1024) :
    (outsAt0 m c t.val t.isLt).2 (ix2 i d) = (outsAt0 m c (t.val - 1) (Nat.lt_of_le_of_lt (Nat.sub_le _ _) t.isLt)).2 (ix2 i d) + part (iblk m c 0 t) (iblk m c 1 t) i d := by
  by_cases h3 : t.val % 4 = 3
  · rw [outsAt0_C m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)
  · rw [outsAt0_B m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)

theorem pay4 (x : Vec Ideal S1024x1024 .f32) (i : Fin 1024) (d : Fin 512) :
    k0_pay4 (F := Ideal) x (ix3 0 i d) = x (ix2 i ⟨d, by omega⟩) := by
  unfold k0_pay4
  refine (shapeCast_apply _ _ _ (ix2 i d) ?_).trans ?_
  · rw [Shape.rowMajor_val_two, Shape.rowMajor_val_three]; simp [ix2, ix3]
  · show x _ = x _
    exact congrArg x (idx2 _ _ _ (Nat.zero_add _) (Nat.zero_add _))

theorem pay5 (x : Vec Ideal S1024x1024 .f32) (i : Fin 1024) (d : Fin 512) :
    k0_pay5 (F := Ideal) x (ix3 0 i d) = x (ix2 i ⟨512 + d, by omega⟩) := by
  unfold k0_pay5
  refine (shapeCast_apply _ _ _ (ix2 i d) ?_).trans ?_
  · rw [Shape.rowMajor_val_two, Shape.rowMajor_val_three]; simp [ix2, ix3]
  · show x _ = x _
    exact congrArg x (idx2 _ _ _ (Nat.zero_add _) rfl)

/-- The column of the accumulator that is column `d` of the shard `s`. -/
def lane (s : Fin 2) (d : Fin 512) : Fin 1024 := ⟨512 * s + d, by omega⟩

/-- What a block's last grid point writes back is its accumulator. -/
theorem last (t : Fin cfg0.N) (h3 : t.val % 4 = 3) (s : Fin 2) (i : Fin 1024) (d : Fin 512) :
    (outsAt0 m c t.val t.isLt).1 (ix3 s i d) = (outsAt0 m c t.val t.isLt).2 (ix2 i (lane s d)) := by
  rw [outsAt0_C m c t (by omega) (by omega) h3]
  frame_out
  generalize k0_pay3 (F := Ideal) _ _ _ = z
  have hd := d.isLt
  canon_tiles x h
  · obtain ⟨a, i', d', rfl⟩ : ∃ (a : Fin 1) (i' : Fin 1024) (d' : Fin 512), x = ix3 a i' d' := ⟨x 0, x 1, x 2, eq_ix3 x⟩
    obtain rfl := Subsingleton.elim a 0
    rw [pay5]
    refine congrArg z (congrArg₂ ix2 (Fin.ext ?_) (Fin.ext ?_)) <;> simp only [ix3, lane] at * <;> omega
  · obtain ⟨a, i', d', rfl⟩ : ∃ (a : Fin 1) (i' : Fin 1024) (d' : Fin 512), x = ix3 a i' d' := ⟨x 0, x 1, x 2, eq_ix3 x⟩
    obtain rfl := Subsingleton.elim a 0
    rw [pay4]
    refine congrArg z (congrArg₂ ix2 (Fin.ext ?_) (Fin.ext ?_)) <;> simp only [ix3, lane] at * <;> omega

/-- The accumulator at a block's last grid point: the four spans' shares. -/
theorem spans (t : Fin cfg0.N) (h3 : t.val % 4 = 3) (i d : Fin 1024) :
    (outsAt0 m c t.val t.isLt).2 (ix2 i d)
      = 0 + ∑ s : Fin 4, part (iblk m c 0 ⟨4 * (t.val / 4) + s.val, Pipeline.run_point_lt_of_flush t h3 s⟩) (iblk m c 1 ⟨4 * (t.val / 4) + s.val, Pipeline.run_point_lt_of_flush t h3 s⟩) i d :=
  Pipeline.eq_sum_fin_of_reset_step_of_flush (fun n h => (outsAt0 m c n h).2 (ix2 i d)) 4 0 (fun t => part (iblk m c 0 t) (iblk m c 1 t) i d)
    (fun t h => accA m c t h i d) (fun t h => accB m c t h i d) t h3

theorem V_h : V m c main_v0 = (m ((c : Thread nD τ).loc main_arg0) : FVec Ideal S8192x1024 .f32) := by
  dsimp only [V, hostOps0, List.flatten_cons, List.flatten_nil, List.cons_append, List.nil_append]
  after_results_simp <;> rfl

theorem V_da : V m c main_v1 = (m ((c : Thread nD τ).loc main_arg2) : FVec Ideal S8192x4096 .f32) := by
  dsimp only [V, hostOps0, List.flatten_cons, List.flatten_nil, List.cons_append, List.nil_append]
  after_results_simp <;> rfl

theorem index0 : ∀ t : Fin grid0.N, win0_0.index t 0 = (t : ℕ) % 4 ∧ win0_0.index t 1 = 0 := by decide +kernel
theorem index1 : ∀ t : Fin grid0.N, win0_1.index t 0 = (t : ℕ) % 4 ∧ win0_1.index t 1 = (t : ℕ) / 4 := by decide +kernel
theorem index2 : ∀ t : Fin grid0.N, win0_2.index t 0 = (t : ℕ) / 4 ∧ win0_2.index t 1 = 0 ∧ win0_2.index t 2 = 0 := by decide +kernel

/-- The columns of the second factor a grid point works on. -/
def col (t : Fin cfg0.N) (i : Fin 1024) : Fin 4096 := ⟨t / 4 * 1024 + i, by have h : (t : ℕ) < 16 := lt_of_lt_of_eq t.isLt N_0; omega⟩
/-- The shards a grid point writes. -/
def shard (t : Fin cfg0.N) (s : Fin 2) : Fin 8 := ⟨t / 4 * 2 + s, by have h : (t : ℕ) < 16 := lt_of_lt_of_eq t.isLt N_0; omega⟩
/-- The column of the whole matrix that is column `d` of the shard `s`. -/
def column (s : Fin 8) (d : Fin 512) : Fin 4096 := ⟨512 * s + d, by omega⟩

theorem block0 (u : Fin cfg0.N) (s : Fin 4) (hs : (u : ℕ) % 4 = s) (k : Fin 2048) (i : Fin 1024) :
    iblk m c 0 u (ix2 k i) = (m ((c : Thread nD τ).loc main_arg0) : FVec Ideal S8192x1024 .f32) (ix2 (spanRow s k) i) := by
  rw [← V_h m c]
  show V m c main_v0 ((win0_0.blk u).view.emb (ix2 k i)) = _
  congr 1
  refine idx2 _ _ _ ?_ ?_
  · show ((win0_0.rect u).emb (ix2 k i) 0 : ℕ) = _
    rw [Pipeline.Window.rect_emb_val win0_0 u, (index0 u).1, hs]; rfl
  · show ((win0_0.rect u).emb (ix2 k i) 1 : ℕ) = _
    rw [Pipeline.Window.rect_emb_val win0_0 u, (index0 u).2]; simp

theorem block1 (t u : Fin cfg0.N) (s : Fin 4) (hs : (u : ℕ) % 4 = s) (hq : (u : ℕ) / 4 = t / 4) (k : Fin 2048) (d : Fin 1024) :
    iblk m c 1 u (ix2 k d) = (m ((c : Thread nD τ).loc main_arg2) : FVec Ideal S8192x4096 .f32) (ix2 (spanRow s k) (col t d)) := by
  rw [← V_da m c]
  show V m c main_v1 ((win0_1.blk u).view.emb (ix2 k d)) = _
  congr 1
  refine idx2 _ _ _ ?_ ?_
  · show ((win0_1.rect u).emb (ix2 k d) 0 : ℕ) = _
    rw [Pipeline.Window.rect_emb_val win0_1 u, (index1 u).1, hs]; rfl
  · show ((win0_1.rect u).emb (ix2 k d) 1 : ℕ) = _
    rw [Pipeline.Window.rect_emb_val win0_1 u, (index1 u).2, hq]; rfl

theorem emb2 (t : Fin cfg0.N) (s : Fin 2) (i : Fin 1024) (d : Fin 512) : (win0_2.blk t).view.emb (ix3 s i d) = ix3 (shard t s) i d := by
  refine idx3 _ _ _ _ ?_ ?_ ?_
  · show ((win0_2.rect t).emb (ix3 s i d) 0 : ℕ) = _
    rw [Pipeline.Window.rect_emb_val win0_2 t, (index2 t).1]; rfl
  · show ((win0_2.rect t).emb (ix3 s i d) 1 : ℕ) = _
    rw [Pipeline.Window.rect_emb_val win0_2 t, (index2 t).2.1]; simp
  · show ((win0_2.rect t).emb (ix3 s i d) 2 : ℕ) = _
    rw [Pipeline.Window.rect_emb_val win0_2 t, (index2 t).2.2]; simp

open Cert.Reference4Ideal.Read in
/-- The reference's entry: the sum over all rows. -/
theorem ref (x0 : FVec Ideal S8192x1024 .f32) (x2 : FVec Ideal S8192x4096 .f32) (s : Fin 8) (i : Fin 1024) (d : Fin 512) :
    val_main_v5 (F := Ideal) x0 x2 (ix3 s i d) = colDot x0 x2 i (column s d) := by
  rw [val_main_v5_apply, val_main_v4_apply, val_main_v3_apply,
    idx2 (idx_main_v3 (idx_main_v4 (ix3 s i d))) i (column s d)
      (show (((i : ℕ) * 8 + s) * 512 + d) / 4096 = i by omega) (show (((i : ℕ) * 8 + s) * 512 + d) % 4096 = 512 * s + d by omega), val_main_v2_apply,
    idx2 (idx_main_v2 (ix2 i (column s d))) (column s d) i rfl rfl, val_main_v1_apply]
  refine Finset.sum_congr rfl fun k _ => ?_
  rw [idx2 (lidx_main_v1 (ix2 (column s d) i) k) k (column s d) rfl rfl, idx2 (ridx_main_v1 (ix2 (column s d) i) k) k i rfl rfl, mul_comm]

/-- What a block's last grid point writes back, entry by entry. -/
theorem entry (t : Fin cfg0.N) (h3 : t.val % 4 = 3) (s : Fin 2) (i : Fin 1024) (d : Fin 512) :
    (outsAt0 m c t.val t.isLt).1 (ix3 s i d)
      = colDot (m ((c : Thread nD τ).loc main_arg0)) (m ((c : Thread nD τ).loc main_arg2)) i (column (shard t s) d) := by
  rw [last m c t h3, spans m c t h3, zero_add, colDot, ← sum_spans]
  refine Finset.sum_congr rfl fun u _ => Finset.sum_congr rfl fun k _ => ?_
  have hs := u.isLt
  rw [block0 m c _ u (by dsimp only; omega), block1 m c t _ u (by dsimp only; omega) (by dsimp only; omega),
    show col t (lane s d) = column (shard t s) d from Fin.ext (by simp only [col, lane, column, shard]; omega)]

/-- The kernel's result is the reference's. -/
theorem array : (dats m 0 c).arrAt 2 cfg0.N = Cert.Reference4Ideal.Read.val_main_v5 (F := Ideal) (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  obtain ⟨s, i, d, rfl⟩ : ∃ (s : Fin 2) (i : Fin 1024) (d : Fin 512), y = ix3 s i d := ⟨y 0, y 1, y 2, eq_ix3 y⟩
  rw [emb2, after0_2]
  dsimp only
  rw [entry m c t h3, ref]

end Cert.Kernel4Ideal.DFf1

end
-- ==== Proof.Ff1.lean ====
/- The first product of the feed-forward network: each block of the kernel's result is the reference's. -/
module

public import proofs.«01_k».proof.Proof.Products
public import proofs.«01_k».proof.Proof.Gen.Kernel5Ideal.Value
public import proofs.«01_k».proof.Proof.Gen.Reference5Ideal.Read

@[expose] public section

set_option maxRecDepth 16384

noncomputable section

namespace Cert.Kernel5Ideal.Ff1

open Idealize.ShloMosaic Idealize.ShloMosaic.TcCoe Idealize.SL.Sem Cert.Kernel5Ideal Cert.Kernel5Ideal.Gen Attn Products

/-- What the body leaves, entry by entry: the product over the 1024 columns. -/
theorem pay (x0 : Vec Ideal S2048x1024 .bf16) (x1 : Vec Ideal S1024x1024 .bf16) (i : Fin 2048) (d : Fin 1024) :
    k0_pay1 (F := Ideal) x0 x1 (ix2 i d) = ∑ k : Fin 1024, x0 (ix2 i k) * x1 (ix2 k d) := by
  unfold k0_pay1
  rw [shapeCast_self, shapeCast_self]
  exact nn (M := 2048) (K := 1024) (N := 1024) (φ₁ := .bf16) (φ₂ := .bf16) x0 x1 i d

theorem blockOut (x0 : Vec Ideal S2048x1024 .bf16) (x1 : Vec Ideal S1024x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg0) : FVec Ideal S8192x1024 .f32) := by
  dsimp only [V, hostOps0, List.flatten_cons, List.flatten_nil, List.cons_append, List.nil_append]
  after_results_simp <;> rfl

theorem V_b : V m c main_v1 = (m ((c : Thread nD τ).loc main_arg1) : FVec Ideal S1024x4096 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩
/-- The columns of the block at a grid point. -/
def col (t : Fin cfg0.N) (d : Fin 1024) : Fin 4096 := ⟨1024 * (grid0.coords t 1 : ℕ) + d, by have := (grid0.coords t 1).isLt; have := d.isLt; change _ < 4 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = (grid0.coords t 1 : ℕ) := by decide +kernel
theorem index2 : ∀ t : Fin grid0.N, win0_2.index t 0 = (grid0.coords t 0 : ℕ) ∧ win0_2.index t 1 = (grid0.coords t 1 : ℕ) := by decide +kernel

theorem block0 (t : Fin cfg0.N) (i : Fin 2048) (k : Fin 1024) : iblk m c 0 t (ix2 i k) = (m ((c : Thread nD τ).loc main_arg0) : FVec Ideal S8192x1024 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 1024) (k : Fin 1024) : iblk m c 1 t (ix2 i k) = (m ((c : Thread nD τ).loc main_arg1) : FVec Ideal S1024x4096 .f32) (ix2 i (col t k)) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; show _ * 1024 + _ = _; simp only [col]; rw [mul_comm]; rfl

theorem emb2 (t : Fin cfg0.N) (i : Fin 2048) (k : Fin 1024) : (win0_2.blk t).view.emb (ix2 i k) = ix2 (row t i) (col t k) := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; show _ * 1024 + _ = _; simp only [col]; rw [mul_comm]; rfl

open Cert.Reference5Ideal.Read in
/-- The reference's entry. -/
theorem ref (x0 : FVec Ideal S8192x1024 .f32) (x1 : FVec Ideal S1024x4096 .f32) (i : Fin 8192) (d : Fin 4096) :
    val_main_v1 (F := Ideal) x0 x1 (ix2 i d) = ∑ k : Fin 1024, x0 (ix2 i k) * x1 (ix2 k d) := by
  rw [val_main_v1_apply, val_main_v0_apply]
  refine Finset.sum_congr rfl fun k _ => ?_
  rw [idx2 (lidx_main_v0 (ix2 i d) k) i k rfl rfl, idx2 (ridx_main_v0 (ix2 i d) k) k d rfl rfl]

/-- The kernel's result is the reference's. -/
theorem array : (dats m 0 c).arrAt 2 cfg0.N = Cert.Reference5Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  obtain ⟨i, d, rfl⟩ : ∃ (i : Fin 2048) (d : Fin 1024), y = ix2 i d := ⟨y 0, y 1, eq_ix2 y⟩
  rw [emb2, after0_2]
  dsimp only
  rw [blockOut, pay, ref]
  simp only [block0, block1]

end Cert.Kernel5Ideal.Ff1

end
-- ==== Proof.WIn.lean ====
/- The product with the matrix of all the projections: each block of the kernel's result is the reference's. -/
module

public import proofs.«01_k».proof.Proof.Products
public import proofs.«01_k».proof.Proof.Gen.Kernel6Ideal.Value
public import proofs.«01_k».proof.Proof.Gen.Reference6Ideal.Read

@[expose] public section

set_option maxRecDepth 16384

noncomputable section

namespace Cert.Kernel6Ideal.WIn

open Idealize.ShloMosaic Idealize.ShloMosaic.TcCoe Idealize.SL.Sem Cert.Kernel6Ideal Cert.Kernel6Ideal.Gen Attn Products

/-- What the body leaves, entry by entry: the product over the 1024 columns. -/
theorem pay (x0 : Vec Ideal S2048x1024 .bf16) (x1 : Vec Ideal S1024x1792 .bf16) (i : Fin 2048) (d : Fin 1792) :
    k0_pay1 (F := Ideal) x0 x1 (ix2 i d) = ∑ k : Fin 1024, x0 (ix2 i k) * x1 (ix2 k d) := by
  unfold k0_pay1
  rw [shapeCast_self, shapeCast_self]
  exact nn (M := 2048) (K := 1024) (N := 1792) (φ₁ := .bf16) (φ₂ := .bf16) x0 x1 i d

theorem blockOut (x0 : Vec Ideal S2048x1024 .bf16) (x1 : Vec Ideal S1024x1792 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg0) : FVec Ideal S8192x1024 .f32) := by
  dsimp only [V, hostOps0, List.flatten_cons, List.flatten_nil, List.cons_append, List.nil_append]
  after_results_simp <;> rfl

theorem V_b : V m c main_v1 = (m ((c : Thread nD τ).loc main_arg1) : FVec Ideal S1024x5376 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩
/-- The columns of the block at a grid point. -/
def col (t : Fin cfg0.N) (d : Fin 1792) : Fin 5376 := ⟨1792 * (grid0.coords t 1 : ℕ) + d, by have := (grid0.coords t 1).isLt; have := d.isLt; change _ < 3 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = (grid0.coords t 1 : ℕ) := by decide +kernel
theorem index2 : ∀ t : Fin grid0.N, win0_2.index t 0 = (grid0.coords t 0 : ℕ) ∧ win0_2.index t 1 = (grid0.coords t 1 : ℕ) := by decide +kernel

theorem block0 (t : Fin cfg0.N) (i : Fin 2048) (k : Fin 1024) : iblk m c 0 t (ix2 i k) = (m ((c : Thread nD τ).loc main_arg0) : FVec Ideal S8192x1024 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 1024) (k : Fin 1792) : iblk m c 1 t (ix2 i k) = (m ((c : Thread nD τ).loc main_arg1) : FVec Ideal S1024x5376 .f32) (ix2 i (col t k)) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; show _ * 1792 + _ = _; simp only [col]; rw [mul_comm]; rfl

theorem emb2 (t : Fin cfg0.N) (i : Fin 2048) (k : Fin 1792) : (win0_2.blk t).view.emb (ix2 i k) = ix2 (row t i) (col t k) := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; show _ * 1792 + _ = _; simp only [col]; rw [mul_comm]; rfl

open Cert.Reference6Ideal.Read in
/-- The reference's entry. -/
theorem ref (x0 : FVec Ideal S8192x1024 .f32) (x1 : FVec Ideal S1024x5376 .f32) (i : Fin 8192) (d : Fin 5376) :
    val_main_v1 (F := Ideal) x0 x1 (ix2 i d) = ∑ k : Fin 1024, x0 (ix2 i k) * x1 (ix2 k d) := by
  rw [val_main_v1_apply, val_main_v0_apply]
  refine Finset.sum_congr rfl fun k _ => ?_
  rw [idx2 (lidx_main_v0 (ix2 i d) k) i k rfl rfl, idx2 (ridx_main_v0 (ix2 i d) k) k d rfl rfl]

/-- The kernel's result is the reference's. -/
theorem array : (dats m 0 c).arrAt 2 cfg0.N = Cert.Reference6Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  obtain ⟨i, d, rfl⟩ : ∃ (i : Fin 2048) (d : Fin 1792), y = ix2 i d := ⟨y 0, y 1, eq_ix2 y⟩
  rw [emb2, after0_2]
  dsimp only
  rw [blockOut, pay, ref]
  simp only [block0, block1]

end Cert.Kernel6Ideal.WIn

end
-- ==== Proof.Dh.lean ====
/- The gradient of the normalised activations: each block of the kernel's result is the reference's. -/
module

public import proofs.«01_k».proof.Proof.Products
public import proofs.«01_k».proof.Proof.Gen.Kernel7Ideal.Value
public import proofs.«01_k».proof.Proof.Gen.Reference7Ideal.Read

@[expose] public section

set_option maxRecDepth 16384

noncomputable section

namespace Cert.Kernel7Ideal.Dh

open Idealize.ShloMosaic Idealize.ShloMosaic.TcCoe Idealize.SL.Sem Cert.Kernel7Ideal Cert.Kernel7Ideal.Gen Attn Products

/-- What the body leaves, entry by entry: the product over the 5376 columns. -/
theorem pay (x0 : Vec Ideal S1024x5376 .bf16) (x1 : Vec Ideal S512x5376 .bf16) (i : Fin 1024) (d : Fin 512) :
    k0_pay1 (F := Ideal) x0 x1 (ix2 i d) = ∑ k : Fin 5376, x0 (ix2 i k) * x1 (ix2 d k) := by
  unfold k0_pay1
  rw [shapeCast_self, shapeCast_self]
  exact nt (M := 1024) (K := 5376) (N := 512) (φ₁ := .bf16) (φ₂ := .bf16) x0 x1 i d

theorem blockOut (x0 : Vec Ideal S1024x5376 .bf16) (x1 : Vec Ideal S512x5376 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg2) : FVec Ideal S8192x5376 .f32) := by
  dsimp only [V, hostOps0, List.flatten_cons, List.flatten_nil, List.cons_append, List.nil_append]
  after_results_simp <;> rfl

theorem V_b : V m c main_v1 = (m ((c : Thread nD τ).loc main_arg1) : FVec Ideal S1024x5376 .f32) := by
  dsimp only [V, hostOps0, List.flatten_cons, List.flatten_nil, List.cons_append, List.nil_append]
  after_results_simp <;> rfl

/-- The rows of the block at a grid point. -/
def row (t : Fin cfg0.N) (i : Fin 1024) : Fin 8192 := ⟨1024 * (grid0.coords t 0 : ℕ) + i, by have := (grid0.coords t 0).isLt; have := i.isLt; change _ < 8 at *; omega⟩
/-- The columns of the block at a grid point. -/
def col (t : Fin cfg0.N) (d : Fin 512) : Fin 1024 := ⟨512 * (grid0.coords t 1 : ℕ) + d, by have := (grid0.coords t 1).isLt; have := d.isLt; change _ < 2 at *; omega⟩

theorem index0 : ∀ t : Fin grid0.N, win0_0.index t 0 = (grid0.coords t 0 : ℕ) ∧ win0_0.index t 1 = 0 := by decide +kernel
theorem index1 : ∀ t : Fin grid0.N, win0_1.index t 0 = (grid0.coords t 1 : ℕ) ∧ win0_1.index t 1 = 0 := by decide +kernel
theorem index2 : ∀ t : Fin grid0.N, win0_2.index t 0 = (grid0.coords t 0 : ℕ) ∧ win0_2.index t 1 = (grid0.coords t 1 : ℕ) := by decide +kernel

theorem block0 (t : Fin cfg0.N) (i : Fin 1024) (k : Fin 5376) : iblk m c 0 t (ix2 i k) = (m ((c : Thread nD τ).loc main_arg2) : FVec Ideal S8192x5376 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 1024 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 512) (k : Fin 5376) : iblk m c 1 t (ix2 i k) = (m ((c : Thread nD τ).loc main_arg1) : FVec Ideal S1024x5376 .f32) (ix2 (col t i) k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; show _ * 512 + _ = _; simp only [col]; rw [mul_comm]; rfl
  · show ((win0_1.rect t).emb (ix2 i k) 1 : ℕ) = _
    rw [Pipeline.Window.rect_emb_val win0_1 t, (index1 t).2]; simp

theorem emb2 (t : Fin cfg0.N) (i : Fin 1024) (k : Fin 512) : (win0_2.blk t).view.emb (ix2 i k) = ix2 (row t i) (col t k) := by
  refine idx2 _ _ _ ?_ ?_
  · show ((win0_2.rect t).emb (ix2 i k) 0 : ℕ) = _
    rw [Pipeline.Window.rect_emb_val win0_2 t, (index2 t).1]; show _ * 1024 + _ = _; simp only [row]; rw [mul_comm]; rfl
  · show ((win0_2.rect t).emb (ix2 i k) 1 : ℕ) = _
    rw [Pipeline.Window.rect_emb_val win0_2 t, (index2 t).2]; show _ * 512 + _ = _; simp only [col]; rw [mul_comm]; rfl

open Cert.Reference7Ideal.Read in
/-- The reference's entry. -/
theorem ref (x0 : FVec Ideal S8192x5376 .f32) (x1 : FVec Ideal S1024x5376 .f32) (i : Fin 8192) (d : Fin 1024) :
    val_main_v2 (F := Ideal) x1 x0 (ix2 i d) = ∑ k : Fin 5376, x0 (ix2 i k) * x1 (ix2 d k) := by
  rw [val_main_v2_apply, val_main_v1_apply]
  refine Finset.sum_congr rfl fun k _ => ?_
  rw [idx2 (lidx_main_v1 (ix2 i d) k) i k rfl rfl, idx2 (ridx_main_v1 (ix2 i d) k) d k rfl rfl]

/-- The kernel's result is the reference's. -/
theorem array : (dats m 0 c).arrAt 2 cfg0.N = Cert.Reference7Ideal.Read.val_main_v2 (F := Ideal) (m ((c : Thread nD τ).loc main_arg1)) (m ((c : Thread nD τ).loc main_arg2)) := by
  refine (dats m 0 c).arrAt_eq_of_covers 2 _ (by decide +kernel) fun t hf y => ?_
  blk_simp
  obtain ⟨i, d, rfl⟩ : ∃ (i : Fin 1024) (d : Fin 512), y = ix2 i d := ⟨y 0, y 1, eq_ix2 y⟩
  rw [emb2, after0_2]
  dsimp only
  rw [blockOut, pay, ref]
  simp only [block0, block1]

end Cert.Kernel7Ideal.Dh

end
-- ==== Proof.DInTop.lean ====
/- The upper half of the gradient of the matrix of all the projections: the kernel sums the rows in four spans of
   2048; over the extended reals that is the reference's sum over all 8192 rows. -/
module

public import proofs.«01_k».proof.Proof.Products
public import proofs.«01_k».proof.Proof.Gen.Kernel8Ideal.Value
public import proofs.«01_k».proof.Proof.Gen.Reference8Ideal.Read

@[expose] public section

set_option maxRecDepth 16384

noncomputable section

namespace Cert.Kernel8Ideal.DInTop

open Idealize.ShloMosaic Idealize.ShloMosaic.TcCoe Idealize.SL.Sem Cert.Kernel8Ideal Cert.Kernel8Ideal.Gen Attn Products

/-- One span's share of one entry. -/
def part (x0 : Vec Ideal S2048x512 .bf16) (x1 : Vec Ideal S2048x1792 .bf16) (i : Fin 512) (d : Fin 1792) : EReal := ∑ k : Fin 2048, x0 (ix2 k i) * x1 (ix2 k d)

theorem pay1 (x0 : Vec Ideal S2048x512 .bf16) (x1 : Vec Ideal S2048x1792 .bf16) (i : Fin 512) (d : Fin 1792) : k0_pay1 (F := Ideal) x0 x1 (ix2 i d) = part x0 x1 i d := by
  unfold k0_pay1
  rw [shapeCast_self, shapeCast_self]
  exact tn (K := 2048) (M := 512) (N := 1792) (φ₁ := .bf16) (φ₂ := .bf16) x0 x1 i d

variable (m : (ℓ : Loc nD τ sig) → Buf (Elt Ideal) ℓ) (c : Dev nD)

/-- The accumulator after the first span. -/
theorem accA (t : Fin cfg0.N) (h : t.val % 4 = 0) (i : Fin 512) (d : Fin 1792) :
    (outsAt0 m c t.val t.isLt).2 (ix2 i d) = 0 + part (iblk m c 0 t) (iblk m c 1 t) i d := by
  rw [outsAt0_A m c t h (by omega) (by omega)]
  frame_out
  unfold k0_pay2
  rw [shapeCast_self, pay1, zero_add]

/-- The accumulator after a later span. -/
theorem accB (t : Fin cfg0.N) (h : ¬t.val % 4 = 0) (i : Fin 512) (d : Fin 1792) :
    (outsAt0 m c t.val t.isLt).2 (ix2 i d) = (outsAt0 m c (t.val - 1) (Nat.lt_of_le_of_lt (Nat.sub_le _ _) t.isLt)).2 (ix2 i d) + part (iblk m c 0 t) (iblk m c 1 t) i d := by
  by_cases h3 : t.val % 4 = 3
  · rw [outsAt0_C m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)
  · rw [outsAt0_B m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)

/-- What a block's last grid point writes back is its accumulator. -/
theorem last (t : Fin cfg0.N) (h3 : t.val % 4 = 3) (i : Fin 512) (d : Fin 1792) :
    (outsAt0 m c t.val t.isLt).1 (ix2 i d) = (outsAt0 m c t.val t.isLt).2 (ix2 i d) := by
  rw [outsAt0_C m c t (by omega) (by omega) h3]
  frame_out
  rfl

/-- The accumulator at a block's last grid point: the four spans' shares. -/
theorem spans (t : Fin cfg0.N) (h3 : t.val % 4 = 3) (i : Fin 512) (d : Fin 1792) :
    (outsAt0 m c t.val t.isLt).2 (ix2 i d)
      = 0 + ∑ s : Fin 4, part (iblk m c 0 ⟨4 * (t.val / 4) + s.val, Pipeline.run_point_lt_of_flush t h3 s⟩) (iblk m c 1 ⟨4 * (t.val / 4) + s.val, Pipeline.run_point_lt_of_flush t h3 s⟩) i d :=
  Pipeline.eq_sum_fin_of_reset_step_of_flush (fun n h => (outsAt0 m c n h).2 (ix2 i d)) 4 0 (fun t => part (iblk m c 0 t) (iblk m c 1 t) i d)
    (fun t h => accA m c t h i d) (fun t h => accB m c t h i d) t h3

theorem V_a : V m c main_v0 = (m ((c : Thread nD τ).loc main_arg0) : FVec Ideal S8192x1024 .f32) := by
  dsimp only [V, hostOps0, List.flatten_cons, List.flatten_nil, List.cons_append, List.nil_append]
  after_results_simp <;> rfl

theorem V_b : V m c main_v1 = (m ((c : Thread nD τ).loc main_arg2) : FVec Ideal S8192x5376 .f32) := by
  dsimp only [V, hostOps0, List.flatten_cons, List.flatten_nil, List.cons_append, List.nil_append]
  after_results_simp <;> rfl

theorem index0 : ∀ t : Fin grid0.N, win0_0.index t 0 = (t : ℕ) % 4 ∧ win0_0.index t 1 = 0 := by decide +kernel
theorem index1 : ∀ t : Fin grid0.N, win0_1.index t 0 = (t : ℕ) % 4 ∧ win0_1.index t 1 = (t : ℕ) / 4 := by decide +kernel
theorem index2 : ∀ t : Fin grid0.N, win0_2.index t 0 = 0 ∧ win0_2.index t 1 = (t : ℕ) / 4 := by decide +kernel

/-- The rows of the matrix this half holds. -/
def row (i : Fin 512) : Fin 1024 := ⟨0 + i, by omega⟩
/-- The columns of the result a grid point works on. -/
def col (t : Fin cfg0.N) (d : Fin 1792) : Fin 5376 := ⟨t / 4 * 1792 + d, by have h : (t : ℕ) < 12 := lt_of_lt_of_eq t.isLt N_0; omega⟩

theorem block0 (u : Fin cfg0.N) (s : Fin 4) (hs : (u : ℕ) % 4 = s) (k : Fin 2048) (i : Fin 512) :
    iblk m c 0 u (ix2 k i) = (m ((c : Thread nD τ).loc main_arg0) : FVec Ideal S8192x1024 .f32) (ix2 (spanRow s k) (row i)) := by
  rw [← V_a m c]
  show V m c main_v0 ((win0_0.blk u).view.emb (ix2 k i)) = _
  congr 1
  refine idx2 _ _ _ ?_ ?_
  · show ((win0_0.rect u).emb (ix2 k i) 0 : ℕ) = _
    rw [Pipeline.Window.rect_emb_val win0_0 u, (index0 u).1, hs]; rfl
  · show ((win0_0.rect u).emb (ix2 k i) 1 : ℕ) = _
    rw [Pipeline.Window.rect_emb_val win0_0 u, (index0 u).2]; simp [row]

theorem block1 (t u : Fin cfg0.N) (s : Fin 4) (hs : (u : ℕ) % 4 = s) (hq : (u : ℕ) / 4 = t / 4) (k : Fin 2048) (d : Fin 1792) :
    iblk m c 1 u (ix2 k d) = (m ((c : Thread nD τ).loc main_arg2) : FVec Ideal S8192x5376 .f32) (ix2 (spanRow s k) (col t d)) := by
  rw [← V_b m c]
  show V m c main_v1 ((win0_1.blk u).view.emb (ix2 k d)) = _
  congr 1
  refine idx2 _ _ _ ?_ ?_
  · show ((win0_1.rect u).emb (ix2 k d) 0 : ℕ) = _
    rw [Pipeline.Window.rect_emb_val win0_1 u, (index1 u).1, hs]; rfl
  · show ((win0_1.rect u).emb (ix2 k d) 1 : ℕ) = _
    rw [Pipeline.Window.rect_emb_val win0_1 u, (index1 u).2, hq]; rfl

theorem emb2 (t : Fin cfg0.N) (i : Fin 512) (d : Fin 1792) : (win0_2.blk t).view.emb (ix2 i d) = ix2 i (col t d) := by
  refine idx2 _ _ _ ?_ ?_
  · show ((win0_2.rect t).emb (ix2 i d) 0 : ℕ) = _
    rw [Pipeline.Window.rect_emb_val win0_2 t, (index2 t).1]; simp
  · show ((win0_2.rect t).emb (ix2 i d) 1 : ℕ) = _
    rw [Pipeline.Window.rect_emb_val win0_2 t, (index2 t).2]; rfl

open Cert.Reference8Ideal.Read in
/-- The reference's entry: the sum over all rows. -/
theorem ref (x0 : FVec Ideal S8192x1024 .f32) (x2 : FVec Ideal S8192x5376 .f32) (i : Fin 512) (d : Fin 5376) :
    val_main_v4 (F := Ideal) x0 x2 (ix2 i d) = colDot (M := 1024) (N := 5376) x0 x2 (row i) d := by
  rw [val_main_v4_apply, val_main_v3_apply, idx2 (idx_main_v3 (ix2 i d)) (row i) d (by simp [idx_main_v3, row]) (by simp [idx_main_v3]), val_main_v2_apply, idx2 (idx_main_v2 (ix2 (row i) d)) d (row i) rfl rfl, val_main_v1_apply]
  refine Finset.sum_congr rfl fun k _ => ?_
  rw [idx2 (lidx_main_v1 (ix2 d (row i)) k) k d rfl rfl, idx2 (ridx_main_v1 (ix2 d (row i)) k) k (row i) rfl rfl, mul_comm]

/-- What a block's last grid point writes back, entry by entry. -/
theorem entry (t : Fin cfg0.N) (h3 : t.val % 4 = 3) (i : Fin 512) (d : Fin 1792) :
    (outsAt0 m c t.val t.isLt).1 (ix2 i d)
      = colDot (M := 1024) (N := 5376) (m ((c : Thread nD τ).loc main_arg0) : FVec Ideal S8192x1024 .f32) (m ((c : Thread nD τ).loc main_arg2) : FVec Ideal S8192x5376 .f32) (row i) (col t d) := by
  rw [last m c t h3, spans m c t h3, zero_add, colDot, ← sum_spans]
  refine Finset.sum_congr rfl fun s _ => Finset.sum_congr rfl fun k _ => ?_
  have hs := s.isLt
  rw [block0 m c _ s (by dsimp only; omega), block1 m c t _ s (by dsimp only; omega) (by dsimp only; omega)]

/-- The kernel's result is the reference's. -/
theorem array : (dats m 0 c).arrAt 2 cfg0.N = Cert.Reference8Ideal.Read.val_main_v4 (F := Ideal) (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  obtain ⟨i, d, rfl⟩ : ∃ (i : Fin 512) (d : Fin 1792), y = ix2 i d := ⟨y 0, y 1, eq_ix2 y⟩
  rw [emb2, after0_2]
  dsimp only
  rw [entry m c t h3, ref]

end Cert.Kernel8Ideal.DInTop

end
-- ==== Proof.DInBot.lean ====
/- The lower half of the gradient of the matrix of all the projections: the kernel sums the rows in four spans of
   2048; over the extended reals that is the reference's sum over all 8192 rows. -/
module

public import proofs.«01_k».proof.Proof.Products
public import proofs.«01_k».proof.Proof.Gen.Kernel9Ideal.Value
public import proofs.«01_k».proof.Proof.Gen.Reference9Ideal.Read

@[expose] public section

set_option maxRecDepth 16384

noncomputable section

namespace Cert.Kernel9Ideal.DInBot

open Idealize.ShloMosaic Idealize.ShloMosaic.TcCoe Idealize.SL.Sem Cert.Kernel9Ideal Cert.Kernel9Ideal.Gen Attn Products

/-- One span's share of one entry. -/
def part (x0 : Vec Ideal S2048x512 .bf16) (x1 : Vec Ideal S2048x1792 .bf16) (i : Fin 512) (d : Fin 1792) : EReal := ∑ k : Fin 2048, x0 (ix2 k i) * x1 (ix2 k d)

theorem pay1 (x0 : Vec Ideal S2048x512 .bf16) (x1 : Vec Ideal S2048x1792 .bf16) (i : Fin 512) (d : Fin 1792) : k0_pay1 (F := Ideal) x0 x1 (ix2 i d) = part x0 x1 i d := by
  unfold k0_pay1
  rw [shapeCast_self, shapeCast_self]
  exact tn (K := 2048) (M := 512) (N := 1792) (φ₁ := .bf16) (φ₂ := .bf16) x0 x1 i d

variable (m : (ℓ : Loc nD τ sig) → Buf (Elt Ideal) ℓ) (c : Dev nD)

/-- The accumulator after the first span. -/
theorem accA (t : Fin cfg0.N) (h : t.val % 4 = 0) (i : Fin 512) (d : Fin 1792) :
    (outsAt0 m c t.val t.isLt).2 (ix2 i d) = 0 + part (iblk m c 0 t) (iblk m c 1 t) i d := by
  rw [outsAt0_A m c t h (by omega) (by omega)]
  frame_out
  unfold k0_pay2
  rw [shapeCast_self, pay1, zero_add]

/-- The accumulator after a later span. -/
theorem accB (t : Fin cfg0.N) (h : ¬t.val % 4 = 0) (i : Fin 512) (d : Fin 1792) :
    (outsAt0 m c t.val t.isLt).2 (ix2 i d) = (outsAt0 m c (t.val - 1) (Nat.lt_of_le_of_lt (Nat.sub_le _ _) t.isLt)).2 (ix2 i d) + part (iblk m c 0 t) (iblk m c 1 t) i d := by
  by_cases h3 : t.val % 4 = 3
  · rw [outsAt0_C m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)
  · rw [outsAt0_B m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)

/-- What a block's last grid point writes back is its accumulator. -/
theorem last (t : Fin cfg0.N) (h3 : t.val % 4 = 3) (i : Fin 512) (d : Fin 1792) :
    (outsAt0 m c t.val t.isLt).1 (ix2 i d) = (outsAt0 m c t.val t.isLt).2 (ix2 i d) := by
  rw [outsAt0_C m c t (by omega) (by omega) h3]
  frame_out
  rfl

/-- The accumulator at a block's last grid point: the four spans' shares. -/
theorem spans (t : Fin cfg0.N) (h3 : t.val % 4 = 3) (i : Fin 512) (d : Fin 1792) :
    (outsAt0 m c t.val t.isLt).2 (ix2 i d)
      = 0 + ∑ s : Fin 4, part (iblk m c 0 ⟨4 * (t.val / 4) + s.val, Pipeline.run_point_lt_of_flush t h3 s⟩) (iblk m c 1 ⟨4 * (t.val / 4) + s.val, Pipeline.run_point_lt_of_flush t h3 s⟩) i d :=
  Pipeline.eq_sum_fin_of_reset_step_of_flush (fun n h => (outsAt0 m c n h).2 (ix2 i d)) 4 0 (fun t => part (iblk m c 0 t) (iblk m c 1 t) i d)
    (fun t h => accA m c t h i d) (fun t h => accB m c t h i d) t h3

theorem V_a : V m c main_v0 = (m ((c : Thread nD τ).loc main_arg0) : FVec Ideal S8192x1024 .f32) := by
  dsimp only [V, hostOps0, List.flatten_cons, List.flatten_nil, List.cons_append, List.nil_append]
  after_results_simp <;> rfl

theorem V_b : V m c main_v1 = (m ((c : Thread nD τ).loc main_arg2) : FVec Ideal S8192x5376 .f32) := by
  dsimp only [V, hostOps0, List.flatten_cons, List.flatten_nil, List.cons_append, List.nil_append]
  after_results_simp <;> rfl

theorem index0 : ∀ t : Fin grid0.N, win0_0.index t 0 = (t : ℕ) % 4 ∧ win0_0.index t 1 = 1 := by decide +kernel
theorem index1 : ∀ t : Fin grid0.N, win0_1.index t 0 = (t : ℕ) % 4 ∧ win0_1.index t 1 = (t : ℕ) / 4 := by decide +kernel
theorem index2 : ∀ t : Fin grid0.N, win0_2.index t 0 = 0 ∧ win0_2.index t 1 = (t : ℕ) / 4 := by decide +kernel

/-- The rows of the matrix this half holds. -/
def row (i : Fin 512) : Fin 1024 := ⟨512 + i, by omega⟩
/-- The columns of the result a grid point works on. -/
def col (t : Fin cfg0.N) (d : Fin 1792) : Fin 5376 := ⟨t / 4 * 1792 + d, by have h : (t : ℕ) < 12 := lt_of_lt_of_eq t.isLt N_0; omega⟩

theorem block0 (u : Fin cfg0.N) (s : Fin 4) (hs : (u : ℕ) % 4 = s) (k : Fin 2048) (i : Fin 512) :
    iblk m c 0 u (ix2 k i) = (m ((c : Thread nD τ).loc main_arg0) : FVec Ideal S8192x1024 .f32) (ix2 (spanRow s k) (row i)) := by
  rw [← V_a m c]
  show V m c main_v0 ((win0_0.blk u).view.emb (ix2 k i)) = _
  congr 1
  refine idx2 _ _ _ ?_ ?_
  · show ((win0_0.rect u).emb (ix2 k i) 0 : ℕ) = _
    rw [Pipeline.Window.rect_emb_val win0_0 u, (index0 u).1, hs]; rfl
  · show ((win0_0.rect u).emb (ix2 k i) 1 : ℕ) = _
    rw [Pipeline.Window.rect_emb_val win0_0 u, (index0 u).2]; simp [row]

theorem block1 (t u : Fin cfg0.N) (s : Fin 4) (hs : (u : ℕ) % 4 = s) (hq : (u : ℕ) / 4 = t / 4) (k : Fin 2048) (d : Fin 1792) :
    iblk m c 1 u (ix2 k d) = (m ((c : Thread nD τ).loc main_arg2) : FVec Ideal S8192x5376 .f32) (ix2 (spanRow s k) (col t d)) := by
  rw [← V_b m c]
  show V m c main_v1 ((win0_1.blk u).view.emb (ix2 k d)) = _
  congr 1
  refine idx2 _ _ _ ?_ ?_
  · show ((win0_1.rect u).emb (ix2 k d) 0 : ℕ) = _
    rw [Pipeline.Window.rect_emb_val win0_1 u, (index1 u).1, hs]; rfl
  · show ((win0_1.rect u).emb (ix2 k d) 1 : ℕ) = _
    rw [Pipeline.Window.rect_emb_val win0_1 u, (index1 u).2, hq]; rfl

theorem emb2 (t : Fin cfg0.N) (i : Fin 512) (d : Fin 1792) : (win0_2.blk t).view.emb (ix2 i d) = ix2 i (col t d) := by
  refine idx2 _ _ _ ?_ ?_
  · show ((win0_2.rect t).emb (ix2 i d) 0 : ℕ) = _
    rw [Pipeline.Window.rect_emb_val win0_2 t, (index2 t).1]; simp
  · show ((win0_2.rect t).emb (ix2 i d) 1 : ℕ) = _
    rw [Pipeline.Window.rect_emb_val win0_2 t, (index2 t).2]; rfl

open Cert.Reference9Ideal.Read in
/-- The reference's entry: the sum over all rows. -/
theorem ref (x0 : FVec Ideal S8192x1024 .f32) (x2 : FVec Ideal S8192x5376 .f32) (i : Fin 512) (d : Fin 5376) :
    val_main_v4 (F := Ideal) x0 x2 (ix2 i d) = colDot (M := 1024) (N := 5376) x0 x2 (row i) d := by
  rw [val_main_v4_apply, val_main_v3_apply, idx2 (idx_main_v3 (ix2 i d)) (row i) d (by simp [idx_main_v3, row]) (by simp [idx_main_v3]), val_main_v2_apply, idx2 (idx_main_v2 (ix2 (row i) d)) d (row i) rfl rfl, val_main_v1_apply]
  refine Finset.sum_congr rfl fun k _ => ?_
  rw [idx2 (lidx_main_v1 (ix2 d (row i)) k) k d rfl rfl, idx2 (ridx_main_v1 (ix2 d (row i)) k) k (row i) rfl rfl, mul_comm]

/-- What a block's last grid point writes back, entry by entry. -/
theorem entry (t : Fin cfg0.N) (h3 : t.val % 4 = 3) (i : Fin 512) (d : Fin 1792) :
    (outsAt0 m c t.val t.isLt).1 (ix2 i d)
      = colDot (M := 1024) (N := 5376) (m ((c : Thread nD τ).loc main_arg0) : FVec Ideal S8192x1024 .f32) (m ((c : Thread nD τ).loc main_arg2) : FVec Ideal S8192x5376 .f32) (row i) (col t d) := by
  rw [last m c t h3, spans m c t h3, zero_add, colDot, ← sum_spans]
  refine Finset.sum_congr rfl fun s _ => Finset.sum_congr rfl fun k _ => ?_
  have hs := s.isLt
  rw [block0 m c _ s (by dsimp only; omega), block1 m c t _ s (by dsimp only; omega) (by dsimp only; omega)]

/-- The kernel's result is the reference's. -/
theorem array : (dats m 0 c).arrAt 2 cfg0.N = Cert.Reference9Ideal.Read.val_main_v4 (F := Ideal) (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  obtain ⟨i, d, rfl⟩ : ∃ (i : Fin 512) (d : Fin 1792), y = ix2 i d := ⟨y 0, y 1, eq_ix2 y⟩
  rw [emb2, after0_2]
  dsimp only
  rw [entry m c t h3, ref]

end Cert.Kernel9Ideal.DInBot

end
-- ==== Proof.DOut.lean ====
/- The gradient of the matrix after the merge: the kernel sums the rows in four spans of 2048; over the extended
   reals that is the reference's sum over all 8192 rows. -/
module

public import proofs.«01_k».proof.Proof.Products
public import proofs.«01_k».proof.Proof.Gen.Kernel10Ideal.Value
public import proofs.«01_k».proof.Proof.Gen.Reference10Ideal.Read

@[expose] public section

set_option maxRecDepth 16384

noncomputable section

namespace Cert.Kernel10Ideal.DOut

open Idealize.ShloMosaic Idealize.ShloMosaic.TcCoe Idealize.SL.Sem Cert.Kernel10Ideal Cert.Kernel10Ideal.Gen Attn Products

/-- One span's share of one entry. -/
def part (x0 : Vec Ideal S2048x1024 .bf16) (x1 : Vec Ideal S2048x1024 .bf16) (i : Fin 1024) (d : Fin 1024) : EReal := ∑ k : Fin 2048, x0 (ix2 k i) * x1 (ix2 k d)

theorem pay1 (x0 : Vec Ideal S2048x1024 .bf16) (x1 : Vec Ideal S2048x1024 .bf16) (i : Fin 1024) (d : Fin 1024) : k0_pay1 (F := Ideal) x0 x1 (ix2 i d) = part x0 x1 i d := by
  unfold k0_pay1
  rw [shapeCast_self, shapeCast_self]
  exact tn (K := 2048) (M := 1024) (N := 1024) (φ₁ := .bf16) (φ₂ := .bf16) x0 x1 i d

variable (m : (ℓ : Loc nD τ sig) → Buf (Elt Ideal) ℓ) (c : Dev nD)

/-- The accumulator after the first span. -/
theorem accA (t : Fin cfg0.N) (h : t.val % 4 = 0) (i : Fin 1024) (d : Fin 1024) :
    (outsAt0 m c t.val t.isLt).2 (ix2 i d) = 0 + part (iblk m c 0 t) (iblk m c 1 t) i d := by
  have hN : (t : ℕ) < 4 := lt_of_lt_of_eq t.isLt N_0
  rw [outsAt0_A m c t h (by omega) (by omega)]
  frame_out
  unfold k0_pay2
  rw [shapeCast_self, pay1, zero_add]

/-- The accumulator after a later span. -/
theorem accB (t : Fin cfg0.N) (h : ¬t.val % 4 = 0) (i : Fin 1024) (d : Fin 1024) :
    (outsAt0 m c t.val t.isLt).2 (ix2 i d) = (outsAt0 m c (t.val - 1) (Nat.lt_of_le_of_lt (Nat.sub_le _ _) t.isLt)).2 (ix2 i d) + part (iblk m c 0 t) (iblk m c 1 t) i d := by
  by_cases h3 : t.val % 4 = 3
  · rw [outsAt0_C m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)
  · rw [outsAt0_B m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)

/-- What a block's last grid point writes back is its accumulator. -/
theorem last (t : Fin cfg0.N) (h3 : t.val % 4 = 3) (i : Fin 1024) (d : Fin 1024) :
    (outsAt0 m c t.val t.isLt).1 (ix2 i d) = (outsAt0 m c t.val t.isLt).2 (ix2 i d) := by
  rw [outsAt0_C m c t (by omega) (by omega) h3]
  frame_out
  rfl

/-- The accumulator at a block's last grid point: the four spans' shares. -/
theorem spans (t : Fin cfg0.N) (h3 : t.val % 4 = 3) (i : Fin 1024) (d : Fin 1024) :
    (outsAt0 m c t.val t.isLt).2 (ix2 i d)
      = 0 + ∑ s : Fin 4, part (iblk m c 0 ⟨4 * (t.val / 4) + s.val, Pipeline.run_point_lt_of_flush t h3 s⟩) (iblk m c 1 ⟨4 * (t.val / 4) + s.val, Pipeline.run_point_lt_of_flush t h3 s⟩) i d :=
  Pipeline.eq_sum_fin_of_reset_step_of_flush (fun n h => (outsAt0 m c n h).2 (ix2 i d)) 4 0 (fun t => part (iblk m c 0 t) (iblk m c 1 t) i d)
    (fun t h => accA m c t h i d) (fun t h => accB m c t h i d) t h3

theorem V_a : V m c main_v0 = (m ((c : Thread nD τ).loc main_arg0) : FVec Ideal S8192x1024 .f32) := by
  dsimp only [V, hostOps0, List.flatten_cons, List.flatten_nil, List.cons_append, List.nil_append]
  after_results_simp <;> rfl

theorem V_b : V m c main_v1 = (m ((c : Thread nD τ).loc main_arg2) : FVec Ideal S8192x1024 .f32) := by
  dsimp only [V, hostOps0, List.flatten_cons, List.flatten_nil, List.cons_append, List.nil_append]
  after_results_simp <;> rfl

theorem index0 : ∀ t : Fin grid0.N, win0_0.index t 0 = (t : ℕ) % 4 ∧ win0_0.index t 1 = 0 := by decide +kernel
theorem index1 : ∀ t : Fin grid0.N, win0_1.index t 0 = (t : ℕ) % 4 ∧ win0_1.index t 1 = 0 := by decide +kernel
theorem index2 : ∀ t : Fin grid0.N, win0_2.index t 0 = 0 ∧ win0_2.index t 1 = 0 := by decide +kernel

theorem block0 (u : Fin cfg0.N) (s : Fin 4) (hs : (u : ℕ) % 4 = s) (k : Fin 2048) (i : Fin 1024) :
    iblk m c 0 u (ix2 k i) = (m ((c : Thread nD τ).loc main_arg0) : FVec Ideal S8192x1024 .f32) (ix2 (spanRow s k) i) := by
  rw [← V_a m c]
  show V m c main_v0 ((win0_0.blk u).view.emb (ix2 k i)) = _
  congr 1
  refine idx2 _ _ _ ?_ ?_
  · show ((win0_0.rect u).emb (ix2 k i) 0 : ℕ) = _
    rw [Pipeline.Window.rect_emb_val win0_0 u, (index0 u).1, hs]; rfl
  · show ((win0_0.rect u).emb (ix2 k i) 1 : ℕ) = _
    rw [Pipeline.Window.rect_emb_val win0_0 u, (index0 u).2]; simp

theorem block1 (u : Fin cfg0.N) (s : Fin 4) (hs : (u : ℕ) % 4 = s) (k : Fin 2048) (d : Fin 1024) :
    iblk m c 1 u (ix2 k d) = (m ((c : Thread nD τ).loc main_arg2) : FVec Ideal S8192x1024 .f32) (ix2 (spanRow s k) d) := by
  rw [← V_b m c]
  show V m c main_v1 ((win0_1.blk u).view.emb (ix2 k d)) = _
  congr 1
  refine idx2 _ _ _ ?_ ?_
  · show ((win0_1.rect u).emb (ix2 k d) 0 : ℕ) = _
    rw [Pipeline.Window.rect_emb_val win0_1 u, (index1 u).1, hs]; rfl
  · show ((win0_1.rect u).emb (ix2 k d) 1 : ℕ) = _
    rw [Pipeline.Window.rect_emb_val win0_1 u, (index1 u).2]; simp

theorem emb2 (t : Fin cfg0.N) (i : Fin 1024) (d : Fin 1024) : (win0_2.blk t).view.emb (ix2 i d) = ix2 i d := by
  refine idx2 _ _ _ ?_ ?_
  · show ((win0_2.rect t).emb (ix2 i d) 0 : ℕ) = _
    rw [Pipeline.Window.rect_emb_val win0_2 t, (index2 t).1]; simp
  · show ((win0_2.rect t).emb (ix2 i d) 1 : ℕ) = _
    rw [Pipeline.Window.rect_emb_val win0_2 t, (index2 t).2]; simp

open Cert.Reference10Ideal.Read in
/-- The reference's entry: the sum over all rows. -/
theorem ref (x0 : FVec Ideal S8192x1024 .f32) (x2 : FVec Ideal S8192x1024 .f32) (i : Fin 1024) (d : Fin 1024) :
    val_main_v3 (F := Ideal) x0 x2 (ix2 i d) = colDot (M := 1024) (N := 1024) x0 x2 i d := by
  rw [val_main_v3_apply, val_main_v2_apply, idx2 (idx_main_v2 (ix2 i d)) d i rfl rfl, val_main_v1_apply]
  refine Finset.sum_congr rfl fun k _ => ?_
  rw [idx2 (lidx_main_v1 (ix2 d i) k) k d rfl rfl, idx2 (ridx_main_v1 (ix2 d i) k) k i rfl rfl, mul_comm]

/-- What a block's last grid point writes back, entry by entry. -/
theorem entry (t : Fin cfg0.N) (h3 : t.val % 4 = 3) (i : Fin 1024) (d : Fin 1024) :
    (outsAt0 m c t.val t.isLt).1 (ix2 i d)
      = colDot (M := 1024) (N := 1024) (m ((c : Thread nD τ).loc main_arg0) : FVec Ideal S8192x1024 .f32) (m ((c : Thread nD τ).loc main_arg2) : FVec Ideal S8192x1024 .f32) i d := by
  rw [last m c t h3, spans m c t h3, zero_add, colDot, ← sum_spans]
  refine Finset.sum_congr rfl fun s _ => Finset.sum_congr rfl fun k _ => ?_
  have hs := s.isLt
  rw [block0 m c _ s (by dsimp only; omega), block1 m c _ s (by dsimp only; omega)]

/-- The kernel's result is the reference's. -/
theorem array : (dats m 0 c).arrAt 2 cfg0.N = Cert.Reference10Ideal.Read.val_main_v3 (F := Ideal) (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  obtain ⟨i, d, rfl⟩ : ∃ (i : Fin 1024) (d : Fin 1024), y = ix2 i d := ⟨y 0, y 1, eq_ix2 y⟩
  rw [emb2, after0_2]
  dsimp only
  rw [entry m c t h3, ref]

end Cert.Kernel10Ideal.DOut

end
-- ==== Proof.DMerged.lean ====
/- The gradient of the merged activations: each block of the kernel's result is the reference's. -/
module

public import proofs.«01_k».proof.Proof.Products
public import proofs.«01_k».proof.Proof.Gen.Kernel11Ideal.Value
public import proofs.«01_k».proof.Proof.Gen.Reference11Ideal.Read

@[expose] public section

set_option maxRecDepth 16384

noncomputable section

namespace Cert.Kernel11Ideal.DMerged

open Idealize.ShloMosaic Idealize.ShloMosaic.TcCoe Idealize.SL.Sem Cert.Kernel11Ideal Cert.Kernel11Ideal.Gen Attn Products

/-- What the body leaves, entry by entry: the product over the 1024 columns. -/
theorem pay (x0 : Vec Ideal S2048x1024 .bf16) (x1 : Vec Ideal S1024x1024 .bf16) (i : Fin 2048) (d : Fin 1024) :
    k0_pay1 (F := Ideal) x0 x1 (ix2 i d) = ∑ k : Fin 1024, x0 (ix2 i k) * x1 (ix2 d k) := by
  unfold k0_pay1
  rw [shapeCast_self, shapeCast_self]
  exact nt (M := 2048) (K := 1024) (N := 1024) (φ₁ := .bf16) (φ₂ := .bf16) x0 x1 i d

theorem blockOut (x0 : Vec Ideal S2048x1024 .bf16) (x1 : Vec Ideal S1024x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg2) : FVec Ideal S8192x1024 .f32) := by
  dsimp only [V, hostOps0, List.flatten_cons, List.flatten_nil, List.cons_append, List.nil_append]
  after_results_simp <;> rfl

theorem V_b : V m c main_v1 = (m ((c : Thread nD τ).loc main_arg1) : FVec Ideal S1024x1024 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 2048) (k : Fin 1024) : iblk m c 0 t (ix2 i k) = (m ((c : Thread nD τ).loc main_arg2) : FVec Ideal S8192x1024 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 1024) (k : Fin 1024) : iblk m c 1 t (ix2 i k) = (m ((c : Thread nD τ).loc main_arg1) : FVec Ideal S1024x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 2048) (k : Fin 1024) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; simp

open Cert.Reference11Ideal.Read in
/-- The reference's entry. -/
theorem ref (x0 : FVec Ideal S8192x1024 .f32) (x1 : FVec Ideal S1024x1024 .f32) (i : Fin 8192) (d : Fin 1024) :
    val_main_v2 (F := Ideal) x1 x0 (ix2 i d) = ∑ k : Fin 1024, x0 (ix2 i k) * x1 (ix2 d k) := by
  rw [val_main_v2_apply, val_main_v1_apply]
  refine Finset.sum_congr rfl fun k _ => ?_
  rw [idx2 (lidx_main_v1 (ix2 i d) k) i k rfl rfl, idx2 (ridx_main_v1 (ix2 i d) k) d k rfl rfl]

/-- The kernel's result is the reference's. -/
theorem array : (dats m 0 c).arrAt 2 cfg0.N = Cert.Reference11Ideal.Read.val_main_v2 (F := Ideal) (m ((c : Thread nD τ).loc main_arg1)) (m ((c : Thread nD τ).loc main_arg2)) := by
  refine (dats m 0 c).arrAt_eq_of_covers 2 _ (by decide +kernel) fun t hf y => ?_
  blk_simp
  obtain ⟨i, d, rfl⟩ : ∃ (i : Fin 2048) (d : Fin 1024), y = ix2 i d := ⟨y 0, y 1, eq_ix2 y⟩
  rw [emb2, after0_2]
  dsimp only
  rw [blockOut, pay, ref]
  simp only [block0, block1]

end Cert.Kernel11Ideal.DMerged

end
-- ==== Proof.OMla.lean ====
/- The product of the attention's output with its matrix: each block of the kernel's result is the reference's. -/
module

public import proofs.«01_k».proof.Proof.Products
public import proofs.«01_k».proof.Proof.Gen.Kernel12Ideal.Value
public import proofs.«01_k».proof.Proof.Gen.Reference12Ideal.Read

@[expose] public section

set_option maxRecDepth 16384

noncomputable section

namespace Cert.Kernel12Ideal.OMla

open Idealize.ShloMosaic Idealize.ShloMosaic.TcCoe Idealize.SL.Sem Cert.Kernel12Ideal Cert.Kernel12Ideal.Gen Attn Products

/-- What the body leaves, entry by entry: the product over the 1024 columns. -/
theorem pay (x0 : Vec Ideal S2048x1024 .bf16) (x1 : Vec Ideal S1024x1024 .bf16) (i : Fin 2048) (d : Fin 1024) :
    k0_pay1 (F := Ideal) x0 x1 (ix2 i d) = ∑ k : Fin 1024, x0 (ix2 i k) * x1 (ix2 k d) := by
  unfold k0_pay1
  rw [shapeCast_self, shapeCast_self]
  exact nn (M := 2048) (K := 1024) (N := 1024) (φ₁ := .bf16) (φ₂ := .bf16) x0 x1 i d

theorem blockOut (x0 : Vec Ideal S2048x1024 .bf16) (x1 : Vec Ideal S1024x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg0) : FVec Ideal S8192x1024 .f32) := by
  dsimp only [V, hostOps0, List.flatten_cons, List.flatten_nil, List.cons_append, List.nil_append]
  after_results_simp <;> rfl

theorem V_b : V m c main_v1 = (m ((c : Thread nD τ).loc main_arg1) : FVec Ideal S1024x1024 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 2048) (k : Fin 1024) : iblk m c 0 t (ix2 i k) = (m ((c : Thread nD τ).loc main_arg0) : FVec Ideal S8192x1024 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 1024) (k : Fin 1024) : iblk m c 1 t (ix2 i k) = (m ((c : Thread nD τ).loc main_arg1) : FVec Ideal S1024x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 2048) (k : Fin 1024) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; simp

open Cert.Reference12Ideal.Read in
/-- The reference's entry. -/
theorem ref (x0 : FVec Ideal S8192x1024 .f32) (x1 : FVec Ideal S1024x1024 .f32) (i : Fin 8192) (d : Fin 1024) :
    val_main_v1 (F := Ideal) x0 x1 (ix2 i d) = ∑ k : Fin 1024, x0 (ix2 i k) * x1 (ix2 k d) := by
  rw [val_main_v1_apply, val_main_v0_apply]
  refine Finset.sum_congr rfl fun k _ => ?_
  rw [idx2 (lidx_main_v0 (ix2 i d) k) i k rfl rfl, idx2 (ridx_main_v0 (ix2 i d) k) k d rfl rfl]

/-- The kernel's result is the reference's. -/
theorem array : (dats m 0 c).arrAt 2 cfg0.N = Cert.Reference12Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  obtain ⟨i, d, rfl⟩ : ∃ (i : Fin 2048) (d : Fin 1024), y = ix2 i d := ⟨y 0, y 1, eq_ix2 y⟩
  rw [emb2, after0_2]
  dsimp only
  rw [blockOut, pay, ref]
  simp only [block0, block1]

end Cert.Kernel12Ideal.OMla

end
-- ==== Proof.DAttn.lean ====
/- The gradient of the attention's output: each block of the kernel's result is the reference's. -/
module

public import proofs.«01_k».proof.Proof.Products
public import proofs.«01_k».proof.Proof.Gen.Kernel13Ideal.Value
public import proofs.«01_k».proof.Proof.Gen.Reference13Ideal.Read

@[expose] public section

set_option maxRecDepth 16384

noncomputable section

namespace Cert.Kernel13Ideal.DAttn

open Idealize.ShloMosaic Idealize.ShloMosaic.TcCoe Idealize.SL.Sem Cert.Kernel13Ideal Cert.Kernel13Ideal.Gen Attn Products

/-- What the body leaves, entry by entry: the product over the 1024 columns. -/
theorem pay (x0 : Vec Ideal S2048x1024 .bf16) (x1 : Vec Ideal S1024x1024 .bf16) (i : Fin 2048) (d : Fin 1024) :
    k0_pay1 (F := Ideal) x0 x1 (ix2 i d) = ∑ k : Fin 1024, x0 (ix2 i k) * x1 (ix2 d k) := by
  unfold k0_pay1
  rw [shapeCast_self, shapeCast_self]
  exact nt (M := 2048) (K := 1024) (N := 1024) (φ₁ := .bf16) (φ₂ := .bf16) x0 x1 i d

theorem blockOut (x0 : Vec Ideal S2048x1024 .bf16) (x1 : Vec Ideal S1024x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg2) : FVec Ideal S8192x1024 .f32) := by
  dsimp only [V, hostOps0, List.flatten_cons, List.flatten_nil, List.cons_append, List.nil_append]
  after_results_simp <;> rfl

theorem V_b : V m c main_v1 = (m ((c : Thread nD τ).loc main_arg1) : FVec Ideal S1024x1024 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 2048) (k : Fin 1024) : iblk m c 0 t (ix2 i k) = (m ((c : Thread nD τ).loc main_arg2) : FVec Ideal S8192x1024 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 1024) (k : Fin 1024) : iblk m c 1 t (ix2 i k) = (m ((c : Thread nD τ).loc main_arg1) : FVec Ideal S1024x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 2048) (k : Fin 1024) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; simp

open Cert.Reference13Ideal.Read in
/-- The reference's entry. -/
theorem ref (x0 : FVec Ideal S8192x1024 .f32) (x1 : FVec Ideal S1024x1024 .f32) (i : Fin 8192) (d : Fin 1024) :
    val_main_v2 (F := Ideal) x1 x0 (ix2 i d) = ∑ k : Fin 1024, x0 (ix2 i k) * x1 (ix2 d k) := by
  rw [val_main_v2_apply, val_main_v1_apply]
  refine Finset.sum_congr rfl fun k _ => ?_
  rw [idx2 (lidx_main_v1 (ix2 i d) k) i k rfl rfl, idx2 (ridx_main_v1 (ix2 i d) k) d k rfl rfl]

/-- The kernel's result is the reference's. -/
theorem array : (dats m 0 c).arrAt 2 cfg0.N = Cert.Reference13Ideal.Read.val_main_v2 (F := Ideal) (m ((c : Thread nD τ).loc main_arg1)) (m ((c : Thread nD τ).loc main_arg2)) := by
  refine (dats m 0 c).arrAt_eq_of_covers 2 _ (by decide +kernel) fun t hf y => ?_
  blk_simp
  obtain ⟨i, d, rfl⟩ : ∃ (i : Fin 2048) (d : Fin 1024), y = ix2 i d := ⟨y 0, y 1, eq_ix2 y⟩
  rw [emb2, after0_2]
  dsimp only
  rw [blockOut, pay, ref]
  simp only [block0, block1]

end Cert.Kernel13Ideal.DAttn

end
-- ==== Proof.DWOMla.lean ====
/- The gradient of the matrix after the attention: the kernel sums the rows in four spans of 2048; over the
   extended reals that is the reference's sum over all 8192 rows. -/
module

public import proofs.«01_k».proof.Proof.Products
public import proofs.«01_k».proof.Proof.Gen.Kernel14Ideal.Value
public import proofs.«01_k».proof.Proof.Gen.Reference14Ideal.Read

@[expose] public section

set_option maxRecDepth 16384

noncomputable section

namespace Cert.Kernel14Ideal.DWOMla

open Idealize.ShloMosaic Idealize.ShloMosaic.TcCoe Idealize.SL.Sem Cert.Kernel14Ideal Cert.Kernel14Ideal.Gen Attn Products

/-- One span's share of one entry. -/
def part (x0 : Vec Ideal S2048x1024 .bf16) (x1 : Vec Ideal S2048x1024 .bf16) (i : Fin 1024) (d : Fin 1024) : EReal := ∑ k : Fin 2048, x0 (ix2 k i) * x1 (ix2 k d)

theorem pay1 (x0 : Vec Ideal S2048x1024 .bf16) (x1 : Vec Ideal S2048x1024 .bf16) (i : Fin 1024) (d : Fin 1024) : k0_pay1 (F := Ideal) x0 x1 (ix2 i d) = part x0 x1 i d := by
  unfold k0_pay1
  rw [shapeCast_self, shapeCast_self]
  exact tn (K := 2048) (M := 1024) (N := 1024) (φ₁ := .bf16) (φ₂ := .bf16) x0 x1 i d

variable (m : (ℓ : Loc nD τ sig) → Buf (Elt Ideal) ℓ) (c : Dev nD)

/-- The accumulator after the first span. -/
theorem accA (t : Fin cfg0.N) (h : t.val % 4 = 0) (i : Fin 1024) (d : Fin 1024) :
    (outsAt0 m c t.val t.isLt).2 (ix2 i d) = 0 + part (iblk m c 0 t) (iblk m c 1 t) i d := by
  have hN : (t : ℕ) < 4 := lt_of_lt_of_eq t.isLt N_0
  rw [outsAt0_A m c t h (by omega) (by omega)]
  frame_out
  unfold k0_pay2
  rw [shapeCast_self, pay1, zero_add]

/-- The accumulator after a later span. -/
theorem accB (t : Fin cfg0.N) (h : ¬t.val % 4 = 0) (i : Fin 1024) (d : Fin 1024) :
    (outsAt0 m c t.val t.isLt).2 (ix2 i d) = (outsAt0 m c (t.val - 1) (Nat.lt_of_le_of_lt (Nat.sub_le _ _) t.isLt)).2 (ix2 i d) + part (iblk m c 0 t) (iblk m c 1 t) i d := by
  by_cases h3 : t.val % 4 = 3
  · rw [outsAt0_C m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)
  · rw [outsAt0_B m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)

/-- What a block's last grid point writes back is its accumulator. -/
theorem last (t : Fin cfg0.N) (h3 : t.val % 4 = 3) (i : Fin 1024) (d : Fin 1024) :
    (outsAt0 m c t.val t.isLt).1 (ix2 i d) = (outsAt0 m c t.val t.isLt).2 (ix2 i d) := by
  rw [outsAt0_C m c t (by omega) (by omega) h3]
  frame_out
  rfl

/-- The accumulator at a block's last grid point: the four spans' shares. -/
theorem spans (t : Fin cfg0.N) (h3 : t.val % 4 = 3) (i : Fin 1024) (d : Fin 1024) :
    (outsAt0 m c t.val t.isLt).2 (ix2 i d)
      = 0 + ∑ s : Fin 4, part (iblk m c 0 ⟨4 * (t.val / 4) + s.val, Pipeline.run_point_lt_of_flush t h3 s⟩) (iblk m c 1 ⟨4 * (t.val / 4) + s.val, Pipeline.run_point_lt_of_flush t h3 s⟩) i d :=
  Pipeline.eq_sum_fin_of_reset_step_of_flush (fun n h => (outsAt0 m c n h).2 (ix2 i d)) 4 0 (fun t => part (iblk m c 0 t) (iblk m c 1 t) i d)
    (fun t h => accA m c t h i d) (fun t h => accB m c t h i d) t h3

theorem V_a : V m c main_v0 = (m ((c : Thread nD τ).loc main_arg0) : FVec Ideal S8192x1024 .f32) := by
  dsimp only [V, hostOps0, List.flatten_cons, List.flatten_nil, List.cons_append, List.nil_append]
  after_results_simp <;> rfl

theorem V_b : V m c main_v1 = (m ((c : Thread nD τ).loc main_arg2) : FVec Ideal S8192x1024 .f32) := by
  dsimp only [V, hostOps0, List.flatten_cons, List.flatten_nil, List.cons_append, List.nil_append]
  after_results_simp <;> rfl

theorem index0 : ∀ t : Fin grid0.N, win0_0.index t 0 = (t : ℕ) % 4 ∧ win0_0.index t 1 = 0 := by decide +kernel
theorem index1 : ∀ t : Fin grid0.N, win0_1.index t 0 = (t : ℕ) % 4 ∧ win0_1.index t 1 = 0 := by decide +kernel
theorem index2 : ∀ t : Fin grid0.N, win0_2.index t 0 = 0 ∧ win0_2.index t 1 = 0 := by decide +kernel

theorem block0 (u : Fin cfg0.N) (s : Fin 4) (hs : (u : ℕ) % 4 = s) (k : Fin 2048) (i : Fin 1024) :
    iblk m c 0 u (ix2 k i) = (m ((c : Thread nD τ).loc main_arg0) : FVec Ideal S8192x1024 .f32) (ix2 (spanRow s k) i) := by
  rw [← V_a m c]
  show V m c main_v0 ((win0_0.blk u).view.emb (ix2 k i)) = _
  congr 1
  refine idx2 _ _ _ ?_ ?_
  · show ((win0_0.rect u).emb (ix2 k i) 0 : ℕ) = _
    rw [Pipeline.Window.rect_emb_val win0_0 u, (index0 u).1, hs]; rfl
  · show ((win0_0.rect u).emb (ix2 k i) 1 : ℕ) = _
    rw [Pipeline.Window.rect_emb_val win0_0 u, (index0 u).2]; simp

theorem block1 (u : Fin cfg0.N) (s : Fin 4) (hs : (u : ℕ) % 4 = s) (k : Fin 2048) (d : Fin 1024) :
    iblk m c 1 u (ix2 k d) = (m ((c : Thread nD τ).loc main_arg2) : FVec Ideal S8192x1024 .f32) (ix2 (spanRow s k) d) := by
  rw [← V_b m c]
  show V m c main_v1 ((win0_1.blk u).view.emb (ix2 k d)) = _
  congr 1
  refine idx2 _ _ _ ?_ ?_
  · show ((win0_1.rect u).emb (ix2 k d) 0 : ℕ) = _
    rw [Pipeline.Window.rect_emb_val win0_1 u, (index1 u).1, hs]; rfl
  · show ((win0_1.rect u).emb (ix2 k d) 1 : ℕ) = _
    rw [Pipeline.Window.rect_emb_val win0_1 u, (index1 u).2]; simp

theorem emb2 (t : Fin cfg0.N) (i : Fin 1024) (d : Fin 1024) : (win0_2.blk t).view.emb (ix2 i d) = ix2 i d := by
  refine idx2 _ _ _ ?_ ?_
  · show ((win0_2.rect t).emb (ix2 i d) 0 : ℕ) = _
    rw [Pipeline.Window.rect_emb_val win0_2 t, (index2 t).1]; simp
  · show ((win0_2.rect t).emb (ix2 i d) 1 : ℕ) = _
    rw [Pipeline.Window.rect_emb_val win0_2 t, (index2 t).2]; simp

open Cert.Reference14Ideal.Read in
/-- The reference's entry: the sum over all rows. -/
theorem ref (x0 : FVec Ideal S8192x1024 .f32) (x2 : FVec Ideal S8192x1024 .f32) (i : Fin 1024) (d : Fin 1024) :
    val_main_v3 (F := Ideal) x0 x2 (ix2 i d) = colDot (M := 1024) (N := 1024) x0 x2 i d := by
  rw [val_main_v3_apply, val_main_v2_apply, idx2 (idx_main_v2 (ix2 i d)) d i rfl rfl, val_main_v1_apply]
  refine Finset.sum_congr rfl fun k _ => ?_
  rw [idx2 (lidx_main_v1 (ix2 d i) k) k d rfl rfl, idx2 (ridx_main_v1 (ix2 d i) k) k i rfl rfl, mul_comm]

/-- What a block's last grid point writes back, entry by entry. -/
theorem entry (t : Fin cfg0.N) (h3 : t.val % 4 = 3) (i : Fin 1024) (d : Fin 1024) :
    (outsAt0 m c t.val t.isLt).1 (ix2 i d)
      = colDot (M := 1024) (N := 1024) (m ((c : Thread nD τ).loc main_arg0) : FVec Ideal S8192x1024 .f32) (m ((c : Thread nD τ).loc main_arg2) : FVec Ideal S8192x1024 .f32) i d := by
  rw [last m c t h3, spans m c t h3, zero_add, colDot, ← sum_spans]
  refine Finset.sum_congr rfl fun s _ => Finset.sum_congr rfl fun k _ => ?_
  have hs := s.isLt
  rw [block0 m c _ s (by dsimp only; omega), block1 m c _ s (by dsimp only; omega)]

/-- The kernel's result is the reference's. -/
theorem array : (dats m 0 c).arrAt 2 cfg0.N = Cert.Reference14Ideal.Read.val_main_v3 (F := Ideal) (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  obtain ⟨i, d, rfl⟩ : ∃ (i : Fin 1024) (d : Fin 1024), y = ix2 i d := ⟨y 0, y 1, eq_ix2 y⟩
  rw [emb2, after0_2]
  dsimp only
  rw [entry m c t h3, ref]

end Cert.Kernel14Ideal.DWOMla

end
-- ==== Proof.Uq.lean ====
/- The product that makes the attention's queries: each block of the kernel's result is the reference's. -/
module

public import proofs.«01_k».proof.Proof.Products
public import proofs.«01_k».proof.Proof.Gen.Kernel15Ideal.Value
public import proofs.«01_k».proof.Proof.Gen.Reference15Ideal.Read

@[expose] public section

set_option maxRecDepth 16384

noncomputable section

namespace Cert.Kernel15Ideal.Uq

open Idealize.ShloMosaic Idealize.ShloMosaic.TcCoe Idealize.SL.Sem Cert.Kernel15Ideal Cert.Kernel15Ideal.Gen Attn Products

/-- What the body leaves, entry by entry: the product over the 384 columns. -/
theorem pay (x0 : Vec Ideal S2048x384 .bf16) (x1 : Vec Ideal S384x1024 .bf16) (i : Fin 2048) (d : Fin 1024) :
    k0_pay1 (F := Ideal) x0 x1 (ix2 i d) = ∑ k : Fin 384, x0 (ix2 i k) * x1 (ix2 k d) := by
  unfold k0_pay1
  rw [shapeCast_self, shapeCast_self]
  exact nn (M := 2048) (K := 384) (N := 1024) (φ₁ := .bf16) (φ₂ := .bf16) x0 x1 i d

theorem blockOut (x0 : Vec Ideal S2048x384 .bf16) (x1 : Vec Ideal S384x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg0) : FVec Ideal S8192x384 .f32) := by
  dsimp only [V, hostOps0, List.flatten_cons, List.flatten_nil, List.cons_append, List.nil_append]
  after_results_simp <;> rfl

theorem V_b : V m c main_v1 = (m ((c : Thread nD τ).loc main_arg1) : FVec Ideal S384x2048 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩
/-- The columns of the block at a grid point. -/
def col (t : Fin cfg0.N) (d : Fin 1024) : Fin 2048 := ⟨1024 * (grid0.coords t 1 : ℕ) + d, by have := (grid0.coords t 1).isLt; have := d.isLt; change _ < 2 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = (grid0.coords t 1 : ℕ) := by decide +kernel
theorem index2 : ∀ t : Fin grid0.N, win0_2.index t 0 = (grid0.coords t 0 : ℕ) ∧ win0_2.index t 1 = (grid0.coords t 1 : ℕ) := by decide +kernel

theorem block0 (t : Fin cfg0.N) (i : Fin 2048) (k : Fin 384) : iblk m c 0 t (ix2 i k) = (m ((c : Thread nD τ).loc main_arg0) : FVec Ideal S8192x384 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 384) (k : Fin 1024) : iblk m c 1 t (ix2 i k) = (m ((c : Thread nD τ).loc main_arg1) : FVec Ideal S384x2048 .f32) (ix2 i (col t k)) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; show _ * 1024 + _ = _; simp only [col]; rw [mul_comm]; rfl

theorem emb2 (t : Fin cfg0.N) (i : Fin 2048) (k : Fin 1024) : (win0_2.blk t).view.emb (ix2 i k) = ix2 (row t i) (col t k) := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; show _ * 1024 + _ = _; simp only [col]; rw [mul_comm]; rfl

open Cert.Reference15Ideal.Read in
/-- The reference's entry. -/
theorem ref (x0 : FVec Ideal S8192x384 .f32) (x1 : FVec Ideal S384x2048 .f32) (i : Fin 8192) (d : Fin 2048) :
    val_main_v1 (F := Ideal) x0 x1 (ix2 i d) = ∑ k : Fin 384, x0 (ix2 i k) * x1 (ix2 k d) := by
  rw [val_main_v1_apply, val_main_v0_apply]
  refine Finset.sum_congr rfl fun k _ => ?_
  rw [idx2 (lidx_main_v0 (ix2 i d) k) i k rfl rfl, idx2 (ridx_main_v0 (ix2 i d) k) k d rfl rfl]

/-- The kernel's result is the reference's. -/
theorem array : (dats m 0 c).arrAt 2 cfg0.N = Cert.Reference15Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  obtain ⟨i, d, rfl⟩ : ∃ (i : Fin 2048) (d : Fin 1024), y = ix2 i d := ⟨y 0, y 1, eq_ix2 y⟩
  rw [emb2, after0_2]
  dsimp only
  rw [blockOut, pay, ref]
  simp only [block0, block1]

end Cert.Kernel15Ideal.Uq

end
-- ==== Proof.Ukv.lean ====
/- The product that makes the attention's keys and values: each block of the kernel's result is the reference's. -/
module

public import proofs.«01_k».proof.Proof.Products
public import proofs.«01_k».proof.Proof.Gen.Kernel16Ideal.Value
public import proofs.«01_k».proof.Proof.Gen.Reference16Ideal.Read

@[expose] public section

set_option maxRecDepth 16384

noncomputable section

namespace Cert.Kernel16Ideal.Ukv

open Idealize.ShloMosaic Idealize.ShloMosaic.TcCoe Idealize.SL.Sem Cert.Kernel16Ideal Cert.Kernel16Ideal.Gen Attn Products

/-- What the body leaves, entry by entry: the product over the 256 columns. -/
theorem pay (x0 : Vec Ideal S2048x256 .bf16) (x1 : Vec Ideal S256x1024 .bf16) (i : Fin 2048) (d : Fin 1024) :
    k0_pay1 (F := Ideal) x0 x1 (ix2 i d) = ∑ k : Fin 256, x0 (ix2 i k) * x1 (ix2 k d) := by
  unfold k0_pay1
  rw [shapeCast_self, shapeCast_self]
  exact nn (M := 2048) (K := 256) (N := 1024) (φ₁ := .bf16) (φ₂ := .bf16) x0 x1 i d

theorem blockOut (x0 : Vec Ideal S2048x256 .bf16) (x1 : Vec Ideal S256x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg0) : FVec Ideal S8192x256 .f32) := by
  dsimp only [V, hostOps0, List.flatten_cons, List.flatten_nil, List.cons_append, List.nil_append]
  after_results_simp <;> rfl

theorem V_b : V m c main_v1 = (m ((c : Thread nD τ).loc main_arg1) : FVec Ideal S256x2048 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩
/-- The columns of the block at a grid point. -/
def col (t : Fin cfg0.N) (d : Fin 1024) : Fin 2048 := ⟨1024 * (grid0.coords t 1 : ℕ) + d, by have := (grid0.coords t 1).isLt; have := d.isLt; change _ < 2 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = (grid0.coords t 1 : ℕ) := by decide +kernel
theorem index2 : ∀ t : Fin grid0.N, win0_2.index t 0 = (grid0.coords t 0 : ℕ) ∧ win0_2.index t 1 = (grid0.coords t 1 : ℕ) := by decide +kernel

theorem block0 (t : Fin cfg0.N) (i : Fin 2048) (k : Fin 256) : iblk m c 0 t (ix2 i k) = (m ((c : Thread nD τ).loc main_arg0) : FVec Ideal S8192x256 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 256) (k : Fin 1024) : iblk m c 1 t (ix2 i k) = (m ((c : Thread nD τ).loc main_arg1) : FVec Ideal S256x2048 .f32) (ix2 i (col t k)) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; show _ * 1024 + _ = _; simp only [col]; rw [mul_comm]; rfl

theorem emb2 (t : Fin cfg0.N) (i : Fin 2048) (k : Fin 1024) : (win0_2.blk t).view.emb (ix2 i k) = ix2 (row t i) (col t k) := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; show _ * 1024 + _ = _; simp only [col]; rw [mul_comm]; rfl

open Cert.Reference16Ideal.Read in
/-- The reference's entry. -/
theorem ref (x0 : FVec Ideal S8192x256 .f32) (x1 : FVec Ideal S256x2048 .f32) (i : Fin 8192) (d : Fin 2048) :
    val_main_v1 (F := Ideal) x0 x1 (ix2 i d) = ∑ k : Fin 256, x0 (ix2 i k) * x1 (ix2 k d) := by
  rw [val_main_v1_apply, val_main_v0_apply]
  refine Finset.sum_congr rfl fun k _ => ?_
  rw [idx2 (lidx_main_v0 (ix2 i d) k) i k rfl rfl, idx2 (ridx_main_v0 (ix2 i d) k) k d rfl rfl]

/-- The kernel's result is the reference's. -/
theorem array : (dats m 0 c).arrAt 2 cfg0.N = Cert.Reference16Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  obtain ⟨i, d, rfl⟩ : ∃ (i : Fin 2048) (d : Fin 1024), y = ix2 i d := ⟨y 0, y 1, eq_ix2 y⟩
  rw [emb2, after0_2]
  dsimp only
  rw [blockOut, pay, ref]
  simp only [block0, block1]

end Cert.Kernel16Ideal.Ukv

end
-- ==== Proof.DUq.lean ====
/- The gradient of the queries' matrix: the kernel sums the rows in four spans of 2048;
   over the extended reals that is the reference's sum over all 8192 rows. -/
module

public import proofs.«01_k».proof.Proof.Products
public import proofs.«01_k».proof.Proof.Gen.Kernel17Ideal.Value
public import proofs.«01_k».proof.Proof.Gen.Reference17Ideal.Read

@[expose] public section

set_option maxRecDepth 16384

noncomputable section

namespace Cert.Kernel17Ideal.DUq

open Idealize.ShloMosaic Idealize.ShloMosaic.TcCoe Idealize.SL.Sem Cert.Kernel17Ideal Cert.Kernel17Ideal.Gen Attn Products

/-- One span's share of one entry. -/
def part (x0 : Vec Ideal S2048x384 .bf16) (x1 : Vec Ideal S2048x2048 .bf16) (i : Fin 384) (d : Fin 2048) : EReal := ∑ k : Fin 2048, x0 (ix2 k i) * x1 (ix2 k d)

theorem pay1 (x0 : Vec Ideal S2048x384 .bf16) (x1 : Vec Ideal S2048x2048 .bf16) (i : Fin 384) (d : Fin 2048) : k0_pay1 (F := Ideal) x0 x1 (ix2 i d) = part x0 x1 i d := by
  unfold k0_pay1
  rw [shapeCast_self, shapeCast_self]
  exact tn (K := 2048) (M := 384) (N := 2048) (φ₁ := .bf16) (φ₂ := .bf16) x0 x1 i d

variable (m : (ℓ : Loc nD τ sig) → Buf (Elt Ideal) ℓ) (c : Dev nD)

/-- The accumulator after the first span. -/
theorem accA (t : Fin cfg0.N) (h : t.val % 4 = 0) (i : Fin 384) (d : Fin 2048) :
    (outsAt0 m c t.val t.isLt).2 (ix2 i d) = 0 + part (iblk m c 0 t) (iblk m c 1 t) i d := by
  have hN : (t : ℕ) < 4 := lt_of_lt_of_eq t.isLt N_0
  rw [outsAt0_A m c t h (by omega) (by omega)]
  frame_out
  unfold k0_pay2
  rw [shapeCast_self, pay1, zero_add]

/-- The accumulator after a later span. -/
theorem accB (t : Fin cfg0.N) (h : ¬t.val % 4 = 0) (i : Fin 384) (d : Fin 2048) :
    (outsAt0 m c t.val t.isLt).2 (ix2 i d) = (outsAt0 m c (t.val - 1) (Nat.lt_of_le_of_lt (Nat.sub_le _ _) t.isLt)).2 (ix2 i d) + part (iblk m c 0 t) (iblk m c 1 t) i d := by
  by_cases h3 : t.val % 4 = 3
  · rw [outsAt0_C m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)
  · rw [outsAt0_B m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)

/-- What a block's last grid point writes back is its accumulator. -/
theorem last (t : Fin cfg0.N) (h3 : t.val % 4 = 3) (i : Fin 384) (d : Fin 2048) :
    (outsAt0 m c t.val t.isLt).1 (ix2 i d) = (outsAt0 m c t.val t.isLt).2 (ix2 i d) := by
  rw [outsAt0_C m c t (by omega) (by omega) h3]
  frame_out
  rfl

/-- The accumulator at a block's last grid point: the four spans' shares. -/
theorem spans (t : Fin cfg0.N) (h3 : t.val % 4 = 3) (i : Fin 384) (d : Fin 2048) :
    (outsAt0 m c t.val t.isLt).2 (ix2 i d)
      = 0 + ∑ s : Fin 4, part (iblk m c 0 ⟨4 * (t.val / 4) + s.val, Pipeline.run_point_lt_of_flush t h3 s⟩) (iblk m c 1 ⟨4 * (t.val / 4) + s.val, Pipeline.run_point_lt_of_flush t h3 s⟩) i d :=
  Pipeline.eq_sum_fin_of_reset_step_of_flush (fun n h => (outsAt0 m c n h).2 (ix2 i d)) 4 0 (fun t => part (iblk m c 0 t) (iblk m c 1 t) i d)
    (fun t h => accA m c t h i d) (fun t h => accB m c t h i d) t h3

theorem V_a : V m c main_v0 = (m ((c : Thread nD τ).loc main_arg0) : FVec Ideal S8192x384 .f32) := by
  dsimp only [V, hostOps0, List.flatten_cons, List.flatten_nil, List.cons_append, List.nil_append]
  after_results_simp <;> rfl

theorem V_b : V m c main_v1 = (m ((c : Thread nD τ).loc main_arg2) : FVec Ideal S8192x2048 .f32) := by
  dsimp only [V, hostOps0, List.flatten_cons, List.flatten_nil, List.cons_append, List.nil_append]
  after_results_simp <;> rfl

theorem index0 : ∀ t : Fin grid0.N, win0_0.index t 0 = (t : ℕ) % 4 ∧ win0_0.index t 1 = 0 := by decide +kernel
theorem index1 : ∀ t : Fin grid0.N, win0_1.index t 0 = (t : ℕ) % 4 ∧ win0_1.index t 1 = 0 := by decide +kernel
theorem index2 : ∀ t : Fin grid0.N, win0_2.index t 0 = 0 ∧ win0_2.index t 1 = 0 := by decide +kernel

theorem block0 (u : Fin cfg0.N) (s : Fin 4) (hs : (u : ℕ) % 4 = s) (k : Fin 2048) (i : Fin 384) :
    iblk m c 0 u (ix2 k i) = (m ((c : Thread nD τ).loc main_arg0) : FVec Ideal S8192x384 .f32) (ix2 (spanRow s k) i) := by
  rw [← V_a m c]
  show V m c main_v0 ((win0_0.blk u).view.emb (ix2 k i)) = _
  congr 1
  refine idx2 _ _ _ ?_ ?_
  · show ((win0_0.rect u).emb (ix2 k i) 0 : ℕ) = _
    rw [Pipeline.Window.rect_emb_val win0_0 u, (index0 u).1, hs]; rfl
  · show ((win0_0.rect u).emb (ix2 k i) 1 : ℕ) = _
    rw [Pipeline.Window.rect_emb_val win0_0 u, (index0 u).2]; simp

theorem block1 (u : Fin cfg0.N) (s : Fin 4) (hs : (u : ℕ) % 4 = s) (k : Fin 2048) (d : Fin 2048) :
    iblk m c 1 u (ix2 k d) = (m ((c : Thread nD τ).loc main_arg2) : FVec Ideal S8192x2048 .f32) (ix2 (spanRow s k) d) := by
  rw [← V_b m c]
  show V m c main_v1 ((win0_1.blk u).view.emb (ix2 k d)) = _
  congr 1
  refine idx2 _ _ _ ?_ ?_
  · show ((win0_1.rect u).emb (ix2 k d) 0 : ℕ) = _
    rw [Pipeline.Window.rect_emb_val win0_1 u, (index1 u).1, hs]; rfl
  · show ((win0_1.rect u).emb (ix2 k d) 1 : ℕ) = _
    rw [Pipeline.Window.rect_emb_val win0_1 u, (index1 u).2]; simp

theorem emb2 (t : Fin cfg0.N) (i : Fin 384) (d : Fin 2048) : (win0_2.blk t).view.emb (ix2 i d) = ix2 i d := by
  refine idx2 _ _ _ ?_ ?_
  · show ((win0_2.rect t).emb (ix2 i d) 0 : ℕ) = _
    rw [Pipeline.Window.rect_emb_val win0_2 t, (index2 t).1]; simp
  · show ((win0_2.rect t).emb (ix2 i d) 1 : ℕ) = _
    rw [Pipeline.Window.rect_emb_val win0_2 t, (index2 t).2]; simp

open Cert.Reference17Ideal.Read in
/-- The reference's entry: the sum over all rows. -/
theorem ref (x0 : FVec Ideal S8192x384 .f32) (x2 : FVec Ideal S8192x2048 .f32) (i : Fin 384) (d : Fin 2048) :
    val_main_v3 (F := Ideal) x0 x2 (ix2 i d) = colDot (M := 384) (N := 2048) x0 x2 i d := by
  rw [val_main_v3_apply, val_main_v2_apply, idx2 (idx_main_v2 (ix2 i d)) d i rfl rfl, val_main_v1_apply]
  refine Finset.sum_congr rfl fun k _ => ?_
  rw [idx2 (lidx_main_v1 (ix2 d i) k) k d rfl rfl, idx2 (ridx_main_v1 (ix2 d i) k) k i rfl rfl, mul_comm]

/-- What a block's last grid point writes back, entry by entry. -/
theorem entry (t : Fin cfg0.N) (h3 : t.val % 4 = 3) (i : Fin 384) (d : Fin 2048) :
    (outsAt0 m c t.val t.isLt).1 (ix2 i d)
      = colDot (M := 384) (N := 2048) (m ((c : Thread nD τ).loc main_arg0) : FVec Ideal S8192x384 .f32) (m ((c : Thread nD τ).loc main_arg2) : FVec Ideal S8192x2048 .f32) i d := by
  rw [last m c t h3, spans m c t h3, zero_add, colDot, ← sum_spans]
  refine Finset.sum_congr rfl fun s _ => Finset.sum_congr rfl fun k _ => ?_
  have hs := s.isLt
  rw [block0 m c _ s (by dsimp only; omega), block1 m c _ s (by dsimp only; omega)]

/-- The kernel's result is the reference's. -/
theorem array : (dats m 0 c).arrAt 2 cfg0.N = Cert.Reference17Ideal.Read.val_main_v3 (F := Ideal) (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  obtain ⟨i, d, rfl⟩ : ∃ (i : Fin 384) (d : Fin 2048), y = ix2 i d := ⟨y 0, y 1, eq_ix2 y⟩
  rw [emb2, after0_2]
  dsimp only
  rw [entry m c t h3, ref]

end Cert.Kernel17Ideal.DUq

end
-- ==== Proof.Dnq.lean ====
/- The gradient of the normalised latent queries: each block of the kernel's result is the reference's. -/
module

public import proofs.«01_k».proof.Proof.Products
public import proofs.«01_k».proof.Proof.Gen.Kernel18Ideal.Value
public import proofs.«01_k».proof.Proof.Gen.Reference18Ideal.Read

@[expose] public section

set_option maxRecDepth 16384

noncomputable section

namespace Cert.Kernel18Ideal.Dnq

open Idealize.ShloMosaic Idealize.ShloMosaic.TcCoe Idealize.SL.Sem Cert.Kernel18Ideal Cert.Kernel18Ideal.Gen Attn Products

/-- What the body leaves, entry by entry: the product over the 2048 columns. -/
theorem pay (x0 : Vec Ideal S1024x2048 .bf16) (x1 : Vec Ideal S384x2048 .bf16) (i : Fin 1024) (d : Fin 384) :
    k0_pay1 (F := Ideal) x0 x1 (ix2 i d) = ∑ k : Fin 2048, x0 (ix2 i k) * x1 (ix2 d k) := by
  unfold k0_pay1
  rw [shapeCast_self, shapeCast_self]
  exact nt (M := 1024) (K := 2048) (N := 384) (φ₁ := .bf16) (φ₂ := .bf16) x0 x1 i d

theorem blockOut (x0 : Vec Ideal S1024x2048 .bf16) (x1 : Vec Ideal S384x2048 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg2) : FVec Ideal S8192x2048 .f32) := by
  dsimp only [V, hostOps0, List.flatten_cons, List.flatten_nil, List.cons_append, List.nil_append]
  after_results_simp <;> rfl

theorem V_b : V m c main_v1 = (m ((c : Thread nD τ).loc main_arg1) : FVec Ideal S384x2048 .f32) := by
  dsimp only [V, hostOps0, List.flatten_cons, List.flatten_nil, List.cons_append, List.nil_append]
  after_results_simp <;> rfl

/-- The rows of the block at a grid point. -/
def row (t : Fin cfg0.N) (i : Fin 1024) : Fin 8192 := ⟨1024 * (grid0.coords t 0 : ℕ) + i, by have := (grid0.coords t 0).isLt; have := i.isLt; change _ < 8 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 1024) (k : Fin 2048) : iblk m c 0 t (ix2 i k) = (m ((c : Thread nD τ).loc main_arg2) : FVec Ideal S8192x2048 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 1024 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 384) (k : Fin 2048) : iblk m c 1 t (ix2 i k) = (m ((c : Thread nD τ).loc main_arg1) : FVec Ideal S384x2048 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 1024) (k : Fin 384) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 1024 + _ = _; simp only [row]; rw [mul_comm]; rfl
  · show ((win0_2.rect t).emb (ix2 i k) 1 : ℕ) = _
    rw [Pipeline.Window.rect_emb_val win0_2 t, (index2 t).2]; simp

open Cert.Reference18Ideal.Read in
/-- The reference's entry. -/
theorem ref (x0 : FVec Ideal S8192x2048 .f32) (x1 : FVec Ideal S384x2048 .f32) (i : Fin 8192) (d : Fin 384) :
    val_main_v2 (F := Ideal) x1 x0 (ix2 i d) = ∑ k : Fin 2048, x0 (ix2 i k) * x1 (ix2 d k) := by
  rw [val_main_v2_apply, val_main_v1_apply]
  refine Finset.sum_congr rfl fun k _ => ?_
  rw [idx2 (lidx_main_v1 (ix2 i d) k) i k rfl rfl, idx2 (ridx_main_v1 (ix2 i d) k) d k rfl rfl]

/-- The kernel's result is the reference's. -/
theorem array : (dats m 0 c).arrAt 2 cfg0.N = Cert.Reference18Ideal.Read.val_main_v2 (F := Ideal) (m ((c : Thread nD τ).loc main_arg1)) (m ((c : Thread nD τ).loc main_arg2)) := by
  refine (dats m 0 c).arrAt_eq_of_covers 2 _ (by decide +kernel) fun t hf y => ?_
  blk_simp
  obtain ⟨i, d, rfl⟩ : ∃ (i : Fin 1024) (d : Fin 384), y = ix2 i d := ⟨y 0, y 1, eq_ix2 y⟩
  rw [emb2, after0_2]
  dsimp only
  rw [blockOut, pay, ref]
  simp only [block0, block1]

end Cert.Kernel18Ideal.Dnq

end
-- ==== Proof.DUkv.lean ====
/- The gradient of the keys' and values' matrix: the kernel sums the rows in four spans of 2048;
   over the extended reals that is the reference's sum over all 8192 rows. -/
module

public import proofs.«01_k».proof.Proof.Products
public import proofs.«01_k».proof.Proof.Gen.Kernel19Ideal.Value
public import proofs.«01_k».proof.Proof.Gen.Reference19Ideal.Read

@[expose] public section

set_option maxRecDepth 16384

noncomputable section

namespace Cert.Kernel19Ideal.DUkv

open Idealize.ShloMosaic Idealize.ShloMosaic.TcCoe Idealize.SL.Sem Cert.Kernel19Ideal Cert.Kernel19Ideal.Gen Attn Products

/-- One span's share of one entry. -/
def part (x0 : Vec Ideal S2048x256 .bf16) (x1 : Vec Ideal S2048x2048 .bf16) (i : Fin 256) (d : Fin 2048) : EReal := ∑ k : Fin 2048, x0 (ix2 k i) * x1 (ix2 k d)

theorem pay1 (x0 : Vec Ideal S2048x256 .bf16) (x1 : Vec Ideal S2048x2048 .bf16) (i : Fin 256) (d : Fin 2048) : k0_pay1 (F := Ideal) x0 x1 (ix2 i d) = part x0 x1 i d := by
  unfold k0_pay1
  rw [shapeCast_self, shapeCast_self]
  exact tn (K := 2048) (M := 256) (N := 2048) (φ₁ := .bf16) (φ₂ := .bf16) x0 x1 i d

variable (m : (ℓ : Loc nD τ sig) → Buf (Elt Ideal) ℓ) (c : Dev nD)

/-- The accumulator after the first span. -/
theorem accA (t : Fin cfg0.N) (h : t.val % 4 = 0) (i : Fin 256) (d : Fin 2048) :
    (outsAt0 m c t.val t.isLt).2 (ix2 i d) = 0 + part (iblk m c 0 t) (iblk m c 1 t) i d := by
  have hN : (t : ℕ) < 4 := lt_of_lt_of_eq t.isLt N_0
  rw [outsAt0_A m c t h (by omega) (by omega)]
  frame_out
  unfold k0_pay2
  rw [shapeCast_self, pay1, zero_add]

/-- The accumulator after a later span. -/
theorem accB (t : Fin cfg0.N) (h : ¬t.val % 4 = 0) (i : Fin 256) (d : Fin 2048) :
    (outsAt0 m c t.val t.isLt).2 (ix2 i d) = (outsAt0 m c (t.val - 1) (Nat.lt_of_le_of_lt (Nat.sub_le _ _) t.isLt)).2 (ix2 i d) + part (iblk m c 0 t) (iblk m c 1 t) i d := by
  by_cases h3 : t.val % 4 = 3
  · rw [outsAt0_C m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)
  · rw [outsAt0_B m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)

/-- What a block's last grid point writes back is its accumulator. -/
theorem last (t : Fin cfg0.N) (h3 : t.val % 4 = 3) (i : Fin 256) (d : Fin 2048) :
    (outsAt0 m c t.val t.isLt).1 (ix2 i d) = (outsAt0 m c t.val t.isLt).2 (ix2 i d) := by
  rw [outsAt0_C m c t (by omega) (by omega) h3]
  frame_out
  rfl

/-- The accumulator at a block's last grid point: the four spans' shares. -/
theorem spans (t : Fin cfg0.N) (h3 : t.val % 4 = 3) (i : Fin 256) (d : Fin 2048) :
    (outsAt0 m c t.val t.isLt).2 (ix2 i d)
      = 0 + ∑ s : Fin 4, part (iblk m c 0 ⟨4 * (t.val / 4) + s.val, Pipeline.run_point_lt_of_flush t h3 s⟩) (iblk m c 1 ⟨4 * (t.val / 4) + s.val, Pipeline.run_point_lt_of_flush t h3 s⟩) i d :=
  Pipeline.eq_sum_fin_of_reset_step_of_flush (fun n h => (outsAt0 m c n h).2 (ix2 i d)) 4 0 (fun t => part (iblk m c 0 t) (iblk m c 1 t) i d)
    (fun t h => accA m c t h i d) (fun t h => accB m c t h i d) t h3

theorem V_a : V m c main_v0 = (m ((c : Thread nD τ).loc main_arg0) : FVec Ideal S8192x256 .f32) := by
  dsimp only [V, hostOps0, List.flatten_cons, List.flatten_nil, List.cons_append, List.nil_append]
  after_results_simp <;> rfl

theorem V_b : V m c main_v1 = (m ((c : Thread nD τ).loc main_arg2) : FVec Ideal S8192x2048 .f32) := by
  dsimp only [V, hostOps0, List.flatten_cons, List.flatten_nil, List.cons_append, List.nil_append]
  after_results_simp <;> rfl

theorem index0 : ∀ t : Fin grid0.N, win0_0.index t 0 = (t : ℕ) % 4 ∧ win0_0.index t 1 = 0 := by decide +kernel
theorem index1 : ∀ t : Fin grid0.N, win0_1.index t 0 = (t : ℕ) % 4 ∧ win0_1.index t 1 = 0 := by decide +kernel
theorem index2 : ∀ t : Fin grid0.N, win0_2.index t 0 = 0 ∧ win0_2.index t 1 = 0 := by decide +kernel

theorem block0 (u : Fin cfg0.N) (s : Fin 4) (hs : (u : ℕ) % 4 = s) (k : Fin 2048) (i : Fin 256) :
    iblk m c 0 u (ix2 k i) = (m ((c : Thread nD τ).loc main_arg0) : FVec Ideal S8192x256 .f32) (ix2 (spanRow s k) i) := by
  rw [← V_a m c]
  show V m c main_v0 ((win0_0.blk u).view.emb (ix2 k i)) = _
  congr 1
  refine idx2 _ _ _ ?_ ?_
  · show ((win0_0.rect u).emb (ix2 k i) 0 : ℕ) = _
    rw [Pipeline.Window.rect_emb_val win0_0 u, (index0 u).1, hs]; rfl
  · show ((win0_0.rect u).emb (ix2 k i) 1 : ℕ) = _
    rw [Pipeline.Window.rect_emb_val win0_0 u, (index0 u).2]; simp

theorem block1 (u : Fin cfg0.N) (s : Fin 4) (hs : (u : ℕ) % 4 = s) (k : Fin 2048) (d : Fin 2048) :
    iblk m c 1 u (ix2 k d) = (m ((c : Thread nD τ).loc main_arg2) : FVec Ideal S8192x2048 .f32) (ix2 (spanRow s k) d) := by
  rw [← V_b m c]
  show V m c main_v1 ((win0_1.blk u).view.emb (ix2 k d)) = _
  congr 1
  refine idx2 _ _ _ ?_ ?_
  · show ((win0_1.rect u).emb (ix2 k d) 0 : ℕ) = _
    rw [Pipeline.Window.rect_emb_val win0_1 u, (index1 u).1, hs]; rfl
  · show ((win0_1.rect u).emb (ix2 k d) 1 : ℕ) = _
    rw [Pipeline.Window.rect_emb_val win0_1 u, (index1 u).2]; simp

theorem emb2 (t : Fin cfg0.N) (i : Fin 256) (d : Fin 2048) : (win0_2.blk t).view.emb (ix2 i d) = ix2 i d := by
  refine idx2 _ _ _ ?_ ?_
  · show ((win0_2.rect t).emb (ix2 i d) 0 : ℕ) = _
    rw [Pipeline.Window.rect_emb_val win0_2 t, (index2 t).1]; simp
  · show ((win0_2.rect t).emb (ix2 i d) 1 : ℕ) = _
    rw [Pipeline.Window.rect_emb_val win0_2 t, (index2 t).2]; simp

open Cert.Reference19Ideal.Read in
/-- The reference's entry: the sum over all rows. -/
theorem ref (x0 : FVec Ideal S8192x256 .f32) (x2 : FVec Ideal S8192x2048 .f32) (i : Fin 256) (d : Fin 2048) :
    val_main_v3 (F := Ideal) x0 x2 (ix2 i d) = colDot (M := 256) (N := 2048) x0 x2 i d := by
  rw [val_main_v3_apply, val_main_v2_apply, idx2 (idx_main_v2 (ix2 i d)) d i rfl rfl, val_main_v1_apply]
  refine Finset.sum_congr rfl fun k _ => ?_
  rw [idx2 (lidx_main_v1 (ix2 d i) k) k d rfl rfl, idx2 (ridx_main_v1 (ix2 d i) k) k i rfl rfl, mul_comm]

/-- What a block's last grid point writes back, entry by entry. -/
theorem entry (t : Fin cfg0.N) (h3 : t.val % 4 = 3) (i : Fin 256) (d : Fin 2048) :
    (outsAt0 m c t.val t.isLt).1 (ix2 i d)
      = colDot (M := 256) (N := 2048) (m ((c : Thread nD τ).loc main_arg0) : FVec Ideal S8192x256 .f32) (m ((c : Thread nD τ).loc main_arg2) : FVec Ideal S8192x2048 .f32) i d := by
  rw [last m c t h3, spans m c t h3, zero_add, colDot, ← sum_spans]
  refine Finset.sum_congr rfl fun s _ => Finset.sum_congr rfl fun k _ => ?_
  have hs := s.isLt
  rw [block0 m c _ s (by dsimp only; omega), block1 m c _ s (by dsimp only; omega)]

/-- The kernel's result is the reference's. -/
theorem array : (dats m 0 c).arrAt 2 cfg0.N = Cert.Reference19Ideal.Read.val_main_v3 (F := Ideal) (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  obtain ⟨i, d, rfl⟩ : ∃ (i : Fin 256) (d : Fin 2048), y = ix2 i d := ⟨y 0, y 1, eq_ix2 y⟩
  rw [emb2, after0_2]
  dsimp only
  rw [entry m c t h3, ref]

end Cert.Kernel19Ideal.DUkv

end
-- ==== Proof.Dnkv.lean ====
/- The gradient of the normalised latent keys and values: each block of the kernel's result is the reference's. -/
module

public import proofs.«01_k».proof.Proof.Products
public import proofs.«01_k».proof.Proof.Gen.Kernel20Ideal.Value
public import proofs.«01_k».proof.Proof.Gen.Reference20Ideal.Read

@[expose] public section

set_option maxRecDepth 16384

noncomputable section

namespace Cert.Kernel20Ideal.Dnkv

open Idealize.ShloMosaic Idealize.ShloMosaic.TcCoe Idealize.SL.Sem Cert.Kernel20Ideal Cert.Kernel20Ideal.Gen Attn Products

/-- What the body leaves, entry by entry: the product over the 2048 columns. -/
theorem pay (x0 : Vec Ideal S1024x2048 .bf16) (x1 : Vec Ideal S256x2048 .bf16) (i : Fin 1024) (d : Fin 256) :
    k0_pay1 (F := Ideal) x0 x1 (ix2 i d) = ∑ k : Fin 2048, x0 (ix2 i k) * x1 (ix2 d k) := by
  unfold k0_pay1
  rw [shapeCast_self, shapeCast_self]
  exact nt (M := 1024) (K := 2048) (N := 256) (φ₁ := .bf16) (φ₂ := .bf16) x0 x1 i d

theorem blockOut (x0 : Vec Ideal S1024x2048 .bf16) (x1 : Vec Ideal S256x2048 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg2) : FVec Ideal S8192x2048 .f32) := by
  dsimp only [V, hostOps0, List.flatten_cons, List.flatten_nil, List.cons_append, List.nil_append]
  after_results_simp <;> rfl

theorem V_b : V m c main_v1 = (m ((c : Thread nD τ).loc main_arg1) : FVec Ideal S256x2048 .f32) := by
  dsimp only [V, hostOps0, List.flatten_cons, List.flatten_nil, List.cons_append, List.nil_append]
  after_results_simp <;> rfl

/-- The rows of the block at a grid point. -/
def row (t : Fin cfg0.N) (i : Fin 1024) : Fin 8192 := ⟨1024 * (grid0.coords t 0 : ℕ) + i, by have := (grid0.coords t 0).isLt; have := i.isLt; change _ < 8 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 1024) (k : Fin 2048) : iblk m c 0 t (ix2 i k) = (m ((c : Thread nD τ).loc main_arg2) : FVec Ideal S8192x2048 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 1024 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 256) (k : Fin 2048) : iblk m c 1 t (ix2 i k) = (m ((c : Thread nD τ).loc main_arg1) : FVec Ideal S256x2048 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 1024) (k : Fin 256) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 1024 + _ = _; simp only [row]; rw [mul_comm]; rfl
  · show ((win0_2.rect t).emb (ix2 i k) 1 : ℕ) = _
    rw [Pipeline.Window.rect_emb_val win0_2 t, (index2 t).2]; simp

open Cert.Reference20Ideal.Read in
/-- The reference's entry. -/
theorem ref (x0 : FVec Ideal S8192x2048 .f32) (x1 : FVec Ideal S256x2048 .f32) (i : Fin 8192) (d : Fin 256) :
    val_main_v2 (F := Ideal) x1 x0 (ix2 i d) = ∑ k : Fin 2048, x0 (ix2 i k) * x1 (ix2 d k) := by
  rw [val_main_v2_apply, val_main_v1_apply]
  refine Finset.sum_congr rfl fun k _ => ?_
  rw [idx2 (lidx_main_v1 (ix2 i d) k) i k rfl rfl, idx2 (ridx_main_v1 (ix2 i d) k) d k rfl rfl]

/-- The kernel's result is the reference's. -/
theorem array : (dats m 0 c).arrAt 2 cfg0.N = Cert.Reference20Ideal.Read.val_main_v2 (F := Ideal) (m ((c : Thread nD τ).loc main_arg1)) (m ((c : Thread nD τ).loc main_arg2)) := by
  refine (dats m 0 c).arrAt_eq_of_covers 2 _ (by decide +kernel) fun t hf y => ?_
  blk_simp
  obtain ⟨i, d, rfl⟩ : ∃ (i : Fin 1024) (d : Fin 256), y = ix2 i d := ⟨y 0, y 1, eq_ix2 y⟩
  rw [emb2, after0_2]
  dsimp only
  rw [blockOut, pay, ref]
  simp only [block0, block1]

end Cert.Kernel20Ideal.Dnkv

end
-- ==== Proof.OGm.lean ====
/- The product after the gated mixing: each block of the kernel's result is the reference's. -/
module

public import proofs.«01_k».proof.Proof.Products
public import proofs.«01_k».proof.Proof.Gen.Kernel21Ideal.Value
public import proofs.«01_k».proof.Proof.Gen.Reference21Ideal.Read

@[expose] public section

set_option maxRecDepth 16384

noncomputable section

namespace Cert.Kernel21Ideal.OGm

open Idealize.ShloMosaic Idealize.ShloMosaic.TcCoe Idealize.SL.Sem Cert.Kernel21Ideal Cert.Kernel21Ideal.Gen Attn Products

/-- What the body leaves, entry by entry: the product over the 512 columns. -/
theorem pay (x0 : Vec Ideal S2048x512 .bf16) (x1 : Vec Ideal S512x1024 .bf16) (i : Fin 2048) (d : Fin 1024) :
    k0_pay1 (F := Ideal) x0 x1 (ix2 i d) = ∑ k : Fin 512, x0 (ix2 i k) * x1 (ix2 k d) := by
  unfold k0_pay1
  rw [shapeCast_self, shapeCast_self]
  exact nn (M := 2048) (K := 512) (N := 1024) (φ₁ := .bf16) (φ₂ := .bf16) x0 x1 i d

theorem blockOut (x0 : Vec Ideal S2048x512 .bf16) (x1 : Vec Ideal S512x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg0) : FVec Ideal S8192x512 .f32) := by
  dsimp only [V, hostOps0, List.flatten_cons, List.flatten_nil, List.cons_append, List.nil_append]
  after_results_simp <;> rfl

theorem V_b : V m c main_v1 = (m ((c : Thread nD τ).loc main_arg1) : FVec Ideal S512x1024 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 2048) (k : Fin 512) : iblk m c 0 t (ix2 i k) = (m ((c : Thread nD τ).loc main_arg0) : FVec Ideal S8192x512 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 512) (k : Fin 1024) : iblk m c 1 t (ix2 i k) = (m ((c : Thread nD τ).loc main_arg1) : FVec Ideal S512x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 2048) (k : Fin 1024) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; simp

open Cert.Reference21Ideal.Read in
/-- The reference's entry. -/
theorem ref (x0 : FVec Ideal S8192x512 .f32) (x1 : FVec Ideal S512x1024 .f32) (i : Fin 8192) (d : Fin 1024) :
    val_main_v1 (F := Ideal) x0 x1 (ix2 i d) = ∑ k : Fin 512, x0 (ix2 i k) * x1 (ix2 k d) := by
  rw [val_main_v1_apply, val_main_v0_apply]
  refine Finset.sum_congr rfl fun k _ => ?_
  rw [idx2 (lidx_main_v0 (ix2 i d) k) i k rfl rfl, idx2 (ridx_main_v0 (ix2 i d) k) k d rfl rfl]

/-- The kernel's result is the reference's. -/
theorem array : (dats m 0 c).arrAt 2 cfg0.N = Cert.Reference21Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  obtain ⟨i, d, rfl⟩ : ∃ (i : Fin 2048) (d : Fin 1024), y = ix2 i d := ⟨y 0, y 1, eq_ix2 y⟩
  rw [emb2, after0_2]
  dsimp only
  rw [blockOut, pay, ref]
  simp only [block0, block1]

end Cert.Kernel21Ideal.OGm

end
-- ==== Proof.DYGm.lean ====
/- The gradient of the gated mixing's output: each block of the kernel's result is the reference's. -/
module

public import proofs.«01_k».proof.Proof.Products
public import proofs.«01_k».proof.Proof.Gen.Kernel22Ideal.Value
public import proofs.«01_k».proof.Proof.Gen.Reference22Ideal.Read

@[expose] public section

set_option maxRecDepth 16384

noncomputable section

namespace Cert.Kernel22Ideal.DYGm

open Idealize.ShloMosaic Idealize.ShloMosaic.TcCoe Idealize.SL.Sem Cert.Kernel22Ideal Cert.Kernel22Ideal.Gen Attn Products

/-- What the body leaves, entry by entry: the product over the 1024 columns. -/
theorem pay (x0 : Vec Ideal S2048x1024 .bf16) (x1 : Vec Ideal S512x1024 .bf16) (i : Fin 2048) (d : Fin 512) :
    k0_pay1 (F := Ideal) x0 x1 (ix2 i d) = ∑ k : Fin 1024, x0 (ix2 i k) * x1 (ix2 d k) := by
  unfold k0_pay1
  rw [shapeCast_self, shapeCast_self]
  exact nt (M := 2048) (K := 1024) (N := 512) (φ₁ := .bf16) (φ₂ := .bf16) x0 x1 i d

theorem blockOut (x0 : Vec Ideal S2048x1024 .bf16) (x1 : Vec Ideal S512x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg2) : FVec Ideal S8192x1024 .f32) := by
  dsimp only [V, hostOps0, List.flatten_cons, List.flatten_nil, List.cons_append, List.nil_append]
  after_results_simp <;> rfl

theorem V_b : V m c main_v1 = (m ((c : Thread nD τ).loc main_arg1) : FVec Ideal S512x1024 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 2048) (k : Fin 1024) : iblk m c 0 t (ix2 i k) = (m ((c : Thread nD τ).loc main_arg2) : FVec Ideal S8192x1024 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 512) (k : Fin 1024) : iblk m c 1 t (ix2 i k) = (m ((c : Thread nD τ).loc main_arg1) : FVec Ideal S512x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 2048) (k : Fin 512) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; simp

open Cert.Reference22Ideal.Read in
/-- The reference's entry. -/
theorem ref (x0 : FVec Ideal S8192x1024 .f32) (x1 : FVec Ideal S512x1024 .f32) (i : Fin 8192) (d : Fin 512) :
    val_main_v2 (F := Ideal) x1 x0 (ix2 i d) = ∑ k : Fin 1024, x0 (ix2 i k) * x1 (ix2 d k) := by
  rw [val_main_v2_apply, val_main_v1_apply]
  refine Finset.sum_congr rfl fun k _ => ?_
  rw [idx2 (lidx_main_v1 (ix2 i d) k) i k rfl rfl, idx2 (ridx_main_v1 (ix2 i d) k) d k rfl rfl]

/-- The kernel's result is the reference's. -/
theorem array : (dats m 0 c).arrAt 2 cfg0.N = Cert.Reference22Ideal.Read.val_main_v2 (F := Ideal) (m ((c : Thread nD τ).loc main_arg1)) (m ((c : Thread nD τ).loc main_arg2)) := by
  refine (dats m 0 c).arrAt_eq_of_covers 2 _ (by decide +kernel) fun t hf y => ?_
  blk_simp
  obtain ⟨i, d, rfl⟩ : ∃ (i : Fin 2048) (d : Fin 512), y = ix2 i d := ⟨y 0, y 1, eq_ix2 y⟩
  rw [emb2, after0_2]
  dsimp only
  rw [blockOut, pay, ref]
  simp only [block0, block1]

end Cert.Kernel22Ideal.DYGm

end
-- ==== Proof.DWOGm.lean ====
/- The gradient of the matrix after the gated mixing: the kernel sums the rows in four spans of 2048;
   over the extended reals that is the reference's sum over all 8192 rows. -/
module

public import proofs.«01_k».proof.Proof.Products
public import proofs.«01_k».proof.Proof.Gen.Kernel23Ideal.Value
public import proofs.«01_k».proof.Proof.Gen.Reference23Ideal.Read

@[expose] public section

set_option maxRecDepth 16384

noncomputable section

namespace Cert.Kernel23Ideal.DWOGm

open Idealize.ShloMosaic Idealize.ShloMosaic.TcCoe Idealize.SL.Sem Cert.Kernel23Ideal Cert.Kernel23Ideal.Gen Attn Products

/-- One span's share of one entry. -/
def part (x0 : Vec Ideal S2048x512 .bf16) (x1 : Vec Ideal S2048x1024 .bf16) (i : Fin 512) (d : Fin 1024) : EReal := ∑ k : Fin 2048, x0 (ix2 k i) * x1 (ix2 k d)

theorem pay1 (x0 : Vec Ideal S2048x512 .bf16) (x1 : Vec Ideal S2048x1024 .bf16) (i : Fin 512) (d : Fin 1024) : k0_pay1 (F := Ideal) x0 x1 (ix2 i d) = part x0 x1 i d := by
  unfold k0_pay1
  rw [shapeCast_self, shapeCast_self]
  exact tn (K := 2048) (M := 512) (N := 1024) (φ₁ := .bf16) (φ₂ := .bf16) x0 x1 i d

variable (m : (ℓ : Loc nD τ sig) → Buf (Elt Ideal) ℓ) (c : Dev nD)

/-- The accumulator after the first span. -/
theorem accA (t : Fin cfg0.N) (h : t.val % 4 = 0) (i : Fin 512) (d : Fin 1024) :
    (outsAt0 m c t.val t.isLt).2 (ix2 i d) = 0 + part (iblk m c 0 t) (iblk m c 1 t) i d := by
  have hN : (t : ℕ) < 4 := lt_of_lt_of_eq t.isLt N_0
  rw [outsAt0_A m c t h (by omega) (by omega)]
  frame_out
  unfold k0_pay2
  rw [shapeCast_self, pay1, zero_add]

/-- The accumulator after a later span. -/
theorem accB (t : Fin cfg0.N) (h : ¬t.val % 4 = 0) (i : Fin 512) (d : Fin 1024) :
    (outsAt0 m c t.val t.isLt).2 (ix2 i d) = (outsAt0 m c (t.val - 1) (Nat.lt_of_le_of_lt (Nat.sub_le _ _) t.isLt)).2 (ix2 i d) + part (iblk m c 0 t) (iblk m c 1 t) i d := by
  by_cases h3 : t.val % 4 = 3
  · rw [outsAt0_C m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)
  · rw [outsAt0_B m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)

/-- What a block's last grid point writes back is its accumulator. -/
theorem last (t : Fin cfg0.N) (h3 : t.val % 4 = 3) (i : Fin 512) (d : Fin 1024) :
    (outsAt0 m c t.val t.isLt).1 (ix2 i d) = (outsAt0 m c t.val t.isLt).2 (ix2 i d) := by
  rw [outsAt0_C m c t (by omega) (by omega) h3]
  frame_out
  rfl

/-- The accumulator at a block's last grid point: the four spans' shares. -/
theorem spans (t : Fin cfg0.N) (h3 : t.val % 4 = 3) (i : Fin 512) (d : Fin 1024) :
    (outsAt0 m c t.val t.isLt).2 (ix2 i d)
      = 0 + ∑ s : Fin 4, part (iblk m c 0 ⟨4 * (t.val / 4) + s.val, Pipeline.run_point_lt_of_flush t h3 s⟩) (iblk m c 1 ⟨4 * (t.val / 4) + s.val, Pipeline.run_point_lt_of_flush t h3 s⟩) i d :=
  Pipeline.eq_sum_fin_of_reset_step_of_flush (fun n h => (outsAt0 m c n h).2 (ix2 i d)) 4 0 (fun t => part (iblk m c 0 t) (iblk m c 1 t) i d)
    (fun t h => accA m c t h i d) (fun t h => accB m c t h i d) t h3

theorem V_a : V m c main_v0 = (m ((c : Thread nD τ).loc main_arg0) : FVec Ideal S8192x512 .f32) := by
  dsimp only [V, hostOps0, List.flatten_cons, List.flatten_nil, List.cons_append, List.nil_append]
  after_results_simp <;> rfl

theorem V_b : V m c main_v1 = (m ((c : Thread nD τ).loc main_arg2) : FVec Ideal S8192x1024 .f32) := by
  dsimp only [V, hostOps0, List.flatten_cons, List.flatten_nil, List.cons_append, List.nil_append]
  after_results_simp <;> rfl

theorem index0 : ∀ t : Fin grid0.N, win0_0.index t 0 = (t : ℕ) % 4 ∧ win0_0.index t 1 = 0 := by decide +kernel
theorem index1 : ∀ t : Fin grid0.N, win0_1.index t 0 = (t : ℕ) % 4 ∧ win0_1.index t 1 = 0 := by decide +kernel
theorem index2 : ∀ t : Fin grid0.N, win0_2.index t 0 = 0 ∧ win0_2.index t 1 = 0 := by decide +kernel

theorem block0 (u : Fin cfg0.N) (s : Fin 4) (hs : (u : ℕ) % 4 = s) (k : Fin 2048) (i : Fin 512) :
    iblk m c 0 u (ix2 k i) = (m ((c : Thread nD τ).loc main_arg0) : FVec Ideal S8192x512 .f32) (ix2 (spanRow s k) i) := by
  rw [← V_a m c]
  show V m c main_v0 ((win0_0.blk u).view.emb (ix2 k i)) = _
  congr 1
  refine idx2 _ _ _ ?_ ?_
  · show ((win0_0.rect u).emb (ix2 k i) 0 : ℕ) = _
    rw [Pipeline.Window.rect_emb_val win0_0 u, (index0 u).1, hs]; rfl
  · show ((win0_0.rect u).emb (ix2 k i) 1 : ℕ) = _
    rw [Pipeline.Window.rect_emb_val win0_0 u, (index0 u).2]; simp

theorem block1 (u : Fin cfg0.N) (s : Fin 4) (hs : (u : ℕ) % 4 = s) (k : Fin 2048) (d : Fin 1024) :
    iblk m c 1 u (ix2 k d) = (m ((c : Thread nD τ).loc main_arg2) : FVec Ideal S8192x1024 .f32) (ix2 (spanRow s k) d) := by
  rw [← V_b m c]
  show V m c main_v1 ((win0_1.blk u).view.emb (ix2 k d)) = _
  congr 1
  refine idx2 _ _ _ ?_ ?_
  · show ((win0_1.rect u).emb (ix2 k d) 0 : ℕ) = _
    rw [Pipeline.Window.rect_emb_val win0_1 u, (index1 u).1, hs]; rfl
  · show ((win0_1.rect u).emb (ix2 k d) 1 : ℕ) = _
    rw [Pipeline.Window.rect_emb_val win0_1 u, (index1 u).2]; simp

theorem emb2 (t : Fin cfg0.N) (i : Fin 512) (d : Fin 1024) : (win0_2.blk t).view.emb (ix2 i d) = ix2 i d := by
  refine idx2 _ _ _ ?_ ?_
  · show ((win0_2.rect t).emb (ix2 i d) 0 : ℕ) = _
    rw [Pipeline.Window.rect_emb_val win0_2 t, (index2 t).1]; simp
  · show ((win0_2.rect t).emb (ix2 i d) 1 : ℕ) = _
    rw [Pipeline.Window.rect_emb_val win0_2 t, (index2 t).2]; simp

open Cert.Reference23Ideal.Read in
/-- The reference's entry: the sum over all rows. -/
theorem ref (x0 : FVec Ideal S8192x512 .f32) (x2 : FVec Ideal S8192x1024 .f32) (i : Fin 512) (d : Fin 1024) :
    val_main_v3 (F := Ideal) x0 x2 (ix2 i d) = colDot (M := 512) (N := 1024) x0 x2 i d := by
  rw [val_main_v3_apply, val_main_v2_apply, idx2 (idx_main_v2 (ix2 i d)) d i rfl rfl, val_main_v1_apply]
  refine Finset.sum_congr rfl fun k _ => ?_
  rw [idx2 (lidx_main_v1 (ix2 d i) k) k d rfl rfl, idx2 (ridx_main_v1 (ix2 d i) k) k i rfl rfl, mul_comm]

/-- What a block's last grid point writes back, entry by entry. -/
theorem entry (t : Fin cfg0.N) (h3 : t.val % 4 = 3) (i : Fin 512) (d : Fin 1024) :
    (outsAt0 m c t.val t.isLt).1 (ix2 i d)
      = colDot (M := 512) (N := 1024) (m ((c : Thread nD τ).loc main_arg0) : FVec Ideal S8192x512 .f32) (m ((c : Thread nD τ).loc main_arg2) : FVec Ideal S8192x1024 .f32) i d := by
  rw [last m c t h3, spans m c t h3, zero_add, colDot, ← sum_spans]
  refine Finset.sum_congr rfl fun s _ => Finset.sum_congr rfl fun k _ => ?_
  have hs := s.isLt
  rw [block0 m c _ s (by dsimp only; omega), block1 m c _ s (by dsimp only; omega)]

/-- The kernel's result is the reference's. -/
theorem array : (dats m 0 c).arrAt 2 cfg0.N = Cert.Reference23Ideal.Read.val_main_v3 (F := Ideal) (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  obtain ⟨i, d, rfl⟩ : ∃ (i : Fin 512) (d : Fin 1024), y = ix2 i d := ⟨y 0, y 1, eq_ix2 y⟩
  rw [emb2, after0_2]
  dsimp only
  rw [entry m c t h3, ref]

end Cert.Kernel23Ideal.DWOGm

end
-- ==== Proof.OMem.lean ====
/- The product after the attention over the memory: each block of the kernel's result is the reference's. -/
module

public import proofs.«01_k».proof.Proof.Products
public import proofs.«01_k».proof.Proof.Gen.Kernel24Ideal.Value
public import proofs.«01_k».proof.Proof.Gen.Reference24Ideal.Read

@[expose] public section

set_option maxRecDepth 16384

noncomputable section

namespace Cert.Kernel24Ideal.OMem

open Idealize.ShloMosaic Idealize.ShloMosaic.TcCoe Idealize.SL.Sem Cert.Kernel24Ideal Cert.Kernel24Ideal.Gen Attn Products

/-- What the body leaves, entry by entry: the product over the 512 columns. -/
theorem pay (x0 : Vec Ideal S2048x512 .bf16) (x1 : Vec Ideal S512x1024 .bf16) (i : Fin 2048) (d : Fin 1024) :
    k0_pay1 (F := Ideal) x0 x1 (ix2 i d) = ∑ k : Fin 512, x0 (ix2 i k) * x1 (ix2 k d) := by
  unfold k0_pay1
  rw [shapeCast_self, shapeCast_self]
  exact nn (M := 2048) (K := 512) (N := 1024) (φ₁ := .bf16) (φ₂ := .bf16) x0 x1 i d

theorem blockOut (x0 : Vec Ideal S2048x512 .bf16) (x1 : Vec Ideal S512x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg0) : FVec Ideal S8192x512 .f32) := by
  dsimp only [V, hostOps0, List.flatten_cons, List.flatten_nil, List.cons_append, List.nil_append]
  after_results_simp <;> rfl

theorem V_b : V m c main_v1 = (m ((c : Thread nD τ).loc main_arg1) : FVec Ideal S512x1024 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 2048) (k : Fin 512) : iblk m c 0 t (ix2 i k) = (m ((c : Thread nD τ).loc main_arg0) : FVec Ideal S8192x512 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 512) (k : Fin 1024) : iblk m c 1 t (ix2 i k) = (m ((c : Thread nD τ).loc main_arg1) : FVec Ideal S512x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 2048) (k : Fin 1024) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; simp

open Cert.Reference24Ideal.Read in
/-- The reference's entry. -/
theorem ref (x0 : FVec Ideal S8192x512 .f32) (x1 : FVec Ideal S512x1024 .f32) (i : Fin 8192) (d : Fin 1024) :
    val_main_v1 (F := Ideal) x0 x1 (ix2 i d) = ∑ k : Fin 512, x0 (ix2 i k) * x1 (ix2 k d) := by
  rw [val_main_v1_apply, val_main_v0_apply]
  refine Finset.sum_congr rfl fun k _ => ?_
  rw [idx2 (lidx_main_v0 (ix2 i d) k) i k rfl rfl, idx2 (ridx_main_v0 (ix2 i d) k) k d rfl rfl]

/-- The kernel's result is the reference's. -/
theorem array : (dats m 0 c).arrAt 2 cfg0.N = Cert.Reference24Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  obtain ⟨i, d, rfl⟩ : ∃ (i : Fin 2048) (d : Fin 1024), y = ix2 i d := ⟨y 0, y 1, eq_ix2 y⟩
  rw [emb2, after0_2]
  dsimp only
  rw [blockOut, pay, ref]
  simp only [block0, block1]

end Cert.Kernel24Ideal.OMem

end
-- ==== Proof.DOMem.lean ====
/- The gradient of the memory attention's output: each block of the kernel's result is the reference's. -/
module

public import proofs.«01_k».proof.Proof.Products
public import proofs.«01_k».proof.Proof.Gen.Kernel25Ideal.Value
public import proofs.«01_k».proof.Proof.Gen.Reference25Ideal.Read

@[expose] public section

set_option maxRecDepth 16384

noncomputable section

namespace Cert.Kernel25Ideal.DOMem

open Idealize.ShloMosaic Idealize.ShloMosaic.TcCoe Idealize.SL.Sem Cert.Kernel25Ideal Cert.Kernel25Ideal.Gen Attn Products

/-- What the body leaves, entry by entry: the product over the 1024 columns. -/
theorem pay (x0 : Vec Ideal S2048x1024 .bf16) (x1 : Vec Ideal S512x1024 .bf16) (i : Fin 2048) (d : Fin 512) :
    k0_pay1 (F := Ideal) x0 x1 (ix2 i d) = ∑ k : Fin 1024, x0 (ix2 i k) * x1 (ix2 d k) := by
  unfold k0_pay1
  rw [shapeCast_self, shapeCast_self]
  exact nt (M := 2048) (K := 1024) (N := 512) (φ₁ := .bf16) (φ₂ := .bf16) x0 x1 i d

theorem blockOut (x0 : Vec Ideal S2048x1024 .bf16) (x1 : Vec Ideal S512x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg2) : FVec Ideal S8192x1024 .f32) := by
  dsimp only [V, hostOps0, List.flatten_cons, List.flatten_nil, List.cons_append, List.nil_append]
  after_results_simp <;> rfl

theorem V_b : V m c main_v1 = (m ((c : Thread nD τ).loc main_arg1) : FVec Ideal S512x1024 .f32) := by
  dsimp only [V, hostOps0, List.flatten_cons, List.flatten_nil, List.cons_append, List.nil_append]
  after_results_simp <;> rfl

/-- The rows of the block at a grid point. -/
def row (t : Fin cfg0.N) (i : Fin 2048) : Fin 8192 := ⟨2048 * (grid0.coords t 0 : ℕ) + i, by have := (grid0.coords t 0).isLt; have := i.isLt; change _ < 4 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 2048) (k : Fin 1024) : iblk m c 0 t (ix2 i k) = (m ((c : Thread nD τ).loc main_arg2) : FVec Ideal S8192x1024 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 2048 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 512) (k : Fin 1024) : iblk m c 1 t (ix2 i k) = (m ((c : Thread nD τ).loc main_arg1) : FVec Ideal S512x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 2048) (k : Fin 512) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 2048 + _ = _; simp only [row]; rw [mul_comm]; rfl
  · show ((win0_2.rect t).emb (ix2 i k) 1 : ℕ) = _
    rw [Pipeline.Window.rect_emb_val win0_2 t, (index2 t).2]; simp

open Cert.Reference25Ideal.Read in
/-- The reference's entry. -/
theorem ref (x0 : FVec Ideal S8192x1024 .f32) (x1 : FVec Ideal S512x1024 .f32) (i : Fin 8192) (d : Fin 512) :
    val_main_v2 (F := Ideal) x1 x0 (ix2 i d) = ∑ k : Fin 1024, x0 (ix2 i k) * x1 (ix2 d k) := by
  rw [val_main_v2_apply, val_main_v1_apply]
  refine Finset.sum_congr rfl fun k _ => ?_
  rw [idx2 (lidx_main_v1 (ix2 i d) k) i k rfl rfl, idx2 (ridx_main_v1 (ix2 i d) k) d k rfl rfl]

/-- The kernel's result is the reference's. -/
theorem array : (dats m 0 c).arrAt 2 cfg0.N = Cert.Reference25Ideal.Read.val_main_v2 (F := Ideal) (m ((c : Thread nD τ).loc main_arg1)) (m ((c : Thread nD τ).loc main_arg2)) := by
  refine (dats m 0 c).arrAt_eq_of_covers 2 _ (by decide +kernel) fun t hf y => ?_
  blk_simp
  obtain ⟨i, d, rfl⟩ : ∃ (i : Fin 2048) (d : Fin 512), y = ix2 i d := ⟨y 0, y 1, eq_ix2 y⟩
  rw [emb2, after0_2]
  dsimp only
  rw [blockOut, pay, ref]
  simp only [block0, block1]

end Cert.Kernel25Ideal.DOMem

end
-- ==== Proof.DWOMem.lean ====
/- The gradient of the matrix after the attention over the memory: the kernel sums the rows in four spans of 2048;
   over the extended reals that is the reference's sum over all 8192 rows. -/
module

public import proofs.«01_k».proof.Proof.Products
public import proofs.«01_k».proof.Proof.Gen.Kernel26Ideal.Value
public import proofs.«01_k».proof.Proof.Gen.Reference26Ideal.Read

@[expose] public section

set_option maxRecDepth 16384

noncomputable section

namespace Cert.Kernel26Ideal.DWOMem

open Idealize.ShloMosaic Idealize.ShloMosaic.TcCoe Idealize.SL.Sem Cert.Kernel26Ideal Cert.Kernel26Ideal.Gen Attn Products

/-- One span's share of one entry. -/
def part (x0 : Vec Ideal S2048x512 .bf16) (x1 : Vec Ideal S2048x1024 .bf16) (i : Fin 512) (d : Fin 1024) : EReal := ∑ k : Fin 2048, x0 (ix2 k i) * x1 (ix2 k d)

theorem pay1 (x0 : Vec Ideal S2048x512 .bf16) (x1 : Vec Ideal S2048x1024 .bf16) (i : Fin 512) (d : Fin 1024) : k0_pay1 (F := Ideal) x0 x1 (ix2 i d) = part x0 x1 i d := by
  unfold k0_pay1
  rw [shapeCast_self, shapeCast_self]
  exact tn (K := 2048) (M := 512) (N := 1024) (φ₁ := .bf16) (φ₂ := .bf16) x0 x1 i d

variable (m : (ℓ : Loc nD τ sig) → Buf (Elt Ideal) ℓ) (c : Dev nD)

/-- The accumulator after the first span. -/
theorem accA (t : Fin cfg0.N) (h : t.val % 4 = 0) (i : Fin 512) (d : Fin 1024) :
    (outsAt0 m c t.val t.isLt).2 (ix2 i d) = 0 + part (iblk m c 0 t) (iblk m c 1 t) i d := by
  have hN : (t : ℕ) < 4 := lt_of_lt_of_eq t.isLt N_0
  rw [outsAt0_A m c t h (by omega) (by omega)]
  frame_out
  unfold k0_pay2
  rw [shapeCast_self, pay1, zero_add]

/-- The accumulator after a later span. -/
theorem accB (t : Fin cfg0.N) (h : ¬t.val % 4 = 0) (i : Fin 512) (d : Fin 1024) :
    (outsAt0 m c t.val t.isLt).2 (ix2 i d) = (outsAt0 m c (t.val - 1) (Nat.lt_of_le_of_lt (Nat.sub_le _ _) t.isLt)).2 (ix2 i d) + part (iblk m c 0 t) (iblk m c 1 t) i d := by
  by_cases h3 : t.val % 4 = 3
  · rw [outsAt0_C m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)
  · rw [outsAt0_B m c t h (by omega) h3]
    frame_out
    unfold k0_pay3
    rw [shapeCast_self]
    show _ + k0_pay1 (F := Ideal) _ _ (ix2 i d) = _
    rw [pay1]
    exact congrArg (· + _) (congrFun ((Memref.isWhole_whole cc0_scratch0).read_unread _) _)

/-- What a block's last grid point writes back is its accumulator. -/
theorem last (t : Fin cfg0.N) (h3 : t.val % 4 = 3) (i : Fin 512) (d : Fin 1024) :
    (outsAt0 m c t.val t.isLt).1 (ix2 i d) = (outsAt0 m c t.val t.isLt).2 (ix2 i d) := by
  rw [outsAt0_C m c t (by omega) (by omega) h3]
  frame_out
  rfl

/-- The accumulator at a block's last grid point: the four spans' shares. -/
theorem spans (t : Fin cfg0.N) (h3 : t.val % 4 = 3) (i : Fin 512) (d : Fin 1024) :
    (outsAt0 m c t.val t.isLt).2 (ix2 i d)
      = 0 + ∑ s : Fin 4, part (iblk m c 0 ⟨4 * (t.val / 4) + s.val, Pipeline.run_point_lt_of_flush t h3 s⟩) (iblk m c 1 ⟨4 * (t.val / 4) + s.val, Pipeline.run_point_lt_of_flush t h3 s⟩) i d :=
  Pipeline.eq_sum_fin_of_reset_step_of_flush (fun n h => (outsAt0 m c n h).2 (ix2 i d)) 4 0 (fun t => part (iblk m c 0 t) (iblk m c 1 t) i d)
    (fun t h => accA m c t h i d) (fun t h => accB m c t h i d) t h3

theorem V_a : V m c main_v0 = (m ((c : Thread nD τ).loc main_arg0) : FVec Ideal S8192x512 .f32) := by
  dsimp only [V, hostOps0, List.flatten_cons, List.flatten_nil, List.cons_append, List.nil_append]
  after_results_simp <;> rfl

theorem V_b : V m c main_v1 = (m ((c : Thread nD τ).loc main_arg2) : FVec Ideal S8192x1024 .f32) := by
  dsimp only [V, hostOps0, List.flatten_cons, List.flatten_nil, List.cons_append, List.nil_append]
  after_results_simp <;> rfl

theorem index0 : ∀ t : Fin grid0.N, win0_0.index t 0 = (t : ℕ) % 4 ∧ win0_0.index t 1 = 0 := by decide +kernel
theorem index1 : ∀ t : Fin grid0.N, win0_1.index t 0 = (t : ℕ) % 4 ∧ win0_1.index t 1 = 0 := by decide +kernel
theorem index2 : ∀ t : Fin grid0.N, win0_2.index t 0 = 0 ∧ win0_2.index t 1 = 0 := by decide +kernel

theorem block0 (u : Fin cfg0.N) (s : Fin 4) (hs : (u : ℕ) % 4 = s) (k : Fin 2048) (i : Fin 512) :
    iblk m c 0 u (ix2 k i) = (m ((c : Thread nD τ).loc main_arg0) : FVec Ideal S8192x512 .f32) (ix2 (spanRow s k) i) := by
  rw [← V_a m c]
  show V m c main_v0 ((win0_0.blk u).view.emb (ix2 k i)) = _
  congr 1
  refine idx2 _ _ _ ?_ ?_
  · show ((win0_0.rect u).emb (ix2 k i) 0 : ℕ) = _
    rw [Pipeline.Window.rect_emb_val win0_0 u, (index0 u).1, hs]; rfl
  · show ((win0_0.rect u).emb (ix2 k i) 1 : ℕ) = _
    rw [Pipeline.Window.rect_emb_val win0_0 u, (index0 u).2]; simp

theorem block1 (u : Fin cfg0.N) (s : Fin 4) (hs : (u : ℕ) % 4 = s) (k : Fin 2048) (d : Fin 1024) :
    iblk m c 1 u (ix2 k d) = (m ((c : Thread nD τ).loc main_arg2) : FVec Ideal S8192x1024 .f32) (ix2 (spanRow s k) d) := by
  rw [← V_b m c]
  show V m c main_v1 ((win0_1.blk u).view.emb (ix2 k d)) = _
  congr 1
  refine idx2 _ _ _ ?_ ?_
  · show ((win0_1.rect u).emb (ix2 k d) 0 : ℕ) = _
    rw [Pipeline.Window.rect_emb_val win0_1 u, (index1 u).1, hs]; rfl
  · show ((win0_1.rect u).emb (ix2 k d) 1 : ℕ) = _
    rw [Pipeline.Window.rect_emb_val win0_1 u, (index1 u).2]; simp

theorem emb2 (t : Fin cfg0.N) (i : Fin 512) (d : Fin 1024) : (win0_2.blk t).view.emb (ix2 i d) = ix2 i d := by
  refine idx2 _ _ _ ?_ ?_
  · show ((win0_2.rect t).emb (ix2 i d) 0 : ℕ) = _
    rw [Pipeline.Window.rect_emb_val win0_2 t, (index2 t).1]; simp
  · show ((win0_2.rect t).emb (ix2 i d) 1 : ℕ) = _
    rw [Pipeline.Window.rect_emb_val win0_2 t, (index2 t).2]; simp

open Cert.Reference26Ideal.Read in
/-- The reference's entry: the sum over all rows. -/
theorem ref (x0 : FVec Ideal S8192x512 .f32) (x2 : FVec Ideal S8192x1024 .f32) (i : Fin 512) (d : Fin 1024) :
    val_main_v3 (F := Ideal) x0 x2 (ix2 i d) = colDot (M := 512) (N := 1024) x0 x2 i d := by
  rw [val_main_v3_apply, val_main_v2_apply, idx2 (idx_main_v2 (ix2 i d)) d i rfl rfl, val_main_v1_apply]
  refine Finset.sum_congr rfl fun k _ => ?_
  rw [idx2 (lidx_main_v1 (ix2 d i) k) k d rfl rfl, idx2 (ridx_main_v1 (ix2 d i) k) k i rfl rfl, mul_comm]

/-- What a block's last grid point writes back, entry by entry. -/
theorem entry (t : Fin cfg0.N) (h3 : t.val % 4 = 3) (i : Fin 512) (d : Fin 1024) :
    (outsAt0 m c t.val t.isLt).1 (ix2 i d)
      = colDot (M := 512) (N := 1024) (m ((c : Thread nD τ).loc main_arg0) : FVec Ideal S8192x512 .f32) (m ((c : Thread nD τ).loc main_arg2) : FVec Ideal S8192x1024 .f32) i d := by
  rw [last m c t h3, spans m c t h3, zero_add, colDot, ← sum_spans]
  refine Finset.sum_congr rfl fun s _ => Finset.sum_congr rfl fun k _ => ?_
  have hs := s.isLt
  rw [block0 m c _ s (by dsimp only; omega), block1 m c _ s (by dsimp only; omega)]

/-- The kernel's result is the reference's. -/
theorem array : (dats m 0 c).arrAt 2 cfg0.N = Cert.Reference26Ideal.Read.val_main_v3 (F := Ideal) (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  obtain ⟨i, d, rfl⟩ : ∃ (i : Fin 512) (d : Fin 1024), y = ix2 i d := ⟨y 0, y 1, eq_ix2 y⟩
  rw [emb2, after0_2]
  dsimp only
  rw [entry m c t h3, ref]

end Cert.Kernel26Ideal.DWOMem

end
-- ==== Proof.MemKv.lean ====
/- The product that makes the memory's keys and values: the kernel's one block is the reference's result. -/
module

public import proofs.«01_k».proof.Proof.Products
public import proofs.«01_k».proof.Proof.Gen.Kernel27Ideal.Value
public import proofs.«01_k».proof.Proof.Gen.Reference27Ideal.Read

@[expose] public section

set_option maxRecDepth 16384

noncomputable section

namespace Cert.Kernel27Ideal.MemKv

open Idealize.ShloMosaic Idealize.ShloMosaic.TcCoe Idealize.SL.Sem Cert.Kernel27Ideal Cert.Kernel27Ideal.Gen Attn Products

/-- What the body leaves, entry by entry: the product over the 1024 columns. -/
theorem pay (x0 : Vec Ideal S1024x1024 .bf16) (x1 : Vec Ideal S1024x1024 .bf16) (i : Fin 1024) (d : Fin 1024) :
    k0_pay1 (F := Ideal) x0 x1 (ix2 i d) = ∑ k : Fin 1024, x0 (ix2 i k) * x1 (ix2 k d) := by
  unfold k0_pay1
  rw [shapeCast_self, shapeCast_self]
  exact nn (M := 1024) (K := 1024) (N := 1024) (φ₁ := .bf16) (φ₂ := .bf16) x0 x1 i d

theorem blockOut (x0 : Vec Ideal S1024x1024 .bf16) (x1 : Vec Ideal S1024x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg0) : FVec Ideal S1024x1024 .f32) := by
  dsimp only [V, hostOps0, List.flatten_cons, List.flatten_nil, List.cons_append, List.nil_append]
  after_results_simp <;> rfl

theorem V_b : V m c main_v1 = (m ((c : Thread nD τ).loc main_arg1) : FVec Ideal S1024x1024 .f32) := by
  dsimp only [V, hostOps0, List.flatten_cons, List.flatten_nil, List.cons_append, List.nil_append]
  after_results_simp <;> rfl

/-- The rows of the block at a grid point. -/
def row (t : Fin cfg0.N) (i : Fin 1024) : Fin 1024 := ⟨1024 * (grid0.coords t 0 : ℕ) + i, by have := (grid0.coords t 0).isLt; have := i.isLt; change _ < 1 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 1024) (k : Fin 1024) : iblk m c 0 t (ix2 i k) = (m ((c : Thread nD τ).loc main_arg0) : FVec Ideal S1024x1024 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 1024 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 1024) (k : Fin 1024) : iblk m c 1 t (ix2 i k) = (m ((c : Thread nD τ).loc main_arg1) : FVec Ideal S1024x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 1024) (k : Fin 1024) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 1024 + _ = _; simp only [row]; rw [mul_comm]; rfl
  · show ((win0_2.rect t).emb (ix2 i k) 1 : ℕ) = _
    rw [Pipeline.Window.rect_emb_val win0_2 t, (index2 t).2]; simp

open Cert.Reference27Ideal.Read in
/-- The reference's entry. -/
theorem ref (x0 : FVec Ideal S1024x1024 .f32) (x1 : FVec Ideal S1024x1024 .f32) (i : Fin 1024) (d : Fin 1024) :
    val_main_v1 (F := Ideal) x0 x1 (ix2 i d) = ∑ k : Fin 1024, x0 (ix2 i k) * x1 (ix2 k d) := by
  rw [val_main_v1_apply, val_main_v0_apply]
  refine Finset.sum_congr rfl fun k _ => ?_
  rw [idx2 (lidx_main_v0 (ix2 i d) k) i k rfl rfl, idx2 (ridx_main_v0 (ix2 i d) k) k d rfl rfl]

/-- The kernel's result is the reference's. -/
theorem array : (dats m 0 c).arrAt 2 cfg0.N = Cert.Reference27Ideal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  obtain ⟨i, d, rfl⟩ : ∃ (i : Fin 1024) (d : Fin 1024), y = ix2 i d := ⟨y 0, y 1, eq_ix2 y⟩
  rw [emb2, after0_2]
  dsimp only
  rw [blockOut, pay, ref]
  simp only [block0, block1]

end Cert.Kernel27Ideal.MemKv

end
-- ==== Proof.Dnm.lean ====
/- The gradient of the normalised memory: the kernel's one block is the reference's result. -/
module

public import proofs.«01_k».proof.Proof.Products
public import proofs.«01_k».proof.Proof.Gen.Kernel28Ideal.Value
public import proofs.«01_k».proof.Proof.Gen.Reference28Ideal.Read

@[expose] public section

set_option maxRecDepth 16384

noncomputable section

namespace Cert.Kernel28Ideal.Dnm

open Idealize.ShloMosaic Idealize.ShloMosaic.TcCoe Idealize.SL.Sem Cert.Kernel28Ideal Cert.Kernel28Ideal.Gen Attn Products

/-- What the body leaves, entry by entry: the product over the 1024 columns. -/
theorem pay (x0 : Vec Ideal S1024x1024 .bf16) (x1 : Vec Ideal S1024x1024 .bf16) (i : Fin 1024) (d : Fin 1024) :
    k0_pay1 (F := Ideal) x0 x1 (ix2 i d) = ∑ k : Fin 1024, x0 (ix2 i k) * x1 (ix2 d k) := by
  unfold k0_pay1
  rw [shapeCast_self, shapeCast_self]
  exact nt (M := 1024) (K := 1024) (N := 1024) (φ₁ := .bf16) (φ₂ := .bf16) x0 x1 i d

theorem blockOut (x0 : Vec Ideal S1024x1024 .bf16) (x1 : Vec Ideal S1024x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg2) : FVec Ideal S1024x1024 .f32) := by
  dsimp only [V, hostOps0, List.flatten_cons, List.flatten_nil, List.cons_append, List.nil_append]
  after_results_simp <;> rfl

theorem V_b : V m c main_v1 = (m ((c : Thread nD τ).loc main_arg1) : FVec Ideal S1024x1024 .f32) := by
  dsimp only [V, hostOps0, List.flatten_cons, List.flatten_nil, List.cons_append, List.nil_append]
  after_results_simp <;> rfl

/-- The rows of the block at a grid point. -/
def row (t : Fin cfg0.N) (i : Fin 1024) : Fin 1024 := ⟨1024 * (grid0.coords t 0 : ℕ) + i, by have := (grid0.coords t 0).isLt; have := i.isLt; change _ < 1 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel

theorem block0 (t : Fin cfg0.N) (i : Fin 1024) (k : Fin 1024) : iblk m c 0 t (ix2 i k) = (m ((c : Thread nD τ).loc main_arg2) : FVec Ideal S1024x1024 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 1024 + _ = _; simp only [row]; rw [mul_comm]; rfl
  · show ((win0_0.rect t).emb (ix2 i k) 1 : ℕ) = _
    rw [Pipeline.Window.rect_emb_val win0_0 t, (index0 t).2]; simp

theorem block1 (t : Fin cfg0.N) (i : Fin 1024) (k : Fin 1024) : iblk m c 1 t (ix2 i k) = (m ((c : Thread nD τ).loc main_arg1) : FVec Ideal S1024x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i : Fin 1024) (k : Fin 1024) : (win0_2.blk t).view.emb (ix2 i k) = ix2 (row t i) k := by
  refine idx2 _ _ _ ?_ ?_
  · show ((win0_2.rect t).emb (ix2 i k) 0 : ℕ) = _
    rw [Pipeline.Window.rect_emb_val win0_2 t, (index2 t).1]; show _ * 1024 + _ = _; simp only [row]; rw [mul_comm]; rfl
  · show ((win0_2.rect t).emb (ix2 i k) 1 : ℕ) = _
    rw [Pipeline.Window.rect_emb_val win0_2 t, (index2 t).2]; simp

open Cert.Reference28Ideal.Read in
/-- The reference's entry. -/
theorem ref (x0 : FVec Ideal S1024x1024 .f32) (x1 : FVec Ideal S1024x1024 .f32) (i : Fin 1024) (d : Fin 1024) :
    val_main_v2 (F := Ideal) x1 x0 (ix2 i d) = ∑ k : Fin 1024, x0 (ix2 i k) * x1 (ix2 d k) := by
  rw [val_main_v2_apply, val_main_v1_apply]
  refine Finset.sum_congr rfl fun k _ => ?_
  rw [idx2 (lidx_main_v1 (ix2 i d) k) i k rfl rfl, idx2 (ridx_main_v1 (ix2 i d) k) d k rfl rfl]

/-- The kernel's result is the reference's. -/
theorem array : (dats m 0 c).arrAt 2 cfg0.N = Cert.Reference28Ideal.Read.val_main_v2 (F := Ideal) (m ((c : Thread nD τ).loc main_arg1)) (m ((c : Thread nD τ).loc main_arg2)) := by
  refine (dats m 0 c).arrAt_eq_of_covers 2 _ (by decide +kernel) fun t hf y => ?_
  blk_simp
  obtain ⟨i, d, rfl⟩ : ∃ (i : Fin 1024) (d : Fin 1024), y = ix2 i d := ⟨y 0, y 1, eq_ix2 y⟩
  rw [emb2, after0_2]
  dsimp only
  rw [blockOut, pay, ref]
  simp only [block0, block1]

end Cert.Kernel28Ideal.Dnm

end
-- ==== Proof.DMemKv.lean ====
/- The gradient of the memory's keys' and values' matrix: the kernel's one block is the reference's result. -/
module

public import proofs.«01_k».proof.Proof.Products
public import proofs.«01_k».proof.Proof.Gen.Kernel29Ideal.Value
public import proofs.«01_k».proof.Proof.Gen.Reference29Ideal.Read

@[expose] public section

set_option maxRecDepth 16384

noncomputable section

namespace Cert.Kernel29Ideal.DMemKv

open Idealize.ShloMosaic Idealize.ShloMosaic.TcCoe Idealize.SL.Sem Cert.Kernel29Ideal Cert.Kernel29Ideal.Gen Attn Products

/-- What the body leaves, entry by entry: the sum over the rows. -/
theorem pay (x0 x1 : Vec Ideal S1024x1024 .bf16) (i d : Fin 1024) :
    k0_pay1 (F := Ideal) x0 x1 (ix2 i d) = ∑ k : Fin 1024, x0 (ix2 k i) * x1 (ix2 k d) := by
  unfold k0_pay1
  rw [shapeCast_self, shapeCast_self]
  exact tn (M := 1024) (K := 1024) (N := 1024) (φ₁ := .bf16) (φ₂ := .bf16) x0 x1 i d

theorem blockOut (x0 x1 : Vec Ideal S1024x1024 .bf16) : out0_2 x0 x1 = k0_pay1 x0 x1 := by
  frame_out

variable (m : (ℓ : Loc nD τ sig) → Buf (Elt Ideal) ℓ) (c : Dev nD)

theorem V_a : V m c main_v0 = (m ((c : Thread nD τ).loc main_arg0) : FVec Ideal S1024x1024 .f32) := by
  dsimp only [V, hostOps0, List.flatten_cons, List.flatten_nil, List.cons_append, List.nil_append]
  after_results_simp <;> rfl

theorem V_b : V m c main_v1 = (m ((c : Thread nD τ).loc main_arg2) : FVec Ideal S1024x1024 .f32) := by
  dsimp only [V, hostOps0, List.flatten_cons, List.flatten_nil, List.cons_append, List.nil_append]
  after_results_simp <;> rfl

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel

theorem block0 (t : Fin cfg0.N) (i k : Fin 1024) : iblk m c 0 t (ix2 i k) = (m ((c : Thread nD τ).loc main_arg0) : FVec Ideal S1024x1024 .f32) (ix2 i k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; simp
  · show ((win0_0.rect t).emb (ix2 i k) 1 : ℕ) = _
    rw [Pipeline.Window.rect_emb_val win0_0 t, (index0 t).2]; simp

theorem block1 (t : Fin cfg0.N) (i k : Fin 1024) : iblk m c 1 t (ix2 i k) = (m ((c : Thread nD τ).loc main_arg2) : FVec Ideal S1024x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem emb2 (t : Fin cfg0.N) (i k : Fin 1024) : (win0_2.blk t).view.emb (ix2 i k) = ix2 i k := by
  refine idx2 _ _ _ ?_ ?_
  · show ((win0_2.rect t).emb (ix2 i k) 0 : ℕ) = _
    rw [Pipeline.Window.rect_emb_val win0_2 t, (index2 t).1]; simp
  · show ((win0_2.rect t).emb (ix2 i k) 1 : ℕ) = _
    rw [Pipeline.Window.rect_emb_val win0_2 t, (index2 t).2]; simp

open Cert.Reference29Ideal.Read in
/-- The reference's entry. -/
theorem ref (x0 x2 : FVec Ideal S1024x1024 .f32) (i d : Fin 1024) :
    val_main_v3 (F := Ideal) x0 x2 (ix2 i d) = ∑ k : Fin 1024, x0 (ix2 k i) * x2 (ix2 k d) := by
  rw [val_main_v3_apply, val_main_v2_apply, idx2 (idx_main_v2 (ix2 i d)) d i rfl rfl, val_main_v1_apply]
  refine Finset.sum_congr rfl fun k _ => ?_
  rw [idx2 (lidx_main_v1 (ix2 d i) k) k d rfl rfl, idx2 (ridx_main_v1 (ix2 d i) k) k i rfl rfl, mul_comm]

/-- The kernel's result is the reference's. -/
theorem array : (dats m 0 c).arrAt 2 cfg0.N = Cert.Reference29Ideal.Read.val_main_v3 (F := Ideal) (m ((c : Thread nD τ).loc main_arg0)) (m ((c : Thread nD τ).loc main_arg2)) := by
  refine (dats m 0 c).arrAt_eq_of_covers 2 _ (by decide +kernel) fun t hf y => ?_
  blk_simp
  obtain ⟨i, d, rfl⟩ : ∃ (i d : Fin 1024), y = ix2 i d := ⟨y 0, y 1, eq_ix2 y⟩
  rw [emb2, after0_2]
  dsimp only
  rw [blockOut, pay, ref]
  simp only [block0, block1]

end Cert.Kernel29Ideal.DMemKv

end
-- ==== Proof.Rms.lean ====
/- The root-mean-square normalisation of a row of 1024 entries, over the extended reals. -/
module

public import proofs.«01_k».proof.Proof.Products

@[expose] public section

set_option maxRecDepth 16384

noncomputable section

namespace Rms

open Idealize.ShloMosaic Attn Products

/-- An index of one axis is what its only coordinate says. -/
theorem idx1 {n : ℕ} (f : (⟨1, ![n]⟩ : Shape).Idx) (a : Fin n) (h : (f 0 : ℕ) = a) : f = ix1 a := by
  funext k
  match k with
  | ⟨0, _⟩ => exact Fin.ext h

/-- The small constant under the root. -/
def eps : EReal := Ideal.ofBits .f32 0x358637BD#32

theorem width_lit : Ideal.ofBits .f32 0x44800000#32 = ((1024 : ℝ) : EReal) := by
  simp [Ideal.ofBits, Ideal.ieee, -EReal.coe_mul]; norm_num

theorem inv_width_lit : Ideal.ofBits .f32 0x3A800000#32 = ((1 / 1024 : ℝ) : EReal) := by
  simp [Ideal.ofBits, Ideal.ieee, -EReal.coe_mul]; norm_num

/-- The mean square of a row plus the small constant. -/
def power (f : Fin 1024 → EReal) : EReal := (∑ k, f k * f k) * ((1 / 1024 : ℝ) : EReal) + eps

/-- The factor that normalises a row: one over the root of the mean square plus the small constant. -/
def scale (f : Fin 1024 → EReal) : EReal := Ideal.rsqrt (power f)

/-- Dividing by the width is multiplying by its inverse. -/
theorem div_width (x : EReal) : Ideal.div x ((1024 : ℝ) : EReal) = x * ((1 / 1024 : ℝ) : EReal) :=
  Ideal.div_coe (by norm_num) x

end Rms

end
-- ==== Proof.MOut.lean ====
/- The product after the merge, the residual connection and the normalisation of its rows: each block of the kernel's
   two results is the reference's. -/
module

public import proofs.«01_k».proof.Proof.Rms
public import proofs.«01_k».proof.Proof.Gen.Kernel30Ideal.Value
public import proofs.«01_k».proof.Proof.Gen.Reference30Ideal.Read

@[expose] public section

set_option maxRecDepth 16384

noncomputable section

namespace Cert.Kernel30Ideal.MOut

open Idealize.ShloMosaic Idealize.ShloMosaic.TcCoe Idealize.SL.Sem Cert.Kernel30Ideal Cert.Kernel30Ideal.Gen Attn Products

/-- The body's sum, entry by entry. -/
theorem pay1 (x0 x1 : Vec Ideal S1024x1024 .bf16) (x2 : Vec Ideal S1024x1024 .f32) (i d : Fin 1024) :
    k0_pay1 (F := Ideal) x0 x1 x2 (ix2 i d) = (∑ k : Fin 1024, x0 (ix2 i k) * x1 (ix2 k d)) + x2 (ix2 i d) := by
  unfold k0_pay1
  rw [shapeCast_self, shapeCast_self]
  exact congrArg (· + _) (nn (M := 1024) (K := 1024) (N := 1024) (φ₁ := .bf16) (φ₂ := .bf16) x0 x1 i d)

/-- The body's normalised rows. -/
theorem pay2 (x0 x1 : Vec Ideal S1024x1024 .bf16) (x2 : Vec Ideal S1024x1024 .f32) (g : Vec Ideal S1x1024 .f32) (i d : Fin 1024) :
    k0_pay2 (F := Ideal) x0 x1 x2 g (ix2 i d)
      = k0_pay1 (F := Ideal) x0 x1 x2 (ix2 i d) * Rms.scale (fun k => k0_pay1 (F := Ideal) x0 x1 x2 (ix2 i k)) * g (ix2 0 d) := by
  unfold k0_pay2
  generalize k0_pay1 (F := Ideal) x0 x1 x2 = v
  unfold Rms.scale Rms.power Rms.eps
  rw [← Rms.inv_width_lit]
  pointwise

theorem blockOut4 (x0 x1 : Vec Ideal S1024x1024 .bf16) (x2 : Vec Ideal S1024x1024 .f32) (x3 : Vec Ideal S1x1024 .f32) :
    out0_4 x0 x1 x2 x3 = k0_pay1 x0 x1 x2 := by
  frame_out

theorem blockOut5 (x0 x1 : Vec Ideal S1024x1024 .bf16) (x2 : Vec Ideal S1024x1024 .f32) (x3 : Vec Ideal S1x1024 .f32) :
    out0_5 x0 x1 x2 x3 = k0_pay2 x0 x1 x2 x3 := by
  frame_out

variable (m : (ℓ : Loc nD τ sig) → Buf (Elt Ideal) ℓ) (c : Dev nD)

theorem V_a : V m c main_v0 = (m ((c : Thread nD τ).loc main_arg0) : FVec Ideal S8192x1024 .f32) := by
  dsimp only [V, hostOps0, List.flatten_cons, List.flatten_nil, List.cons_append, List.nil_append]
  after_results_simp <;> rfl

theorem V_b : V m c main_v1 = (m ((c : Thread nD τ).loc main_arg1) : FVec Ideal S1024x1024 .f32) := by
  dsimp only [V, hostOps0, List.flatten_cons, List.flatten_nil, List.cons_append, List.nil_append]
  after_results_simp <;> rfl

theorem V_x : V m c main_arg2 = (m ((c : Thread nD τ).loc main_arg2) : FVec Ideal S8192x1024 .f32) := by
  dsimp only [V, hostOps0, List.flatten_cons, List.flatten_nil, List.cons_append, List.nil_append]
  after_results_simp <;> rfl

theorem V_g (d : Fin 1024) : V m c main_v2 (ix2 0 d) = (m ((c : Thread nD τ).loc main_arg3) : FVec Ideal S1024 .f32) (ix1 d) := by
  dsimp only [V, hostOps0, List.flatten_cons, List.flatten_nil, List.cons_append, List.nil_append]
  after_results_simp
  pointwise

/-- The rows of the block at a grid point. -/
def row (t : Fin cfg0.N) (i : Fin 1024) : Fin 8192 := ⟨1024 * (grid0.coords t 0 : ℕ) + i, by have := (grid0.coords t 0).isLt; have := i.isLt; change _ < 8 at *; omega⟩

theorem index0 : ∀ t : Fin grid0.N, win0_0.index t 0 = (grid0.coords t 0 : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (grid0.coords t 0 : ℕ) ∧ win0_2.index t 1 = 0 := by decide +kernel
theorem index3 : ∀ t : Fin grid0.N, win0_3.index t 0 = 0 ∧ win0_3.index t 1 = 0 := by decide +kernel
theorem index4 : ∀ t : Fin grid0.N, win0_4.index t 0 = (grid0.coords t 0 : ℕ) ∧ win0_4.index t 1 = 0 := by decide +kernel
theorem index5 : ∀ t : Fin grid0.N, win0_5.index t 0 = (grid0.coords t 0 : ℕ) ∧ win0_5.index t 1 = 0 := by decide +kernel

theorem block0 (t : Fin cfg0.N) (i k : Fin 1024) : iblk m c 0 t (ix2 i k) = (m ((c : Thread nD τ).loc main_arg0) : FVec Ideal S8192x1024 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; show _ * 1024 + _ = _; simp only [row]; rw [mul_comm]; rfl
  · show ((win0_0.rect t).emb (ix2 i k) 1 : ℕ) = _
    rw [Pipeline.Window.rect_emb_val win0_0 t, (index0 t).2]; simp

theorem block1 (t : Fin cfg0.N) (i k : Fin 1024) : iblk m c 1 t (ix2 i k) = (m ((c : Thread nD τ).loc main_arg1) : FVec Ideal S1024x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem block2 (t : Fin cfg0.N) (i k : Fin 1024) : iblk m c 2 t (ix2 i k) = (m ((c : Thread nD τ).loc main_arg2) : FVec Ideal S8192x1024 .f32) (ix2 (row t i) k) := by
  rw [← V_x m c]
  show V m c main_arg2 ((win0_2.blk t).view.emb (ix2 i k)) = _
  congr 1
  refine idx2 _ _ _ ?_ ?_
  · show ((win0_2.rect t).emb (ix2 i k) 0 : ℕ) = _
    rw [Pipeline.Window.rect_emb_val win0_2 t, (index2 t).1]; show _ * 1024 + _ = _; simp only [row]; rw [mul_comm]; rfl
  · show ((win0_2.rect t).emb (ix2 i k) 1 : ℕ) = _
    rw [Pipeline.Window.rect_emb_val win0_2 t, (index2 t).2]; simp

theorem block3 (t : Fin cfg0.N) (k : Fin 1024) : iblk m c 3 t (ix2 0 k) = (m ((c : Thread nD τ).loc main_arg3) : FVec Ideal S1024 .f32) (ix1 k) := by
  rw [← V_g m c]
  show V m c main_v2 ((win0_3.blk t).view.emb (ix2 0 k)) = _
  congr 1
  refine idx2 _ _ _ ?_ ?_
  · show ((win0_3.rect t).emb (ix2 0 k) 0 : ℕ) = _
    rw [Pipeline.Window.rect_emb_val win0_3 t, (index3 t).1]; simp
  · show ((win0_3.rect t).emb (ix2 0 k) 1 : ℕ) = _
    rw [Pipeline.Window.rect_emb_val win0_3 t, (index3 t).2]; simp

theorem emb4 (t : Fin cfg0.N) (i k : Fin 1024) : (win0_4.blk t).view.emb (ix2 i k) = ix2 (row t i) k := by
  refine idx2 _ _ _ ?_ ?_
  · show ((win0_4.rect t).emb (ix2 i k) 0 : ℕ) = _
    rw [Pipeline.Window.rect_emb_val win0_4 t, (index4 t).1]; show _ * 1024 + _ = _; simp only [row]; rw [mul_comm]; rfl
  · show ((win0_4.rect t).emb (ix2 i k) 1 : ℕ) = _
    rw [Pipeline.Window.rect_emb_val win0_4 t, (index4 t).2]; simp

theorem emb5 (t : Fin cfg0.N) (i k : Fin 1024) : (win0_5.blk t).view.emb (ix2 i k) = ix2 (row t i) k := by
  refine idx2 _ _ _ ?_ ?_
  · show ((win0_5.rect t).emb (ix2 i k) 0 : ℕ) = _
    rw [Pipeline.Window.rect_emb_val win0_5 t, (index5 t).1]; show _ * 1024 + _ = _; simp only [row]; rw [mul_comm]; rfl
  · show ((win0_5.rect t).emb (ix2 i k) 1 : ℕ) = _
    rw [Pipeline.Window.rect_emb_val win0_5 t, (index5 t).2]; simp

open Cert.Reference30Ideal.Read

section
variable (x0 : FVec Ideal S8192x1024 .f32) (x1 : FVec Ideal S1024x1024 .f32) (x2 : FVec Ideal S8192x1024 .f32) (x3 : FVec Ideal S1024 .f32)

/-- The reference's sum, entry by entry. -/
theorem ref1 (i : Fin 8192) (d : Fin 1024) :
    val_main_v1 (F := Ideal) x0 x1 x2 (ix2 i d) = (∑ k : Fin 1024, x0 (ix2 i k) * x1 (ix2 k d)) + x2 (ix2 i d) := by
  rw [val_main_v1_apply, val_main_v0_apply, Ideal.addf_def, add_comm]
  refine congrArg (· + _) (Finset.sum_congr rfl fun k _ => ?_)
  rw [idx2 (lidx_main_v0 (ix2 i d) k) i k rfl rfl, idx2 (ridx_main_v0 (ix2 i d) k) k d rfl rfl]

/-- The reference's normalised rows. -/
theorem ref2 (i : Fin 8192) (d : Fin 1024) :
    val_main_v15 (F := Ideal) x0 x1 x2 x3 (ix2 i d)
      = val_main_v1 (F := Ideal) x0 x1 x2 (ix2 i d) * Rms.scale (fun k => val_main_v1 (F := Ideal) x0 x1 x2 (ix2 i k)) * x3 (ix1 d) := by
  rw [val_main_v15_apply, val_main_v14_apply, val_main_v11_apply, val_main_v10_apply, val_main_v9_apply, val_main_v8_apply, val_main_v6_apply,
    val_main_v4_apply, val_main_v3_apply, val_main_v5_apply, val_main_v7_apply, val_main_v13_apply, val_main_v12_apply, val_main_cst_0_apply,
    val_main_cst_1_apply, val_main_cst_apply]
  simp only [val_main_v2_apply]
  generalize val_main_v1 (F := Ideal) x0 x1 x2 = v
  unfold Rms.scale Rms.power Rms.eps
  rw [← Rms.div_width, ← Rms.width_lit]
  simp only [pointwise]
  rw [zero_add, show idx_main_v12 (idx_main_v13 (ix2 i d)) = ix1 d from Rms.idx1 _ _ rfl]
  simp only [fun x => show idx_main_v3 (idx_main_v4 (idx_main_v10 (ix2 i d))) x = ix2 i x from idx2 _ _ _ rfl rfl]
end

theorem array4 : (dats m 0 c).arrAt 4 cfg0.N = val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  obtain ⟨i, d, rfl⟩ : ∃ (i : Fin 1024) (d : Fin 1024), y = ix2 i d := ⟨y 0, y 1, eq_ix2 y⟩
  rw [emb4, after0_4]
  dsimp only
  rw [blockOut4, pay1, ref1]
  simp only [block0, block1, block2]

theorem array5 : (dats m 0 c).arrAt 5 cfg0.N = val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨i, d, rfl⟩ : ∃ (i : Fin 1024) (d : Fin 1024), y = ix2 i d := ⟨y 0, y 1, eq_ix2 y⟩
  rw [emb5, after0_5]
  dsimp only
  rw [blockOut5, pay2, ref2]
  simp only [pay1, ref1, block0, block1, block2, block3]

end Cert.Kernel30Ideal.MOut

end
-- ==== Proof.Loss.lean ====
/- The feed-forward network's second product with the residual connection, the gradient of the loss in the step's
   output, and the output's squared errors summed by lane. -/
module

public import proofs.«01_k».proof.Proof.Rms
public import proofs.«01_k».proof.Proof.Gen.Kernel31Ideal.Value
public import proofs.«01_k».proof.Proof.Gen.Reference31Ideal.Read

@[expose] public section

set_option maxRecDepth 16384

noncomputable section

namespace Cert.Kernel31Ideal.Loss

open Idealize.ShloMosaic Idealize.ShloMosaic.TcCoe Idealize.SL.Sem Cert.Kernel31Ideal Cert.Kernel31Ideal.Gen Attn Products

/-- Lane `l` of the `j`-th group of 128 columns. -/
def lane (j : Fin 8) (l : Fin 128) : Fin 1024 := ⟨128 * j + l, by omega⟩

/-- The body's error: the output less the target, entry by entry. -/
theorem pay2 (x0 : Vec Ideal S512x4096 .bf16) (x1 : Vec Ideal S4096x1024 .bf16) (x2 x3 : Vec Ideal S512x1024 .f32) (i : Fin 512) (d : Fin 1024) :
    k0_pay2 (F := Ideal) x0 x1 x2 x3 (ix2 i d)
      = (∑ k : Fin 4096, sqPos (x0 (ix2 i k)) * x1 (ix2 k d)) + x2 (ix2 i d) - x3 (ix2 i d) := by
  unfold k0_pay2
  rw [shapeCast_self, shapeCast_self]
  refine congrArg (· + x2 (ix2 i d) - x3 (ix2 i d)) ((nn (M := 512) (K := 4096) (N := 1024) (φ₁ := .bf16) (φ₂ := .bf16) _ x1 i d).trans ?_)
  refine Finset.sum_congr rfl fun k _ => congrArg (· * _) ?_
  show max (x0 (ix2 i k)) (Ideal.ofBits .bf16 0x0000#16) * max (x0 (ix2 i k)) (Ideal.ofBits .bf16 0x0000#16) = _
  rw [zero_bf16, sqPos]

theorem pay3 (x0 : Vec Ideal S512x4096 .bf16) (x1 : Vec Ideal S4096x1024 .bf16) (x2 x3 : Vec Ideal S512x1024 .f32) (i : Fin 512) (d : Fin 1024) :
    k0_pay3 (F := Ideal) x0 x1 x2 x3 (ix2 i d) = k0_pay2 (F := Ideal) x0 x1 x2 x3 (ix2 i d) * ((1 / 1024 : ℝ) : EReal) := by
  rw [← Rms.inv_width_lit]
  rfl

theorem pay4 (x0 : Vec Ideal S512x4096 .bf16) (x1 : Vec Ideal S4096x1024 .bf16) (x2 x3 : Vec Ideal S512x1024 .f32) (i : Fin 512) (d : Fin 1024) :
    k0_pay4 (F := Ideal) x0 x1 x2 x3 (ix2 i d) = k0_pay2 (F := Ideal) x0 x1 x2 x3 (ix2 i d) * ((1 / 1024 : ℝ) : EReal) := by
  rw [← Rms.inv_width_lit]
  rfl

/-- The body's squared errors summed by lane: over the rows of the block and the eight groups of columns. -/
theorem pay5 (x0 : Vec Ideal S512x4096 .bf16) (x1 : Vec Ideal S4096x1024 .bf16) (x2 x3 : Vec Ideal S512x1024 .f32) (l : Fin 128) :
    k0_pay5 (F := Ideal) x0 x1 x2 x3 (ix2 0 l)
      = ∑ i : Fin 512, ∑ j : Fin 8, k0_pay2 (F := Ideal) x0 x1 x2 x3 (ix2 i (lane j l)) * k0_pay2 (F := Ideal) x0 x1 x2 x3 (ix2 i (lane j l)) := by
  unfold k0_pay5
  generalize k0_pay2 (F := Ideal) x0 x1 x2 x3 = v
  have e (j : Fin 8) (n : ℕ) (h : n < 1024) (hn : n = 128 * (j : ℕ) + l) : (⟨n, h⟩ : Fin 1024) = lane j l := Fin.ext hn
  simp only [Fin.sum_univ_eight]
  pointwise
  simp only [e 0 l _ (by simp), e 1 (128 + l) _ rfl, e 2 (256 + l) _ rfl, e 3 (384 + l) _ rfl, e 4 (512 + l) _ rfl, e 5 (640 + l) _ rfl,
    e 6 (768 + l) _ rfl, e 7 (896 + l) _ rfl]

variable (m : (ℓ : Loc nD τ sig) → Buf (Elt Ideal) ℓ) (c : Dev nD)

/-- What every grid point writes to the first result. -/
theorem out4 (t : Fin cfg0.N) : (outsAt0 m c t.val t.isLt).1 = k0_pay3 (iblk m c 0 t) (iblk m c 1 t) (iblk m c 2 t) (iblk m c 3 t) := by
  have hN : (t : ℕ) < 16 := lt_of_lt_of_eq t.isLt N_0
  by_cases h : t.val % 16 = 0
  · rw [outsAt0_A m c t h (by omega)]
    frame_out
  · rw [outsAt0_B m c t h (by omega)]
    frame_out

/-- What every grid point writes to the second result. -/
theorem out5 (t : Fin cfg0.N) : (outsAt0 m c t.val t.isLt).2.1 = k0_pay4 (iblk m c 0 t) (iblk m c 1 t) (iblk m c 2 t) (iblk m c 3 t) := by
  have hN : (t : ℕ) < 16 := lt_of_lt_of_eq t.isLt N_0
  by_cases h : t.val % 16 = 0
  · rw [outsAt0_A m c t h (by omega)]
    frame_out
  · rw [outsAt0_B m c t h (by omega)]
    frame_out

/-- A grid point's share of the lane sums. -/
def part (t : Fin cfg0.N) (l : Fin 128) : EReal := k0_pay5 (iblk m c 0 t) (iblk m c 1 t) (iblk m c 2 t) (iblk m c 3 t) (ix2 0 l)

/-- The lane sums after the first grid point. -/
theorem accA (t : Fin cfg0.N) (h : t.val % 16 = 0) (l : Fin 128) : (outsAt0 m c t.val t.isLt).2.2 (ix2 0 l) = 0 + part m c t l := by
  have hN : (t : ℕ) < 16 := lt_of_lt_of_eq t.isLt N_0
  rw [outsAt0_A m c t h (by omega)]
  frame_out
  rw [zero_add]
  rfl

/-- The lane sums after a later grid point. -/
theorem accB (t : Fin cfg0.N) (h : ¬t.val % 16 = 0) (l : Fin 128) :
    (outsAt0 m c t.val t.isLt).2.2 (ix2 0 l) = (outsAt0 m c (t.val - 1) (Nat.lt_of_le_of_lt (Nat.sub_le _ _) t.isLt)).2.2 (ix2 0 l) + part m c t l := by
  rw [outsAt0_B m c t h (by omega)]
  frame_out
  unfold k0_pay1 part
  rw [shapeCast_self]
  first
    | exact congrArg (· + _) (congrFun (Memref.IsWhole.read_unread _ _) _)
    | rfl

/-- The lane sums at the last grid point: all shares. -/
theorem spans (t : Fin cfg0.N) (h : t.val % 16 = 15) (l : Fin 128) :
    (outsAt0 m c t.val t.isLt).2.2 (ix2 0 l) = 0 + ∑ s : Fin 16, part m c ⟨16 * (t.val / 16) + s.val, Pipeline.run_point_lt_of_flush t h s⟩ l :=
  Pipeline.eq_sum_fin_of_reset_step_of_flush (fun n h => (outsAt0 m c n h).2.2 (ix2 0 l)) 16 0 (fun t => part m c t l)
    (fun t h => accA m c t h l) (fun t h => accB m c t h l) t h

theorem V_a : V m c main_v0 = (m ((c : Thread nD τ).loc main_arg0) : FVec Ideal S8192x4096 .f32) := by
  dsimp only [V, hostOps0, List.flatten_cons, List.flatten_nil, List.cons_append, List.nil_append]
  after_results_simp <;> rfl

theorem V_b : V m c main_v1 = (m ((c : Thread nD τ).loc main_arg1) : FVec Ideal S4096x1024 .f32) := by
  dsimp only [V, hostOps0, List.flatten_cons, List.flatten_nil, List.cons_append, List.nil_append]
  after_results_simp <;> rfl

theorem V_x : V m c main_arg2 = (m ((c : Thread nD τ).loc main_arg2) : FVec Ideal S8192x1024 .f32) := by
  dsimp only [V, hostOps0, List.flatten_cons, List.flatten_nil, List.cons_append, List.nil_append]
  after_results_simp <;> rfl

theorem V_t : V m c main_arg3 = (m ((c : Thread nD τ).loc main_arg3) : FVec Ideal S8192x1024 .f32) := by
  dsimp only [V, hostOps0, List.flatten_cons, List.flatten_nil, List.cons_append, List.nil_append]
  after_results_simp <;> rfl

/-- The rows of the block at a grid point. -/
def row (t : Fin cfg0.N) (i : Fin 512) : Fin 8192 := ⟨t * 512 + i, by have hN : (t : ℕ) < 16 := lt_of_lt_of_eq t.isLt N_0; omega⟩

theorem index0 : ∀ t : Fin grid0.N, win0_0.index t 0 = (t : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (t : ℕ) ∧ win0_2.index t 1 = 0 := by decide +kernel
theorem index3 : ∀ t : Fin grid0.N, win0_3.index t 0 = (t : ℕ) ∧ win0_3.index t 1 = 0 := by decide +kernel
theorem index4 : ∀ t : Fin grid0.N, win0_4.index t 0 = (t : ℕ) ∧ win0_4.index t 1 = 0 := by decide +kernel
theorem index5 : ∀ t : Fin grid0.N, win0_5.index t 0 = (t : ℕ) ∧ win0_5.index t 1 = 0 := by decide +kernel
theorem index6 : ∀ t : Fin grid0.N, win0_6.index t 0 = 0 ∧ win0_6.index t 1 = 0 := by decide +kernel

theorem block0 (t : Fin cfg0.N) (i : Fin 512) (k : Fin 4096) : iblk m c 0 t (ix2 i k) = (m ((c : Thread nD τ).loc main_arg0) : FVec Ideal S8192x4096 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; rfl
  · show ((win0_0.rect t).emb (ix2 i k) 1 : ℕ) = _
    rw [Pipeline.Window.rect_emb_val win0_0 t, (index0 t).2]; simp

theorem block1 (t : Fin cfg0.N) (i : Fin 4096) (k : Fin 1024) : iblk m c 1 t (ix2 i k) = (m ((c : Thread nD τ).loc main_arg1) : FVec Ideal S4096x1024 .f32) (ix2 i k) := by
  rw [← V_b m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem block2 (t : Fin cfg0.N) (i : Fin 512) (k : Fin 1024) : iblk m c 2 t (ix2 i k) = (m ((c : Thread nD τ).loc main_arg2) : FVec Ideal S8192x1024 .f32) (ix2 (row t i) k) := by
  rw [← V_x m c]
  show V m c main_arg2 ((win0_2.blk t).view.emb (ix2 i k)) = _
  congr 1
  refine idx2 _ _ _ ?_ ?_
  · show ((win0_2.rect t).emb (ix2 i k) 0 : ℕ) = _
    rw [Pipeline.Window.rect_emb_val win0_2 t, (index2 t).1]; rfl
  · show ((win0_2.rect t).emb (ix2 i k) 1 : ℕ) = _
    rw [Pipeline.Window.rect_emb_val win0_2 t, (index2 t).2]; simp

theorem block3 (t : Fin cfg0.N) (i : Fin 512) (k : Fin 1024) : iblk m c 3 t (ix2 i k) = (m ((c : Thread nD τ).loc main_arg3) : FVec Ideal S8192x1024 .f32) (ix2 (row t i) k) := by
  rw [← V_t m c]
  show V m c main_arg3 ((win0_3.blk t).view.emb (ix2 i k)) = _
  congr 1
  refine idx2 _ _ _ ?_ ?_
  · show ((win0_3.rect t).emb (ix2 i k) 0 : ℕ) = _
    rw [Pipeline.Window.rect_emb_val win0_3 t, (index3 t).1]; rfl
  · show ((win0_3.rect t).emb (ix2 i k) 1 : ℕ) = _
    rw [Pipeline.Window.rect_emb_val win0_3 t, (index3 t).2]; simp

theorem emb4 (t : Fin cfg0.N) (i : Fin 512) (k : Fin 1024) : (win0_4.blk t).view.emb (ix2 i k) = ix2 (row t i) k := by
  refine idx2 _ _ _ ?_ ?_
  · show ((win0_4.rect t).emb (ix2 i k) 0 : ℕ) = _
    rw [Pipeline.Window.rect_emb_val win0_4 t, (index4 t).1]; rfl
  · show ((win0_4.rect t).emb (ix2 i k) 1 : ℕ) = _
    rw [Pipeline.Window.rect_emb_val win0_4 t, (index4 t).2]; simp

theorem emb5 (t : Fin cfg0.N) (i : Fin 512) (k : Fin 1024) : (win0_5.blk t).view.emb (ix2 i k) = ix2 (row t i) k := by
  refine idx2 _ _ _ ?_ ?_
  · show ((win0_5.rect t).emb (ix2 i k) 0 : ℕ) = _
    rw [Pipeline.Window.rect_emb_val win0_5 t, (index5 t).1]; rfl
  · show ((win0_5.rect t).emb (ix2 i k) 1 : ℕ) = _
    rw [Pipeline.Window.rect_emb_val win0_5 t, (index5 t).2]; simp

theorem emb6 (t : Fin cfg0.N) (l : Fin 128) : (win0_6.blk t).view.emb (ix2 0 l) = ix2 0 l := by
  refine idx2 _ _ _ ?_ ?_
  · show ((win0_6.rect t).emb (ix2 0 l) 0 : ℕ) = _
    rw [Pipeline.Window.rect_emb_val win0_6 t, (index6 t).1]; simp
  · show ((win0_6.rect t).emb (ix2 0 l) 1 : ℕ) = _
    rw [Pipeline.Window.rect_emb_val win0_6 t, (index6 t).2]; simp

open Cert.Reference31Ideal.Read

section
variable (x0 : FVec Ideal S8192x4096 .f32) (x1 : FVec Ideal S4096x1024 .f32) (x2 x3 : FVec Ideal S8192x1024 .f32)

/-- The reference's error, entry by entry. -/
theorem refErr (i : Fin 8192) (d : Fin 1024) :
    val_main_v4 (F := Ideal) x0 x1 x2 x3 (ix2 i d) = (∑ k : Fin 4096, sqPos (x0 (ix2 i k)) * x1 (ix2 k d)) + x2 (ix2 i d) - x3 (ix2 i d) := by
  rw [val_main_v4_apply, val_main_v3_apply, val_main_v2_apply, Ideal.subf_def, Ideal.addf_def, add_comm (x2 _)]
  refine congrArg (· + _ - _) (Finset.sum_congr rfl fun k _ => ?_)
  rw [idx2 (lidx_main_v2 (ix2 i d) k) i k rfl rfl, idx2 (ridx_main_v2 (ix2 i d) k) k d rfl rfl, val_main_v1_apply, val_main_v0_apply,
    val_main_call0_v0_apply, val_main_call0_cst_apply]
  simp only [pointwise]
  rfl

theorem half_lit : Ideal.ofBits .f32 0x3F000000#32 = ((1 / 2 : ℝ) : EReal) := by
  simp [Ideal.ofBits, Ideal.ieee, -EReal.coe_mul]; norm_num
theorem two_lit : Ideal.ofBits .f32 0x40000000#32 = ((2 : ℝ) : EReal) := by
  simp [Ideal.ofBits, Ideal.ieee, -EReal.coe_mul]; norm_num

/-- The reference's gradient in the output: half of twice the error, over the width. -/
theorem refGrad (i : Fin 8192) (d : Fin 1024) :
    val_main_v18 (F := Ideal) x0 x1 x2 x3 (ix2 i d) = val_main_v4 (F := Ideal) x0 x1 x2 x3 (ix2 i d) * ((1 / 1024 : ℝ) : EReal) := by
  rw [val_main_v18_apply, val_main_v17_apply, val_main_v16_apply, val_main_v14_apply, val_main_v13_apply, val_main_v15_apply, val_main_v7_apply,
    val_main_v6_apply, val_main_cst_4_apply, val_main_cst_5_apply, val_main_cst_6_apply, val_main_cst_apply]
  generalize val_main_v4 (F := Ideal) x0 x1 x2 x3 (ix2 i d) = e
  simp only [pointwise]
  rw [half_lit, two_lit, mul_one, Rms.width_lit, Rms.div_width, ← EReal.coe_mul, ← mul_assoc, ← EReal.coe_mul, mul_comm]
  norm_num

/-- The same gradient in the narrow format. -/
theorem refGrad' (i : Fin 8192) (d : Fin 1024) :
    val_main_v19 (F := Ideal) x0 x1 x2 x3 (ix2 i d) = val_main_v4 (F := Ideal) x0 x1 x2 x3 (ix2 i d) * ((1 / 1024 : ℝ) : EReal) :=
  refGrad x0 x1 x2 x3 i d

/-- The reference's squared errors summed by lane: over all rows and the eight groups of columns. -/
theorem refLane (l : Fin 128) :
    val_main_v24 (F := Ideal) x0 x1 x2 x3 (ix2 0 l)
      = ∑ i : Fin 8192, ∑ j : Fin 8, val_main_v4 (F := Ideal) x0 x1 x2 x3 (ix2 i (lane j l)) * val_main_v4 (F := Ideal) x0 x1 x2 x3 (ix2 i (lane j l)) := by
  rw [val_main_v24_apply, val_main_v23_apply, val_main_cst_7_apply]
  simp only [val_main_v22_apply, val_main_v21_apply]
  rw [show val_main_v20 (F := Ideal) x0 x1 x2 x3 = val_main_v4 (F := Ideal) x0 x1 x2 x3 from rfl]
  generalize val_main_v4 (F := Ideal) x0 x1 x2 x3 = v
  simp only [pointwise]
  rw [zero_add, ← Fin.sum_mul_add_fin 8192 8 _ rfl]
  refine Finset.sum_congr rfl fun i _ => Finset.sum_congr rfl fun j _ => ?_
  have h : idx_main_v22 (idx_main_v23 (idx_main_v24 (ix2 0 l)) ⟨i * 8 + j, by omega⟩) = ix2 i (lane j l) := by
    refine idx2 _ _ _ ?_ ?_
    · show (((i : ℕ) * 8 + j) * 128 + (0 * 128 + l)) / 1024 = (i : ℕ)
      omega
    · show (((i : ℕ) * 8 + j) * 128 + (0 * 128 + l)) % 1024 = 128 * (j : ℕ) + l
      omega
  rw [h]
end

/-- The body's error at a grid point is the reference's at the block's rows. -/
theorem err (t : Fin cfg0.N) (i : Fin 512) (d : Fin 1024) :
    k0_pay2 (F := Ideal) (iblk m c 0 t) (iblk m c 1 t) (iblk m c 2 t) (iblk m c 3 t) (ix2 i d)
      = val_main_v4 (F := Ideal) (m ((c : Thread nD τ).loc main_arg0)) (m ((c : Thread nD τ).loc main_arg1)) (m ((c : Thread nD τ).loc main_arg2)) (m ((c : Thread nD τ).loc main_arg3)) (ix2 (row t i) d) := by
  rw [pay2, refErr]
  simp only [block0, block1, block2, block3]

theorem array4 : (dats m 0 c).arrAt 4 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  obtain ⟨i, d, rfl⟩ : ∃ (i : Fin 512) (d : Fin 1024), y = ix2 i d := ⟨y 0, y 1, eq_ix2 y⟩
  rw [emb4, after0_4]
  dsimp only
  rw [out4, pay3, refGrad, err]

theorem array5 : (dats m 0 c).arrAt 5 cfg0.N = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨i, d, rfl⟩ : ∃ (i : Fin 512) (d : Fin 1024), y = ix2 i d := ⟨y 0, y 1, eq_ix2 y⟩
  rw [emb5, after0_5]
  dsimp only
  rw [out5, pay4, refGrad', err]

/-- The lane sums written at the last grid point are the reference's. -/
theorem lanes (t : Fin cfg0.N) (h : t.val % 16 = 15) (l : Fin 128) :
    (outsAt0 m c t.val t.isLt).2.2 (ix2 0 l)
      = val_main_v24 (F := Ideal) (m ((c : Thread nD τ).loc main_arg0)) (m ((c : Thread nD τ).loc main_arg1)) (m ((c : Thread nD τ).loc main_arg2)) (m ((c : Thread nD τ).loc main_arg3)) (ix2 0 l) := by
  have hN : (t : ℕ) < 16 := lt_of_lt_of_eq t.isLt N_0
  rw [spans m c t h, zero_add, refLane, ← Fin.sum_mul_add_fin 16 512 _ rfl]
  refine Finset.sum_congr rfl fun s _ => ?_
  unfold part
  rw [pay5]
  refine Finset.sum_congr rfl fun i _ => Finset.sum_congr rfl fun j _ => ?_
  rw [err, show row ⟨16 * (t.val / 16) + s.val, Pipeline.run_point_lt_of_flush t h s⟩ i = ⟨s * 512 + i, by omega⟩ from
    Fin.ext (by show (16 * (t.val / 16) + s.val) * 512 + (i : ℕ) = (s : ℕ) * 512 + (i : ℕ); omega)]

theorem array6 : (dats m 0 c).arrAt 6 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have h : t.val % 16 = 15 := (flush0_6 t).mp hf
  blk_simp
  obtain ⟨i, l, rfl⟩ : ∃ (i : Fin 1) (l : Fin 128), y = ix2 i l := ⟨y 0, y 1, eq_ix2 y⟩
  obtain rfl : i = 0 := Subsingleton.elim _ _
  rw [emb6, after0_6]
  dsimp only
  exact lanes m c t h l

end Cert.Kernel31Ideal.Loss

end
-- ==== Proof.RefValues.lean ====
/- The reference read over the reals. For real arrays `q, k, v, g`, each operation of the reference that bears on the
   results is computed at an index, and the results are the gradients of a causal softmax attention: with `P` the
   probabilities and `dS` the gradient of the scores, `dq = dS · k · c`, `dk = dSᵀ · q · c`, `dv = Pᵀ · g`. -/
module

public import proofs.«01_k».proof.Proof.Softmax
public import proofs.«01_k».proof.Proof.Gen.ReferenceIdeal.Read
public import Idealize.ShloMosaic.Lib.IdealHost
public import Idealize.ShloMosaic.Lib.Pointwise.Reduce
public import Idealize.ShloMosaic.Lib.WordCmp

@[expose] public section

set_option maxRecDepth 16384

noncomputable section

namespace Cert.ReferenceIdeal.Values

open Idealize.ShloMosaic Idealize.ShloMosaic.TcCoe Idealize.SL.Sem Cert.ReferenceIdeal Cert.ReferenceIdeal.Gen Cert.ReferenceIdeal.Read Attn

abbrev A2048 := (⟨S8192x2048, .f32⟩ : BufTy).Contents (Elt Ideal)
abbrev A1024 := (⟨S8192x1024, .f32⟩ : BufTy).Contents (Elt Ideal)

/-- The literal scale of the scores. -/
abbrev scale : ℝ := 9686330 / 134217728

theorem scale_eq : Ideal.ofBits .f32 0x3D93CD3A#32 = (scale : EReal) := by
  simp [Ideal.ofBits, Ideal.ieee, -EReal.coe_mul]
  norm_num

theorem bot_eq : Ideal.ofBits .f32 0xFF800000#32 = ⊥ := by simp [Ideal.ofBits, Ideal.ieee]

theorem two_eq : Ideal.ofBits .f32 0x40000000#32 = ((2 : ℝ) : EReal) := by
  simp [Ideal.ofBits, Ideal.ieee, -EReal.coe_mul]
  norm_num

/-- Head `h` of batch `b` of an array of rows, the head's width `w`. -/
def hd (w : ℕ) (x : ℕ → ℕ → ℝ) (b h i d : ℕ) : ℝ := x (b * 2048 + i) (h * w + d)

/-- The arrays are real. -/
structure Data (x0 x1 : A2048) (x2 x3 : A1024) (q k v g : ℕ → ℕ → ℝ) : Prop where
  q : ∀ (r : Fin 8192) (l : Fin 2048), x0 (ix2 r l) = (q r l : EReal)
  k : ∀ (r : Fin 8192) (l : Fin 2048), x1 (ix2 r l) = (k r l : EReal)
  v : ∀ (r : Fin 8192) (l : Fin 1024), x2 (ix2 r l) = (v r l : EReal)
  g : ∀ (r : Fin 8192) (l : Fin 1024), x3 (ix2 r l) = (g r l : EReal)

theorem idx2 {n0 n1 : ℕ} (f : (⟨2, ![n0, n1]⟩ : Shape).Idx) (a : Fin n0) (b : Fin n1) (h0 : (f 0 : ℕ) = a) (h1 : (f 1 : ℕ) = b) :
    f = ix2 a b := by
  rw [eq_ix2 f]; exact congrArg₂ ix2 (Fin.ext h0) (Fin.ext h1)

theorem idx3 {n0 n1 n2 : ℕ} (f : (⟨3, ![n0, n1, n2]⟩ : Shape).Idx) (a : Fin n0) (b : Fin n1) (c : Fin n2)
    (h0 : (f 0 : ℕ) = a) (h1 : (f 1 : ℕ) = b) (h2 : (f 2 : ℕ) = c) : f = ix3 a b c := by
  rw [eq_ix3 f, show f 0 = a from Fin.ext h0, show f 1 = b from Fin.ext h1, show f 2 = c from Fin.ext h2]

theorem idx4 {n0 n1 n2 n3 : ℕ} (f : (⟨4, ![n0, n1, n2, n3]⟩ : Shape).Idx) (a : Fin n0) (b : Fin n1) (c : Fin n2) (d : Fin n3)
    (h0 : (f 0 : ℕ) = a) (h1 : (f 1 : ℕ) = b) (h2 : (f 2 : ℕ) = c) (h3 : (f 3 : ℕ) = d) : f = ix4 a b c d := by
  rw [eq_ix4 f, show f 0 = a from Fin.ext h0, show f 1 = b from Fin.ext h1, show f 2 = c from Fin.ext h2, show f 3 = d from Fin.ext h3]

/-- Row `b, i` of the arrays. -/
def row (b : Fin 4) (i : Fin 2048) : Fin 8192 := ⟨b * 2048 + i, by omega⟩
/-- Column `h, d` of the queries and keys. -/
def colD (h : Fin 8) (d : Fin 256) : Fin 2048 := ⟨h * 256 + d, by omega⟩
/-- Column `h, e` of the values. -/
def colE (h : Fin 8) (e : Fin 128) : Fin 1024 := ⟨h * 128 + e, by omega⟩

/-- The scores of one head. -/
def sc (q k : ℕ → ℕ → ℝ) (b h : ℕ) (i j : Fin 2048) : ℝ := (∑ d : Fin 256, hd 256 q b h i d * hd 256 k b h j d) * scale
/-- The gradient reaching the probabilities. -/
def dp (v g : ℕ → ℕ → ℝ) (b h : ℕ) (i j : Fin 2048) : ℝ := ∑ e : Fin 128, hd 128 g b h i e * hd 128 v b h j e
/-- Query `i` attends to the keys up to `i`. -/
abbrev causal (i j : Fin 2048) : Prop := (j : ℕ) ≤ i
/-- The probabilities of one head. -/
abbrev pr (q k : ℕ → ℕ → ℝ) (b h : ℕ) (i j : Fin 2048) : ℝ := prob causal (sc q k b h) i j
/-- The gradient of the scores of one head. -/
abbrev ds (q k v g : ℕ → ℕ → ℝ) (b h : ℕ) (i j : Fin 2048) : ℝ := dscore causal (sc q k b h) (dp v g b h) i j

/-- The row's largest score, as the reference computes it. -/
def mx (x0 x1 : A2048) (b : Fin 4) (h : Fin 8) (i : Fin 2048) : ℝ := (val_main_v14 (F := Ideal) x0 x1 (ix3 b h i)).toReal

section
variable {x0 x1 : A2048} {x2 x3 : A1024} {q k v g : ℕ → ℕ → ℝ} (H : Data x0 x1 x2 x3 q k v g) (b : Fin 4) (h : Fin 8) (i j : Fin 2048)
include H

theorem r0 (d : Fin 256) : val_main_v0 (F := Ideal) x0 (ix4 b i h d) = (hd 256 q b h i d : EReal) := by
  rw [val_main_v0_apply, idx2 (idx_main_v0 (ix4 b i h d)) (row b i) (colD h d)
    (by show ((((b : ℕ) * 2048 + i) * 8 + h) * 256 + d) / 2048 = b * 2048 + i; omega)
    (by show ((((b : ℕ) * 2048 + i) * 8 + h) * 256 + d) % 2048 = h * 256 + d; omega), H.q]
  rfl

theorem r1 (d : Fin 256) : val_main_v1 (F := Ideal) x1 (ix4 b i h d) = (hd 256 k b h i d : EReal) := by
  rw [val_main_v1_apply, idx2 (idx_main_v1 (ix4 b i h d)) (row b i) (colD h d)
    (by show ((((b : ℕ) * 2048 + i) * 8 + h) * 256 + d) / 2048 = b * 2048 + i; omega)
    (by show ((((b : ℕ) * 2048 + i) * 8 + h) * 256 + d) % 2048 = h * 256 + d; omega), H.k]
  rfl

theorem r2 (d : Fin 128) : val_main_v2 (F := Ideal) x2 (ix4 b i h d) = (hd 128 v b h i d : EReal) := by
  rw [val_main_v2_apply, idx2 (idx_main_v2 (ix4 b i h d)) (row b i) (colE h d)
    (by show ((((b : ℕ) * 2048 + i) * 8 + h) * 128 + d) / 1024 = b * 2048 + i; omega)
    (by show ((((b : ℕ) * 2048 + i) * 8 + h) * 128 + d) % 1024 = h * 128 + d; omega), H.v]
  rfl

theorem r45 (d : Fin 128) : val_main_v45 (F := Ideal) x3 (ix4 b i h d) = (hd 128 g b h i d : EReal) := by
  rw [val_main_v45_apply, idx2 (idx_main_v45 (ix4 b i h d)) (row b i) (colE h d)
    (by show ((((b : ℕ) * 2048 + i) * 8 + h) * 128 + d) / 1024 = b * 2048 + i; omega)
    (by show ((((b : ℕ) * 2048 + i) * 8 + h) * 128 + d) % 1024 = h * 128 + d; omega), H.g]
  rfl

theorem r46 (e : Fin 128) : val_main_v46 (F := Ideal) x3 (ix4 b h e i) = (hd 128 g b h i e : EReal) := by
  rw [val_main_v46_apply, idx4 (idx_main_v46 (ix4 b h e i)) b i h e rfl rfl rfl rfl, r45 H]

theorem r5 : val_main_v5 (F := Ideal) x0 x1 (ix4 b h i j) = (sc q k b h i j : EReal) := by
  rw [val_main_v5_apply, val_main_v4_apply, val_main_cst_apply, val_main_v3_apply]
  show (∑ d : Fin 256, _) * Ideal.ofBits .f32 0x3D93CD3A#32 = _
  rw [scale_eq]
  unfold sc
  rw [EReal.coe_mul, ← coe_sum_mul]
  refine congrArg (· * _) (Finset.sum_congr rfl fun d _ => ?_)
  rw [idx4 (lidx_main_v3 (ix4 b h i j) d) b i h d rfl rfl rfl rfl, idx4 (ridx_main_v3 (ix4 b h i j) d) b j h d rfl rfl rfl rfl, r0 H, r1 H]

omit H in
theorem mask : val_main_v13_1 (F := Ideal) (ix4 b h i j) = BitVec.ofBool (decide (causal i j)) := by
  have hi := i.isLt
  have hj := j.isLt
  rw [val_main_v13_1_apply, val_main_v12_apply, val_main_v11_apply, val_main_v9_apply, val_main_v10_apply, val_main_v7_apply,
    val_main_v8_apply, val_main_v6_apply, val_main_v6_apply]
  show IntOp.cmpi .sge (BitVec.ofNat 32 (i : ℕ)) (BitVec.ofNat 32 (j : ℕ)) = _
  rw [WordCmp.cmpi_sge_ofNat (by omega) (by omega)]

theorem r13 : val_main_v13_0 (F := Ideal) x0 x1 (ix4 b h i j) = if causal i j then (sc q k b h i j : EReal) else ⊥ := by
  rw [val_main_v13_0_apply, mask, r5 H]
  by_cases c : causal i j
  · rw [if_pos c, decide_eq_true c]; rfl
  · rw [if_neg c, decide_eq_false c]
    show val_main_call0_v2 (F := Ideal) (ix4 b h i j) = _
    rw [val_main_call0_v2_apply, val_main_call0_v0_apply, val_main_cst_0_apply]
    exact bot_eq

theorem r14 : val_main_v14 (F := Ideal) x0 x1 (ix3 b h i) = (mx x0 x1 b h i : EReal) := by
  have e : val_main_v14 (F := Ideal) x0 x1 (ix3 b h i)
      = Finset.univ.fold max ⊥ fun t : Fin 2048 => val_main_v13_0 (F := Ideal) x0 x1 (ix4 b h i t) := by
    rw [← bot_eq]
    unfold val_main_v14
    generalize val_main_v13_0 (F := Ideal) x0 x1 = y
    simp only [pointwise]
    rfl
  obtain ⟨x, hx⟩ := fold_max_real Finset.univ (fun t : Fin 2048 => val_main_v13_0 (F := Ideal) x0 x1 (ix4 b h i t))
    (fun t _ => by
      show val_main_v13_0 (F := Ideal) x0 x1 (ix4 b h i t) ≠ ⊤
      rw [r13 H]; split_ifs
      · exact EReal.coe_ne_top _
      · exact bot_ne_top) i (Finset.mem_univ _) (by
      show val_main_v13_0 (F := Ideal) x0 x1 (ix4 b h i i) ≠ ⊥
      rw [r13 H, if_pos (le_refl _)]; exact EReal.coe_ne_bot _)
  unfold mx
  rw [e, hx, EReal.toReal_coe]

omit H in
theorem r21 : val_main_v21 (F := Ideal) x0 x1 = val_main_v14 (F := Ideal) x0 x1 := by
  funext a
  rw [val_main_v21_apply, val_main_v20_apply, val_main_cst_3_apply]
  show max (Ideal.ofBits .f32 0xFF800000#32) _ = _
  rw [bot_eq, bot_sup_eq]

/-- The row's exponentials, shifted by its largest score. -/
def ex (x0 x1 : A2048) (q k : ℕ → ℕ → ℝ) (b : Fin 4) (h : Fin 8) (i j : Fin 2048) : ℝ :=
  if causal i j then Real.exp (sc q k b h i j - mx x0 x1 b h i) else 0
/-- Their sum. -/
def sm (x0 x1 : A2048) (q k : ℕ → ℕ → ℝ) (b : Fin 4) (h : Fin 8) (i : Fin 2048) : ℝ := ∑ j, ex x0 x1 q k b h i j

omit H in
theorem sm_pos : 0 < sm x0 x1 q k b h i := den_shift_pos causal (sc q k b h) _ ⟨i, le_refl _⟩

theorem r34 : val_main_v34 (F := Ideal) x0 x1 (ix4 b h i j) = (ex x0 x1 q k b h i j : EReal) := by
  rw [val_main_v34_apply, val_main_v33_apply, val_main_v32_apply, val_main_v31_apply,
    idx3 (idx_main_v31 (idx_main_v32 (ix4 b h i j))) b h i rfl rfl rfl, r21, r14 H, r13 H]
  show Ideal.exp (_ - _) = _
  unfold ex
  split_ifs
  · rw [← EReal.coe_sub, Ideal.exp_coe]
  · rw [EReal.bot_sub, Ideal.exp_bot, EReal.coe_zero]

theorem r36 : val_main_v36 (F := Ideal) x0 x1 (ix4 b h i 0) = (sm x0 x1 q k b h i : EReal) := by
  rw [val_main_v36_apply, idx3 (idx_main_v36 (ix4 b h i 0)) b h i rfl rfl rfl, val_main_v35_apply, val_main_cst_9_apply]
  show Ideal.ofBits .f32 0x00000000#32 + _ = _
  rw [Ideal.ofBits_zero_f32, zero_add]
  unfold sm
  rw [← coe_sum]
  refine Finset.sum_congr rfl fun t _ => ?_
  rw [idx4 (idx_main_v35 (ix3 b h i) t) b h i t rfl rfl rfl rfl, r34 H]

theorem r38 : val_main_v38 (F := Ideal) x0 x1 (ix4 b h i j) = (pr q k b h i j : EReal) := by
  rw [val_main_v38_apply, val_main_v37_apply, idx4 (idx_main_v37 (ix4 b h i j)) b h i 0 rfl rfl rfl rfl, r36 H, r34 H]
  show Ideal.div _ _ = _
  rw [div_coe' _ _ (sm_pos b h i).ne']
  exact congrArg _ (prob_shift causal (sc q k b h) (mx x0 x1 b h i) i j)

theorem r41 : val_main_v41 (F := Ideal) x0 x1 (ix4 b h i 0) = ((1 / (sm x0 x1 q k b h i * sm x0 x1 q k b h i) : ℝ) : EReal) := by
  rw [val_main_v41_apply, val_main_v40_apply, val_main_cst_10_apply, val_main_v39_apply, r36 H]
  show Ideal.div (Ideal.ofBits .f32 0x3F800000#32) (_ * _) = _
  have hp := sm_pos (x0 := x0) (x1 := x1) (q := q) (k := k) b h i
  rw [Ideal.ofBits_one_f32, ← EReal.coe_mul, ← EReal.coe_one, div_coe' _ _ (mul_pos hp hp).ne']

theorem r47 : val_main_v47 (F := Ideal) x2 x3 (ix4 b h i j) = (dp v g b h i j : EReal) := by
  rw [val_main_v47_apply]
  unfold dp
  rw [← coe_sum_mul]
  refine Finset.sum_congr rfl fun e _ => ?_
  rw [idx4 (lidx_main_v47 (ix4 b h i j) e) b h e i rfl rfl rfl rfl, idx4 (ridx_main_v47 (ix4 b h i j) e) b j h e rfl rfl rfl rfl, r46 H, r2 H]

theorem r52 : val_main_v52 (F := Ideal) x0 x1 x2 x3 (ix4 b h i j)
    = ((dp v g b h i j * (1 / (sm x0 x1 q k b h i * sm x0 x1 q k b h i)) * ex x0 x1 q k b h i j : ℝ) : EReal) := by
  rw [val_main_v52_apply, val_main_v51_apply, val_main_v50_apply, idx4 (idx_main_v50 (ix4 b h i j)) b h i 0 rfl rfl rfl rfl,
    r41 H, r47 H, r34 H]
  show _ * _ * _ = _
  rw [← EReal.coe_mul, ← EReal.coe_mul]

theorem r55 : val_main_v55 (F := Ideal) x0 x1 x2 x3 (ix4 b h i 0)
    = ((-(∑ t, dp v g b h i t * (1 / (sm x0 x1 q k b h i * sm x0 x1 q k b h i)) * ex x0 x1 q k b h i t) : ℝ) : EReal) := by
  have hi := i.isLt
  have hh := h.isLt
  have hb := b.isLt
  rw [val_main_v55_apply, val_main_v54_apply, idx3 (idx_main_v54 (ix4 b h i 0)) b h i
    (by show ((((b : ℕ) * 8 + h) * 2048 + i) * 1 + 0) / 16384 = b; omega)
    (by show ((((b : ℕ) * 8 + h) * 2048 + i) * 1 + 0) / 2048 % 8 = h; omega)
    (by show ((((b : ℕ) * 8 + h) * 2048 + i) * 1 + 0) % 2048 = i; omega), val_main_v53_apply, val_main_cst_11_apply]
  show -(Ideal.ofBits .f32 0x00000000#32 + _) = _
  rw [Ideal.ofBits_zero_f32, zero_add, EReal.coe_neg, ← coe_sum]
  refine congrArg _ (Finset.sum_congr rfl fun t _ => ?_)
  rw [idx4 (idx_main_v53 (ix3 b h i) t) b h i t rfl rfl rfl rfl, r52 H]

theorem r61 : val_main_v61 (F := Ideal) x0 x1 x2 x3 (ix4 b h i j) = (ds q k v g b h i j : EReal) := by
  rw [val_main_v61_apply, val_main_v60_apply, val_main_v57_apply, val_main_v56_apply, val_main_v59_apply,
    idx4 (idx_main_v56 (ix4 b h i j)) b h i 0 rfl rfl rfl rfl, idx3 (idx_main_v59 (ix4 b h i j)) b h i rfl rfl rfl,
    val_main_v58_apply, val_main_cst_12_apply, Fin.sum_univ_one, idx4 (idx_main_v58 (ix3 b h i) 0) b h i 0 rfl rfl rfl rfl,
    r55 H, r36 H, r47 H, r34 H]
  show (Ideal.div _ _ + (Ideal.ofBits .f32 0x00000000#32 + _)) * _ = _
  rw [Ideal.ofBits_zero_f32, zero_add, div_coe' _ _ (sm_pos b h i).ne', ← EReal.coe_add, ← EReal.coe_mul]
  exact congrArg _ (dscore_of_quotient causal (sc q k b h) (dp v g b h) (mx x0 x1 b h i) i j ⟨i, le_refl _⟩)

theorem r64 : val_main_v64 (F := Ideal) x0 x1 x2 x3 (ix4 b h i j) = ((ds q k v g b h i j * scale : ℝ) : EReal) := by
  rw [val_main_v64_apply, val_main_v63_apply, val_main_cst_13_apply, val_main_v62_apply, mask, r61 H]
  show Scalar.select _ _ _ * Ideal.ofBits .f32 0x3D93CD3A#32 = _
  rw [scale_eq, EReal.coe_mul]
  refine congrArg (· * _) ?_
  by_cases c : causal i j
  · rw [decide_eq_true c]; rfl
  · rw [decide_eq_false c, show ds q k v g b h i j = 0 from dscore_off causal _ _ c]
    show val_main_call1_v0 (F := Ideal) (ix4 b h i j) = _
    rw [val_main_call1_v0_apply, val_main_call1_cst_apply]
    exact Ideal.ofBits_zero_f32

/-- The gradient of the queries. -/
theorem dq_ref (d : Fin 256) : val_main_v72 (F := Ideal) x0 x1 x2 x3 (ix2 (row b i) (colD h d))
    = ((∑ j : Fin 2048, ds q k v g b h i j * scale * hd 256 k b h j d : ℝ) : EReal) := by
  have hi := i.isLt
  have hh := h.isLt
  have hb := b.isLt
  have hd' := d.isLt
  rw [val_main_v72_apply, val_main_v71_apply, idx4 (idx_main_v71 (ix2 (row b i) (colD h d))) b i h d
    (by show (((b : ℕ) * 2048 + i) * 2048 + (h * 256 + d)) / 4194304 = b; omega)
    (by show (((b : ℕ) * 2048 + i) * 2048 + (h * 256 + d)) / 2048 % 2048 = i; omega)
    (by show (((b : ℕ) * 2048 + i) * 2048 + (h * 256 + d)) / 256 % 8 = h; omega)
    (by show (((b : ℕ) * 2048 + i) * 2048 + (h * 256 + d)) % 256 = d; omega),
    val_main_v68_apply, idx4 (idx_main_v68 (ix4 b i h d)) b h i d rfl rfl rfl rfl]
  show val_main_v67 (F := Ideal) x0 x1 x2 x3 (ix4 b h i d) = _
  rw [val_main_v67_apply, ← coe_sum_mul]
  refine Finset.sum_congr rfl fun t _ => ?_
  rw [idx4 (lidx_main_v67 (ix4 b h i d) t) b h i t rfl rfl rfl rfl, idx4 (ridx_main_v67 (ix4 b h i d) t) b t h d rfl rfl rfl rfl, r64 H, r1 H]

/-- The gradient of the keys. -/
theorem dk_ref (d : Fin 256) : val_main_v73 (F := Ideal) x0 x1 x2 x3 (ix2 (row b j) (colD h d))
    = ((∑ i : Fin 2048, ds q k v g b h i j * scale * hd 256 q b h i d : ℝ) : EReal) := by
  have hi := j.isLt
  have hh := h.isLt
  have hb := b.isLt
  have hd' := d.isLt
  rw [val_main_v73_apply, val_main_v70_apply, idx4 (idx_main_v70 (ix2 (row b j) (colD h d))) b j h d
    (by show (((b : ℕ) * 2048 + j) * 2048 + (h * 256 + d)) / 4194304 = b; omega)
    (by show (((b : ℕ) * 2048 + j) * 2048 + (h * 256 + d)) / 2048 % 2048 = j; omega)
    (by show (((b : ℕ) * 2048 + j) * 2048 + (h * 256 + d)) / 256 % 8 = h; omega)
    (by show (((b : ℕ) * 2048 + j) * 2048 + (h * 256 + d)) % 256 = d; omega),
    val_main_v66_apply, idx4 (idx_main_v66 (ix4 b j h d)) b h j d rfl rfl rfl rfl]
  show val_main_v65 (F := Ideal) x0 x1 x2 x3 (ix4 b h j d) = _
  rw [val_main_v65_apply, ← coe_sum_mul]
  refine Finset.sum_congr rfl fun t _ => ?_
  rw [idx4 (lidx_main_v65 (ix4 b h j d) t) b h t j rfl rfl rfl rfl, idx4 (ridx_main_v65 (ix4 b h j d) t) b t h d rfl rfl rfl rfl, r64 H, r0 H]

/-- The gradient of the values. -/
theorem dv_ref (e : Fin 128) : val_main_v74 (F := Ideal) x0 x1 x3 (ix2 (row b j) (colE h e))
    = ((∑ i : Fin 2048, hd 128 g b h i e * pr q k b h i j : ℝ) : EReal) := by
  have hi := j.isLt
  have hh := h.isLt
  have hb := b.isLt
  have hd' := e.isLt
  rw [val_main_v74_apply, val_main_v69_apply, idx4 (idx_main_v69 (ix2 (row b j) (colE h e))) b j h e
    (by show (((b : ℕ) * 2048 + j) * 1024 + (h * 128 + e)) / 2097152 = b; omega)
    (by show (((b : ℕ) * 2048 + j) * 1024 + (h * 128 + e)) / 1024 % 2048 = j; omega)
    (by show (((b : ℕ) * 2048 + j) * 1024 + (h * 128 + e)) / 128 % 8 = h; omega)
    (by show (((b : ℕ) * 2048 + j) * 1024 + (h * 128 + e)) % 128 = e; omega),
    val_main_v49_apply, idx4 (idx_main_v49 (ix4 b j h e)) b h e j rfl rfl rfl rfl]
  show val_main_v48 (F := Ideal) x0 x1 x3 (ix4 b h e j) = _
  rw [val_main_v48_apply, ← coe_sum_mul]
  refine Finset.sum_congr rfl fun t _ => ?_
  rw [idx4 (lidx_main_v48 (ix4 b h e j) t) b h e t rfl rfl rfl rfl, idx4 (ridx_main_v48 (ix4 b h e j) t) b h t j rfl rfl rfl rfl, r46 H, r38 H]

/-- The attention's output. -/
theorem o_ref (e : Fin 128) : val_main_v44 (F := Ideal) x0 x1 x2 (ix2 (row b i) (colE h e))
    = ((∑ j : Fin 2048, hd 128 v b h j e * pr q k b h i j : ℝ) : EReal) := by
  have hi := i.isLt
  have hh := h.isLt
  have hb := b.isLt
  have hd' := e.isLt
  rw [val_main_v44_apply, idx4 (idx_main_v44 (ix2 (row b i) (colE h e))) b i h e
    (by show (((b : ℕ) * 2048 + i) * 1024 + (h * 128 + e)) / 2097152 = b; omega)
    (by show (((b : ℕ) * 2048 + i) * 1024 + (h * 128 + e)) / 1024 % 2048 = i; omega)
    (by show (((b : ℕ) * 2048 + i) * 1024 + (h * 128 + e)) / 128 % 8 = h; omega)
    (by show (((b : ℕ) * 2048 + i) * 1024 + (h * 128 + e)) % 128 = e; omega),
    val_main_v43_apply, idx4 (idx_main_v43 (ix4 b i h e)) b h e i rfl rfl rfl rfl, val_main_v42_apply, ← coe_sum_mul]
  refine Finset.sum_congr rfl fun t _ => ?_
  rw [idx4 (lidx_main_v42 (ix4 b h e i) t) b t h e rfl rfl rfl rfl, idx4 (ridx_main_v42 (ix4 b h e i) t) b h i t rfl rfl rfl rfl, r2 H, r38 H]

end

end Cert.ReferenceIdeal.Values

end
-- ==== Proof.Finite.lean ====
/- What the precondition says: every entry of the four arrays is a real number. -/
module

public import proofs.«01_k».proof.Defs
public import proofs.«01_k».proof.Proof.RefValues
public import Idealize.ShloMosaic.Lib.Pointwise.Select

@[expose] public section

noncomputable section

namespace Cert.Finite

open Idealize.ShloMosaic

/-- The precondition's side conditions: a rank-zero array broadcasts to any shape. -/
theorem facts : Cert.Pre_finite.Facts where
  bcast_S_S8192x2048 := by decide
  bcast_S_S8192x1024 := by decide

theorem real_of_abs (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h1 : max x (-x) < ⊤ := by
    have := (Ideal.cmp_olt_eq_one (x := max x (-x)) (y := Ideal.ofBits .f32 0x7F800000#32)).1 h
    rwa [htop] at this
  refine (EReal.coe_toReal ?_ ?_).symm
  · rintro rfl; exact absurd h1 (by simp)
  · rintro rfl; exact absurd h1 (by simp)

/-- The real entries of an array of rows, at natural indices. -/
def real {R C : ℕ} (x : (⟨2, ![R, C]⟩ : Shape).Idx → EReal) (r l : ℕ) : ℝ :=
  if hr : r < R then if hl : l < C then (x (ix2 ⟨r, hr⟩ ⟨l, hl⟩)).toReal else 0 else 0

theorem real_fin {R C : ℕ} (x : (⟨2, ![R, C]⟩ : Shape).Idx → EReal) (h : ∀ i, x i = (((x i).toReal : ℝ) : EReal)) (r : Fin R) (l : Fin C) :
    x (ix2 r l) = (real x r l : EReal) := by
  unfold real
  rw [dif_pos r.isLt, dif_pos l.isLt]
  exact h _

/-- The arrays of the programs, real under the precondition. -/
theorem data (x0 x1 : FVec Ideal Cert.Pre_finite.S8192x2048 .f32) (x2 x3 : FVec Ideal Cert.Pre_finite.S8192x1024 .f32)
    (h0 : (@Cert.Pre_finite.fn facts Ideal _ x0 x1 x2 x3).1 = fun _ => 1#1)
    (h1 : (@Cert.Pre_finite.fn facts Ideal _ x0 x1 x2 x3).2.1 = fun _ => 1#1)
    (h2 : (@Cert.Pre_finite.fn facts Ideal _ x0 x1 x2 x3).2.2.1 = fun _ => 1#1)
    (h3 : (@Cert.Pre_finite.fn facts Ideal _ x0 x1 x2 x3).2.2.2 = fun _ => 1#1) :
    Cert.ReferenceIdeal.Values.Data x0 x1 x2 x3 (real x0) (real x1) (real x2) (real x3) where
  q := real_fin x0 fun i => real_of_abs _ (congrFun h0 i)
  k := real_fin x1 fun i => real_of_abs _ (congrFun h1 i)
  v := real_fin x2 fun i => real_of_abs _ (congrFun h2 i)
  g := real_fin x3 fun i => real_of_abs _ (congrFun h3 i)

end Cert.Finite

end
-- ==== Proof.RmsBack.lean ====
/- The backward pass of the row normalisation, in the two arrangements the programs use: equal for rows of real numbers. -/
module

public import proofs.«01_k».proof.Proof.Rms
public import proofs.«01_k».proof.Proof.Softmax

@[expose] public section

noncomputable section

namespace Rms

open Idealize.ShloMosaic Attn

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ k, IsReal (f k)) : IsReal (∑ k, f k) := by
  choose g hg using h
  exact ⟨∑ k, g k, by rw [← coe_sum]; exact Finset.sum_congr rfl fun k _ => hg k⟩

theorem eps_real : ∃ e : ℝ, 0 < e ∧ eps = (e : EReal) :=
  ⟨8796093 / 2 ^ 43, by positivity, by unfold eps; simp [Ideal.ofBits, Ideal.ieee, -EReal.coe_mul]; norm_num⟩

theorem minus_half_lit : Ideal.ofBits .f32 0xBF000000#32 = ((-1 / 2 : ℝ) : EReal) := by
  simp [Ideal.ofBits, Ideal.ieee, -EReal.coe_mul]; norm_num

/-- The gradient of a normalised row, one entry, from the gradient `h` of the row before its gain: the normalised
    row's share along itself is taken away, then the factor multiplies. -/
def grad (f h : Fin 1024 → EReal) (d : Fin 1024) : EReal :=
  scale f * (h d - f d * scale f * ((∑ k, h k * (f k * scale f)) * ((1 / 1024 : ℝ) : EReal)))

/-- The share of the gradient that comes through the factor: through the root, then through the mean square. -/
def through (f h : Fin 1024 → EReal) : EReal :=
  (∑ k, f k * h k) * (((-1 / 2 : ℝ) : EReal) * Ideal.div (scale f) (power f)) * ((1 / 1024 : ℝ) : EReal)

/-- The same gradient as the sum of its shares: through the row itself, and twice through the factor. -/
def gradSum (f h : Fin 1024 → EReal) (d : Fin 1024) : EReal :=
  h d * scale f + f d * through f h + through f h * f d

/-- Over a row of reals the factor is a real whose square is one over the mean square plus the constant. -/
theorem scale_real (x : Fin 1024 → ℝ) :
    ∃ r u : ℝ, u ≠ 0 ∧ r * r = 1 / u ∧ scale (fun k => (x k : EReal)) = (r : EReal) ∧ power (fun k => (x k : EReal)) = (u : EReal) := by
  obtain ⟨e, he, hE⟩ := eps_real
  have hs : 0 ≤ ∑ k, x k * x k := Finset.sum_nonneg fun k _ => mul_self_nonneg (x k)
  have hu : 0 < (∑ k, x k * x k) * (1 / 1024) + e := by positivity
  have hp : power (fun k => (x k : EReal)) = (((∑ k, x k * x k) * (1 / 1024) + e : ℝ) : EReal) := by
    unfold power
    rw [coe_sum_mul, hE, ← EReal.coe_mul, ← EReal.coe_add]
  refine ⟨(Real.sqrt ((∑ k, x k * x k) * (1 / 1024) + e))⁻¹, _, hu.ne', ?_, ?_, hp⟩
  · rw [← mul_inv, Real.mul_self_sqrt hu.le]; exact (one_div _).symm
  · unfold scale
    rw [hp, Ideal.rsqrt_coe, if_neg (not_lt.2 hu.le), if_neg hu.ne']

/-- The two arrangements are equal for rows of reals. -/
theorem grad_eq (f h : Fin 1024 → EReal) (hf : ∀ k, IsReal (f k)) (hh : ∀ k, IsReal (h k)) (d : Fin 1024) : grad f h d = gradSum f h d := by
  choose x hx using hf
  choose y hy using hh
  obtain rfl : f = fun k => (x k : EReal) := funext hx
  obtain rfl : h = fun k => (y k : EReal) := funext hy
  obtain ⟨r, u, hu, hr, hs, hp⟩ := scale_real x
  unfold grad gradSum through
  rw [hs, hp, Ideal.div_coe hu, coe_sum_mul]
  simp only [← EReal.coe_mul, coe_sum, ← EReal.coe_sub, ← EReal.coe_add]
  refine congrArg _ ?_
  have e : ∑ k, y k * (x k * r) = (∑ k, x k * y k) * r := by
    rw [Finset.sum_mul]; exact Finset.sum_congr rfl fun k _ => by ring
  rw [e]
  have : r * (y d - x d * r * ((∑ k, x k * y k) * r * (1 / 1024))) = r * y d - r * r * (x d * (∑ k, x k * y k) * r * (1 / 1024)) := by ring
  rw [this, hr]
  ring

end Rms

end
-- ==== Proof.MemRef.lean ====
/- The memory attention's forward pass over the reals, as its reference computes it: every query attends to the 256 memory rows of its
   batch. For real arrays each operation that bears on the results is computed at an index. -/
module

public import proofs.«01_k».proof.Proof.RefValues
public import proofs.«01_k».proof.Proof.Gen.Reference43Ideal.Read

@[expose] public section

set_option maxRecDepth 16384

noncomputable section

namespace Cert.Reference43Ideal.Values

open Idealize.ShloMosaic Idealize.ShloMosaic.TcCoe Idealize.SL.Sem Cert.Reference43Ideal Cert.Reference43Ideal.Gen Cert.Reference43Ideal.Read Attn
open Cert.ReferenceIdeal.Values (bot_eq two_eq idx2 idx3 idx4)

abbrev AQ := (⟨S8192x512, .f32⟩ : BufTy).Contents (Elt Ideal)
abbrev AK := (⟨S1024x512, .f32⟩ : BufTy).Contents (Elt Ideal)
abbrev AV := (⟨S1024x1024, .f32⟩ : BufTy).Contents (Elt Ideal)

/-- The literal scale of the scores. -/
abbrev scale : ℝ := 11863283 / 134217728

theorem scale_eq : Ideal.ofBits .f32 0x3DB504F3#32 = (scale : EReal) := by
  simp [Ideal.ofBits, Ideal.ieee, -EReal.coe_mul]
  norm_num

/-- Head `h` of batch `b` of the queries. -/
def hq (x : ℕ → ℕ → ℝ) (b h i d : ℕ) : ℝ := x (b * 2048 + i) (h * 128 + d)
/-- Head `h` of batch `b` of the memory. -/
def hk (x : ℕ → ℕ → ℝ) (b h j d : ℕ) : ℝ := x (b * 256 + j) (h * 128 + d)

/-- Row `b, i` of the queries. -/
def rowQ (b : Fin 4) (i : Fin 2048) : Fin 8192 := ⟨b * 2048 + i, by omega⟩
/-- Row `b, j` of the memory. -/
def rowK (b : Fin 4) (j : Fin 256) : Fin 1024 := ⟨b * 256 + j, by omega⟩
/-- Column `h, d`. -/
def col (h : Fin 4) (d : Fin 128) : Fin 512 := ⟨h * 128 + d, by omega⟩
/-- A column of the values inside the array that holds them in its right half. -/
def right (l : Fin 512) : Fin 1024 := ⟨512 + l, by omega⟩

/-- Head `h` of batch `b` of the values. -/
def vals (y : AV) (b h : Fin 4) (j e : ℕ) : EReal :=
  if c : j < 256 ∧ e < 128 then y (ix2 (rowK b ⟨j, c.1⟩) (right (col h ⟨e, c.2⟩))) else 0

theorem vals_fin (y : AV) (b h : Fin 4) (j : Fin 256) (e : Fin 128) : vals y b h j e = y (ix2 (rowK b j) (right (col h e))) :=
  dif_pos ⟨j.isLt, e.isLt⟩

/-- The arrays are real, the values being the right half of the third. -/
structure Data (x0 : AQ) (x1 : AK) (x2 : AV) (q k v : ℕ → ℕ → ℝ) : Prop where
  q : ∀ (r : Fin 8192) (l : Fin 512), x0 (ix2 r l) = (q r l : EReal)
  k : ∀ (r : Fin 1024) (l : Fin 512), x1 (ix2 r l) = (k r l : EReal)
  v : ∀ (r : Fin 1024) (l : Fin 512), x2 (ix2 r (right l)) = (v r l : EReal)

/-- The scores of one head. -/
def sc (q k : ℕ → ℕ → ℝ) (b h : ℕ) (i : Fin 2048) (j : Fin 256) : ℝ := (∑ d : Fin 128, hq q b h i d * hk k b h j d) * scale
/-- Every query attends to every memory row. -/
abbrev every (_ : Fin 2048) (_ : Fin 256) : Prop := True
/-- The probabilities of one head. -/
abbrev pr (q k : ℕ → ℕ → ℝ) (b h : ℕ) (i : Fin 2048) (j : Fin 256) : ℝ := prob every (sc q k b h) i j

/-- The row's largest score, as the reference computes it. -/
def mx (x0 : AQ) (x1 : AK) (b h : Fin 4) (i : Fin 2048) : ℝ := (val_main_v7 (F := Ideal) x0 x1 (ix3 b h i)).toReal
/-- The row's exponentials, shifted by its largest score. -/
def ex (x0 : AQ) (x1 : AK) (q k : ℕ → ℕ → ℝ) (b h : Fin 4) (i : Fin 2048) (j : Fin 256) : ℝ :=
  if every i j then Real.exp (sc q k b h i j - mx x0 x1 b h i) else 0
/-- Their sum. -/
def sm (x0 : AQ) (x1 : AK) (q k : ℕ → ℕ → ℝ) (b h : Fin 4) (i : Fin 2048) : ℝ := ∑ j, ex x0 x1 q k b h i j

theorem sm_pos (x0 : AQ) (x1 : AK) (q k : ℕ → ℕ → ℝ) (b h : Fin 4) (i : Fin 2048) : 0 < sm x0 x1 q k b h i :=
  den_shift_pos every (sc q k b h) _ ⟨0, trivial⟩

/-- The logarithm of a row's sum, its largest score put back. -/
theorem log_den (x0 : AQ) (x1 : AK) (q k : ℕ → ℕ → ℝ) (b h : Fin 4) (i : Fin 2048) :
    mx x0 x1 b h i + Real.log (sm x0 x1 q k b h i) = Real.log (den every (sc q k b h) i) := by
  have e : sm x0 x1 q k b h i = den every (sc q k b h) i * Real.exp (-mx x0 x1 b h i) := den_shift every (sc q k b h) _ i
  rw [e, Real.log_mul (den_pos every _ ⟨0, trivial⟩).ne' (Real.exp_pos _).ne', Real.log_exp]
  ring

section
variable {x0 : AQ} {x1 : AK} {x2 : AV} {q k v : ℕ → ℕ → ℝ} (H : Data x0 x1 x2 q k v) (b h : Fin 4) (i : Fin 2048) (j : Fin 256)
include H

theorem r0 (d : Fin 128) : val_main_v0 (F := Ideal) x0 (ix4 b i h d) = (hq q b h i d : EReal) := by
  rw [val_main_v0_apply, idx2 (idx_main_v0 (ix4 b i h d)) (rowQ b i) (col h d)
    (by show ((((b : ℕ) * 2048 + i) * 4 + h) * 128 + d) / 512 = b * 2048 + i; omega)
    (by show ((((b : ℕ) * 2048 + i) * 4 + h) * 128 + d) % 512 = h * 128 + d; omega), H.q]
  rfl

theorem r1 (d : Fin 128) : val_main_v1 (F := Ideal) x1 (ix4 b j h d) = (hk k b h j d : EReal) := by
  rw [val_main_v1_apply, idx2 (idx_main_v1 (ix4 b j h d)) (rowK b j) (col h d)
    (by show ((((b : ℕ) * 256 + j) * 4 + h) * 128 + d) / 512 = b * 256 + j; omega)
    (by show ((((b : ℕ) * 256 + j) * 4 + h) * 128 + d) % 512 = h * 128 + d; omega), H.k]
  rfl

omit H in
theorem r3_any (y : AV) (d : Fin 128) : val_main_v3 (F := Ideal) y (ix4 b j h d) = y (ix2 (rowK b j) (right (col h d))) := by
  rw [val_main_v3_apply, idx2 (idx_main_v3 (ix4 b j h d)) (rowK b j) (col h d)
    (by show ((((b : ℕ) * 256 + j) * 4 + h) * 128 + d) / 512 = b * 256 + j; omega)
    (by show ((((b : ℕ) * 256 + j) * 4 + h) * 128 + d) % 512 = h * 128 + d; omega), val_main_v2_apply,
    idx2 (idx_main_v2 (ix2 (rowK b j) (col h d))) (rowK b j) (right (col h d)) rfl rfl]

theorem r3 (d : Fin 128) : val_main_v3 (F := Ideal) x2 (ix4 b j h d) = (hk v b h j d : EReal) :=
  (r3_any b h j x2 d).trans (H.v _ _)

theorem r6 : val_main_v6 (F := Ideal) x0 x1 (ix4 b h i j) = (sc q k b h i j : EReal) := by
  rw [val_main_v6_apply, val_main_v5_apply, val_main_cst_apply, val_main_v4_apply]
  show (∑ d : Fin 128, _) * Ideal.ofBits .f32 0x3DB504F3#32 = _
  rw [scale_eq]
  unfold sc
  rw [EReal.coe_mul, ← coe_sum_mul]
  refine congrArg (· * _) (Finset.sum_congr rfl fun d _ => ?_)
  rw [idx4 (lidx_main_v4 (ix4 b h i j) d) b i h d rfl rfl rfl rfl, idx4 (ridx_main_v4 (ix4 b h i j) d) b j h d rfl rfl rfl rfl, r0 H, r1 H]

theorem r7 : val_main_v7 (F := Ideal) x0 x1 (ix3 b h i) = (mx x0 x1 b h i : EReal) := by
  have e : val_main_v7 (F := Ideal) x0 x1 (ix3 b h i)
      = Finset.univ.fold max ⊥ fun t : Fin 256 => val_main_v6 (F := Ideal) x0 x1 (ix4 b h i t) := by
    rw [← bot_eq]
    unfold val_main_v7
    generalize val_main_v6 (F := Ideal) x0 x1 = y
    simp only [pointwise]
    rfl
  obtain ⟨x, hx⟩ := fold_max_real Finset.univ (fun t : Fin 256 => val_main_v6 (F := Ideal) x0 x1 (ix4 b h i t))
    (fun t _ => by
      show val_main_v6 (F := Ideal) x0 x1 (ix4 b h i t) ≠ ⊤
      rw [r6 H]; exact EReal.coe_ne_top _) 0 (Finset.mem_univ _) (by
      show val_main_v6 (F := Ideal) x0 x1 (ix4 b h i 0) ≠ ⊥
      rw [r6 H]; exact EReal.coe_ne_bot _)
  unfold mx
  rw [e, hx, EReal.toReal_coe]

theorem r11 : val_main_v11 (F := Ideal) x0 x1 (ix4 b h i j) = (ex x0 x1 q k b h i j : EReal) := by
  rw [val_main_v11_apply, val_main_v10_apply, val_main_v9_apply, val_main_v8_apply,
    idx3 (idx_main_v8 (idx_main_v9 (ix4 b h i j))) b h i rfl rfl rfl, r7 H, r6 H]
  show Ideal.exp ((sc q k b h i j : EReal) - (mx x0 x1 b h i : EReal)) = _
  unfold ex
  rw [if_pos trivial, ← EReal.coe_sub, Ideal.exp_coe]

theorem r13 : val_main_v13 (F := Ideal) x0 x1 (ix4 b h i 0) = (sm x0 x1 q k b h i : EReal) := by
  rw [val_main_v13_apply, idx3 (idx_main_v13 (ix4 b h i 0)) b h i rfl rfl rfl, val_main_v12_apply, val_main_cst_1_apply]
  show Ideal.ofBits .f32 0x00000000#32 + _ = _
  rw [Ideal.ofBits_zero_f32, zero_add]
  unfold sm
  rw [← coe_sum]
  refine Finset.sum_congr rfl fun t _ => ?_
  rw [idx4 (idx_main_v12 (ix3 b h i) t) b h i t rfl rfl rfl rfl, r11 H]

theorem r15 : val_main_v15 (F := Ideal) x0 x1 (ix4 b h i j) = (pr q k b h i j : EReal) := by
  rw [val_main_v15_apply, val_main_v14_apply, idx4 (idx_main_v14 (ix4 b h i j)) b h i 0 rfl rfl rfl rfl, r13 H, r11 H]
  show Ideal.div _ _ = _
  rw [div_coe' _ _ (sm_pos x0 x1 q k b h i).ne']
  exact congrArg _ (prob_shift every (sc q k b h) (mx x0 x1 b h i) i j)

/-- The attention's output for any values. -/
theorem o_any (y : AV) (e : Fin 128) : val_main_v19 (F := Ideal) x0 x1 y (ix2 (rowQ b i) (col h e))
    = ∑ j : Fin 256, vals y b h j e * (pr q k b h i j : EReal) := by
  have hi := i.isLt
  have hh := h.isLt
  have hb := b.isLt
  have hd' := e.isLt
  rw [val_main_v19_apply, val_main_v18_apply, idx4 (idx_main_v18 (ix2 (rowQ b i) (col h e))) b i h e
    (by show (((b : ℕ) * 2048 + i) * 512 + (h * 128 + e)) / 1048576 = b; omega)
    (by show (((b : ℕ) * 2048 + i) * 512 + (h * 128 + e)) / 512 % 2048 = i; omega)
    (by show (((b : ℕ) * 2048 + i) * 512 + (h * 128 + e)) / 128 % 4 = h; omega)
    (by show (((b : ℕ) * 2048 + i) * 512 + (h * 128 + e)) % 128 = e; omega),
    val_main_v17_apply, idx4 (idx_main_v17 (ix4 b i h e)) b h e i rfl rfl rfl rfl]
  show val_main_v16 (F := Ideal) x0 x1 y (ix4 b h e i) = _
  rw [val_main_v16_apply]
  refine Finset.sum_congr rfl fun t _ => ?_
  rw [idx4 (lidx_main_v16 (ix4 b h e i) t) b t h e rfl rfl rfl rfl, idx4 (ridx_main_v16 (ix4 b h e i) t) b h i t rfl rfl rfl rfl, r3_any, vals_fin, r15 H]

/-- The attention's output. -/
theorem o_ref (e : Fin 128) : val_main_v19 (F := Ideal) x0 x1 x2 (ix2 (rowQ b i) (col h e))
    = ((∑ j : Fin 256, hk v b h j e * pr q k b h i j : ℝ) : EReal) := by
  rw [o_any H, ← coe_sum_mul]
  exact Finset.sum_congr rfl fun j _ => congrArg (· * _) ((vals_fin _ _ _ _ _).trans (H.v _ _))

/-- The rows' logarithms. -/
theorem l_ref : val_main_v27 (F := Ideal) x0 x1 (ix3 h (rowQ b i) 0)
    = (((mx x0 x1 b h i + Real.log (sm x0 x1 q k b h i)) / Real.log 2 : ℝ) : EReal) := by
  have hi := i.isLt
  have hh := h.isLt
  have hb := b.isLt
  rw [val_main_v27_apply, idx4 (idx_main_v27 (ix3 h (rowQ b i) 0)) h b i 0
    (by show (((h : ℕ) * 8192 + (b * 2048 + i)) * 1 + 0) / 8192 = h; omega)
    (by show (((h : ℕ) * 8192 + (b * 2048 + i)) * 1 + 0) / 2048 % 4 = b; omega)
    (by show (((h : ℕ) * 8192 + (b * 2048 + i)) * 1 + 0) / 1 % 2048 = i; omega)
    rfl,
    val_main_v26_apply, idx4 (idx_main_v26 (ix4 h b i 0)) b h i 0 rfl rfl rfl rfl, val_main_v25_apply, val_main_v24_apply,
    val_main_v23_apply, val_main_v22_apply, val_main_cst_2_apply, val_main_v21_apply, val_main_v20_apply, val_main_v8_apply,
    idx3 (idx_main_v8 (ix4 b h i 0)) b h i rfl rfl rfl, r7 H, r13 H]
  show Ideal.div ((mx x0 x1 b h i : EReal) + Ideal.log (sm x0 x1 q k b h i : EReal)) (Ideal.log (Ideal.ofBits .f32 0x40000000#32)) = _
  rw [Ideal.log_coe, if_neg (not_le.2 (sm_pos x0 x1 q k b h i)), two_eq, Ideal.log_coe, if_neg (by norm_num), ← EReal.coe_add,
    div_coe' _ _ (Real.log_pos one_lt_two).ne']

end

/-! ### The queries as the kernels take them -/

/-- The queries scaled, their exponentials being to base two. -/
def scaledQ (x : AQ) : FVec Ideal S8192x512 .bf16 := fun i =>
  Ideal.div (x i * Ideal.ofBits .f32 0x3DB504F3#32) (Ideal.log (Ideal.ofBits .f32 0x40000000#32))

/-- A head's scaled queries. -/
def qn (q : ℕ → ℕ → ℝ) (b h i d : ℕ) : ℝ := hq q b h i d * scale / Real.log 2

theorem scaledQ_apply {x0 : AQ} {x1 : AK} {x2 : AV} {q k v : ℕ → ℕ → ℝ} (H : Data x0 x1 x2 q k v) (r : Fin 8192) (l : Fin 512) :
    scaledQ x0 (ix2 r l) = ((q r l * scale / Real.log 2 : ℝ) : EReal) := by
  show Ideal.div (x0 (ix2 r l) * Ideal.ofBits .f32 0x3DB504F3#32) (Ideal.log (Ideal.ofBits .f32 0x40000000#32)) = _
  rw [H.q, scale_eq, two_eq, Ideal.log_coe, if_neg (by norm_num), ← EReal.coe_mul, div_coe' _ _ (Real.log_pos one_lt_two).ne']

theorem qk_sum (q k : ℕ → ℕ → ℝ) (b h : ℕ) (i : Fin 2048) (j : Fin 256) :
    (∑ d : Fin 128, qn q b h i d * hk k b h j d) = sc q k b h i j / Real.log 2 := by
  unfold sc qn
  rw [Finset.sum_mul, Finset.sum_div]
  refine Finset.sum_congr rfl fun d _ => ?_
  ring

end Cert.Reference43Ideal.Values

end
-- ==== Proof.MemRefBack.lean ====
/- The memory attention's backward pass over the reals, as its reference computes it: the gradients of a softmax attention of every query
   to the 256 memory rows of its batch. -/
module

public import proofs.«01_k».proof.Proof.MemRef
public import proofs.«01_k».proof.Proof.Gen.Reference42Ideal.Read

@[expose] public section

set_option maxRecDepth 16384

noncomputable section

namespace Cert.Reference42Ideal.Values

open Idealize.ShloMosaic Idealize.ShloMosaic.TcCoe Idealize.SL.Sem Cert.Reference42Ideal Cert.Reference42Ideal.Gen Cert.Reference42Ideal.Read Attn
open Cert.ReferenceIdeal.Values (bot_eq idx2 idx3 idx4)
open Cert.Reference43Ideal.Values (AQ AK AV Data hq hk rowQ rowK col scale scale_eq sc every pr mx ex sm sm_pos r7)

/-- The arguments and the gradient of the output are real. -/
structure DataG (x0 : AQ) (x1 : AK) (x2 : AV) (x3 : AQ) (q k v g : ℕ → ℕ → ℝ) : Prop where
  d : Data x0 x1 x2 q k v
  g : ∀ (r : Fin 8192) (l : Fin 512), x3 (ix2 r l) = (g r l : EReal)

/-- The gradient reaching the probabilities. -/
def dp (v g : ℕ → ℕ → ℝ) (b h : ℕ) (i : Fin 2048) (j : Fin 256) : ℝ := ∑ e : Fin 128, hq g b h i e * hk v b h j e
/-- The gradient of the scores of one head. -/
abbrev ds (q k v g : ℕ → ℕ → ℝ) (b h : ℕ) (i : Fin 2048) (j : Fin 256) : ℝ := dscore every (sc q k b h) (dp v g b h) i j

/-! ### The operations the forward reference has too -/

theorem v1_eq (x0 : AQ) : val_main_v1 (F := Ideal) x0 = Cert.Reference43Ideal.Read.val_main_v0 (F := Ideal) x0 := rfl
theorem v2_eq (x1 : AK) : val_main_v2 (F := Ideal) x1 = Cert.Reference43Ideal.Read.val_main_v1 (F := Ideal) x1 := rfl
theorem v3_eq (x2 : AV) : val_main_v3 (F := Ideal) x2 = Cert.Reference43Ideal.Read.val_main_v3 (F := Ideal) x2 := rfl
theorem v6_eq (x0 : AQ) (x1 : AK) : val_main_v6 (F := Ideal) x0 x1 = Cert.Reference43Ideal.Read.val_main_v6 (F := Ideal) x0 x1 := rfl
theorem v7_eq (x0 : AQ) (x1 : AK) : val_main_v7 (F := Ideal) x0 x1 = Cert.Reference43Ideal.Read.val_main_v7 (F := Ideal) x0 x1 := rfl

theorem v14_eq (x0 : AQ) (x1 : AK) : val_main_v14 (F := Ideal) x0 x1 = Cert.Reference43Ideal.Read.val_main_v7 (F := Ideal) x0 x1 := by
  rw [← v7_eq]
  funext a
  rw [val_main_v14_apply, val_main_v13_apply, val_main_cst_2_apply]
  show max (Ideal.ofBits .f32 0xFF800000#32) _ = _
  rw [bot_eq, bot_sup_eq]

section
variable {x0 : AQ} {x1 : AK} {x2 : AV} {x3 : AQ} {q k v g : ℕ → ℕ → ℝ} (H : DataG x0 x1 x2 x3 q k v g)
  (b h : Fin 4) (i : Fin 2048) (j : Fin 256)
include H

theorem r1 (d : Fin 128) : val_main_v1 (F := Ideal) x0 (ix4 b i h d) = (hq q b h i d : EReal) := by
  rw [v1_eq]; exact Cert.Reference43Ideal.Values.r0 H.d b h i d

theorem r2 (d : Fin 128) : val_main_v2 (F := Ideal) x1 (ix4 b j h d) = (hk k b h j d : EReal) := by
  rw [v2_eq]; exact Cert.Reference43Ideal.Values.r1 H.d b h j d

theorem r3 (d : Fin 128) : val_main_v3 (F := Ideal) x2 (ix4 b j h d) = (hk v b h j d : EReal) := by
  rw [v3_eq]; exact Cert.Reference43Ideal.Values.r3 H.d b h j d

theorem r6 : val_main_v6 (F := Ideal) x0 x1 (ix4 b h i j) = (sc q k b h i j : EReal) := by
  rw [v6_eq]; exact Cert.Reference43Ideal.Values.r6 H.d b h i j

theorem r38 (d : Fin 128) : val_main_v38 (F := Ideal) x3 (ix4 b i h d) = (hq g b h i d : EReal) := by
  rw [val_main_v38_apply, idx2 (idx_main_v38 (ix4 b i h d)) (rowQ b i) (col h d)
    (by show ((((b : ℕ) * 2048 + i) * 4 + h) * 128 + d) / 512 = b * 2048 + i; omega)
    (by show ((((b : ℕ) * 2048 + i) * 4 + h) * 128 + d) % 512 = h * 128 + d; omega), H.g]
  rfl

theorem r39 (e : Fin 128) : val_main_v39 (F := Ideal) x3 (ix4 b h e i) = (hq g b h i e : EReal) := by
  rw [val_main_v39_apply, idx4 (idx_main_v39 (ix4 b h e i)) b i h e rfl rfl rfl rfl, r38 H]

theorem r27 : val_main_v27 (F := Ideal) x0 x1 (ix4 b h i j) = (ex x0 x1 q k b h i j : EReal) := by
  rw [val_main_v27_apply, val_main_v26_apply, val_main_v25_apply, val_main_v24_apply,
    idx3 (idx_main_v24 (idx_main_v25 (ix4 b h i j))) b h i rfl rfl rfl, v14_eq, r7 H.d, r6 H]
  show Ideal.exp ((sc q k b h i j : EReal) - (mx x0 x1 b h i : EReal)) = _
  unfold ex
  rw [if_pos trivial, ← EReal.coe_sub, Ideal.exp_coe]

theorem r29 : val_main_v29 (F := Ideal) x0 x1 (ix4 b h i 0) = (sm x0 x1 q k b h i : EReal) := by
  rw [val_main_v29_apply, idx3 (idx_main_v29 (ix4 b h i 0)) b h i rfl rfl rfl, val_main_v28_apply, val_main_cst_8_apply]
  show Ideal.ofBits .f32 0x00000000#32 + _ = _
  rw [Ideal.ofBits_zero_f32, zero_add]
  unfold sm
  rw [← coe_sum]
  refine Finset.sum_congr rfl fun t _ => ?_
  rw [idx4 (idx_main_v28 (ix3 b h i) t) b h i t rfl rfl rfl rfl, r27 H]

theorem r31 : val_main_v31 (F := Ideal) x0 x1 (ix4 b h i j) = (pr q k b h i j : EReal) := by
  rw [val_main_v31_apply, val_main_v30_apply, idx4 (idx_main_v30 (ix4 b h i j)) b h i 0 rfl rfl rfl rfl, r29 H, r27 H]
  show Ideal.div _ _ = _
  rw [div_coe' _ _ (sm_pos x0 x1 q k b h i).ne']
  exact congrArg _ (prob_shift every (sc q k b h) (mx x0 x1 b h i) i j)

theorem r34 : val_main_v34 (F := Ideal) x0 x1 (ix4 b h i 0) = ((1 / (sm x0 x1 q k b h i * sm x0 x1 q k b h i) : ℝ) : EReal) := by
  rw [val_main_v34_apply, val_main_v33_apply, val_main_cst_9_apply, val_main_v32_apply, r29 H]
  show Ideal.div (Ideal.ofBits .f32 0x3F800000#32) (_ * _) = _
  have hp := sm_pos x0 x1 q k b h i
  rw [Ideal.ofBits_one_f32, ← EReal.coe_mul, ← EReal.coe_one, div_coe' _ _ (mul_pos hp hp).ne']

theorem r40 : val_main_v40 (F := Ideal) x2 x3 (ix4 b h i j) = (dp v g b h i j : EReal) := by
  rw [val_main_v40_apply]
  unfold dp
  rw [← coe_sum_mul]
  refine Finset.sum_congr rfl fun e _ => ?_
  rw [idx4 (lidx_main_v40 (ix4 b h i j) e) b h e i rfl rfl rfl rfl, idx4 (ridx_main_v40 (ix4 b h i j) e) b j h e rfl rfl rfl rfl, r39 H, r3 H]

theorem r45 : val_main_v45 (F := Ideal) x0 x1 x2 x3 (ix4 b h i j)
    = ((dp v g b h i j * (1 / (sm x0 x1 q k b h i * sm x0 x1 q k b h i)) * ex x0 x1 q k b h i j : ℝ) : EReal) := by
  rw [val_main_v45_apply, val_main_v44_apply, val_main_v43_apply, idx4 (idx_main_v43 (ix4 b h i j)) b h i 0 rfl rfl rfl rfl,
    r34 H, r40 H, r27 H]
  show _ * _ * _ = _
  rw [← EReal.coe_mul, ← EReal.coe_mul]

theorem r48 : val_main_v48 (F := Ideal) x0 x1 x2 x3 (ix4 b h i 0)
    = ((-(∑ t, dp v g b h i t * (1 / (sm x0 x1 q k b h i * sm x0 x1 q k b h i)) * ex x0 x1 q k b h i t) : ℝ) : EReal) := by
  have hi := i.isLt
  have hh := h.isLt
  have hb := b.isLt
  rw [val_main_v48_apply, val_main_v47_apply, idx3 (idx_main_v47 (ix4 b h i 0)) b h i
    (by show ((((b : ℕ) * 4 + h) * 2048 + i) * 1 + 0) / 8192 = b; omega)
    (by show ((((b : ℕ) * 4 + h) * 2048 + i) * 1 + 0) / 2048 % 4 = h; omega)
    (by show ((((b : ℕ) * 4 + h) * 2048 + i) * 1 + 0) % 2048 = i; omega), val_main_v46_apply, val_main_cst_10_apply]
  show -(Ideal.ofBits .f32 0x00000000#32 + _) = _
  rw [Ideal.ofBits_zero_f32, zero_add, EReal.coe_neg, ← coe_sum]
  refine congrArg _ (Finset.sum_congr rfl fun t _ => ?_)
  rw [idx4 (idx_main_v46 (ix3 b h i) t) b h i t rfl rfl rfl rfl, r45 H]

theorem r54 : val_main_v54 (F := Ideal) x0 x1 x2 x3 (ix4 b h i j) = (ds q k v g b h i j : EReal) := by
  rw [val_main_v54_apply, val_main_v53_apply, val_main_v50_apply, val_main_v49_apply, val_main_v52_apply,
    idx4 (idx_main_v49 (ix4 b h i j)) b h i 0 rfl rfl rfl rfl, idx3 (idx_main_v52 (ix4 b h i j)) b h i rfl rfl rfl,
    val_main_v51_apply, val_main_cst_11_apply, Fin.sum_univ_one, idx4 (idx_main_v51 (ix3 b h i) 0) b h i 0 rfl rfl rfl rfl,
    r48 H, r29 H, r40 H, r27 H]
  show (Ideal.div _ _ + (Ideal.ofBits .f32 0x00000000#32 + _)) * _ = _
  rw [Ideal.ofBits_zero_f32, zero_add, div_coe' _ _ (sm_pos x0 x1 q k b h i).ne', ← EReal.coe_add, ← EReal.coe_mul]
  exact congrArg _ (dscore_of_quotient every (sc q k b h) (dp v g b h) (mx x0 x1 b h i) i j ⟨0, trivial⟩)

theorem r56 : val_main_v56 (F := Ideal) x0 x1 x2 x3 (ix4 b h i j) = ((ds q k v g b h i j * scale : ℝ) : EReal) := by
  rw [val_main_v56_apply, val_main_v55_apply, val_main_cst_12_apply, r54 H]
  show _ * Ideal.ofBits .f32 0x3DB504F3#32 = _
  rw [scale_eq, EReal.coe_mul]

/-- The gradient of the queries. -/
theorem dq_ref (d : Fin 128) : val_main_v64 (F := Ideal) x0 x1 x2 x3 (ix2 (rowQ b i) (col h d))
    = ((∑ j : Fin 256, ds q k v g b h i j * scale * hk k b h j d : ℝ) : EReal) := by
  have hi := i.isLt
  have hh := h.isLt
  have hb := b.isLt
  have hd' := d.isLt
  rw [val_main_v64_apply, val_main_v63_apply, idx4 (idx_main_v63 (ix2 (rowQ b i) (col h d))) b i h d
    (by show (((b : ℕ) * 2048 + i) * 512 + (h * 128 + d)) / 1048576 = b; omega)
    (by show (((b : ℕ) * 2048 + i) * 512 + (h * 128 + d)) / 512 % 2048 = i; omega)
    (by show (((b : ℕ) * 2048 + i) * 512 + (h * 128 + d)) / 128 % 4 = h; omega)
    (by show (((b : ℕ) * 2048 + i) * 512 + (h * 128 + d)) % 128 = d; omega),
    val_main_v60_apply, idx4 (idx_main_v60 (ix4 b i h d)) b h i d rfl rfl rfl rfl]
  show val_main_v59 (F := Ideal) x0 x1 x2 x3 (ix4 b h i d) = _
  rw [val_main_v59_apply, ← coe_sum_mul]
  refine Finset.sum_congr rfl fun t _ => ?_
  rw [idx4 (lidx_main_v59 (ix4 b h i d) t) b h i t rfl rfl rfl rfl, idx4 (ridx_main_v59 (ix4 b h i d) t) b t h d rfl rfl rfl rfl, r56 H, r2 H]

/-- The gradient of the keys. -/
theorem dk_ref (d : Fin 128) : val_main_v65 (F := Ideal) x0 x1 x2 x3 (ix2 (rowK b j) (col h d))
    = ((∑ i : Fin 2048, ds q k v g b h i j * scale * hq q b h i d : ℝ) : EReal) := by
  have hi := j.isLt
  have hh := h.isLt
  have hb := b.isLt
  have hd' := d.isLt
  rw [val_main_v65_apply, val_main_v62_apply, idx4 (idx_main_v62 (ix2 (rowK b j) (col h d))) b j h d
    (by show (((b : ℕ) * 256 + j) * 512 + (h * 128 + d)) / 131072 = b; omega)
    (by show (((b : ℕ) * 256 + j) * 512 + (h * 128 + d)) / 512 % 256 = j; omega)
    (by show (((b : ℕ) * 256 + j) * 512 + (h * 128 + d)) / 128 % 4 = h; omega)
    (by show (((b : ℕ) * 256 + j) * 512 + (h * 128 + d)) % 128 = d; omega),
    val_main_v58_apply, idx4 (idx_main_v58 (ix4 b j h d)) b h j d rfl rfl rfl rfl]
  show val_main_v57 (F := Ideal) x0 x1 x2 x3 (ix4 b h j d) = _
  rw [val_main_v57_apply, ← coe_sum_mul]
  refine Finset.sum_congr rfl fun t _ => ?_
  rw [idx4 (lidx_main_v57 (ix4 b h j d) t) b h t j rfl rfl rfl rfl, idx4 (ridx_main_v57 (ix4 b h j d) t) b t h d rfl rfl rfl rfl, r56 H, r1 H]

/-- The gradient of the values. -/
theorem dv_ref (e : Fin 128) : val_main_v66 (F := Ideal) x0 x1 x3 (ix2 (rowK b j) (col h e))
    = ((∑ i : Fin 2048, hq g b h i e * pr q k b h i j : ℝ) : EReal) := by
  have hi := j.isLt
  have hh := h.isLt
  have hb := b.isLt
  have hd' := e.isLt
  rw [val_main_v66_apply, val_main_v61_apply, idx4 (idx_main_v61 (ix2 (rowK b j) (col h e))) b j h e
    (by show (((b : ℕ) * 256 + j) * 512 + (h * 128 + e)) / 131072 = b; omega)
    (by show (((b : ℕ) * 256 + j) * 512 + (h * 128 + e)) / 512 % 256 = j; omega)
    (by show (((b : ℕ) * 256 + j) * 512 + (h * 128 + e)) / 128 % 4 = h; omega)
    (by show (((b : ℕ) * 256 + j) * 512 + (h * 128 + e)) % 128 = e; omega),
    val_main_v42_apply, idx4 (idx_main_v42 (ix4 b j h e)) b h e j rfl rfl rfl rfl]
  show val_main_v41 (F := Ideal) x0 x1 x3 (ix4 b h e j) = _
  rw [val_main_v41_apply, ← coe_sum_mul]
  refine Finset.sum_congr rfl fun t _ => ?_
  rw [idx4 (lidx_main_v41 (ix4 b h e j) t) b h e t rfl rfl rfl rfl, idx4 (ridx_main_v41 (ix4 b h e j) t) b h t j rfl rfl rfl rfl, r39 H, r31 H]

end

end Cert.Reference42Ideal.Values

end
-- ==== Proof.FiniteRows.lean ====
/- What the preconditions of the two calls that go back through a row normalisation and of the attentions' other passes say:
   every entry of the arrays named is a real number. -/
module

public import proofs.«01_k».proof.Defs
public import proofs.«01_k».proof.Proof.Finite
public import proofs.«01_k».proof.Proof.RmsBack
public import proofs.«01_k».proof.Proof.MemRefBack

@[expose] public section

noncomputable section

namespace Cert.FiniteRows

open Idealize.ShloMosaic Rms

/-- The side conditions: a rank-zero array broadcasts to any shape. -/
theorem facts32 : Cert.Pre_finite32.Facts where
  bcast_S_S8192x1024 := by decide
  bcast_S_S1024 := by decide
  bcast_S_S1024x4096 := by decide
  bcast_S_S8192x4096 := by decide

theorem facts33 : Cert.Pre_finite33.Facts where
  bcast_S_S8192x1024 := by decide
  bcast_S_S1024 := by decide

theorem facts34 : Cert.Pre_finite34.Facts where
  bcast_S_S8192x2048 := by decide

theorem facts42 : Cert.Pre_finite42.Facts where
  bcast_S_S8192x512 := by decide
  bcast_S_S1024x512 := by decide
  slices_S1024x1024_S1024x512_0_512 := by decide

theorem facts43 : Cert.Pre_finite43.Facts where
  bcast_S_S8192x512 := by decide
  bcast_S_S1024x512 := by decide

theorem real32 (x0 : FVec Ideal Cert.Pre_finite32.S8192x1024 .f32) (x1 : FVec Ideal Cert.Pre_finite32.S1024 .f32) (x2 : FVec Ideal Cert.Pre_finite32.S1024x4096 .f32)
    (x3 : FVec Ideal Cert.Pre_finite32.S8192x4096 .f32) (x4 : FVec Ideal Cert.Pre_finite32.S8192x1024 .f32)
    (h0 : (@Cert.Pre_finite32.fn facts32 Ideal _ x0 x1 x2 x3 x4).1 = fun _ => 1#1)
    (h1 : (@Cert.Pre_finite32.fn facts32 Ideal _ x0 x1 x2 x3 x4).2.1 = fun _ => 1#1)
    (h2 : (@Cert.Pre_finite32.fn facts32 Ideal _ x0 x1 x2 x3 x4).2.2.1 = fun _ => 1#1)
    (h3 : (@Cert.Pre_finite32.fn facts32 Ideal _ x0 x1 x2 x3 x4).2.2.2 = fun _ => 1#1) :
    (∀ i, IsReal (x0 i)) ∧ (∀ i, IsReal (x1 i)) ∧ (∀ i, IsReal (x2 i)) ∧ (∀ i, IsReal (x3 i)) :=
  ⟨fun i => ⟨_, Finite.real_of_abs _ (congrFun h0 i)⟩, fun i => ⟨_, Finite.real_of_abs _ (congrFun h1 i)⟩,
    fun i => ⟨_, Finite.real_of_abs _ (congrFun h2 i)⟩, fun i => ⟨_, Finite.real_of_abs _ (congrFun h3 i)⟩⟩

theorem real33 (x0 : FVec Ideal Cert.Pre_finite33.S8192x1024 .f32) (x1 : FVec Ideal Cert.Pre_finite33.S1024 .f32)
    (x2 x3 : FVec Ideal Cert.Pre_finite33.S8192x1024 .f32)
    (h0 : (@Cert.Pre_finite33.fn facts33 Ideal _ x0 x1 x2 x3).1 = fun _ => 1#1)
    (h1 : (@Cert.Pre_finite33.fn facts33 Ideal _ x0 x1 x2 x3).2.1 = fun _ => 1#1)
    (h2 : (@Cert.Pre_finite33.fn facts33 Ideal _ x0 x1 x2 x3).2.2 = fun _ => 1#1) :
    (∀ i, IsReal (x0 i)) ∧ (∀ i, IsReal (x1 i)) ∧ (∀ i, IsReal (x2 i)) :=
  ⟨fun i => ⟨_, Finite.real_of_abs _ (congrFun h0 i)⟩, fun i => ⟨_, Finite.real_of_abs _ (congrFun h1 i)⟩,
    fun i => ⟨_, Finite.real_of_abs _ (congrFun h2 i)⟩⟩

/-- The queries and keys of the attention's forward pass are real; the scores depend on no others. -/
theorem real34 (x0 x1 : FVec Ideal Cert.Pre_finite34.S8192x2048 .f32) (x2 : FVec Ideal Cert.Pre_finite34.S8192x1024 .f32)
    (h0 : (@Cert.Pre_finite34.fn facts34 Ideal _ x0 x1 x2).1 = fun _ => 1#1)
    (h1 : (@Cert.Pre_finite34.fn facts34 Ideal _ x0 x1 x2).2 = fun _ => 1#1) :
    Cert.ReferenceIdeal.Values.Data x0 x1 (fun _ => ((0 : ℝ) : EReal)) (fun _ => ((0 : ℝ) : EReal)) (Finite.real x0) (Finite.real x1)
      (fun _ _ => 0) fun _ _ => 0 where
  q := Finite.real_fin x0 fun i => Finite.real_of_abs _ (congrFun h0 i)
  k := Finite.real_fin x1 fun i => Finite.real_of_abs _ (congrFun h1 i)
  v _ _ := rfl
  g _ _ := rfl

/-- The right half of an array, its entries real. -/
theorem right_real (x2 : FVec Ideal Cert.Pre_finite43.S1024x1024 .f32)
    (h : ∀ i, Cert.Reference43Ideal.Read.val_main_v2 (F := Ideal) x2 i = (((Cert.Reference43Ideal.Read.val_main_v2 (F := Ideal) x2 i).toReal : ℝ) : EReal))
    (r : Fin 1024) (l : Fin 512) : x2 (ix2 r (Cert.Reference43Ideal.Values.right l))
      = (Finite.real (Cert.Reference43Ideal.Read.val_main_v2 (F := Ideal) x2) r l : EReal) := by
  rw [← Finite.real_fin _ h r l, Cert.Reference43Ideal.Read.val_main_v2_apply]
  exact congrArg x2 (Cert.ReferenceIdeal.Values.idx2 (Cert.Reference43Ideal.Read.idx_main_v2 (ix2 r l)) r
    (Cert.Reference43Ideal.Values.right l) rfl rfl).symm

/-- The queries and keys of the memory attention's forward pass are real; the scores depend on no others. -/
theorem real43 (x0 : FVec Ideal Cert.Pre_finite43.S8192x512 .f32) (x1 : FVec Ideal Cert.Pre_finite43.S1024x512 .f32)
    (x2 : FVec Ideal Cert.Pre_finite43.S1024x1024 .f32)
    (h0 : (@Cert.Pre_finite43.fn facts43 Ideal _ x0 x1 x2).1 = fun _ => 1#1)
    (h1 : (@Cert.Pre_finite43.fn facts43 Ideal _ x0 x1 x2).2 = fun _ => 1#1) :
    Cert.Reference43Ideal.Values.Data x0 x1 (fun _ => ((0 : ℝ) : EReal)) (Finite.real x0) (Finite.real x1) fun _ _ => 0 where
  q := Finite.real_fin x0 fun i => Finite.real_of_abs _ (congrFun h0 i)
  k := Finite.real_fin x1 fun i => Finite.real_of_abs _ (congrFun h1 i)
  v _ _ := rfl

/-- The arguments of its backward pass are real. -/
theorem real42 (x0 : FVec Ideal Cert.Pre_finite42.S8192x512 .f32) (x1 : FVec Ideal Cert.Pre_finite42.S1024x512 .f32)
    (x2 : FVec Ideal Cert.Pre_finite42.S1024x1024 .f32) (x3 : FVec Ideal Cert.Pre_finite42.S8192x512 .f32)
    (h0 : (@Cert.Pre_finite42.fn facts42 Ideal _ x0 x1 x2 x3).1 = fun _ => 1#1)
    (h1 : (@Cert.Pre_finite42.fn facts42 Ideal _ x0 x1 x2 x3).2.1 = fun _ => 1#1)
    (h2 : (@Cert.Pre_finite42.fn facts42 Ideal _ x0 x1 x2 x3).2.2.1 = fun _ => 1#1)
    (h3 : (@Cert.Pre_finite42.fn facts42 Ideal _ x0 x1 x2 x3).2.2.2 = fun _ => 1#1) :
    Cert.Reference42Ideal.Values.DataG x0 x1 x2 x3 (Finite.real x0) (Finite.real x1)
      (Finite.real (Cert.Reference43Ideal.Read.val_main_v2 (F := Ideal) x2)) (Finite.real x3) where
  d := { q := Finite.real_fin x0 fun i => Finite.real_of_abs _ (congrFun h0 i)
         k := Finite.real_fin x1 fun i => Finite.real_of_abs _ (congrFun h1 i)
         v := right_real x2 fun i => Finite.real_of_abs _ (congrFun h2 i) }
  g := Finite.real_fin x3 fun i => Finite.real_of_abs _ (congrFun h3 i)

end Cert.FiniteRows

end
-- ==== Proof.Dh2.lean ====
/- The product that goes back through the feed-forward network's first matrix, and the gradients of the normalisation
   before it: of the rows, with the gradient that comes past it, and of the gain. -/
module

public import proofs.«01_k».proof.Proof.RmsBack
public import proofs.«01_k».proof.Proof.Gen.Kernel32Ideal.Value
public import proofs.«01_k».proof.Proof.Gen.Reference32Ideal.Read

@[expose] public section

set_option maxRecDepth 16384

noncomputable section

namespace Cert.Kernel32Ideal.Dh2

open Idealize.ShloMosaic Idealize.ShloMosaic.TcCoe Idealize.SL.Sem Cert.Kernel32Ideal Cert.Kernel32Ideal.Gen Attn Products

/-- The gradient of the normalised rows, one entry. -/
def dn (a : Fin 4096 → EReal) (w : Fin 4096 → EReal) : EReal := ∑ j, a j * w j

theorem dn_real (a w : Fin 4096 → EReal) (ha : ∀ j, Rms.IsReal (a j)) (hw : ∀ j, Rms.IsReal (w j)) : Rms.IsReal (dn a w) :=
  Rms.IsReal.sum fun j => (ha j).mul (hw j)

/-- The body's product. -/
theorem pay3 (a : Vec Ideal S512x4096 .bf16) (w : Vec Ideal S1024x4096 .bf16) (i : Fin 512) (d : Fin 1024) :
    k0_pay3 (F := Ideal) a w (ix2 i d) = dn (fun j => a (ix2 i j)) (fun j => w (ix2 d j)) := by
  unfold k0_pay3
  rw [shapeCast_self, shapeCast_self]
  exact nt (M := 512) (K := 4096) (N := 1024) (φ₁ := .bf16) (φ₂ := .bf16) a w i d

/-- The body's gradient of the rows, with the gradient that comes past them added. -/
theorem payRow (a : Vec Ideal S512x4096 .bf16) (w : Vec Ideal S1024x4096 .bf16) (x r : Vec Ideal S512x1024 .f32) (g : Vec Ideal S1x1024 .f32) (i : Fin 512) (d : Fin 1024) :
    k0_pay7 (F := Ideal) a w x g r (ix2 i d)
      = Rms.grad (fun k => x (ix2 i k)) (fun k => dn (fun j => a (ix2 i j)) (fun j => w (ix2 k j)) * g (ix2 0 k)) d + r (ix2 i d) := by
  unfold k0_pay7 k0_pay5 k0_pay4
  simp only [← pay3]
  generalize k0_pay3 (F := Ideal) a w = y
  unfold Rms.grad Rms.scale Rms.power Rms.eps
  rw [← Rms.inv_width_lit]
  pointwise

/-- The body's share of the gain's gradient. -/
theorem payGain (a : Vec Ideal S512x4096 .bf16) (w : Vec Ideal S1024x4096 .bf16) (x : Vec Ideal S512x1024 .f32) (d : Fin 1024) :
    k0_pay1 (F := Ideal) (k0_pay6 (F := Ideal) a w x) (ix2 0 d) = ∑ i : Fin 512, dn (fun j => a (ix2 i j)) (fun j => w (ix2 d j)) * (x (ix2 i d) * Rms.scale (fun k => x (ix2 i k))) := by
  unfold k0_pay1 k0_pay6 k0_pay5 k0_pay4
  simp only [← pay3]
  generalize k0_pay3 (F := Ideal) a w = y
  unfold Rms.scale Rms.power Rms.eps
  rw [← Rms.inv_width_lit]
  pointwise

variable (m : (ℓ : Loc nD τ sig) → Buf (Elt Ideal) ℓ) (c : Dev nD)

/-- What every grid point writes to the first result of rows. -/
theorem out5 (t : Fin cfg0.N) : (outsAt0 m c t.val t.isLt).1 = k0_pay7 (iblk m c 0 t) (iblk m c 1 t) (iblk m c 2 t) (iblk m c 3 t) (iblk m c 4 t) := by
  have hN : (t : ℕ) < 16 := lt_of_lt_of_eq t.isLt N_0
  by_cases h : t.val % 16 = 0
  · rw [outsAt0_A m c t h (by omega)]
    frame_out
  · rw [outsAt0_B m c t h (by omega)]
    frame_out

/-- What every grid point writes to the second result of rows. -/
theorem out6 (t : Fin cfg0.N) : (outsAt0 m c t.val t.isLt).2.1 = k0_pay8 (iblk m c 0 t) (iblk m c 1 t) (iblk m c 2 t) (iblk m c 3 t) (iblk m c 4 t) := by
  have hN : (t : ℕ) < 16 := lt_of_lt_of_eq t.isLt N_0
  by_cases h : t.val % 16 = 0
  · rw [outsAt0_A m c t h (by omega)]
    frame_out
  · rw [outsAt0_B m c t h (by omega)]
    frame_out

/-- A grid point's share of the gain's gradient. -/
def part (t : Fin cfg0.N) (d : Fin 1024) : EReal := k0_pay1 (F := Ideal) (k0_pay6 (F := Ideal) (iblk m c 0 t) (iblk m c 1 t) (iblk m c 2 t)) (ix2 0 d)

/-- The gain's gradient after the first grid point. -/
theorem accA (t : Fin cfg0.N) (h : t.val % 16 = 0) (d : Fin 1024) : (outsAt0 m c t.val t.isLt).2.2 (ix2 0 d) = 0 + part m c t d := by
  have hN : (t : ℕ) < 16 := lt_of_lt_of_eq t.isLt N_0
  rw [outsAt0_A m c t h (by omega)]
  frame_out
  rw [zero_add]
  rfl

/-- The gain's gradient after a later grid point. -/
theorem accB (t : Fin cfg0.N) (h : ¬t.val % 16 = 0) (d : Fin 1024) :
    (outsAt0 m c t.val t.isLt).2.2 (ix2 0 d) = (outsAt0 m c (t.val - 1) (Nat.lt_of_le_of_lt (Nat.sub_le _ _) t.isLt)).2.2 (ix2 0 d) + part m c t d := by
  rw [outsAt0_B m c t h (by omega)]
  frame_out
  unfold k0_pay2 part
  rw [shapeCast_self]
  rfl

/-- The gain's gradient at the last grid point: all shares. -/
theorem spans (t : Fin cfg0.N) (h : t.val % 16 = 15) (d : Fin 1024) :
    (outsAt0 m c t.val t.isLt).2.2 (ix2 0 d) = 0 + ∑ s : Fin 16, part m c ⟨16 * (t.val / 16) + s.val, Pipeline.run_point_lt_of_flush t h s⟩ d :=
  Pipeline.eq_sum_fin_of_reset_step_of_flush (fun n h => (outsAt0 m c n h).2.2 (ix2 0 d)) 16 0 (fun t => part m c t d)
    (fun t h => accA m c t h d) (fun t h => accB m c t h d) t h

theorem V_a : V m c main_v0 = (m ((c : Thread nD τ).loc main_arg3) : FVec Ideal S8192x4096 .f32) := by
  dsimp only [V, hostOps0, List.flatten_cons, List.flatten_nil, List.cons_append, List.nil_append]
  after_results_simp <;> rfl

theorem V_w : V m c main_v1 = (m ((c : Thread nD τ).loc main_arg2) : FVec Ideal S1024x4096 .f32) := by
  dsimp only [V, hostOps0, List.flatten_cons, List.flatten_nil, List.cons_append, List.nil_append]
  after_results_simp <;> rfl

theorem V_x : V m c main_arg0 = (m ((c : Thread nD τ).loc main_arg0) : FVec Ideal S8192x1024 .f32) := by
  dsimp only [V, hostOps0, List.flatten_cons, List.flatten_nil, List.cons_append, List.nil_append]
  after_results_simp <;> rfl

theorem V_r : V m c main_arg4 = (m ((c : Thread nD τ).loc main_arg4) : FVec Ideal S8192x1024 .f32) := by
  dsimp only [V, hostOps0, List.flatten_cons, List.flatten_nil, List.cons_append, List.nil_append]
  after_results_simp <;> rfl

theorem V_g (d : Fin 1024) : V m c main_v2 (ix2 0 d) = (m ((c : Thread nD τ).loc main_arg1) : FVec Ideal S1024 .f32) (ix1 d) := by
  dsimp only [V, hostOps0, List.flatten_cons, List.flatten_nil, List.cons_append, List.nil_append]
  after_results_simp
  pointwise

/-- The rows of the block at a grid point. -/
def row (t : Fin cfg0.N) (i : Fin 512) : Fin 8192 := ⟨t * 512 + i, by have hN : (t : ℕ) < 16 := lt_of_lt_of_eq t.isLt N_0; omega⟩

theorem index0 : ∀ t : Fin grid0.N, win0_0.index t 0 = (t : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (t : ℕ) ∧ win0_2.index t 1 = 0 := by decide +kernel
theorem index3 : ∀ t : Fin grid0.N, win0_3.index t 0 = 0 ∧ win0_3.index t 1 = 0 := by decide +kernel
theorem index4 : ∀ t : Fin grid0.N, win0_4.index t 0 = (t : ℕ) ∧ win0_4.index t 1 = 0 := by decide +kernel
theorem index5 : ∀ t : Fin grid0.N, win0_5.index t 0 = (t : ℕ) ∧ win0_5.index t 1 = 0 := by decide +kernel
theorem index6 : ∀ t : Fin grid0.N, win0_6.index t 0 = (t : ℕ) ∧ win0_6.index t 1 = 0 := by decide +kernel
theorem index7 : ∀ t : Fin grid0.N, win0_7.index t 0 = 0 ∧ win0_7.index t 1 = 0 := by decide +kernel

theorem block0 (t : Fin cfg0.N) (i : Fin 512) (k : Fin 4096) : iblk m c 0 t (ix2 i k) = (m ((c : Thread nD τ).loc main_arg3) : FVec Ideal S8192x4096 .f32) (ix2 (row t i) k) := by
  rw [← V_a m c]
  show V m c main_v0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; rfl
  · show ((win0_0.rect t).emb (ix2 i k) 1 : ℕ) = _
    rw [Pipeline.Window.rect_emb_val win0_0 t, (index0 t).2]; simp

theorem block1 (t : Fin cfg0.N) (i : Fin 1024) (k : Fin 4096) : iblk m c 1 t (ix2 i k) = (m ((c : Thread nD τ).loc main_arg2) : FVec Ideal S1024x4096 .f32) (ix2 i k) := by
  rw [← V_w m c]
  show V m c main_v1 ((win0_1.blk t).view.emb (ix2 i k)) = _
  congr 1
  refine idx2 _ _ _ ?_ ?_
  · show ((win0_1.rect t).emb (ix2 i k) 0 : ℕ) = _
    rw [Pipeline.Window.rect_emb_val win0_1 t, (index1 t).1]; simp
  · show ((win0_1.rect t).emb (ix2 i k) 1 : ℕ) = _
    rw [Pipeline.Window.rect_emb_val win0_1 t, (index1 t).2]; simp

theorem block2 (t : Fin cfg0.N) (i : Fin 512) (k : Fin 1024) : iblk m c 2 t (ix2 i k) = (m ((c : Thread nD τ).loc main_arg0) : FVec Ideal S8192x1024 .f32) (ix2 (row t i) k) := by
  rw [← V_x m c]
  show V m c main_arg0 ((win0_2.blk t).view.emb (ix2 i k)) = _
  congr 1
  refine idx2 _ _ _ ?_ ?_
  · show ((win0_2.rect t).emb (ix2 i k) 0 : ℕ) = _
    rw [Pipeline.Window.rect_emb_val win0_2 t, (index2 t).1]; rfl
  · show ((win0_2.rect t).emb (ix2 i k) 1 : ℕ) = _
    rw [Pipeline.Window.rect_emb_val win0_2 t, (index2 t).2]; simp

theorem block4 (t : Fin cfg0.N) (i : Fin 512) (k : Fin 1024) : iblk m c 4 t (ix2 i k) = (m ((c : Thread nD τ).loc main_arg4) : FVec Ideal S8192x1024 .f32) (ix2 (row t i) k) := by
  rw [← V_r m c]
  show V m c main_arg4 ((win0_4.blk t).view.emb (ix2 i k)) = _
  congr 1
  refine idx2 _ _ _ ?_ ?_
  · show ((win0_4.rect t).emb (ix2 i k) 0 : ℕ) = _
    rw [Pipeline.Window.rect_emb_val win0_4 t, (index4 t).1]; rfl
  · show ((win0_4.rect t).emb (ix2 i k) 1 : ℕ) = _
    rw [Pipeline.Window.rect_emb_val win0_4 t, (index4 t).2]; simp

theorem block3 (t : Fin cfg0.N) (k : Fin 1024) : iblk m c 3 t (ix2 0 k) = (m ((c : Thread nD τ).loc main_arg1) : FVec Ideal S1024 .f32) (ix1 k) := by
  rw [← V_g m c]
  show V m c main_v2 ((win0_3.blk t).view.emb (ix2 0 k)) = _
  congr 1
  refine idx2 _ _ _ ?_ ?_
  · show ((win0_3.rect t).emb (ix2 0 k) 0 : ℕ) = _
    rw [Pipeline.Window.rect_emb_val win0_3 t, (index3 t).1]; simp
  · show ((win0_3.rect t).emb (ix2 0 k) 1 : ℕ) = _
    rw [Pipeline.Window.rect_emb_val win0_3 t, (index3 t).2]; simp

theorem emb5 (t : Fin cfg0.N) (i : Fin 512) (k : Fin 1024) : (win0_5.blk t).view.emb (ix2 i k) = ix2 (row t i) k := by
  refine idx2 _ _ _ ?_ ?_
  · show ((win0_5.rect t).emb (ix2 i k) 0 : ℕ) = _
    rw [Pipeline.Window.rect_emb_val win0_5 t, (index5 t).1]; rfl
  · show ((win0_5.rect t).emb (ix2 i k) 1 : ℕ) = _
    rw [Pipeline.Window.rect_emb_val win0_5 t, (index5 t).2]; simp

theorem emb6 (t : Fin cfg0.N) (i : Fin 512) (k : Fin 1024) : (win0_6.blk t).view.emb (ix2 i k) = ix2 (row t i) k := by
  refine idx2 _ _ _ ?_ ?_
  · show ((win0_6.rect t).emb (ix2 i k) 0 : ℕ) = _
    rw [Pipeline.Window.rect_emb_val win0_6 t, (index6 t).1]; rfl
  · show ((win0_6.rect t).emb (ix2 i k) 1 : ℕ) = _
    rw [Pipeline.Window.rect_emb_val win0_6 t, (index6 t).2]; simp

theorem emb7 (t : Fin cfg0.N) (d : Fin 1024) : (win0_7.blk t).view.emb (ix2 0 d) = ix2 0 d := by
  refine idx2 _ _ _ ?_ ?_
  · show ((win0_7.rect t).emb (ix2 0 d) 0 : ℕ) = _
    rw [Pipeline.Window.rect_emb_val win0_7 t, (index7 t).1]; simp
  · show ((win0_7.rect t).emb (ix2 0 d) 1 : ℕ) = _
    rw [Pipeline.Window.rect_emb_val win0_7 t, (index7 t).2]; simp

open Cert.Reference32Ideal.Read

section
variable (x0 : FVec Ideal S8192x1024 .f32) (x1 : FVec Ideal S1024 .f32) (x2 : FVec Ideal S1024x4096 .f32) (x3 : FVec Ideal S8192x4096 .f32) (x4 : FVec Ideal S8192x1024 .f32)

/-- The reference's mean square plus the constant. -/
theorem refPower (i : Fin 8192) : val_main_v6 (F := Ideal) x0 (ix2 i 0) = Rms.power (fun k => x0 (ix2 i k)) := by
  rw [val_main_v6_apply, val_main_v4_apply, val_main_v2_apply, val_main_v1_apply, val_main_v3_apply, val_main_v5_apply, val_main_cst_0_apply,
    val_main_cst_1_apply, val_main_cst_apply]
  simp only [val_main_v0_apply]
  unfold Rms.power Rms.eps
  rw [← Rms.div_width, ← Rms.width_lit]
  simp only [pointwise]
  rw [zero_add]
  simp only [fun x => show idx_main_v1 (idx_main_v2 (ix2 i 0)) x = ix2 i x from idx2 _ _ _ rfl rfl]

/-- The reference's factor. -/
theorem refScale (i : Fin 8192) : val_main_v7 (F := Ideal) x0 (ix2 i 0) = Rms.scale (fun k => x0 (ix2 i k)) := by
  rw [val_main_v7_apply, refPower]
  rfl

/-- The reference's gradient of the normalised rows. -/
theorem refDn (i : Fin 8192) (k : Fin 1024) : val_main_v17 (F := Ideal) x2 x3 (ix2 i k) = dn (fun j => x3 (ix2 i j)) (fun j => x2 (ix2 k j)) := by
  rw [val_main_v17_apply]
  refine Finset.sum_congr rfl fun j _ => ?_
  rw [idx2 (lidx_main_v17 (ix2 i k) j) i j rfl rfl, idx2 (ridx_main_v17 (ix2 i k) j) k j rfl rfl]

/-- The gradient of the rows before their gain. -/
theorem refH (i : Fin 8192) (k : Fin 1024) : val_main_v22 (F := Ideal) x1 x2 x3 (ix2 i k) = dn (fun j => x3 (ix2 i j)) (fun j => x2 (ix2 k j)) * x1 (ix1 k) := by
  rw [val_main_v22_apply, refDn, val_main_v21_apply, val_main_v13_apply, Rms.idx1 (idx_main_v13 (idx_main_v21 (ix2 i k))) k rfl]
  rfl

/-- The share through the factor. -/
theorem refThrough (i : Fin 8192) (d : Fin 1024) :
    val_main_v33 (F := Ideal) x0 x1 x2 x3 (ix2 i d) = Rms.through (fun k => x0 (ix2 i k)) (fun k => dn (fun j => x3 (ix2 i j)) (fun j => x2 (ix2 k j)) * x1 (ix1 k)) := by
  rw [val_main_v33_apply, val_main_v32_apply, val_main_cst_7_apply, Fin.sum_univ_one, val_main_v31_apply, val_main_v29_apply, val_main_v26_apply, val_main_v25_apply, val_main_v30_apply, val_main_cst_6_apply,
    val_main_cst_5_apply, val_main_v10_apply, val_main_v9_apply, val_main_v8_apply, val_main_cst_2_apply]
  rw [show idx_main_v32 (idx_main_v33 (ix2 i d)) 0 = ix2 i 0 from idx2 _ _ _ rfl rfl, refScale, refPower]
  simp only [val_main_v24_apply]
  simp only [fun x => show idx_main_v25 (idx_main_v26 (ix2 i 0)) x = ix2 i x from idx2 _ _ _ (by simp) rfl, refH]
  unfold Rms.through
  rw [← Rms.div_width, ← Rms.width_lit, ← Rms.minus_half_lit]
  simp only [pointwise]
  rw [zero_add, zero_add]

/-- The reference's gradient of the rows. -/
theorem refRow (i : Fin 8192) (d : Fin 1024) :
    val_main_v38 (F := Ideal) x0 x1 x2 x3 x4 (ix2 i d)
      = Rms.gradSum (fun k => x0 (ix2 i k)) (fun k => dn (fun j => x3 (ix2 i j)) (fun j => x2 (ix2 k j)) * x1 (ix1 k)) d + x4 (ix2 i d) := by
  rw [val_main_v38_apply, val_main_v37_apply, val_main_v35_apply, val_main_v28_apply, val_main_v34_apply, val_main_v36_apply, refThrough, refH, val_main_v27_apply,
    show idx_main_v27 (ix2 i d) = ix2 i 0 from idx2 _ _ _ rfl rfl, refScale]
  exact add_comm _ _

/-- The reference's gradient of the gain. -/
theorem refGain (d : Fin 1024) :
    val_main_v41 (F := Ideal) x0 x2 x3 (ix2 0 d) = ∑ i : Fin 8192, dn (fun j => x3 (ix2 i j)) (fun j => x2 (ix2 d j)) * (x0 (ix2 i d) * Rms.scale (fun k => x0 (ix2 i k))) := by
  rw [val_main_v41_apply, val_main_v23_apply, val_main_cst_4_apply, Fin.sum_univ_one, val_main_v20_apply, val_main_v19_apply, val_main_cst_3_apply]
  simp only [val_main_v18_apply, val_main_v12_apply, val_main_v11_apply]
  simp only [fun x => show idx_main_v19 (idx_main_v20 (idx_main_v23 (idx_main_v41 (ix2 0 d)) 0)) x = ix2 x d from idx2 _ _ _ rfl (by simp), refDn,
    fun x => show idx_main_v11 (ix2 x d) = ix2 x 0 from idx2 _ _ _ rfl rfl, refScale]
  simp only [pointwise]
  rw [zero_add, zero_add]
  exact Finset.sum_congr rfl fun i _ => mul_comm _ _
end

/-- The body's row at a grid point is the reference's, for real arguments. -/
theorem entry (h0 : ∀ i, Rms.IsReal ((m ((c : Thread nD τ).loc main_arg0) : FVec Ideal S8192x1024 .f32) i)) (h1 : ∀ i, Rms.IsReal ((m ((c : Thread nD τ).loc main_arg1) : FVec Ideal S1024 .f32) i)) (h2 : ∀ i, Rms.IsReal ((m ((c : Thread nD τ).loc main_arg2) : FVec Ideal S1024x4096 .f32) i)) (h3 : ∀ i, Rms.IsReal ((m ((c : Thread nD τ).loc main_arg3) : FVec Ideal S8192x4096 .f32) i)) (t : Fin cfg0.N) (i : Fin 512) (d : Fin 1024) :
    k0_pay7 (iblk m c 0 t) (iblk m c 1 t) (iblk m c 2 t) (iblk m c 3 t) (iblk m c 4 t) (ix2 i d) = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t i) d) := by
  rw [payRow, refRow, ← Rms.grad_eq _ _ (fun k => h0 _) (fun k => (dn_real _ _ (fun j => h3 _) fun j => h2 _).mul (h1 _))]
  simp only [block0, block1, block2, block3, block4]

theorem array5 (h0 : ∀ i, Rms.IsReal ((m ((c : Thread nD τ).loc main_arg0) : FVec Ideal S8192x1024 .f32) i)) (h1 : ∀ i, Rms.IsReal ((m ((c : Thread nD τ).loc main_arg1) : FVec Ideal S1024 .f32) i)) (h2 : ∀ i, Rms.IsReal ((m ((c : Thread nD τ).loc main_arg2) : FVec Ideal S1024x4096 .f32) i)) (h3 : ∀ i, Rms.IsReal ((m ((c : Thread nD τ).loc main_arg3) : FVec Ideal S8192x4096 .f32) i)) :
    (dats m 0 c).arrAt 5 cfg0.N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  obtain ⟨i, d, rfl⟩ : ∃ (i : Fin 512) (d : Fin 1024), y = ix2 i d := ⟨y 0, y 1, eq_ix2 y⟩
  rw [emb5, after0_5]
  dsimp only
  rw [out5, entry m c h0 h1 h2 h3]

theorem array6 (h0 : ∀ i, Rms.IsReal ((m ((c : Thread nD τ).loc main_arg0) : FVec Ideal S8192x1024 .f32) i)) (h1 : ∀ i, Rms.IsReal ((m ((c : Thread nD τ).loc main_arg1) : FVec Ideal S1024 .f32) i)) (h2 : ∀ i, Rms.IsReal ((m ((c : Thread nD τ).loc main_arg2) : FVec Ideal S1024x4096 .f32) i)) (h3 : ∀ i, Rms.IsReal ((m ((c : Thread nD τ).loc main_arg3) : FVec Ideal S8192x4096 .f32) i)) :
    (dats m 0 c).arrAt 6 cfg0.N = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  obtain ⟨i, d, rfl⟩ : ∃ (i : Fin 512) (d : Fin 1024), y = ix2 i d := ⟨y 0, y 1, eq_ix2 y⟩
  rw [emb6, after0_6]
  dsimp only
  rw [out6]
  exact entry m c h0 h1 h2 h3 t i d

/-- The gain's gradient written at the last grid point is the reference's. -/
theorem gain (t : Fin cfg0.N) (h : t.val % 16 = 15) (d : Fin 1024) :
    (outsAt0 m c t.val t.isLt).2.2 (ix2 0 d) = val_main_v41 (F := Ideal) (m ((c : Thread nD τ).loc main_arg0)) (m ((c : Thread nD τ).loc main_arg2)) (m ((c : Thread nD τ).loc main_arg3)) (ix2 0 d) := by
  have hN : (t : ℕ) < 16 := lt_of_lt_of_eq t.isLt N_0
  rw [spans m c t h, zero_add, refGain, ← Fin.sum_mul_add_fin 16 512 _ rfl]
  refine Finset.sum_congr rfl fun s _ => ?_
  unfold part
  rw [payGain]
  refine Finset.sum_congr rfl fun i _ => ?_
  simp only [block0, block1, block2]
  rw [show row ⟨16 * (t.val / 16) + s.val, Pipeline.run_point_lt_of_flush t h s⟩ i = ⟨s * 512 + i, by omega⟩ from
    Fin.ext (by show (16 * (t.val / 16) + s.val) * 512 + (i : ℕ) = (s : ℕ) * 512 + (i : ℕ); omega)]

theorem array7 : (dats m 0 c).arrAt 7 cfg0.N = val_main_v41 (F := Ideal) (m ((c : Thread nD τ).loc main_arg0)) (m ((c : Thread nD τ).loc main_arg2)) (m ((c : Thread nD τ).loc main_arg3)) := by
  refine (dats m 0 c).arrAt_eq_of_covers 7 _ (by decide +kernel) fun t hf y => ?_
  have h : t.val % 16 = 15 := (flush0_7 t).mp hf
  blk_simp
  obtain ⟨i, d, rfl⟩ : ∃ (i : Fin 1) (d : Fin 1024), y = ix2 i d := ⟨y 0, y 1, eq_ix2 y⟩
  obtain rfl : i = 0 := Subsingleton.elim _ _
  rw [emb7, after0_7]
  dsimp only
  exact gain m c t h d

end Cert.Kernel32Ideal.Dh2

end
-- ==== Proof.DRms.lean ====
/- The gradients of the step's first normalisation: of the step's input, with the gradient that comes past the
   normalisation, and of the normalisation's gain. -/
module

public import proofs.«01_k».proof.Proof.RmsBack
public import proofs.«01_k».proof.Proof.Gen.Kernel33Ideal.Value
public import proofs.«01_k».proof.Proof.Gen.Reference33Ideal.Read

@[expose] public section

set_option maxRecDepth 16384

noncomputable section

namespace Cert.Kernel33Ideal.DRms

open Idealize.ShloMosaic Idealize.ShloMosaic.TcCoe Idealize.SL.Sem Cert.Kernel33Ideal Cert.Kernel33Ideal.Gen Attn Products

/-- The body's gradient of the rows, with the gradient that comes past them added. -/
theorem payRow (a : Vec Ideal S512x1024 .bf16) (x r : Vec Ideal S512x1024 .f32) (g : Vec Ideal S1x1024 .f32) (i : Fin 512) (d : Fin 1024) :
    k0_pay5 (F := Ideal) x g a r (ix2 i d)
      = Rms.grad (fun k => x (ix2 i k)) (fun k => a (ix2 i k) * g (ix2 0 k)) d + r (ix2 i d) := by
  unfold k0_pay5 k0_pay4 k0_pay3 k0_pay2
  unfold Rms.grad Rms.scale Rms.power Rms.eps
  rw [← Rms.inv_width_lit]
  pointwise

/-- The body's share of the gain's gradient. -/
theorem payGain (a : Vec Ideal S512x1024 .bf16) (x : Vec Ideal S512x1024 .f32) (d : Fin 1024) :
    k0_pay6 (F := Ideal) x a (ix2 0 d) = ∑ i : Fin 512, a (ix2 i d) * (x (ix2 i d) * Rms.scale (fun k => x (ix2 i k))) := by
  unfold k0_pay6 k0_pay4 k0_pay3 k0_pay2
  unfold Rms.scale Rms.power Rms.eps
  rw [← Rms.inv_width_lit]
  pointwise

variable (m : (ℓ : Loc nD τ sig) → Buf (Elt Ideal) ℓ) (c : Dev nD)

/-- What every grid point writes to a result of rows. -/
theorem out4 (t : Fin cfg0.N) : (outsAt0 m c t.val t.isLt).1 = k0_pay5 (iblk m c 0 t) (iblk m c 1 t) (iblk m c 2 t) (iblk m c 3 t) := by
  have hN : (t : ℕ) < 16 := lt_of_lt_of_eq t.isLt N_0
  by_cases h : t.val % 16 = 0
  · rw [outsAt0_A m c t h (by omega)]
    frame_out
  · rw [outsAt0_B m c t h (by omega)]
    frame_out

/-- A grid point's share of the gain's gradient. -/
def part (t : Fin cfg0.N) (d : Fin 1024) : EReal := k0_pay6 (F := Ideal) (iblk m c 0 t) (iblk m c 2 t) (ix2 0 d)

/-- The gain's gradient after the first grid point. -/
theorem accA (t : Fin cfg0.N) (h : t.val % 16 = 0) (d : Fin 1024) : (outsAt0 m c t.val t.isLt).2 (ix2 0 d) = 0 + part m c t d := by
  have hN : (t : ℕ) < 16 := lt_of_lt_of_eq t.isLt N_0
  rw [outsAt0_A m c t h (by omega)]
  frame_out
  rw [zero_add]
  rfl

/-- The gain's gradient after a later grid point. -/
theorem accB (t : Fin cfg0.N) (h : ¬t.val % 16 = 0) (d : Fin 1024) :
    (outsAt0 m c t.val t.isLt).2 (ix2 0 d) = (outsAt0 m c (t.val - 1) (Nat.lt_of_le_of_lt (Nat.sub_le _ _) t.isLt)).2 (ix2 0 d) + part m c t d := by
  rw [outsAt0_B m c t h (by omega)]
  frame_out
  unfold k0_pay1 part
  rw [shapeCast_self]
  rfl

/-- The gain's gradient at the last grid point: all shares. -/
theorem spans (t : Fin cfg0.N) (h : t.val % 16 = 15) (d : Fin 1024) :
    (outsAt0 m c t.val t.isLt).2 (ix2 0 d) = 0 + ∑ s : Fin 16, part m c ⟨16 * (t.val / 16) + s.val, Pipeline.run_point_lt_of_flush t h s⟩ d :=
  Pipeline.eq_sum_fin_of_reset_step_of_flush (fun n h => (outsAt0 m c n h).2 (ix2 0 d)) 16 0 (fun t => part m c t d)
    (fun t h => accA m c t h d) (fun t h => accB m c t h d) t h

theorem V_a : V m c main_v1 = (m ((c : Thread nD τ).loc main_arg2) : FVec Ideal S8192x1024 .f32) := by
  dsimp only [V, hostOps0, List.flatten_cons, List.flatten_nil, List.cons_append, List.nil_append]
  after_results_simp <;> rfl

theorem V_x : V m c main_arg0 = (m ((c : Thread nD τ).loc main_arg0) : FVec Ideal S8192x1024 .f32) := by
  dsimp only [V, hostOps0, List.flatten_cons, List.flatten_nil, List.cons_append, List.nil_append]
  after_results_simp <;> rfl

theorem V_r : V m c main_arg3 = (m ((c : Thread nD τ).loc main_arg3) : FVec Ideal S8192x1024 .f32) := by
  dsimp only [V, hostOps0, List.flatten_cons, List.flatten_nil, List.cons_append, List.nil_append]
  after_results_simp <;> rfl

theorem V_g (d : Fin 1024) : V m c main_v0 (ix2 0 d) = (m ((c : Thread nD τ).loc main_arg1) : FVec Ideal S1024 .f32) (ix1 d) := by
  dsimp only [V, hostOps0, List.flatten_cons, List.flatten_nil, List.cons_append, List.nil_append]
  after_results_simp
  pointwise

/-- The rows of the block at a grid point. -/
def row (t : Fin cfg0.N) (i : Fin 512) : Fin 8192 := ⟨t * 512 + i, by have hN : (t : ℕ) < 16 := lt_of_lt_of_eq t.isLt N_0; omega⟩

theorem index0 : ∀ t : Fin grid0.N, win0_0.index t 0 = (t : ℕ) ∧ win0_0.index t 1 = 0 := by decide +kernel
theorem index1 : ∀ t : Fin grid0.N, win0_1.index t 0 = 0 ∧ win0_1.index t 1 = 0 := by decide +kernel
theorem index2 : ∀ t : Fin grid0.N, win0_2.index t 0 = (t : ℕ) ∧ win0_2.index t 1 = 0 := by decide +kernel
theorem index3 : ∀ t : Fin grid0.N, win0_3.index t 0 = (t : ℕ) ∧ win0_3.index t 1 = 0 := by decide +kernel
theorem index4 : ∀ t : Fin grid0.N, win0_4.index t 0 = (t : ℕ) ∧ win0_4.index t 1 = 0 := by decide +kernel
theorem index5 : ∀ t : Fin grid0.N, win0_5.index t 0 = 0 ∧ win0_5.index t 1 = 0 := by decide +kernel

theorem block2 (t : Fin cfg0.N) (i : Fin 512) (k : Fin 1024) : iblk m c 2 t (ix2 i k) = (m ((c : Thread nD τ).loc main_arg2) : FVec Ideal S8192x1024 .f32) (ix2 (row t i) k) := by
  rw [← V_a m c]
  show V m c main_v1 ((win0_2.blk t).view.emb (ix2 i k)) = _
  congr 1
  refine idx2 _ _ _ ?_ ?_
  · show ((win0_2.rect t).emb (ix2 i k) 0 : ℕ) = _
    rw [Pipeline.Window.rect_emb_val win0_2 t, (index2 t).1]; rfl
  · show ((win0_2.rect t).emb (ix2 i k) 1 : ℕ) = _
    rw [Pipeline.Window.rect_emb_val win0_2 t, (index2 t).2]; simp

theorem block0 (t : Fin cfg0.N) (i : Fin 512) (k : Fin 1024) : iblk m c 0 t (ix2 i k) = (m ((c : Thread nD τ).loc main_arg0) : FVec Ideal S8192x1024 .f32) (ix2 (row t i) k) := by
  rw [← V_x m c]
  show V m c main_arg0 ((win0_0.blk t).view.emb (ix2 i k)) = _
  congr 1
  refine idx2 _ _ _ ?_ ?_
  · show ((win0_0.rect t).emb (ix2 i k) 0 : ℕ) = _
    rw [Pipeline.Window.rect_emb_val win0_0 t, (index0 t).1]; rfl
  · show ((win0_0.rect t).emb (ix2 i k) 1 : ℕ) = _
    rw [Pipeline.Window.rect_emb_val win0_0 t, (index0 t).2]; simp

theorem block3 (t : Fin cfg0.N) (i : Fin 512) (k : Fin 1024) : iblk m c 3 t (ix2 i k) = (m ((c : Thread nD τ).loc main_arg3) : FVec Ideal S8192x1024 .f32) (ix2 (row t i) k) := by
  rw [← V_r m c]
  show V m c main_arg3 ((win0_3.blk t).view.emb (ix2 i k)) = _
  congr 1
  refine idx2 _ _ _ ?_ ?_
  · show ((win0_3.rect t).emb (ix2 i k) 0 : ℕ) = _
    rw [Pipeline.Window.rect_emb_val win0_3 t, (index3 t).1]; rfl
  · show ((win0_3.rect t).emb (ix2 i k) 1 : ℕ) = _
    rw [Pipeline.Window.rect_emb_val win0_3 t, (index3 t).2]; simp

theorem block1 (t : Fin cfg0.N) (k : Fin 1024) : iblk m c 1 t (ix2 0 k) = (m ((c : Thread nD τ).loc main_arg1) : FVec Ideal S1024 .f32) (ix1 k) := by
  rw [← V_g m c]
  show V m c main_v0 ((win0_1.blk t).view.emb (ix2 0 k)) = _
  congr 1
  refine idx2 _ _ _ ?_ ?_
  · show ((win0_1.rect t).emb (ix2 0 k) 0 : ℕ) = _
    rw [Pipeline.Window.rect_emb_val win0_1 t, (index1 t).1]; simp
  · show ((win0_1.rect t).emb (ix2 0 k) 1 : ℕ) = _
    rw [Pipeline.Window.rect_emb_val win0_1 t, (index1 t).2]; simp

theorem emb4 (t : Fin cfg0.N) (i : Fin 512) (k : Fin 1024) : (win0_4.blk t).view.emb (ix2 i k) = ix2 (row t i) k := by
  refine idx2 _ _ _ ?_ ?_
  · show ((win0_4.rect t).emb (ix2 i k) 0 : ℕ) = _
    rw [Pipeline.Window.rect_emb_val win0_4 t, (index4 t).1]; rfl
  · show ((win0_4.rect t).emb (ix2 i k) 1 : ℕ) = _
    rw [Pipeline.Window.rect_emb_val win0_4 t, (index4 t).2]; simp

theorem emb5 (t : Fin cfg0.N) (d : Fin 1024) : (win0_5.blk t).view.emb (ix2 0 d) = ix2 0 d := by
  refine idx2 _ _ _ ?_ ?_
  · show ((win0_5.rect t).emb (ix2 0 d) 0 : ℕ) = _
    rw [Pipeline.Window.rect_emb_val win0_5 t, (index5 t).1]; simp
  · show ((win0_5.rect t).emb (ix2 0 d) 1 : ℕ) = _
    rw [Pipeline.Window.rect_emb_val win0_5 t, (index5 t).2]; simp

open Cert.Reference33Ideal.Read

section
variable (x0 : FVec Ideal S8192x1024 .f32) (x1 : FVec Ideal S1024 .f32) (x2 x3 : FVec Ideal S8192x1024 .f32)

/-- The reference's mean square plus the constant. -/
theorem refPower (i : Fin 8192) : val_main_v6 (F := Ideal) x0 (ix2 i 0) = Rms.power (fun k => x0 (ix2 i k)) := by
  rw [val_main_v6_apply, val_main_v4_apply, val_main_v2_apply, val_main_v1_apply, val_main_v3_apply, val_main_v5_apply, val_main_cst_0_apply,
    val_main_cst_1_apply, val_main_cst_apply]
  simp only [val_main_v0_apply]
  unfold Rms.power Rms.eps
  rw [← Rms.div_width, ← Rms.width_lit]
  simp only [pointwise]
  rw [zero_add]
  simp only [fun x => show idx_main_v1 (idx_main_v2 (ix2 i 0)) x = ix2 i x from idx2 _ _ _ rfl rfl]

/-- The reference's factor. -/
theorem refScale (i : Fin 8192) : val_main_v7 (F := Ideal) x0 (ix2 i 0) = Rms.scale (fun k => x0 (ix2 i k)) := by
  rw [val_main_v7_apply, refPower]
  rfl

/-- The gradient of the rows before their gain. -/
theorem refH (i : Fin 8192) (k : Fin 1024) : val_main_v20 (F := Ideal) x1 x2 (ix2 i k) = x2 (ix2 i k) * x1 (ix1 k) := by
  rw [val_main_v20_apply, val_main_v19_apply, val_main_v13_apply, Rms.idx1 (idx_main_v13 (idx_main_v19 (ix2 i k))) k rfl]
  rfl

/-- The share through the factor. -/
theorem refThrough (i : Fin 8192) (d : Fin 1024) :
    val_main_v31 (F := Ideal) x0 x1 x2 (ix2 i d) = Rms.through (fun k => x0 (ix2 i k)) (fun k => x2 (ix2 i k) * x1 (ix1 k)) := by
  rw [val_main_v31_apply, val_main_v30_apply, val_main_cst_7_apply, Fin.sum_univ_one, val_main_v29_apply, val_main_v27_apply, val_main_v24_apply, val_main_v23_apply, val_main_v28_apply, val_main_cst_6_apply,
    val_main_cst_5_apply, val_main_v10_apply, val_main_v9_apply, val_main_v8_apply, val_main_cst_2_apply]
  rw [show idx_main_v30 (idx_main_v31 (ix2 i d)) 0 = ix2 i 0 from idx2 _ _ _ rfl rfl, refScale, refPower]
  simp only [val_main_v22_apply]
  simp only [fun x => show idx_main_v23 (idx_main_v24 (ix2 i 0)) x = ix2 i x from idx2 _ _ _ (by simp) rfl, refH]
  unfold Rms.through
  rw [← Rms.div_width, ← Rms.width_lit, ← Rms.minus_half_lit]
  simp only [pointwise]
  rw [zero_add, zero_add]

/-- The reference's gradient of the rows. -/
theorem refRow (i : Fin 8192) (d : Fin 1024) :
    val_main_v36 (F := Ideal) x0 x1 x2 x3 (ix2 i d)
      = Rms.gradSum (fun k => x0 (ix2 i k)) (fun k => x2 (ix2 i k) * x1 (ix1 k)) d + x3 (ix2 i d) := by
  rw [val_main_v36_apply, val_main_v35_apply, val_main_v33_apply, val_main_v26_apply, val_main_v32_apply, val_main_v34_apply, refThrough, refH, val_main_v25_apply,
    show idx_main_v25 (ix2 i d) = ix2 i 0 from idx2 _ _ _ rfl rfl, refScale]
  exact add_comm _ _

/-- The reference's gradient of the gain. -/
theorem refGain (d : Fin 1024) :
    val_main_v37 (F := Ideal) x0 x2 (ix2 0 d) = ∑ i : Fin 8192, x2 (ix2 i d) * (x0 (ix2 i d) * Rms.scale (fun k => x0 (ix2 i k))) := by
  rw [val_main_v37_apply, val_main_v21_apply, val_main_cst_4_apply, Fin.sum_univ_one, val_main_v18_apply, val_main_v17_apply, val_main_cst_3_apply]
  simp only [val_main_v16_apply, val_main_v12_apply, val_main_v11_apply]
  simp only [fun x => show idx_main_v17 (idx_main_v18 (idx_main_v21 (idx_main_v37 (ix2 0 d)) 0)) x = ix2 x d from idx2 _ _ _ rfl (by simp),
    fun x => show idx_main_v11 (ix2 x d) = ix2 x 0 from idx2 _ _ _ rfl rfl, refScale]
  simp only [pointwise]
  rw [zero_add, zero_add]
  exact Finset.sum_congr rfl fun i _ => mul_comm _ _
end

/-- The body's row at a grid point is the reference's, for real arguments. -/
theorem entry (h0 : ∀ i, Rms.IsReal ((m ((c : Thread nD τ).loc main_arg0) : FVec Ideal S8192x1024 .f32) i)) (h1 : ∀ i, Rms.IsReal ((m ((c : Thread nD τ).loc main_arg1) : FVec Ideal S1024 .f32) i)) (h2 : ∀ i, Rms.IsReal ((m ((c : Thread nD τ).loc main_arg2) : FVec Ideal S8192x1024 .f32) i)) (t : Fin cfg0.N) (i : Fin 512) (d : Fin 1024) :
    k0_pay5 (iblk m c 0 t) (iblk m c 1 t) (iblk m c 2 t) (iblk m c 3 t) (ix2 i d) = val_main_v36 (F := Ideal) (m ((c : Thread nD τ).loc main_arg0)) (m ((c : Thread nD τ).loc main_arg1)) (m ((c : Thread nD τ).loc main_arg2)) (m ((c : Thread nD τ).loc main_arg3)) (ix2 (row t i) d) := by
  rw [payRow, refRow, ← Rms.grad_eq _ _ (fun k => h0 _) (fun k => (h2 _).mul (h1 _))]
  simp only [block0, block1, block2, block3]

theorem array4 (h0 : ∀ i, Rms.IsReal ((m ((c : Thread nD τ).loc main_arg0) : FVec Ideal S8192x1024 .f32) i)) (h1 : ∀ i, Rms.IsReal ((m ((c : Thread nD τ).loc main_arg1) : FVec Ideal S1024 .f32) i)) (h2 : ∀ i, Rms.IsReal ((m ((c : Thread nD τ).loc main_arg2) : FVec Ideal S8192x1024 .f32) i)) :
    (dats m 0 c).arrAt 4 cfg0.N = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  obtain ⟨i, d, rfl⟩ : ∃ (i : Fin 512) (d : Fin 1024), y = ix2 i d := ⟨y 0, y 1, eq_ix2 y⟩
  rw [emb4, after0_4]
  dsimp only
  rw [out4, entry m c h0 h1 h2]

/-- The gain's gradient written at the last grid point is the reference's. -/
theorem gain (t : Fin cfg0.N) (h : t.val % 16 = 15) (d : Fin 1024) :
    (outsAt0 m c t.val t.isLt).2 (ix2 0 d) = val_main_v37 (F := Ideal) (m ((c : Thread nD τ).loc main_arg0)) (m ((c : Thread nD τ).loc main_arg2)) (ix2 0 d) := by
  have hN : (t : ℕ) < 16 := lt_of_lt_of_eq t.isLt N_0
  rw [spans m c t h, zero_add, refGain, ← Fin.sum_mul_add_fin 16 512 _ rfl]
  refine Finset.sum_congr rfl fun s _ => ?_
  unfold part
  rw [payGain]
  refine Finset.sum_congr rfl fun i _ => ?_
  simp only [block0, block2]
  rw [show row ⟨16 * (t.val / 16) + s.val, Pipeline.run_point_lt_of_flush t h s⟩ i = ⟨s * 512 + i, by omega⟩ from
    Fin.ext (by show (16 * (t.val / 16) + s.val) * 512 + (i : ℕ) = (s : ℕ) * 512 + (i : ℕ); omega)]

theorem array5 : (dats m 0 c).arrAt 5 cfg0.N = val_main_v37 (F := Ideal) (m ((c : Thread nD τ).loc main_arg0)) (m ((c : Thread nD τ).loc main_arg2)) := by
  refine (dats m 0 c).arrAt_eq_of_covers 5 _ (by decide +kernel) fun t hf y => ?_
  have h : t.val % 16 = 15 := (flush0_5 t).mp hf
  blk_simp
  obtain ⟨i, d, rfl⟩ : ∃ (i : Fin 1) (d : Fin 1024), y = ix2 i d := ⟨y 0, y 1, eq_ix2 y⟩
  obtain rfl : i = 0 := Subsingleton.elim _ _
  rw [emb5, after0_5]
  dsimp only
  exact gain m c t h d

end Cert.Kernel33Ideal.DRms

end
-- ==== Proof.FwdTiles.lean ====
/- One tile of the attention's forward pass: `n` query rows from row `a`, the `T` keys before them and the `n` keys on the
   diagonal. Each row's largest score is taken off before the base-two exponentials; their sum divides the weighted sum of the
   values, and the row's largest score plus the base-two logarithm of that sum is the row's logarithm. When the queries and the keys hold
   real numbers both results are independent of the largest score; the values are any extended reals. -/
module

public import proofs.«01_k».proof.Proof.Tiles
public import Idealize.ShloMosaic.Lib.Pointwise.Reduce

@[expose] public section

noncomputable section

namespace Attn

open Idealize.ShloMosaic

/-- A column's shape as one axis. -/
abbrev M1 (n : ℕ) : Shape := ⟨1, ![n]⟩

/-! ### Reductions of rows -/

section
variable {n T : ℕ}

/-- The one-axis column read as a matrix of one lane. -/
theorem cast_col1 {α : Type} (x : (M1 n).Idx → α) (h : (M1 n).ShapeCasts (M2 n 1)) (r : Fin n) :
    shapeCast (M2 n 1) x h (ix2 r 0) = x (ix1 r) := by
  refine congrArg x (Shape.reshapeEquiv_eq_of_rowMajor h ?_)
  rw [rowMajor_val1, rowMajor_val2 (ix2 r 0) 1 rfl]
  show (r : ℕ) = (r : ℕ) * 1 + 0
  omega

/-- A matrix of one lane read as a one-headed column. -/
theorem cast_head {α : Type} (x : (M2 n 1).Idx → α) (h : (M2 n 1).ShapeCasts (M3 n)) (r : Fin n) :
    shapeCast (M3 n) x h (ix3 0 r 0) = x (ix2 r 0) := by
  refine congrArg x (Shape.reshapeEquiv_eq_of_rowMajor h ?_)
  rw [rowMajor_val3 (ix3 0 r 0) (n * 1) 1 rfl rfl, rowMajor_val2 (ix2 r 0) 1 rfl]
  show (r : ℕ) * 1 + 0 = 0 * _ + (r : ℕ) * 1 + 0
  omega

/-- Each row's largest entry. -/
def rowTop (s : FVec Ideal (M2 n T) .f32) (h : (M2 n T).Reduces [1] (M1 n)) (hc : (M1 n).ShapeCasts (M2 n 1)) : FVec Ideal (M2 n 1) .f32 :=
  shapeCast (M2 n 1) (multiReduction .maximumf [1] (M1 n) s 0xFF800000#32 h (.inl rfl) rfl) hc

/-- Each row's sum. -/
def rowSum (s : FVec Ideal (M2 n T) .f32) (h : (M2 n T).Reduces [1] (M1 n)) (hc : (M1 n).ShapeCasts (M2 n 1)) : FVec Ideal (M2 n 1) .f32 :=
  shapeCast (M2 n 1) (multiReduction .add [1] (M1 n) s 0x00000000#32 h (.inl rfl) rfl) hc

theorem rowTop_apply (s : FVec Ideal (M2 n T) .f32) (h) (hc) (r : Fin n) :
    rowTop s h hc (ix2 r 0) = (Finset.univ : Finset (Fin T)).fold max ⊥ fun t => s (ix2 r t) := by
  unfold rowTop
  rw [cast_col1]
  refine (multiReduction_maximumf_eq_fold _ _ _ _ _ _).trans ?_
  refine (h.fold_fiber_r2_a1 (ix1 r) _ _ s).trans ?_
  have hb : (FloatOps.ofBits (F := Ideal) .f32 0xFF800000#32) = (⊥ : EReal) := by
    show Ideal.ofBits .f32 0xFF800000#32 = ⊥
    simp [Ideal.ofBits, Ideal.ieee]
  rw [hb]
  rfl

/-- The largest entry of a row of real numbers and `⊥`, one of them real, is real. -/
theorem rowTop_real (s : FVec Ideal (M2 n T) .f32) (h) (hc) (r : Fin n) (h1 : ∀ t, s (ix2 r t) ≠ (⊤ : EReal)) (t : Fin T)
    (h2 : s (ix2 r t) ≠ (⊥ : EReal)) : ∃ x : ℝ, rowTop s h hc (ix2 r 0) = (x : EReal) := by
  rw [rowTop_apply]
  exact fold_max_real Finset.univ (fun t => s (ix2 r t)) (fun t _ => h1 t) t (Finset.mem_univ _) h2

theorem rowSum_apply (s : FVec Ideal (M2 n T) .f32) (h) (hc) (r : Fin n) (X : Fin T → ℝ) (hx : ∀ t, s (ix2 r t) = (X t : EReal)) :
    rowSum s h hc (ix2 r 0) = ((∑ t, X t : ℝ) : EReal) := by
  unfold rowSum
  rw [cast_col1, ← coe_sum]
  refine (Ideal.reduceAdd_r2_a1 h s (ix1 r)).trans (Finset.sum_congr rfl fun t _ => hx t)

/-- A product of weights with values. -/
def mixed {E : ℕ} (p : FVec Ideal (M2 n T) .bf16) (v : FVec Ideal (M2 T E) .bf16) : FVec Ideal (M2 n E) .f32 :=
  matmul (DotDims.plain n T E) none p v (constant (M2 n E) .f32 0x00000000#32)

/-- The product at an entry. -/
theorem mix_apply {E : ℕ} (p : FVec Ideal (M2 n T) .bf16) (v : FVec Ideal (M2 T E) .bf16) (r : Fin n) (e : Fin E) (X : Fin T → ℝ) (V : Fin T → EReal)
    (hx : ∀ t, p (ix2 r t) = (X t : EReal)) (hv : ∀ t, v (ix2 t e) = V t) :
    mixed p v (ix2 r e) = ∑ t, (X t : EReal) * V t := by
  refine (Ideal.matmul_plain_apply none p v _ r e).trans ?_
  rw [zero_const, zero_add]
  exact Finset.sum_congr rfl fun t _ => congrArg₂ (· * ·) (hx t) (hv t)

/-- A sum of extended reals times a real number that is not negative. -/
theorem sum_mul_coe {ι : Type} (t : Finset ι) (f : ι → EReal) (c : ℝ) (hc : 0 ≤ c) : (∑ k ∈ t, f k) * (c : EReal) = ∑ k ∈ t, f k * (c : EReal) := by
  classical
  induction t using Finset.induction_on with
  | empty => simp
  | insert a t ha ih =>
    rw [Finset.sum_insert ha, Finset.sum_insert ha,
      EReal.right_distrib_of_nonneg_of_ne_top (EReal.coe_nonneg.2 hc) (EReal.coe_ne_top c), ih]

end

/-! ### The tile -/

/-- The shapes' side conditions of a reduction of `T` entries a row to a column, and of that column along them. -/
structure SpanOk (n T : ℕ) : Prop where
  red : (M2 n T).Reduces [1] (M1 n)
  bc : (M2 n 1).Broadcasts (M2 n T)

/-- The remaining side conditions of a tile. -/
structure FwdOk (n E : ℕ) : Prop where
  col : (M1 n).ShapeCasts (M2 n 1)
  head : (M2 n 1).ShapeCasts (M3 n)
  bc : (M2 n 1).Broadcasts (M2 n E)
  i0 : (M2 n n).Iotas .tc 32 [0]
  i1 : (M2 n n).Iotas .tc 32 [1]
  low : FTy.bits .bf16 < FTy.bits .f32

section
variable {R D E : ℕ} (x0 x1 : Vec Ideal (M2 R D) .bf16) (x2 : Vec Ideal (M2 R E) .bf16) (mask inv : Ideal .f32)
  (a n : ℕ) (ha : a + n ≤ R) (hT : 0 + a ≤ R) (ok : FwdOk n E) (o1 : SpanOk n a) (oM : SpanOk n n)

/-- Scores against the diagonal block of keys. -/
def sDiag : FVec Ideal (M2 n n) .f32 := causal (scores (rows x0 a n ha) (rows x1 a n ha)) mask ok.i0 ok.i1
/-- Scores against the keys before it. -/
def sPast : FVec Ideal (M2 n a) .f32 := scores (rows x0 a n ha) (rows x1 0 a hT)
/-- Each row's largest score. -/
def top : FVec Ideal (M2 n 1) .f32 := maximumf (rowTop (sPast x0 x1 a n ha hT) o1.red ok.col) (rowTop (sDiag x0 x1 mask a n ha ok) oM.red ok.col)
/-- The exponentials against the keys before. -/
def pPast : FVec Ideal (M2 n a) .f32 := probs (sPast x0 x1 a n ha hT) (top x0 x1 mask a n ha hT ok o1 oM) o1.bc
/-- The exponentials against the diagonal block. -/
def pHere : FVec Ideal (M2 n n) .f32 := probs (sDiag x0 x1 mask a n ha ok) (top x0 x1 mask a n ha hT ok o1 oM) oM.bc
/-- Each row's sum. -/
def total : FVec Ideal (M2 n 1) .f32 :=
  addf (rowSum (pPast x0 x1 mask a n ha hT ok o1 oM) o1.red ok.col) (rowSum (pHere x0 x1 mask a n ha hT ok o1 oM) oM.red ok.col)
/-- The output's rows. -/
def oTile : FVec Ideal (M2 n E) .bf16 :=
  truncf .bf16 (divf (addf
    (mixed (truncf .bf16 (pPast x0 x1 mask a n ha hT ok o1 oM) ok.low) (rows x2 0 a hT))
    (mixed (truncf .bf16 (pHere x0 x1 mask a n ha hT ok o1 oM) ok.low) (rows x2 a n ha)))
    (broadcastTo (M2 n E) (total x0 x1 mask a n ha hT ok o1 oM) ok.bc)) ok.low
/-- The rows' logarithms. -/
def lTile : FVec Ideal (M3 n) .f32 :=
  shapeCast (M3 n) (addf (top x0 x1 mask a n ha hT ok o1 oM) (mulf (log (total x0 x1 mask a n ha hT ok o1 oM)) (broadcast (M2 n 1) inv))) ok.head

/-- The first tile's largest scores: there are no keys before. -/
def top0 : FVec Ideal (M2 n 1) .f32 := rowTop (sDiag x0 x1 mask a n ha ok) oM.red ok.col
def pHere0 : FVec Ideal (M2 n n) .f32 := probs (sDiag x0 x1 mask a n ha ok) (top0 x0 x1 mask a n ha ok oM) oM.bc
def total0 : FVec Ideal (M2 n 1) .f32 := rowSum (pHere0 x0 x1 mask a n ha ok oM) oM.red ok.col
def oTile0 : FVec Ideal (M2 n E) .bf16 :=
  truncf .bf16 (divf
    (mixed (truncf .bf16 (pHere0 x0 x1 mask a n ha ok oM) ok.low) (rows x2 a n ha))
    (broadcastTo (M2 n E) (total0 x0 x1 mask a n ha ok oM) ok.bc)) ok.low
def lTile0 : FVec Ideal (M3 n) .f32 :=
  shapeCast (M3 n) (addf (top0 x0 x1 mask a n ha ok oM) (mulf (log (total0 x0 x1 mask a n ha ok oM)) (broadcast (M2 n 1) inv))) ok.head

end

/-! ### Over the reals -/

/-- A score. -/
def fs {D : ℕ} (Q K : ℕ → ℕ → ℝ) (i j : ℕ) : ℝ := ∑ d : Fin D, Q i d * K j d
/-- The exponential of a score, the row's shift `x` taken off. -/
def fw {D : ℕ} (Q K : ℕ → ℕ → ℝ) (x : ℝ) (i j : ℕ) : ℝ := if j ≤ i then Real.rpow 2 (fs (D := D) Q K i j - x) else 0
/-- The row's sum of unshifted exponentials. -/
def fden {D : ℕ} (Q K : ℕ → ℕ → ℝ) (R i : ℕ) : ℝ := ∑ j : Fin R, fw (D := D) Q K 0 i j

theorem fw_shift {D : ℕ} (Q K : ℕ → ℕ → ℝ) (x : ℝ) (i j : ℕ) : fw (D := D) Q K x i j = fw (D := D) Q K 0 i j * Real.rpow 2 (-x) := by
  unfold fw
  split_ifs
  · rw [sub_zero, sub_eq_add_neg]; exact Real.rpow_add two_pos _ _
  · rw [zero_mul]

theorem fden_pos {D : ℕ} (Q K : ℕ → ℕ → ℝ) (R i : ℕ) (hi : i < R) : 0 < fden (D := D) Q K R i := by
  unfold fden
  refine Finset.sum_pos' (fun j _ => ?_) ⟨⟨i, hi⟩, Finset.mem_univ _, ?_⟩
  · unfold fw; split_ifs
    · exact (Real.rpow_pos_of_pos two_pos _).le
    · exact le_rfl
  · unfold fw; rw [if_pos (le_refl i)]; exact Real.rpow_pos_of_pos two_pos _

/-- A sum over all keys of a function that is zero after the tile, as the sums over the keys before and the diagonal block. -/
theorem sum_past {M : Type} [AddCommMonoid M] (f : ℕ → M) (a n R : ℕ) (hR : a + n ≤ R) (h0 : ∀ j, a + n ≤ j → f j = 0) :
    (∑ t : Fin a, f (0 + t)) + (∑ t : Fin n, f (a + t)) = ∑ j : Fin R, f j := by
  obtain ⟨m, rfl⟩ := Nat.exists_eq_add_of_le hR
  rw [← Finset.sum_range (fun j => f j), ← Finset.sum_range (fun r => f (0 + r)), ← Finset.sum_range (fun r => f (a + r)),
    Finset.sum_range_add f (a + n) m, Finset.sum_range_add f a n, Finset.sum_eq_zero (s := Finset.range m) (fun i _ => h0 _ (by omega)), add_zero]
  simp only [zero_add]

/-- The queries and keys of one head are real; the values are extended reals. -/
structure FReals {R D E : ℕ} (x0 x1 : Vec Ideal (M2 R D) .bf16) (x2 : Vec Ideal (M2 R E) .bf16) (Q K : ℕ → ℕ → ℝ) (V : ℕ → ℕ → EReal) : Prop where
  q : ∀ (i : Fin R) (d : Fin D), x0 (ix2 i d) = (Q i d : EReal)
  k : ∀ (i : Fin R) (d : Fin D), x1 (ix2 i d) = (K i d : EReal)
  v : ∀ (i : Fin R) (e : Fin E), x2 (ix2 i e) = V i e

section
variable {R D E : ℕ} {x0 x1 : Vec Ideal (M2 R D) .bf16} {x2 : Vec Ideal (M2 R E) .bf16} {mask inv : Ideal .f32} {Q K : ℕ → ℕ → ℝ} {V : ℕ → ℕ → EReal}
  (H : FReals x0 x1 x2 Q K V) (hm : mask = (⊥ : EReal)) (hv : inv = ((1 / Real.log 2 : ℝ) : EReal))
  (a n : ℕ) (ha : a + n ≤ R) (hT : 0 + a ≤ R) (ok : FwdOk n E) (o1 : SpanOk n a) (oM : SpanOk n n) (hn : n ≤ 2 ^ 31) (r : Fin n)
include H

theorem sPast_apply (t : Fin a) : sPast x0 x1 a n ha hT (ix2 r t) = ((fs (D := D) Q K (a + r) (0 + t) : ℝ) : EReal) :=
  scores_apply _ _ r t (fun d => Q (a + r) d) (fun d => K (0 + t) d) (fun d => (rows_apply _ _ _ _ _ _).trans (H.q _ _))
    (fun d => (rows_apply _ _ _ _ _ _).trans (H.k _ _))

include hm hn

theorem sDiag_apply (t : Fin n) : sDiag x0 x1 mask a n ha ok (ix2 r t)
    = if a + (t : ℕ) ≤ a + r then ((fs (D := D) Q K (a + r) (a + t) : ℝ) : EReal) else ⊥ := by
  unfold sDiag
  rw [causal_apply _ _ _ _ hn]
  by_cases h : (t : ℕ) ≤ r
  · rw [if_pos h, if_pos (by omega)]
    exact scores_apply _ _ r t (fun d => Q (a + r) d) (fun d => K (a + t) d) (fun d => (rows_apply _ _ _ _ _ _).trans (H.q _ _))
      (fun d => (rows_apply _ _ _ _ _ _).trans (H.k _ _))
  · rw [if_neg h, if_neg (by omega), hm]

theorem topDiag_real : ∃ x : ℝ, rowTop (sDiag x0 x1 mask a n ha ok) oM.red ok.col (ix2 r 0) = (x : EReal) := by
  refine rowTop_real _ _ _ r (fun t => ?_) r ?_
  · rw [sDiag_apply H hm a n ha ok hn r t]; split_ifs
    · exact EReal.coe_ne_top _
    · exact bot_ne_top
  · rw [sDiag_apply H hm a n ha ok hn r r, if_pos (le_refl _)]; exact EReal.coe_ne_bot _

theorem top_real : ∃ x : ℝ, top x0 x1 mask a n ha hT ok o1 oM (ix2 r 0) = (x : EReal) := by
  obtain ⟨x, hx⟩ := topDiag_real H hm a n ha ok oM hn r
  have e : top x0 x1 mask a n ha hT ok o1 oM (ix2 r 0)
      = max (rowTop (sPast x0 x1 a n ha hT) o1.red ok.col (ix2 r 0)) (rowTop (sDiag x0 x1 mask a n ha ok) oM.red ok.col (ix2 r 0)) := rfl
  rw [e, hx]
  by_cases h : 0 < a
  · obtain ⟨y, hy⟩ := rowTop_real (sPast x0 x1 a n ha hT) o1.red ok.col r
      (fun t => by rw [sPast_apply H a n ha hT r t]; exact EReal.coe_ne_top _) ⟨0, h⟩
      (by rw [sPast_apply H a n ha hT r _]; exact EReal.coe_ne_bot _)
    rw [hy]
    exact ⟨max y x, (EReal.coe_strictMono.monotone.map_max).symm⟩
  · obtain rfl : a = 0 := by omega
    rw [rowTop_apply]
    exact ⟨x, by simp⟩

theorem pDiag_apply (l : FVec Ideal (M2 n 1) .f32) (x : ℝ) (hl : l (ix2 r 0) = (x : EReal)) (hb) (t : Fin n) :
    probs (sDiag x0 x1 mask a n ha ok) l hb (ix2 r t) = ((fw (D := D) Q K x (a + r) (a + t) : ℝ) : EReal) := by
  unfold fw
  by_cases h : a + (t : ℕ) ≤ a + r
  · rw [if_pos h]
    exact probs_apply _ _ _ r t _ _ ((sDiag_apply H hm a n ha ok hn r t).trans (if_pos h)) hl
  · rw [if_neg h]
    exact probs_bot _ _ _ r t ((sDiag_apply H hm a n ha ok hn r t).trans (if_neg h))

omit hm hn in
theorem pPast_apply (l : FVec Ideal (M2 n 1) .f32) (x : ℝ) (hl : l (ix2 r 0) = (x : EReal)) (hb) (t : Fin a) :
    probs (sPast x0 x1 a n ha hT) l hb (ix2 r t) = ((fw (D := D) Q K x (a + r) (0 + t) : ℝ) : EReal) := by
  unfold fw
  rw [if_pos (by omega)]
  exact probs_apply _ _ _ r t _ _ (sPast_apply H a n ha hT r t) hl

omit H hm hn in
/-- The row's logarithm from the shifted sum. -/
theorem log_shift (x S : ℝ) (hS : 0 < S) : x + Real.log (S * Real.rpow 2 (-x)) * (1 / Real.log 2) = Real.log S / Real.log 2 := by
  have hl : Real.log 2 ≠ 0 := (Real.log_pos one_lt_two).ne'
  have hp : Real.rpow 2 (-x) = Real.exp (Real.log 2 * -x) := Real.rpow_def_of_pos two_pos _
  rw [hp, Real.log_mul hS.ne' (Real.exp_pos _).ne', Real.log_exp]
  field_simp
  ring

omit H hm hn in
theorem lane_log (y l : EReal) (x S : ℝ) (hS : 0 < S) (hy : y = (x : EReal)) (hl : l = ((S * Real.rpow 2 (-x) : ℝ) : EReal)) :
    y + Ideal.log l * ((1 / Real.log 2 : ℝ) : EReal) = ((Real.log S / Real.log 2 : ℝ) : EReal) := by
  have hp : (0 : ℝ) < S * Real.rpow 2 (-x) := mul_pos hS (Real.rpow_pos_of_pos two_pos _)
  rw [hy, hl, Ideal.log_coe, if_neg (not_le.2 hp), ← EReal.coe_mul, ← EReal.coe_add,
    log_shift x S hS]

omit H hm hn in
theorem lane_div {T : ℕ} (y l : EReal) (x S : ℝ) (N : Fin T → ℝ) (W : Fin T → EReal) (hS : 0 < S)
    (hy : y = ∑ j, ((N j * Real.rpow 2 (-x) : ℝ) : EReal) * W j) (hl : l = ((S * Real.rpow 2 (-x) : ℝ) : EReal)) :
    Ideal.div y l = ∑ j, W j * ((N j / S : ℝ) : EReal) := by
  have hp : (0 : ℝ) < Real.rpow 2 (-x) := Real.rpow_pos_of_pos two_pos _
  have hq := mul_pos hS hp
  rw [hy, hl, Ideal.div_coe hq.ne', sum_mul_coe _ _ _ (one_div_pos.2 hq).le]
  refine Finset.sum_congr rfl fun j _ => ?_
  rw [mul_comm _ (W j), mul_assoc, ← EReal.coe_mul, mul_one_div, mul_div_mul_right _ _ hp.ne']

omit H hm hn in
theorem fden_shift (x : ℝ) (i : ℕ) : (∑ j : Fin R, fw (D := D) Q K x i j) = fden (D := D) Q K R i * Real.rpow 2 (-x) := by
  unfold fden
  rw [Finset.sum_mul]
  exact Finset.sum_congr rfl fun j _ => fw_shift Q K x i j

omit H hm hn in
theorem fw_late (x : ℝ) (i j : ℕ) (h : i < j) : fw (D := D) Q K x i j = 0 := by
  unfold fw; rw [if_neg (by omega)]

theorem total_apply (x : ℝ) (hx : top x0 x1 mask a n ha hT ok o1 oM (ix2 r 0) = (x : EReal)) :
    total x0 x1 mask a n ha hT ok o1 oM (ix2 r 0) = ((fden (D := D) Q K R (a + r) * Real.rpow 2 (-x) : ℝ) : EReal) := by
  have hr := r.isLt
  rw [← fden_shift, ← sum_past (fun j => fw (D := D) Q K x (a + r) j) a n R ha (fun j hj => fw_late x _ _ (by omega)), EReal.coe_add]
  exact congrArg₂ (· + ·)
    (rowSum_apply _ _ _ r (fun t => fw (D := D) Q K x (a + r) (0 + t)) (fun t => pPast_apply H a n ha hT r _ x hx _ t))
    (rowSum_apply _ _ _ r (fun t => fw (D := D) Q K x (a + r) (a + t)) (fun t => pDiag_apply H hm a n ha ok hn r _ x hx _ t))

/-- The output of row `a + r`. -/
theorem oTile_apply (e : Fin E) : oTile x0 x1 x2 mask a n ha hT ok o1 oM (ix2 r e)
    = ∑ j : Fin R, V j e * ((fw (D := D) Q K 0 (a + r) j / fden (D := D) Q K R (a + r) : ℝ) : EReal) := by
  have hr := r.isLt
  obtain ⟨x, hx⟩ := top_real H hm a n ha hT ok o1 oM hn r
  have e0 : oTile x0 x1 x2 mask a n ha hT ok o1 oM (ix2 r e) = Ideal.div
      (mixed (truncf .bf16 (pPast x0 x1 mask a n ha hT ok o1 oM) ok.low) (rows x2 0 a hT) (ix2 r e)
        + mixed (truncf .bf16 (pHere x0 x1 mask a n ha hT ok o1 oM) ok.low) (rows x2 a n ha) (ix2 r e))
      (broadcastTo (M2 n E) (total x0 x1 mask a n ha hT ok o1 oM) ok.bc (ix2 r e)) := rfl
  rw [e0]
  refine lane_div _ _ x _ (fun j => fw (D := D) Q K 0 (a + r) j) (fun j => V j e) (fden_pos Q K R (a + r) (by omega)) ?_ ((bcast_col _ _ r e).trans (total_apply H hm a n ha hT ok o1 oM hn r x hx))
  simp only [← fw_shift]
  rw [← sum_past (fun j => (fw (D := D) Q K x (a + r) j : EReal) * V j e) a n R ha
    (fun j hj => by rw [fw_late x _ _ (by omega), EReal.coe_zero, zero_mul])]
  exact congrArg₂ (· + ·)
    (mix_apply _ _ r e (fun t => fw (D := D) Q K x (a + r) (0 + t)) (fun t => V (0 + t) e) (fun t => pPast_apply H a n ha hT r _ x hx _ t)
      (fun t => (rows_apply _ _ _ _ _ _).trans (H.v _ _)))
    (mix_apply _ _ r e (fun t => fw (D := D) Q K x (a + r) (a + t)) (fun t => V (a + t) e) (fun t => pDiag_apply H hm a n ha ok hn r _ x hx _ t)
      (fun t => (rows_apply _ _ _ _ _ _).trans (H.v _ _)))

include hv in
/-- The logarithm of row `a + r`. -/
theorem lTile_apply : lTile x0 x1 mask inv a n ha hT ok o1 oM (ix3 0 r 0)
    = ((Real.log (fden (D := D) Q K R (a + r)) / Real.log 2 : ℝ) : EReal) := by
  have hr := r.isLt
  obtain ⟨x, hx⟩ := top_real H hm a n ha hT ok o1 oM hn r
  unfold lTile
  rw [cast_head]
  show top x0 x1 mask a n ha hT ok o1 oM (ix2 r 0) + Ideal.log (total x0 x1 mask a n ha hT ok o1 oM (ix2 r 0)) * inv = _
  rw [hv]
  exact lane_log _ _ x _ (fden_pos Q K R (a + r) (by omega)) hx (total_apply H hm a n ha hT ok o1 oM hn r x hx)

omit ha hT o1 in
theorem total0_apply (ha : 0 + n ≤ R) (x : ℝ) (hx : top0 x0 x1 mask 0 n ha ok oM (ix2 r 0) = (x : EReal)) :
    total0 x0 x1 mask 0 n ha ok oM (ix2 r 0) = ((fden (D := D) Q K R (0 + r) * Real.rpow 2 (-x) : ℝ) : EReal) := by
  have hr := r.isLt
  rw [← fden_shift, ← sum_past (fun j => fw (D := D) Q K x (0 + r) j) 0 n R ha (fun j hj => fw_late x _ _ (by omega)), Finset.univ_eq_empty,
    Finset.sum_empty, zero_add]
  exact rowSum_apply _ _ _ r (fun t => fw (D := D) Q K x (0 + r) (0 + t)) (fun t => pDiag_apply H hm 0 n ha ok hn r _ x hx _ t)

omit ha hT o1 in
/-- The output of a row of the first tile. -/
theorem oTile0_apply (ha : 0 + n ≤ R) (e : Fin E) : oTile0 x0 x1 x2 mask 0 n ha ok oM (ix2 r e)
    = ∑ j : Fin R, V j e * ((fw (D := D) Q K 0 (0 + r) j / fden (D := D) Q K R (0 + r) : ℝ) : EReal) := by
  have hr := r.isLt
  obtain ⟨x, hx⟩ := topDiag_real H hm 0 n ha ok oM hn r
  have e0 : oTile0 x0 x1 x2 mask 0 n ha ok oM (ix2 r e) = Ideal.div
      (mixed (truncf .bf16 (pHere0 x0 x1 mask 0 n ha ok oM) ok.low) (rows x2 0 n ha) (ix2 r e))
      (broadcastTo (M2 n E) (total0 x0 x1 mask 0 n ha ok oM) ok.bc (ix2 r e)) := rfl
  rw [e0]
  refine lane_div _ _ x _ (fun j => fw (D := D) Q K 0 (0 + r) j) (fun j => V j e) (fden_pos Q K R (0 + r) (by omega)) ?_ ((bcast_col _ _ r e).trans (total0_apply H hm n ok oM hn r ha x hx))
  simp only [← fw_shift]
  rw [← sum_past (fun j => (fw (D := D) Q K x (0 + r) j : EReal) * V j e) 0 n R ha
    (fun j hj => by rw [fw_late x _ _ (by omega), EReal.coe_zero, zero_mul]), Finset.univ_eq_empty, Finset.sum_empty, zero_add]
  exact mix_apply _ _ r e (fun t => fw (D := D) Q K x (0 + r) (0 + t)) (fun t => V (0 + t) e) (fun t => pDiag_apply H hm 0 n ha ok hn r _ x hx _ t)
    (fun t => (rows_apply _ _ _ _ _ _).trans (H.v _ _))

omit ha hT o1 in
include hv in
/-- The logarithm of a row of the first tile. -/
theorem lTile0_apply (ha : 0 + n ≤ R) : lTile0 x0 x1 mask inv 0 n ha ok oM (ix3 0 r 0)
    = ((Real.log (fden (D := D) Q K R (0 + r)) / Real.log 2 : ℝ) : EReal) := by
  have hr := r.isLt
  obtain ⟨x, hx⟩ := topDiag_real H hm 0 n ha ok oM hn r
  unfold lTile0
  rw [cast_head]
  show top0 x0 x1 mask 0 n ha ok oM (ix2 r 0) + Ideal.log (total0 x0 x1 mask 0 n ha ok oM (ix2 r 0)) * inv = _
  rw [hv]
  exact lane_log _ _ x _ (fden_pos Q K R (0 + r) (by omega)) hx (total0_apply H hm n ok oM hn r ha x hx)

end

/-! ### Stores of a one-headed column -/

/-- What a one-headed column holds after a store of `n` rows from row `a`. -/
theorem canon_rows3 {R : ℕ} {φ : EltTy} (a n : ℕ) (h : a + n ≤ R)
    (w : Vec Ideal (M3 n) φ) (L : List (View.Piece (Elt Ideal) (M3 R) φ)) (i : Fin R) (z : Elt Ideal φ)
    (hw : ∀ r : Fin n, (i : ℕ) = a + r → w (ix3 0 r 0) = z) (hL : ((i : ℕ) < a ∨ a + n ≤ i) → View.canon L (ix3 0 i 0) = z) :
    View.canon (⟨Rect.unit (s := M3 R) ![0, a, 0] (M3 n).size (inRows3 h), w⟩ :: L) (ix3 0 i 0) = z := by
  by_cases hi : a ≤ (i : ℕ) ∧ (i : ℕ) < a + n
  · have e : (Rect.unit (s := M3 R) ![0, a, 0] (M3 n).size (inRows3 h)).emb (ix3 0 ⟨i - a, by omega⟩ 0 : (M3 n).Idx) = ix3 0 i 0 := by
      funext k
      apply Fin.ext
      refine (Rect.idx_unit_val _ _ (inRows3 h) _ k).trans ?_
      match k with
      | ⟨0, _⟩ => rfl
      | ⟨1, _⟩ => show a + (i - a) = i; omega
      | ⟨2, _⟩ => rfl
    have hx : w (ix3 0 ⟨i - a, by omega⟩ 0) = z := hw _ (by show (i : ℕ) = a + (i - a); omega)
    rw [← e]
    exact (View.canon_cons_emb (Val := Elt Ideal) (Rect.unit (s := M3 R) ![0, a, 0] (M3 n).size (inRows3 h)) w L _).trans hx
  · rw [View.canon_cons_of_not_mem]
    · exact hL (by omega)
    · intro hm
      obtain ⟨y, hy⟩ := LoadRect.exists_idx_of_mem _ hm
      apply hi
      have h0 := congrArg (fun z : (M3 R).Idx => (z 1 : ℕ)) hy
      have h1 : (((Rect.unit (s := M3 R) ![0, a, 0] (M3 n).size (inRows3 h)).emb y) 1 : ℕ) = a + y 1 := Rect.idx_unit_val _ _ (inRows3 h) y 1
      have h2 : (y 1 : ℕ) < n := (y 1).isLt
      have h3 : a + (y 1 : ℕ) = i := h1.symm.trans h0
      omega

end Attn

end
-- ==== Proof.FwdOutputs.lean ====
/- What the body of the attention's forward pass leaves of its two results: 256 rows at a time, entry by entry. -/
module

public import proofs.«01_k».proof.Proof.FwdTiles
public import proofs.«01_k».proof.Proof.Gen.Kernel34Ideal.Value

@[expose] public section

set_option maxRecDepth 16384

noncomputable section

namespace Cert.Kernel34Ideal.FwdBlock

open Idealize.ShloMosaic Idealize.ShloMosaic.TcCoe Idealize.SL.Sem Cert.Kernel34Ideal Cert.Kernel34Ideal.Gen Attn

/-- The value written above the diagonal. -/
abbrev maskv : Ideal .f32 := Named.named κ "mask" 0xF149F2CA#32
/-- The factor that turns a logarithm into one to base two. -/
abbrev invv : Ideal .f32 := Named.named κ "inv_ln2" 0x3FB8AA3B#32

theorem mask_val : maskv = (⊥ : EReal) := IdealRules.named_const.ideal_named_scalar _ _ _ _ rfl
theorem inv_val : invv = ((1 / Real.log 2 : ℝ) : EReal) := by
  rw [one_div]
  exact IdealRules.named_const.ideal_named_scalar _ _ _ _ rfl

theorem ok : FwdOk 256 128 := ⟨by decide, by decide, by decide, by decide, by decide, by decide⟩
theorem span256 : SpanOk 256 256 := ⟨by decide, by decide⟩
theorem span512 : SpanOk 256 512 := ⟨by decide, by decide⟩
theorem span768 : SpanOk 256 768 := ⟨by decide, by decide⟩
theorem span1024 : SpanOk 256 1024 := ⟨by decide, by decide⟩
theorem span1280 : SpanOk 256 1280 := ⟨by decide, by decide⟩
theorem span1536 : SpanOk 256 1536 := ⟨by decide, by decide⟩
theorem span1792 : SpanOk 256 1792 := ⟨by decide, by decide⟩

section
variable (x0 x1 : Vec Ideal (M2 2048 256) .bf16) (x2 : Vec Ideal (M2 2048 128) .bf16)

/-- The output's 256 rows from row `a`. -/
def oT (a : ℕ) (ha : a + 256 ≤ 2048) (hT : 0 + a ≤ 2048) (o1 : SpanOk 256 a) : FVec Ideal (M2 256 128) .bf16 :=
  oTile x0 x1 x2 maskv a 256 ha hT ok o1 span256
/-- The logarithms of the 256 rows from row `a`. -/
def lT (a : ℕ) (ha : a + 256 ≤ 2048) (hT : 0 + a ≤ 2048) (o1 : SpanOk 256 a) : FVec Ideal (M3 256) .f32 :=
  lTile x0 x1 maskv invv a 256 ha hT ok o1 span256
/-- The output's first 256 rows. -/
def oT0 : FVec Ideal (M2 256 128) .bf16 := oTile0 x0 x1 x2 maskv 0 256 (by decide) ok span256
/-- The logarithms of the first 256 rows. -/
def lT0 : FVec Ideal (M3 256) .f32 := lTile0 x0 x1 maskv invv 0 256 (by decide) ok span256

end

/-- The output's rows from row 1792 as the body stores them. -/
theorem o_1792 (x0 x1 : Vec Ideal (M2 2048 256) .bf16) (x2 : Vec Ideal (M2 2048 128) .bf16) : k0_pay4 (k0_pay94 x0 x1 x2) (k0_pay95 x0 x1 x2) (k0_pay96 x0 x1 x2) (View.ld x2 r0_33) (View.ld x2 r0_34) = oT x0 x1 x2 1792 (by decide) (by decide) span1792 := by
  simp only [k0_pay1, k0_pay2, k0_pay3, k0_pay4, k0_pay78, k0_pay79, k0_pay80, k0_pay81, k0_pay82, k0_pay94, k0_pay95, k0_pay96, shapeCast_self]
  simp only [oT, oT0, lT, lT0, oTile, lTile, total, pPast, pHere, top, sPast, sDiag, oTile0, lTile0, total0, pHere0, top0, rowTop, rowSum, mixed, probs, causal, scores, rows, band]
  rfl

/-- The output's rows from row 1536 as the body stores them. -/
theorem o_1536 (x0 x1 : Vec Ideal (M2 2048 256) .bf16) (x2 : Vec Ideal (M2 2048 128) .bf16) : k0_pay76 (k0_pay92 x0 x1 x2) (k0_pay72 (View.ld x0 r0_26) (View.ld x1 r0_27) (View.ld x1 r0_26) (View.ld x2 r0_28)) (k0_pay73 (View.ld x0 r0_26) (View.ld x1 r0_27) (View.ld x1 r0_26)) (k0_pay93 x0 x1 x2) (View.ld x2 r0_29) = oT x0 x1 x2 1536 (by decide) (by decide) span1536 := by
  simp only [k0_pay66, k0_pay67, k0_pay68, k0_pay69, k0_pay70, k0_pay71, k0_pay72, k0_pay73, k0_pay74, k0_pay75, k0_pay76, k0_pay92, k0_pay93, shapeCast_self]
  simp only [oT, oT0, lT, lT0, oTile, lTile, total, pPast, pHere, top, sPast, sDiag, oTile0, lTile0, total0, pHere0, top0, rowTop, rowSum, mixed, probs, causal, scores, rows, band]
  rfl

/-- The output's rows from row 1280 as the body stores them. -/
theorem o_1280 (x0 x1 : Vec Ideal (M2 2048 256) .bf16) (x2 : Vec Ideal (M2 2048 128) .bf16) : k0_pay64 (View.ld x0 r0_21) (View.ld x1 r0_22) (View.ld x1 r0_21) (View.ld x2 r0_23) (View.ld x2 r0_24) = oT x0 x1 x2 1280 (by decide) (by decide) span1280 := by
  simp only [k0_pay57, k0_pay58, k0_pay59, k0_pay60, k0_pay61, k0_pay62, k0_pay63, k0_pay64, shapeCast_self]
  simp only [oT, oT0, lT, lT0, oTile, lTile, total, pPast, pHere, top, sPast, sDiag, oTile0, lTile0, total0, pHere0, top0, rowTop, rowSum, mixed, probs, causal, scores, rows, band]
  rfl

/-- The output's rows from row 1024 as the body stores them. -/
theorem o_1024 (x0 x1 : Vec Ideal (M2 2048 256) .bf16) (x2 : Vec Ideal (M2 2048 128) .bf16) : k0_pay55 (k0_pay89 x0 x1 x2) (k0_pay90 x0 x1 x2) (k0_pay91 x0 x1 x2) (View.ld x2 r0_18) (View.ld x2 r0_19) = oT x0 x1 x2 1024 (by decide) (by decide) span1024 := by
  simp only [k0_pay46, k0_pay47, k0_pay48, k0_pay49, k0_pay50, k0_pay51, k0_pay52, k0_pay53, k0_pay54, k0_pay55, k0_pay89, k0_pay90, k0_pay91, shapeCast_self]
  simp only [oT, oT0, lT, lT0, oTile, lTile, total, pPast, pHere, top, sPast, sDiag, oTile0, lTile0, total0, pHere0, top0, rowTop, rowSum, mixed, probs, causal, scores, rows, band]
  rfl

/-- The output's rows from row 768 as the body stores them. -/
theorem o_768 (x0 x1 : Vec Ideal (M2 2048 256) .bf16) (x2 : Vec Ideal (M2 2048 128) .bf16) : k0_pay44 (k0_pay86 x0 x1 x2) (k0_pay87 x0 x1 x2) (k0_pay40 (View.ld x0 r0_11) (View.ld x1 r0_12) (View.ld x1 r0_11)) (k0_pay88 x0 x1 x2) (View.ld x2 r0_13) (View.ld x2 r0_14) = oT x0 x1 x2 768 (by decide) (by decide) span768 := by
  simp only [k0_pay36, k0_pay37, k0_pay38, k0_pay39, k0_pay40, k0_pay41, k0_pay42, k0_pay43, k0_pay44, k0_pay86, k0_pay87, k0_pay88, shapeCast_self]
  simp only [oT, oT0, lT, lT0, oTile, lTile, total, pPast, pHere, top, sPast, sDiag, oTile0, lTile0, total0, pHere0, top0, rowTop, rowSum, mixed, probs, causal, scores, rows, band]
  rfl

/-- The output's rows from row 512 as the body stores them. -/
theorem o_512 (x0 x1 : Vec Ideal (M2 2048 256) .bf16) (x2 : Vec Ideal (M2 2048 128) .bf16) : k0_pay34 (k0_pay84 x0 x1 x2) (k0_pay29 (View.ld x0 r0_6) (View.ld x1 r0_7) (View.ld x1 r0_6) (View.ld x2 r0_8)) (k0_pay85 x0 x1 x2) (k0_pay32 (View.ld x0 r0_6) (View.ld x1 r0_7) (View.ld x1 r0_6)) (View.ld x2 r0_9) = oT x0 x1 x2 512 (by decide) (by decide) span512 := by
  simp only [k0_pay23, k0_pay24, k0_pay25, k0_pay26, k0_pay27, k0_pay28, k0_pay29, k0_pay30, k0_pay31, k0_pay32, k0_pay33, k0_pay34, k0_pay84, k0_pay85, shapeCast_self]
  simp only [oT, oT0, lT, lT0, oTile, lTile, total, pPast, pHere, top, sPast, sDiag, oTile0, lTile0, total0, pHere0, top0, rowTop, rowSum, mixed, probs, causal, scores, rows, band]
  rfl

/-- The output's rows from row 256 as the body stores them. -/
theorem o_256 (x0 x1 : Vec Ideal (M2 2048 256) .bf16) (x2 : Vec Ideal (M2 2048 128) .bf16) : k0_pay19 (k0_pay83 x0 x1 x2) (View.ld x1 r0_0) (View.ld x1 r0_3) (View.ld x2 r0_1) (View.ld x2 r0_4) = oT x0 x1 x2 256 (by decide) (by decide) span256 := by
  simp only [k0_pay12, k0_pay13, k0_pay14, k0_pay15, k0_pay16, k0_pay17, k0_pay18, k0_pay19, k0_pay83, shapeCast_self]
  simp only [oT, oT0, lT, lT0, oTile, lTile, total, pPast, pHere, top, sPast, sDiag, oTile0, lTile0, total0, pHere0, top0, rowTop, rowSum, mixed, probs, causal, scores, rows, band]
  rfl

/-- The output's rows from row 0 as the body stores them. -/
theorem o_0 (x0 x1 : Vec Ideal (M2 2048 256) .bf16) (x2 : Vec Ideal (M2 2048 128) .bf16) : k0_pay10 (View.ld x0 r0_0) (View.ld x1 r0_0) (View.ld x2 r0_1) = oT0 x0 x1 x2 := by
  simp only [k0_pay6, k0_pay7, k0_pay8, k0_pay9, k0_pay10, shapeCast_self]
  simp only [oT, oT0, lT, lT0, oTile, lTile, total, pPast, pHere, top, sPast, sDiag, oTile0, lTile0, total0, pHere0, top0, rowTop, rowSum, mixed, probs, causal, scores, rows, band]
  rfl

/-- The rows' logarithms from row 1792 as the body stores them. -/
theorem l_1792 (x0 x1 : Vec Ideal (M2 2048 256) .bf16) (x2 : Vec Ideal (M2 2048 128) .bf16) : k0_pay5 (k0_pay94 x0 x1 x2) (k0_pay95 x0 x1 x2) (k0_pay96 x0 x1 x2) = lT x0 x1 1792 (by decide) (by decide) span1792 := by
  simp only [k0_pay1, k0_pay2, k0_pay3, k0_pay5, k0_pay78, k0_pay79, k0_pay80, k0_pay81, k0_pay82, k0_pay94, k0_pay95, k0_pay96, shapeCast_self]
  simp only [oT, oT0, lT, lT0, oTile, lTile, total, pPast, pHere, top, sPast, sDiag, oTile0, lTile0, total0, pHere0, top0, rowTop, rowSum, mixed, probs, causal, scores, rows, band]
  rfl

/-- The rows' logarithms from row 1536 as the body stores them. -/
theorem l_1536 (x0 x1 : Vec Ideal (M2 2048 256) .bf16) (x2 : Vec Ideal (M2 2048 128) .bf16) : k0_pay77 (k0_pay69 (View.ld x0 r0_26) (View.ld x1 r0_27) (View.ld x1 r0_26)) (k0_pay92 x0 x1 x2) (k0_pay93 x0 x1 x2) = lT x0 x1 1536 (by decide) (by decide) span1536 := by
  simp only [k0_pay66, k0_pay67, k0_pay68, k0_pay69, k0_pay70, k0_pay71, k0_pay73, k0_pay74, k0_pay75, k0_pay77, k0_pay92, k0_pay93, shapeCast_self]
  simp only [oT, oT0, lT, lT0, oTile, lTile, total, pPast, pHere, top, sPast, sDiag, oTile0, lTile0, total0, pHere0, top0, rowTop, rowSum, mixed, probs, causal, scores, rows, band]
  rfl

/-- The rows' logarithms from row 1280 as the body stores them. -/
theorem l_1280 (x0 x1 : Vec Ideal (M2 2048 256) .bf16) (x2 : Vec Ideal (M2 2048 128) .bf16) : k0_pay65 (k0_pay60 (View.ld x0 r0_21) (View.ld x1 r0_22) (View.ld x1 r0_21)) (k0_pay63 (View.ld x0 r0_21) (View.ld x1 r0_22) (View.ld x1 r0_21)) = lT x0 x1 1280 (by decide) (by decide) span1280 := by
  simp only [k0_pay57, k0_pay58, k0_pay59, k0_pay60, k0_pay61, k0_pay62, k0_pay63, k0_pay65, shapeCast_self]
  simp only [oT, oT0, lT, lT0, oTile, lTile, total, pPast, pHere, top, sPast, sDiag, oTile0, lTile0, total0, pHere0, top0, rowTop, rowSum, mixed, probs, causal, scores, rows, band]
  rfl

/-- The rows' logarithms from row 1024 as the body stores them. -/
theorem l_1024 (x0 x1 : Vec Ideal (M2 2048 256) .bf16) (x2 : Vec Ideal (M2 2048 128) .bf16) : k0_pay56 (k0_pay89 x0 x1 x2) (k0_pay90 x0 x1 x2) (k0_pay91 x0 x1 x2) = lT x0 x1 1024 (by decide) (by decide) span1024 := by
  simp only [k0_pay46, k0_pay47, k0_pay48, k0_pay49, k0_pay50, k0_pay51, k0_pay52, k0_pay53, k0_pay54, k0_pay56, k0_pay89, k0_pay90, k0_pay91, shapeCast_self]
  simp only [oT, oT0, lT, lT0, oTile, lTile, total, pPast, pHere, top, sPast, sDiag, oTile0, lTile0, total0, pHere0, top0, rowTop, rowSum, mixed, probs, causal, scores, rows, band]
  rfl

/-- The rows' logarithms from row 768 as the body stores them. -/
theorem l_768 (x0 x1 : Vec Ideal (M2 2048 256) .bf16) (x2 : Vec Ideal (M2 2048 128) .bf16) : k0_pay45 (k0_pay86 x0 x1 x2) (k0_pay87 x0 x1 x2) (k0_pay88 x0 x1 x2) = lT x0 x1 768 (by decide) (by decide) span768 := by
  simp only [k0_pay36, k0_pay37, k0_pay38, k0_pay39, k0_pay40, k0_pay41, k0_pay42, k0_pay43, k0_pay45, k0_pay86, k0_pay87, k0_pay88, shapeCast_self]
  simp only [oT, oT0, lT, lT0, oTile, lTile, total, pPast, pHere, top, sPast, sDiag, oTile0, lTile0, total0, pHere0, top0, rowTop, rowSum, mixed, probs, causal, scores, rows, band]
  rfl

/-- The rows' logarithms from row 512 as the body stores them. -/
theorem l_512 (x0 x1 : Vec Ideal (M2 2048 256) .bf16) (x2 : Vec Ideal (M2 2048 128) .bf16) : k0_pay35 (k0_pay26 (View.ld x0 r0_6) (View.ld x1 r0_7) (View.ld x1 r0_6)) (k0_pay84 x0 x1 x2) (k0_pay85 x0 x1 x2) = lT x0 x1 512 (by decide) (by decide) span512 := by
  simp only [k0_pay23, k0_pay24, k0_pay25, k0_pay26, k0_pay27, k0_pay28, k0_pay30, k0_pay31, k0_pay33, k0_pay35, k0_pay84, k0_pay85, shapeCast_self]
  simp only [oT, oT0, lT, lT0, oTile, lTile, total, pPast, pHere, top, sPast, sDiag, oTile0, lTile0, total0, pHere0, top0, rowTop, rowSum, mixed, probs, causal, scores, rows, band]
  rfl

/-- The rows' logarithms from row 256 as the body stores them. -/
theorem l_256 (x0 x1 : Vec Ideal (M2 2048 256) .bf16) (x2 : Vec Ideal (M2 2048 128) .bf16) : k0_pay22 (k0_pay15 (k0_pay83 x0 x1 x2) (View.ld x1 r0_0) (View.ld x1 r0_3)) (k0_pay20 (k0_pay83 x0 x1 x2) (View.ld x1 r0_0) (View.ld x1 r0_3)) (k0_pay21 (F := Ideal)) = lT x0 x1 256 (by decide) (by decide) span256 := by
  simp only [k0_pay12, k0_pay13, k0_pay14, k0_pay15, k0_pay16, k0_pay17, k0_pay18, k0_pay20, k0_pay21, k0_pay22, k0_pay83, shapeCast_self]
  simp only [oT, oT0, lT, lT0, oTile, lTile, total, pPast, pHere, top, sPast, sDiag, oTile0, lTile0, total0, pHere0, top0, rowTop, rowSum, mixed, probs, causal, scores, rows, band]
  rfl

/-- The rows' logarithms from row 0 as the body stores them. -/
theorem l_0 (x0 x1 : Vec Ideal (M2 2048 256) .bf16) (x2 : Vec Ideal (M2 2048 128) .bf16) : k0_pay11 (View.ld x0 r0_0) (View.ld x1 r0_0) = lT0 x0 x1 := by
  simp only [k0_pay6, k0_pay7, k0_pay8, k0_pay9, k0_pay11, shapeCast_self]
  simp only [oT, oT0, lT, lT0, oTile, lTile, total, pPast, pHere, top, sPast, sDiag, oTile0, lTile0, total0, pHere0, top0, rowTop, rowSum, mixed, probs, causal, scores, rows, band]
  rfl

/-- What the body leaves of the output. -/
theorem out_o (x0 x1 : Vec Ideal (M2 2048 256) .bf16) (x2 : Vec Ideal (M2 2048 128) .bf16) : out0_3 x0 x1 x2 =
    View.canon [⟨band 2048 128 1792 256 (by decide), oT x0 x1 x2 1792 (by decide) (by decide) span1792⟩,
      ⟨band 2048 128 1536 256 (by decide), oT x0 x1 x2 1536 (by decide) (by decide) span1536⟩,
      ⟨band 2048 128 1280 256 (by decide), oT x0 x1 x2 1280 (by decide) (by decide) span1280⟩,
      ⟨band 2048 128 1024 256 (by decide), oT x0 x1 x2 1024 (by decide) (by decide) span1024⟩,
      ⟨band 2048 128 768 256 (by decide), oT x0 x1 x2 768 (by decide) (by decide) span768⟩,
      ⟨band 2048 128 512 256 (by decide), oT x0 x1 x2 512 (by decide) (by decide) span512⟩,
      ⟨band 2048 128 256 256 (by decide), oT x0 x1 x2 256 (by decide) (by decide) span256⟩,
      ⟨band 2048 128 0 256 (by decide), oT0 x0 x1 x2⟩] := by
  unfold out0_3
  rw [o_1792, o_1536, o_1280, o_1024, o_768, o_512, o_256, o_0]

/-- What the body leaves of the logarithms. -/
theorem out_l (x0 x1 : Vec Ideal (M2 2048 256) .bf16) (x2 : Vec Ideal (M2 2048 128) .bf16) : out0_4 x0 x1 x2 =
    View.canon [⟨Rect.unit (s := M3 2048) ![0, 1792, 0] (M3 256).size (inRows3 (by decide)), lT x0 x1 1792 (by decide) (by decide) span1792⟩,
      ⟨Rect.unit (s := M3 2048) ![0, 1536, 0] (M3 256).size (inRows3 (by decide)), lT x0 x1 1536 (by decide) (by decide) span1536⟩,
      ⟨Rect.unit (s := M3 2048) ![0, 1280, 0] (M3 256).size (inRows3 (by decide)), lT x0 x1 1280 (by decide) (by decide) span1280⟩,
      ⟨Rect.unit (s := M3 2048) ![0, 1024, 0] (M3 256).size (inRows3 (by decide)), lT x0 x1 1024 (by decide) (by decide) span1024⟩,
      ⟨Rect.unit (s := M3 2048) ![0, 768, 0] (M3 256).size (inRows3 (by decide)), lT x0 x1 768 (by decide) (by decide) span768⟩,
      ⟨Rect.unit (s := M3 2048) ![0, 512, 0] (M3 256).size (inRows3 (by decide)), lT x0 x1 512 (by decide) (by decide) span512⟩,
      ⟨Rect.unit (s := M3 2048) ![0, 256, 0] (M3 256).size (inRows3 (by decide)), lT x0 x1 256 (by decide) (by decide) span256⟩,
      ⟨Rect.unit (s := M3 2048) ![0, 0, 0] (M3 256).size (inRows3 (by decide)), lT0 x0 x1⟩] := by
  unfold out0_4
  rw [l_1792 x0 x1 x2, l_1536 x0 x1 x2, l_1280 x0 x1 x2, l_1024 x0 x1 x2, l_768 x0 x1 x2, l_512 x0 x1 x2, l_256 x0 x1 x2, l_0 x0 x1 x2]

section
variable {x0 x1 : Vec Ideal (M2 2048 256) .bf16} {x2 : Vec Ideal (M2 2048 128) .bf16} {Q K : ℕ → ℕ → ℝ} {V : ℕ → ℕ → EReal}

/-- The output, entry by entry. -/
theorem o_apply (H : FReals x0 x1 x2 Q K V) (i : Fin 2048) (e : Fin 128) : out0_3 x0 x1 x2 (ix2 i e)
    = ∑ j : Fin 2048, V j e * ((fw (D := 256) Q K 0 i j / fden (D := 256) Q K 2048 i : ℝ) : EReal) := by
  rw [out_o]
  refine canon_rows 1792 256 _ _ _ i e _ (fun r hr => ?_) fun h1792 => ?_
  · rw [hr]; exact oTile_apply H mask_val 1792 256 _ _ ok span1792 span256 (by decide) r e
  refine canon_rows 1536 256 _ _ _ i e _ (fun r hr => ?_) fun h1536 => ?_
  · rw [hr]; exact oTile_apply H mask_val 1536 256 _ _ ok span1536 span256 (by decide) r e
  refine canon_rows 1280 256 _ _ _ i e _ (fun r hr => ?_) fun h1280 => ?_
  · rw [hr]; exact oTile_apply H mask_val 1280 256 _ _ ok span1280 span256 (by decide) r e
  refine canon_rows 1024 256 _ _ _ i e _ (fun r hr => ?_) fun h1024 => ?_
  · rw [hr]; exact oTile_apply H mask_val 1024 256 _ _ ok span1024 span256 (by decide) r e
  refine canon_rows 768 256 _ _ _ i e _ (fun r hr => ?_) fun h768 => ?_
  · rw [hr]; exact oTile_apply H mask_val 768 256 _ _ ok span768 span256 (by decide) r e
  refine canon_rows 512 256 _ _ _ i e _ (fun r hr => ?_) fun h512 => ?_
  · rw [hr]; exact oTile_apply H mask_val 512 256 _ _ ok span512 span256 (by decide) r e
  refine canon_rows 256 256 _ _ _ i e _ (fun r hr => ?_) fun h256 => ?_
  · rw [hr]; exact oTile_apply H mask_val 256 256 _ _ ok span256 span256 (by decide) r e
  refine canon_rows 0 256 _ _ _ i e _ (fun r hr => ?_) fun h0 => ?_
  · rw [hr]; exact oTile0_apply H mask_val 256 ok span256 (by decide) r _ e
  exfalso; omega

/-- The logarithms, row by row. -/
theorem l_apply (H : FReals x0 x1 x2 Q K V) (i : Fin 2048) : out0_4 x0 x1 x2 (ix3 0 i 0)
    = ((Real.log (fden (D := 256) Q K 2048 i) / Real.log 2 : ℝ) : EReal) := by
  rw [out_l]
  refine canon_rows3 1792 256 (by decide) _ _ i _ (fun r hr => ?_) fun h1792 => ?_
  · rw [hr]; exact lTile_apply H mask_val inv_val 1792 256 _ _ ok span1792 span256 (by decide) r
  refine canon_rows3 1536 256 (by decide) _ _ i _ (fun r hr => ?_) fun h1536 => ?_
  · rw [hr]; exact lTile_apply H mask_val inv_val 1536 256 _ _ ok span1536 span256 (by decide) r
  refine canon_rows3 1280 256 (by decide) _ _ i _ (fun r hr => ?_) fun h1280 => ?_
  · rw [hr]; exact lTile_apply H mask_val inv_val 1280 256 _ _ ok span1280 span256 (by decide) r
  refine canon_rows3 1024 256 (by decide) _ _ i _ (fun r hr => ?_) fun h1024 => ?_
  · rw [hr]; exact lTile_apply H mask_val inv_val 1024 256 _ _ ok span1024 span256 (by decide) r
  refine canon_rows3 768 256 (by decide) _ _ i _ (fun r hr => ?_) fun h768 => ?_
  · rw [hr]; exact lTile_apply H mask_val inv_val 768 256 _ _ ok span768 span256 (by decide) r
  refine canon_rows3 512 256 (by decide) _ _ i _ (fun r hr => ?_) fun h512 => ?_
  · rw [hr]; exact lTile_apply H mask_val inv_val 512 256 _ _ ok span512 span256 (by decide) r
  refine canon_rows3 256 256 (by decide) _ _ i _ (fun r hr => ?_) fun h256 => ?_
  · rw [hr]; exact lTile_apply H mask_val inv_val 256 256 _ _ ok span256 span256 (by decide) r
  refine canon_rows3 0 256 (by decide) _ _ i _ (fun r hr => ?_) fun h0 => ?_
  · rw [hr]; exact lTile0_apply H mask_val inv_val 256 ok span256 (by decide) r _
  exfalso; omega

end

end Cert.Kernel34Ideal.FwdBlock

end
-- ==== Proof.Block.lean ====
/- The tiles of one head of the attention's backward pass as the kernel's body forms them: the rows' dots, the gradient of
   the output, and for each block of 256 keys the diagonal tile and the tile of all later rows. -/
module

public import proofs.«01_k».proof.Proof.Tiles
public import proofs.«01_k».proof.Proof.Gen.KernelIdeal.Value

@[expose] public section

set_option maxRecDepth 16384

noncomputable section

namespace Cert.KernelIdeal.Block

open Idealize.ShloMosaic Idealize.ShloMosaic.TcCoe Idealize.SL.Sem Cert.KernelIdeal Cert.KernelIdeal.Gen Attn

/-- The rows' dots of the output with its gradient. -/
def dots (x3 x4 : Vec Ideal (M2 2048 128) .bf16) : Vec Ideal (M2 2048 1) .f32 := k0_pay2 x4 x3

/-- The value written above the diagonal. -/
abbrev maskv : Ideal .f32 := Named.named κ "mask" 0xF149F2CA#32
/-- The scale of the scores. -/
abbrev scalev : Ideal .f32 := Scalar.ofBits .f32 0x3D93CD3A#32
/-- The factor that turns a derivative by a base-two exponent into one by the exponent. -/
abbrev ln2v : Ideal .f32 := Named.named κ "ln2" 0x3F317218#32

theorem iota0 : (M2 256 256).Iotas .tc 32 [0] := by decide
theorem iota1 : (M2 256 256).Iotas .tc 32 [1] := by decide
theorem narrow : FTy.bits .bf16 < FTy.bits .f32 := by decide
theorem ok256 : TileOk 256 256 := ⟨by decide, by decide⟩
theorem ok512 : TileOk 512 256 := ⟨by decide, by decide⟩
theorem ok768 : TileOk 768 256 := ⟨by decide, by decide⟩
theorem ok1024 : TileOk 1024 256 := ⟨by decide, by decide⟩
theorem ok1280 : TileOk 1280 256 := ⟨by decide, by decide⟩
theorem ok1536 : TileOk 1536 256 := ⟨by decide, by decide⟩
theorem ok1792 : TileOk 1792 256 := ⟨by decide, by decide⟩

section
variable (x0 x1 : Vec Ideal (M2 2048 256) .bf16) (x2 x3 x4 : Vec Ideal (M2 2048 128) .bf16) (x5 : Vec Ideal (M3 2048) .f32)

/-- Probabilities of the diagonal tile at row `a`. -/
def pM (a : ℕ) (h : a + 256 ≤ 2048) : FVec Ideal (M2 256 256) .f32 := pDiag x0 x1 x5 maskv a 256 h h ok256 iota0 iota1
/-- Probabilities of the `n` rows from row `a` and the keys from `b`. -/
def pR (a n b : ℕ) (ha : a + n ≤ 2048) (hb : b + 256 ≤ 2048) (ok : TileOk n 256) : FVec Ideal (M2 n 256) .f32 := pRest x0 x1 x5 a n b 256 ha hb ok
/-- The gradient of the scores of the diagonal tile at row `a`. -/
def dsM (a : ℕ) (h : a + 256 ≤ 2048) : FVec Ideal (M2 256 256) .bf16 :=
  dsTile x2 x4 (dots x3 x4) a 256 a 256 (pM x0 x1 x5 a h) h h ok256 narrow
/-- The gradient of the scores of the `n` rows from row `a` and the keys from `b`. -/
def dsR (a n b : ℕ) (ha : a + n ≤ 2048) (hb : b + 256 ≤ 2048) (ok : TileOk n 256) : FVec Ideal (M2 n 256) .bf16 :=
  dsTile x2 x4 (dots x3 x4) a n b 256 (pR x0 x1 x5 a n b ha hb ok) ha hb ok narrow
/-- The diagonal tile's share of the gradient of the queries. -/
def dqM (a : ℕ) (h : a + 256 ≤ 2048) : FVec Ideal (M2 256 256) .f32 := overKeys (dsM x0 x1 x2 x3 x4 x5 a h) (rows x1 a 256 h) scalev
/-- The share of the gradient of the queries of the `n` rows from row `a`, from the keys at `b`. -/
def dqR (a n b : ℕ) (ha : a + n ≤ 2048) (hb : b + 256 ≤ 2048) (ok : TileOk n 256) : FVec Ideal (M2 n 256) .f32 :=
  overKeys (dsR x0 x1 x2 x3 x4 x5 a n b ha hb ok) (rows x1 b 256 hb) scalev
/-- The gradient of 256 keys from row `b`: the diagonal tile and the `n` later rows. -/
def dkT (b n : ℕ) (hb : b + 256 ≤ 2048) (ha : b + 256 + n ≤ 2048) (ok : TileOk n 256) : FVec Ideal (M2 256 256) .bf16 :=
  truncf .bf16 (mulf (addf (overRows (dsM x0 x1 x2 x3 x4 x5 b hb) (rows x0 b 256 hb))
    (overRows (dsR x0 x1 x2 x3 x4 x5 (b + 256) n b ha hb ok) (rows x0 (b + 256) n ha))) (broadcast _ ln2v)) narrow
/-- The gradient of the last 256 keys: the diagonal tile alone. -/
def dkLast : FVec Ideal (M2 256 256) .bf16 :=
  truncf .bf16 (mulf (overRows (dsM x0 x1 x2 x3 x4 x5 1792 (by decide)) (rows x0 1792 256 (by decide))) (broadcast _ ln2v)) narrow
/-- The gradient of 256 values from row `b`. -/
def dvT (b n : ℕ) (hb : b + 256 ≤ 2048) (ha : b + 256 + n ≤ 2048) (ok : TileOk n 256) : FVec Ideal (M2 256 128) .bf16 :=
  truncf .bf16 (addf (overRows (truncf .bf16 (pM x0 x1 x5 b hb) narrow) (rows x4 b 256 hb))
    (overRows (truncf .bf16 (pR x0 x1 x5 (b + 256) n b ha hb ok) narrow) (rows x4 (b + 256) n ha))) narrow
/-- The gradient of the last 256 values. -/
def dvLast : FVec Ideal (M2 256 128) .bf16 :=
  truncf .bf16 (overRows (truncf .bf16 (pM x0 x1 x5 1792 (by decide)) narrow) (rows x4 1792 256 (by decide))) narrow

end

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2048x1 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x1 .f32) (harg11 : arg11.IsWhole) (arg12 : Memref sig .tc .vmem S2048x128 .bf16) (harg12 : arg12.IsWhole) (arg13 : Memref sig .tc .vmem S2048x256 .f32) (harg13 : arg13.IsWhole)     (x0 : Vec Ideal S2048x256 .bf16) (x1 : Vec Ideal S2048x256 .bf16) (x2 : Vec Ideal S2048x128 .bf16) (x3 : Vec Ideal S2048x128 .bf16) (x4 : Vec Ideal S2048x128 .bf16) (x5 : Vec Ideal S1x2048x1 .f32)

/-- The copy of the output's gradient the body works from is that gradient. -/
theorem read_g (B : Rect (M2 2048 128)) :
    arg12.view.readCov (kernelRun0_A.sl.HS1_1 c arg6 harg6 x4) B.toLoadRect = View.ld x4 B := by
  unfold kernelRun0_A.sl.HS1_1
  rw [View.readCov_eq_canon', View.canon_unit_zero (by decide)]
  unfold k0_pay3 k0_pay1
  simp only [View.readAt_eq_ld, Memref.IsWhole.read_unread, shapeCast_self, View.ld_unit_zero (off := ![0, 0]) (S := S2048x128) (by decide)]

/-- The column of rows' dots the body works from. -/
theorem read_d (B : Rect (M2 2048 1)) :
    arg11.view.readCov (kernelRun0_A.sl.HS0_1 c arg5 harg5 arg6 harg6 x3 x4) B.toLoadRect = View.ld (dots x3 x4) B := by
  unfold kernelRun0_A.sl.HS0_1
  rw [View.readCov_eq_canon', View.canon_unit_zero (by decide)]
  simp only [View.readAt_eq_ld, Memref.IsWhole.read_unread, View.ld_unit_zero (off := ![0, 0]) (S := S2048x128) (by decide)]
  rfl

end Cert.KernelIdeal.Block

end
-- ==== Proof.Accumulate.lean ====
/- The accumulator of the gradient of the queries: each store of the body adds one tile's share to the rows it covers. -/
module

public import proofs.«01_k».proof.Proof.Block
public import proofs.«01_k».proof.Proof.Gen.KernelIdeal.Value

@[expose] public section

set_option maxRecDepth 16384

noncomputable section

namespace Cert.KernelIdeal.Block

open Idealize.ShloMosaic Idealize.ShloMosaic.TcCoe Idealize.SL.Sem Cert.KernelIdeal Cert.KernelIdeal.Gen Attn

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2048x1 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x1 .f32) (harg11 : arg11.IsWhole) (arg12 : Memref sig .tc .vmem S2048x128 .bf16) (harg12 : arg12.IsWhole) (arg13 : Memref sig .tc .vmem S2048x256 .f32) (harg13 : arg13.IsWhole)     (x0 : Vec Ideal S2048x256 .bf16) (x1 : Vec Ideal S2048x256 .bf16) (x2 : Vec Ideal S2048x128 .bf16) (x3 : Vec Ideal S2048x128 .bf16) (x4 : Vec Ideal S2048x128 .bf16) (x5 : Vec Ideal S1x2048x1 .f32)

/-- The accumulator of the gradient of the queries after the first block of keys. -/
theorem acc2 : kernelRun0_A.sl.HS2_2 c arg2 harg2 arg3 harg3 arg4 harg4 arg5 harg5 arg6 harg6 arg7 harg7 arg11 arg12 x0 x1 x2 x3 x4 x5 = [⟨band 2048 256 256 1792 (by decide), dqR x0 x1 x2 x3 x4 x5 256 1792 0 (by decide) (by decide) ok1792⟩, ⟨band 2048 256 0 256 (by decide), dqM x0 x1 x2 x3 x4 x5 0 (by decide)⟩] := by
  unfold kernelRun0_A.sl.HS2_2
  simp only [kernelRun0_A.sl.cst_20, kernelRun0_A.sl.cst_26, kernelRun0_A.sl.cst_32, kernelRun0_A.sl.r, kernelRun0_A.sl.r_1, kernelRun0_A.sl.r_3, kernelRun0_A.sl.v21, kernelRun0_A.sl.v33, kernelRun0_A.sl.v34, kernelRun0_A.sl.v35, kernelRun0_A.sl.v36, kernelRun0_A.sl.v37, kernelRun0_A.sl.v38, kernelRun0_A.sl.v42, kernelRun0_A.sl.v43, kernelRun0_A.sl.v44, kernelRun0_A.sl.v47, kernelRun0_A.sl.v49, kernelRun0_A.sl.v50, kernelRun0_A.sl.v51, kernelRun0_A.sl.v53, kernelRun0_A.sl.v54, kernelRun0_A.sl.v55, kernelRun0_A.sl.v56, kernelRun0_A.sl.v57, kernelRun0_A.sl.v58, kernelRun0_A.sl.v59, kernelRun0_A.sl.v60, kernelRun0_A.sl.v61, kernelRun0_A.sl.v62, kernelRun0_A.sl.v68, k0_pay16, k0_pay4, k0_pay5, k0_pay6, k0_pay7, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the diagonal tile of the block of keys at 256. -/
theorem acc3 : kernelRun0_A.sl.HS2_3 c arg2 harg2 arg3 harg3 arg4 harg4 arg5 harg5 arg6 harg6 arg7 harg7 arg11 arg12 arg13 x0 x1 x2 x3 x4 x5 = ⟨band 2048 256 256 256 (by decide), addf (stored (kernelRun0_A.sl.HS2_2 c arg2 harg2 arg3 harg3 arg4 harg4 arg5 harg5 arg6 harg6 arg7 harg7 arg11 arg12 x0 x1 x2 x3 x4 x5) 256 256 (by decide)) (dqM x0 x1 x2 x3 x4 x5 256 (by decide))⟩ :: (kernelRun0_A.sl.HS2_2 c arg2 harg2 arg3 harg3 arg4 harg4 arg5 harg5 arg6 harg6 arg7 harg7 arg11 arg12 x0 x1 x2 x3 x4 x5) := by
  unfold kernelRun0_A.sl.HS2_3
  simp only [kernelRun0_A.sl.cst_20, kernelRun0_A.sl.cst_26, kernelRun0_A.sl.r_4, kernelRun0_A.sl.r_8, kernelRun0_A.sl.v103, kernelRun0_A.sl.v107, kernelRun0_A.sl.v109, kernelRun0_A.sl.v110, kernelRun0_A.sl.v111, kernelRun0_A.sl.v114, kernelRun0_A.sl.v43, kernelRun0_A.sl.v86, kernelRun0_A.sl.v99, k0_pay19, k0_pay20, k0_pay21, k0_pay22, k0_pay23, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the later rows of the block of keys at 256. -/
theorem acc4 : kernelRun0_A.sl.HS2_4 c arg2 harg2 arg3 harg3 arg4 harg4 arg5 harg5 arg6 harg6 arg7 harg7 arg11 arg12 arg13 x0 x1 x2 x3 x4 x5 = ⟨band 2048 256 512 1536 (by decide), addf (stored (kernelRun0_A.sl.HS2_3 c arg2 harg2 arg3 harg3 arg4 harg4 arg5 harg5 arg6 harg6 arg7 harg7 arg11 arg12 arg13 x0 x1 x2 x3 x4 x5) 512 1536 (by decide)) (dqR x0 x1 x2 x3 x4 x5 512 1536 256 (by decide) (by decide) ok1536)⟩ :: (kernelRun0_A.sl.HS2_3 c arg2 harg2 arg3 harg3 arg4 harg4 arg5 harg5 arg6 harg6 arg7 harg7 arg11 arg12 arg13 x0 x1 x2 x3 x4 x5) := by
  unfold kernelRun0_A.sl.HS2_4
  simp only [kernelRun0_A.sl.cst_26, kernelRun0_A.sl.cst_77, kernelRun0_A.sl.r_4, kernelRun0_A.sl.r_5, kernelRun0_A.sl.v116, kernelRun0_A.sl.v117, kernelRun0_A.sl.v118, kernelRun0_A.sl.v120, kernelRun0_A.sl.v121, kernelRun0_A.sl.v122, kernelRun0_A.sl.v123, kernelRun0_A.sl.v124, kernelRun0_A.sl.v125, kernelRun0_A.sl.v126, kernelRun0_A.sl.v127, kernelRun0_A.sl.v128, kernelRun0_A.sl.v129, kernelRun0_A.sl.v135, kernelRun0_A.sl.v136, kernelRun0_A.sl.v137, kernelRun0_A.sl.v138, k0_pay19, k0_pay20, k0_pay32, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the diagonal tile of the block of keys at 512. -/
theorem acc5 : kernelRun0_A.sl.HS2_5 c arg2 harg2 arg3 harg3 arg4 harg4 arg5 harg5 arg6 harg6 arg7 harg7 arg11 arg12 arg13 x0 x1 x2 x3 x4 x5 = ⟨band 2048 256 512 256 (by decide), addf (stored (kernelRun0_A.sl.HS2_4 c arg2 harg2 arg3 harg3 arg4 harg4 arg5 harg5 arg6 harg6 arg7 harg7 arg11 arg12 arg13 x0 x1 x2 x3 x4 x5) 512 256 (by decide)) (dqM x0 x1 x2 x3 x4 x5 512 (by decide))⟩ :: (kernelRun0_A.sl.HS2_4 c arg2 harg2 arg3 harg3 arg4 harg4 arg5 harg5 arg6 harg6 arg7 harg7 arg11 arg12 arg13 x0 x1 x2 x3 x4 x5) := by
  unfold kernelRun0_A.sl.HS2_5
  simp only [kernelRun0_A.sl.cst_20, kernelRun0_A.sl.cst_26, kernelRun0_A.sl.r_12, kernelRun0_A.sl.r_13, kernelRun0_A.sl.r_9, kernelRun0_A.sl.v155, kernelRun0_A.sl.v168, kernelRun0_A.sl.v171, kernelRun0_A.sl.v172, kernelRun0_A.sl.v176, kernelRun0_A.sl.v178, kernelRun0_A.sl.v179, kernelRun0_A.sl.v180, kernelRun0_A.sl.v183, kernelRun0_A.sl.v43, k0_pay35, k0_pay36, k0_pay37, k0_pay38, k0_pay39, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the later rows of the block of keys at 512. -/
theorem acc6 : kernelRun0_A.sl.HS2_6 c arg2 harg2 arg3 harg3 arg4 harg4 arg5 harg5 arg6 harg6 arg7 harg7 arg11 arg12 arg13 x0 x1 x2 x3 x4 x5 = ⟨band 2048 256 768 1280 (by decide), addf (stored (kernelRun0_A.sl.HS2_5 c arg2 harg2 arg3 harg3 arg4 harg4 arg5 harg5 arg6 harg6 arg7 harg7 arg11 arg12 arg13 x0 x1 x2 x3 x4 x5) 768 1280 (by decide)) (dqR x0 x1 x2 x3 x4 x5 768 1280 512 (by decide) (by decide) ok1280)⟩ :: (kernelRun0_A.sl.HS2_5 c arg2 harg2 arg3 harg3 arg4 harg4 arg5 harg5 arg6 harg6 arg7 harg7 arg11 arg12 arg13 x0 x1 x2 x3 x4 x5) := by
  unfold kernelRun0_A.sl.HS2_6
  simp only [kernelRun0_A.sl.cst_124, kernelRun0_A.sl.cst_26, kernelRun0_A.sl.r_10, kernelRun0_A.sl.r_9, kernelRun0_A.sl.v185, kernelRun0_A.sl.v186, kernelRun0_A.sl.v187, kernelRun0_A.sl.v189, kernelRun0_A.sl.v190, kernelRun0_A.sl.v191, kernelRun0_A.sl.v192, kernelRun0_A.sl.v193, kernelRun0_A.sl.v194, kernelRun0_A.sl.v195, kernelRun0_A.sl.v196, kernelRun0_A.sl.v197, kernelRun0_A.sl.v198, kernelRun0_A.sl.v204, kernelRun0_A.sl.v205, kernelRun0_A.sl.v206, kernelRun0_A.sl.v207, k0_pay35, k0_pay36, k0_pay48, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the diagonal tile of the block of keys at 768. -/
theorem acc7 : kernelRun0_A.sl.HS2_7 c arg2 harg2 arg3 harg3 arg4 harg4 arg5 harg5 arg6 harg6 arg7 harg7 arg11 arg12 arg13 x0 x1 x2 x3 x4 x5 = ⟨band 2048 256 768 256 (by decide), addf (stored (kernelRun0_A.sl.HS2_6 c arg2 harg2 arg3 harg3 arg4 harg4 arg5 harg5 arg6 harg6 arg7 harg7 arg11 arg12 arg13 x0 x1 x2 x3 x4 x5) 768 256 (by decide)) (dqM x0 x1 x2 x3 x4 x5 768 (by decide))⟩ :: (kernelRun0_A.sl.HS2_6 c arg2 harg2 arg3 harg3 arg4 harg4 arg5 harg5 arg6 harg6 arg7 harg7 arg11 arg12 arg13 x0 x1 x2 x3 x4 x5) := by
  unfold kernelRun0_A.sl.HS2_7
  simp only [kernelRun0_A.sl.cst_20, kernelRun0_A.sl.cst_26, kernelRun0_A.sl.r_14, kernelRun0_A.sl.r_17, kernelRun0_A.sl.r_18, kernelRun0_A.sl.r_19, kernelRun0_A.sl.v224, kernelRun0_A.sl.v237, kernelRun0_A.sl.v239, kernelRun0_A.sl.v240, kernelRun0_A.sl.v241, kernelRun0_A.sl.v245, kernelRun0_A.sl.v247, kernelRun0_A.sl.v248, kernelRun0_A.sl.v249, kernelRun0_A.sl.v252, kernelRun0_A.sl.v43, k0_pay51, k0_pay52, k0_pay53, k0_pay54, k0_pay55, k0_pay56, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the later rows of the block of keys at 768. -/
theorem acc8 : kernelRun0_A.sl.HS2_8 c arg2 harg2 arg3 harg3 arg4 harg4 arg5 harg5 arg6 harg6 arg7 harg7 arg11 arg12 arg13 x0 x1 x2 x3 x4 x5 = ⟨band 2048 256 1024 1024 (by decide), addf (stored (kernelRun0_A.sl.HS2_7 c arg2 harg2 arg3 harg3 arg4 harg4 arg5 harg5 arg6 harg6 arg7 harg7 arg11 arg12 arg13 x0 x1 x2 x3 x4 x5) 1024 1024 (by decide)) (dqR x0 x1 x2 x3 x4 x5 1024 1024 768 (by decide) (by decide) ok1024)⟩ :: (kernelRun0_A.sl.HS2_7 c arg2 harg2 arg3 harg3 arg4 harg4 arg5 harg5 arg6 harg6 arg7 harg7 arg11 arg12 arg13 x0 x1 x2 x3 x4 x5) := by
  unfold kernelRun0_A.sl.HS2_8
  simp only [kernelRun0_A.sl.cst_171, kernelRun0_A.sl.cst_26, kernelRun0_A.sl.r_14, kernelRun0_A.sl.r_15, kernelRun0_A.sl.v254, kernelRun0_A.sl.v255, kernelRun0_A.sl.v256, kernelRun0_A.sl.v258, kernelRun0_A.sl.v259, kernelRun0_A.sl.v260, kernelRun0_A.sl.v261, kernelRun0_A.sl.v262, kernelRun0_A.sl.v263, kernelRun0_A.sl.v264, kernelRun0_A.sl.v265, kernelRun0_A.sl.v266, kernelRun0_A.sl.v267, kernelRun0_A.sl.v273, kernelRun0_A.sl.v274, kernelRun0_A.sl.v276, k0_pay51, k0_pay52, k0_pay66, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the diagonal tile of the block of keys at 1024. -/
theorem acc9 : kernelRun0_A.sl.HS2_9 c arg2 harg2 arg3 harg3 arg4 harg4 arg5 harg5 arg6 harg6 arg7 harg7 arg11 arg12 arg13 x0 x1 x2 x3 x4 x5 = ⟨band 2048 256 1024 256 (by decide), addf (stored (kernelRun0_A.sl.HS2_8 c arg2 harg2 arg3 harg3 arg4 harg4 arg5 harg5 arg6 harg6 arg7 harg7 arg11 arg12 arg13 x0 x1 x2 x3 x4 x5) 1024 256 (by decide)) (dqM x0 x1 x2 x3 x4 x5 1024 (by decide))⟩ :: (kernelRun0_A.sl.HS2_8 c arg2 harg2 arg3 harg3 arg4 harg4 arg5 harg5 arg6 harg6 arg7 harg7 arg11 arg12 arg13 x0 x1 x2 x3 x4 x5) := by
  unfold kernelRun0_A.sl.HS2_9
  simp only [kernelRun0_A.sl.cst_20, kernelRun0_A.sl.cst_26, kernelRun0_A.sl.r_20, kernelRun0_A.sl.r_23, kernelRun0_A.sl.r_24, kernelRun0_A.sl.v293, kernelRun0_A.sl.v306, kernelRun0_A.sl.v307, kernelRun0_A.sl.v308, kernelRun0_A.sl.v309, kernelRun0_A.sl.v310, kernelRun0_A.sl.v314, kernelRun0_A.sl.v316, kernelRun0_A.sl.v317, kernelRun0_A.sl.v318, kernelRun0_A.sl.v321, kernelRun0_A.sl.v43, k0_pay69, k0_pay70, k0_pay71, k0_pay72, k0_pay73, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the later rows of the block of keys at 1024. -/
theorem acc10 : kernelRun0_A.sl.HS2_10 c arg2 harg2 arg3 harg3 arg4 harg4 arg5 harg5 arg6 harg6 arg7 harg7 arg11 arg12 arg13 x0 x1 x2 x3 x4 x5 = ⟨band 2048 256 1280 768 (by decide), addf (stored (kernelRun0_A.sl.HS2_9 c arg2 harg2 arg3 harg3 arg4 harg4 arg5 harg5 arg6 harg6 arg7 harg7 arg11 arg12 arg13 x0 x1 x2 x3 x4 x5) 1280 768 (by decide)) (dqR x0 x1 x2 x3 x4 x5 1280 768 1024 (by decide) (by decide) ok768)⟩ :: (kernelRun0_A.sl.HS2_9 c arg2 harg2 arg3 harg3 arg4 harg4 arg5 harg5 arg6 harg6 arg7 harg7 arg11 arg12 arg13 x0 x1 x2 x3 x4 x5) := by
  unfold kernelRun0_A.sl.HS2_10
  simp only [kernelRun0_A.sl.cst_218, kernelRun0_A.sl.cst_26, kernelRun0_A.sl.r_20, kernelRun0_A.sl.r_21, kernelRun0_A.sl.v323, kernelRun0_A.sl.v324, kernelRun0_A.sl.v325, kernelRun0_A.sl.v327, kernelRun0_A.sl.v328, kernelRun0_A.sl.v329, kernelRun0_A.sl.v330, kernelRun0_A.sl.v331, kernelRun0_A.sl.v332, kernelRun0_A.sl.v333, kernelRun0_A.sl.v334, kernelRun0_A.sl.v335, kernelRun0_A.sl.v336, kernelRun0_A.sl.v342, kernelRun0_A.sl.v345, k0_pay69, k0_pay70, k0_pay82, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the diagonal tile of the block of keys at 1280. -/
theorem acc11 : kernelRun0_A.sl.HS2_11 c arg2 harg2 arg3 harg3 arg4 harg4 arg5 harg5 arg6 harg6 arg7 harg7 arg11 arg12 arg13 x0 x1 x2 x3 x4 x5 = ⟨band 2048 256 1280 256 (by decide), addf (stored (kernelRun0_A.sl.HS2_10 c arg2 harg2 arg3 harg3 arg4 harg4 arg5 harg5 arg6 harg6 arg7 harg7 arg11 arg12 arg13 x0 x1 x2 x3 x4 x5) 1280 256 (by decide)) (dqM x0 x1 x2 x3 x4 x5 1280 (by decide))⟩ :: (kernelRun0_A.sl.HS2_10 c arg2 harg2 arg3 harg3 arg4 harg4 arg5 harg5 arg6 harg6 arg7 harg7 arg11 arg12 arg13 x0 x1 x2 x3 x4 x5) := by
  unfold kernelRun0_A.sl.HS2_11
  simp only [kernelRun0_A.sl.cst_20, kernelRun0_A.sl.cst_26, kernelRun0_A.sl.r_25, kernelRun0_A.sl.r_28, kernelRun0_A.sl.r_29, kernelRun0_A.sl.v362, kernelRun0_A.sl.v375, kernelRun0_A.sl.v376, kernelRun0_A.sl.v377, kernelRun0_A.sl.v378, kernelRun0_A.sl.v379, kernelRun0_A.sl.v383, kernelRun0_A.sl.v385, kernelRun0_A.sl.v386, kernelRun0_A.sl.v387, kernelRun0_A.sl.v390, kernelRun0_A.sl.v43, k0_pay85, k0_pay86, k0_pay87, k0_pay88, k0_pay89, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the later rows of the block of keys at 1280. -/
theorem acc12 : kernelRun0_A.sl.HS2_12 c arg2 harg2 arg3 harg3 arg4 harg4 arg5 harg5 arg6 harg6 arg7 harg7 arg11 arg12 arg13 x0 x1 x2 x3 x4 x5 = ⟨band 2048 256 1536 512 (by decide), addf (stored (kernelRun0_A.sl.HS2_11 c arg2 harg2 arg3 harg3 arg4 harg4 arg5 harg5 arg6 harg6 arg7 harg7 arg11 arg12 arg13 x0 x1 x2 x3 x4 x5) 1536 512 (by decide)) (dqR x0 x1 x2 x3 x4 x5 1536 512 1280 (by decide) (by decide) ok512)⟩ :: (kernelRun0_A.sl.HS2_11 c arg2 harg2 arg3 harg3 arg4 harg4 arg5 harg5 arg6 harg6 arg7 harg7 arg11 arg12 arg13 x0 x1 x2 x3 x4 x5) := by
  unfold kernelRun0_A.sl.HS2_12
  simp only [kernelRun0_A.sl.cst_265, kernelRun0_A.sl.r_25, kernelRun0_A.sl.r_26, kernelRun0_A.sl.v392, kernelRun0_A.sl.v393, kernelRun0_A.sl.v394, kernelRun0_A.sl.v396, kernelRun0_A.sl.v397, kernelRun0_A.sl.v398, kernelRun0_A.sl.v399, kernelRun0_A.sl.v400, kernelRun0_A.sl.v401, kernelRun0_A.sl.v402, kernelRun0_A.sl.v403, kernelRun0_A.sl.v404, kernelRun0_A.sl.v405, kernelRun0_A.sl.v411, kernelRun0_A.sl.v414, k0_pay85, k0_pay86, k0_pay98, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the diagonal tile of the block of keys at 1536. -/
theorem acc13 : kernelRun0_A.sl.HS2_13 c arg2 harg2 arg3 harg3 arg4 harg4 arg5 harg5 arg6 harg6 arg7 harg7 arg11 arg12 arg13 x0 x1 x2 x3 x4 x5 = ⟨band 2048 256 1536 256 (by decide), addf (stored (kernelRun0_A.sl.HS2_12 c arg2 harg2 arg3 harg3 arg4 harg4 arg5 harg5 arg6 harg6 arg7 harg7 arg11 arg12 arg13 x0 x1 x2 x3 x4 x5) 1536 256 (by decide)) (dqM x0 x1 x2 x3 x4 x5 1536 (by decide))⟩ :: (kernelRun0_A.sl.HS2_12 c arg2 harg2 arg3 harg3 arg4 harg4 arg5 harg5 arg6 harg6 arg7 harg7 arg11 arg12 arg13 x0 x1 x2 x3 x4 x5) := by
  unfold kernelRun0_A.sl.HS2_13
  simp only [kernelRun0_A.sl.cst_20, kernelRun0_A.sl.cst_26, kernelRun0_A.sl.r_30, kernelRun0_A.sl.r_33, kernelRun0_A.sl.r_34, kernelRun0_A.sl.v43, kernelRun0_A.sl.v431, kernelRun0_A.sl.v444, kernelRun0_A.sl.v445, kernelRun0_A.sl.v446, kernelRun0_A.sl.v447, kernelRun0_A.sl.v448, kernelRun0_A.sl.v452, kernelRun0_A.sl.v454, kernelRun0_A.sl.v455, kernelRun0_A.sl.v456, kernelRun0_A.sl.v459, k0_pay101, k0_pay102, k0_pay103, k0_pay104, k0_pay105, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the later rows of the block of keys at 1536. -/
theorem acc14 : kernelRun0_A.sl.HS2_14 c arg2 harg2 arg3 harg3 arg4 harg4 arg5 harg5 arg6 harg6 arg7 harg7 arg11 arg12 arg13 x0 x1 x2 x3 x4 x5 = ⟨band 2048 256 1792 256 (by decide), addf (stored (kernelRun0_A.sl.HS2_13 c arg2 harg2 arg3 harg3 arg4 harg4 arg5 harg5 arg6 harg6 arg7 harg7 arg11 arg12 arg13 x0 x1 x2 x3 x4 x5) 1792 256 (by decide)) (dqR x0 x1 x2 x3 x4 x5 1792 256 1536 (by decide) (by decide) ok256)⟩ :: (kernelRun0_A.sl.HS2_13 c arg2 harg2 arg3 harg3 arg4 harg4 arg5 harg5 arg6 harg6 arg7 harg7 arg11 arg12 arg13 x0 x1 x2 x3 x4 x5) := by
  unfold kernelRun0_A.sl.HS2_14
  simp only [kernelRun0_A.sl.cst_20, kernelRun0_A.sl.r_30, kernelRun0_A.sl.r_31, kernelRun0_A.sl.v461, kernelRun0_A.sl.v462, kernelRun0_A.sl.v463, kernelRun0_A.sl.v465, kernelRun0_A.sl.v466, kernelRun0_A.sl.v467, kernelRun0_A.sl.v468, kernelRun0_A.sl.v469, kernelRun0_A.sl.v470, kernelRun0_A.sl.v471, kernelRun0_A.sl.v472, kernelRun0_A.sl.v473, kernelRun0_A.sl.v474, kernelRun0_A.sl.v483, k0_pay101, k0_pay102, k0_pay113, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

/-- The accumulator after the diagonal tile of the block of keys at 1792. -/
theorem acc15 : kernelRun0_A.sl.HS2_15 c arg2 harg2 arg3 harg3 arg4 harg4 arg5 harg5 arg6 harg6 arg7 harg7 arg11 arg12 arg13 x0 x1 x2 x3 x4 x5 = ⟨band 2048 256 1792 256 (by decide), addf (stored (kernelRun0_A.sl.HS2_14 c arg2 harg2 arg3 harg3 arg4 harg4 arg5 harg5 arg6 harg6 arg7 harg7 arg11 arg12 arg13 x0 x1 x2 x3 x4 x5) 1792 256 (by decide)) (dqM x0 x1 x2 x3 x4 x5 1792 (by decide))⟩ :: (kernelRun0_A.sl.HS2_14 c arg2 harg2 arg3 harg3 arg4 harg4 arg5 harg5 arg6 harg6 arg7 harg7 arg11 arg12 arg13 x0 x1 x2 x3 x4 x5) := by
  unfold kernelRun0_A.sl.HS2_15
  simp only [kernelRun0_A.sl.r_35, kernelRun0_A.sl.r_37, kernelRun0_A.sl.r_38, kernelRun0_A.sl.v500, kernelRun0_A.sl.v513, kernelRun0_A.sl.v524, k0_pay116, k0_pay117, k0_pay118, k0_pay119, k0_pay120, k0_pay121, View.readAt_eq_ld, Memref.IsWhole.read_unread, read_g, read_d, shapeCast_self]
  try simp only [View.readCov_eq_canon']
  simp only [dqM, dqR, dsM, dsR, pM, pR, pDiag, pRest, dsTile, overKeys, overRows, grads, probs, causal, scores, rows, rows3, stored, band]
  rfl

end Cert.KernelIdeal.Block

end
-- ==== Proof.Pieces.lean ====
/- What the body stores of the gradients of the keys and the values, 256 rows at a time, and what it leaves of all three gradients. -/
module

public import proofs.«01_k».proof.Proof.Block
public import proofs.«01_k».proof.Proof.Gen.KernelIdeal.Value

@[expose] public section

set_option maxRecDepth 16384

noncomputable section

namespace Cert.KernelIdeal.Block

open Idealize.ShloMosaic Idealize.ShloMosaic.TcCoe Idealize.SL.Sem Cert.KernelIdeal Cert.KernelIdeal.Gen Attn

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2048x1 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x1 .f32) (harg11 : arg11.IsWhole) (arg12 : Memref sig .tc .vmem S2048x128 .bf16) (harg12 : arg12.IsWhole) (arg13 : Memref sig .tc .vmem S2048x256 .f32) (harg13 : arg13.IsWhole)     (x0 : Vec Ideal S2048x256 .bf16) (x1 : Vec Ideal S2048x256 .bf16) (x2 : Vec Ideal S2048x128 .bf16) (x3 : Vec Ideal S2048x128 .bf16) (x4 : Vec Ideal S2048x128 .bf16) (x5 : Vec Ideal S1x2048x1 .f32)

/-- The gradient of the keys from row 1792 as the body stores it. -/
theorem dk_1792 : k0_pay122 (kernelRun0_A.sl.r_36 c arg2 harg2 x0) (kernelRun0_A.sl.r_37 c arg2 harg2 arg3 harg3 arg7 harg7 x0 x1 x5) (kernelRun0_A.sl.r_38 c arg4 harg4 arg6 harg6 arg12 x2 x4) (kernelRun0_A.sl.v513 c arg5 harg5 arg6 harg6 arg11 x3 x4) = dkLast x0 x1 x2 x3 x4 x5 := by
  simp only [kernelRun0_A.sl.r_36, kernelRun0_A.sl.r_37, kernelRun0_A.sl.r_38, kernelRun0_A.sl.v500, kernelRun0_A.sl.v513, k0_pay116, k0_pay117, k0_pay118, k0_pay119, k0_pay120, k0_pay122, View.readAt_eq_ld, Memref.IsWhole.read_unread, read_g, read_d, shapeCast_self]
  simp only [dkT, dkLast, dqM, dqR, dsM, dsR, pM, pR, pDiag, pRest, dsTile, overKeys, overRows, grads, probs, causal, scores, rows, rows3, stored, band]
  rfl

/-- The gradient of the keys from row 1536 as the body stores it. -/
theorem dk_1536 : k0_pay114 (kernelRun0_A.sl.v478 c arg2 harg2 arg3 harg3 arg4 harg4 arg5 harg5 arg6 harg6 arg7 harg7 arg11 arg12 x0 x1 x2 x3 x4 x5) = dkT x0 x1 x2 x3 x4 x5 1536 256 (by decide) (by decide) ok256 := by
  simp only [kernelRun0_A.sl.cst_20, kernelRun0_A.sl.r_30, kernelRun0_A.sl.r_31, kernelRun0_A.sl.r_32, kernelRun0_A.sl.r_33, kernelRun0_A.sl.r_34, kernelRun0_A.sl.v431, kernelRun0_A.sl.v444, kernelRun0_A.sl.v445, kernelRun0_A.sl.v446, kernelRun0_A.sl.v447, kernelRun0_A.sl.v448, kernelRun0_A.sl.v451, kernelRun0_A.sl.v461, kernelRun0_A.sl.v462, kernelRun0_A.sl.v463, kernelRun0_A.sl.v465, kernelRun0_A.sl.v466, kernelRun0_A.sl.v467, kernelRun0_A.sl.v468, kernelRun0_A.sl.v469, kernelRun0_A.sl.v470, kernelRun0_A.sl.v471, kernelRun0_A.sl.v472, kernelRun0_A.sl.v473, kernelRun0_A.sl.v474, kernelRun0_A.sl.v477, kernelRun0_A.sl.v478, k0_pay101, k0_pay102, k0_pay103, k0_pay104, k0_pay105, k0_pay114, View.readAt_eq_ld, Memref.IsWhole.read_unread, read_g, read_d, shapeCast_self]
  simp only [dkT, dkLast, dqM, dqR, dsM, dsR, pM, pR, pDiag, pRest, dsTile, overKeys, overRows, grads, probs, causal, scores, rows, rows3, stored, band]
  rfl

/-- The gradient of the keys from row 1280 as the body stores it. -/
theorem dk_1280 : k0_pay99 (kernelRun0_A.sl.v409 c arg2 harg2 arg3 harg3 arg4 harg4 arg5 harg5 arg6 harg6 arg7 harg7 arg11 arg12 x0 x1 x2 x3 x4 x5) = dkT x0 x1 x2 x3 x4 x5 1280 512 (by decide) (by decide) ok512 := by
  simp only [kernelRun0_A.sl.cst_20, kernelRun0_A.sl.cst_265, kernelRun0_A.sl.r_25, kernelRun0_A.sl.r_26, kernelRun0_A.sl.r_27, kernelRun0_A.sl.r_28, kernelRun0_A.sl.r_29, kernelRun0_A.sl.v362, kernelRun0_A.sl.v375, kernelRun0_A.sl.v376, kernelRun0_A.sl.v377, kernelRun0_A.sl.v378, kernelRun0_A.sl.v379, kernelRun0_A.sl.v382, kernelRun0_A.sl.v392, kernelRun0_A.sl.v393, kernelRun0_A.sl.v394, kernelRun0_A.sl.v396, kernelRun0_A.sl.v397, kernelRun0_A.sl.v398, kernelRun0_A.sl.v399, kernelRun0_A.sl.v400, kernelRun0_A.sl.v401, kernelRun0_A.sl.v402, kernelRun0_A.sl.v403, kernelRun0_A.sl.v404, kernelRun0_A.sl.v405, kernelRun0_A.sl.v408, kernelRun0_A.sl.v409, k0_pay85, k0_pay86, k0_pay87, k0_pay88, k0_pay89, k0_pay99, View.readAt_eq_ld, Memref.IsWhole.read_unread, read_g, read_d, shapeCast_self]
  simp only [dkT, dkLast, dqM, dqR, dsM, dsR, pM, pR, pDiag, pRest, dsTile, overKeys, overRows, grads, probs, causal, scores, rows, rows3, stored, band]
  rfl

/-- The gradient of the keys from row 1024 as the body stores it. -/
theorem dk_1024 : k0_pay83 (kernelRun0_A.sl.v340 c arg2 harg2 arg3 harg3 arg4 harg4 arg5 harg5 arg6 harg6 arg7 harg7 arg11 arg12 x0 x1 x2 x3 x4 x5) = dkT x0 x1 x2 x3 x4 x5 1024 768 (by decide) (by decide) ok768 := by
  simp only [kernelRun0_A.sl.cst_20, kernelRun0_A.sl.cst_218, kernelRun0_A.sl.r_20, kernelRun0_A.sl.r_21, kernelRun0_A.sl.r_22, kernelRun0_A.sl.r_23, kernelRun0_A.sl.r_24, kernelRun0_A.sl.v293, kernelRun0_A.sl.v306, kernelRun0_A.sl.v307, kernelRun0_A.sl.v308, kernelRun0_A.sl.v309, kernelRun0_A.sl.v310, kernelRun0_A.sl.v313, kernelRun0_A.sl.v323, kernelRun0_A.sl.v324, kernelRun0_A.sl.v325, kernelRun0_A.sl.v327, kernelRun0_A.sl.v328, kernelRun0_A.sl.v329, kernelRun0_A.sl.v330, kernelRun0_A.sl.v331, kernelRun0_A.sl.v332, kernelRun0_A.sl.v333, kernelRun0_A.sl.v334, kernelRun0_A.sl.v335, kernelRun0_A.sl.v336, kernelRun0_A.sl.v339, kernelRun0_A.sl.v340, k0_pay69, k0_pay70, k0_pay71, k0_pay72, k0_pay73, k0_pay83, View.readAt_eq_ld, Memref.IsWhole.read_unread, read_g, read_d, shapeCast_self]
  simp only [dkT, dkLast, dqM, dqR, dsM, dsR, pM, pR, pDiag, pRest, dsTile, overKeys, overRows, grads, probs, causal, scores, rows, rows3, stored, band]
  rfl

/-- The gradient of the keys from row 768 as the body stores it. -/
theorem dk_768 : k0_pay67 (kernelRun0_A.sl.v271 c arg2 harg2 arg3 harg3 arg4 harg4 arg5 harg5 arg6 harg6 arg7 harg7 arg11 arg12 x0 x1 x2 x3 x4 x5) = dkT x0 x1 x2 x3 x4 x5 768 1024 (by decide) (by decide) ok1024 := by
  simp only [kernelRun0_A.sl.cst_171, kernelRun0_A.sl.cst_20, kernelRun0_A.sl.r_14, kernelRun0_A.sl.r_15, kernelRun0_A.sl.r_16, kernelRun0_A.sl.r_17, kernelRun0_A.sl.r_18, kernelRun0_A.sl.r_19, kernelRun0_A.sl.v224, kernelRun0_A.sl.v237, kernelRun0_A.sl.v239, kernelRun0_A.sl.v240, kernelRun0_A.sl.v241, kernelRun0_A.sl.v244, kernelRun0_A.sl.v254, kernelRun0_A.sl.v255, kernelRun0_A.sl.v256, kernelRun0_A.sl.v258, kernelRun0_A.sl.v259, kernelRun0_A.sl.v260, kernelRun0_A.sl.v261, kernelRun0_A.sl.v262, kernelRun0_A.sl.v263, kernelRun0_A.sl.v264, kernelRun0_A.sl.v265, kernelRun0_A.sl.v266, kernelRun0_A.sl.v267, kernelRun0_A.sl.v270, kernelRun0_A.sl.v271, k0_pay51, k0_pay52, k0_pay53, k0_pay54, k0_pay55, k0_pay56, k0_pay67, View.readAt_eq_ld, Memref.IsWhole.read_unread, read_g, read_d, shapeCast_self]
  simp only [dkT, dkLast, dqM, dqR, dsM, dsR, pM, pR, pDiag, pRest, dsTile, overKeys, overRows, grads, probs, causal, scores, rows, rows3, stored, band]
  rfl

/-- The gradient of the keys from row 512 as the body stores it. -/
theorem dk_512 : k0_pay49 (kernelRun0_A.sl.v202 c arg2 harg2 arg3 harg3 arg4 harg4 arg5 harg5 arg6 harg6 arg7 harg7 arg11 arg12 x0 x1 x2 x3 x4 x5) = dkT x0 x1 x2 x3 x4 x5 512 1280 (by decide) (by decide) ok1280 := by
  simp only [kernelRun0_A.sl.cst_124, kernelRun0_A.sl.cst_20, kernelRun0_A.sl.r_10, kernelRun0_A.sl.r_11, kernelRun0_A.sl.r_12, kernelRun0_A.sl.r_13, kernelRun0_A.sl.r_9, kernelRun0_A.sl.v155, kernelRun0_A.sl.v168, kernelRun0_A.sl.v171, kernelRun0_A.sl.v172, kernelRun0_A.sl.v175, kernelRun0_A.sl.v185, kernelRun0_A.sl.v186, kernelRun0_A.sl.v187, kernelRun0_A.sl.v189, kernelRun0_A.sl.v190, kernelRun0_A.sl.v191, kernelRun0_A.sl.v192, kernelRun0_A.sl.v193, kernelRun0_A.sl.v194, kernelRun0_A.sl.v195, kernelRun0_A.sl.v196, kernelRun0_A.sl.v197, kernelRun0_A.sl.v198, kernelRun0_A.sl.v201, kernelRun0_A.sl.v202, k0_pay35, k0_pay36, k0_pay37, k0_pay38, k0_pay39, k0_pay49, View.readAt_eq_ld, Memref.IsWhole.read_unread, read_g, read_d, shapeCast_self]
  simp only [dkT, dkLast, dqM, dqR, dsM, dsR, pM, pR, pDiag, pRest, dsTile, overKeys, overRows, grads, probs, causal, scores, rows, rows3, stored, band]
  rfl

/-- The gradient of the keys from row 256 as the body stores it. -/
theorem dk_256 : k0_pay33 (kernelRun0_A.sl.v133 c arg2 harg2 arg3 harg3 arg4 harg4 arg5 harg5 arg6 harg6 arg7 harg7 arg11 arg12 x0 x1 x2 x3 x4 x5) = dkT x0 x1 x2 x3 x4 x5 256 1536 (by decide) (by decide) ok1536 := by
  simp only [kernelRun0_A.sl.cst_20, kernelRun0_A.sl.cst_77, kernelRun0_A.sl.r_4, kernelRun0_A.sl.r_5, kernelRun0_A.sl.r_6, kernelRun0_A.sl.r_8, kernelRun0_A.sl.v103, kernelRun0_A.sl.v106, kernelRun0_A.sl.v116, kernelRun0_A.sl.v117, kernelRun0_A.sl.v118, kernelRun0_A.sl.v120, kernelRun0_A.sl.v121, kernelRun0_A.sl.v122, kernelRun0_A.sl.v123, kernelRun0_A.sl.v124, kernelRun0_A.sl.v125, kernelRun0_A.sl.v126, kernelRun0_A.sl.v127, kernelRun0_A.sl.v128, kernelRun0_A.sl.v129, kernelRun0_A.sl.v132, kernelRun0_A.sl.v133, kernelRun0_A.sl.v86, kernelRun0_A.sl.v99, k0_pay19, k0_pay20, k0_pay21, k0_pay22, k0_pay23, k0_pay33, View.readAt_eq_ld, Memref.IsWhole.read_unread, read_g, read_d, shapeCast_self]
  simp only [dkT, dkLast, dqM, dqR, dsM, dsR, pM, pR, pDiag, pRest, dsTile, overKeys, overRows, grads, probs, causal, scores, rows, rows3, stored, band]
  rfl

/-- The gradient of the keys from row 0 as the body stores it. -/
theorem dk_0 : k0_pay17 (kernelRun0_A.sl.v66 c arg2 harg2 arg3 harg3 arg4 harg4 arg5 harg5 arg6 harg6 arg7 harg7 arg11 arg12 x0 x1 x2 x3 x4 x5) = dkT x0 x1 x2 x3 x4 x5 0 1792 (by decide) (by decide) ok1792 := by
  simp only [kernelRun0_A.sl.cst_20, kernelRun0_A.sl.cst_32, kernelRun0_A.sl.r, kernelRun0_A.sl.r_1, kernelRun0_A.sl.r_2, kernelRun0_A.sl.r_3, kernelRun0_A.sl.v21, kernelRun0_A.sl.v33, kernelRun0_A.sl.v34, kernelRun0_A.sl.v35, kernelRun0_A.sl.v36, kernelRun0_A.sl.v37, kernelRun0_A.sl.v38, kernelRun0_A.sl.v41, kernelRun0_A.sl.v49, kernelRun0_A.sl.v50, kernelRun0_A.sl.v51, kernelRun0_A.sl.v53, kernelRun0_A.sl.v54, kernelRun0_A.sl.v55, kernelRun0_A.sl.v56, kernelRun0_A.sl.v57, kernelRun0_A.sl.v58, kernelRun0_A.sl.v59, kernelRun0_A.sl.v60, kernelRun0_A.sl.v61, kernelRun0_A.sl.v62, kernelRun0_A.sl.v65, kernelRun0_A.sl.v66, k0_pay17, k0_pay4, k0_pay5, k0_pay6, k0_pay7, View.readAt_eq_ld, Memref.IsWhole.read_unread, read_g, read_d, shapeCast_self]
  simp only [dkT, dkLast, dqM, dqR, dsM, dsR, pM, pR, pDiag, pRest, dsTile, overKeys, overRows, grads, probs, causal, scores, rows, rows3, stored, band]
  rfl

/-- The gradient of the values from row 1792 as the body stores it. -/
theorem dv_1792 : k0_pay123 (kernelRun0_A.sl.v500 c arg6 harg6 arg12 x4) (kernelRun0_A.sl.r_37 c arg2 harg2 arg3 harg3 arg7 harg7 x0 x1 x5) = dvLast x0 x1 x4 x5 := by
  simp only [kernelRun0_A.sl.r_37, kernelRun0_A.sl.v500, k0_pay116, k0_pay117, k0_pay118, k0_pay123, View.readAt_eq_ld, Memref.IsWhole.read_unread, read_g, read_d, shapeCast_self]
  simp only [dvT, dvLast, dqM, dqR, dsM, dsR, pM, pR, pDiag, pRest, dsTile, overKeys, overRows, grads, probs, causal, scores, rows, rows3, stored, band]
  rfl

/-- The gradient of the values from row 1536 as the body stores it. -/
theorem dv_1536 : k0_pay115 (kernelRun0_A.sl.v479 c arg2 harg2 arg3 harg3 arg6 harg6 arg7 harg7 arg12 x0 x1 x4 x5) = dvT x0 x1 x4 x5 1536 256 (by decide) (by decide) ok256 := by
  simp only [kernelRun0_A.sl.cst_20, kernelRun0_A.sl.cst_23, kernelRun0_A.sl.r_30, kernelRun0_A.sl.r_33, kernelRun0_A.sl.v431, kernelRun0_A.sl.v449, kernelRun0_A.sl.v450, kernelRun0_A.sl.v461, kernelRun0_A.sl.v462, kernelRun0_A.sl.v463, kernelRun0_A.sl.v465, kernelRun0_A.sl.v466, kernelRun0_A.sl.v467, kernelRun0_A.sl.v468, kernelRun0_A.sl.v475, kernelRun0_A.sl.v476, kernelRun0_A.sl.v479, k0_pay101, k0_pay103, k0_pay104, k0_pay115, View.readAt_eq_ld, Memref.IsWhole.read_unread, read_g, read_d, shapeCast_self]
  simp only [dvT, dvLast, dqM, dqR, dsM, dsR, pM, pR, pDiag, pRest, dsTile, overKeys, overRows, grads, probs, causal, scores, rows, rows3, stored, band]
  rfl

/-- The gradient of the values from row 1280 as the body stores it. -/
theorem dv_1280 : k0_pay100 (kernelRun0_A.sl.v410 c arg2 harg2 arg3 harg3 arg6 harg6 arg7 harg7 arg12 x0 x1 x4 x5) = dvT x0 x1 x4 x5 1280 512 (by decide) (by decide) ok512 := by
  simp only [kernelRun0_A.sl.cst_23, kernelRun0_A.sl.cst_265, kernelRun0_A.sl.r_25, kernelRun0_A.sl.r_28, kernelRun0_A.sl.v362, kernelRun0_A.sl.v380, kernelRun0_A.sl.v381, kernelRun0_A.sl.v392, kernelRun0_A.sl.v393, kernelRun0_A.sl.v394, kernelRun0_A.sl.v396, kernelRun0_A.sl.v397, kernelRun0_A.sl.v398, kernelRun0_A.sl.v399, kernelRun0_A.sl.v406, kernelRun0_A.sl.v407, kernelRun0_A.sl.v410, k0_pay100, k0_pay85, k0_pay87, k0_pay88, View.readAt_eq_ld, Memref.IsWhole.read_unread, read_g, read_d, shapeCast_self]
  simp only [dvT, dvLast, dqM, dqR, dsM, dsR, pM, pR, pDiag, pRest, dsTile, overKeys, overRows, grads, probs, causal, scores, rows, rows3, stored, band]
  rfl

/-- The gradient of the values from row 1024 as the body stores it. -/
theorem dv_1024 : k0_pay84 (kernelRun0_A.sl.v341 c arg2 harg2 arg3 harg3 arg6 harg6 arg7 harg7 arg12 x0 x1 x4 x5) = dvT x0 x1 x4 x5 1024 768 (by decide) (by decide) ok768 := by
  simp only [kernelRun0_A.sl.cst_218, kernelRun0_A.sl.cst_23, kernelRun0_A.sl.r_20, kernelRun0_A.sl.r_23, kernelRun0_A.sl.v293, kernelRun0_A.sl.v311, kernelRun0_A.sl.v312, kernelRun0_A.sl.v323, kernelRun0_A.sl.v324, kernelRun0_A.sl.v325, kernelRun0_A.sl.v327, kernelRun0_A.sl.v328, kernelRun0_A.sl.v329, kernelRun0_A.sl.v330, kernelRun0_A.sl.v337, kernelRun0_A.sl.v338, kernelRun0_A.sl.v341, k0_pay69, k0_pay71, k0_pay72, k0_pay84, View.readAt_eq_ld, Memref.IsWhole.read_unread, read_g, read_d, shapeCast_self]
  simp only [dvT, dvLast, dqM, dqR, dsM, dsR, pM, pR, pDiag, pRest, dsTile, overKeys, overRows, grads, probs, causal, scores, rows, rows3, stored, band]
  rfl

/-- The gradient of the values from row 768 as the body stores it. -/
theorem dv_768 : k0_pay68 (kernelRun0_A.sl.v272 c arg2 harg2 arg3 harg3 arg6 harg6 arg7 harg7 arg12 x0 x1 x4 x5) = dvT x0 x1 x4 x5 768 1024 (by decide) (by decide) ok1024 := by
  simp only [kernelRun0_A.sl.cst_171, kernelRun0_A.sl.cst_23, kernelRun0_A.sl.r_14, kernelRun0_A.sl.r_17, kernelRun0_A.sl.v224, kernelRun0_A.sl.v242, kernelRun0_A.sl.v243, kernelRun0_A.sl.v254, kernelRun0_A.sl.v255, kernelRun0_A.sl.v256, kernelRun0_A.sl.v258, kernelRun0_A.sl.v259, kernelRun0_A.sl.v260, kernelRun0_A.sl.v261, kernelRun0_A.sl.v268, kernelRun0_A.sl.v269, kernelRun0_A.sl.v272, k0_pay51, k0_pay53, k0_pay54, k0_pay68, View.readAt_eq_ld, Memref.IsWhole.read_unread, read_g, read_d, shapeCast_self]
  simp only [dvT, dvLast, dqM, dqR, dsM, dsR, pM, pR, pDiag, pRest, dsTile, overKeys, overRows, grads, probs, causal, scores, rows, rows3, stored, band]
  rfl

/-- The gradient of the values from row 512 as the body stores it. -/
theorem dv_512 : k0_pay50 (kernelRun0_A.sl.v203 c arg2 harg2 arg3 harg3 arg6 harg6 arg7 harg7 arg12 x0 x1 x4 x5) = dvT x0 x1 x4 x5 512 1280 (by decide) (by decide) ok1280 := by
  simp only [kernelRun0_A.sl.cst_124, kernelRun0_A.sl.cst_23, kernelRun0_A.sl.r_12, kernelRun0_A.sl.r_9, kernelRun0_A.sl.v155, kernelRun0_A.sl.v173, kernelRun0_A.sl.v174, kernelRun0_A.sl.v185, kernelRun0_A.sl.v186, kernelRun0_A.sl.v187, kernelRun0_A.sl.v189, kernelRun0_A.sl.v190, kernelRun0_A.sl.v191, kernelRun0_A.sl.v192, kernelRun0_A.sl.v199, kernelRun0_A.sl.v200, kernelRun0_A.sl.v203, k0_pay35, k0_pay37, k0_pay38, k0_pay50, View.readAt_eq_ld, Memref.IsWhole.read_unread, read_g, read_d, shapeCast_self]
  simp only [dvT, dvLast, dqM, dqR, dsM, dsR, pM, pR, pDiag, pRest, dsTile, overKeys, overRows, grads, probs, causal, scores, rows, rows3, stored, band]
  rfl

/-- The gradient of the values from row 256 as the body stores it. -/
theorem dv_256 : k0_pay34 (kernelRun0_A.sl.v134 c arg2 harg2 arg3 harg3 arg6 harg6 arg7 harg7 arg12 x0 x1 x4 x5) = dvT x0 x1 x4 x5 256 1536 (by decide) (by decide) ok1536 := by
  simp only [kernelRun0_A.sl.cst_23, kernelRun0_A.sl.cst_77, kernelRun0_A.sl.r_4, kernelRun0_A.sl.r_7, kernelRun0_A.sl.v104, kernelRun0_A.sl.v105, kernelRun0_A.sl.v116, kernelRun0_A.sl.v117, kernelRun0_A.sl.v118, kernelRun0_A.sl.v120, kernelRun0_A.sl.v121, kernelRun0_A.sl.v122, kernelRun0_A.sl.v123, kernelRun0_A.sl.v130, kernelRun0_A.sl.v131, kernelRun0_A.sl.v134, kernelRun0_A.sl.v86, k0_pay19, k0_pay21, k0_pay22, k0_pay34, View.readAt_eq_ld, Memref.IsWhole.read_unread, read_g, read_d, shapeCast_self]
  simp only [dvT, dvLast, dqM, dqR, dsM, dsR, pM, pR, pDiag, pRest, dsTile, overKeys, overRows, grads, probs, causal, scores, rows, rows3, stored, band]
  rfl

/-- The gradient of the values from row 0 as the body stores it. -/
theorem dv_0 : k0_pay18 (kernelRun0_A.sl.v67 c arg2 harg2 arg3 harg3 arg6 harg6 arg7 harg7 arg12 x0 x1 x4 x5) = dvT x0 x1 x4 x5 0 1792 (by decide) (by decide) ok1792 := by
  simp only [kernelRun0_A.sl.cst_23, kernelRun0_A.sl.cst_32, kernelRun0_A.sl.r, kernelRun0_A.sl.r_3, kernelRun0_A.sl.v21, kernelRun0_A.sl.v39, kernelRun0_A.sl.v40, kernelRun0_A.sl.v49, kernelRun0_A.sl.v50, kernelRun0_A.sl.v51, kernelRun0_A.sl.v53, kernelRun0_A.sl.v54, kernelRun0_A.sl.v55, kernelRun0_A.sl.v56, kernelRun0_A.sl.v63, kernelRun0_A.sl.v64, kernelRun0_A.sl.v67, k0_pay18, k0_pay4, k0_pay6, k0_pay7, View.readAt_eq_ld, Memref.IsWhole.read_unread, read_g, read_d, shapeCast_self]
  simp only [dvT, dvLast, dqM, dqR, dsM, dsR, pM, pR, pDiag, pRest, dsTile, overKeys, overRows, grads, probs, causal, scores, rows, rows3, stored, band]
  rfl

/-- What the body leaves of the gradient of the keys. -/
theorem out_dk : out0_A_7 c i arg2 harg2 arg3 harg3 arg4 harg4 arg5 harg5 arg6 harg6 arg7 harg7 arg8 harg8 arg9 harg9 arg10 harg10 arg11 harg11 arg12 harg12 arg13 harg13 x0 x1 x2 x3 x4 x5 = View.canon [⟨band 2048 256 1792 256 (by decide), dkLast x0 x1 x2 x3 x4 x5⟩, ⟨band 2048 256 1536 256 (by decide), dkT x0 x1 x2 x3 x4 x5 1536 256 (by decide) (by decide) ok256⟩, ⟨band 2048 256 1280 256 (by decide), dkT x0 x1 x2 x3 x4 x5 1280 512 (by decide) (by decide) ok512⟩, ⟨band 2048 256 1024 256 (by decide), dkT x0 x1 x2 x3 x4 x5 1024 768 (by decide) (by decide) ok768⟩, ⟨band 2048 256 768 256 (by decide), dkT x0 x1 x2 x3 x4 x5 768 1024 (by decide) (by decide) ok1024⟩, ⟨band 2048 256 512 256 (by decide), dkT x0 x1 x2 x3 x4 x5 512 1280 (by decide) (by decide) ok1280⟩, ⟨band 2048 256 256 256 (by decide), dkT x0 x1 x2 x3 x4 x5 256 1536 (by decide) (by decide) ok1536⟩, ⟨band 2048 256 0 256 (by decide), dkT x0 x1 x2 x3 x4 x5 0 1792 (by decide) (by decide) ok1792⟩] := by
  unfold out0_A_7
  rw [View.read_writes_junk_eq_canon]
  unfold kernelRun0_A
  dsimp only
  rw [dk_1792, dk_1536, dk_1280, dk_1024, dk_768, dk_512, dk_256, dk_0]

/-- What the body leaves of the gradient of the values. -/
theorem out_dv : out0_A_8 c i arg2 harg2 arg3 harg3 arg4 harg4 arg5 harg5 arg6 harg6 arg7 harg7 arg8 harg8 arg9 harg9 arg10 harg10 arg11 harg11 arg12 harg12 arg13 harg13 x0 x1 x2 x3 x4 x5 = View.canon [⟨band 2048 128 1792 256 (by decide), dvLast x0 x1 x4 x5⟩, ⟨band 2048 128 1536 256 (by decide), dvT x0 x1 x4 x5 1536 256 (by decide) (by decide) ok256⟩, ⟨band 2048 128 1280 256 (by decide), dvT x0 x1 x4 x5 1280 512 (by decide) (by decide) ok512⟩, ⟨band 2048 128 1024 256 (by decide), dvT x0 x1 x4 x5 1024 768 (by decide) (by decide) ok768⟩, ⟨band 2048 128 768 256 (by decide), dvT x0 x1 x4 x5 768 1024 (by decide) (by decide) ok1024⟩, ⟨band 2048 128 512 256 (by decide), dvT x0 x1 x4 x5 512 1280 (by decide) (by decide) ok1280⟩, ⟨band 2048 128 256 256 (by decide), dvT x0 x1 x4 x5 256 1536 (by decide) (by decide) ok1536⟩, ⟨band 2048 128 0 256 (by decide), dvT x0 x1 x4 x5 0 1792 (by decide) (by decide) ok1792⟩] := by
  unfold out0_A_8
  rw [View.read_writes_junk_eq_canon]
  unfold kernelRun0_A
  dsimp only
  rw [dv_1792, dv_1536, dv_1280, dv_1024, dv_768, dv_512, dv_256, dv_0]

/-- What the body leaves of the gradient of the queries: the accumulator, rounded. -/
theorem out_dq : out0_A_6 c i arg2 harg2 arg3 harg3 arg4 harg4 arg5 harg5 arg6 harg6 arg7 harg7 arg8 harg8 arg9 harg9 arg10 harg10 arg11 harg11 arg12 harg12 arg13 harg13 x0 x1 x2 x3 x4 x5 = View.canon (kernelRun0_A.sl.HS2_15 c arg2 harg2 arg3 harg3 arg4 harg4 arg5 harg5 arg6 harg6 arg7 harg7 arg11 arg12 arg13 x0 x1 x2 x3 x4 x5) := by
  unfold out0_A_6
  rw [View.read_writes_junk_eq_canon]
  unfold kernelRun0_A
  dsimp only
  rw [View.canon_unit_zero (by decide)]
  simp only [kernelRun0_A.sl.v535, k0_pay124, kernelRun0_A.sl.r_39, View.readAt_eq_ld, Memref.IsWhole.read_unread, read_g, read_d, shapeCast_self]
  rw [View.readCov_eq_canon']
  funext j
  exact congrFun (View.ld_unit_zero (S := M2 2048 256) (off := ![0, 0]) (by decide) _ (View.canon (kernelRun0_A.sl.HS2_15 c arg2 harg2 arg3 harg3 arg4 harg4 arg5 harg5 arg6 harg6 arg7 harg7 arg11 arg12 arg13 x0 x1 x2 x3 x4 x5))) j

end Cert.KernelIdeal.Block

end
-- ==== Proof.Values.lean ====
/- The entries of the body's tiles when every argument is real: the probabilities, the gradient of the scores, and the
   gradients of the queries, keys and values that the body leaves. -/
module

public import proofs.«01_k».proof.Proof.Block

@[expose] public section

set_option maxRecDepth 16384

noncomputable section

namespace Cert.KernelIdeal.Block

open Idealize.ShloMosaic Idealize.ShloMosaic.TcCoe Idealize.SL.Sem Cert.KernelIdeal Cert.KernelIdeal.Gen Attn
open Finset (range sum_range sum_range_add)

/-- The rows' dots of the output with its gradient, over the reals. -/
def dot (O G : ℕ → ℕ → ℝ) (i : ℕ) : ℝ := ∑ e : Fin 128, O i e * G i e
/-- The gradient of the scores, over the reals. -/
def dsc (P V O G : ℕ → ℕ → ℝ) (i j : ℕ) : ℝ := P i j * ((∑ e : Fin 128, G i e * V j e) - dot O G i)

/-- The arguments of one head hold real numbers, and the base-two exponential of a score less its row's logarithm is the
    probability `P`, which is zero for keys after the query. -/
structure Reals (x0 x1 : Vec Ideal (M2 2048 256) .bf16) (x2 x3 x4 : Vec Ideal (M2 2048 128) .bf16) (x5 : Vec Ideal (M3 2048) .f32)
    (Q K V O G : ℕ → ℕ → ℝ) (Lg : ℕ → ℝ) (P : ℕ → ℕ → ℝ) : Prop where
  q : ∀ (i : Fin 2048) (d : Fin 256), x0 (ix2 i d) = (Q i d : EReal)
  k : ∀ (i : Fin 2048) (d : Fin 256), x1 (ix2 i d) = (K i d : EReal)
  v : ∀ (i : Fin 2048) (e : Fin 128), x2 (ix2 i e) = (V i e : EReal)
  o : ∀ (i : Fin 2048) (e : Fin 128), x3 (ix2 i e) = (O i e : EReal)
  g : ∀ (i : Fin 2048) (e : Fin 128), x4 (ix2 i e) = (G i e : EReal)
  l : ∀ i : Fin 2048, x5 (ix3 0 i 0) = (Lg i : EReal)
  p : ∀ i j : ℕ, i < 2048 → j ≤ i → Real.rpow 2 ((∑ d : Fin 256, Q i d * K j d) - Lg i) = P i j
  z : ∀ i j : ℕ, i < j → P i j = 0

theorem mask_eq : maskv = ⊥ := IdealRules.named_const.ideal_named_scalar _ _ _ _ rfl

theorem ln2_eq : ln2v = ((Real.log 2 : ℝ) : EReal) := IdealRules.named_const.ideal_named_scalar _ _ _ _ rfl

section
variable {x0 x1 : Vec Ideal (M2 2048 256) .bf16} {x2 x3 x4 : Vec Ideal (M2 2048 128) .bf16} {x5 : Vec Ideal (M3 2048) .f32}
  {Q K V O G : ℕ → ℕ → ℝ} {Lg : ℕ → ℝ} {P : ℕ → ℕ → ℝ}

theorem dots_apply (H : Reals x0 x1 x2 x3 x4 x5 Q K V O G Lg P) (r : Fin 2048) : dots x3 x4 (ix2 r 0) = (dot O G r : EReal) := by
  unfold dot
  rw [← coe_sum_mul]
  have e : dots x3 x4 (ix2 r 0) = FloatOps.reduceAdd (F := Ideal) (φ := .f32) [1] reduces_S2048x128_S2048
      (mulf (extf .f32 (x3 : FVec Ideal S2048x128 .bf16) bitsLt_bf16_f32) (extf .f32 (x4 : FVec Ideal S2048x128 .bf16) bitsLt_bf16_f32)) (ix1 r) := by
    unfold dots k0_pay2 k0_pay1
    simp only [shapeCast_self]
    refine congrArg (multiReduction .add [1] S2048 _ _ _ _ _) (Shape.reshapeEquiv_eq_of_rowMajor _ ?_)
    rw [rowMajor_val1, rowMajor_val2 (ix2 r 0) 1 rfl]
    show (r : ℕ) = (r : ℕ) * 1 + 0
    omega
  rw [e]
  refine (Ideal.reduceAdd_r2_a1 _ _ _).trans (Finset.sum_congr rfl fun e _ => ?_)
  exact congrArg₂ (· * ·) (H.o _ _) (H.g _ _)

theorem dsc_off (H : Reals x0 x1 x2 x3 x4 x5 Q K V O G Lg P) {i j : ℕ} (h : i < j) : dsc P V O G i j = 0 := by
  unfold dsc; rw [H.z i j h, zero_mul]

theorem pM_apply (H : Reals x0 x1 x2 x3 x4 x5 Q K V O G Lg P) (a : ℕ) (h : a + 256 ≤ 2048) (r t : Fin 256) :
    pM x0 x1 x5 a h (ix2 r t) = (P (a + r) (a + t) : EReal) := by
  unfold pM pDiag
  by_cases hd : (t : ℕ) ≤ r
  · rw [← H.p (a + r) (a + t) (by omega) (by omega)]
    refine probs_apply _ _ _ r t _ _ ?_ ?_
    · rw [causal_apply _ _ _ _ (by norm_num), if_pos hd]
      exact scores_apply _ _ r t (fun d => Q (a + r) d) (fun d => K (a + t) d) (fun d => (rows_apply _ _ _ _ _ _).trans (H.q _ _))
        (fun d => (rows_apply _ _ _ _ _ _).trans (H.k _ _))
    · exact (rows3_apply _ _ _ _ _ _).trans (H.l _)
  · rw [H.z (a + r) (a + t) (by omega)]
    refine probs_bot _ _ _ r t ?_
    rw [causal_apply _ _ _ _ (by norm_num), if_neg hd]
    exact mask_eq

theorem pR_apply (H : Reals x0 x1 x2 x3 x4 x5 Q K V O G Lg P) (a n b : ℕ) (ha hb ok) (hab : b + 256 ≤ a) (r : Fin n) (t : Fin 256) :
    pR x0 x1 x5 a n b ha hb ok (ix2 r t) = (P (a + r) (b + t) : EReal) := by
  unfold pR pRest
  rw [← H.p (a + r) (b + t) (by omega) (by omega)]
  refine probs_apply _ _ _ r t _ _ ?_ ?_
  · exact scores_apply _ _ r t (fun d => Q (a + r) d) (fun d => K (b + t) d) (fun d => (rows_apply _ _ _ _ _ _).trans (H.q _ _))
        (fun d => (rows_apply _ _ _ _ _ _).trans (H.k _ _))
  · exact (rows3_apply _ _ _ _ _ _).trans (H.l _)

/-- A tile of the gradient of the scores from the tile of probabilities. -/
theorem ds_apply (H : Reals x0 x1 x2 x3 x4 x5 Q K V O G Lg P) (a n b : ℕ) (p : FVec Ideal (M2 n 256) .f32) (ha hb ok ht)
    (r : Fin n) (t : Fin 256) (hp : p (ix2 r t) = (P (a + r) (b + t) : EReal)) :
    dsTile x2 x4 (dots x3 x4) a n b 256 p ha hb ok ht (ix2 r t) = (dsc P V O G (a + r) (b + t) : EReal) := by
  unfold dsTile
  exact grads_apply _ _ _ _ _ _ r t _ (fun e => G (a + r) e) (fun e => V (b + t) e) (dot O G (a + r)) hp
    (fun e => (rows_apply _ _ _ _ _ _).trans (H.g _ _)) (fun e => (rows_apply _ _ _ _ _ _).trans (H.v _ _))
    ((rows_apply _ _ _ _ _ _).trans (dots_apply H _))

theorem dsM_apply (H : Reals x0 x1 x2 x3 x4 x5 Q K V O G Lg P) (a : ℕ) (h : a + 256 ≤ 2048) (r t : Fin 256) :
    dsM x0 x1 x2 x3 x4 x5 a h (ix2 r t) = (dsc P V O G (a + r) (a + t) : EReal) :=
  ds_apply H a 256 a _ _ _ _ _ r t (pM_apply H a h r t)

theorem dsR_apply (H : Reals x0 x1 x2 x3 x4 x5 Q K V O G Lg P) (a n b : ℕ) (ha hb ok) (hab : b + 256 ≤ a) (r : Fin n) (t : Fin 256) :
    dsR x0 x1 x2 x3 x4 x5 a n b ha hb ok (ix2 r t) = (dsc P V O G (a + r) (b + t) : EReal) :=
  ds_apply H a n b _ _ _ _ _ r t (pR_apply H a n b ha hb ok hab r t)

/-- The gradient of the keys from row `b`: sums over all the queries. -/
theorem dkT_apply (H : Reals x0 x1 x2 x3 x4 x5 Q K V O G Lg P) (b n : ℕ) (hb ha ok) (hn : b + 256 + n = 2048) (t d : Fin 256) :
    dkT x0 x1 x2 x3 x4 x5 b n hb ha ok (ix2 t d) = (((∑ i : Fin 2048, dsc P V O G i (b + t) * Q i d) * Real.log 2 : ℝ) : EReal) := by
  unfold dkT
  refine (congrArg₂ (· * ·) (congrArg₂ (· + ·)
    (overRows_apply _ _ t d (fun r => dsc P V O G (b + r) (b + t)) (fun r => Q (b + r) d) (fun r => dsM_apply H b hb r t)
      (fun r => (rows_apply _ _ _ _ _ _).trans (H.q _ _)))
    (overRows_apply _ _ t d (fun r => dsc P V O G (b + 256 + r) (b + t)) (fun r => Q (b + 256 + r) d)
      (fun r => dsR_apply H (b + 256) n b ha hb ok (le_refl _) r t) (fun r => (rows_apply _ _ _ _ _ _).trans (H.q _ _)))) ln2_eq).trans ?_
  rw [← EReal.coe_add, ← EReal.coe_mul]
  refine congrArg (fun x : ℝ => ((x * Real.log 2 : ℝ) : EReal)) ?_
  exact sum_two (fun i => dsc P V O G i (b + t) * Q i d) b 256 n 2048 hn fun i hi => by rw [dsc_off H (by omega), zero_mul]

theorem dkLast_apply (H : Reals x0 x1 x2 x3 x4 x5 Q K V O G Lg P) (t d : Fin 256) :
    dkLast x0 x1 x2 x3 x4 x5 (ix2 t d) = (((∑ i : Fin 2048, dsc P V O G i (1792 + t) * Q i d) * Real.log 2 : ℝ) : EReal) := by
  unfold dkLast
  refine (congrArg₂ (· * ·)
    (overRows_apply _ _ t d (fun r => dsc P V O G (1792 + r) (1792 + t)) (fun r => Q (1792 + r) d) (fun r => dsM_apply H 1792 _ r t)
      (fun r => (rows_apply _ _ _ _ _ _).trans (H.q _ _))) ln2_eq).trans ?_
  rw [← EReal.coe_mul]
  refine congrArg (fun x : ℝ => ((x * Real.log 2 : ℝ) : EReal)) ?_
  rw [← sum_two (fun i => dsc P V O G i (1792 + t) * Q i d) 1792 256 0 2048 rfl fun i hi => by rw [dsc_off H (by omega), zero_mul]]
  simp

/-- The gradient of the values from row `b`. -/
theorem dvT_apply (H : Reals x0 x1 x2 x3 x4 x5 Q K V O G Lg P) (b n : ℕ) (hb ha ok) (hn : b + 256 + n = 2048) (t : Fin 256) (e : Fin 128) :
    dvT x0 x1 x4 x5 b n hb ha ok (ix2 t e) = ((∑ i : Fin 2048, P i (b + t) * G i e : ℝ) : EReal) := by
  unfold dvT
  refine (congrArg₂ (· + ·)
    (overRows_apply _ _ t e (fun r => P (b + r) (b + t)) (fun r => G (b + r) e) (fun r => pM_apply H b hb r t)
      (fun r => (rows_apply _ _ _ _ _ _).trans (H.g _ _)))
    (overRows_apply _ _ t e (fun r => P (b + 256 + r) (b + t)) (fun r => G (b + 256 + r) e)
      (fun r => pR_apply H (b + 256) n b ha hb ok (le_refl _) r t) (fun r => (rows_apply _ _ _ _ _ _).trans (H.g _ _)))).trans ?_
  rw [← EReal.coe_add]
  refine congrArg (fun x : ℝ => (x : EReal)) ?_
  exact sum_two (fun i => P i (b + t) * G i e) b 256 n 2048 hn fun i hi => by rw [H.z _ _ (by omega), zero_mul]

theorem dvLast_apply (H : Reals x0 x1 x2 x3 x4 x5 Q K V O G Lg P) (t : Fin 256) (e : Fin 128) :
    dvLast x0 x1 x4 x5 (ix2 t e) = ((∑ i : Fin 2048, P i (1792 + t) * G i e : ℝ) : EReal) := by
  unfold dvLast
  refine (overRows_apply _ _ t e (fun r => P (1792 + r) (1792 + t)) (fun r => G (1792 + r) e) (fun r => pM_apply H 1792 _ r t)
      (fun r => (rows_apply _ _ _ _ _ _).trans (H.g _ _))).trans ?_
  refine congrArg (fun x : ℝ => (x : EReal)) ?_
  rw [← sum_two (fun i => P i (1792 + t) * G i e) 1792 256 0 2048 rfl fun i hi => by rw [H.z _ _ (by omega), zero_mul]]
  simp

/-! ### The gradient of the queries -/

/-- The gradient of the queries from the keys before `m`. -/
def upto (P K V O G : ℕ → ℕ → ℝ) (C : ℝ) (m i d : ℕ) : ℝ := (∑ j ∈ range m, dsc P V O G i j * K j d) * C

theorem upto_add (C : ℝ) (b i d : ℕ) :
    upto P K V O G C b i d + (∑ t : Fin 256, dsc P V O G i (b + t) * K (b + t) d) * C = upto P K V O G C (b + 256) i d := by
  unfold upto
  rw [← add_mul, sum_range_add, sum_range (n := 256)]

theorem upto_off (H : Reals x0 x1 x2 x3 x4 x5 Q K V O G Lg P) (C : ℝ) (b i d : ℕ) (h : i < b) :
    upto P K V O G C b i d = upto P K V O G C (b + 256) i d := by
  rw [← upto_add, Finset.sum_eq_zero fun t _ => by rw [dsc_off H (by omega), zero_mul], zero_mul, add_zero]

theorem dqM_apply (H : Reals x0 x1 x2 x3 x4 x5 Q K V O G Lg P) {C : ℝ} (hC : scalev = (C : EReal)) (a : ℕ) (h : a + 256 ≤ 2048) (r d : Fin 256) :
    dqM x0 x1 x2 x3 x4 x5 a h (ix2 r d) = (((∑ t : Fin 256, dsc P V O G (a + r) (a + t) * K (a + t) d) * C : ℝ) : EReal) := by
  unfold dqM
  exact overKeys_apply _ _ _ r d (fun t => dsc P V O G (a + r) (a + t)) (fun t => K (a + t) d) C (fun t => dsM_apply H a h r t)
    (fun t => (rows_apply _ _ _ _ _ _).trans (H.k _ _)) hC

theorem dqR_apply (H : Reals x0 x1 x2 x3 x4 x5 Q K V O G Lg P) {C : ℝ} (hC : scalev = (C : EReal)) (a n b : ℕ) (ha hb ok) (hab : b + 256 ≤ a)
    (r : Fin n) (d : Fin 256) :
    dqR x0 x1 x2 x3 x4 x5 a n b ha hb ok (ix2 r d) = (((∑ t : Fin 256, dsc P V O G (a + r) (b + t) * K (b + t) d) * C : ℝ) : EReal) := by
  unfold dqR
  exact overKeys_apply _ _ _ r d (fun t => dsc P V O G (a + r) (b + t)) (fun t => K (b + t) d) C (fun t => dsR_apply H a n b ha hb ok hab r t)
    (fun t => (rows_apply _ _ _ _ _ _).trans (H.k _ _)) hC

abbrev Pieces := List (View.Piece (Elt Ideal) (M2 2048 256) .f32)

/-- The accumulator holds the share of the keys before `m`. -/
def Holds (L : Pieces) (P K V O G : ℕ → ℕ → ℝ) (C : ℝ) (m : ℕ) : Prop :=
  ∀ (i : Fin 2048) (d : Fin 256), View.canon L (ix2 i d) = (upto P K V O G C m i d : EReal)

/-- The accumulator holds the share of the keys before `b + 256` in the rows before `b + 256`, that of the keys before `b`
    in the others. -/
def Half (L : Pieces) (P K V O G : ℕ → ℕ → ℝ) (C : ℝ) (b : ℕ) : Prop :=
  ∀ (i : Fin 2048) (d : Fin 256), View.canon L (ix2 i d) = (upto P K V O G C (if (i : ℕ) < b + 256 then b + 256 else b) i d : EReal)

theorem start (H : Reals x0 x1 x2 x3 x4 x5 Q K V O G Lg P) {C : ℝ} (hC : scalev = (C : EReal)) (h1 h2 h3 h4 h5 h6) :
    Holds [⟨band 2048 256 256 1792 h1, dqR x0 x1 x2 x3 x4 x5 256 1792 0 h2 h3 h4⟩, ⟨band 2048 256 0 256 h5, dqM x0 x1 x2 x3 x4 x5 0 h6⟩] P K V O G C 256 := by
  have hz : ∀ i d, upto P K V O G C 0 i d = 0 := fun i d => by unfold upto; rw [Finset.sum_range_zero, zero_mul]
  intro i d
  refine canon_rows _ _ _ _ _ i d _ (fun r hr => ?_) fun hi => canon_rows _ _ _ _ _ i d _ (fun r hr => ?_) fun hj => ?_
  · rw [dqR_apply H hC _ _ _ _ _ _ (by norm_num), ← upto_add C 0, hz, zero_add, hr]
  · rw [dqM_apply H hC, ← upto_add C 0, hz, hr]
    simp only [zero_add]
  · exfalso; omega

theorem diag_step (H : Reals x0 x1 x2 x3 x4 x5 Q K V O G Lg P) {C : ℝ} (hC : scalev = (C : EReal)) (L : Pieces) (b : ℕ) (h h' h'')
    (hL : Holds L P K V O G C b) :
    Half (⟨band 2048 256 b 256 h, addf (stored L b 256 h') (dqM x0 x1 x2 x3 x4 x5 b h'')⟩ :: L) P K V O G C b := by
  intro i d
  refine canon_rows _ _ _ _ _ i d _ (fun r hr => ?_) fun hi => ?_
  · rw [if_pos (by omega), ← upto_add C b, EReal.coe_add]
    refine congrArg₂ (· + ·) ?_ ?_
    · rw [stored_apply, hL]; exact congrArg (fun x => (upto P K V O G C b x d : EReal)) hr.symm
    · rw [dqM_apply H hC, hr]
  · rw [hL i d]
    split_ifs with h1
    · rw [upto_off H C b i d (by omega)]
    · rfl

theorem rest_step (H : Reals x0 x1 x2 x3 x4 x5 Q K V O G Lg P) {C : ℝ} (hC : scalev = (C : EReal)) (L : Pieces) (b a n : ℕ) (h h' h1 h2 h3)
    (ha : b + 256 = a) (hn : a + n = 2048) (hL : Half L P K V O G C b) :
    Holds (⟨band 2048 256 a n h, addf (stored L a n h') (dqR x0 x1 x2 x3 x4 x5 a n b h1 h2 h3)⟩ :: L) P K V O G C a := by
  subst ha
  intro i d
  refine canon_rows _ _ _ _ _ i d _ (fun r hr => ?_) fun hi => ?_
  · rw [← upto_add C b, EReal.coe_add]
    refine congrArg₂ (· + ·) ?_ ?_
    · rw [stored_apply, hL, if_neg (by simp)]; exact congrArg (fun x => (upto P K V O G C b x d : EReal)) hr.symm
    · rw [dqR_apply H hC _ _ _ _ _ _ (le_refl _), hr]
  · rw [hL i d, if_pos (by omega)]

/-- After the last diagonal tile the accumulator holds the share of all keys. -/
theorem done {L : Pieces} {C : ℝ} (hL : Half L P K V O G C 1792) : Holds L P K V O G C 2048 := fun i d => by
  rw [hL i d, if_pos (by omega)]

end

end Cert.KernelIdeal.Block

end
-- ==== Proof.Outputs.lean ====
/- What the body leaves of the three gradients, entry by entry, when its arguments are real. -/
module

public import proofs.«01_k».proof.Proof.Accumulate
public import proofs.«01_k».proof.Proof.Pieces
public import proofs.«01_k».proof.Proof.Values
public import proofs.«01_k».proof.Proof.Gen.KernelIdeal.Value

@[expose] public section

set_option maxRecDepth 16384

noncomputable section

namespace Cert.KernelIdeal.Block

open Finset (sum_range)
open Idealize.ShloMosaic Idealize.ShloMosaic.TcCoe Idealize.SL.Sem Cert.KernelIdeal Cert.KernelIdeal.Gen Attn

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2048x1 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x128 .bf16) (harg10 : arg10.IsWhole) (arg11 : Memref sig .tc .vmem S2048x1 .f32) (harg11 : arg11.IsWhole) (arg12 : Memref sig .tc .vmem S2048x128 .bf16) (harg12 : arg12.IsWhole) (arg13 : Memref sig .tc .vmem S2048x256 .f32) (harg13 : arg13.IsWhole)     (x0 : Vec Ideal S2048x256 .bf16) (x1 : Vec Ideal S2048x256 .bf16) (x2 : Vec Ideal S2048x128 .bf16) (x3 : Vec Ideal S2048x128 .bf16) (x4 : Vec Ideal S2048x128 .bf16) (x5 : Vec Ideal S1x2048x1 .f32)

variable {c i arg2 harg2 arg3 harg3 arg4 harg4 arg5 harg5 arg6 harg6 arg7 harg7 arg8 harg8 arg9 harg9 arg10 harg10 arg11 harg11 arg12 harg12 arg13 harg13 x0 x1 x2 x3 x4 x5}
  {Q K V O G : ℕ → ℕ → ℝ} {Lg : ℕ → ℝ} {P : ℕ → ℕ → ℝ}

/-- The gradient of the keys. -/
theorem dk_apply (H : Reals x0 x1 x2 x3 x4 x5 Q K V O G Lg P) (j : Fin 2048) (d : Fin 256) :
    out0_A_7 c i arg2 harg2 arg3 harg3 arg4 harg4 arg5 harg5 arg6 harg6 arg7 harg7 arg8 harg8 arg9 harg9 arg10 harg10 arg11 harg11 arg12 harg12 arg13 harg13 x0 x1 x2 x3 x4 x5 (ix2 j d) = (((∑ i : Fin 2048, dsc P V O G i j * Q i d) * Real.log 2 : ℝ) : EReal) := by
  rw [out_dk]
  refine canon_rows 1792 256 _ _ _ j d _ (fun r hr => ?_) fun h1792 => ?_
  · rw [hr]; exact dkLast_apply H r d
  refine canon_rows 1536 256 _ _ _ j d _ (fun r hr => ?_) fun h1536 => ?_
  · rw [hr]; exact dkT_apply H 1536 256 _ _ _ rfl r d
  refine canon_rows 1280 256 _ _ _ j d _ (fun r hr => ?_) fun h1280 => ?_
  · rw [hr]; exact dkT_apply H 1280 512 _ _ _ rfl r d
  refine canon_rows 1024 256 _ _ _ j d _ (fun r hr => ?_) fun h1024 => ?_
  · rw [hr]; exact dkT_apply H 1024 768 _ _ _ rfl r d
  refine canon_rows 768 256 _ _ _ j d _ (fun r hr => ?_) fun h768 => ?_
  · rw [hr]; exact dkT_apply H 768 1024 _ _ _ rfl r d
  refine canon_rows 512 256 _ _ _ j d _ (fun r hr => ?_) fun h512 => ?_
  · rw [hr]; exact dkT_apply H 512 1280 _ _ _ rfl r d
  refine canon_rows 256 256 _ _ _ j d _ (fun r hr => ?_) fun h256 => ?_
  · rw [hr]; exact dkT_apply H 256 1536 _ _ _ rfl r d
  refine canon_rows 0 256 _ _ _ j d _ (fun r hr => ?_) fun h0 => ?_
  · rw [hr]; exact dkT_apply H 0 1792 _ _ _ rfl r d
  exfalso; omega

/-- The gradient of the values. -/
theorem dv_apply (H : Reals x0 x1 x2 x3 x4 x5 Q K V O G Lg P) (j : Fin 2048) (d : Fin 128) :
    out0_A_8 c i arg2 harg2 arg3 harg3 arg4 harg4 arg5 harg5 arg6 harg6 arg7 harg7 arg8 harg8 arg9 harg9 arg10 harg10 arg11 harg11 arg12 harg12 arg13 harg13 x0 x1 x2 x3 x4 x5 (ix2 j d) = ((∑ i : Fin 2048, P i j * G i d : ℝ) : EReal) := by
  rw [out_dv]
  refine canon_rows 1792 256 _ _ _ j d _ (fun r hr => ?_) fun h1792 => ?_
  · rw [hr]; exact dvLast_apply H r d
  refine canon_rows 1536 256 _ _ _ j d _ (fun r hr => ?_) fun h1536 => ?_
  · rw [hr]; exact dvT_apply H 1536 256 _ _ _ rfl r d
  refine canon_rows 1280 256 _ _ _ j d _ (fun r hr => ?_) fun h1280 => ?_
  · rw [hr]; exact dvT_apply H 1280 512 _ _ _ rfl r d
  refine canon_rows 1024 256 _ _ _ j d _ (fun r hr => ?_) fun h1024 => ?_
  · rw [hr]; exact dvT_apply H 1024 768 _ _ _ rfl r d
  refine canon_rows 768 256 _ _ _ j d _ (fun r hr => ?_) fun h768 => ?_
  · rw [hr]; exact dvT_apply H 768 1024 _ _ _ rfl r d
  refine canon_rows 512 256 _ _ _ j d _ (fun r hr => ?_) fun h512 => ?_
  · rw [hr]; exact dvT_apply H 512 1280 _ _ _ rfl r d
  refine canon_rows 256 256 _ _ _ j d _ (fun r hr => ?_) fun h256 => ?_
  · rw [hr]; exact dvT_apply H 256 1536 _ _ _ rfl r d
  refine canon_rows 0 256 _ _ _ j d _ (fun r hr => ?_) fun h0 => ?_
  · rw [hr]; exact dvT_apply H 0 1792 _ _ _ rfl r d
  exfalso; omega

/-- The gradient of the queries. -/
theorem dq_apply (H : Reals x0 x1 x2 x3 x4 x5 Q K V O G Lg P) {C : ℝ} (hC : scalev = (C : EReal)) (r : Fin 2048) (d : Fin 256) :
    out0_A_6 c i arg2 harg2 arg3 harg3 arg4 harg4 arg5 harg5 arg6 harg6 arg7 harg7 arg8 harg8 arg9 harg9 arg10 harg10 arg11 harg11 arg12 harg12 arg13 harg13 x0 x1 x2 x3 x4 x5 (ix2 r d) = (((∑ j : Fin 2048, dsc P V O G r j * K j d) * C : ℝ) : EReal) := by
  have a2 : Holds (kernelRun0_A.sl.HS2_2 c arg2 harg2 arg3 harg3 arg4 harg4 arg5 harg5 arg6 harg6 arg7 harg7 arg11 arg12 x0 x1 x2 x3 x4 x5) P K V O G C 256 := by
    rw [acc2]; exact start H hC _ _ _ _ _ _
  have a3 : Half (kernelRun0_A.sl.HS2_3 c arg2 harg2 arg3 harg3 arg4 harg4 arg5 harg5 arg6 harg6 arg7 harg7 arg11 arg12 arg13 x0 x1 x2 x3 x4 x5) P K V O G C 256 := by
    rw [acc3]; exact diag_step H hC _ 256 _ _ _ a2
  have a4 : Holds (kernelRun0_A.sl.HS2_4 c arg2 harg2 arg3 harg3 arg4 harg4 arg5 harg5 arg6 harg6 arg7 harg7 arg11 arg12 arg13 x0 x1 x2 x3 x4 x5) P K V O G C 512 := by
    rw [acc4]; exact rest_step H hC _ 256 512 1536 _ _ _ _ _ rfl rfl a3
  have a5 : Half (kernelRun0_A.sl.HS2_5 c arg2 harg2 arg3 harg3 arg4 harg4 arg5 harg5 arg6 harg6 arg7 harg7 arg11 arg12 arg13 x0 x1 x2 x3 x4 x5) P K V O G C 512 := by
    rw [acc5]; exact diag_step H hC _ 512 _ _ _ a4
  have a6 : Holds (kernelRun0_A.sl.HS2_6 c arg2 harg2 arg3 harg3 arg4 harg4 arg5 harg5 arg6 harg6 arg7 harg7 arg11 arg12 arg13 x0 x1 x2 x3 x4 x5) P K V O G C 768 := by
    rw [acc6]; exact rest_step H hC _ 512 768 1280 _ _ _ _ _ rfl rfl a5
  have a7 : Half (kernelRun0_A.sl.HS2_7 c arg2 harg2 arg3 harg3 arg4 harg4 arg5 harg5 arg6 harg6 arg7 harg7 arg11 arg12 arg13 x0 x1 x2 x3 x4 x5) P K V O G C 768 := by
    rw [acc7]; exact diag_step H hC _ 768 _ _ _ a6
  have a8 : Holds (kernelRun0_A.sl.HS2_8 c arg2 harg2 arg3 harg3 arg4 harg4 arg5 harg5 arg6 harg6 arg7 harg7 arg11 arg12 arg13 x0 x1 x2 x3 x4 x5) P K V O G C 1024 := by
    rw [acc8]; exact rest_step H hC _ 768 1024 1024 _ _ _ _ _ rfl rfl a7
  have a9 : Half (kernelRun0_A.sl.HS2_9 c arg2 harg2 arg3 harg3 arg4 harg4 arg5 harg5 arg6 harg6 arg7 harg7 arg11 arg12 arg13 x0 x1 x2 x3 x4 x5) P K V O G C 1024 := by
    rw [acc9]; exact diag_step H hC _ 1024 _ _ _ a8
  have a10 : Holds (kernelRun0_A.sl.HS2_10 c arg2 harg2 arg3 harg3 arg4 harg4 arg5 harg5 arg6 harg6 arg7 harg7 arg11 arg12 arg13 x0 x1 x2 x3 x4 x5) P K V O G C 1280 := by
    rw [acc10]; exact rest_step H hC _ 1024 1280 768 _ _ _ _ _ rfl rfl a9
  have a11 : Half (kernelRun0_A.sl.HS2_11 c arg2 harg2 arg3 harg3 arg4 harg4 arg5 harg5 arg6 harg6 arg7 harg7 arg11 arg12 arg13 x0 x1 x2 x3 x4 x5) P K V O G C 1280 := by
    rw [acc11]; exact diag_step H hC _ 1280 _ _ _ a10
  have a12 : Holds (kernelRun0_A.sl.HS2_12 c arg2 harg2 arg3 harg3 arg4 harg4 arg5 harg5 arg6 harg6 arg7 harg7 arg11 arg12 arg13 x0 x1 x2 x3 x4 x5) P K V O G C 1536 := by
    rw [acc12]; exact rest_step H hC _ 1280 1536 512 _ _ _ _ _ rfl rfl a11
  have a13 : Half (kernelRun0_A.sl.HS2_13 c arg2 harg2 arg3 harg3 arg4 harg4 arg5 harg5 arg6 harg6 arg7 harg7 arg11 arg12 arg13 x0 x1 x2 x3 x4 x5) P K V O G C 1536 := by
    rw [acc13]; exact diag_step H hC _ 1536 _ _ _ a12
  have a14 : Holds (kernelRun0_A.sl.HS2_14 c arg2 harg2 arg3 harg3 arg4 harg4 arg5 harg5 arg6 harg6 arg7 harg7 arg11 arg12 arg13 x0 x1 x2 x3 x4 x5) P K V O G C 1792 := by
    rw [acc14]; exact rest_step H hC _ 1536 1792 256 _ _ _ _ _ rfl rfl a13
  have a15 : Half (kernelRun0_A.sl.HS2_15 c arg2 harg2 arg3 harg3 arg4 harg4 arg5 harg5 arg6 harg6 arg7 harg7 arg11 arg12 arg13 x0 x1 x2 x3 x4 x5) P K V O G C 1792 := by
    rw [acc15]; exact diag_step H hC _ 1792 _ _ _ a14
  rw [out_dq, done a15 r d]
  unfold upto
  rw [sum_range]

end Cert.KernelIdeal.Block

end
-- ==== Proof.Host.lean ====
/- The host lines that prepare the kernel's arguments: the queries times the scale over `log 2`, the attention's output and each
   row's base-two logarithm of its sum of exponentials, from the same operations on the scores as the reference's softmax. -/
module

public import proofs.«01_k».proof.Proof.Gen.KernelIdeal.Value
public import proofs.«01_k».proof.Proof.Gen.ReferenceIdeal.Read

@[expose] public section

set_option maxRecDepth 16384

noncomputable section

namespace Cert.KernelIdeal.HostSide

open Idealize.ShloMosaic Idealize.ShloMosaic.TcCoe Idealize.SL.Sem Cert.KernelIdeal Cert.KernelIdeal.Gen

abbrev R2048 := FVec Ideal S8192x2048 .f32
abbrev R1024 := FVec Ideal S8192x1024 .f32
abbrev Rows := FVec Ideal S4x8x2048 .f32

/-- An array at half precision. -/
def lowR2048 (x : R2048) : FVec Ideal S8192x2048 .bf16 := truncf .bf16 x bitsLt_bf16_f32

def lowR1024 (x : R1024) : FVec Ideal S8192x1024 .bf16 := truncf .bf16 x bitsLt_bf16_f32

/-- The exponentials of the masked scores less each row's shift `w`. -/
def expo (x0 x1 : R2048) (w : Rows) : FVec Ideal S4x8x2048x2048 .f32 :=
  Host.exp (subf (Cert.ReferenceIdeal.Read.val_main_v13_0 (F := Ideal) x0 x1)
    (broadcastInDim S4x8x2048x2048 ![0, 1, 2, 3] bcast_S4x8x2048x1_S4x8x2048x2048_0_1_2_3 (broadcastInDim S4x8x2048x1 ![0, 1, 2] bcast_S4x8x2048_S4x8x2048x1_0_1_2 w)))

/-- Their sums by row. -/
def sums (x0 x1 : R2048) (w : Rows) : FVec Ideal S4x8x2048x1 .f32 :=
  broadcastInDim S4x8x2048x1 ![0, 1, 2] bcast_S4x8x2048_S4x8x2048x1_0_1_2
    (Host.reduceAdd (expo x0 x1 w) (constant (F := Ideal) S_ .f32 0x00000000#32) reducesTo_S4x8x2048x2048_S4x8x2048_d3 h_S_)

/-- The attention's output. -/
def out (x0 x1 : R2048) (x2 : R1024) (w : Rows) : FVec Ideal S8192x1024 .f32 :=
  shapeCast S8192x1024 (transpose S4x2048x8x128 [0, 3, 1, 2] (Host.dotGeneral (φ₁ := .f32) (φ₂ := .f32) dot_S4x2048x8x128_S4x8x2048x2048_S4x8x128x2048_1_3_3_2_02_01 none
    (Cert.ReferenceIdeal.Read.val_main_v2 (F := Ideal) x2)
    (Host.divf (expo x0 x1 w) (broadcastInDim S4x8x2048x2048 ![0, 1, 2, 3] bcast_S4x8x2048x1_S4x8x2048x2048_0_1_2_3 (sums x0 x1 w))))
    transposes_S4x8x128x2048_S4x2048x8x128_0_3_1_2) shapeCasts_S4x2048x8x128_S8192x1024

/-- The base-two logarithms of the rows' sums. -/
def logs (x0 x1 : R2048) (w : Rows) : FVec Ideal S8x8192x1 .f32 :=
  shapeCast S8x8192x1 (transpose S8x4x2048x1 [1, 0, 2, 3] (Host.divf (addf (broadcastInDim S4x8x2048x1 ![0, 1, 2] bcast_S4x8x2048_S4x8x2048x1_0_1_2 w) (Host.log (sums x0 x1 w)))
    (broadcastInDim S4x8x2048x1 ![] bcast_S_S4x8x2048x1 (Host.log (constant (F := Ideal) S_ .f32 0x40000000#32))))
    transposes_S4x8x2048x1_S8x4x2048x1_1_0_2_3) shapeCasts_S8x4x2048x1_S8x8192x1

/-- The scaled queries. -/
def scaled (x0 : R2048) : FVec Ideal S8192x2048 .bf16 :=
  truncf .bf16 (Host.divf (mulf x0 (broadcastInDim S8192x2048 ![] bcast_S_S8192x2048 (constant (F := Ideal) S_ .f32 0x3D93CD3A#32)))
    (broadcastInDim S8192x2048 ![] bcast_S_S8192x2048 (Host.log (constant (F := Ideal) S_ .f32 0x40000000#32)))) bitsLt_bf16_f32

variable (m : (ℓ : Loc nD τ sig) → Buf (Elt Ideal) ℓ) (c : Dev nD)

/-- The queries as the kernel takes them. -/
theorem V_q : V m c main_v41 = scaled (m ((c : Thread nD τ).loc main_arg0)) := by
  dsimp only [V, hostOps0, hostOps0_1, hostOps0_2, List.flatten_cons, List.flatten_nil, List.cons_append, List.nil_append]
  simp only [StableHlo.TRef.nullary, StableHlo.TRef.ternary, StableHlo.TRef.unary, StableHlo.TRef.toBuf, StableHlo.TRef.ofBuf, cast_eq]
  after_results_simp <;> rfl

/-- The keys. -/
theorem V_k : V m c main_v42 = lowR2048 (m ((c : Thread nD τ).loc main_arg1)) := by
  dsimp only [V, hostOps0, hostOps0_1, hostOps0_2, List.flatten_cons, List.flatten_nil, List.cons_append, List.nil_append]
  simp only [StableHlo.TRef.nullary, StableHlo.TRef.ternary, StableHlo.TRef.unary, StableHlo.TRef.toBuf, StableHlo.TRef.ofBuf, cast_eq]
  after_results_simp <;> rfl

/-- The values. -/
theorem V_v : V m c main_v43 = lowR1024 (m ((c : Thread nD τ).loc main_arg2)) := by
  dsimp only [V, hostOps0, hostOps0_1, hostOps0_2, List.flatten_cons, List.flatten_nil, List.cons_append, List.nil_append]
  simp only [StableHlo.TRef.nullary, StableHlo.TRef.ternary, StableHlo.TRef.unary, StableHlo.TRef.toBuf, StableHlo.TRef.ofBuf, cast_eq]
  after_results_simp <;> rfl

/-- The output. -/
theorem V_o : V m c main_v26 = lowR1024 (out (m ((c : Thread nD τ).loc main_arg0)) (m ((c : Thread nD τ).loc main_arg1)) (m ((c : Thread nD τ).loc main_arg2)) (Cert.ReferenceIdeal.Read.val_main_v14 (F := Ideal) (m ((c : Thread nD τ).loc main_arg0)) (m ((c : Thread nD τ).loc main_arg1)))) := by
  dsimp only [V, hostOps0, hostOps0_1, hostOps0_2, List.flatten_cons, List.flatten_nil, List.cons_append, List.nil_append]
  simp only [StableHlo.TRef.nullary, StableHlo.TRef.ternary, StableHlo.TRef.unary, StableHlo.TRef.toBuf, StableHlo.TRef.ofBuf, cast_eq]
  after_results_simp <;> rfl

/-- The gradient of the output. -/
theorem V_g : V m c main_v44 = lowR1024 (m ((c : Thread nD τ).loc main_arg3)) := by
  dsimp only [V, hostOps0, hostOps0_1, hostOps0_2, List.flatten_cons, List.flatten_nil, List.cons_append, List.nil_append]
  simp only [StableHlo.TRef.nullary, StableHlo.TRef.ternary, StableHlo.TRef.unary, StableHlo.TRef.toBuf, StableHlo.TRef.ofBuf, cast_eq]
  after_results_simp <;> rfl

/-- The logarithms. -/
theorem V_l : V m c main_v34 = logs (m ((c : Thread nD τ).loc main_arg0)) (m ((c : Thread nD τ).loc main_arg1)) (Cert.ReferenceIdeal.Read.val_main_v14 (F := Ideal) (m ((c : Thread nD τ).loc main_arg0)) (m ((c : Thread nD τ).loc main_arg1))) := by
  dsimp only [V, hostOps0, hostOps0_1, hostOps0_2, List.flatten_cons, List.flatten_nil, List.cons_append, List.nil_append]
  simp only [StableHlo.TRef.nullary, StableHlo.TRef.ternary, StableHlo.TRef.unary, StableHlo.TRef.toBuf, StableHlo.TRef.ofBuf, cast_eq]
  after_results_simp <;> rfl

end Cert.KernelIdeal.HostSide

end
-- ==== Proof.HostValues.lean ====
/- The kernel's host arrays at an index, for real arguments. -/
module

public import proofs.«01_k».proof.Proof.Host
public import proofs.«01_k».proof.Proof.RefValues

@[expose] public section

set_option maxRecDepth 16384

noncomputable section

namespace Cert.KernelIdeal.HostSide

open Idealize.ShloMosaic Idealize.ShloMosaic.TcCoe Idealize.SL.Sem Cert.KernelIdeal Cert.KernelIdeal.Gen Attn
open Cert.ReferenceIdeal.Values (Data hd row colD colE sc dp pr ds mx ex sm scale scale_eq two_eq sm_pos)
open Cert.ReferenceIdeal.Read (val_main_v14)

variable {x0 x1 : R2048} {x2 x3 : R1024} {q k v g : ℕ → ℕ → ℝ} (H : Data x0 x1 x2 x3 q k v g)
include H

theorem scaled_apply (r : Fin 8192) (l : Fin 2048) : scaled x0 (ix2 r l) = ((q r l * scale / Real.log 2 : ℝ) : EReal) := by
  show Ideal.div (x0 (ix2 r l) * Ideal.ofBits .f32 0x3D93CD3A#32) (Ideal.log (Ideal.ofBits .f32 0x40000000#32)) = _
  rw [H.q, scale_eq, two_eq, Ideal.log_coe, if_neg (by norm_num), ← EReal.coe_mul, div_coe' _ _ (Real.log_pos one_lt_two).ne']

theorem out_apply (b : Fin 4) (h : Fin 8) (i : Fin 2048) (e : Fin 128) :
    lowR1024 (out x0 x1 x2 (val_main_v14 (F := Ideal) x0 x1)) (ix2 (row b i) (colE h e))
      = ((∑ j : Fin 2048, hd 128 v b h j e * pr q k b h i j : ℝ) : EReal) := by
  rw [← Cert.ReferenceIdeal.Values.r21, ← Cert.ReferenceIdeal.Values.o_ref H]
  rfl

omit H in
theorem logs_read (x0 x1 : R2048) (w : Rows) (b : Fin 4) (h : Fin 8) (i : Fin 2048) :
    logs x0 x1 w (ix3 h (row b i) 0)
      = Ideal.div (w (ix3 b h i) + Ideal.log (sums x0 x1 w (ix4 b h i 0))) (Ideal.log (Ideal.ofBits .f32 0x40000000#32)) := by
  have hb := b.isLt
  have hi := i.isLt
  have hh := h.isLt
  unfold logs
  generalize sums x0 x1 w = s
  rw [shapeCast_apply _ shapeCasts_S8x4x2048x1_S8x8192x1 (ix3 h (row b i) 0) (ix4 h b i 0)
    (by rw [Shape.rowMajor_val_four, Shape.rowMajor_val_three]
        show (((h : ℕ) * 4 + b) * 2048 + i) * 1 + 0 = ((h : ℕ) * 8192 + (b * 2048 + i)) * 1 + 0; omega),
    transpose_apply [1, 0, 2, 3] _ transposes_S4x8x2048x1_S8x4x2048x1_1_0_2_3 (ix4 h b i 0) (ix4 b h i 0) (fun a => match a with
          | ⟨0, _⟩ => rfl | ⟨1, _⟩ => rfl | ⟨2, _⟩ => rfl | ⟨3, _⟩ => rfl)]
  have hw : broadcastInDim S4x8x2048x1 ![0, 1, 2] bcast_S4x8x2048_S4x8x2048x1_0_1_2 w (ix4 b h i 0) = w (ix3 b h i) :=
      broadcastInDim_apply _ bcast_S4x8x2048_S4x8x2048x1_0_1_2 w (ix4 b h i 0) (ix3 b h i) (fun a => match a with
        | ⟨0, _⟩ => by show (b : ℕ) = if (4 : Nat) = 1 then 0 else (b : ℕ); rw [if_neg (by decide)]
        | ⟨1, _⟩ => by show (h : ℕ) = if (8 : Nat) = 1 then 0 else (h : ℕ); rw [if_neg (by decide)]
        | ⟨2, _⟩ => by show (i : ℕ) = if (2048 : Nat) = 1 then 0 else (i : ℕ); rw [if_neg (by decide)])
  rw [← hw]
  generalize broadcastInDim S4x8x2048x1 ![0, 1, 2] bcast_S4x8x2048_S4x8x2048x1_0_1_2 w = y
  rfl

/-- Row `b, i` of head `h` of the logarithms. -/
theorem logs_apply (b : Fin 4) (h : Fin 8) (i : Fin 2048) :
    logs x0 x1 (val_main_v14 (F := Ideal) x0 x1) (ix3 h (row b i) 0)
      = (((mx x0 x1 b h i + Real.log (sm x0 x1 q k b h i)) / Real.log 2 : ℝ) : EReal) := by
  have e : sums x0 x1 (val_main_v14 (F := Ideal) x0 x1) = Cert.ReferenceIdeal.Read.val_main_v36 (F := Ideal) x0 x1 := by
    rw [← Cert.ReferenceIdeal.Values.r21]; rfl
  rw [logs_read, e, Cert.ReferenceIdeal.Values.r14 H b h i, Cert.ReferenceIdeal.Values.r36 H b h i, Ideal.log_coe,
    if_neg (not_le.2 (sm_pos b h i)), two_eq, Ideal.log_coe, if_neg (by norm_num), ← EReal.coe_add,
    div_coe' _ _ (Real.log_pos one_lt_two).ne']

end Cert.KernelIdeal.HostSide

end
-- ==== Proof.Arrays.lean ====
/- The kernel's three results as whole arrays: for real arguments they are the reference's results. -/
module

public import proofs.«01_k».proof.Proof.Outputs
public import proofs.«01_k».proof.Proof.HostValues
public import Idealize.ShloMosaic.Lib.Pipeline.ValueKit

@[expose] public section

set_option maxRecDepth 16384

noncomputable section

namespace Cert.KernelIdeal.Arrays

open Idealize.ShloMosaic Idealize.ShloMosaic.TcCoe Idealize.SL.Sem Cert.KernelIdeal Cert.KernelIdeal.Gen Attn
open Cert.ReferenceIdeal.Values (Data hd row colD colE sc dp pr ds mx ex sm scale scale_eq causal)
open Cert.KernelIdeal.Block Cert.KernelIdeal.HostSide

/-- The batch of a grid point. -/
def bt (t : Fin cfg0.N) : Fin 4 := grid0.coords t 0
/-- The head of a grid point. -/
def ht (t : Fin cfg0.N) : Fin 8 := grid0.coords t 1

theorem index0 : ∀ t : Fin grid0.N, win0_0.index t 0 = (grid0.coords t 0 : ℕ) ∧ win0_0.index t 1 = (grid0.coords t 1 : ℕ) := by decide +kernel

theorem emb0 (t : Fin cfg0.N) (i : Fin 2048) (d : Fin 256) : (win0_0.blk t).view.emb (ix2 i d) = ix2 (row (bt t) i) (colD (ht t) d) := by
  refine Cert.ReferenceIdeal.Values.idx2 _ _ _ ?_ ?_
  · show ((win0_0.rect t).emb (ix2 i d) 0 : ℕ) = _
    rw [Pipeline.Window.rect_emb_val win0_0 t, (index0 t).1]; rfl
  · show ((win0_0.rect t).emb (ix2 i d) 1 : ℕ) = _
    rw [Pipeline.Window.rect_emb_val win0_0 t, (index0 t).2]; rfl

theorem index1 : ∀ t : Fin grid0.N, win0_1.index t 0 = (grid0.coords t 0 : ℕ) ∧ win0_1.index t 1 = (grid0.coords t 1 : ℕ) := by decide +kernel

theorem emb1 (t : Fin cfg0.N) (i : Fin 2048) (d : Fin 256) : (win0_1.blk t).view.emb (ix2 i d) = ix2 (row (bt t) i) (colD (ht t) d) := by
  refine Cert.ReferenceIdeal.Values.idx2 _ _ _ ?_ ?_
  · show ((win0_1.rect t).emb (ix2 i d) 0 : ℕ) = _
    rw [Pipeline.Window.rect_emb_val win0_1 t, (index1 t).1]; rfl
  · show ((win0_1.rect t).emb (ix2 i d) 1 : ℕ) = _
    rw [Pipeline.Window.rect_emb_val win0_1 t, (index1 t).2]; rfl

theorem index2 : ∀ t : Fin grid0.N, win0_2.index t 0 = (grid0.coords t 0 : ℕ) ∧ win0_2.index t 1 = (grid0.coords t 1 : ℕ) := by decide +kernel

theorem emb2 (t : Fin cfg0.N) (i : Fin 2048) (d : Fin 128) : (win0_2.blk t).view.emb (ix2 i d) = ix2 (row (bt t) i) (colE (ht t) d) := by
  refine Cert.ReferenceIdeal.Values.idx2 _ _ _ ?_ ?_
  · show ((win0_2.rect t).emb (ix2 i d) 0 : ℕ) = _
    rw [Pipeline.Window.rect_emb_val win0_2 t, (index2 t).1]; rfl
  · show ((win0_2.rect t).emb (ix2 i d) 1 : ℕ) = _
    rw [Pipeline.Window.rect_emb_val win0_2 t, (index2 t).2]; rfl

theorem index3 : ∀ t : Fin grid0.N, win0_3.index t 0 = (grid0.coords t 0 : ℕ) ∧ win0_3.index t 1 = (grid0.coords t 1 : ℕ) := by decide +kernel

theorem emb3 (t : Fin cfg0.N) (i : Fin 2048) (d : Fin 128) : (win0_3.blk t).view.emb (ix2 i d) = ix2 (row (bt t) i) (colE (ht t) d) := by
  refine Cert.ReferenceIdeal.Values.idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; rfl

theorem index4 : ∀ t : Fin grid0.N, win0_4.index t 0 = (grid0.coords t 0 : ℕ) ∧ win0_4.index t 1 = (grid0.coords t 1 : ℕ) := by decide +kernel

theorem emb4 (t : Fin cfg0.N) (i : Fin 2048) (d : Fin 128) : (win0_4.blk t).view.emb (ix2 i d) = ix2 (row (bt t) i) (colE (ht t) d) := by
  refine Cert.ReferenceIdeal.Values.idx2 _ _ _ ?_ ?_
  · show ((win0_4.rect t).emb (ix2 i d) 0 : ℕ) = _
    rw [Pipeline.Window.rect_emb_val win0_4 t, (index4 t).1]; rfl
  · show ((win0_4.rect t).emb (ix2 i d) 1 : ℕ) = _
    rw [Pipeline.Window.rect_emb_val win0_4 t, (index4 t).2]; rfl

theorem index6 : ∀ t : Fin grid0.N, win0_6.index t 0 = (grid0.coords t 0 : ℕ) ∧ win0_6.index t 1 = (grid0.coords t 1 : ℕ) := by decide +kernel

theorem emb6 (t : Fin cfg0.N) (i : Fin 2048) (d : Fin 256) : (win0_6.blk t).view.emb (ix2 i d) = ix2 (row (bt t) i) (colD (ht t) d) := by
  refine Cert.ReferenceIdeal.Values.idx2 _ _ _ ?_ ?_
  · show ((win0_6.rect t).emb (ix2 i d) 0 : ℕ) = _
    rw [Pipeline.Window.rect_emb_val win0_6 t, (index6 t).1]; rfl
  · show ((win0_6.rect t).emb (ix2 i d) 1 : ℕ) = _
    rw [Pipeline.Window.rect_emb_val win0_6 t, (index6 t).2]; rfl

theorem index7 : ∀ t : Fin grid0.N, win0_7.index t 0 = (grid0.coords t 0 : ℕ) ∧ win0_7.index t 1 = (grid0.coords t 1 : ℕ) := by decide +kernel

theorem emb7 (t : Fin cfg0.N) (i : Fin 2048) (d : Fin 256) : (win0_7.blk t).view.emb (ix2 i d) = ix2 (row (bt t) i) (colD (ht t) d) := by
  refine Cert.ReferenceIdeal.Values.idx2 _ _ _ ?_ ?_
  · show ((win0_7.rect t).emb (ix2 i d) 0 : ℕ) = _
    rw [Pipeline.Window.rect_emb_val win0_7 t, (index7 t).1]; rfl
  · show ((win0_7.rect t).emb (ix2 i d) 1 : ℕ) = _
    rw [Pipeline.Window.rect_emb_val win0_7 t, (index7 t).2]; rfl

theorem index8 : ∀ t : Fin grid0.N, win0_8.index t 0 = (grid0.coords t 0 : ℕ) ∧ win0_8.index t 1 = (grid0.coords t 1 : ℕ) := by decide +kernel

theorem emb8 (t : Fin cfg0.N) (i : Fin 2048) (d : Fin 128) : (win0_8.blk t).view.emb (ix2 i d) = ix2 (row (bt t) i) (colE (ht t) d) := by
  refine Cert.ReferenceIdeal.Values.idx2 _ _ _ ?_ ?_
  · show ((win0_8.rect t).emb (ix2 i d) 0 : ℕ) = _
    rw [Pipeline.Window.rect_emb_val win0_8 t, (index8 t).1]; rfl
  · show ((win0_8.rect t).emb (ix2 i d) 1 : ℕ) = _
    rw [Pipeline.Window.rect_emb_val win0_8 t, (index8 t).2]; rfl

theorem index5 : ∀ t : Fin grid0.N, win0_5.index t 0 = (grid0.coords t 1 : ℕ) ∧ win0_5.index t 1 = (grid0.coords t 0 : ℕ) ∧ win0_5.index t 2 = 0 := by decide +kernel

theorem emb5 (t : Fin cfg0.N) (i : Fin 2048) : (win0_5.blk t).view.emb (ix3 0 i 0) = ix3 (ht t) (row (bt t) i) 0 := by
  refine Cert.ReferenceIdeal.Values.idx3 _ _ _ _ ?_ ?_ ?_
  · show ((win0_5.rect t).emb (ix3 0 i 0) 0 : ℕ) = _
    rw [Pipeline.Window.rect_emb_val win0_5 t, (index5 t).1]; show (grid0.coords t 1 : ℕ) * 1 + 0 = _; rw [Nat.mul_one]; rfl
  · show ((win0_5.rect t).emb (ix3 0 i 0) 1 : ℕ) = _
    rw [Pipeline.Window.rect_emb_val win0_5 t, (index5 t).2.1]; rfl
  · show ((win0_5.rect t).emb (ix3 0 i 0) 2 : ℕ) = _
    rw [Pipeline.Window.rect_emb_val win0_5 t, (index5 t).2.2]; rfl

/-- A head's probabilities at natural indices, zero past the head's end. -/
def pn (q k : ℕ → ℕ → ℝ) (b h i j : ℕ) : ℝ :=
  if hi : i < 2048 then if hj : j < 2048 then pr q k b h ⟨i, hi⟩ ⟨j, hj⟩ else 0 else 0

theorem pn_fin (q k : ℕ → ℕ → ℝ) (b h : ℕ) (i j : Fin 2048) : pn q k b h i j = pr q k b h i j := by
  unfold pn; rw [dif_pos i.isLt, dif_pos j.isLt]

/-- A head's output at natural indices. -/
def on (q k v : ℕ → ℕ → ℝ) (b h i e : ℕ) : ℝ := ∑ j : Fin 2048, hd 128 v b h j e * pn q k b h i j

/-- A head's queries as the kernel takes them. -/
def qn (q : ℕ → ℕ → ℝ) (b h i d : ℕ) : ℝ := hd 256 q b h i d * scale / Real.log 2

/-- A head's logarithms at natural indices. -/
def ln (x0 x1 : R2048) (q k : ℕ → ℕ → ℝ) (b : Fin 4) (h : Fin 8) (i : ℕ) : ℝ :=
  if hi : i < 2048 then (mx x0 x1 b h ⟨i, hi⟩ + Real.log (sm x0 x1 q k b h ⟨i, hi⟩)) / Real.log 2 else 0

theorem qk_sum (q k : ℕ → ℕ → ℝ) (b h : ℕ) (i j : Fin 2048) :
    (∑ d : Fin 256, qn q b h i d * hd 256 k b h j d) = sc q k b h i j / Real.log 2 := by
  unfold sc qn
  rw [Finset.sum_mul, Finset.sum_div]
  refine Finset.sum_congr rfl fun d _ => ?_
  ring

theorem pn_le {x0 x1 : R2048} (q k : ℕ → ℕ → ℝ) (b : Fin 4) (h : Fin 8) (i j : ℕ) (hi : i < 2048) (hj : j ≤ i) :
    Real.rpow 2 ((∑ d : Fin 256, qn q b h i d * hd 256 k b h j d) - ln x0 x1 q k b h i) = pn q k b h i j := by
  have hj' : j < 2048 := by omega
  have e1 := qk_sum q k b h ⟨i, hi⟩ ⟨j, hj'⟩
  have e2 := exp2_prob causal (sc q k b h) (i := ⟨i, hi⟩) (j := ⟨j, hj'⟩) (mx x0 x1 b h ⟨i, hi⟩) hj
  dsimp only at e1
  unfold pn ln
  rw [dif_pos hi, dif_pos hi, dif_pos hj', e1]
  exact e2

theorem pn_gt (q k : ℕ → ℕ → ℝ) (b h i j : ℕ) (hij : i < j) : pn q k b h i j = 0 := by
  unfold pn
  split_ifs with hi hj
  · exact prob_off causal _ (by show ¬ (j ≤ i); omega)
  · rfl
  · rfl

/-- The kernel's gradient of the scores is the reference's. -/
theorem dsc_eq (q k v g : ℕ → ℕ → ℝ) (b h : ℕ) (i j : Fin 2048) :
    dsc (pn q k b h) (hd 128 v b h) (on q k v b h) (hd 128 g b h) i j = ds q k v g b h i j := by
  have e : dot (on q k v b h) (hd 128 g b h) i = ∑ t, pr q k b h i t * dp v g b h i t := by
    unfold dot on dp
    simp only [Finset.mul_sum, Finset.sum_mul]
    rw [Finset.sum_comm]
    refine Finset.sum_congr rfl fun t _ => Finset.sum_congr rfl fun e _ => ?_
    rw [pn_fin]; ring
  unfold dsc
  rw [e, pn_fin]
  rfl

theorem scale_val : scalev = (scale : EReal) := scale_eq

section
variable (m : (ℓ : Loc nD τ sig) → Buf (Elt Ideal) ℓ) (c : Dev nD) {q k v g : ℕ → ℕ → ℝ}
  (H : Data (m ((c : Thread nD τ).loc main_arg0)) (m ((c : Thread nD τ).loc main_arg1)) (m ((c : Thread nD τ).loc main_arg2)) (m ((c : Thread nD τ).loc main_arg3)) q k v g)
include H

set_option maxHeartbeats 2000000 in
/-- What the body reads at a grid point. -/
theorem reals (t : Fin cfg0.N) : Reals (iblk m c 0 t) (iblk m c 1 t) (iblk m c 2 t) (iblk m c 3 t) (iblk m c 4 t) (iblk m c 5 t)
    (qn q (bt t) (ht t)) (hd 256 k (bt t) (ht t)) (hd 128 v (bt t) (ht t)) (on q k v (bt t) (ht t)) (hd 128 g (bt t) (ht t))
    (ln (m ((c : Thread nD τ).loc main_arg0)) (m ((c : Thread nD τ).loc main_arg1)) q k (bt t) (ht t)) (pn q k (bt t) (ht t)) where
  q i d := by
    show V m c main_v41 ((win0_0.blk t).view.emb (ix2 i d)) = _
    rw [emb0, V_q]
    exact scaled_apply H _ _
  k i d := by
    show V m c main_v42 ((win0_1.blk t).view.emb (ix2 i d)) = _
    rw [emb1, V_k]
    exact H.k _ _
  v i e := by
    show V m c main_v43 ((win0_2.blk t).view.emb (ix2 i e)) = _
    rw [emb2, V_v]
    exact H.v _ _
  o i e := by
    show V m c main_v26 ((win0_3.blk t).view.emb (ix2 i e)) = _
    rw [emb3, V_o]
    refine (out_apply H (bt t) (ht t) i e).trans (congrArg _ ?_)
    unfold on
    exact Finset.sum_congr rfl fun j _ => by rw [pn_fin]
  g i e := by
    show V m c main_v44 ((win0_4.blk t).view.emb (ix2 i e)) = _
    rw [emb4, V_g]
    exact H.g _ _
  l i := by
    show V m c main_v34 ((win0_5.blk t).view.emb (ix3 0 i 0)) = _
    rw [emb5, V_l]
    refine (logs_apply H (bt t) (ht t) i).trans (congrArg _ ?_)
    unfold ln
    rw [dif_pos i.isLt]
  p i j hi hj := pn_le q k (bt t) (ht t) i j hi hj
  z i j hij := pn_gt q k (bt t) (ht t) i j hij

/-- The gradient of the queries. -/
theorem dq_eq : (dats m 0 c).arrAt 6 cfg0.N = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  obtain ⟨i, d, rfl⟩ : ∃ (i : Fin 2048) (d : Fin 256), y = ix2 i d := ⟨y 0, y 1, eq_ix2 y⟩
  rw [emb6, after0_6, outsAt0]
  dsimp only
  rw [dq_apply (reals m c H t) scale_val, (Cert.ReferenceIdeal.Values.dq_ref H (bt t) (ht t) i d)]
  refine congrArg _ ?_
  rw [Finset.sum_mul]
  refine Finset.sum_congr rfl fun j _ => ?_
  rw [dsc_eq]; ring

/-- The gradient of the keys. -/
theorem dk_eq : (dats m 0 c).arrAt 7 cfg0.N = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  obtain ⟨i, d, rfl⟩ : ∃ (i : Fin 2048) (d : Fin 256), y = ix2 i d := ⟨y 0, y 1, eq_ix2 y⟩
  rw [emb7, after0_7, outsAt0]
  dsimp only
  rw [dk_apply (reals m c H t), (Cert.ReferenceIdeal.Values.dk_ref H (bt t) (ht t) i d)]
  refine congrArg _ ?_
  rw [Finset.sum_mul]
  refine Finset.sum_congr rfl fun j _ => ?_
  rw [dsc_eq]; unfold qn
  have hl : Real.log 2 ≠ 0 := (Real.log_pos one_lt_two).ne'
  field_simp

/-- The gradient of the values. -/
theorem dv_eq : (dats m 0 c).arrAt 8 cfg0.N = Cert.ReferenceIdeal.Read.val_main_v74 (F := Ideal) (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp
  obtain ⟨i, d, rfl⟩ : ∃ (i : Fin 2048) (d : Fin 128), y = ix2 i d := ⟨y 0, y 1, eq_ix2 y⟩
  rw [emb8, after0_8, outsAt0]
  dsimp only
  rw [dv_apply (reals m c H t), (Cert.ReferenceIdeal.Values.dv_ref H (bt t) (ht t) i d)]
  refine congrArg _ ?_
  refine Finset.sum_congr rfl fun j _ => ?_
  rw [pn_fin, mul_comm]

end

end Cert.KernelIdeal.Arrays

end
-- ==== Proof.Fwd.lean ====
/- The attention's forward pass as whole arrays: for real queries and keys its output and its rows' logarithms
   are the reference's. -/
module

public import proofs.«01_k».proof.Proof.FwdOutputs
public import proofs.«01_k».proof.Proof.Arrays
public import proofs.«01_k».proof.Proof.Gen.Reference34Ideal.Read
public import Idealize.ShloMosaic.Lib.Pipeline.ValueKit

@[expose] public section

set_option maxRecDepth 16384

noncomputable section

namespace Cert.Kernel34Ideal.Fwd

open Idealize.ShloMosaic Idealize.ShloMosaic.TcCoe Idealize.SL.Sem Cert.Kernel34Ideal Cert.Kernel34Ideal.Gen Attn
open Cert.ReferenceIdeal.Values (Data hd row colD colE sc pr mx ex sm scale causal)
open Cert.ReferenceIdeal.Values (idx2 idx4)
open Cert.ReferenceIdeal.Read (val_main_v14 val_main_v44 val_main_v44_apply idx_main_v44 val_main_v43_apply idx_main_v43 val_main_v42_apply lidx_main_v42 ridx_main_v42
  val_main_v2_apply idx_main_v2)
open Cert.KernelIdeal.HostSide (R2048 R1024 scaled out logs lowR2048 lowR1024 scaled_apply logs_apply)
open Cert.KernelIdeal.Arrays (qn qk_sum)
open Cert.Kernel34Ideal.FwdBlock

/-! ### The weights -/

/-- The kernel's unshifted weight of a key is the exponential of its score. -/
theorem fw_wt (q k : ℕ → ℕ → ℝ) (b h : ℕ) (i j : Fin 2048) :
    fw (D := 256) (qn q b h) (hd 256 k b h) 0 i j = wt causal (sc q k b h) i j := by
  have hl : Real.log 2 ≠ 0 := (Real.log_pos one_lt_two).ne'
  unfold fw wt fs
  rw [qk_sum, sub_zero]
  have e : Real.rpow 2 (sc q k b h i j / Real.log 2) = Real.exp (Real.log 2 * (sc q k b h i j / Real.log 2)) := Real.rpow_def_of_pos two_pos _
  rw [e, mul_div_cancel₀ _ hl]

theorem fden_den (q k : ℕ → ℕ → ℝ) (b h : ℕ) (i : Fin 2048) :
    fden (D := 256) (qn q b h) (hd 256 k b h) 2048 i = den causal (sc q k b h) i :=
  Finset.sum_congr rfl fun j _ => fw_wt q k b h i j

/-- The kernel's weights, divided by their sum, are the probabilities. -/
theorem out_prob (q k : ℕ → ℕ → ℝ) (b h : ℕ) (i j : Fin 2048) :
    fw (D := 256) (qn q b h) (hd 256 k b h) 0 i j / fden (D := 256) (qn q b h) (hd 256 k b h) 2048 i = pr q k b h i j := by
  rw [fden_den, fw_wt]
  rfl

/-- Head `h` of batch `b` of the values. -/
def vals (y : R1024) (b : Fin 4) (h : Fin 8) (i e : ℕ) : EReal :=
  if c : i < 2048 ∧ e < 128 then y (ix2 (row b ⟨i, c.1⟩) (colE h ⟨e, c.2⟩)) else 0

theorem vals_fin (y : R1024) (b : Fin 4) (h : Fin 8) (i : Fin 2048) (e : Fin 128) : vals y b h i e = y (ix2 (row b i) (colE h e)) :=
  dif_pos ⟨i.isLt, e.isLt⟩

/-- The reference's logarithm of a row, its largest score put back. -/
theorem log_den (x0 x1 : R2048) (q k : ℕ → ℕ → ℝ) (b : Fin 4) (h : Fin 8) (i : Fin 2048) :
    mx x0 x1 b h i + Real.log (sm x0 x1 q k b h i) = Real.log (den causal (sc q k b h) i) := by
  have e : sm x0 x1 q k b h i = den causal (sc q k b h) i * Real.exp (-mx x0 x1 b h i) := den_shift causal (sc q k b h) _ i
  rw [e, Real.log_mul (den_pos causal _ ⟨i, le_refl _⟩).ne' (Real.exp_pos _).ne', Real.log_exp]
  ring

/-! ### The reference -/

theorem ref_o (x0 x1 : R2048) (x2 : R1024) :
    Cert.Reference34Ideal.Read.val_main_v26 (F := Ideal) x0 x1 x2 = lowR1024 (out x0 x1 x2 (val_main_v14 (F := Ideal) x0 x1)) := rfl

theorem ref_l (x0 x1 : R2048) :
    Cert.Reference34Ideal.Read.val_main_v34 (F := Ideal) x0 x1 = logs x0 x1 (val_main_v14 (F := Ideal) x0 x1) := rfl

/-- The reference's output for any values. -/
theorem o_any {x0 x1 : R2048} {x2 x3 : R1024} {q k v g : ℕ → ℕ → ℝ} (H : Data x0 x1 x2 x3 q k v g) (y : R1024) (b : Fin 4) (h : Fin 8)
    (i : Fin 2048) (e : Fin 128) : lowR1024 (out x0 x1 y (val_main_v14 (F := Ideal) x0 x1)) (ix2 (row b i) (colE h e))
      = ∑ j : Fin 2048, vals y b h j e * (pr q k b h i j : EReal) := by
  have hi := i.isLt
  have hh := h.isLt
  have hb := b.isLt
  have he := e.isLt
  rw [← Cert.ReferenceIdeal.Values.r21]
  show val_main_v44 (F := Ideal) x0 x1 y (ix2 (row b i) (colE h e)) = _
  rw [val_main_v44_apply, idx4 (idx_main_v44 (ix2 (row b i) (colE h e))) b i h e
    (by show (((b : ℕ) * 2048 + i) * 1024 + (h * 128 + e)) / 2097152 = b; omega)
    (by show (((b : ℕ) * 2048 + i) * 1024 + (h * 128 + e)) / 1024 % 2048 = i; omega)
    (by show (((b : ℕ) * 2048 + i) * 1024 + (h * 128 + e)) / 128 % 8 = h; omega)
    (by show (((b : ℕ) * 2048 + i) * 1024 + (h * 128 + e)) % 128 = e; omega),
    val_main_v43_apply, idx4 (idx_main_v43 (ix4 b i h e)) b h e i rfl rfl rfl rfl, val_main_v42_apply]
  refine Finset.sum_congr rfl fun t _ => ?_
  have ht := t.isLt
  rw [idx4 (lidx_main_v42 (ix4 b h e i) t) b t h e rfl rfl rfl rfl, idx4 (ridx_main_v42 (ix4 b h e i) t) b h i t rfl rfl rfl rfl,
    Cert.ReferenceIdeal.Values.r38 H, val_main_v2_apply, idx2 (idx_main_v2 (ix4 b t h e)) (row b t) (colE h e)
    (by show ((((b : ℕ) * 2048 + t) * 8 + h) * 128 + e) / 1024 = b * 2048 + t; omega)
    (by show ((((b : ℕ) * 2048 + t) * 8 + h) * 128 + e) % 1024 = h * 128 + e; omega), vals_fin]

/-! ### The blocks -/

/-- The batch of a grid point. -/
def bt (t : Fin cfg0.N) : Fin 4 := grid0.coords t 0
/-- The head of a grid point. -/
def ht (t : Fin cfg0.N) : Fin 8 := grid0.coords t 1

theorem index0 : ∀ t : Fin grid0.N, win0_0.index t 0 = (grid0.coords t 0 : ℕ) ∧ win0_0.index t 1 = (grid0.coords t 1 : ℕ) := by decide +kernel

theorem emb0 (t : Fin cfg0.N) (i : Fin 2048) (d : Fin 256) : (win0_0.blk t).view.emb (ix2 i d) = ix2 (row (bt t) i) (colD (ht t) d) := by
  refine Cert.ReferenceIdeal.Values.idx2 _ _ _ ?_ ?_
  · show ((win0_0.rect t).emb (ix2 i d) 0 : ℕ) = _
    rw [Pipeline.Window.rect_emb_val win0_0 t, (index0 t).1]; rfl
  · show ((win0_0.rect t).emb (ix2 i d) 1 : ℕ) = _
    rw [Pipeline.Window.rect_emb_val win0_0 t, (index0 t).2]; rfl

theorem index1 : ∀ t : Fin grid0.N, win0_1.index t 0 = (grid0.coords t 0 : ℕ) ∧ win0_1.index t 1 = (grid0.coords t 1 : ℕ) := by decide +kernel

theorem emb1 (t : Fin cfg0.N) (i : Fin 2048) (d : Fin 256) : (win0_1.blk t).view.emb (ix2 i d) = ix2 (row (bt t) i) (colD (ht t) d) := by
  refine Cert.ReferenceIdeal.Values.idx2 _ _ _ ?_ ?_
  · show ((win0_1.rect t).emb (ix2 i d) 0 : ℕ) = _
    rw [Pipeline.Window.rect_emb_val win0_1 t, (index1 t).1]; rfl
  · show ((win0_1.rect t).emb (ix2 i d) 1 : ℕ) = _
    rw [Pipeline.Window.rect_emb_val win0_1 t, (index1 t).2]; rfl

theorem index2 : ∀ t : Fin grid0.N, win0_2.index t 0 = (grid0.coords t 0 : ℕ) ∧ win0_2.index t 1 = (grid0.coords t 1 : ℕ) := by decide +kernel

theorem emb2 (t : Fin cfg0.N) (i : Fin 2048) (d : Fin 128) : (win0_2.blk t).view.emb (ix2 i d) = ix2 (row (bt t) i) (colE (ht t) d) := by
  refine Cert.ReferenceIdeal.Values.idx2 _ _ _ ?_ ?_
  · show ((win0_2.rect t).emb (ix2 i d) 0 : ℕ) = _
    rw [Pipeline.Window.rect_emb_val win0_2 t, (index2 t).1]; rfl
  · show ((win0_2.rect t).emb (ix2 i d) 1 : ℕ) = _
    rw [Pipeline.Window.rect_emb_val win0_2 t, (index2 t).2]; rfl

theorem index3 : ∀ t : Fin grid0.N, win0_3.index t 0 = (grid0.coords t 0 : ℕ) ∧ win0_3.index t 1 = (grid0.coords t 1 : ℕ) := by decide +kernel

theorem emb3 (t : Fin cfg0.N) (i : Fin 2048) (d : Fin 128) : (win0_3.blk t).view.emb (ix2 i d) = ix2 (row (bt t) i) (colE (ht t) d) := by
  refine Cert.ReferenceIdeal.Values.idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; rfl

theorem index4 : ∀ t : Fin grid0.N, win0_4.index t 0 = (grid0.coords t 1 : ℕ) ∧ win0_4.index t 1 = (grid0.coords t 0 : ℕ) ∧ win0_4.index t 2 = 0 := by decide +kernel

theorem emb4 (t : Fin cfg0.N) (i : Fin 2048) : (win0_4.blk t).view.emb (ix3 0 i 0) = ix3 (ht t) (row (bt t) i) 0 := by
  refine Cert.ReferenceIdeal.Values.idx3 _ _ _ _ ?_ ?_ ?_
  · show ((win0_4.rect t).emb (ix3 0 i 0) 0 : ℕ) = _
    rw [Pipeline.Window.rect_emb_val win0_4 t, (index4 t).1]; show (grid0.coords t 1 : ℕ) * 1 + 0 = _; rw [Nat.mul_one]; rfl
  · show ((win0_4.rect t).emb (ix3 0 i 0) 1 : ℕ) = _
    rw [Pipeline.Window.rect_emb_val win0_4 t, (index4 t).2.1]; rfl
  · show ((win0_4.rect t).emb (ix3 0 i 0) 2 : ℕ) = _
    rw [Pipeline.Window.rect_emb_val win0_4 t, (index4 t).2.2]; rfl

section
variable (m : (ℓ : Loc nD τ sig) → Buf (Elt Ideal) ℓ) (c : Dev nD)

/-- The queries as the kernel takes them. -/
theorem V_q : V m c main_v6 = scaled (m ((c : Thread nD τ).loc main_arg0)) := by
  dsimp only [V, hostOps0]
  after_results_simp <;> rfl

/-- The keys. -/
theorem V_k : V m c main_v7 = lowR2048 (m ((c : Thread nD τ).loc main_arg1)) := by
  dsimp only [V, hostOps0]
  after_results_simp <;> rfl

/-- The values. -/
theorem V_v : V m c main_v8 = lowR1024 (m ((c : Thread nD τ).loc main_arg2)) := by
  dsimp only [V, hostOps0]
  after_results_simp <;> rfl

variable {x2 x3 : R1024} {q k v g : ℕ → ℕ → ℝ}
  (H : Data (m ((c : Thread nD τ).loc main_arg0)) (m ((c : Thread nD τ).loc main_arg1)) x2 x3 q k v g)
include H

/-- What the body reads at a grid point. -/
theorem reals (t : Fin cfg0.N) : FReals (iblk m c 0 t) (iblk m c 1 t) (iblk m c 2 t)
    (qn q (bt t) (ht t)) (hd 256 k (bt t) (ht t)) (vals (m ((c : Thread nD τ).loc main_arg2)) (bt t) (ht t)) where
  q i d := by
    show V m c main_v6 ((win0_0.blk t).view.emb (ix2 i d)) = _
    rw [emb0, V_q]
    exact scaled_apply H _ _
  k i d := by
    show V m c main_v7 ((win0_1.blk t).view.emb (ix2 i d)) = _
    rw [emb1, V_k]
    exact H.k _ _
  v i e := by
    show V m c main_v8 ((win0_2.blk t).view.emb (ix2 i e)) = _
    rw [emb2, V_v, vals_fin]
    rfl

/-- The output. -/
theorem array3 : (dats m 0 c).arrAt 3 cfg0.N = Cert.Reference34Ideal.Read.val_main_v26 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  obtain ⟨i, d, rfl⟩ : ∃ (i : Fin 2048) (d : Fin 128), y = ix2 i d := ⟨y 0, y 1, eq_ix2 y⟩
  rw [emb3, after0_3, ref_o]
  dsimp only
  refine (o_apply (reals m c H t) i d).trans (Eq.trans ?_ (o_any H _ (bt t) (ht t) i d).symm)
  exact Finset.sum_congr rfl fun j _ => congrArg _ (congrArg _ (out_prob q k (bt t) (ht t) i j))

/-- The rows' logarithms. -/
theorem array4 : (dats m 0 c).arrAt 4 cfg0.N = Cert.Reference34Ideal.Read.val_main_v34 (F := Ideal) (m ((c : Thread nD τ).loc main_arg0)) (m ((c : Thread nD τ).loc main_arg1)) := by
  refine (dats m 0 c).arrAt_eq_of_covers 4 _ (by decide +kernel) fun t hf y => ?_
  blk_simp
  obtain ⟨i, rfl⟩ : ∃ i : Fin 2048, y = ix3 0 i 0 := ⟨y 1, (eq_ix3 y).trans
    (congrArg₂ (fun a b => ix3 a (y 1) b) (Subsingleton.elim (α := Fin 1) _ _) (Subsingleton.elim (α := Fin 1) _ _))⟩
  rw [emb4, after0_4, ref_l]
  dsimp only
  refine (l_apply (reals m c H t) i).trans (Eq.trans ?_ (logs_apply H (bt t) (ht t) i).symm)
  rw [log_den, fden_den]

end

end Cert.Kernel34Ideal.Fwd

end
-- ==== Proof.AdamW.lean ====
/- One step of the optimiser entry by entry, and the sum of the eight parts of a gradient. -/
module

public import proofs.«01_k».proof.Proof.Products

@[expose] public section

set_option maxRecDepth 16384

noncomputable section

namespace AdamW

open Idealize.ShloMosaic Idealize.ShloMosaic.TcCoe Idealize.SL.Sem Attn Products

/-- The new first moment, from the old one and the gradient. -/
def first (m g : EReal) : EReal := Ideal.ofBits .f32 0x3F666666#32 * m + Ideal.ofBits .f32 0x3DCCCCCD#32 * g
/-- The new second moment. -/
def second (v g : EReal) : EReal := Ideal.ofBits .f32 0x3F7FBE77#32 * v + Ideal.ofBits .f32 0x3A83126F#32 * (g * g)
/-- The update of the parameter. -/
def delta (w m v g : EReal) : EReal :=
  Ideal.ofBits .f32 0xBA83126F#32 * (Ideal.div (Ideal.div (first m g) (Ideal.ofBits .f32 0x3F26BD02#32))
    (Ideal.sqrt (Ideal.div (second v g) (Ideal.ofBits .f32 0x3C231ACC#32)) + Ideal.ofBits .f32 0x322BCC77#32) + Ideal.ofBits .f32 0x3C23D70A#32 * w)

/-- Eight matrices of `R` rows and `C` columns. -/
abbrev M8 (R C : ℕ) : Shape := ⟨3, ![8, R, C]⟩
abbrev M1 (R C : ℕ) : Shape := ⟨3, ![1, R, C]⟩

/-- The `k`-th matrix of eight, read as one matrix. -/
theorem slab {R C : ℕ} (x : Vec Ideal (M8 R C) .bf16) (k : ℕ) (hk : k < 8) (hin) (h : (M1 R C).ShapeCasts (M2 R C)) (i : Fin R) (d : Fin C) :
    shapeCast (M2 R C) (View.ld x (Rect.unit (s := M8 R C) ![k, 0, 0] (M1 R C).size hin)) h (ix2 i d) = x (ix3 ⟨k, hk⟩ i d) := by
  have e : shapeCast (M2 R C) (View.ld x (Rect.unit (s := M8 R C) ![k, 0, 0] (M1 R C).size hin)) h (ix2 i d)
      = View.ld x (Rect.unit (s := M8 R C) ![k, 0, 0] (M1 R C).size hin) (ix3 0 i d) := by
    refine congrArg (View.ld x _) (Shape.reshapeEquiv_eq_of_rowMajor h ?_)
    rw [rowMajor_val3 (ix3 0 i d) (R * C) C rfl rfl, rowMajor_val2 (ix2 i d) C rfl]
    show 0 * _ + (i : ℕ) * C + d = (i : ℕ) * C + d
    omega
  rw [e]
  refine View.ld_unit_apply_of x ![k, 0, 0] (M1 R C).size hin (ix3 0 i d) _ fun a => ?_
  match a with
  | ⟨0, _⟩ => rfl
  | ⟨1, _⟩ => exact (Nat.zero_add _).symm
  | ⟨2, _⟩ => exact (Nat.zero_add _).symm

/-- The sum of eight matrices, entry by entry. -/
def total {R C : ℕ} (x : Vec Ideal (M8 R C) .bf16) (i : Fin R) (d : Fin C) : EReal := ∑ k : Fin 8, x (ix3 k i d)

/-- Eight terms added one after another are their sum. -/
theorem eight (f : Fin 8 → EReal) {a0 a1 a2 a3 a4 a5 a6 a7 : EReal} (h0 : a0 = f 0) (h1 : a1 = f 1) (h2 : a2 = f 2) (h3 : a3 = f 3) (h4 : a4 = f 4)
    (h5 : a5 = f 5) (h6 : a6 = f 6) (h7 : a7 = f 7) : a0 + a1 + a2 + a3 + a4 + a5 + a6 + a7 = ∑ k : Fin 8, f k := by
  rw [Fin.sum_univ_eight, h0, h1, h2, h3, h4, h5, h6, h7]

end AdamW

end
-- ==== Proof.SumIn.lean ====
/- The sum over the devices of the gradient's parts and the update of the matrix of all the projections, whose parts arrive in two halves of the rows. -/
module

public import proofs.«01_k».proof.Proof.AdamW
public import proofs.«01_k».proof.Proof.Gen.Kernel35Ideal.Value
public import proofs.«01_k».proof.Proof.Gen.Reference35Ideal.Read

@[expose] public section

set_option maxRecDepth 16384

noncomputable section

namespace Cert.Kernel35Ideal.SumIn

open Idealize.ShloMosaic Idealize.ShloMosaic.TcCoe Idealize.SL.Sem Cert.Kernel35Ideal Cert.Kernel35Ideal.Gen Attn Products AdamW

section
variable (i0 : grid0.Coords) (x0 x1 : Vec Ideal S8x256x664 .bf16) (x2 x3 x4 : Vec Ideal S256x664 .f32)

/-- The sum of the eight parts of the upper half. -/
theorem top (i : Fin 256) (d : Fin 664) :
    k0_pay4 (F := Ideal) (View.ld x0 r0_0) (View.ld x0 r0_1) (View.ld x0 r0_2) (View.ld x0 r0_3) (View.ld x0 r0_4) (View.ld x0 r0_5) (View.ld x0 r0_6) (View.ld x0 r0_7) (ix2 i d) = total x0 i d := by
  unfold k0_pay4
  exact eight (fun k => x0 (ix3 k i d)) (slab x0 0 (by decide) _ _ i d) (slab x0 1 (by decide) _ _ i d) (slab x0 2 (by decide) _ _ i d)
    (slab x0 3 (by decide) _ _ i d) (slab x0 4 (by decide) _ _ i d) (slab x0 5 (by decide) _ _ i d) (slab x0 6 (by decide) _ _ i d) (slab x0 7 (by decide) _ _ i d)

/-- The body's gradient at the first grid points: the sum of the parts of the upper half. -/
theorem payTop (h : Scalar.cmpi .sge (BitVec.ofNat 32 (i0 0).val) 2#32 = 0#1) (i : Fin 256) (d : Fin 664) :
    k0_pay6 (F := Ideal) i0 x0 x1 x2 x3 x4 (ix2 i d) = total x0 i d := by
  unfold k0_pay6 k0_pay5
  rw [h]
  exact top x0 i d

/-- The body's gradient at the other grid points: the sum of the parts of the lower half. -/
theorem payBot (h : Scalar.cmpi .sge (BitVec.ofNat 32 (i0 0).val) 2#32 = 1#1) (i : Fin 256) (d : Fin 664) :
    k0_pay6 (F := Ideal) i0 x0 x1 x2 x3 x4 (ix2 i d) = total x1 i d := by
  unfold k0_pay6 k0_pay5
  rw [h]
  exact eight (fun k => x1 (ix3 k i d)) (slab x1 0 (by decide) _ _ i d) (slab x1 1 (by decide) _ _ i d) (slab x1 2 (by decide) _ _ i d)
    (slab x1 3 (by decide) _ _ i d) (slab x1 4 (by decide) _ _ i d) (slab x1 5 (by decide) _ _ i d) (slab x1 6 (by decide) _ _ i d) (slab x1 7 (by decide) _ _ i d)

theorem blockG : out0_5 i0 x0 x1 x2 x3 x4 = k0_pay6 i0 x0 x1 x2 x3 x4 := by
  unfold out0_5
  exact View.canon_unit_zero (off := ![0, 0]) (S := S256x664) (by decide) _ _

theorem blockD : out0_6 i0 x0 x1 x2 x3 x4 = k0_pay3 (k0_pay6 i0 x0 x1 x2 x3 x4) x2 x3 x4 := by
  unfold out0_6
  rw [View.ld_unit_zero (off := ![0, 0]) (S := S256x664) (by decide), View.ld_unit_zero (off := ![0, 0]) (S := S256x664) (by decide), View.ld_unit_zero (off := ![0, 0]) (S := S256x664) (by decide)]
  exact View.canon_unit_zero (off := ![0, 0]) (S := S256x664) (by decide) _ _

theorem blockM : out0_7 i0 x0 x1 x2 x3 x4 = k0_pay1 (k0_pay6 i0 x0 x1 x2 x3 x4) x3 := by
  unfold out0_7
  rw [View.ld_unit_zero (off := ![0, 0]) (S := S256x664) (by decide)]
  exact View.canon_unit_zero (off := ![0, 0]) (S := S256x664) (by decide) _ _

theorem blockV : out0_8 i0 x0 x1 x2 x3 x4 = k0_pay2 (k0_pay6 i0 x0 x1 x2 x3 x4) x4 := by
  unfold out0_8
  rw [View.ld_unit_zero (off := ![0, 0]) (S := S256x664) (by decide)]
  exact View.canon_unit_zero (off := ![0, 0]) (S := S256x664) (by decide) _ _

end

theorem payD (g w m v : FVec Ideal S256x664 .f32) (i : S256x664.Idx) : k0_pay3 (F := Ideal) g w m v i = delta (w i) (m i) (v i) (g i) := rfl
theorem payM (g m : FVec Ideal S256x664 .f32) (i : S256x664.Idx) : k0_pay1 (F := Ideal) g m i = first (m i) (g i) := rfl
theorem payV (g v : FVec Ideal S256x664 .f32) (i : S256x664.Idx) : k0_pay2 (F := Ideal) g v i = second (v i) (g i) := rfl

variable (m : (ℓ : Loc nD τ sig) → Buf (Elt Ideal) ℓ) (c : Dev nD)

/-- The parts of the upper and of the lower half. -/
abbrev tops : FVec Ideal S8x512x664 .bf16 := m ((c : Thread nD τ).loc main_arg0)
abbrev bots : FVec Ideal S8x512x664 .bf16 := m ((c : Thread nD τ).loc main_arg1)

theorem V_p : V m c main_arg0 = tops m c := rfl
theorem V_q : V m c main_arg1 = bots m c := rfl
theorem V_w : V m c main_arg2 = (m ((c : Thread nD τ).loc main_arg2) : FVec Ideal S1024x664 .f32) := rfl
theorem V_m : V m c main_arg3 = (m ((c : Thread nD τ).loc main_arg3) : FVec Ideal S1024x664 .f32) := rfl
theorem V_v : V m c main_arg4 = (m ((c : Thread nD τ).loc main_arg4) : FVec Ideal S1024x664 .f32) := rfl

/-- The rows of the block at a grid point. -/
def row (t : Fin cfg0.N) (i : Fin 256) : Fin 1024 := ⟨t * 256 + i, by have hN : (t : ℕ) < 4 := lt_of_lt_of_eq t.isLt N_0; omega⟩

theorem index0 : ∀ t : Fin grid0.N, win0_0.index t 0 = 0 ∧ ((t : ℕ) < 2 → win0_0.index t 1 = (t : ℕ)) ∧ win0_0.index t 2 = 0 := by decide +kernel
theorem index1 : ∀ t : Fin grid0.N, win0_1.index t 0 = 0 ∧ (2 ≤ (t : ℕ) → win0_1.index t 1 = (t : ℕ) - 2) ∧ win0_1.index t 2 = 0 := by decide +kernel
theorem side : ∀ t : Fin grid0.N, ((t : ℕ) < 2 → Scalar.cmpi .sge (BitVec.ofNat 32 (grid0.coords t 0).val) 2#32 = 0#1)
    ∧ (2 ≤ (t : ℕ) → Scalar.cmpi .sge (BitVec.ofNat 32 (grid0.coords t 0).val) 2#32 = 1#1) := by decide +kernel
theorem index2 : ∀ t : Fin grid0.N, win0_2.index t 0 = (t : ℕ) ∧ win0_2.index t 1 = 0 := by decide +kernel
theorem index3 : ∀ t : Fin grid0.N, win0_3.index t 0 = (t : ℕ) ∧ win0_3.index t 1 = 0 := by decide +kernel
theorem index4 : ∀ t : Fin grid0.N, win0_4.index t 0 = (t : ℕ) ∧ win0_4.index t 1 = 0 := by decide +kernel
theorem index5 : ∀ t : Fin grid0.N, win0_5.index t 0 = (t : ℕ) ∧ win0_5.index t 1 = 0 := by decide +kernel
theorem index6 : ∀ t : Fin grid0.N, win0_6.index t 0 = (t : ℕ) ∧ win0_6.index t 1 = 0 := by decide +kernel
theorem index7 : ∀ t : Fin grid0.N, win0_7.index t 0 = (t : ℕ) ∧ win0_7.index t 1 = 0 := by decide +kernel
theorem index8 : ∀ t : Fin grid0.N, win0_8.index t 0 = (t : ℕ) ∧ win0_8.index t 1 = 0 := by decide +kernel

theorem block0 (t : Fin cfg0.N) (h : (t : ℕ) < 2) (k : Fin 8) (i : Fin 256) (d : Fin 664) :
    iblk m c 0 t (ix3 k i d) = tops m c (ix3 k ⟨t * 256 + i, by omega⟩ d) := by
  rw [← V_p m c]
  show V m c main_arg0 ((win0_0.blk t).view.emb (ix3 k i d)) = _
  congr 1
  refine idx3 _ _ _ _ ?_ ?_ ?_
  · show ((win0_0.rect t).emb (ix3 k i d) 0 : ℕ) = _
    rw [Pipeline.Window.rect_emb_val win0_0 t, (index0 t).1]; simp
  · show ((win0_0.rect t).emb (ix3 k i d) 1 : ℕ) = _
    rw [Pipeline.Window.rect_emb_val win0_0 t, (index0 t).2.1 h]; rfl
  · show ((win0_0.rect t).emb (ix3 k i d) 2 : ℕ) = _
    rw [Pipeline.Window.rect_emb_val win0_0 t, (index0 t).2.2]; simp

theorem block1 (t : Fin cfg0.N) (h : 2 ≤ (t : ℕ)) (k : Fin 8) (i : Fin 256) (d : Fin 664) :
    iblk m c 1 t (ix3 k i d) = bots m c (ix3 k ⟨(t - 2) * 256 + i, by have hN : (t : ℕ) < 4 := lt_of_lt_of_eq t.isLt N_0; omega⟩ d) := by
  rw [← V_q m c]
  show V m c main_arg1 ((win0_1.blk t).view.emb (ix3 k i d)) = _
  congr 1
  refine idx3 _ _ _ _ ?_ ?_ ?_
  · show ((win0_1.rect t).emb (ix3 k i d) 0 : ℕ) = _
    rw [Pipeline.Window.rect_emb_val win0_1 t, (index1 t).1]; simp
  · show ((win0_1.rect t).emb (ix3 k i d) 1 : ℕ) = _
    rw [Pipeline.Window.rect_emb_val win0_1 t, (index1 t).2.1 h]; rfl
  · show ((win0_1.rect t).emb (ix3 k i d) 2 : ℕ) = _
    rw [Pipeline.Window.rect_emb_val win0_1 t, (index1 t).2.2]; simp

theorem block2 (t : Fin cfg0.N) (i : Fin 256) (d : Fin 664) :
    iblk m c 2 t (ix2 i d) = (m ((c : Thread nD τ).loc main_arg2) : FVec Ideal S1024x664 .f32) (ix2 (row t i) d) := by
  rw [← V_w m c]
  show V m c main_arg2 ((win0_2.blk t).view.emb (ix2 i d)) = _
  congr 1
  refine idx2 _ _ _ ?_ ?_
  · show ((win0_2.rect t).emb (ix2 i d) 0 : ℕ) = _
    rw [Pipeline.Window.rect_emb_val win0_2 t, (index2 t).1]; rfl
  · show ((win0_2.rect t).emb (ix2 i d) 1 : ℕ) = _
    rw [Pipeline.Window.rect_emb_val win0_2 t, (index2 t).2]; simp

theorem block3 (t : Fin cfg0.N) (i : Fin 256) (d : Fin 664) :
    iblk m c 3 t (ix2 i d) = (m ((c : Thread nD τ).loc main_arg3) : FVec Ideal S1024x664 .f32) (ix2 (row t i) d) := by
  rw [← V_m m c]
  show V m c main_arg3 ((win0_3.blk t).view.emb (ix2 i d)) = _
  congr 1
  refine idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; simp

theorem block4 (t : Fin cfg0.N) (i : Fin 256) (d : Fin 664) :
    iblk m c 4 t (ix2 i d) = (m ((c : Thread nD τ).loc main_arg4) : FVec Ideal S1024x664 .f32) (ix2 (row t i) d) := by
  rw [← V_v m c]
  show V m c main_arg4 ((win0_4.blk t).view.emb (ix2 i d)) = _
  congr 1
  refine idx2 _ _ _ ?_ ?_
  · show ((win0_4.rect t).emb (ix2 i d) 0 : ℕ) = _
    rw [Pipeline.Window.rect_emb_val win0_4 t, (index4 t).1]; rfl
  · show ((win0_4.rect t).emb (ix2 i d) 1 : ℕ) = _
    rw [Pipeline.Window.rect_emb_val win0_4 t, (index4 t).2]; simp

theorem emb5 (t : Fin cfg0.N) (i : Fin 256) (d : Fin 664) : (win0_5.blk t).view.emb (ix2 i d) = ix2 (row t i) d := by
  refine idx2 _ _ _ ?_ ?_
  · show ((win0_5.rect t).emb (ix2 i d) 0 : ℕ) = _
    rw [Pipeline.Window.rect_emb_val win0_5 t, (index5 t).1]; rfl
  · show ((win0_5.rect t).emb (ix2 i d) 1 : ℕ) = _
    rw [Pipeline.Window.rect_emb_val win0_5 t, (index5 t).2]; simp

theorem emb6 (t : Fin cfg0.N) (i : Fin 256) (d : Fin 664) : (win0_6.blk t).view.emb (ix2 i d) = ix2 (row t i) d := by
  refine idx2 _ _ _ ?_ ?_
  · show ((win0_6.rect t).emb (ix2 i d) 0 : ℕ) = _
    rw [Pipeline.Window.rect_emb_val win0_6 t, (index6 t).1]; rfl
  · show ((win0_6.rect t).emb (ix2 i d) 1 : ℕ) = _
    rw [Pipeline.Window.rect_emb_val win0_6 t, (index6 t).2]; simp

theorem emb7 (t : Fin cfg0.N) (i : Fin 256) (d : Fin 664) : (win0_7.blk t).view.emb (ix2 i d) = ix2 (row t i) d := by
  refine idx2 _ _ _ ?_ ?_
  · show ((win0_7.rect t).emb (ix2 i d) 0 : ℕ) = _
    rw [Pipeline.Window.rect_emb_val win0_7 t, (index7 t).1]; rfl
  · show ((win0_7.rect t).emb (ix2 i d) 1 : ℕ) = _
    rw [Pipeline.Window.rect_emb_val win0_7 t, (index7 t).2]; simp

theorem emb8 (t : Fin cfg0.N) (i : Fin 256) (d : Fin 664) : (win0_8.blk t).view.emb (ix2 i d) = ix2 (row t i) d := by
  refine idx2 _ _ _ ?_ ?_
  · show ((win0_8.rect t).emb (ix2 i d) 0 : ℕ) = _
    rw [Pipeline.Window.rect_emb_val win0_8 t, (index8 t).1]; rfl
  · show ((win0_8.rect t).emb (ix2 i d) 1 : ℕ) = _
    rw [Pipeline.Window.rect_emb_val win0_8 t, (index8 t).2]; simp

open Cert.Reference35Ideal.Read

section
variable (x0 x1 : FVec Ideal S8x512x664 .bf16) (x2 x3 x4 : FVec Ideal S1024x664 .f32)

/-- The reference's gradient is the sum of the stacked parts. -/
theorem refG (i : Fin 1024) (d : Fin 664) : val_main_v2 (F := Ideal) x0 x1 (ix2 i d) = total (val_main_v0 (F := Ideal) x0 x1) i d := by
  rw [val_main_v2_apply, val_main_cst_apply]
  refine (congrArg (· + _) Ideal.ofBits_zero_f32).trans ((zero_add _).trans (Finset.sum_congr rfl fun k _ => ?_))
  rw [idx3 (idx_main_v2 (ix2 i d) k) k i d rfl rfl rfl, val_main_v1_apply]
  rfl

/-- Rows of the upper half. -/
theorem refTop (k : Fin 8) (i : Fin 1024) (j : Fin 512) (d : Fin 664) (h : (j : ℕ) = i) : val_main_v0 (F := Ideal) x0 x1 (ix3 k i d) = x0 (ix3 k j d) := by
  unfold val_main_v0
  refine concatenate_pair_apply_left 1 x0 x1 _ (ix3 k i d) rfl (ix3 k j d) fun b => ?_
  match b with
  | ⟨0, _⟩ => rfl
  | ⟨1, _⟩ => exact h
  | ⟨2, _⟩ => rfl

/-- Rows of the lower half. -/
theorem refBot (k : Fin 8) (i : Fin 1024) (j : Fin 512) (d : Fin 664) (h : (j : ℕ) + 512 = i) : val_main_v0 (F := Ideal) x0 x1 (ix3 k i d) = x1 (ix3 k j d) := by
  unfold val_main_v0
  refine concatenate_pair_apply_right 1 x0 x1 _ (ix3 k i d) rfl rfl (ix3 k j d) (fun b hb => ?_) h
  match b, hb with
  | ⟨0, _⟩, _ => rfl
  | ⟨1, _⟩, hb => exact absurd rfl hb
  | ⟨2, _⟩, _ => rfl

theorem refD (i : S1024x664.Idx) : val_main_v26 (F := Ideal) x0 x1 x2 x3 x4 i = delta (x2 i) (x3 i) (x4 i) (val_main_v2 (F := Ideal) x0 x1 i) := rfl
theorem refM (i : S1024x664.Idx) : val_main_v7 (F := Ideal) x0 x1 x3 i = first (x3 i) (val_main_v2 (F := Ideal) x0 x1 i) := rfl
theorem refV (i : S1024x664.Idx) : val_main_v13 (F := Ideal) x0 x1 x4 i = second (x4 i) (val_main_v2 (F := Ideal) x0 x1 i) := rfl

end

/-- The gradient at a grid point is the reference's, entry by entry. -/
theorem grad (t : Fin cfg0.N) (i : Fin 256) (d : Fin 664) :
    k0_pay6 (F := Ideal) (grid0.coords t) (iblk m c 0 t) (iblk m c 1 t) (iblk m c 2 t) (iblk m c 3 t) (iblk m c 4 t) (ix2 i d)
      = val_main_v2 (F := Ideal) (m ((c : Thread nD τ).loc main_arg0)) (m ((c : Thread nD τ).loc main_arg1)) (ix2 (row t i) d) := by
  rw [refG]
  by_cases h : (t : ℕ) < 2
  · refine (payTop (grid0.coords t) _ _ _ _ _ ((side t).1 h) i d).trans (Finset.sum_congr rfl fun k _ => ?_)
    exact (block0 m c t h k i d).trans (refTop (tops m c) (bots m c) k (row t i) _ d rfl).symm
  · refine (payBot (grid0.coords t) _ _ _ _ _ ((side t).2 (by omega)) i d).trans (Finset.sum_congr rfl fun k _ => ?_)
    exact (block1 m c t (by omega) k i d).trans (refBot (tops m c) (bots m c) k (row t i) _ d (by simp only [row]; omega)).symm

/-- The summed gradient is the reference's. -/
theorem array5 : (dats m 0 c).arrAt 5 cfg0.N = val_main_v2 (F := Ideal) (m ((c : Thread nD τ).loc main_arg0)) (m ((c : Thread nD τ).loc main_arg1)) := by
  refine (dats m 0 c).arrAt_eq_of_covers 5 _ (by decide +kernel) fun t hf y => ?_
  blk_simp
  obtain ⟨i, d, rfl⟩ : ∃ (i : Fin 256) (d : Fin 664), y = ix2 i d := ⟨y 0, y 1, eq_ix2 y⟩
  rw [emb5, after0_5]
  dsimp only
  rw [blockG, grad]

/-- The update is the reference's. -/
theorem array6 : (dats m 0 c).arrAt 6 cfg0.N = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  obtain ⟨i, d, rfl⟩ : ∃ (i : Fin 256) (d : Fin 664), y = ix2 i d := ⟨y 0, y 1, eq_ix2 y⟩
  rw [emb6, after0_6]
  dsimp only
  rw [blockD, payD, refD, grad, block2, block3, block4]

/-- The first moment is the reference's. -/
theorem array7 : (dats m 0 c).arrAt 7 cfg0.N = val_main_v7 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  obtain ⟨i, d, rfl⟩ : ∃ (i : Fin 256) (d : Fin 664), y = ix2 i d := ⟨y 0, y 1, eq_ix2 y⟩
  rw [emb7, after0_7]
  dsimp only
  rw [blockM, payM, refM, grad, block3]

/-- The second moment is the reference's. -/
theorem array8 : (dats m 0 c).arrAt 8 cfg0.N = val_main_v13 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  obtain ⟨i, d, rfl⟩ : ∃ (i : Fin 256) (d : Fin 664), y = ix2 i d := ⟨y 0, y 1, eq_ix2 y⟩
  rw [emb8, after0_8]
  dsimp only
  rw [blockV, payV, refV, grad, block4]

end Cert.Kernel35Ideal.SumIn

end
-- ==== Proof.SumUq.lean ====
/- The sum over the devices of the gradient's parts and the update of the queries' matrix. -/
module

public import proofs.«01_k».proof.Proof.AdamW
public import proofs.«01_k».proof.Proof.Gen.Kernel36Ideal.Value
public import proofs.«01_k».proof.Proof.Gen.Reference36Ideal.Read

@[expose] public section

set_option maxRecDepth 16384

noncomputable section

namespace Cert.Kernel36Ideal.SumUq

open Idealize.ShloMosaic Idealize.ShloMosaic.TcCoe Idealize.SL.Sem Cert.Kernel36Ideal Cert.Kernel36Ideal.Gen Attn Products AdamW

section
variable (x0 : Vec Ideal S8x384x192 .bf16) (x1 x2 x3 : Vec Ideal S384x192 .f32)

/-- The body's gradient: the sum of the eight parts. -/
theorem pay (i : Fin 384) (d : Fin 192) : k0_pay5 (F := Ideal) x0 x1 x2 x3 (ix2 i d) = total x0 i d := by
  unfold k0_pay5 k0_pay4
  exact eight (fun k => x0 (ix3 k i d)) (slab x0 0 (by decide) _ _ i d) (slab x0 1 (by decide) _ _ i d) (slab x0 2 (by decide) _ _ i d)
    (slab x0 3 (by decide) _ _ i d) (slab x0 4 (by decide) _ _ i d) (slab x0 5 (by decide) _ _ i d) (slab x0 6 (by decide) _ _ i d) (slab x0 7 (by decide) _ _ i d)

theorem blockG : out0_4 x0 x1 x2 x3 = k0_pay5 x0 x1 x2 x3 := by
  unfold out0_4
  exact View.canon_unit_zero (off := ![0, 0]) (S := S384x192) (by decide) _ _

theorem blockD : out0_5 x0 x1 x2 x3 = k0_pay3 (k0_pay5 x0 x1 x2 x3) x1 x2 x3 := by
  unfold out0_5
  rw [View.ld_unit_zero (off := ![0, 0]) (S := S384x192) (by decide), View.ld_unit_zero (off := ![0, 0]) (S := S384x192) (by decide), View.ld_unit_zero (off := ![0, 0]) (S := S384x192) (by decide)]
  exact View.canon_unit_zero (off := ![0, 0]) (S := S384x192) (by decide) _ _

theorem blockM : out0_6 x0 x1 x2 x3 = k0_pay1 (k0_pay5 x0 x1 x2 x3) x2 := by
  unfold out0_6
  rw [View.ld_unit_zero (off := ![0, 0]) (S := S384x192) (by decide)]
  exact View.canon_unit_zero (off := ![0, 0]) (S := S384x192) (by decide) _ _

theorem blockV : out0_7 x0 x1 x2 x3 = k0_pay2 (k0_pay5 x0 x1 x2 x3) x3 := by
  unfold out0_7
  rw [View.ld_unit_zero (off := ![0, 0]) (S := S384x192) (by decide)]
  exact View.canon_unit_zero (off := ![0, 0]) (S := S384x192) (by decide) _ _

end

theorem payD (g w m v : FVec Ideal S384x192 .f32) (i : S384x192.Idx) : k0_pay3 (F := Ideal) g w m v i = delta (w i) (m i) (v i) (g i) := rfl
theorem payM (g m : FVec Ideal S384x192 .f32) (i : S384x192.Idx) : k0_pay1 (F := Ideal) g m i = first (m i) (g i) := rfl
theorem payV (g v : FVec Ideal S384x192 .f32) (i : S384x192.Idx) : k0_pay2 (F := Ideal) g v i = second (v i) (g i) := rfl

variable (m : (ℓ : Loc nD τ sig) → Buf (Elt Ideal) ℓ) (c : Dev nD)

theorem V_p : V m c main_arg0 = (m ((c : Thread nD τ).loc main_arg0) : FVec Ideal S8x384x192 .bf16) := rfl
theorem V_w : V m c main_arg1 = (m ((c : Thread nD τ).loc main_arg1) : FVec Ideal S384x192 .f32) := rfl
theorem V_m : V m c main_arg2 = (m ((c : Thread nD τ).loc main_arg2) : FVec Ideal S384x192 .f32) := rfl
theorem V_v : V m c main_arg3 = (m ((c : Thread nD τ).loc main_arg3) : FVec Ideal S384x192 .f32) := rfl

/-- The rows of the block at a grid point. -/
def row (t : Fin cfg0.N) (i : Fin 384) : Fin 384 := ⟨t * 384 + i, by have hN : (t : ℕ) < 1 := lt_of_lt_of_eq t.isLt N_0; omega⟩

theorem index0 : ∀ t : Fin grid0.N, win0_0.index t 0 = 0 ∧ win0_0.index t 1 = (t : ℕ) ∧ win0_0.index t 2 = 0 := by decide +kernel
theorem index1 : ∀ t : Fin grid0.N, win0_1.index t 0 = (t : ℕ) ∧ win0_1.index t 1 = 0 := by decide +kernel
theorem index2 : ∀ t : Fin grid0.N, win0_2.index t 0 = (t : ℕ) ∧ win0_2.index t 1 = 0 := by decide +kernel
theorem index3 : ∀ t : Fin grid0.N, win0_3.index t 0 = (t : ℕ) ∧ win0_3.index t 1 = 0 := by decide +kernel
theorem index4 : ∀ t : Fin grid0.N, win0_4.index t 0 = (t : ℕ) ∧ win0_4.index t 1 = 0 := by decide +kernel
theorem index5 : ∀ t : Fin grid0.N, win0_5.index t 0 = (t : ℕ) ∧ win0_5.index t 1 = 0 := by decide +kernel
theorem index6 : ∀ t : Fin grid0.N, win0_6.index t 0 = (t : ℕ) ∧ win0_6.index t 1 = 0 := by decide +kernel
theorem index7 : ∀ t : Fin grid0.N, win0_7.index t 0 = (t : ℕ) ∧ win0_7.index t 1 = 0 := by decide +kernel

theorem block0 (t : Fin cfg0.N) (k : Fin 8) (i : Fin 384) (d : Fin 192) :
    iblk m c 0 t (ix3 k i d) = (m ((c : Thread nD τ).loc main_arg0) : FVec Ideal S8x384x192 .bf16) (ix3 k (row t i) d) := by
  rw [← V_p m c]
  show V m c main_arg0 ((win0_0.blk t).view.emb (ix3 k i d)) = _
  congr 1
  refine idx3 _ _ _ _ ?_ ?_ ?_
  · show ((win0_0.rect t).emb (ix3 k i d) 0 : ℕ) = _
    rw [Pipeline.Window.rect_emb_val win0_0 t, (index0 t).1]; simp
  · show ((win0_0.rect t).emb (ix3 k i d) 1 : ℕ) = _
    rw [Pipeline.Window.rect_emb_val win0_0 t, (index0 t).2.1]; rfl
  · show ((win0_0.rect t).emb (ix3 k i d) 2 : ℕ) = _
    rw [Pipeline.Window.rect_emb_val win0_0 t, (index0 t).2.2]; simp

theorem block1 (t : Fin cfg0.N) (i : Fin 384) (d : Fin 192) :
    iblk m c 1 t (ix2 i d) = (m ((c : Thread nD τ).loc main_arg1) : FVec Ideal S384x192 .f32) (ix2 (row t i) d) := by
  rw [← V_w m c]
  show V m c main_arg1 ((win0_1.blk t).view.emb (ix2 i d)) = _
  congr 1
  refine idx2 _ _ _ ?_ ?_
  · show ((win0_1.rect t).emb (ix2 i d) 0 : ℕ) = _
    rw [Pipeline.Window.rect_emb_val win0_1 t, (index1 t).1]; rfl
  · show ((win0_1.rect t).emb (ix2 i d) 1 : ℕ) = _
    rw [Pipeline.Window.rect_emb_val win0_1 t, (index1 t).2]; simp

theorem block2 (t : Fin cfg0.N) (i : Fin 384) (d : Fin 192) :
    iblk m c 2 t (ix2 i d) = (m ((c : Thread nD τ).loc main_arg2) : FVec Ideal S384x192 .f32) (ix2 (row t i) d) := by
  rw [← V_m m c]
  show V m c main_arg2 ((win0_2.blk t).view.emb (ix2 i d)) = _
  congr 1
  refine idx2 _ _ _ ?_ ?_
  · show ((win0_2.rect t).emb (ix2 i d) 0 : ℕ) = _
    rw [Pipeline.Window.rect_emb_val win0_2 t, (index2 t).1]; rfl
  · show ((win0_2.rect t).emb (ix2 i d) 1 : ℕ) = _
    rw [Pipeline.Window.rect_emb_val win0_2 t, (index2 t).2]; simp

theorem block3 (t : Fin cfg0.N) (i : Fin 384) (d : Fin 192) :
    iblk m c 3 t (ix2 i d) = (m ((c : Thread nD τ).loc main_arg3) : FVec Ideal S384x192 .f32) (ix2 (row t i) d) := by
  rw [← V_v m c]
  show V m c main_arg3 ((win0_3.blk t).view.emb (ix2 i d)) = _
  congr 1
  refine idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; simp

theorem emb4 (t : Fin cfg0.N) (i : Fin 384) (d : Fin 192) : (win0_4.blk t).view.emb (ix2 i d) = ix2 (row t i) d := by
  refine idx2 _ _ _ ?_ ?_
  · show ((win0_4.rect t).emb (ix2 i d) 0 : ℕ) = _
    rw [Pipeline.Window.rect_emb_val win0_4 t, (index4 t).1]; rfl
  · show ((win0_4.rect t).emb (ix2 i d) 1 : ℕ) = _
    rw [Pipeline.Window.rect_emb_val win0_4 t, (index4 t).2]; simp

theorem emb5 (t : Fin cfg0.N) (i : Fin 384) (d : Fin 192) : (win0_5.blk t).view.emb (ix2 i d) = ix2 (row t i) d := by
  refine idx2 _ _ _ ?_ ?_
  · show ((win0_5.rect t).emb (ix2 i d) 0 : ℕ) = _
    rw [Pipeline.Window.rect_emb_val win0_5 t, (index5 t).1]; rfl
  · show ((win0_5.rect t).emb (ix2 i d) 1 : ℕ) = _
    rw [Pipeline.Window.rect_emb_val win0_5 t, (index5 t).2]; simp

theorem emb6 (t : Fin cfg0.N) (i : Fin 384) (d : Fin 192) : (win0_6.blk t).view.emb (ix2 i d) = ix2 (row t i) d := by
  refine idx2 _ _ _ ?_ ?_
  · show ((win0_6.rect t).emb (ix2 i d) 0 : ℕ) = _
    rw [Pipeline.Window.rect_emb_val win0_6 t, (index6 t).1]; rfl
  · show ((win0_6.rect t).emb (ix2 i d) 1 : ℕ) = _
    rw [Pipeline.Window.rect_emb_val win0_6 t, (index6 t).2]; simp

theorem emb7 (t : Fin cfg0.N) (i : Fin 384) (d : Fin 192) : (win0_7.blk t).view.emb (ix2 i d) = ix2 (row t i) d := by
  refine idx2 _ _ _ ?_ ?_
  · show ((win0_7.rect t).emb (ix2 i d) 0 : ℕ) = _
    rw [Pipeline.Window.rect_emb_val win0_7 t, (index7 t).1]; rfl
  · show ((win0_7.rect t).emb (ix2 i d) 1 : ℕ) = _
    rw [Pipeline.Window.rect_emb_val win0_7 t, (index7 t).2]; simp

/-- The gradient at a grid point, entry by entry. -/
theorem grad (t : Fin cfg0.N) (i : Fin 384) (d : Fin 192) :
    k0_pay5 (F := Ideal) (iblk m c 0 t) (iblk m c 1 t) (iblk m c 2 t) (iblk m c 3 t) (ix2 i d)
      = total (m ((c : Thread nD τ).loc main_arg0) : FVec Ideal S8x384x192 .bf16) (row t i) d := by
  refine (pay _ _ _ _ i d).trans ?_
  exact Finset.sum_congr rfl fun k _ => block0 m c t k i d

open Cert.Reference36Ideal.Read

section
variable (x0 : FVec Ideal S8x384x192 .bf16) (x1 x2 x3 : FVec Ideal S384x192 .f32)

/-- The reference's gradient. -/
theorem refG (i : Fin 384) (d : Fin 192) : val_main_v1 (F := Ideal) x0 (ix2 i d) = total x0 i d := by
  rw [val_main_v1_apply, val_main_cst_apply]
  refine (congrArg (· + _) Ideal.ofBits_zero_f32).trans ((zero_add _).trans (Finset.sum_congr rfl fun k _ => ?_))
  rw [idx3 (idx_main_v1 (ix2 i d) k) k i d rfl rfl rfl, val_main_v0_apply]
  rfl

theorem refD (i : S384x192.Idx) : val_main_v25 (F := Ideal) x0 x1 x2 x3 i = delta (x1 i) (x2 i) (x3 i) (val_main_v1 (F := Ideal) x0 i) := rfl
theorem refM (i : S384x192.Idx) : val_main_v6 (F := Ideal) x0 x2 i = first (x2 i) (val_main_v1 (F := Ideal) x0 i) := rfl
theorem refV (i : S384x192.Idx) : val_main_v12 (F := Ideal) x0 x3 i = second (x3 i) (val_main_v1 (F := Ideal) x0 i) := rfl

end

/-- The summed gradient is the reference's. -/
theorem array4 : (dats m 0 c).arrAt 4 cfg0.N = val_main_v1 (F := Ideal) (m ((c : Thread nD τ).loc main_arg0)) := by
  refine (dats m 0 c).arrAt_eq_of_covers 4 _ (by decide +kernel) fun t hf y => ?_
  blk_simp
  obtain ⟨i, d, rfl⟩ : ∃ (i : Fin 384) (d : Fin 192), y = ix2 i d := ⟨y 0, y 1, eq_ix2 y⟩
  rw [emb4, after0_4]
  dsimp only
  rw [blockG, grad, refG]

/-- The update is the reference's. -/
theorem array5 : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨i, d, rfl⟩ : ∃ (i : Fin 384) (d : Fin 192), y = ix2 i d := ⟨y 0, y 1, eq_ix2 y⟩
  rw [emb5, after0_5]
  dsimp only
  rw [blockD, payD, refD, grad, refG, block1, block2, block3]

/-- The first moment is the reference's. -/
theorem array6 : (dats m 0 c).arrAt 6 cfg0.N = val_main_v6 (F := Ideal) (m ((c : Thread nD τ).loc main_arg0)) (m ((c : Thread nD τ).loc main_arg2)) := by
  refine (dats m 0 c).arrAt_eq_of_covers 6 _ (by decide +kernel) fun t hf y => ?_
  blk_simp
  obtain ⟨i, d, rfl⟩ : ∃ (i : Fin 384) (d : Fin 192), y = ix2 i d := ⟨y 0, y 1, eq_ix2 y⟩
  rw [emb6, after0_6]
  dsimp only
  rw [blockM, payM, refM, grad, refG, block2]

/-- The second moment is the reference's. -/
theorem array7 : (dats m 0 c).arrAt 7 cfg0.N = val_main_v12 (F := Ideal) (m ((c : Thread nD τ).loc main_arg0)) (m ((c : Thread nD τ).loc main_arg3)) := by
  refine (dats m 0 c).arrAt_eq_of_covers 7 _ (by decide +kernel) fun t hf y => ?_
  blk_simp
  obtain ⟨i, d, rfl⟩ : ∃ (i : Fin 384) (d : Fin 192), y = ix2 i d := ⟨y 0, y 1, eq_ix2 y⟩
  rw [emb7, after0_7]
  dsimp only
  rw [blockV, payV, refV, grad, refG, block3]

end Cert.Kernel36Ideal.SumUq

end
-- ==== Proof.SumUkv.lean ====
/- The sum over the devices of the gradient's parts and the update of the keys' and values' matrix. -/
module

public import proofs.«01_k».proof.Proof.AdamW
public import proofs.«01_k».proof.Proof.Gen.Kernel37Ideal.Value
public import proofs.«01_k».proof.Proof.Gen.Reference37Ideal.Read

@[expose] public section

set_option maxRecDepth 16384

noncomputable section

namespace Cert.Kernel37Ideal.SumUkv

open Idealize.ShloMosaic Idealize.ShloMosaic.TcCoe Idealize.SL.Sem Cert.Kernel37Ideal Cert.Kernel37Ideal.Gen Attn Products AdamW

section
variable (x0 : Vec Ideal S8x256x256 .bf16) (x1 x2 x3 : Vec Ideal S256x256 .f32)

/-- The body's gradient: the sum of the eight parts. -/
theorem pay (i : Fin 256) (d : Fin 256) : k0_pay5 (F := Ideal) x0 x1 x2 x3 (ix2 i d) = total x0 i d := by
  unfold k0_pay5 k0_pay4
  exact eight (fun k => x0 (ix3 k i d)) (slab x0 0 (by decide) _ _ i d) (slab x0 1 (by decide) _ _ i d) (slab x0 2 (by decide) _ _ i d)
    (slab x0 3 (by decide) _ _ i d) (slab x0 4 (by decide) _ _ i d) (slab x0 5 (by decide) _ _ i d) (slab x0 6 (by decide) _ _ i d) (slab x0 7 (by decide) _ _ i d)

theorem blockG : out0_4 x0 x1 x2 x3 = k0_pay5 x0 x1 x2 x3 := by
  unfold out0_4
  exact View.canon_unit_zero (off := ![0, 0]) (S := S256x256) (by decide) _ _

theorem blockD : out0_5 x0 x1 x2 x3 = k0_pay3 (k0_pay5 x0 x1 x2 x3) x1 x2 x3 := by
  unfold out0_5
  rw [View.ld_unit_zero (off := ![0, 0]) (S := S256x256) (by decide), View.ld_unit_zero (off := ![0, 0]) (S := S256x256) (by decide), View.ld_unit_zero (off := ![0, 0]) (S := S256x256) (by decide)]
  exact View.canon_unit_zero (off := ![0, 0]) (S := S256x256) (by decide) _ _

theorem blockM : out0_6 x0 x1 x2 x3 = k0_pay1 (k0_pay5 x0 x1 x2 x3) x2 := by
  unfold out0_6
  rw [View.ld_unit_zero (off := ![0, 0]) (S := S256x256) (by decide)]
  exact View.canon_unit_zero (off := ![0, 0]) (S := S256x256) (by decide) _ _

theorem blockV : out0_7 x0 x1 x2 x3 = k0_pay2 (k0_pay5 x0 x1 x2 x3) x3 := by
  unfold out0_7
  rw [View.ld_unit_zero (off := ![0, 0]) (S := S256x256) (by decide)]
  exact View.canon_unit_zero (off := ![0, 0]) (S := S256x256) (by decide) _ _

end

theorem payD (g w m v : FVec Ideal S256x256 .f32) (i : S256x256.Idx) : k0_pay3 (F := Ideal) g w m v i = delta (w i) (m i) (v i) (g i) := rfl
theorem payM (g m : FVec Ideal S256x256 .f32) (i : S256x256.Idx) : k0_pay1 (F := Ideal) g m i = first (m i) (g i) := rfl
theorem payV (g v : FVec Ideal S256x256 .f32) (i : S256x256.Idx) : k0_pay2 (F := Ideal) g v i = second (v i) (g i) := rfl

variable (m : (ℓ : Loc nD τ sig) → Buf (Elt Ideal) ℓ) (c : Dev nD)

theorem V_p : V m c main_arg0 = (m ((c : Thread nD τ).loc main_arg0) : FVec Ideal S8x256x256 .bf16) := rfl
theorem V_w : V m c main_arg1 = (m ((c : Thread nD τ).loc main_arg1) : FVec Ideal S256x256 .f32) := rfl
theorem V_m : V m c main_arg2 = (m ((c : Thread nD τ).loc main_arg2) : FVec Ideal S256x256 .f32) := rfl
theorem V_v : V m c main_arg3 = (m ((c : Thread nD τ).loc main_arg3) : FVec Ideal S256x256 .f32) := rfl

/-- The rows of the block at a grid point. -/
def row (t : Fin cfg0.N) (i : Fin 256) : Fin 256 := ⟨t * 256 + i, by have hN : (t : ℕ) < 1 := lt_of_lt_of_eq t.isLt N_0; omega⟩

theorem index0 : ∀ t : Fin grid0.N, win0_0.index t 0 = 0 ∧ win0_0.index t 1 = (t : ℕ) ∧ win0_0.index t 2 = 0 := by decide +kernel
theorem index1 : ∀ t : Fin grid0.N, win0_1.index t 0 = (t : ℕ) ∧ win0_1.index t 1 = 0 := by decide +kernel
theorem index2 : ∀ t : Fin grid0.N, win0_2.index t 0 = (t : ℕ) ∧ win0_2.index t 1 = 0 := by decide +kernel
theorem index3 : ∀ t : Fin grid0.N, win0_3.index t 0 = (t : ℕ) ∧ win0_3.index t 1 = 0 := by decide +kernel
theorem index4 : ∀ t : Fin grid0.N, win0_4.index t 0 = (t : ℕ) ∧ win0_4.index t 1 = 0 := by decide +kernel
theorem index5 : ∀ t : Fin grid0.N, win0_5.index t 0 = (t : ℕ) ∧ win0_5.index t 1 = 0 := by decide +kernel
theorem index6 : ∀ t : Fin grid0.N, win0_6.index t 0 = (t : ℕ) ∧ win0_6.index t 1 = 0 := by decide +kernel
theorem index7 : ∀ t : Fin grid0.N, win0_7.index t 0 = (t : ℕ) ∧ win0_7.index t 1 = 0 := by decide +kernel

theorem block0 (t : Fin cfg0.N) (k : Fin 8) (i : Fin 256) (d : Fin 256) :
    iblk m c 0 t (ix3 k i d) = (m ((c : Thread nD τ).loc main_arg0) : FVec Ideal S8x256x256 .bf16) (ix3 k (row t i) d) := by
  rw [← V_p m c]
  show V m c main_arg0 ((win0_0.blk t).view.emb (ix3 k i d)) = _
  congr 1
  refine idx3 _ _ _ _ ?_ ?_ ?_
  · show ((win0_0.rect t).emb (ix3 k i d) 0 : ℕ) = _
    rw [Pipeline.Window.rect_emb_val win0_0 t, (index0 t).1]; simp
  · show ((win0_0.rect t).emb (ix3 k i d) 1 : ℕ) = _
    rw [Pipeline.Window.rect_emb_val win0_0 t, (index0 t).2.1]; rfl
  · show ((win0_0.rect t).emb (ix3 k i d) 2 : ℕ) = _
    rw [Pipeline.Window.rect_emb_val win0_0 t, (index0 t).2.2]; simp

theorem block1 (t : Fin cfg0.N) (i : Fin 256) (d : Fin 256) :
    iblk m c 1 t (ix2 i d) = (m ((c : Thread nD τ).loc main_arg1) : FVec Ideal S256x256 .f32) (ix2 (row t i) d) := by
  rw [← V_w m c]
  show V m c main_arg1 ((win0_1.blk t).view.emb (ix2 i d)) = _
  congr 1
  refine idx2 _ _ _ ?_ ?_
  · show ((win0_1.rect t).emb (ix2 i d) 0 : ℕ) = _
    rw [Pipeline.Window.rect_emb_val win0_1 t, (index1 t).1]; rfl
  · show ((win0_1.rect t).emb (ix2 i d) 1 : ℕ) = _
    rw [Pipeline.Window.rect_emb_val win0_1 t, (index1 t).2]; simp

theorem block2 (t : Fin cfg0.N) (i : Fin 256) (d : Fin 256) :
    iblk m c 2 t (ix2 i d) = (m ((c : Thread nD τ).loc main_arg2) : FVec Ideal S256x256 .f32) (ix2 (row t i) d) := by
  rw [← V_m m c]
  show V m c main_arg2 ((win0_2.blk t).view.emb (ix2 i d)) = _
  congr 1
  refine idx2 _ _ _ ?_ ?_
  · show ((win0_2.rect t).emb (ix2 i d) 0 : ℕ) = _
    rw [Pipeline.Window.rect_emb_val win0_2 t, (index2 t).1]; rfl
  · show ((win0_2.rect t).emb (ix2 i d) 1 : ℕ) = _
    rw [Pipeline.Window.rect_emb_val win0_2 t, (index2 t).2]; simp

theorem block3 (t : Fin cfg0.N) (i : Fin 256) (d : Fin 256) :
    iblk m c 3 t (ix2 i d) = (m ((c : Thread nD τ).loc main_arg3) : FVec Ideal S256x256 .f32) (ix2 (row t i) d) := by
  rw [← V_v m c]
  show V m c main_arg3 ((win0_3.blk t).view.emb (ix2 i d)) = _
  congr 1
  refine idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; simp

theorem emb4 (t : Fin cfg0.N) (i : Fin 256) (d : Fin 256) : (win0_4.blk t).view.emb (ix2 i d) = ix2 (row t i) d := by
  refine idx2 _ _ _ ?_ ?_
  · show ((win0_4.rect t).emb (ix2 i d) 0 : ℕ) = _
    rw [Pipeline.Window.rect_emb_val win0_4 t, (index4 t).1]; rfl
  · show ((win0_4.rect t).emb (ix2 i d) 1 : ℕ) = _
    rw [Pipeline.Window.rect_emb_val win0_4 t, (index4 t).2]; simp

theorem emb5 (t : Fin cfg0.N) (i : Fin 256) (d : Fin 256) : (win0_5.blk t).view.emb (ix2 i d) = ix2 (row t i) d := by
  refine idx2 _ _ _ ?_ ?_
  · show ((win0_5.rect t).emb (ix2 i d) 0 : ℕ) = _
    rw [Pipeline.Window.rect_emb_val win0_5 t, (index5 t).1]; rfl
  · show ((win0_5.rect t).emb (ix2 i d) 1 : ℕ) = _
    rw [Pipeline.Window.rect_emb_val win0_5 t, (index5 t).2]; simp

theorem emb6 (t : Fin cfg0.N) (i : Fin 256) (d : Fin 256) : (win0_6.blk t).view.emb (ix2 i d) = ix2 (row t i) d := by
  refine idx2 _ _ _ ?_ ?_
  · show ((win0_6.rect t).emb (ix2 i d) 0 : ℕ) = _
    rw [Pipeline.Window.rect_emb_val win0_6 t, (index6 t).1]; rfl
  · show ((win0_6.rect t).emb (ix2 i d) 1 : ℕ) = _
    rw [Pipeline.Window.rect_emb_val win0_6 t, (index6 t).2]; simp

theorem emb7 (t : Fin cfg0.N) (i : Fin 256) (d : Fin 256) : (win0_7.blk t).view.emb (ix2 i d) = ix2 (row t i) d := by
  refine idx2 _ _ _ ?_ ?_
  · show ((win0_7.rect t).emb (ix2 i d) 0 : ℕ) = _
    rw [Pipeline.Window.rect_emb_val win0_7 t, (index7 t).1]; rfl
  · show ((win0_7.rect t).emb (ix2 i d) 1 : ℕ) = _
    rw [Pipeline.Window.rect_emb_val win0_7 t, (index7 t).2]; simp

/-- The gradient at a grid point, entry by entry. -/
theorem grad (t : Fin cfg0.N) (i : Fin 256) (d : Fin 256) :
    k0_pay5 (F := Ideal) (iblk m c 0 t) (iblk m c 1 t) (iblk m c 2 t) (iblk m c 3 t) (ix2 i d)
      = total (m ((c : Thread nD τ).loc main_arg0) : FVec Ideal S8x256x256 .bf16) (row t i) d := by
  refine (pay _ _ _ _ i d).trans ?_
  exact Finset.sum_congr rfl fun k _ => block0 m c t k i d

open Cert.Reference37Ideal.Read

section
variable (x0 : FVec Ideal S8x256x256 .bf16) (x1 x2 x3 : FVec Ideal S256x256 .f32)

/-- The reference's gradient. -/
theorem refG (i : Fin 256) (d : Fin 256) : val_main_v1 (F := Ideal) x0 (ix2 i d) = total x0 i d := by
  rw [val_main_v1_apply, val_main_cst_apply]
  refine (congrArg (· + _) Ideal.ofBits_zero_f32).trans ((zero_add _).trans (Finset.sum_congr rfl fun k _ => ?_))
  rw [idx3 (idx_main_v1 (ix2 i d) k) k i d rfl rfl rfl, val_main_v0_apply]
  rfl

theorem refD (i : S256x256.Idx) : val_main_v25 (F := Ideal) x0 x1 x2 x3 i = delta (x1 i) (x2 i) (x3 i) (val_main_v1 (F := Ideal) x0 i) := rfl
theorem refM (i : S256x256.Idx) : val_main_v6 (F := Ideal) x0 x2 i = first (x2 i) (val_main_v1 (F := Ideal) x0 i) := rfl
theorem refV (i : S256x256.Idx) : val_main_v12 (F := Ideal) x0 x3 i = second (x3 i) (val_main_v1 (F := Ideal) x0 i) := rfl

end

/-- The summed gradient is the reference's. -/
theorem array4 : (dats m 0 c).arrAt 4 cfg0.N = val_main_v1 (F := Ideal) (m ((c : Thread nD τ).loc main_arg0)) := by
  refine (dats m 0 c).arrAt_eq_of_covers 4 _ (by decide +kernel) fun t hf y => ?_
  blk_simp
  obtain ⟨i, d, rfl⟩ : ∃ (i : Fin 256) (d : Fin 256), y = ix2 i d := ⟨y 0, y 1, eq_ix2 y⟩
  rw [emb4, after0_4]
  dsimp only
  rw [blockG, grad, refG]

/-- The update is the reference's. -/
theorem array5 : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨i, d, rfl⟩ : ∃ (i : Fin 256) (d : Fin 256), y = ix2 i d := ⟨y 0, y 1, eq_ix2 y⟩
  rw [emb5, after0_5]
  dsimp only
  rw [blockD, payD, refD, grad, refG, block1, block2, block3]

/-- The first moment is the reference's. -/
theorem array6 : (dats m 0 c).arrAt 6 cfg0.N = val_main_v6 (F := Ideal) (m ((c : Thread nD τ).loc main_arg0)) (m ((c : Thread nD τ).loc main_arg2)) := by
  refine (dats m 0 c).arrAt_eq_of_covers 6 _ (by decide +kernel) fun t hf y => ?_
  blk_simp
  obtain ⟨i, d, rfl⟩ : ∃ (i : Fin 256) (d : Fin 256), y = ix2 i d := ⟨y 0, y 1, eq_ix2 y⟩
  rw [emb6, after0_6]
  dsimp only
  rw [blockM, payM, refM, grad, refG, block2]

/-- The second moment is the reference's. -/
theorem array7 : (dats m 0 c).arrAt 7 cfg0.N = val_main_v12 (F := Ideal) (m ((c : Thread nD τ).loc main_arg0)) (m ((c : Thread nD τ).loc main_arg3)) := by
  refine (dats m 0 c).arrAt_eq_of_covers 7 _ (by decide +kernel) fun t hf y => ?_
  blk_simp
  obtain ⟨i, d, rfl⟩ : ∃ (i : Fin 256) (d : Fin 256), y = ix2 i d := ⟨y 0, y 1, eq_ix2 y⟩
  rw [emb7, after0_7]
  dsimp only
  rw [blockV, payV, refV, grad, refG, block3]

end Cert.Kernel37Ideal.SumUkv

end
-- ==== Proof.SumOut.lean ====
/- The sum over the devices of the gradient's parts and the update of a matrix of 128 rows a device. -/
module

public import proofs.«01_k».proof.Proof.AdamW
public import proofs.«01_k».proof.Proof.Gen.Kernel38Ideal.Value
public import proofs.«01_k».proof.Proof.Gen.Reference38Ideal.Read

@[expose] public section

set_option maxRecDepth 16384

noncomputable section

namespace Cert.Kernel38Ideal.SumOut

open Idealize.ShloMosaic Idealize.ShloMosaic.TcCoe Idealize.SL.Sem Cert.Kernel38Ideal Cert.Kernel38Ideal.Gen Attn Products AdamW

section
variable (x0 : Vec Ideal S8x128x1024 .bf16) (x1 x2 x3 : Vec Ideal S128x1024 .f32)

/-- The body's gradient: the sum of the eight parts. -/
theorem pay (i : Fin 128) (d : Fin 1024) : k0_pay5 (F := Ideal) x0 x1 x2 x3 (ix2 i d) = total x0 i d := by
  unfold k0_pay5 k0_pay4
  exact eight (fun k => x0 (ix3 k i d)) (slab x0 0 (by decide) _ _ i d) (slab x0 1 (by decide) _ _ i d) (slab x0 2 (by decide) _ _ i d)
    (slab x0 3 (by decide) _ _ i d) (slab x0 4 (by decide) _ _ i d) (slab x0 5 (by decide) _ _ i d) (slab x0 6 (by decide) _ _ i d) (slab x0 7 (by decide) _ _ i d)

theorem blockG : out0_4 x0 x1 x2 x3 = k0_pay5 x0 x1 x2 x3 := by
  unfold out0_4
  exact View.canon_unit_zero (off := ![0, 0]) (S := S128x1024) (by decide) _ _

theorem blockD : out0_5 x0 x1 x2 x3 = k0_pay3 (k0_pay5 x0 x1 x2 x3) x1 x2 x3 := by
  unfold out0_5
  rw [View.ld_unit_zero (off := ![0, 0]) (S := S128x1024) (by decide), View.ld_unit_zero (off := ![0, 0]) (S := S128x1024) (by decide), View.ld_unit_zero (off := ![0, 0]) (S := S128x1024) (by decide)]
  exact View.canon_unit_zero (off := ![0, 0]) (S := S128x1024) (by decide) _ _

theorem blockM : out0_6 x0 x1 x2 x3 = k0_pay1 (k0_pay5 x0 x1 x2 x3) x2 := by
  unfold out0_6
  rw [View.ld_unit_zero (off := ![0, 0]) (S := S128x1024) (by decide)]
  exact View.canon_unit_zero (off := ![0, 0]) (S := S128x1024) (by decide) _ _

theorem blockV : out0_7 x0 x1 x2 x3 = k0_pay2 (k0_pay5 x0 x1 x2 x3) x3 := by
  unfold out0_7
  rw [View.ld_unit_zero (off := ![0, 0]) (S := S128x1024) (by decide)]
  exact View.canon_unit_zero (off := ![0, 0]) (S := S128x1024) (by decide) _ _

end

theorem payD (g w m v : FVec Ideal S128x1024 .f32) (i : S128x1024.Idx) : k0_pay3 (F := Ideal) g w m v i = delta (w i) (m i) (v i) (g i) := rfl
theorem payM (g m : FVec Ideal S128x1024 .f32) (i : S128x1024.Idx) : k0_pay1 (F := Ideal) g m i = first (m i) (g i) := rfl
theorem payV (g v : FVec Ideal S128x1024 .f32) (i : S128x1024.Idx) : k0_pay2 (F := Ideal) g v i = second (v i) (g i) := rfl

variable (m : (ℓ : Loc nD τ sig) → Buf (Elt Ideal) ℓ) (c : Dev nD)

theorem V_p : V m c main_arg0 = (m ((c : Thread nD τ).loc main_arg0) : FVec Ideal S8x128x1024 .bf16) := rfl
theorem V_w : V m c main_arg1 = (m ((c : Thread nD τ).loc main_arg1) : FVec Ideal S128x1024 .f32) := rfl
theorem V_m : V m c main_arg2 = (m ((c : Thread nD τ).loc main_arg2) : FVec Ideal S128x1024 .f32) := rfl
theorem V_v : V m c main_arg3 = (m ((c : Thread nD τ).loc main_arg3) : FVec Ideal S128x1024 .f32) := rfl

/-- The rows of the block at a grid point. -/
def row (t : Fin cfg0.N) (i : Fin 128) : Fin 128 := ⟨t * 128 + i, by have hN : (t : ℕ) < 1 := lt_of_lt_of_eq t.isLt N_0; omega⟩

theorem index0 : ∀ t : Fin grid0.N, win0_0.index t 0 = 0 ∧ win0_0.index t 1 = (t : ℕ) ∧ win0_0.index t 2 = 0 := by decide +kernel
theorem index1 : ∀ t : Fin grid0.N, win0_1.index t 0 = (t : ℕ) ∧ win0_1.index t 1 = 0 := by decide +kernel
theorem index2 : ∀ t : Fin grid0.N, win0_2.index t 0 = (t : ℕ) ∧ win0_2.index t 1 = 0 := by decide +kernel
theorem index3 : ∀ t : Fin grid0.N, win0_3.index t 0 = (t : ℕ) ∧ win0_3.index t 1 = 0 := by decide +kernel
theorem index4 : ∀ t : Fin grid0.N, win0_4.index t 0 = (t : ℕ) ∧ win0_4.index t 1 = 0 := by decide +kernel
theorem index5 : ∀ t : Fin grid0.N, win0_5.index t 0 = (t : ℕ) ∧ win0_5.index t 1 = 0 := by decide +kernel
theorem index6 : ∀ t : Fin grid0.N, win0_6.index t 0 = (t : ℕ) ∧ win0_6.index t 1 = 0 := by decide +kernel
theorem index7 : ∀ t : Fin grid0.N, win0_7.index t 0 = (t : ℕ) ∧ win0_7.index t 1 = 0 := by decide +kernel

theorem block0 (t : Fin cfg0.N) (k : Fin 8) (i : Fin 128) (d : Fin 1024) :
    iblk m c 0 t (ix3 k i d) = (m ((c : Thread nD τ).loc main_arg0) : FVec Ideal S8x128x1024 .bf16) (ix3 k (row t i) d) := by
  rw [← V_p m c]
  show V m c main_arg0 ((win0_0.blk t).view.emb (ix3 k i d)) = _
  congr 1
  refine idx3 _ _ _ _ ?_ ?_ ?_
  · show ((win0_0.rect t).emb (ix3 k i d) 0 : ℕ) = _
    rw [Pipeline.Window.rect_emb_val win0_0 t, (index0 t).1]; simp
  · show ((win0_0.rect t).emb (ix3 k i d) 1 : ℕ) = _
    rw [Pipeline.Window.rect_emb_val win0_0 t, (index0 t).2.1]; rfl
  · show ((win0_0.rect t).emb (ix3 k i d) 2 : ℕ) = _
    rw [Pipeline.Window.rect_emb_val win0_0 t, (index0 t).2.2]; simp

theorem block1 (t : Fin cfg0.N) (i : Fin 128) (d : Fin 1024) :
    iblk m c 1 t (ix2 i d) = (m ((c : Thread nD τ).loc main_arg1) : FVec Ideal S128x1024 .f32) (ix2 (row t i) d) := by
  rw [← V_w m c]
  show V m c main_arg1 ((win0_1.blk t).view.emb (ix2 i d)) = _
  congr 1
  refine idx2 _ _ _ ?_ ?_
  · show ((win0_1.rect t).emb (ix2 i d) 0 : ℕ) = _
    rw [Pipeline.Window.rect_emb_val win0_1 t, (index1 t).1]; rfl
  · show ((win0_1.rect t).emb (ix2 i d) 1 : ℕ) = _
    rw [Pipeline.Window.rect_emb_val win0_1 t, (index1 t).2]; simp

theorem block2 (t : Fin cfg0.N) (i : Fin 128) (d : Fin 1024) :
    iblk m c 2 t (ix2 i d) = (m ((c : Thread nD τ).loc main_arg2) : FVec Ideal S128x1024 .f32) (ix2 (row t i) d) := by
  rw [← V_m m c]
  show V m c main_arg2 ((win0_2.blk t).view.emb (ix2 i d)) = _
  congr 1
  refine idx2 _ _ _ ?_ ?_
  · show ((win0_2.rect t).emb (ix2 i d) 0 : ℕ) = _
    rw [Pipeline.Window.rect_emb_val win0_2 t, (index2 t).1]; rfl
  · show ((win0_2.rect t).emb (ix2 i d) 1 : ℕ) = _
    rw [Pipeline.Window.rect_emb_val win0_2 t, (index2 t).2]; simp

theorem block3 (t : Fin cfg0.N) (i : Fin 128) (d : Fin 1024) :
    iblk m c 3 t (ix2 i d) = (m ((c : Thread nD τ).loc main_arg3) : FVec Ideal S128x1024 .f32) (ix2 (row t i) d) := by
  rw [← V_v m c]
  show V m c main_arg3 ((win0_3.blk t).view.emb (ix2 i d)) = _
  congr 1
  refine idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; simp

theorem emb4 (t : Fin cfg0.N) (i : Fin 128) (d : Fin 1024) : (win0_4.blk t).view.emb (ix2 i d) = ix2 (row t i) d := by
  refine idx2 _ _ _ ?_ ?_
  · show ((win0_4.rect t).emb (ix2 i d) 0 : ℕ) = _
    rw [Pipeline.Window.rect_emb_val win0_4 t, (index4 t).1]; rfl
  · show ((win0_4.rect t).emb (ix2 i d) 1 : ℕ) = _
    rw [Pipeline.Window.rect_emb_val win0_4 t, (index4 t).2]; simp

theorem emb5 (t : Fin cfg0.N) (i : Fin 128) (d : Fin 1024) : (win0_5.blk t).view.emb (ix2 i d) = ix2 (row t i) d := by
  refine idx2 _ _ _ ?_ ?_
  · show ((win0_5.rect t).emb (ix2 i d) 0 : ℕ) = _
    rw [Pipeline.Window.rect_emb_val win0_5 t, (index5 t).1]; rfl
  · show ((win0_5.rect t).emb (ix2 i d) 1 : ℕ) = _
    rw [Pipeline.Window.rect_emb_val win0_5 t, (index5 t).2]; simp

theorem emb6 (t : Fin cfg0.N) (i : Fin 128) (d : Fin 1024) : (win0_6.blk t).view.emb (ix2 i d) = ix2 (row t i) d := by
  refine idx2 _ _ _ ?_ ?_
  · show ((win0_6.rect t).emb (ix2 i d) 0 : ℕ) = _
    rw [Pipeline.Window.rect_emb_val win0_6 t, (index6 t).1]; rfl
  · show ((win0_6.rect t).emb (ix2 i d) 1 : ℕ) = _
    rw [Pipeline.Window.rect_emb_val win0_6 t, (index6 t).2]; simp

theorem emb7 (t : Fin cfg0.N) (i : Fin 128) (d : Fin 1024) : (win0_7.blk t).view.emb (ix2 i d) = ix2 (row t i) d := by
  refine idx2 _ _ _ ?_ ?_
  · show ((win0_7.rect t).emb (ix2 i d) 0 : ℕ) = _
    rw [Pipeline.Window.rect_emb_val win0_7 t, (index7 t).1]; rfl
  · show ((win0_7.rect t).emb (ix2 i d) 1 : ℕ) = _
    rw [Pipeline.Window.rect_emb_val win0_7 t, (index7 t).2]; simp

/-- The gradient at a grid point, entry by entry. -/
theorem grad (t : Fin cfg0.N) (i : Fin 128) (d : Fin 1024) :
    k0_pay5 (F := Ideal) (iblk m c 0 t) (iblk m c 1 t) (iblk m c 2 t) (iblk m c 3 t) (ix2 i d)
      = total (m ((c : Thread nD τ).loc main_arg0) : FVec Ideal S8x128x1024 .bf16) (row t i) d := by
  refine (pay _ _ _ _ i d).trans ?_
  exact Finset.sum_congr rfl fun k _ => block0 m c t k i d

open Cert.Reference38Ideal.Read

section
variable (x0 : FVec Ideal S8x128x1024 .bf16) (x1 x2 x3 : FVec Ideal S128x1024 .f32)

/-- The reference's gradient. -/
theorem refG (i : Fin 128) (d : Fin 1024) : val_main_v1 (F := Ideal) x0 (ix2 i d) = total x0 i d := by
  rw [val_main_v1_apply, val_main_cst_apply]
  refine (congrArg (· + _) Ideal.ofBits_zero_f32).trans ((zero_add _).trans (Finset.sum_congr rfl fun k _ => ?_))
  rw [idx3 (idx_main_v1 (ix2 i d) k) k i d rfl rfl rfl, val_main_v0_apply]
  rfl

theorem refD (i : S128x1024.Idx) : val_main_v25 (F := Ideal) x0 x1 x2 x3 i = delta (x1 i) (x2 i) (x3 i) (val_main_v1 (F := Ideal) x0 i) := rfl
theorem refM (i : S128x1024.Idx) : val_main_v6 (F := Ideal) x0 x2 i = first (x2 i) (val_main_v1 (F := Ideal) x0 i) := rfl
theorem refV (i : S128x1024.Idx) : val_main_v12 (F := Ideal) x0 x3 i = second (x3 i) (val_main_v1 (F := Ideal) x0 i) := rfl

end

/-- The summed gradient is the reference's. -/
theorem array4 : (dats m 0 c).arrAt 4 cfg0.N = val_main_v1 (F := Ideal) (m ((c : Thread nD τ).loc main_arg0)) := by
  refine (dats m 0 c).arrAt_eq_of_covers 4 _ (by decide +kernel) fun t hf y => ?_
  blk_simp
  obtain ⟨i, d, rfl⟩ : ∃ (i : Fin 128) (d : Fin 1024), y = ix2 i d := ⟨y 0, y 1, eq_ix2 y⟩
  rw [emb4, after0_4]
  dsimp only
  rw [blockG, grad, refG]

/-- The update is the reference's. -/
theorem array5 : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨i, d, rfl⟩ : ∃ (i : Fin 128) (d : Fin 1024), y = ix2 i d := ⟨y 0, y 1, eq_ix2 y⟩
  rw [emb5, after0_5]
  dsimp only
  rw [blockD, payD, refD, grad, refG, block1, block2, block3]

/-- The first moment is the reference's. -/
theorem array6 : (dats m 0 c).arrAt 6 cfg0.N = val_main_v6 (F := Ideal) (m ((c : Thread nD τ).loc main_arg0)) (m ((c : Thread nD τ).loc main_arg2)) := by
  refine (dats m 0 c).arrAt_eq_of_covers 6 _ (by decide +kernel) fun t hf y => ?_
  blk_simp
  obtain ⟨i, d, rfl⟩ : ∃ (i : Fin 128) (d : Fin 1024), y = ix2 i d := ⟨y 0, y 1, eq_ix2 y⟩
  rw [emb6, after0_6]
  dsimp only
  rw [blockM, payM, refM, grad, refG, block2]

/-- The second moment is the reference's. -/
theorem array7 : (dats m 0 c).arrAt 7 cfg0.N = val_main_v12 (F := Ideal) (m ((c : Thread nD τ).loc main_arg0)) (m ((c : Thread nD τ).loc main_arg3)) := by
  refine (dats m 0 c).arrAt_eq_of_covers 7 _ (by decide +kernel) fun t hf y => ?_
  blk_simp
  obtain ⟨i, d, rfl⟩ : ∃ (i : Fin 128) (d : Fin 1024), y = ix2 i d := ⟨y 0, y 1, eq_ix2 y⟩
  rw [emb7, after0_7]
  dsimp only
  rw [blockV, payV, refV, grad, refG, block3]

end Cert.Kernel38Ideal.SumOut

end
-- ==== Proof.SumOGm.lean ====
/- The sum over the devices of the gradient's parts and the update of a matrix of 128 columns a device. -/
module

public import proofs.«01_k».proof.Proof.AdamW
public import proofs.«01_k».proof.Proof.Gen.Kernel39Ideal.Value
public import proofs.«01_k».proof.Proof.Gen.Reference39Ideal.Read

@[expose] public section

set_option maxRecDepth 16384

noncomputable section

namespace Cert.Kernel39Ideal.SumOGm

open Idealize.ShloMosaic Idealize.ShloMosaic.TcCoe Idealize.SL.Sem Cert.Kernel39Ideal Cert.Kernel39Ideal.Gen Attn Products AdamW

section
variable (x0 : Vec Ideal S8x512x128 .bf16) (x1 x2 x3 : Vec Ideal S512x128 .f32)

/-- The body's gradient: the sum of the eight parts. -/
theorem pay (i : Fin 512) (d : Fin 128) : k0_pay5 (F := Ideal) x0 x1 x2 x3 (ix2 i d) = total x0 i d := by
  unfold k0_pay5 k0_pay4
  exact eight (fun k => x0 (ix3 k i d)) (slab x0 0 (by decide) _ _ i d) (slab x0 1 (by decide) _ _ i d) (slab x0 2 (by decide) _ _ i d)
    (slab x0 3 (by decide) _ _ i d) (slab x0 4 (by decide) _ _ i d) (slab x0 5 (by decide) _ _ i d) (slab x0 6 (by decide) _ _ i d) (slab x0 7 (by decide) _ _ i d)

theorem blockG : out0_4 x0 x1 x2 x3 = k0_pay5 x0 x1 x2 x3 := by
  unfold out0_4
  exact View.canon_unit_zero (off := ![0, 0]) (S := S512x128) (by decide) _ _

theorem blockD : out0_5 x0 x1 x2 x3 = k0_pay3 (k0_pay5 x0 x1 x2 x3) x1 x2 x3 := by
  unfold out0_5
  rw [View.ld_unit_zero (off := ![0, 0]) (S := S512x128) (by decide), View.ld_unit_zero (off := ![0, 0]) (S := S512x128) (by decide), View.ld_unit_zero (off := ![0, 0]) (S := S512x128) (by decide)]
  exact View.canon_unit_zero (off := ![0, 0]) (S := S512x128) (by decide) _ _

theorem blockM : out0_6 x0 x1 x2 x3 = k0_pay1 (k0_pay5 x0 x1 x2 x3) x2 := by
  unfold out0_6
  rw [View.ld_unit_zero (off := ![0, 0]) (S := S512x128) (by decide)]
  exact View.canon_unit_zero (off := ![0, 0]) (S := S512x128) (by decide) _ _

theorem blockV : out0_7 x0 x1 x2 x3 = k0_pay2 (k0_pay5 x0 x1 x2 x3) x3 := by
  unfold out0_7
  rw [View.ld_unit_zero (off := ![0, 0]) (S := S512x128) (by decide)]
  exact View.canon_unit_zero (off := ![0, 0]) (S := S512x128) (by decide) _ _

end

theorem payD (g w m v : FVec Ideal S512x128 .f32) (i : S512x128.Idx) : k0_pay3 (F := Ideal) g w m v i = delta (w i) (m i) (v i) (g i) := rfl
theorem payM (g m : FVec Ideal S512x128 .f32) (i : S512x128.Idx) : k0_pay1 (F := Ideal) g m i = first (m i) (g i) := rfl
theorem payV (g v : FVec Ideal S512x128 .f32) (i : S512x128.Idx) : k0_pay2 (F := Ideal) g v i = second (v i) (g i) := rfl

variable (m : (ℓ : Loc nD τ sig) → Buf (Elt Ideal) ℓ) (c : Dev nD)

theorem V_p : V m c main_arg0 = (m ((c : Thread nD τ).loc main_arg0) : FVec Ideal S8x512x128 .bf16) := rfl
theorem V_w : V m c main_arg1 = (m ((c : Thread nD τ).loc main_arg1) : FVec Ideal S512x128 .f32) := rfl
theorem V_m : V m c main_arg2 = (m ((c : Thread nD τ).loc main_arg2) : FVec Ideal S512x128 .f32) := rfl
theorem V_v : V m c main_arg3 = (m ((c : Thread nD τ).loc main_arg3) : FVec Ideal S512x128 .f32) := rfl

/-- The rows of the block at a grid point. -/
def row (t : Fin cfg0.N) (i : Fin 512) : Fin 512 := ⟨t * 512 + i, by have hN : (t : ℕ) < 1 := lt_of_lt_of_eq t.isLt N_0; omega⟩

theorem index0 : ∀ t : Fin grid0.N, win0_0.index t 0 = 0 ∧ win0_0.index t 1 = (t : ℕ) ∧ win0_0.index t 2 = 0 := by decide +kernel
theorem index1 : ∀ t : Fin grid0.N, win0_1.index t 0 = (t : ℕ) ∧ win0_1.index t 1 = 0 := by decide +kernel
theorem index2 : ∀ t : Fin grid0.N, win0_2.index t 0 = (t : ℕ) ∧ win0_2.index t 1 = 0 := by decide +kernel
theorem index3 : ∀ t : Fin grid0.N, win0_3.index t 0 = (t : ℕ) ∧ win0_3.index t 1 = 0 := by decide +kernel
theorem index4 : ∀ t : Fin grid0.N, win0_4.index t 0 = (t : ℕ) ∧ win0_4.index t 1 = 0 := by decide +kernel
theorem index5 : ∀ t : Fin grid0.N, win0_5.index t 0 = (t : ℕ) ∧ win0_5.index t 1 = 0 := by decide +kernel
theorem index6 : ∀ t : Fin grid0.N, win0_6.index t 0 = (t : ℕ) ∧ win0_6.index t 1 = 0 := by decide +kernel
theorem index7 : ∀ t : Fin grid0.N, win0_7.index t 0 = (t : ℕ) ∧ win0_7.index t 1 = 0 := by decide +kernel

theorem block0 (t : Fin cfg0.N) (k : Fin 8) (i : Fin 512) (d : Fin 128) :
    iblk m c 0 t (ix3 k i d) = (m ((c : Thread nD τ).loc main_arg0) : FVec Ideal S8x512x128 .bf16) (ix3 k (row t i) d) := by
  rw [← V_p m c]
  show V m c main_arg0 ((win0_0.blk t).view.emb (ix3 k i d)) = _
  congr 1
  refine idx3 _ _ _ _ ?_ ?_ ?_
  · show ((win0_0.rect t).emb (ix3 k i d) 0 : ℕ) = _
    rw [Pipeline.Window.rect_emb_val win0_0 t, (index0 t).1]; simp
  · show ((win0_0.rect t).emb (ix3 k i d) 1 : ℕ) = _
    rw [Pipeline.Window.rect_emb_val win0_0 t, (index0 t).2.1]; rfl
  · show ((win0_0.rect t).emb (ix3 k i d) 2 : ℕ) = _
    rw [Pipeline.Window.rect_emb_val win0_0 t, (index0 t).2.2]; simp

theorem block1 (t : Fin cfg0.N) (i : Fin 512) (d : Fin 128) :
    iblk m c 1 t (ix2 i d) = (m ((c : Thread nD τ).loc main_arg1) : FVec Ideal S512x128 .f32) (ix2 (row t i) d) := by
  rw [← V_w m c]
  show V m c main_arg1 ((win0_1.blk t).view.emb (ix2 i d)) = _
  congr 1
  refine idx2 _ _ _ ?_ ?_
  · show ((win0_1.rect t).emb (ix2 i d) 0 : ℕ) = _
    rw [Pipeline.Window.rect_emb_val win0_1 t, (index1 t).1]; rfl
  · show ((win0_1.rect t).emb (ix2 i d) 1 : ℕ) = _
    rw [Pipeline.Window.rect_emb_val win0_1 t, (index1 t).2]; simp

theorem block2 (t : Fin cfg0.N) (i : Fin 512) (d : Fin 128) :
    iblk m c 2 t (ix2 i d) = (m ((c : Thread nD τ).loc main_arg2) : FVec Ideal S512x128 .f32) (ix2 (row t i) d) := by
  rw [← V_m m c]
  show V m c main_arg2 ((win0_2.blk t).view.emb (ix2 i d)) = _
  congr 1
  refine idx2 _ _ _ ?_ ?_
  · show ((win0_2.rect t).emb (ix2 i d) 0 : ℕ) = _
    rw [Pipeline.Window.rect_emb_val win0_2 t, (index2 t).1]; rfl
  · show ((win0_2.rect t).emb (ix2 i d) 1 : ℕ) = _
    rw [Pipeline.Window.rect_emb_val win0_2 t, (index2 t).2]; simp

theorem block3 (t : Fin cfg0.N) (i : Fin 512) (d : Fin 128) :
    iblk m c 3 t (ix2 i d) = (m ((c : Thread nD τ).loc main_arg3) : FVec Ideal S512x128 .f32) (ix2 (row t i) d) := by
  rw [← V_v m c]
  show V m c main_arg3 ((win0_3.blk t).view.emb (ix2 i d)) = _
  congr 1
  refine idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; simp

theorem emb4 (t : Fin cfg0.N) (i : Fin 512) (d : Fin 128) : (win0_4.blk t).view.emb (ix2 i d) = ix2 (row t i) d := by
  refine idx2 _ _ _ ?_ ?_
  · show ((win0_4.rect t).emb (ix2 i d) 0 : ℕ) = _
    rw [Pipeline.Window.rect_emb_val win0_4 t, (index4 t).1]; rfl
  · show ((win0_4.rect t).emb (ix2 i d) 1 : ℕ) = _
    rw [Pipeline.Window.rect_emb_val win0_4 t, (index4 t).2]; simp

theorem emb5 (t : Fin cfg0.N) (i : Fin 512) (d : Fin 128) : (win0_5.blk t).view.emb (ix2 i d) = ix2 (row t i) d := by
  refine idx2 _ _ _ ?_ ?_
  · show ((win0_5.rect t).emb (ix2 i d) 0 : ℕ) = _
    rw [Pipeline.Window.rect_emb_val win0_5 t, (index5 t).1]; rfl
  · show ((win0_5.rect t).emb (ix2 i d) 1 : ℕ) = _
    rw [Pipeline.Window.rect_emb_val win0_5 t, (index5 t).2]; simp

theorem emb6 (t : Fin cfg0.N) (i : Fin 512) (d : Fin 128) : (win0_6.blk t).view.emb (ix2 i d) = ix2 (row t i) d := by
  refine idx2 _ _ _ ?_ ?_
  · show ((win0_6.rect t).emb (ix2 i d) 0 : ℕ) = _
    rw [Pipeline.Window.rect_emb_val win0_6 t, (index6 t).1]; rfl
  · show ((win0_6.rect t).emb (ix2 i d) 1 : ℕ) = _
    rw [Pipeline.Window.rect_emb_val win0_6 t, (index6 t).2]; simp

theorem emb7 (t : Fin cfg0.N) (i : Fin 512) (d : Fin 128) : (win0_7.blk t).view.emb (ix2 i d) = ix2 (row t i) d := by
  refine idx2 _ _ _ ?_ ?_
  · show ((win0_7.rect t).emb (ix2 i d) 0 : ℕ) = _
    rw [Pipeline.Window.rect_emb_val win0_7 t, (index7 t).1]; rfl
  · show ((win0_7.rect t).emb (ix2 i d) 1 : ℕ) = _
    rw [Pipeline.Window.rect_emb_val win0_7 t, (index7 t).2]; simp

/-- The gradient at a grid point, entry by entry. -/
theorem grad (t : Fin cfg0.N) (i : Fin 512) (d : Fin 128) :
    k0_pay5 (F := Ideal) (iblk m c 0 t) (iblk m c 1 t) (iblk m c 2 t) (iblk m c 3 t) (ix2 i d)
      = total (m ((c : Thread nD τ).loc main_arg0) : FVec Ideal S8x512x128 .bf16) (row t i) d := by
  refine (pay _ _ _ _ i d).trans ?_
  exact Finset.sum_congr rfl fun k _ => block0 m c t k i d

open Cert.Reference39Ideal.Read

section
variable (x0 : FVec Ideal S8x512x128 .bf16) (x1 x2 x3 : FVec Ideal S512x128 .f32)

/-- The reference's gradient. -/
theorem refG (i : Fin 512) (d : Fin 128) : val_main_v1 (F := Ideal) x0 (ix2 i d) = total x0 i d := by
  rw [val_main_v1_apply, val_main_cst_apply]
  refine (congrArg (· + _) Ideal.ofBits_zero_f32).trans ((zero_add _).trans (Finset.sum_congr rfl fun k _ => ?_))
  rw [idx3 (idx_main_v1 (ix2 i d) k) k i d rfl rfl rfl, val_main_v0_apply]
  rfl

theorem refD (i : S512x128.Idx) : val_main_v25 (F := Ideal) x0 x1 x2 x3 i = delta (x1 i) (x2 i) (x3 i) (val_main_v1 (F := Ideal) x0 i) := rfl
theorem refM (i : S512x128.Idx) : val_main_v6 (F := Ideal) x0 x2 i = first (x2 i) (val_main_v1 (F := Ideal) x0 i) := rfl
theorem refV (i : S512x128.Idx) : val_main_v12 (F := Ideal) x0 x3 i = second (x3 i) (val_main_v1 (F := Ideal) x0 i) := rfl

end

/-- The summed gradient is the reference's. -/
theorem array4 : (dats m 0 c).arrAt 4 cfg0.N = val_main_v1 (F := Ideal) (m ((c : Thread nD τ).loc main_arg0)) := by
  refine (dats m 0 c).arrAt_eq_of_covers 4 _ (by decide +kernel) fun t hf y => ?_
  blk_simp
  obtain ⟨i, d, rfl⟩ : ∃ (i : Fin 512) (d : Fin 128), y = ix2 i d := ⟨y 0, y 1, eq_ix2 y⟩
  rw [emb4, after0_4]
  dsimp only
  rw [blockG, grad, refG]

/-- The update is the reference's. -/
theorem array5 : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨i, d, rfl⟩ : ∃ (i : Fin 512) (d : Fin 128), y = ix2 i d := ⟨y 0, y 1, eq_ix2 y⟩
  rw [emb5, after0_5]
  dsimp only
  rw [blockD, payD, refD, grad, refG, block1, block2, block3]

/-- The first moment is the reference's. -/
theorem array6 : (dats m 0 c).arrAt 6 cfg0.N = val_main_v6 (F := Ideal) (m ((c : Thread nD τ).loc main_arg0)) (m ((c : Thread nD τ).loc main_arg2)) := by
  refine (dats m 0 c).arrAt_eq_of_covers 6 _ (by decide +kernel) fun t hf y => ?_
  blk_simp
  obtain ⟨i, d, rfl⟩ : ∃ (i : Fin 512) (d : Fin 128), y = ix2 i d := ⟨y 0, y 1, eq_ix2 y⟩
  rw [emb6, after0_6]
  dsimp only
  rw [blockM, payM, refM, grad, refG, block2]

/-- The second moment is the reference's. -/
theorem array7 : (dats m 0 c).arrAt 7 cfg0.N = val_main_v12 (F := Ideal) (m ((c : Thread nD τ).loc main_arg0)) (m ((c : Thread nD τ).loc main_arg3)) := by
  refine (dats m 0 c).arrAt_eq_of_covers 7 _ (by decide +kernel) fun t hf y => ?_
  blk_simp
  obtain ⟨i, d, rfl⟩ : ∃ (i : Fin 512) (d : Fin 128), y = ix2 i d := ⟨y 0, y 1, eq_ix2 y⟩
  rw [emb7, after0_7]
  dsimp only
  rw [blockV, payV, refV, grad, refG, block3]

end Cert.Kernel39Ideal.SumOGm

end
-- ==== Proof.SumFf1.lean ====
/- The sum over the devices of the gradient's parts and the update of the feed-forward network's first matrix. -/
module

public import proofs.«01_k».proof.Proof.AdamW
public import proofs.«01_k».proof.Proof.Gen.Kernel40Ideal.Value
public import proofs.«01_k».proof.Proof.Gen.Reference40Ideal.Read

@[expose] public section

set_option maxRecDepth 16384

noncomputable section

namespace Cert.Kernel40Ideal.SumFf1

open Idealize.ShloMosaic Idealize.ShloMosaic.TcCoe Idealize.SL.Sem Cert.Kernel40Ideal Cert.Kernel40Ideal.Gen Attn Products AdamW

section
variable (x0 : Vec Ideal S8x512x512 .bf16) (x1 x2 x3 : Vec Ideal S512x512 .f32)

/-- The body's gradient: the sum of the eight parts. -/
theorem pay (i : Fin 512) (d : Fin 512) : k0_pay5 (F := Ideal) x0 x1 x2 x3 (ix2 i d) = total x0 i d := by
  unfold k0_pay5 k0_pay4
  exact eight (fun k => x0 (ix3 k i d)) (slab x0 0 (by decide) _ _ i d) (slab x0 1 (by decide) _ _ i d) (slab x0 2 (by decide) _ _ i d)
    (slab x0 3 (by decide) _ _ i d) (slab x0 4 (by decide) _ _ i d) (slab x0 5 (by decide) _ _ i d) (slab x0 6 (by decide) _ _ i d) (slab x0 7 (by decide) _ _ i d)

theorem blockG : out0_4 x0 x1 x2 x3 = k0_pay5 x0 x1 x2 x3 := by
  unfold out0_4
  exact View.canon_unit_zero (off := ![0, 0]) (S := S512x512) (by decide) _ _

theorem blockD : out0_5 x0 x1 x2 x3 = k0_pay3 (k0_pay5 x0 x1 x2 x3) x1 x2 x3 := by
  unfold out0_5
  rw [View.ld_unit_zero (off := ![0, 0]) (S := S512x512) (by decide), View.ld_unit_zero (off := ![0, 0]) (S := S512x512) (by decide), View.ld_unit_zero (off := ![0, 0]) (S := S512x512) (by decide)]
  exact View.canon_unit_zero (off := ![0, 0]) (S := S512x512) (by decide) _ _

theorem blockM : out0_6 x0 x1 x2 x3 = k0_pay1 (k0_pay5 x0 x1 x2 x3) x2 := by
  unfold out0_6
  rw [View.ld_unit_zero (off := ![0, 0]) (S := S512x512) (by decide)]
  exact View.canon_unit_zero (off := ![0, 0]) (S := S512x512) (by decide) _ _

theorem blockV : out0_7 x0 x1 x2 x3 = k0_pay2 (k0_pay5 x0 x1 x2 x3) x3 := by
  unfold out0_7
  rw [View.ld_unit_zero (off := ![0, 0]) (S := S512x512) (by decide)]
  exact View.canon_unit_zero (off := ![0, 0]) (S := S512x512) (by decide) _ _

end

theorem payD (g w m v : FVec Ideal S512x512 .f32) (i : S512x512.Idx) : k0_pay3 (F := Ideal) g w m v i = delta (w i) (m i) (v i) (g i) := rfl
theorem payM (g m : FVec Ideal S512x512 .f32) (i : S512x512.Idx) : k0_pay1 (F := Ideal) g m i = first (m i) (g i) := rfl
theorem payV (g v : FVec Ideal S512x512 .f32) (i : S512x512.Idx) : k0_pay2 (F := Ideal) g v i = second (v i) (g i) := rfl

variable (m : (ℓ : Loc nD τ sig) → Buf (Elt Ideal) ℓ) (c : Dev nD)

theorem V_p : V m c main_arg0 = (m ((c : Thread nD τ).loc main_arg0) : FVec Ideal S8x1024x512 .bf16) := rfl
theorem V_w : V m c main_arg1 = (m ((c : Thread nD τ).loc main_arg1) : FVec Ideal S1024x512 .f32) := rfl
theorem V_m : V m c main_arg2 = (m ((c : Thread nD τ).loc main_arg2) : FVec Ideal S1024x512 .f32) := rfl
theorem V_v : V m c main_arg3 = (m ((c : Thread nD τ).loc main_arg3) : FVec Ideal S1024x512 .f32) := rfl

/-- The rows of the block at a grid point. -/
def row (t : Fin cfg0.N) (i : Fin 512) : Fin 1024 := ⟨t * 512 + i, by have hN : (t : ℕ) < 2 := lt_of_lt_of_eq t.isLt N_0; omega⟩

theorem index0 : ∀ t : Fin grid0.N, win0_0.index t 0 = 0 ∧ win0_0.index t 1 = (t : ℕ) ∧ win0_0.index t 2 = 0 := by decide +kernel
theorem index1 : ∀ t : Fin grid0.N, win0_1.index t 0 = (t : ℕ) ∧ win0_1.index t 1 = 0 := by decide +kernel
theorem index2 : ∀ t : Fin grid0.N, win0_2.index t 0 = (t : ℕ) ∧ win0_2.index t 1 = 0 := by decide +kernel
theorem index3 : ∀ t : Fin grid0.N, win0_3.index t 0 = (t : ℕ) ∧ win0_3.index t 1 = 0 := by decide +kernel
theorem index4 : ∀ t : Fin grid0.N, win0_4.index t 0 = (t : ℕ) ∧ win0_4.index t 1 = 0 := by decide +kernel
theorem index5 : ∀ t : Fin grid0.N, win0_5.index t 0 = (t : ℕ) ∧ win0_5.index t 1 = 0 := by decide +kernel
theorem index6 : ∀ t : Fin grid0.N, win0_6.index t 0 = (t : ℕ) ∧ win0_6.index t 1 = 0 := by decide +kernel
theorem index7 : ∀ t : Fin grid0.N, win0_7.index t 0 = (t : ℕ) ∧ win0_7.index t 1 = 0 := by decide +kernel

theorem block0 (t : Fin cfg0.N) (k : Fin 8) (i : Fin 512) (d : Fin 512) :
    iblk m c 0 t (ix3 k i d) = (m ((c : Thread nD τ).loc main_arg0) : FVec Ideal S8x1024x512 .bf16) (ix3 k (row t i) d) := by
  rw [← V_p m c]
  show V m c main_arg0 ((win0_0.blk t).view.emb (ix3 k i d)) = _
  congr 1
  refine idx3 _ _ _ _ ?_ ?_ ?_
  · show ((win0_0.rect t).emb (ix3 k i d) 0 : ℕ) = _
    rw [Pipeline.Window.rect_emb_val win0_0 t, (index0 t).1]; simp
  · show ((win0_0.rect t).emb (ix3 k i d) 1 : ℕ) = _
    rw [Pipeline.Window.rect_emb_val win0_0 t, (index0 t).2.1]; rfl
  · show ((win0_0.rect t).emb (ix3 k i d) 2 : ℕ) = _
    rw [Pipeline.Window.rect_emb_val win0_0 t, (index0 t).2.2]; simp

theorem block1 (t : Fin cfg0.N) (i : Fin 512) (d : Fin 512) :
    iblk m c 1 t (ix2 i d) = (m ((c : Thread nD τ).loc main_arg1) : FVec Ideal S1024x512 .f32) (ix2 (row t i) d) := by
  rw [← V_w m c]
  show V m c main_arg1 ((win0_1.blk t).view.emb (ix2 i d)) = _
  congr 1
  refine idx2 _ _ _ ?_ ?_
  · show ((win0_1.rect t).emb (ix2 i d) 0 : ℕ) = _
    rw [Pipeline.Window.rect_emb_val win0_1 t, (index1 t).1]; rfl
  · show ((win0_1.rect t).emb (ix2 i d) 1 : ℕ) = _
    rw [Pipeline.Window.rect_emb_val win0_1 t, (index1 t).2]; simp

theorem block2 (t : Fin cfg0.N) (i : Fin 512) (d : Fin 512) :
    iblk m c 2 t (ix2 i d) = (m ((c : Thread nD τ).loc main_arg2) : FVec Ideal S1024x512 .f32) (ix2 (row t i) d) := by
  rw [← V_m m c]
  show V m c main_arg2 ((win0_2.blk t).view.emb (ix2 i d)) = _
  congr 1
  refine idx2 _ _ _ ?_ ?_
  · show ((win0_2.rect t).emb (ix2 i d) 0 : ℕ) = _
    rw [Pipeline.Window.rect_emb_val win0_2 t, (index2 t).1]; rfl
  · show ((win0_2.rect t).emb (ix2 i d) 1 : ℕ) = _
    rw [Pipeline.Window.rect_emb_val win0_2 t, (index2 t).2]; simp

theorem block3 (t : Fin cfg0.N) (i : Fin 512) (d : Fin 512) :
    iblk m c 3 t (ix2 i d) = (m ((c : Thread nD τ).loc main_arg3) : FVec Ideal S1024x512 .f32) (ix2 (row t i) d) := by
  rw [← V_v m c]
  show V m c main_arg3 ((win0_3.blk t).view.emb (ix2 i d)) = _
  congr 1
  refine idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; simp

theorem emb4 (t : Fin cfg0.N) (i : Fin 512) (d : Fin 512) : (win0_4.blk t).view.emb (ix2 i d) = ix2 (row t i) d := by
  refine idx2 _ _ _ ?_ ?_
  · show ((win0_4.rect t).emb (ix2 i d) 0 : ℕ) = _
    rw [Pipeline.Window.rect_emb_val win0_4 t, (index4 t).1]; rfl
  · show ((win0_4.rect t).emb (ix2 i d) 1 : ℕ) = _
    rw [Pipeline.Window.rect_emb_val win0_4 t, (index4 t).2]; simp

theorem emb5 (t : Fin cfg0.N) (i : Fin 512) (d : Fin 512) : (win0_5.blk t).view.emb (ix2 i d) = ix2 (row t i) d := by
  refine idx2 _ _ _ ?_ ?_
  · show ((win0_5.rect t).emb (ix2 i d) 0 : ℕ) = _
    rw [Pipeline.Window.rect_emb_val win0_5 t, (index5 t).1]; rfl
  · show ((win0_5.rect t).emb (ix2 i d) 1 : ℕ) = _
    rw [Pipeline.Window.rect_emb_val win0_5 t, (index5 t).2]; simp

theorem emb6 (t : Fin cfg0.N) (i : Fin 512) (d : Fin 512) : (win0_6.blk t).view.emb (ix2 i d) = ix2 (row t i) d := by
  refine idx2 _ _ _ ?_ ?_
  · show ((win0_6.rect t).emb (ix2 i d) 0 : ℕ) = _
    rw [Pipeline.Window.rect_emb_val win0_6 t, (index6 t).1]; rfl
  · show ((win0_6.rect t).emb (ix2 i d) 1 : ℕ) = _
    rw [Pipeline.Window.rect_emb_val win0_6 t, (index6 t).2]; simp

theorem emb7 (t : Fin cfg0.N) (i : Fin 512) (d : Fin 512) : (win0_7.blk t).view.emb (ix2 i d) = ix2 (row t i) d := by
  refine idx2 _ _ _ ?_ ?_
  · show ((win0_7.rect t).emb (ix2 i d) 0 : ℕ) = _
    rw [Pipeline.Window.rect_emb_val win0_7 t, (index7 t).1]; rfl
  · show ((win0_7.rect t).emb (ix2 i d) 1 : ℕ) = _
    rw [Pipeline.Window.rect_emb_val win0_7 t, (index7 t).2]; simp

/-- The gradient at a grid point, entry by entry. -/
theorem grad (t : Fin cfg0.N) (i : Fin 512) (d : Fin 512) :
    k0_pay5 (F := Ideal) (iblk m c 0 t) (iblk m c 1 t) (iblk m c 2 t) (iblk m c 3 t) (ix2 i d)
      = total (m ((c : Thread nD τ).loc main_arg0) : FVec Ideal S8x1024x512 .bf16) (row t i) d := by
  refine (pay _ _ _ _ i d).trans ?_
  exact Finset.sum_congr rfl fun k _ => block0 m c t k i d

open Cert.Reference40Ideal.Read

section
variable (x0 : FVec Ideal S8x1024x512 .bf16) (x1 x2 x3 : FVec Ideal S1024x512 .f32)

/-- The reference's gradient. -/
theorem refG (i : Fin 1024) (d : Fin 512) : val_main_v1 (F := Ideal) x0 (ix2 i d) = total x0 i d := by
  rw [val_main_v1_apply, val_main_cst_apply]
  refine (congrArg (· + _) Ideal.ofBits_zero_f32).trans ((zero_add _).trans (Finset.sum_congr rfl fun k _ => ?_))
  rw [idx3 (idx_main_v1 (ix2 i d) k) k i d rfl rfl rfl, val_main_v0_apply]
  rfl

theorem refD (i : S1024x512.Idx) : val_main_v25 (F := Ideal) x0 x1 x2 x3 i = delta (x1 i) (x2 i) (x3 i) (val_main_v1 (F := Ideal) x0 i) := rfl
theorem refM (i : S1024x512.Idx) : val_main_v6 (F := Ideal) x0 x2 i = first (x2 i) (val_main_v1 (F := Ideal) x0 i) := rfl
theorem refV (i : S1024x512.Idx) : val_main_v12 (F := Ideal) x0 x3 i = second (x3 i) (val_main_v1 (F := Ideal) x0 i) := rfl

end

/-- The summed gradient is the reference's. -/
theorem array4 : (dats m 0 c).arrAt 4 cfg0.N = val_main_v1 (F := Ideal) (m ((c : Thread nD τ).loc main_arg0)) := by
  refine (dats m 0 c).arrAt_eq_of_covers 4 _ (by decide +kernel) fun t hf y => ?_
  blk_simp
  obtain ⟨i, d, rfl⟩ : ∃ (i : Fin 512) (d : Fin 512), y = ix2 i d := ⟨y 0, y 1, eq_ix2 y⟩
  rw [emb4, after0_4]
  dsimp only
  rw [blockG, grad, refG]

/-- The update is the reference's. -/
theorem array5 : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨i, d, rfl⟩ : ∃ (i : Fin 512) (d : Fin 512), y = ix2 i d := ⟨y 0, y 1, eq_ix2 y⟩
  rw [emb5, after0_5]
  dsimp only
  rw [blockD, payD, refD, grad, refG, block1, block2, block3]

/-- The first moment is the reference's. -/
theorem array6 : (dats m 0 c).arrAt 6 cfg0.N = val_main_v6 (F := Ideal) (m ((c : Thread nD τ).loc main_arg0)) (m ((c : Thread nD τ).loc main_arg2)) := by
  refine (dats m 0 c).arrAt_eq_of_covers 6 _ (by decide +kernel) fun t hf y => ?_
  blk_simp
  obtain ⟨i, d, rfl⟩ : ∃ (i : Fin 512) (d : Fin 512), y = ix2 i d := ⟨y 0, y 1, eq_ix2 y⟩
  rw [emb6, after0_6]
  dsimp only
  rw [blockM, payM, refM, grad, refG, block2]

/-- The second moment is the reference's. -/
theorem array7 : (dats m 0 c).arrAt 7 cfg0.N = val_main_v12 (F := Ideal) (m ((c : Thread nD τ).loc main_arg0)) (m ((c : Thread nD τ).loc main_arg3)) := by
  refine (dats m 0 c).arrAt_eq_of_covers 7 _ (by decide +kernel) fun t hf y => ?_
  blk_simp
  obtain ⟨i, d, rfl⟩ : ∃ (i : Fin 512) (d : Fin 512), y = ix2 i d := ⟨y 0, y 1, eq_ix2 y⟩
  rw [emb7, after0_7]
  dsimp only
  rw [blockV, payV, refV, grad, refG, block3]

end Cert.Kernel40Ideal.SumFf1

end
-- ==== Proof.SumFf2.lean ====
/- The sum over the devices of the gradient's parts and the update of the feed-forward network's second matrix. -/
module

public import proofs.«01_k».proof.Proof.AdamW
public import proofs.«01_k».proof.Proof.Gen.Kernel41Ideal.Value
public import proofs.«01_k».proof.Proof.Gen.Reference41Ideal.Read

@[expose] public section

set_option maxRecDepth 16384

noncomputable section

namespace Cert.Kernel41Ideal.SumFf2

open Idealize.ShloMosaic Idealize.ShloMosaic.TcCoe Idealize.SL.Sem Cert.Kernel41Ideal Cert.Kernel41Ideal.Gen Attn Products AdamW

section
variable (x0 : Vec Ideal S8x256x1024 .bf16) (x1 x2 x3 : Vec Ideal S256x1024 .f32)

/-- The body's gradient: the sum of the eight parts. -/
theorem pay (i : Fin 256) (d : Fin 1024) : k0_pay5 (F := Ideal) x0 x1 x2 x3 (ix2 i d) = total x0 i d := by
  unfold k0_pay5 k0_pay4
  exact eight (fun k => x0 (ix3 k i d)) (slab x0 0 (by decide) _ _ i d) (slab x0 1 (by decide) _ _ i d) (slab x0 2 (by decide) _ _ i d)
    (slab x0 3 (by decide) _ _ i d) (slab x0 4 (by decide) _ _ i d) (slab x0 5 (by decide) _ _ i d) (slab x0 6 (by decide) _ _ i d) (slab x0 7 (by decide) _ _ i d)

theorem blockG : out0_4 x0 x1 x2 x3 = k0_pay5 x0 x1 x2 x3 := by
  unfold out0_4
  exact View.canon_unit_zero (off := ![0, 0]) (S := S256x1024) (by decide) _ _

theorem blockD : out0_5 x0 x1 x2 x3 = k0_pay3 (k0_pay5 x0 x1 x2 x3) x1 x2 x3 := by
  unfold out0_5
  rw [View.ld_unit_zero (off := ![0, 0]) (S := S256x1024) (by decide), View.ld_unit_zero (off := ![0, 0]) (S := S256x1024) (by decide), View.ld_unit_zero (off := ![0, 0]) (S := S256x1024) (by decide)]
  exact View.canon_unit_zero (off := ![0, 0]) (S := S256x1024) (by decide) _ _

theorem blockM : out0_6 x0 x1 x2 x3 = k0_pay1 (k0_pay5 x0 x1 x2 x3) x2 := by
  unfold out0_6
  rw [View.ld_unit_zero (off := ![0, 0]) (S := S256x1024) (by decide)]
  exact View.canon_unit_zero (off := ![0, 0]) (S := S256x1024) (by decide) _ _

theorem blockV : out0_7 x0 x1 x2 x3 = k0_pay2 (k0_pay5 x0 x1 x2 x3) x3 := by
  unfold out0_7
  rw [View.ld_unit_zero (off := ![0, 0]) (S := S256x1024) (by decide)]
  exact View.canon_unit_zero (off := ![0, 0]) (S := S256x1024) (by decide) _ _

end

theorem payD (g w m v : FVec Ideal S256x1024 .f32) (i : S256x1024.Idx) : k0_pay3 (F := Ideal) g w m v i = delta (w i) (m i) (v i) (g i) := rfl
theorem payM (g m : FVec Ideal S256x1024 .f32) (i : S256x1024.Idx) : k0_pay1 (F := Ideal) g m i = first (m i) (g i) := rfl
theorem payV (g v : FVec Ideal S256x1024 .f32) (i : S256x1024.Idx) : k0_pay2 (F := Ideal) g v i = second (v i) (g i) := rfl

variable (m : (ℓ : Loc nD τ sig) → Buf (Elt Ideal) ℓ) (c : Dev nD)

theorem V_p : V m c main_arg0 = (m ((c : Thread nD τ).loc main_arg0) : FVec Ideal S8x512x1024 .bf16) := rfl
theorem V_w : V m c main_arg1 = (m ((c : Thread nD τ).loc main_arg1) : FVec Ideal S512x1024 .f32) := rfl
theorem V_m : V m c main_arg2 = (m ((c : Thread nD τ).loc main_arg2) : FVec Ideal S512x1024 .f32) := rfl
theorem V_v : V m c main_arg3 = (m ((c : Thread nD τ).loc main_arg3) : FVec Ideal S512x1024 .f32) := rfl

/-- The rows of the block at a grid point. -/
def row (t : Fin cfg0.N) (i : Fin 256) : Fin 512 := ⟨t * 256 + i, by have hN : (t : ℕ) < 2 := lt_of_lt_of_eq t.isLt N_0; omega⟩

theorem index0 : ∀ t : Fin grid0.N, win0_0.index t 0 = 0 ∧ win0_0.index t 1 = (t : ℕ) ∧ win0_0.index t 2 = 0 := by decide +kernel
theorem index1 : ∀ t : Fin grid0.N, win0_1.index t 0 = (t : ℕ) ∧ win0_1.index t 1 = 0 := by decide +kernel
theorem index2 : ∀ t : Fin grid0.N, win0_2.index t 0 = (t : ℕ) ∧ win0_2.index t 1 = 0 := by decide +kernel
theorem index3 : ∀ t : Fin grid0.N, win0_3.index t 0 = (t : ℕ) ∧ win0_3.index t 1 = 0 := by decide +kernel
theorem index4 : ∀ t : Fin grid0.N, win0_4.index t 0 = (t : ℕ) ∧ win0_4.index t 1 = 0 := by decide +kernel
theorem index5 : ∀ t : Fin grid0.N, win0_5.index t 0 = (t : ℕ) ∧ win0_5.index t 1 = 0 := by decide +kernel
theorem index6 : ∀ t : Fin grid0.N, win0_6.index t 0 = (t : ℕ) ∧ win0_6.index t 1 = 0 := by decide +kernel
theorem index7 : ∀ t : Fin grid0.N, win0_7.index t 0 = (t : ℕ) ∧ win0_7.index t 1 = 0 := by decide +kernel

theorem block0 (t : Fin cfg0.N) (k : Fin 8) (i : Fin 256) (d : Fin 1024) :
    iblk m c 0 t (ix3 k i d) = (m ((c : Thread nD τ).loc main_arg0) : FVec Ideal S8x512x1024 .bf16) (ix3 k (row t i) d) := by
  rw [← V_p m c]
  show V m c main_arg0 ((win0_0.blk t).view.emb (ix3 k i d)) = _
  congr 1
  refine idx3 _ _ _ _ ?_ ?_ ?_
  · show ((win0_0.rect t).emb (ix3 k i d) 0 : ℕ) = _
    rw [Pipeline.Window.rect_emb_val win0_0 t, (index0 t).1]; simp
  · show ((win0_0.rect t).emb (ix3 k i d) 1 : ℕ) = _
    rw [Pipeline.Window.rect_emb_val win0_0 t, (index0 t).2.1]; rfl
  · show ((win0_0.rect t).emb (ix3 k i d) 2 : ℕ) = _
    rw [Pipeline.Window.rect_emb_val win0_0 t, (index0 t).2.2]; simp

theorem block1 (t : Fin cfg0.N) (i : Fin 256) (d : Fin 1024) :
    iblk m c 1 t (ix2 i d) = (m ((c : Thread nD τ).loc main_arg1) : FVec Ideal S512x1024 .f32) (ix2 (row t i) d) := by
  rw [← V_w m c]
  show V m c main_arg1 ((win0_1.blk t).view.emb (ix2 i d)) = _
  congr 1
  refine idx2 _ _ _ ?_ ?_
  · show ((win0_1.rect t).emb (ix2 i d) 0 : ℕ) = _
    rw [Pipeline.Window.rect_emb_val win0_1 t, (index1 t).1]; rfl
  · show ((win0_1.rect t).emb (ix2 i d) 1 : ℕ) = _
    rw [Pipeline.Window.rect_emb_val win0_1 t, (index1 t).2]; simp

theorem block2 (t : Fin cfg0.N) (i : Fin 256) (d : Fin 1024) :
    iblk m c 2 t (ix2 i d) = (m ((c : Thread nD τ).loc main_arg2) : FVec Ideal S512x1024 .f32) (ix2 (row t i) d) := by
  rw [← V_m m c]
  show V m c main_arg2 ((win0_2.blk t).view.emb (ix2 i d)) = _
  congr 1
  refine idx2 _ _ _ ?_ ?_
  · show ((win0_2.rect t).emb (ix2 i d) 0 : ℕ) = _
    rw [Pipeline.Window.rect_emb_val win0_2 t, (index2 t).1]; rfl
  · show ((win0_2.rect t).emb (ix2 i d) 1 : ℕ) = _
    rw [Pipeline.Window.rect_emb_val win0_2 t, (index2 t).2]; simp

theorem block3 (t : Fin cfg0.N) (i : Fin 256) (d : Fin 1024) :
    iblk m c 3 t (ix2 i d) = (m ((c : Thread nD τ).loc main_arg3) : FVec Ideal S512x1024 .f32) (ix2 (row t i) d) := by
  rw [← V_v m c]
  show V m c main_arg3 ((win0_3.blk t).view.emb (ix2 i d)) = _
  congr 1
  refine idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; simp

theorem emb4 (t : Fin cfg0.N) (i : Fin 256) (d : Fin 1024) : (win0_4.blk t).view.emb (ix2 i d) = ix2 (row t i) d := by
  refine idx2 _ _ _ ?_ ?_
  · show ((win0_4.rect t).emb (ix2 i d) 0 : ℕ) = _
    rw [Pipeline.Window.rect_emb_val win0_4 t, (index4 t).1]; rfl
  · show ((win0_4.rect t).emb (ix2 i d) 1 : ℕ) = _
    rw [Pipeline.Window.rect_emb_val win0_4 t, (index4 t).2]; simp

theorem emb5 (t : Fin cfg0.N) (i : Fin 256) (d : Fin 1024) : (win0_5.blk t).view.emb (ix2 i d) = ix2 (row t i) d := by
  refine idx2 _ _ _ ?_ ?_
  · show ((win0_5.rect t).emb (ix2 i d) 0 : ℕ) = _
    rw [Pipeline.Window.rect_emb_val win0_5 t, (index5 t).1]; rfl
  · show ((win0_5.rect t).emb (ix2 i d) 1 : ℕ) = _
    rw [Pipeline.Window.rect_emb_val win0_5 t, (index5 t).2]; simp

theorem emb6 (t : Fin cfg0.N) (i : Fin 256) (d : Fin 1024) : (win0_6.blk t).view.emb (ix2 i d) = ix2 (row t i) d := by
  refine idx2 _ _ _ ?_ ?_
  · show ((win0_6.rect t).emb (ix2 i d) 0 : ℕ) = _
    rw [Pipeline.Window.rect_emb_val win0_6 t, (index6 t).1]; rfl
  · show ((win0_6.rect t).emb (ix2 i d) 1 : ℕ) = _
    rw [Pipeline.Window.rect_emb_val win0_6 t, (index6 t).2]; simp

theorem emb7 (t : Fin cfg0.N) (i : Fin 256) (d : Fin 1024) : (win0_7.blk t).view.emb (ix2 i d) = ix2 (row t i) d := by
  refine idx2 _ _ _ ?_ ?_
  · show ((win0_7.rect t).emb (ix2 i d) 0 : ℕ) = _
    rw [Pipeline.Window.rect_emb_val win0_7 t, (index7 t).1]; rfl
  · show ((win0_7.rect t).emb (ix2 i d) 1 : ℕ) = _
    rw [Pipeline.Window.rect_emb_val win0_7 t, (index7 t).2]; simp

/-- The gradient at a grid point, entry by entry. -/
theorem grad (t : Fin cfg0.N) (i : Fin 256) (d : Fin 1024) :
    k0_pay5 (F := Ideal) (iblk m c 0 t) (iblk m c 1 t) (iblk m c 2 t) (iblk m c 3 t) (ix2 i d)
      = total (m ((c : Thread nD τ).loc main_arg0) : FVec Ideal S8x512x1024 .bf16) (row t i) d := by
  refine (pay _ _ _ _ i d).trans ?_
  exact Finset.sum_congr rfl fun k _ => block0 m c t k i d

open Cert.Reference41Ideal.Read

section
variable (x0 : FVec Ideal S8x512x1024 .bf16) (x1 x2 x3 : FVec Ideal S512x1024 .f32)

/-- The reference's gradient. -/
theorem refG (i : Fin 512) (d : Fin 1024) : val_main_v1 (F := Ideal) x0 (ix2 i d) = total x0 i d := by
  rw [val_main_v1_apply, val_main_cst_apply]
  refine (congrArg (· + _) Ideal.ofBits_zero_f32).trans ((zero_add _).trans (Finset.sum_congr rfl fun k _ => ?_))
  rw [idx3 (idx_main_v1 (ix2 i d) k) k i d rfl rfl rfl, val_main_v0_apply]
  rfl

theorem refD (i : S512x1024.Idx) : val_main_v25 (F := Ideal) x0 x1 x2 x3 i = delta (x1 i) (x2 i) (x3 i) (val_main_v1 (F := Ideal) x0 i) := rfl
theorem refM (i : S512x1024.Idx) : val_main_v6 (F := Ideal) x0 x2 i = first (x2 i) (val_main_v1 (F := Ideal) x0 i) := rfl
theorem refV (i : S512x1024.Idx) : val_main_v12 (F := Ideal) x0 x3 i = second (x3 i) (val_main_v1 (F := Ideal) x0 i) := rfl

end

/-- The summed gradient is the reference's. -/
theorem array4 : (dats m 0 c).arrAt 4 cfg0.N = val_main_v1 (F := Ideal) (m ((c : Thread nD τ).loc main_arg0)) := by
  refine (dats m 0 c).arrAt_eq_of_covers 4 _ (by decide +kernel) fun t hf y => ?_
  blk_simp
  obtain ⟨i, d, rfl⟩ : ∃ (i : Fin 256) (d : Fin 1024), y = ix2 i d := ⟨y 0, y 1, eq_ix2 y⟩
  rw [emb4, after0_4]
  dsimp only
  rw [blockG, grad, refG]

/-- The update is the reference's. -/
theorem array5 : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨i, d, rfl⟩ : ∃ (i : Fin 256) (d : Fin 1024), y = ix2 i d := ⟨y 0, y 1, eq_ix2 y⟩
  rw [emb5, after0_5]
  dsimp only
  rw [blockD, payD, refD, grad, refG, block1, block2, block3]

/-- The first moment is the reference's. -/
theorem array6 : (dats m 0 c).arrAt 6 cfg0.N = val_main_v6 (F := Ideal) (m ((c : Thread nD τ).loc main_arg0)) (m ((c : Thread nD τ).loc main_arg2)) := by
  refine (dats m 0 c).arrAt_eq_of_covers 6 _ (by decide +kernel) fun t hf y => ?_
  blk_simp
  obtain ⟨i, d, rfl⟩ : ∃ (i : Fin 256) (d : Fin 1024), y = ix2 i d := ⟨y 0, y 1, eq_ix2 y⟩
  rw [emb6, after0_6]
  dsimp only
  rw [blockM, payM, refM, grad, refG, block2]

/-- The second moment is the reference's. -/
theorem array7 : (dats m 0 c).arrAt 7 cfg0.N = val_main_v12 (F := Ideal) (m ((c : Thread nD τ).loc main_arg0)) (m ((c : Thread nD τ).loc main_arg3)) := by
  refine (dats m 0 c).arrAt_eq_of_covers 7 _ (by decide +kernel) fun t hf y => ?_
  blk_simp
  obtain ⟨i, d, rfl⟩ : ∃ (i : Fin 256) (d : Fin 1024), y = ix2 i d := ⟨y 0, y 1, eq_ix2 y⟩
  rw [emb7, after0_7]
  dsimp only
  rw [blockV, payV, refV, grad, refG, block3]

end Cert.Kernel41Ideal.SumFf2

end
-- ==== Proof.MemBwd.lean ====
/- The memory attention's backward pass: what the kernel's body leaves of its three results at a batch and a head, and the arrays the grid
   makes of them. For real arguments they are the reference's gradients of the queries, the keys and the values. -/
module

public import proofs.«01_k».proof.Proof.Tiles
public import proofs.«01_k».proof.Proof.MemRefBack
public import proofs.«01_k».proof.Proof.Gen.Kernel42Ideal.Value
public import Idealize.ShloMosaic.Lib.Pipeline.ValueKit

@[expose] public section

set_option maxRecDepth 16384

noncomputable section

namespace Cert.Kernel42Ideal.MemBwd

open Idealize.ShloMosaic Idealize.ShloMosaic.TcCoe Idealize.SL.Sem Cert.Kernel42Ideal Cert.Kernel42Ideal.Gen Attn
open Cert.Reference43Ideal.Values (AQ AK AV hq hk rowQ rowK col right scale scale_eq sc every pr mx ex sm scaledQ scaledQ_apply qn qk_sum o_ref l_ref)
open Cert.Reference42Ideal.Values (DataG dp ds dq_ref dk_ref dv_ref)

/-- The scale of the scores. -/
abbrev scalev : Ideal .f32 := Scalar.ofBits .f32 0x3DB504F3#32
/-- The factor that turns a derivative by a base-two exponent into one by the exponent. -/
abbrev ln2v : Ideal .f32 := Named.named κ "ln2" 0x3F317218#32

theorem ln2_val : ln2v = ((Real.log 2 : ℝ) : EReal) := IdealRules.named_const.ideal_named_scalar _ _ _ _ rfl
theorem scale_val : scalev = (scale : EReal) := scale_eq

theorem narrow : FTy.bits .bf16 < FTy.bits .f32 := by decide
theorem colOk : (M3 2048).ShapeCasts (M2 2048 1) := by decide
theorem bcOk : (M2 2048 1).Broadcasts (M2 2048 256) := by decide

/-! ### The tiles -/

section
variable (x0 : Vec Ideal (M2 2048 128) .bf16) (x1 x2 : Vec Ideal (M2 256 128) .bf16) (x3 x4 : Vec Ideal (M2 2048 128) .bf16) (x5 : Vec Ideal (M3 2048) .f32)

/-- The rows' dots of the output with its gradient. -/
def dots : Vec Ideal (M2 2048 1) .f32 := k0_pay7 x4 x3
/-- The probabilities. -/
def pT : FVec Ideal (M2 2048 256) .f32 := probs (scores x0 x1) (shapeCast (M2 2048 1) x5 colOk) bcOk
/-- The gradient of the scores. -/
def dsT : FVec Ideal (M2 2048 256) .bf16 := grads (pT x0 x1 x5) x4 x2 (dots x3 x4) bcOk narrow
/-- The gradient of the queries. -/
def dqT : FVec Ideal (M2 2048 128) .bf16 := truncf .bf16 (overKeys (dsT x0 x1 x2 x3 x4 x5) x1 scalev) narrow
/-- The gradient of the keys. -/
def dkT : FVec Ideal (M2 256 128) .bf16 := truncf .bf16 (mulf (overRows (dsT x0 x1 x2 x3 x4 x5) x0) (broadcast _ ln2v)) narrow
/-- The gradient of the values. -/
def dvT : FVec Ideal (M2 256 128) .bf16 := truncf .bf16 (overRows (truncf .bf16 (pT x0 x1 x5) narrow) x4) narrow

end

section
variable (c : Dev nD) (i : grid0.Coords) (arg2 : Memref sig .tc .vmem S2048x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2048x1 .f32) (harg7 : arg7.IsWhole) (arg8 : Memref sig .tc .vmem S2048x128 .bf16) (harg8 : arg8.IsWhole) (arg9 : Memref sig .tc .vmem S256x128 .bf16) (harg9 : arg9.IsWhole) (arg10 : Memref sig .tc .vmem S256x128 .bf16) (harg10 : arg10.IsWhole) (arg11 : Memref sig .tc .vmem S2048x1 .f32) (harg11 : arg11.IsWhole) (arg12 : Memref sig .tc .vmem S2048x128 .bf16) (harg12 : arg12.IsWhole) (arg13 : Memref sig .tc .vmem S2048x128 .f32) (harg13 : arg13.IsWhole) (x0 : Vec Ideal S2048x128 .bf16) (x1 : Vec Ideal S256x128 .bf16) (x2 : Vec Ideal S256x128 .bf16) (x3 : Vec Ideal S2048x128 .bf16) (x4 : Vec Ideal S2048x128 .bf16) (x5 : Vec Ideal S1x2048x1 .f32)

/-- The copy of the output's gradient the body works from is that gradient. -/
theorem read_g : kernelRun0_A.sl.v21 c arg6 harg6 arg12 x4 = x4 := by
  unfold kernelRun0_A.sl.v21 kernelRun0_A.sl.HS1_1
  rw [View.readCov_eq_canon', View.canon_unit_zero (off := ![0, 0]) (S := S2048x128) (by decide)]
  unfold k0_pay8 k0_pay6
  simp only [View.readAt_eq_ld, Memref.IsWhole.read_unread, shapeCast_self, View.ld_unit_zero (off := ![0, 0]) (S := S2048x128) (by decide)]
  funext j
  exact congrFun (View.ld_unit_zero (S := M2 2048 128) (off := ![0, 0]) (by decide) inb_S2048x128_S2048x128_0_0 x4) j

/-- The column of rows' dots the body works from. -/
theorem read_d : kernelRun0_A.sl.v29 c arg5 harg5 arg6 harg6 arg11 x3 x4 = dots x3 x4 := by
  unfold kernelRun0_A.sl.v29 kernelRun0_A.sl.HS0_1
  rw [View.readCov_eq_canon', View.canon_unit_zero (off := ![0, 0]) (S := S2048x1) (by decide)]
  simp only [View.readAt_eq_ld, Memref.IsWhole.read_unread, View.ld_unit_zero (off := ![0, 0]) (S := S2048x128) (by decide),
    View.ld_unit_zero (off := ![0, 0]) (S := S2048x1) (by decide)]
  funext j
  exact congrFun (View.ld_unit_zero (S := M2 2048 1) (off := ![0, 0]) (by decide) inb_S2048x1_S2048x1_0_0 (dots x3 x4)) j

theorem read_k : kernelRun0_A.sl.r c arg3 harg3 x1 = x1 := by
  unfold kernelRun0_A.sl.r k0_pay9
  simp only [View.readAt_eq_ld, Memref.IsWhole.read_unread, shapeCast_self, View.ld_unit_zero (off := ![0, 0]) (S := S256x128) (by decide)]

theorem read_q : kernelRun0_A.sl.r_1 c arg2 harg2 x0 = x0 := by
  unfold kernelRun0_A.sl.r_1 k0_pay10
  simp only [View.readAt_eq_ld, Memref.IsWhole.read_unread, shapeCast_self, View.ld_unit_zero (off := ![0, 0]) (S := S2048x128) (by decide)]

/-- The probabilities as the body forms them. -/
theorem read_p : kernelRun0_A.sl.r_2 c arg2 harg2 arg3 harg3 arg7 harg7 x0 x1 x5 = pT x0 x1 x5 := by
  unfold kernelRun0_A.sl.r_2 k0_pay11 k0_pay10 k0_pay9
  simp only [View.readAt_eq_ld, Memref.IsWhole.read_unread, shapeCast_self, View.ld_unit_zero (off := ![0, 0]) (S := S2048x128) (by decide),
    View.ld_unit_zero (off := ![0, 0]) (S := S256x128) (by decide), View.ld_unit_zero (off := ![0, 0, 0]) (S := S1x2048x1) (by decide)]
  rfl

/-- The gradient reaching the probabilities, less the rows' dots. -/
theorem read_dp : kernelRun0_A.sl.r_3 c arg4 harg4 arg5 harg5 arg6 harg6 arg11 arg12 x2 x3 x4 = k0_pay12 x2 x4 (dots x3 x4) := by
  unfold kernelRun0_A.sl.r_3
  simp only [read_g, read_d, View.readAt_eq_ld, Memref.IsWhole.read_unread, View.ld_unit_zero (off := ![0, 0]) (S := S256x128) (by decide)]

/-- The gradient of the scores as the body forms it. -/
theorem ds_pay : k0_pay1 (pT x0 x1 x5) (k0_pay12 x2 x4 (dots x3 x4)) = dsT x0 x1 x2 x3 x4 x5 := by
  unfold k0_pay1 k0_pay12
  simp only [shapeCast_self]
  rfl

/-- What the body leaves of the gradient of the keys. -/
theorem out_dk : out0_A_7 c i arg2 harg2 arg3 harg3 arg4 harg4 arg5 harg5 arg6 harg6 arg7 harg7 arg8 harg8 arg9 harg9 arg10 harg10 arg11 harg11 arg12 harg12 arg13 harg13 x0 x1 x2 x3 x4 x5 = dkT x0 x1 x2 x3 x4 x5 := by
  unfold out0_A_7
  rw [View.read_writes_junk_eq_canon]
  unfold kernelRun0_A
  dsimp only
  rw [View.canon_unit_zero (off := ![0, 0]) (S := S256x128) (by decide), read_q, read_p, read_dp]
  unfold k0_pay3
  rw [ds_pay]
  rfl

/-- What the body leaves of the gradient of the values. -/
theorem out_dv : out0_A_8 c i arg2 harg2 arg3 harg3 arg4 harg4 arg5 harg5 arg6 harg6 arg7 harg7 arg8 harg8 arg9 harg9 arg10 harg10 arg11 harg11 arg12 harg12 arg13 harg13 x0 x1 x2 x3 x4 x5 = dvT x0 x1 x4 x5 := by
  unfold out0_A_8
  rw [View.read_writes_junk_eq_canon]
  unfold kernelRun0_A
  dsimp only
  rw [View.canon_unit_zero (off := ![0, 0]) (S := S256x128) (by decide), read_g, read_p]
  rfl

/-- What the body leaves of the gradient of the queries. -/
theorem out_dq : out0_A_6 c i arg2 harg2 arg3 harg3 arg4 harg4 arg5 harg5 arg6 harg6 arg7 harg7 arg8 harg8 arg9 harg9 arg10 harg10 arg11 harg11 arg12 harg12 arg13 harg13 x0 x1 x2 x3 x4 x5 = dqT x0 x1 x2 x3 x4 x5 := by
  have e : kernelRun0_A.sl.v49 c arg2 harg2 arg3 harg3 arg4 harg4 arg5 harg5 arg6 harg6 arg7 harg7 arg11 arg12 arg13 x0 x1 x2 x3 x4 x5
      = overKeys (dsT x0 x1 x2 x3 x4 x5) x1 scalev := by
    unfold kernelRun0_A.sl.v49 kernelRun0_A.sl.HS2_1
    rw [View.readCov_eq_canon', View.canon_unit_zero (off := ![0, 0]) (S := S2048x128) (by decide), read_k, read_p, read_dp]
    unfold k0_pay2
    rw [ds_pay, shapeCast_self]
    have w : ∀ y : Vec Ideal (M2 2048 128) .f32, View.ld y (Rect.unit (s := M2 2048 128) ![0, 0] S2048x128.size inb_S2048x128_S2048x128_0_0) = y :=
      fun y => View.ld_unit_zero (S := M2 2048 128) (off := ![0, 0]) (by decide) _ y
    funext j
    exact congrFun (w (overKeys (dsT x0 x1 x2 x3 x4 x5) x1 scalev)) j
  unfold out0_A_6
  rw [View.read_writes_junk_eq_canon]
  unfold kernelRun0_A
  dsimp only
  rw [View.canon_unit_zero (off := ![0, 0]) (S := S2048x128) (by decide), e]
  rfl

end

/-! ### Over the reals -/

/-- The rows' dots of the output with its gradient, over the reals. -/
def dot (O G : ℕ → ℕ → ℝ) (i : ℕ) : ℝ := ∑ e : Fin 128, O i e * G i e
/-- The gradient of the scores, over the reals. -/
def dsc (P V O G : ℕ → ℕ → ℝ) (i j : ℕ) : ℝ := P i j * ((∑ e : Fin 128, G i e * V j e) - dot O G i)

/-- The arguments of one head hold real numbers, and the base-two exponential of a score less its row's logarithm is the
    probability `P`. -/
structure Reals (x0 : Vec Ideal (M2 2048 128) .bf16) (x1 x2 : Vec Ideal (M2 256 128) .bf16) (x3 x4 : Vec Ideal (M2 2048 128) .bf16)
    (x5 : Vec Ideal (M3 2048) .f32) (Q K V O G : ℕ → ℕ → ℝ) (Lg : ℕ → ℝ) (P : ℕ → ℕ → ℝ) : Prop where
  q : ∀ (i : Fin 2048) (d : Fin 128), x0 (ix2 i d) = (Q i d : EReal)
  k : ∀ (j : Fin 256) (d : Fin 128), x1 (ix2 j d) = (K j d : EReal)
  v : ∀ (j : Fin 256) (e : Fin 128), x2 (ix2 j e) = (V j e : EReal)
  o : ∀ (i : Fin 2048) (e : Fin 128), x3 (ix2 i e) = (O i e : EReal)
  g : ∀ (i : Fin 2048) (e : Fin 128), x4 (ix2 i e) = (G i e : EReal)
  l : ∀ i : Fin 2048, x5 (ix3 0 i 0) = (Lg i : EReal)
  p : ∀ (i : Fin 2048) (j : Fin 256), Real.rpow 2 ((∑ d : Fin 128, Q i d * K j d) - Lg i) = P i j

section
variable {x0 : Vec Ideal (M2 2048 128) .bf16} {x1 x2 : Vec Ideal (M2 256 128) .bf16} {x3 x4 : Vec Ideal (M2 2048 128) .bf16}
  {x5 : Vec Ideal (M3 2048) .f32} {Q K V O G : ℕ → ℕ → ℝ} {Lg : ℕ → ℝ} {P : ℕ → ℕ → ℝ} (H : Reals x0 x1 x2 x3 x4 x5 Q K V O G Lg P)
include H

theorem dots_apply (r : Fin 2048) : dots x3 x4 (ix2 r 0) = (dot O G r : EReal) := by
  unfold dot
  rw [← coe_sum_mul]
  have e : dots x3 x4 (ix2 r 0) = FloatOps.reduceAdd (F := Ideal) (φ := .f32) [1] reduces_S2048x128_S2048
      (mulf (extf .f32 (x3 : FVec Ideal S2048x128 .bf16) bitsLt_bf16_f32) (extf .f32 (x4 : FVec Ideal S2048x128 .bf16) bitsLt_bf16_f32)) (ix1 r) := by
    unfold dots k0_pay7 k0_pay6
    simp only [shapeCast_self]
    refine congrArg (multiReduction .add [1] S2048 _ _ _ _ _) (Shape.reshapeEquiv_eq_of_rowMajor _ ?_)
    rw [rowMajor_val1, rowMajor_val2 (ix2 r 0) 1 rfl]
    show (r : ℕ) = (r : ℕ) * 1 + 0
    omega
  rw [e]
  refine (Ideal.reduceAdd_r2_a1 _ _ _).trans (Finset.sum_congr rfl fun e _ => ?_)
  exact congrArg₂ (· * ·) (H.o _ _) (H.g _ _)

theorem p_apply (i : Fin 2048) (j : Fin 256) : pT x0 x1 x5 (ix2 i j) = (P i j : EReal) :=
  (probs_apply _ _ _ i j _ (Lg i) (scores_apply _ _ i j (fun d => Q i d) (fun d => K j d) (fun d => H.q i d) (fun d => H.k j d))
    ((cast_col _ _ i).trans (H.l i))).trans (congrArg _ (H.p i j))

theorem ds_apply (i : Fin 2048) (j : Fin 256) : dsT x0 x1 x2 x3 x4 x5 (ix2 i j) = (dsc P V O G i j : EReal) :=
  grads_apply _ _ _ _ _ _ i j (P i j) (fun e => G i e) (fun e => V j e) (dot O G i) (p_apply H i j) (fun e => H.g i e) (fun e => H.v j e)
    (dots_apply H i)

theorem dq_apply (i : Fin 2048) (d : Fin 128) : dqT x0 x1 x2 x3 x4 x5 (ix2 i d)
    = (((∑ j : Fin 256, dsc P V O G i j * K j d) * scale : ℝ) : EReal) :=
  overKeys_apply _ _ _ i d (fun j => dsc P V O G i j) (fun j => K j d) scale (fun j => ds_apply H i j) (fun j => H.k j d) scale_val

theorem dk_apply (j : Fin 256) (d : Fin 128) : dkT x0 x1 x2 x3 x4 x5 (ix2 j d)
    = (((∑ i : Fin 2048, dsc P V O G i j * Q i d) * Real.log 2 : ℝ) : EReal) := by
  show overRows (dsT x0 x1 x2 x3 x4 x5) x0 (ix2 j d) * ln2v = _
  rw [overRows_apply _ _ j d (fun i => dsc P V O G i j) (fun i => Q i d) (fun i => ds_apply H i j) (fun i => H.q i d), ln2_val, ← EReal.coe_mul]

theorem dv_apply (j : Fin 256) (e : Fin 128) : dvT x0 x1 x4 x5 (ix2 j e) = ((∑ i : Fin 2048, P i j * G i e : ℝ) : EReal) :=
  overRows_apply _ _ j e (fun i => P i j) (fun i => G i e) (fun i => p_apply H i j) (fun i => H.g i e)

end

/-! ### The kernel's quantities -/

/-- A head's probabilities at natural indices. -/
def pn (q k : ℕ → ℕ → ℝ) (b h i j : ℕ) : ℝ := if hi : i < 2048 then if hj : j < 256 then pr q k b h ⟨i, hi⟩ ⟨j, hj⟩ else 0 else 0
/-- A head's output. -/
def on (q k v : ℕ → ℕ → ℝ) (b h i e : ℕ) : ℝ := ∑ j : Fin 256, hk v b h j e * pn q k b h i j
/-- A head's logarithms. -/
def ln (x0 : AQ) (x1 : AK) (q k : ℕ → ℕ → ℝ) (b h : Fin 4) (i : ℕ) : ℝ :=
  if hi : i < 2048 then (mx x0 x1 b h ⟨i, hi⟩ + Real.log (sm x0 x1 q k b h ⟨i, hi⟩)) / Real.log 2 else 0

theorem pn_fin (q k : ℕ → ℕ → ℝ) (b h : ℕ) (i : Fin 2048) (j : Fin 256) : pn q k b h i j = pr q k b h i j := by
  unfold pn
  rw [dif_pos i.isLt, dif_pos j.isLt]

theorem pn_exp (x0 : AQ) (x1 : AK) (q k : ℕ → ℕ → ℝ) (b h : Fin 4) (i : Fin 2048) (j : Fin 256) :
    Real.rpow 2 ((∑ d : Fin 128, qn q b h i d * hk k b h j d) - ln x0 x1 q k b h i) = pn q k b h i j := by
  unfold ln
  rw [pn_fin, dif_pos i.isLt, qk_sum]
  exact exp2_prob every (sc q k b h) (mx x0 x1 b h i) trivial

/-- The kernel's gradient of the scores is the reference's. -/
theorem dsc_eq (q k v g : ℕ → ℕ → ℝ) (b h : ℕ) (i : Fin 2048) (j : Fin 256) :
    dsc (pn q k b h) (hk v b h) (on q k v b h) (hq g b h) i j = ds q k v g b h i j := by
  have e : dot (on q k v b h) (hq g b h) i = ∑ t, pr q k b h i t * dp v g b h i t := by
    unfold dot on dp
    simp only [Finset.mul_sum, Finset.sum_mul]
    rw [Finset.sum_comm]
    refine Finset.sum_congr rfl fun t _ => Finset.sum_congr rfl fun e _ => ?_
    rw [pn_fin]; ring
  unfold dsc
  rw [e, pn_fin]
  rfl

/-! ### The blocks -/

/-- The batch of a grid point. -/
def bt (t : Fin cfg0.N) : Fin 4 := grid0.coords t 0
/-- The head of a grid point. -/
def ht (t : Fin cfg0.N) : Fin 4 := grid0.coords t 1

theorem index0 : ∀ t : Fin grid0.N, win0_0.index t 0 = (grid0.coords t 0 : ℕ) ∧ win0_0.index t 1 = (grid0.coords t 1 : ℕ) := by decide +kernel

theorem emb0 (t : Fin cfg0.N) (i : Fin 2048) (d : Fin 128) : (win0_0.blk t).view.emb (ix2 i d) = ix2 (rowQ (bt t) i) (col (ht t) d) := by
  refine Cert.ReferenceIdeal.Values.idx2 _ _ _ ?_ ?_
  · show ((win0_0.rect t).emb (ix2 i d) 0 : ℕ) = _
    rw [Pipeline.Window.rect_emb_val win0_0 t, (index0 t).1]; rfl
  · show ((win0_0.rect t).emb (ix2 i d) 1 : ℕ) = _
    rw [Pipeline.Window.rect_emb_val win0_0 t, (index0 t).2]; rfl

theorem index1 : ∀ t : Fin grid0.N, win0_1.index t 0 = (grid0.coords t 0 : ℕ) ∧ win0_1.index t 1 = (grid0.coords t 1 : ℕ) := by decide +kernel

theorem emb1 (t : Fin cfg0.N) (j : Fin 256) (d : Fin 128) : (win0_1.blk t).view.emb (ix2 j d) = ix2 (rowK (bt t) j) (col (ht t) d) := by
  refine Cert.ReferenceIdeal.Values.idx2 _ _ _ ?_ ?_
  · show ((win0_1.rect t).emb (ix2 j d) 0 : ℕ) = _
    rw [Pipeline.Window.rect_emb_val win0_1 t, (index1 t).1]; rfl
  · show ((win0_1.rect t).emb (ix2 j d) 1 : ℕ) = _
    rw [Pipeline.Window.rect_emb_val win0_1 t, (index1 t).2]; rfl

theorem index2 : ∀ t : Fin grid0.N, win0_2.index t 0 = (grid0.coords t 0 : ℕ) ∧ win0_2.index t 1 = 4 + (grid0.coords t 1 : ℕ) := by decide +kernel

theorem emb2 (t : Fin cfg0.N) (j : Fin 256) (d : Fin 128) : (win0_2.blk t).view.emb (ix2 j d) = ix2 (rowK (bt t) j) (right (col (ht t) d)) := by
  refine Cert.ReferenceIdeal.Values.idx2 _ _ _ ?_ ?_
  · show ((win0_2.rect t).emb (ix2 j d) 0 : ℕ) = _
    rw [Pipeline.Window.rect_emb_val win0_2 t, (index2 t).1]; rfl
  · show ((win0_2.rect t).emb (ix2 j d) 1 : ℕ) = _
    rw [Pipeline.Window.rect_emb_val win0_2 t, (index2 t).2]
    show (4 + (grid0.coords t 1 : ℕ)) * 128 + (d : ℕ) = 512 + ((grid0.coords t 1 : ℕ) * 128 + d)
    omega

theorem index3 : ∀ t : Fin grid0.N, win0_3.index t 0 = (grid0.coords t 0 : ℕ) ∧ win0_3.index t 1 = (grid0.coords t 1 : ℕ) := by decide +kernel

theorem emb3 (t : Fin cfg0.N) (i : Fin 2048) (d : Fin 128) : (win0_3.blk t).view.emb (ix2 i d) = ix2 (rowQ (bt t) i) (col (ht t) d) := by
  refine Cert.ReferenceIdeal.Values.idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; rfl

theorem index4 : ∀ t : Fin grid0.N, win0_4.index t 0 = (grid0.coords t 0 : ℕ) ∧ win0_4.index t 1 = (grid0.coords t 1 : ℕ) := by decide +kernel

theorem emb4 (t : Fin cfg0.N) (i : Fin 2048) (d : Fin 128) : (win0_4.blk t).view.emb (ix2 i d) = ix2 (rowQ (bt t) i) (col (ht t) d) := by
  refine Cert.ReferenceIdeal.Values.idx2 _ _ _ ?_ ?_
  · show ((win0_4.rect t).emb (ix2 i d) 0 : ℕ) = _
    rw [Pipeline.Window.rect_emb_val win0_4 t, (index4 t).1]; rfl
  · show ((win0_4.rect t).emb (ix2 i d) 1 : ℕ) = _
    rw [Pipeline.Window.rect_emb_val win0_4 t, (index4 t).2]; rfl

theorem index6 : ∀ t : Fin grid0.N, win0_6.index t 0 = (grid0.coords t 0 : ℕ) ∧ win0_6.index t 1 = (grid0.coords t 1 : ℕ) := by decide +kernel

theorem emb6 (t : Fin cfg0.N) (i : Fin 2048) (d : Fin 128) : (win0_6.blk t).view.emb (ix2 i d) = ix2 (rowQ (bt t) i) (col (ht t) d) := by
  refine Cert.ReferenceIdeal.Values.idx2 _ _ _ ?_ ?_
  · show ((win0_6.rect t).emb (ix2 i d) 0 : ℕ) = _
    rw [Pipeline.Window.rect_emb_val win0_6 t, (index6 t).1]; rfl
  · show ((win0_6.rect t).emb (ix2 i d) 1 : ℕ) = _
    rw [Pipeline.Window.rect_emb_val win0_6 t, (index6 t).2]; rfl

theorem index7 : ∀ t : Fin grid0.N, win0_7.index t 0 = (grid0.coords t 0 : ℕ) ∧ win0_7.index t 1 = (grid0.coords t 1 : ℕ) := by decide +kernel

theorem emb7 (t : Fin cfg0.N) (j : Fin 256) (d : Fin 128) : (win0_7.blk t).view.emb (ix2 j d) = ix2 (rowK (bt t) j) (col (ht t) d) := by
  refine Cert.ReferenceIdeal.Values.idx2 _ _ _ ?_ ?_
  · show ((win0_7.rect t).emb (ix2 j d) 0 : ℕ) = _
    rw [Pipeline.Window.rect_emb_val win0_7 t, (index7 t).1]; rfl
  · show ((win0_7.rect t).emb (ix2 j d) 1 : ℕ) = _
    rw [Pipeline.Window.rect_emb_val win0_7 t, (index7 t).2]; rfl

theorem index8 : ∀ t : Fin grid0.N, win0_8.index t 0 = (grid0.coords t 0 : ℕ) ∧ win0_8.index t 1 = (grid0.coords t 1 : ℕ) := by decide +kernel

theorem emb8 (t : Fin cfg0.N) (j : Fin 256) (d : Fin 128) : (win0_8.blk t).view.emb (ix2 j d) = ix2 (rowK (bt t) j) (col (ht t) d) := by
  refine Cert.ReferenceIdeal.Values.idx2 _ _ _ ?_ ?_
  · show ((win0_8.rect t).emb (ix2 j d) 0 : ℕ) = _
    rw [Pipeline.Window.rect_emb_val win0_8 t, (index8 t).1]; rfl
  · show ((win0_8.rect t).emb (ix2 j d) 1 : ℕ) = _
    rw [Pipeline.Window.rect_emb_val win0_8 t, (index8 t).2]; rfl

theorem index5 : ∀ t : Fin grid0.N, win0_5.index t 0 = (grid0.coords t 1 : ℕ) ∧ win0_5.index t 1 = (grid0.coords t 0 : ℕ) ∧ win0_5.index t 2 = 0 := by decide +kernel

theorem emb5 (t : Fin cfg0.N) (i : Fin 2048) : (win0_5.blk t).view.emb (ix3 0 i 0) = ix3 (ht t) (rowQ (bt t) i) 0 := by
  refine Cert.ReferenceIdeal.Values.idx3 _ _ _ _ ?_ ?_ ?_
  · show ((win0_5.rect t).emb (ix3 0 i 0) 0 : ℕ) = _
    rw [Pipeline.Window.rect_emb_val win0_5 t, (index5 t).1]; show (grid0.coords t 1 : ℕ) * 1 + 0 = _; rw [Nat.mul_one]; rfl
  · show ((win0_5.rect t).emb (ix3 0 i 0) 1 : ℕ) = _
    rw [Pipeline.Window.rect_emb_val win0_5 t, (index5 t).2.1]; rfl
  · show ((win0_5.rect t).emb (ix3 0 i 0) 2 : ℕ) = _
    rw [Pipeline.Window.rect_emb_val win0_5 t, (index5 t).2.2]; rfl

/-! ### The arrays -/

section
variable (m : (ℓ : Loc nD τ sig) → Buf (Elt Ideal) ℓ) (c : Dev nD)

/-- The queries as the kernel takes them. -/
theorem V_q : V m c main_v34 = scaledQ (m ((c : Thread nD τ).loc main_arg0)) := by
  dsimp only [V, hostOps0]
  after_results_simp <;> rfl

/-- The keys. -/
theorem V_k (r : Fin 1024) (l : Fin 512) : V m c main_v35 (ix2 r l) = m ((c : Thread nD τ).loc main_arg1) (ix2 r l) := by
  refine congrFun (?_ : V m c main_v35 = fun i => m ((c : Thread nD τ).loc main_arg1) i) _
  dsimp only [V, hostOps0]
  after_results_simp <;> rfl

/-- The keys and the values. -/
theorem V_v (r : Fin 1024) (l : Fin 1024) : V m c main_v36 (ix2 r l) = m ((c : Thread nD τ).loc main_arg2) (ix2 r l) := by
  refine congrFun (?_ : V m c main_v36 = fun i => m ((c : Thread nD τ).loc main_arg2) i) _
  dsimp only [V, hostOps0]
  after_results_simp <;> rfl

/-- The gradient of the output. -/
theorem V_g (r : Fin 8192) (l : Fin 512) : V m c main_v37 (ix2 r l) = m ((c : Thread nD τ).loc main_arg3) (ix2 r l) := by
  refine congrFun (?_ : V m c main_v37 = fun i => m ((c : Thread nD τ).loc main_arg3) i) _
  dsimp only [V, hostOps0]
  after_results_simp <;> rfl

/-- The output of the forward pass. -/
theorem V_o : V m c main_v19 = Cert.Reference43Ideal.Read.val_main_v19 (F := Ideal) (m ((c : Thread nD τ).loc main_arg0))
    (m ((c : Thread nD τ).loc main_arg1)) (m ((c : Thread nD τ).loc main_arg2)) := by
  dsimp only [V, hostOps0]
  after_results_simp <;> rfl

/-- Its rows' logarithms. -/
theorem V_l : V m c main_v27 = Cert.Reference43Ideal.Read.val_main_v27 (F := Ideal) (m ((c : Thread nD τ).loc main_arg0))
    (m ((c : Thread nD τ).loc main_arg1)) := by
  dsimp only [V, hostOps0]
  after_results_simp <;> rfl

variable {q k v g : ℕ → ℕ → ℝ}
  (H : DataG (m ((c : Thread nD τ).loc main_arg0)) (m ((c : Thread nD τ).loc main_arg1)) (m ((c : Thread nD τ).loc main_arg2)) (m ((c : Thread nD τ).loc main_arg3)) q k v g)
include H

set_option maxHeartbeats 2000000 in
/-- What the body reads at a grid point. -/
theorem reals (t : Fin cfg0.N) : Reals (iblk m c 0 t) (iblk m c 1 t) (iblk m c 2 t) (iblk m c 3 t) (iblk m c 4 t) (iblk m c 5 t)
    (qn q (bt t) (ht t)) (hk k (bt t) (ht t)) (hk v (bt t) (ht t)) (on q k v (bt t) (ht t)) (hq g (bt t) (ht t))
    (ln (m ((c : Thread nD τ).loc main_arg0)) (m ((c : Thread nD τ).loc main_arg1)) q k (bt t) (ht t)) (pn q k (bt t) (ht t)) where
  q i d := by
    show V m c main_v34 ((win0_0.blk t).view.emb (ix2 i d)) = _
    rw [emb0, V_q]
    exact scaledQ_apply H.d _ _
  k j d := by
    show V m c main_v35 ((win0_1.blk t).view.emb (ix2 j d)) = _
    rw [emb1, V_k]
    exact H.d.k _ _
  v j e := by
    show V m c main_v36 ((win0_2.blk t).view.emb (ix2 j e)) = _
    rw [emb2, V_v]
    exact H.d.v _ _
  o i e := by
    show V m c main_v19 ((win0_3.blk t).view.emb (ix2 i e)) = _
    rw [emb3, V_o]
    refine (o_ref H.d (bt t) (ht t) i e).trans (congrArg _ ?_)
    unfold on
    exact Finset.sum_congr rfl fun j _ => by rw [pn_fin]
  g i e := by
    show V m c main_v37 ((win0_4.blk t).view.emb (ix2 i e)) = _
    rw [emb4, V_g]
    exact H.g _ _
  l i := by
    show V m c main_v27 ((win0_5.blk t).view.emb (ix3 0 i 0)) = _
    rw [emb5, V_l]
    refine (l_ref H.d (bt t) (ht t) i).trans (congrArg _ ?_)
    unfold ln
    rw [dif_pos i.isLt]
  p i j := pn_exp _ _ q k (bt t) (ht t) i j

/-- The gradient of the queries. -/
theorem array6 : (dats m 0 c).arrAt 6 cfg0.N = Cert.Reference42Ideal.Read.val_main_v64 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  obtain ⟨i, d, rfl⟩ : ∃ (i : Fin 2048) (d : Fin 128), y = ix2 i d := ⟨y 0, y 1, eq_ix2 y⟩
  rw [emb6, after0_6, outsAt0]
  dsimp only
  rw [out_dq, dq_apply (reals m c H t), dq_ref H (bt t) (ht t) i d]
  refine congrArg _ ?_
  rw [Finset.sum_mul]
  refine Finset.sum_congr rfl fun j _ => ?_
  rw [dsc_eq]; ring

/-- The gradient of the keys. -/
theorem array7 : (dats m 0 c).arrAt 7 cfg0.N = Cert.Reference42Ideal.Read.val_main_v65 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  obtain ⟨j, d, rfl⟩ : ∃ (j : Fin 256) (d : Fin 128), y = ix2 j d := ⟨y 0, y 1, eq_ix2 y⟩
  rw [emb7, after0_7, outsAt0]
  dsimp only
  rw [out_dk, dk_apply (reals m c H t), dk_ref H (bt t) (ht t) j d]
  refine congrArg _ ?_
  rw [Finset.sum_mul]
  refine Finset.sum_congr rfl fun i _ => ?_
  rw [dsc_eq]; unfold qn
  have hl : Real.log 2 ≠ 0 := (Real.log_pos one_lt_two).ne'
  field_simp

/-- The gradient of the values. -/
theorem array8 : (dats m 0 c).arrAt 8 cfg0.N = Cert.Reference42Ideal.Read.val_main_v66 (F := Ideal) (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp
  obtain ⟨j, d, rfl⟩ : ∃ (j : Fin 256) (d : Fin 128), y = ix2 j d := ⟨y 0, y 1, eq_ix2 y⟩
  rw [emb8, after0_8, outsAt0]
  dsimp only
  rw [out_dv, dv_apply (reals m c H t), dv_ref H (bt t) (ht t) j d]
  refine congrArg _ ?_
  refine Finset.sum_congr rfl fun i _ => ?_
  rw [pn_fin, mul_comm]

end

end Cert.Kernel42Ideal.MemBwd

end
-- ==== Proof.MemFwd.lean ====
/- The memory attention's forward pass: what the kernel's body leaves of its two results, 1024 queries at a time, and the arrays the grid
   makes of them. For real queries and keys its output and its rows' logarithms are the reference's. -/
module

public import proofs.«01_k».proof.Proof.FwdTiles
public import proofs.«01_k».proof.Proof.MemRef
public import proofs.«01_k».proof.Proof.Gen.Kernel43Ideal.Value
public import Idealize.ShloMosaic.Lib.Pipeline.ValueKit

@[expose] public section

set_option maxRecDepth 16384

noncomputable section

namespace Cert.Kernel43Ideal.MemFwd

open Idealize.ShloMosaic Idealize.ShloMosaic.TcCoe Idealize.SL.Sem Cert.Kernel43Ideal Cert.Kernel43Ideal.Gen Attn
open Cert.Reference43Ideal.Values (AQ AK AV Data hq hk rowQ rowK col right scale sc every pr mx ex sm scaledQ scaledQ_apply qn qk_sum log_den vals vals_fin o_any l_ref)

/-- The factor that turns a logarithm into one to base two. -/
abbrev invv : Ideal .f32 := Named.named κ "inv_ln2" 0x3FB8AA3B#32

theorem inv_val : invv = ((1 / Real.log 2 : ℝ) : EReal) := by
  rw [one_div]
  exact IdealRules.named_const.ideal_named_scalar _ _ _ _ rfl

theorem ok : FwdOk 1024 128 := ⟨by decide, by decide, by decide, by decide, by decide, by decide⟩
theorem span : SpanOk 1024 256 := ⟨by decide, by decide⟩

/-! ### A tile -/

section
variable (x0 : Vec Ideal (M2 2048 128) .bf16) (x1 x2 : Vec Ideal (M2 256 128) .bf16) (a : ℕ) (ha : a + 1024 ≤ 2048)

/-- The scores of the 1024 queries from row `a`. -/
def sT : FVec Ideal (M2 1024 256) .f32 := scores (rows x0 a 1024 ha) (rows x1 0 256 (by decide))
/-- Their rows' largest scores. -/
def topT : FVec Ideal (M2 1024 1) .f32 := rowTop (sT x0 x1 a ha) span.red ok.col
/-- Their exponentials. -/
def pT : FVec Ideal (M2 1024 256) .f32 := probs (sT x0 x1 a ha) (topT x0 x1 a ha) span.bc
/-- Their rows' sums. -/
def sumT : FVec Ideal (M2 1024 1) .f32 := rowSum (pT x0 x1 a ha) span.red ok.col
/-- The output of the 1024 queries. -/
def oT : FVec Ideal (M2 1024 128) .bf16 :=
  truncf .bf16 (divf (mixed (truncf .bf16 (pT x0 x1 a ha) ok.low) (rows x2 0 256 (by decide)))
    (broadcastTo (M2 1024 128) (sumT x0 x1 a ha) ok.bc)) ok.low
/-- Their logarithms. -/
def lT : FVec Ideal (M3 1024) .f32 :=
  shapeCast (M3 1024) (addf (topT x0 x1 a ha) (mulf (log (sumT x0 x1 a ha)) (broadcast (M2 1024 1) invv))) ok.head

end

/-- What the body leaves of the output. -/
theorem out_o (x0 : Vec Ideal (M2 2048 128) .bf16) (x1 x2 : Vec Ideal (M2 256 128) .bf16) : out0_3 x0 x1 x2 =
    View.canon [⟨band 2048 128 1024 1024 (by decide), oT x0 x1 x2 1024 (by decide)⟩,
      ⟨band 2048 128 0 1024 (by decide), oT x0 x1 x2 0 (by decide)⟩] := by
  have e1 : k0_pay3 (k0_pay13 x0 x1 x2) (k0_pay14 x0 x1 x2) (View.ld x2 r0_1) = oT x0 x1 x2 1024 (by decide) := by
    simp only [k0_pay1, k0_pay2, k0_pay3, k0_pay11, k0_pay12, k0_pay13, k0_pay14, shapeCast_self]
    simp only [oT, sumT, pT, topT, sT, rowTop, rowSum, mixed, probs, scores, rows, band]
    rfl
  have e2 : k0_pay9 (View.ld x0 r0_0) (View.ld x1 r0_1) (View.ld x2 r0_1) = oT x0 x1 x2 0 (by decide) := by
    simp only [k0_pay5, k0_pay6, k0_pay7, k0_pay8, k0_pay9, shapeCast_self]
    simp only [oT, sumT, pT, topT, sT, rowTop, rowSum, mixed, probs, scores, rows, band]
    rfl
  unfold out0_3
  rw [e1, e2]

/-- What the body leaves of the logarithms. -/
theorem out_l (x0 : Vec Ideal (M2 2048 128) .bf16) (x1 x2 : Vec Ideal (M2 256 128) .bf16) : out0_4 x0 x1 x2 =
    View.canon [⟨Rect.unit (s := M3 2048) ![0, 1024, 0] (M3 1024).size (inRows3 (by decide)), lT x0 x1 1024 (by decide)⟩,
      ⟨Rect.unit (s := M3 2048) ![0, 0, 0] (M3 1024).size (inRows3 (by decide)), lT x0 x1 0 (by decide)⟩] := by
  have e1 : k0_pay4 (k0_pay13 x0 x1 x2) (k0_pay14 x0 x1 x2) = lT x0 x1 1024 (by decide) := by
    simp only [k0_pay1, k0_pay2, k0_pay4, k0_pay11, k0_pay12, k0_pay13, k0_pay14, shapeCast_self]
    simp only [lT, sumT, pT, topT, sT, rowTop, rowSum, probs, scores, rows, band]
    rfl
  have e2 : k0_pay10 (View.ld x0 r0_0) (View.ld x1 r0_1) = lT x0 x1 0 (by decide) := by
    simp only [k0_pay5, k0_pay6, k0_pay7, k0_pay8, k0_pay10, shapeCast_self]
    simp only [lT, sumT, pT, topT, sT, rowTop, rowSum, probs, scores, rows, band]
    rfl
  unfold out0_4
  rw [e1, e2]

/-! ### Over the reals -/

/-- The queries and keys that the body reads are real; the values are extended reals. -/
structure Reals (x0 : Vec Ideal (M2 2048 128) .bf16) (x1 x2 : Vec Ideal (M2 256 128) .bf16) (Q K : ℕ → ℕ → ℝ) (V : ℕ → ℕ → EReal) : Prop where
  q : ∀ (i : Fin 2048) (d : Fin 128), x0 (ix2 i d) = (Q i d : EReal)
  k : ∀ (j : Fin 256) (d : Fin 128), x1 (ix2 j d) = (K j d : EReal)
  v : ∀ (j : Fin 256) (e : Fin 128), x2 (ix2 j e) = V j e

/-- The unshifted weight of a key. -/
def ww (Q K : ℕ → ℕ → ℝ) (i j : ℕ) : ℝ := Real.rpow 2 (fs (D := 128) Q K i j)
/-- A row's sum of them. -/
def wsum (Q K : ℕ → ℕ → ℝ) (i : ℕ) : ℝ := ∑ j : Fin 256, ww Q K i j

theorem wsum_pos (Q K : ℕ → ℕ → ℝ) (i : ℕ) : 0 < wsum Q K i :=
  Finset.sum_pos (fun _ _ => Real.rpow_pos_of_pos two_pos _) ⟨0, Finset.mem_univ _⟩

/-- All rows of an array. -/
theorem rows_all {R C : ℕ} {φ : EltTy} (x : Vec Ideal (M2 R C) φ) (h : 0 + R ≤ R) (r : Fin R) (c : Fin C) :
    rows x 0 R h (ix2 r c) = x (ix2 r c) :=
  (rows_apply x 0 R h r c).trans (congrArg (fun i => x (ix2 i c)) (Fin.ext (Nat.zero_add _)))

section
variable {x0 : Vec Ideal (M2 2048 128) .bf16} {x1 x2 : Vec Ideal (M2 256 128) .bf16} {Q K : ℕ → ℕ → ℝ} {V : ℕ → ℕ → EReal} (H : Reals x0 x1 x2 Q K V)
  (a : ℕ) (ha : a + 1024 ≤ 2048) (r : Fin 1024)
include H

theorem s_apply (t : Fin 256) : sT x0 x1 a ha (ix2 r t) = ((fs (D := 128) Q K (a + r) t : ℝ) : EReal) :=
  scores_apply _ _ r t (fun d => Q (a + r) d) (fun d => K t d) (fun d => (rows_apply _ _ _ _ _ _).trans (H.q _ _))
    (fun d => (rows_all _ _ _ _).trans (H.k _ _))

theorem top_real : ∃ x : ℝ, topT x0 x1 a ha (ix2 r 0) = (x : EReal) :=
  rowTop_real _ _ _ r (fun t => by rw [s_apply H]; exact EReal.coe_ne_top _) 0 (by rw [s_apply H]; exact EReal.coe_ne_bot _)

theorem p_apply (x : ℝ) (hx : topT x0 x1 a ha (ix2 r 0) = (x : EReal)) (t : Fin 256) :
    pT x0 x1 a ha (ix2 r t) = ((ww Q K (a + r) t * Real.rpow 2 (-x) : ℝ) : EReal) := by
  refine (probs_apply _ _ _ r t _ _ (s_apply H a ha r t) hx).trans (congrArg _ ?_)
  unfold ww
  rw [sub_eq_add_neg]
  exact Real.rpow_add two_pos _ _

theorem sum_apply (x : ℝ) (hx : topT x0 x1 a ha (ix2 r 0) = (x : EReal)) :
    sumT x0 x1 a ha (ix2 r 0) = ((wsum Q K (a + r) * Real.rpow 2 (-x) : ℝ) : EReal) := by
  unfold wsum
  rw [Finset.sum_mul]
  exact rowSum_apply _ _ _ r _ (fun t => p_apply H a ha r x hx t)

theorem oT_apply (e : Fin 128) : oT x0 x1 x2 a ha (ix2 r e)
    = ∑ j : Fin 256, V j e * ((ww Q K (a + r) j / wsum Q K (a + r) : ℝ) : EReal) := by
  obtain ⟨x, hx⟩ := top_real H a ha r
  have e0 : oT x0 x1 x2 a ha (ix2 r e) = Ideal.div
      (mixed (truncf .bf16 (pT x0 x1 a ha) ok.low) (rows x2 0 256 (by decide)) (ix2 r e))
      (broadcastTo (M2 1024 128) (sumT x0 x1 a ha) ok.bc (ix2 r e)) := rfl
  rw [e0]
  exact lane_div _ _ x _ (fun j => ww Q K (a + r) j) (fun j => V j e) (wsum_pos Q K (a + r))
    (mix_apply _ _ r e _ (fun t => V t e) (fun t => p_apply H a ha r x hx t) (fun t => (rows_all _ _ _ _).trans (H.v _ _)))
    ((bcast_col _ _ r e).trans (sum_apply H a ha r x hx))

theorem lT_apply : lT x0 x1 a ha (ix3 0 r 0) = ((Real.log (wsum Q K (a + r)) / Real.log 2 : ℝ) : EReal) := by
  obtain ⟨x, hx⟩ := top_real H a ha r
  unfold lT
  rw [cast_head]
  show topT x0 x1 a ha (ix2 r 0) + Ideal.log (sumT x0 x1 a ha (ix2 r 0)) * invv = _
  rw [inv_val]
  exact lane_log _ _ x _ (wsum_pos Q K (a + r)) hx (sum_apply H a ha r x hx)

/-- The output, entry by entry. -/
theorem o_apply (i : Fin 2048) (e : Fin 128) : out0_3 x0 x1 x2 (ix2 i e)
    = ∑ j : Fin 256, V j e * ((ww Q K i j / wsum Q K i : ℝ) : EReal) := by
  rw [out_o]
  refine canon_rows 1024 1024 _ _ _ i e _ (fun r hr => ?_) fun h1 => ?_
  · rw [hr]; exact oT_apply H 1024 (by decide) r e
  refine canon_rows 0 1024 _ _ _ i e _ (fun r hr => ?_) fun h0 => ?_
  · rw [hr]; exact oT_apply H 0 (by decide) r e
  exfalso; omega

/-- The logarithms, row by row. -/
theorem l_apply (i : Fin 2048) : out0_4 x0 x1 x2 (ix3 0 i 0) = ((Real.log (wsum Q K i) / Real.log 2 : ℝ) : EReal) := by
  rw [out_l]
  refine canon_rows3 1024 1024 (by decide) _ _ i _ (fun r hr => ?_) fun h1 => ?_
  · rw [hr]; exact lT_apply H 1024 (by decide) r
  refine canon_rows3 0 1024 (by decide) _ _ i _ (fun r hr => ?_) fun h0 => ?_
  · rw [hr]; exact lT_apply H 0 (by decide) r
  exfalso; omega

end

/-! ### The weights -/

/-- The kernel's unshifted weight of a key is the exponential of its score. -/
theorem ww_wt (q k : ℕ → ℕ → ℝ) (b h : ℕ) (i : Fin 2048) (j : Fin 256) :
    ww (qn q b h) (hk k b h) i j = wt every (sc q k b h) i j := by
  have hl : Real.log 2 ≠ 0 := (Real.log_pos one_lt_two).ne'
  unfold ww wt fs
  rw [qk_sum, if_pos trivial]
  have e : Real.rpow 2 (sc q k b h i j / Real.log 2) = Real.exp (Real.log 2 * (sc q k b h i j / Real.log 2)) := Real.rpow_def_of_pos two_pos _
  rw [e, mul_div_cancel₀ _ hl]

theorem wsum_den (q k : ℕ → ℕ → ℝ) (b h : ℕ) (i : Fin 2048) : wsum (qn q b h) (hk k b h) i = den every (sc q k b h) i :=
  Finset.sum_congr rfl fun j _ => ww_wt q k b h i j

/-- The kernel's weights, divided by their sum, are the probabilities. -/
theorem out_prob (q k : ℕ → ℕ → ℝ) (b h : ℕ) (i : Fin 2048) (j : Fin 256) :
    ww (qn q b h) (hk k b h) i j / wsum (qn q b h) (hk k b h) i = pr q k b h i j := by
  rw [wsum_den, ww_wt]
  rfl

/-! ### The blocks -/

/-- The batch of a grid point. -/
def bt (t : Fin cfg0.N) : Fin 4 := grid0.coords t 0
/-- The head of a grid point. -/
def ht (t : Fin cfg0.N) : Fin 4 := grid0.coords t 1

theorem index0 : ∀ t : Fin grid0.N, win0_0.index t 0 = (grid0.coords t 0 : ℕ) ∧ win0_0.index t 1 = (grid0.coords t 1 : ℕ) := by decide +kernel

theorem emb0 (t : Fin cfg0.N) (i : Fin 2048) (d : Fin 128) : (win0_0.blk t).view.emb (ix2 i d) = ix2 (rowQ (bt t) i) (col (ht t) d) := by
  refine Cert.ReferenceIdeal.Values.idx2 _ _ _ ?_ ?_
  · show ((win0_0.rect t).emb (ix2 i d) 0 : ℕ) = _
    rw [Pipeline.Window.rect_emb_val win0_0 t, (index0 t).1]; rfl
  · show ((win0_0.rect t).emb (ix2 i d) 1 : ℕ) = _
    rw [Pipeline.Window.rect_emb_val win0_0 t, (index0 t).2]; rfl

theorem index1 : ∀ t : Fin grid0.N, win0_1.index t 0 = (grid0.coords t 0 : ℕ) ∧ win0_1.index t 1 = (grid0.coords t 1 : ℕ) := by decide +kernel

theorem emb1 (t : Fin cfg0.N) (j : Fin 256) (d : Fin 128) : (win0_1.blk t).view.emb (ix2 j d) = ix2 (rowK (bt t) j) (col (ht t) d) := by
  refine Cert.ReferenceIdeal.Values.idx2 _ _ _ ?_ ?_
  · show ((win0_1.rect t).emb (ix2 j d) 0 : ℕ) = _
    rw [Pipeline.Window.rect_emb_val win0_1 t, (index1 t).1]; rfl
  · show ((win0_1.rect t).emb (ix2 j d) 1 : ℕ) = _
    rw [Pipeline.Window.rect_emb_val win0_1 t, (index1 t).2]; rfl

theorem index2 : ∀ t : Fin grid0.N, win0_2.index t 0 = (grid0.coords t 0 : ℕ) ∧ win0_2.index t 1 = 4 + (grid0.coords t 1 : ℕ) := by decide +kernel

theorem emb2 (t : Fin cfg0.N) (j : Fin 256) (e : Fin 128) : (win0_2.blk t).view.emb (ix2 j e) = ix2 (rowK (bt t) j) (right (col (ht t) e)) := by
  refine Cert.ReferenceIdeal.Values.idx2 _ _ _ ?_ ?_
  · show ((win0_2.rect t).emb (ix2 j e) 0 : ℕ) = _
    rw [Pipeline.Window.rect_emb_val win0_2 t, (index2 t).1]; rfl
  · show ((win0_2.rect t).emb (ix2 j e) 1 : ℕ) = _
    rw [Pipeline.Window.rect_emb_val win0_2 t, (index2 t).2]
    show (4 + (grid0.coords t 1 : ℕ)) * 128 + (e : ℕ) = 512 + ((grid0.coords t 1 : ℕ) * 128 + e)
    omega

theorem index3 : ∀ t : Fin grid0.N, win0_3.index t 0 = (grid0.coords t 0 : ℕ) ∧ win0_3.index t 1 = (grid0.coords t 1 : ℕ) := by decide +kernel

theorem emb3 (t : Fin cfg0.N) (i : Fin 2048) (d : Fin 128) : (win0_3.blk t).view.emb (ix2 i d) = ix2 (rowQ (bt t) i) (col (ht t) d) := by
  refine Cert.ReferenceIdeal.Values.idx2 _ _ _ ?_ ?_
  · show ((win0_3.rect t).emb (ix2 i d) 0 : ℕ) = _
    rw [Pipeline.Window.rect_emb_val win0_3 t, (index3 t).1]; rfl
  · show ((win0_3.rect t).emb (ix2 i d) 1 : ℕ) = _
    rw [Pipeline.Window.rect_emb_val win0_3 t, (index3 t).2]; rfl

theorem index4 : ∀ t : Fin grid0.N, win0_4.index t 0 = (grid0.coords t 1 : ℕ) ∧ win0_4.index t 1 = (grid0.coords t 0 : ℕ) ∧ win0_4.index t 2 = 0 := by decide +kernel

theorem emb4 (t : Fin cfg0.N) (i : Fin 2048) : (win0_4.blk t).view.emb (ix3 0 i 0) = ix3 (ht t) (rowQ (bt t) i) 0 := by
  refine Cert.ReferenceIdeal.Values.idx3 _ _ _ _ ?_ ?_ ?_
  · show ((win0_4.rect t).emb (ix3 0 i 0) 0 : ℕ) = _
    rw [Pipeline.Window.rect_emb_val win0_4 t, (index4 t).1]; show (grid0.coords t 1 : ℕ) * 1 + 0 = _; rw [Nat.mul_one]; rfl
  · show ((win0_4.rect t).emb (ix3 0 i 0) 1 : ℕ) = _
    rw [Pipeline.Window.rect_emb_val win0_4 t, (index4 t).2.1]; rfl
  · show ((win0_4.rect t).emb (ix3 0 i 0) 2 : ℕ) = _
    rw [Pipeline.Window.rect_emb_val win0_4 t, (index4 t).2.2]; rfl

/-! ### The arrays -/

section
variable (m : (ℓ : Loc nD τ sig) → Buf (Elt Ideal) ℓ) (c : Dev nD)

/-- The queries as the kernel takes them. -/
theorem V_q : V m c main_v6 = scaledQ (m ((c : Thread nD τ).loc main_arg0)) := by
  dsimp only [V, hostOps0]
  after_results_simp <;> rfl

/-- The keys. -/
theorem V_k (r : Fin 1024) (l : Fin 512) : V m c main_v7 (ix2 r l) = m ((c : Thread nD τ).loc main_arg1) (ix2 r l) := by
  refine congrFun (?_ : V m c main_v7 = fun i => m ((c : Thread nD τ).loc main_arg1) i) _
  dsimp only [V, hostOps0]
  after_results_simp <;> rfl

/-- The keys and the values. -/
theorem V_v (r : Fin 1024) (l : Fin 1024) : V m c main_v8 (ix2 r l) = m ((c : Thread nD τ).loc main_arg2) (ix2 r l) := by
  refine congrFun (?_ : V m c main_v8 = fun i => m ((c : Thread nD τ).loc main_arg2) i) _
  dsimp only [V, hostOps0]
  after_results_simp <;> rfl

variable {x2 : AV} {q k v : ℕ → ℕ → ℝ}
  (H : Data (m ((c : Thread nD τ).loc main_arg0)) (m ((c : Thread nD τ).loc main_arg1)) x2 q k v)
include H

/-- What the body reads at a grid point. -/
theorem reals (t : Fin cfg0.N) : Reals (iblk m c 0 t) (iblk m c 1 t) (iblk m c 2 t)
    (qn q (bt t) (ht t)) (hk k (bt t) (ht t)) (vals (m ((c : Thread nD τ).loc main_arg2)) (bt t) (ht t)) where
  q i d := by
    show V m c main_v6 ((win0_0.blk t).view.emb (ix2 i d)) = _
    rw [emb0, V_q]
    exact scaledQ_apply H _ _
  k j d := by
    show V m c main_v7 ((win0_1.blk t).view.emb (ix2 j d)) = _
    rw [emb1, V_k]
    exact H.k _ _
  v j e := by
    show V m c main_v8 ((win0_2.blk t).view.emb (ix2 j e)) = _
    rw [emb2, V_v, vals_fin]

/-- The output. -/
theorem array3 : (dats m 0 c).arrAt 3 cfg0.N = Cert.Reference43Ideal.Read.val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  obtain ⟨i, d, rfl⟩ : ∃ (i : Fin 2048) (d : Fin 128), y = ix2 i d := ⟨y 0, y 1, eq_ix2 y⟩
  rw [emb3, after0_3]
  dsimp only
  refine (o_apply (reals m c H t) i d).trans (Eq.trans ?_ (o_any H (bt t) (ht t) i _ d).symm)
  exact Finset.sum_congr rfl fun j _ => congrArg _ (congrArg _ (out_prob q k (bt t) (ht t) i j))

/-- The rows' logarithms. -/
theorem array4 : (dats m 0 c).arrAt 4 cfg0.N = Cert.Reference43Ideal.Read.val_main_v27 (F := Ideal) (m ((c : Thread nD τ).loc main_arg0)) (m ((c : Thread nD τ).loc main_arg1)) := by
  refine (dats m 0 c).arrAt_eq_of_covers 4 _ (by decide +kernel) fun t hf y => ?_
  blk_simp
  obtain ⟨i, rfl⟩ : ∃ i : Fin 2048, y = ix3 0 i 0 := ⟨y 1, (eq_ix3 y).trans
    (congrArg₂ (fun a b => ix3 a (y 1) b) (Subsingleton.elim (α := Fin 1) _ _) (Subsingleton.elim (α := Fin 1) _ _))⟩
  rw [emb4, after0_4]
  dsimp only
  refine (l_apply (reals m c H t) i).trans (Eq.trans ?_ (l_ref H (bt t) (ht t) i).symm)
  rw [log_den, wsum_den]

end

end Cert.Kernel43Ideal.MemFwd

end
-- ==== Proof.lean ====
/- The proof of the certificate's claims: the frames of the three programs, the two named constants, and the equality of the
   kernel's and the reference's results over the reals for finite arguments. The mathematics is in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Da1
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.DFf2
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.DFf1
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Ff1
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.WIn
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Dh
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.DInTop
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.DInBot
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.DOut
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.DMerged
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.OMla
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.DAttn
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.DWOMla
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Uq
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Ukv
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.DUq
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Dnq
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.DUkv
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Dnkv
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.OGm
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.DYGm
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.DWOGm
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.OMem
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.DOMem
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.DWOMem
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.MemKv
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Dnm
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.DMemKv
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.MOut
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Loss
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.FiniteRows
public import proofs.«01_k».proof.Proof.Dh2
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.DRms
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Fwd
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.SumIn
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.SumUq
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.SumUkv
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.SumOut
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.SumOGm
public import proofs.«01_k».proof.Proof.Gen.Kernel40Ideal
public import proofs.«01_k».proof.Proof.Gen.Kernel40Ideal.Skeleton
public import proofs.«01_k».proof.Proof.Gen.Kernel40Ideal.Launch
public import proofs.«01_k».proof.Proof.Gen.Kernel40Ideal.Points
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.Gen.Kernel40
public import proofs.«01_k».proof.Proof.Gen.Kernel40.Skeleton
public import proofs.«01_k».proof.Proof.Gen.Kernel40.Launch
public import proofs.«01_k».proof.Proof.Gen.Kernel40.Points
public import proofs.«01_k».proof.Proof.Gen.Kernel40.Frame
public import proofs.«01_k».proof.Proof.SumFf1
public import proofs.«01_k».proof.Proof.Gen.Kernel41Ideal
public import proofs.«01_k».proof.Proof.Gen.Kernel41Ideal.Skeleton
public import proofs.«01_k».proof.Proof.Gen.Kernel41Ideal.Launch
public import proofs.«01_k».proof.Proof.Gen.Kernel41Ideal.Points
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import proofs.«01_k».proof.Proof.Gen.Kernel41
public import proofs.«01_k».proof.Proof.Gen.Kernel41.Skeleton
public import proofs.«01_k».proof.Proof.Gen.Kernel41.Launch
public import proofs.«01_k».proof.Proof.Gen.Kernel41.Points
public import proofs.«01_k».proof.Proof.Gen.Kernel41.Frame
public import proofs.«01_k».proof.Proof.SumFf2
public import proofs.«01_k».proof.Proof.Gen.Kernel42Ideal
public import proofs.«01_k».proof.Proof.Gen.Kernel42Ideal.Skeleton
public import proofs.«01_k».proof.Proof.Gen.Kernel42Ideal.Launch
public import proofs.«01_k».proof.Proof.Gen.Kernel42Ideal.Points
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Reference42Ideal.Read
public import proofs.«01_k».proof.Proof.Gen.Kernel42
public import proofs.«01_k».proof.Proof.Gen.Kernel42.Skeleton
public import proofs.«01_k».proof.Proof.Gen.Kernel42.Launch
public import proofs.«01_k».proof.Proof.Gen.Kernel42.Points
public import proofs.«01_k».proof.Proof.Gen.Kernel42.Frame
public import proofs.«01_k».proof.Proof.MemBwd
public import proofs.«01_k».proof.Proof.Gen.Kernel43Ideal
public import proofs.«01_k».proof.Proof.Gen.Kernel43Ideal.Skeleton
public import proofs.«01_k».proof.Proof.Gen.Kernel43Ideal.Launch
public import proofs.«01_k».proof.Proof.Gen.Kernel43Ideal.Points
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Reference43Ideal.Read
public import proofs.«01_k».proof.Proof.Gen.Kernel43
public import proofs.«01_k».proof.Proof.Gen.Kernel43.Skeleton
public import proofs.«01_k».proof.Proof.Gen.Kernel43.Launch
public import proofs.«01_k».proof.Proof.Gen.Kernel43.Points
public import proofs.«01_k».proof.Proof.Gen.Kernel43.Frame
public import proofs.«01_k».proof.Proof.MemFwd
public import proofs.«01_k».proof.Proof.Arrays
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The kernel's gradients are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  have H := fun c => Cert.Finite.data _ _ _ _ (hpre c).1 (hpre c).2.1 (hpre c).2.2.1 (hpre c).2.2.2
  refine ⟨fun c => Cert.ReferenceIdeal.Read.val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)), ?_, ?_⟩
  · refine (θ_run _ _ _).mono (fun r h c => ?_) (Cert.KernelIdeal.Value.run_blocks (F := Ideal) m g)
    obtain ⟨h0, h1, h2, h3⟩ := h c
    exact ⟨h0.trans (Cert.KernelIdeal.Arrays.dq_eq m c (H c)), h1.trans (Cert.KernelIdeal.Arrays.dk_eq m c (H c)),
      h2.trans (Cert.KernelIdeal.Arrays.dv_eq m c (H c)), h3⟩
  · refine (θ_run _ _ _).mono (fun r h c => ?_) (Cert.ReferenceIdeal.Value.run (F := Ideal) m' g')
    obtain ⟨h0, h1, h2, h3⟩ := h c
    obtain ⟨a0, a1, a2, a3⟩ := hargs c
    refine ⟨h0.trans ?_, h1.trans ?_, h2.trans ?_, h3⟩
    · rw [Cert.ReferenceIdeal.Read.val_main_v72_eq, a0, a1, a2, a3]
    · rw [Cert.ReferenceIdeal.Read.val_main_v73_eq, a0, a1, a2, a3]
    · rw [Cert.ReferenceIdeal.Read.val_main_v74_eq, a0, a1, a3]

/-- The gradient of the feed-forward network's hidden layer. -/
theorem algebraic2 : Cert.algebraic_Kernel2Ideal_Reference2Ideal (hKernel2Ideal := Cert.Kernel2Ideal.Gen.facts) (hReference2Ideal := Cert.Reference2Ideal.Gen.facts) := by
  intro m g m' g' _ hargs
  refine ⟨fun c => Cert.Reference2Ideal.Read.val_main_v12 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · refine (θ_run _ _ _).mono (fun r h c => ?_) (Cert.Kernel2Ideal.Value.run_blocks (F := Ideal) m g)
    obtain ⟨h0, h1⟩ := h c
    exact ⟨h0.trans (Cert.Kernel2Ideal.Da1.array m c), h1⟩
  · refine (θ_run _ _ _).mono (fun r h c => ?_) (Cert.Reference2Ideal.Value.run (F := Ideal) m' g')
    obtain ⟨h0, h1⟩ := h c
    obtain ⟨a0, a1, a2⟩ := hargs c
    refine ⟨h0.trans ?_, h1⟩
    · rw [Cert.Reference2Ideal.Read.val_main_v12_eq, a0, a1, a2]

/-- The gradient of the feed-forward network's second matrix. -/
theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => Cert.Reference3Ideal.Read.val_main_v5 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2)), ?_, ?_⟩
  · refine (θ_run _ _ _).mono (fun r h c => ?_) (Cert.Kernel3Ideal.Value.run_blocks (F := Ideal) m g)
    obtain ⟨h0, h1⟩ := h c
    exact ⟨h0.trans (Cert.Kernel3Ideal.DFf2.array m c), h1⟩
  · refine (θ_run _ _ _).mono (fun r h c => ?_) (Cert.Reference3Ideal.Value.run (F := Ideal) m' g')
    obtain ⟨h0, h1⟩ := h c
    obtain ⟨a0, a1, a2⟩ := hargs c
    refine ⟨h0.trans ?_, h1⟩
    · rw [Cert.Reference3Ideal.Read.val_main_v5_eq, a0, a2]

/-- The gradient of the feed-forward network's first matrix. -/
theorem algebraic4 : Cert.algebraic_Kernel4Ideal_Reference4Ideal (hKernel4Ideal := Cert.Kernel4Ideal.Gen.facts) (hReference4Ideal := Cert.Reference4Ideal.Gen.facts) := by
  intro m g m' g' _ hargs
  refine ⟨fun c => Cert.Reference4Ideal.Read.val_main_v5 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)), ?_, ?_⟩
  · refine (θ_run _ _ _).mono (fun r h c => ?_) (Cert.Kernel4Ideal.Value.run_blocks (F := Ideal) m g)
    obtain ⟨h0, h1⟩ := h c
    exact ⟨h0.trans (Cert.Kernel4Ideal.DFf1.array m c), h1⟩
  · refine (θ_run _ _ _).mono (fun r h c => ?_) (Cert.Reference4Ideal.Value.run (F := Ideal) m' g')
    obtain ⟨h0, h1⟩ := h c
    obtain ⟨a0, a1, a2⟩ := hargs c
    refine ⟨h0.trans ?_, h1⟩
    · rw [Cert.Reference4Ideal.Read.val_main_v5_eq, a0, a2]

/-- The first product of the feed-forward network. -/
theorem algebraic5 : Cert.algebraic_Kernel5Ideal_Reference5Ideal (hKernel5Ideal := Cert.Kernel5Ideal.Gen.facts) (hReference5Ideal := Cert.Reference5Ideal.Gen.facts) := by
  intro m g m' g' _ hargs
  refine ⟨fun c => Cert.Reference5Ideal.Read.val_main_v1 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run _ _ _).mono (fun r h c => ?_) (Cert.Kernel5Ideal.Value.run_blocks (F := Ideal) m g)
    obtain ⟨h0, h1⟩ := h c
    exact ⟨h0.trans (Cert.Kernel5Ideal.Ff1.array m c), h1⟩
  · refine (θ_run _ _ _).mono (fun r h c => ?_) (Cert.Reference5Ideal.Value.run (F := Ideal) m' g')
    obtain ⟨h0, h1⟩ := h c
    obtain ⟨a0, a1⟩ := hargs c
    refine ⟨h0.trans ?_, h1⟩
    · rw [Cert.Reference5Ideal.Read.val_main_v1_eq, a0, a1]

/-- The product with the matrix of all the projections. -/
theorem algebraic6 : Cert.algebraic_Kernel6Ideal_Reference6Ideal (hKernel6Ideal := Cert.Kernel6Ideal.Gen.facts) (hReference6Ideal := Cert.Reference6Ideal.Gen.facts) := by
  intro m g m' g' _ hargs
  refine ⟨fun c => Cert.Reference6Ideal.Read.val_main_v1 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · refine (θ_run _ _ _).mono (fun r h c => ?_) (Cert.Kernel6Ideal.Value.run_blocks (F := Ideal) m g)
    obtain ⟨h0, h1⟩ := h c
    exact ⟨h0.trans (Cert.Kernel6Ideal.WIn.array m c), h1⟩
  · refine (θ_run _ _ _).mono (fun r h c => ?_) (Cert.Reference6Ideal.Value.run (F := Ideal) m' g')
    obtain ⟨h0, h1⟩ := h c
    obtain ⟨a0, a1⟩ := hargs c
    refine ⟨h0.trans ?_, h1⟩
    · rw [Cert.Reference6Ideal.Read.val_main_v1_eq, a0, a1]

/-- The gradient of the normalised activations. -/
theorem algebraic7 : Cert.algebraic_Kernel7Ideal_Reference7Ideal (hKernel7Ideal := Cert.Kernel7Ideal.Gen.facts) (hReference7Ideal := Cert.Reference7Ideal.Gen.facts) := by
  intro m g m' g' _ hargs
  refine ⟨fun c => Cert.Reference7Ideal.Read.val_main_v2 (F := Ideal) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · refine (θ_run _ _ _).mono (fun r h c => ?_) (Cert.Kernel7Ideal.Value.run_blocks (F := Ideal) m g)
    obtain ⟨h0, h1⟩ := h c
    exact ⟨h0.trans (Cert.Kernel7Ideal.Dh.array m c), h1⟩
  · refine (θ_run _ _ _).mono (fun r h c => ?_) (Cert.Reference7Ideal.Value.run (F := Ideal) m' g')
    obtain ⟨h0, h1⟩ := h c
    obtain ⟨a0, a1, a2⟩ := hargs c
    refine ⟨h0.trans ?_, h1⟩
    · rw [Cert.Reference7Ideal.Read.val_main_v2_eq, a1, a2]

/-- The upper half of the gradient of the matrix of all the projections. -/
theorem algebraic8 : Cert.algebraic_Kernel8Ideal_Reference8Ideal (hKernel8Ideal := Cert.Kernel8Ideal.Gen.facts) (hReference8Ideal := Cert.Reference8Ideal.Gen.facts) := by
  intro m g m' g' _ hargs
  refine ⟨fun c => Cert.Reference8Ideal.Read.val_main_v4 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg2)), ?_, ?_⟩
  · refine (θ_run _ _ _).mono (fun r h c => ?_) (Cert.Kernel8Ideal.Value.run_blocks (F := Ideal) m g)
    obtain ⟨h0, h1⟩ := h c
    exact ⟨h0.trans (Cert.Kernel8Ideal.DInTop.array m c), h1⟩
  · refine (θ_run _ _ _).mono (fun r h c => ?_) (Cert.Reference8Ideal.Value.run (F := Ideal) m' g')
    obtain ⟨h0, h1⟩ := h c
    obtain ⟨a0, a1, a2⟩ := hargs c
    refine ⟨h0.trans ?_, h1⟩
    · rw [Cert.Reference8Ideal.Read.val_main_v4_eq, a0, a2]

/-- The lower half of the gradient of the matrix of all the projections. -/
theorem algebraic9 : Cert.algebraic_Kernel9Ideal_Reference9Ideal (hKernel9Ideal := Cert.Kernel9Ideal.Gen.facts) (hReference9Ideal := Cert.Reference9Ideal.Gen.facts) := by
  intro m g m' g' _ hargs
  refine ⟨fun c => Cert.Reference9Ideal.Read.val_main_v4 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg2)), ?_, ?_⟩
  · refine (θ_run _ _ _).mono (fun r h c => ?_) (Cert.Kernel9Ideal.Value.run_blocks (F := Ideal) m g)
    obtain ⟨h0, h1⟩ := h c
    exact ⟨h0.trans (Cert.Kernel9Ideal.DInBot.array m c), h1⟩
  · refine (θ_run _ _ _).mono (fun r h c => ?_) (Cert.Reference9Ideal.Value.run (F := Ideal) m' g')
    obtain ⟨h0, h1⟩ := h c
    obtain ⟨a0, a1, a2⟩ := hargs c
    refine ⟨h0.trans ?_, h1⟩
    · rw [Cert.Reference9Ideal.Read.val_main_v4_eq, a0, a2]

/-- The gradient of the matrix after the merge. -/
theorem algebraic10 : Cert.algebraic_Kernel10Ideal_Reference10Ideal (hKernel10Ideal := Cert.Kernel10Ideal.Gen.facts) (hReference10Ideal := Cert.Reference10Ideal.Gen.facts) := by
  intro m g m' g' _ hargs
  refine ⟨fun c => Cert.Reference10Ideal.Read.val_main_v3 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg2)), ?_, ?_⟩
  · refine (θ_run _ _ _).mono (fun r h c => ?_) (Cert.Kernel10Ideal.Value.run_blocks (F := Ideal) m g)
    obtain ⟨h0, h1⟩ := h c
    exact ⟨h0.trans (Cert.Kernel10Ideal.DOut.array m c), h1⟩
  · refine (θ_run _ _ _).mono (fun r h c => ?_) (Cert.Reference10Ideal.Value.run (F := Ideal) m' g')
    obtain ⟨h0, h1⟩ := h c
    obtain ⟨a0, a1, a2⟩ := hargs c
    refine ⟨h0.trans ?_, h1⟩
    · rw [Cert.Reference10Ideal.Read.val_main_v3_eq, a0, a2]

/-- The gradient of the merged activations. -/
theorem algebraic11 : Cert.algebraic_Kernel11Ideal_Reference11Ideal (hKernel11Ideal := Cert.Kernel11Ideal.Gen.facts) (hReference11Ideal := Cert.Reference11Ideal.Gen.facts) := by
  intro m g m' g' _ hargs
  refine ⟨fun c => Cert.Reference11Ideal.Read.val_main_v2 (F := Ideal) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)), ?_, ?_⟩
  · refine (θ_run _ _ _).mono (fun r h c => ?_) (Cert.Kernel11Ideal.Value.run_blocks (F := Ideal) m g)
    obtain ⟨h0, h1⟩ := h c
    exact ⟨h0.trans (Cert.Kernel11Ideal.DMerged.array m c), h1⟩
  · refine (θ_run _ _ _).mono (fun r h c => ?_) (Cert.Reference11Ideal.Value.run (F := Ideal) m' g')
    obtain ⟨h0, h1⟩ := h c
    obtain ⟨a0, a1, a2⟩ := hargs c
    refine ⟨h0.trans ?_, h1⟩
    · rw [Cert.Reference11Ideal.Read.val_main_v2_eq, a1, a2]

/-- The product of the attention's output with its matrix. -/
theorem algebraic12 : Cert.algebraic_Kernel12Ideal_Reference12Ideal (hKernel12Ideal := Cert.Kernel12Ideal.Gen.facts) (hReference12Ideal := Cert.Reference12Ideal.Gen.facts) := by
  intro m g m' g' _ hargs
  refine ⟨fun c => Cert.Reference12Ideal.Read.val_main_v1 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · refine (θ_run _ _ _).mono (fun r h c => ?_) (Cert.Kernel12Ideal.Value.run_blocks (F := Ideal) m g)
    obtain ⟨h0, h1⟩ := h c
    exact ⟨h0.trans (Cert.Kernel12Ideal.OMla.array m c), h1⟩
  · refine (θ_run _ _ _).mono (fun r h c => ?_) (Cert.Reference12Ideal.Value.run (F := Ideal) m' g')
    obtain ⟨h0, h1⟩ := h c
    obtain ⟨a0, a1⟩ := hargs c
    refine ⟨h0.trans ?_, h1⟩
    · rw [Cert.Reference12Ideal.Read.val_main_v1_eq, a0, a1]

/-- The gradient of the attention's output. -/
theorem algebraic13 : Cert.algebraic_Kernel13Ideal_Reference13Ideal (hKernel13Ideal := Cert.Kernel13Ideal.Gen.facts) (hReference13Ideal := Cert.Reference13Ideal.Gen.facts) := by
  intro m g m' g' _ hargs
  refine ⟨fun c => Cert.Reference13Ideal.Read.val_main_v2 (F := Ideal) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)), ?_, ?_⟩
  · refine (θ_run _ _ _).mono (fun r h c => ?_) (Cert.Kernel13Ideal.Value.run_blocks (F := Ideal) m g)
    obtain ⟨h0, h1⟩ := h c
    exact ⟨h0.trans (Cert.Kernel13Ideal.DAttn.array m c), h1⟩
  · refine (θ_run _ _ _).mono (fun r h c => ?_) (Cert.Reference13Ideal.Value.run (F := Ideal) m' g')
    obtain ⟨h0, h1⟩ := h c
    obtain ⟨a0, a1, a2⟩ := hargs c
    refine ⟨h0.trans ?_, h1⟩
    · rw [Cert.Reference13Ideal.Read.val_main_v2_eq, a1, a2]

/-- The gradient of the matrix after the attention. -/
theorem algebraic14 : Cert.algebraic_Kernel14Ideal_Reference14Ideal (hKernel14Ideal := Cert.Kernel14Ideal.Gen.facts) (hReference14Ideal := Cert.Reference14Ideal.Gen.facts) := by
  intro m g m' g' _ hargs
  refine ⟨fun c => Cert.Reference14Ideal.Read.val_main_v3 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg2)), ?_, ?_⟩
  · refine (θ_run _ _ _).mono (fun r h c => ?_) (Cert.Kernel14Ideal.Value.run_blocks (F := Ideal) m g)
    obtain ⟨h0, h1⟩ := h c
    exact ⟨h0.trans (Cert.Kernel14Ideal.DWOMla.array m c), h1⟩
  · refine (θ_run _ _ _).mono (fun r h c => ?_) (Cert.Reference14Ideal.Value.run (F := Ideal) m' g')
    obtain ⟨h0, h1⟩ := h c
    obtain ⟨a0, a1, a2⟩ := hargs c
    refine ⟨h0.trans ?_, h1⟩
    · rw [Cert.Reference14Ideal.Read.val_main_v3_eq, a0, a2]

/-- The product that makes the attention's queries. -/
theorem algebraic15 : Cert.algebraic_Kernel15Ideal_Reference15Ideal (hKernel15Ideal := Cert.Kernel15Ideal.Gen.facts) (hReference15Ideal := Cert.Reference15Ideal.Gen.facts) := by
  intro m g m' g' _ hargs
  refine ⟨fun c => Cert.Reference15Ideal.Read.val_main_v1 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), ?_, ?_⟩
  · refine (θ_run _ _ _).mono (fun r h c => ?_) (Cert.Kernel15Ideal.Value.run_blocks (F := Ideal) m g)
    obtain ⟨h0, h1⟩ := h c
    exact ⟨h0.trans (Cert.Kernel15Ideal.Uq.array m c), h1⟩
  · refine (θ_run _ _ _).mono (fun r h c => ?_) (Cert.Reference15Ideal.Value.run (F := Ideal) m' g')
    obtain ⟨h0, h1⟩ := h c
    obtain ⟨a0, a1⟩ := hargs c
    refine ⟨h0.trans ?_, h1⟩
    · rw [Cert.Reference15Ideal.Read.val_main_v1_eq, a0, a1]

/-- The product that makes the attention's keys and values. -/
theorem algebraic16 : Cert.algebraic_Kernel16Ideal_Reference16Ideal (hKernel16Ideal := Cert.Kernel16Ideal.Gen.facts) (hReference16Ideal := Cert.Reference16Ideal.Gen.facts) := by
  intro m g m' g' _ hargs
  refine ⟨fun c => Cert.Reference16Ideal.Read.val_main_v1 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)), ?_, ?_⟩
  · refine (θ_run _ _ _).mono (fun r h c => ?_) (Cert.Kernel16Ideal.Value.run_blocks (F := Ideal) m g)
    obtain ⟨h0, h1⟩ := h c
    exact ⟨h0.trans (Cert.Kernel16Ideal.Ukv.array m c), h1⟩
  · refine (θ_run _ _ _).mono (fun r h c => ?_) (Cert.Reference16Ideal.Value.run (F := Ideal) m' g')
    obtain ⟨h0, h1⟩ := h c
    obtain ⟨a0, a1⟩ := hargs c
    refine ⟨h0.trans ?_, h1⟩
    · rw [Cert.Reference16Ideal.Read.val_main_v1_eq, a0, a1]

/-- The gradient of the queries' matrix. -/
theorem algebraic17 : Cert.algebraic_Kernel17Ideal_Reference17Ideal (hKernel17Ideal := Cert.Kernel17Ideal.Gen.facts) (hReference17Ideal := Cert.Reference17Ideal.Gen.facts) := by
  intro m g m' g' _ hargs
  refine ⟨fun c => Cert.Reference17Ideal.Read.val_main_v3 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg2)), ?_, ?_⟩
  · refine (θ_run _ _ _).mono (fun r h c => ?_) (Cert.Kernel17Ideal.Value.run_blocks (F := Ideal) m g)
    obtain ⟨h0, h1⟩ := h c
    exact ⟨h0.trans (Cert.Kernel17Ideal.DUq.array m c), h1⟩
  · refine (θ_run _ _ _).mono (fun r h c => ?_) (Cert.Reference17Ideal.Value.run (F := Ideal) m' g')
    obtain ⟨h0, h1⟩ := h c
    obtain ⟨a0, a1, a2⟩ := hargs c
    refine ⟨h0.trans ?_, h1⟩
    · rw [Cert.Reference17Ideal.Read.val_main_v3_eq, a0, a2]

/-- The gradient of the normalised latent queries. -/
theorem algebraic18 : Cert.algebraic_Kernel18Ideal_Reference18Ideal (hKernel18Ideal := Cert.Kernel18Ideal.Gen.facts) (hReference18Ideal := Cert.Reference18Ideal.Gen.facts) := by
  intro m g m' g' _ hargs
  refine ⟨fun c => Cert.Reference18Ideal.Read.val_main_v2 (F := Ideal) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)), ?_, ?_⟩
  · refine (θ_run _ _ _).mono (fun r h c => ?_) (Cert.Kernel18Ideal.Value.run_blocks (F := Ideal) m g)
    obtain ⟨h0, h1⟩ := h c
    exact ⟨h0.trans (Cert.Kernel18Ideal.Dnq.array m c), h1⟩
  · refine (θ_run _ _ _).mono (fun r h c => ?_) (Cert.Reference18Ideal.Value.run (F := Ideal) m' g')
    obtain ⟨h0, h1⟩ := h c
    obtain ⟨a0, a1, a2⟩ := hargs c
    refine ⟨h0.trans ?_, h1⟩
    · rw [Cert.Reference18Ideal.Read.val_main_v2_eq, a1, a2]

/-- The gradient of the keys' and values' matrix. -/
theorem algebraic19 : Cert.algebraic_Kernel19Ideal_Reference19Ideal (hKernel19Ideal := Cert.Kernel19Ideal.Gen.facts) (hReference19Ideal := Cert.Reference19Ideal.Gen.facts) := by
  intro m g m' g' _ hargs
  refine ⟨fun c => Cert.Reference19Ideal.Read.val_main_v3 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg2)), ?_, ?_⟩
  · refine (θ_run _ _ _).mono (fun r h c => ?_) (Cert.Kernel19Ideal.Value.run_blocks (F := Ideal) m g)
    obtain ⟨h0, h1⟩ := h c
    exact ⟨h0.trans (Cert.Kernel19Ideal.DUkv.array m c), h1⟩
  · refine (θ_run _ _ _).mono (fun r h c => ?_) (Cert.Reference19Ideal.Value.run (F := Ideal) m' g')
    obtain ⟨h0, h1⟩ := h c
    obtain ⟨a0, a1, a2⟩ := hargs c
    refine ⟨h0.trans ?_, h1⟩
    · rw [Cert.Reference19Ideal.Read.val_main_v3_eq, a0, a2]

/-- The gradient of the normalised latent keys and values. -/
theorem algebraic20 : Cert.algebraic_Kernel20Ideal_Reference20Ideal (hKernel20Ideal := Cert.Kernel20Ideal.Gen.facts) (hReference20Ideal := Cert.Reference20Ideal.Gen.facts) := by
  intro m g m' g' _ hargs
  refine ⟨fun c => Cert.Reference20Ideal.Read.val_main_v2 (F := Ideal) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)), ?_, ?_⟩
  · refine (θ_run _ _ _).mono (fun r h c => ?_) (Cert.Kernel20Ideal.Value.run_blocks (F := Ideal) m g)
    obtain ⟨h0, h1⟩ := h c
    exact ⟨h0.trans (Cert.Kernel20Ideal.Dnkv.array m c), h1⟩
  · refine (θ_run _ _ _).mono (fun r h c => ?_) (Cert.Reference20Ideal.Value.run (F := Ideal) m' g')
    obtain ⟨h0, h1⟩ := h c
    obtain ⟨a0, a1, a2⟩ := hargs c
    refine ⟨h0.trans ?_, h1⟩
    · rw [Cert.Reference20Ideal.Read.val_main_v2_eq, a1, a2]

/-- The product after the gated mixing. -/
theorem algebraic21 : Cert.algebraic_Kernel21Ideal_Reference21Ideal (hKernel21Ideal := Cert.Kernel21Ideal.Gen.facts) (hReference21Ideal := Cert.Reference21Ideal.Gen.facts) := by
  intro m g m' g' _ hargs
  refine ⟨fun c => Cert.Reference21Ideal.Read.val_main_v1 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)), ?_, ?_⟩
  · refine (θ_run _ _ _).mono (fun r h c => ?_) (Cert.Kernel21Ideal.Value.run_blocks (F := Ideal) m g)
    obtain ⟨h0, h1⟩ := h c
    exact ⟨h0.trans (Cert.Kernel21Ideal.OGm.array m c), h1⟩
  · refine (θ_run _ _ _).mono (fun r h c => ?_) (Cert.Reference21Ideal.Value.run (F := Ideal) m' g')
    obtain ⟨h0, h1⟩ := h c
    obtain ⟨a0, a1⟩ := hargs c
    refine ⟨h0.trans ?_, h1⟩
    · rw [Cert.Reference21Ideal.Read.val_main_v1_eq, a0, a1]

/-- The gradient of the gated mixing's output. -/
theorem algebraic22 : Cert.algebraic_Kernel22Ideal_Reference22Ideal (hKernel22Ideal := Cert.Kernel22Ideal.Gen.facts) (hReference22Ideal := Cert.Reference22Ideal.Gen.facts) := by
  intro m g m' g' _ hargs
  refine ⟨fun c => Cert.Reference22Ideal.Read.val_main_v2 (F := Ideal) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)), ?_, ?_⟩
  · refine (θ_run _ _ _).mono (fun r h c => ?_) (Cert.Kernel22Ideal.Value.run_blocks (F := Ideal) m g)
    obtain ⟨h0, h1⟩ := h c
    exact ⟨h0.trans (Cert.Kernel22Ideal.DYGm.array m c), h1⟩
  · refine (θ_run _ _ _).mono (fun r h c => ?_) (Cert.Reference22Ideal.Value.run (F := Ideal) m' g')
    obtain ⟨h0, h1⟩ := h c
    obtain ⟨a0, a1, a2⟩ := hargs c
    refine ⟨h0.trans ?_, h1⟩
    · rw [Cert.Reference22Ideal.Read.val_main_v2_eq, a1, a2]

/-- The gradient of the matrix after the gated mixing. -/
theorem algebraic23 : Cert.algebraic_Kernel23Ideal_Reference23Ideal (hKernel23Ideal := Cert.Kernel23Ideal.Gen.facts) (hReference23Ideal := Cert.Reference23Ideal.Gen.facts) := by
  intro m g m' g' _ hargs
  refine ⟨fun c => Cert.Reference23Ideal.Read.val_main_v3 (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg2)), ?_, ?_⟩
  · refine (θ_run _ _ _).mono (fun r h c => ?_) (Cert.Kernel23Ideal.Value.run_blocks (F := Ideal) m g)
    obtain ⟨h0, h1⟩ := h c
    exact ⟨h0.trans (Cert.Kernel23Ideal.DWOGm.array m c), h1⟩
  · refine (θ_run _ _ _).mono (fun r h c => ?_) (Cert.Reference23Ideal.Value.run (F := Ideal) m' g')
    obtain ⟨h0, h1⟩ := h c
    obtain ⟨a0, a1, a2⟩ := hargs c
    refine ⟨h0.trans ?_, h1⟩
    · rw [Cert.Reference23Ideal.Read.val_main_v3_eq, a0, a2]

/-- The product after the attention over the memory. -/
theorem algebraic24 : Cert.algebraic_Kernel24Ideal_Reference24Ideal (hKernel24Ideal := Cert.Kernel24Ideal.Gen.facts) (hReference24Ideal := Cert.Reference24Ideal.Gen.facts) := by
  intro m g m' g' _ hargs
  refine ⟨fun c => Cert.Reference24Ideal.Read.val_main_v1 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)), ?_, ?_⟩
  · refine (θ_run _ _ _).mono (fun r h c => ?_) (Cert.Kernel24Ideal.Value.run_blocks (F := Ideal) m g)
    obtain ⟨h0, h1⟩ := h c
    exact ⟨h0.trans (Cert.Kernel24Ideal.OMem.array m c), h1⟩
  · refine (θ_run _ _ _).mono (fun r h c => ?_) (Cert.Reference24Ideal.Value.run (F := Ideal) m' g')
    obtain ⟨h0, h1⟩ := h c
    obtain ⟨a0, a1⟩ := hargs c
    refine ⟨h0.trans ?_, h1⟩
    · rw [Cert.Reference24Ideal.Read.val_main_v1_eq, a0, a1]

/-- The gradient of the memory attention's output. -/
theorem algebraic25 : Cert.algebraic_Kernel25Ideal_Reference25Ideal (hKernel25Ideal := Cert.Kernel25Ideal.Gen.facts) (hReference25Ideal := Cert.Reference25Ideal.Gen.facts) := by
  intro m g m' g' _ hargs
  refine ⟨fun c => Cert.Reference25Ideal.Read.val_main_v2 (F := Ideal) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)), ?_, ?_⟩
  · refine (θ_run _ _ _).mono (fun r h c => ?_) (Cert.Kernel25Ideal.Value.run_blocks (F := Ideal) m g)
    obtain ⟨h0, h1⟩ := h c
    exact ⟨h0.trans (Cert.Kernel25Ideal.DOMem.array m c), h1⟩
  · refine (θ_run _ _ _).mono (fun r h c => ?_) (Cert.Reference25Ideal.Value.run (F := Ideal) m' g')
    obtain ⟨h0, h1⟩ := h c
    obtain ⟨a0, a1, a2⟩ := hargs c
    refine ⟨h0.trans ?_, h1⟩
    · rw [Cert.Reference25Ideal.Read.val_main_v2_eq, a1, a2]

/-- The gradient of the matrix after the attention over the memory. -/
theorem algebraic26 : Cert.algebraic_Kernel26Ideal_Reference26Ideal (hKernel26Ideal := Cert.Kernel26Ideal.Gen.facts) (hReference26Ideal := Cert.Reference26Ideal.Gen.facts) := by
  intro m g m' g' _ hargs
  refine ⟨fun c => Cert.Reference26Ideal.Read.val_main_v3 (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg2)), ?_, ?_⟩
  · refine (θ_run _ _ _).mono (fun r h c => ?_) (Cert.Kernel26Ideal.Value.run_blocks (F := Ideal) m g)
    obtain ⟨h0, h1⟩ := h c
    exact ⟨h0.trans (Cert.Kernel26Ideal.DWOMem.array m c), h1⟩
  · refine (θ_run _ _ _).mono (fun r h c => ?_) (Cert.Reference26Ideal.Value.run (F := Ideal) m' g')
    obtain ⟨h0, h1⟩ := h c
    obtain ⟨a0, a1, a2⟩ := hargs c
    refine ⟨h0.trans ?_, h1⟩
    · rw [Cert.Reference26Ideal.Read.val_main_v3_eq, a0, a2]

/-- The product that makes the memory's keys and values. -/
theorem algebraic27 : Cert.algebraic_Kernel27Ideal_Reference27Ideal (hKernel27Ideal := Cert.Kernel27Ideal.Gen.facts) (hReference27Ideal := Cert.Reference27Ideal.Gen.facts) := by
  intro m g m' g' _ hargs
  refine ⟨fun c => Cert.Reference27Ideal.Read.val_main_v1 (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)), ?_, ?_⟩
  · refine (θ_run _ _ _).mono (fun r h c => ?_) (Cert.Kernel27Ideal.Value.run_blocks (F := Ideal) m g)
    obtain ⟨h0, h1⟩ := h c
    exact ⟨h0.trans (Cert.Kernel27Ideal.MemKv.array m c), h1⟩
  · refine (θ_run _ _ _).mono (fun r h c => ?_) (Cert.Reference27Ideal.Value.run (F := Ideal) m' g')
    obtain ⟨h0, h1⟩ := h c
    obtain ⟨a0, a1⟩ := hargs c
    refine ⟨h0.trans ?_, h1⟩
    · rw [Cert.Reference27Ideal.Read.val_main_v1_eq, a0, a1]

/-- The gradient of the normalised memory. -/
theorem algebraic28 : Cert.algebraic_Kernel28Ideal_Reference28Ideal (hKernel28Ideal := Cert.Kernel28Ideal.Gen.facts) (hReference28Ideal := Cert.Reference28Ideal.Gen.facts) := by
  intro m g m' g' _ hargs
  refine ⟨fun c => Cert.Reference28Ideal.Read.val_main_v2 (F := Ideal) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)), ?_, ?_⟩
  · refine (θ_run _ _ _).mono (fun r h c => ?_) (Cert.Kernel28Ideal.Value.run_blocks (F := Ideal) m g)
    obtain ⟨h0, h1⟩ := h c
    exact ⟨h0.trans (Cert.Kernel28Ideal.Dnm.array m c), h1⟩
  · refine (θ_run _ _ _).mono (fun r h c => ?_) (Cert.Reference28Ideal.Value.run (F := Ideal) m' g')
    obtain ⟨h0, h1⟩ := h c
    obtain ⟨a0, a1, a2⟩ := hargs c
    refine ⟨h0.trans ?_, h1⟩
    · rw [Cert.Reference28Ideal.Read.val_main_v2_eq, a1, a2]

/-- The gradient of the memory's keys' and values' matrix. -/
theorem algebraic29 : Cert.algebraic_Kernel29Ideal_Reference29Ideal (hKernel29Ideal := Cert.Kernel29Ideal.Gen.facts) (hReference29Ideal := Cert.Reference29Ideal.Gen.facts) := by
  intro m g m' g' _ hargs
  refine ⟨fun c => Cert.Reference29Ideal.Read.val_main_v3 (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg2)), ?_, ?_⟩
  · refine (θ_run _ _ _).mono (fun r h c => ?_) (Cert.Kernel29Ideal.Value.run_blocks (F := Ideal) m g)
    obtain ⟨h0, h1⟩ := h c
    exact ⟨h0.trans (Cert.Kernel29Ideal.DMemKv.array m c), h1⟩
  · refine (θ_run _ _ _).mono (fun r h c => ?_) (Cert.Reference29Ideal.Value.run (F := Ideal) m' g')
    obtain ⟨h0, h1⟩ := h c
    obtain ⟨a0, a1, a2⟩ := hargs c
    refine ⟨h0.trans ?_, h1⟩
    · rw [Cert.Reference29Ideal.Read.val_main_v3_eq, a0, a2]

/-- The product after the merge with the residual connection, and its rows normalised. -/
theorem algebraic30 : Cert.algebraic_Kernel30Ideal_Reference30Ideal (hKernel30Ideal := Cert.Kernel30Ideal.Gen.facts) (hReference30Ideal := Cert.Reference30Ideal.Gen.facts) := by
  intro m g m' g' _ hargs
  refine ⟨fun c => Cert.Reference30Ideal.Read.val_main_v1 (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)),
    fun c => Cert.Reference30Ideal.Read.val_main_v15 (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)), ?_, ?_⟩
  · refine (θ_run _ _ _).mono (fun r h c => ?_) (Cert.Kernel30Ideal.Value.run_blocks (F := Ideal) m g)
    obtain ⟨h0, h1, h2⟩ := h c
    exact ⟨h0.trans (Cert.Kernel30Ideal.MOut.array4 m c), h1.trans (Cert.Kernel30Ideal.MOut.array5 m c), h2⟩
  · refine (θ_run _ _ _).mono (fun r h c => ?_) (Cert.Reference30Ideal.Value.run (F := Ideal) m' g')
    obtain ⟨h0, h1, h2⟩ := h c
    obtain ⟨a0, a1, a2, a3⟩ := hargs c
    refine ⟨h0.trans ?_, h1.trans ?_, h2⟩
    · rw [Cert.Reference30Ideal.Read.val_main_v1_eq, a0, a1, a2]
    · rw [Cert.Reference30Ideal.Read.val_main_v15_eq, a0, a1, a2, a3]

/-- The feed-forward network's second product, the gradient of the loss in the step's output, and the squared errors by lane. -/
theorem algebraic31 : Cert.algebraic_Kernel31Ideal_Reference31Ideal (hKernel31Ideal := Cert.Kernel31Ideal.Gen.facts) (hReference31Ideal := Cert.Reference31Ideal.Gen.facts) := by
  intro m g m' g' _ hargs
  refine ⟨fun c => Cert.Reference31Ideal.Read.val_main_v18 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)),
    fun c => Cert.Reference31Ideal.Read.val_main_v19 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)),
    fun c => Cert.Reference31Ideal.Read.val_main_v24 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)), ?_, ?_⟩
  · refine (θ_run _ _ _).mono (fun r h c => ?_) (Cert.Kernel31Ideal.Value.run_blocks (F := Ideal) m g)
    obtain ⟨h0, h1, h2, h3⟩ := h c
    exact ⟨h0.trans (Cert.Kernel31Ideal.Loss.array4 m c), h1.trans (Cert.Kernel31Ideal.Loss.array5 m c), h2.trans (Cert.Kernel31Ideal.Loss.array6 m c), h3⟩
  · refine (θ_run _ _ _).mono (fun r h c => ?_) (Cert.Reference31Ideal.Value.run (F := Ideal) m' g')
    obtain ⟨h0, h1, h2, h3⟩ := h c
    obtain ⟨a0, a1, a2, a3⟩ := hargs c
    refine ⟨h0.trans ?_, h1.trans ?_, h2.trans ?_, h3⟩
    · rw [Cert.Reference31Ideal.Read.val_main_v18_eq, a0, a1, a2, a3]
    · rw [Cert.Reference31Ideal.Read.val_main_v19_eq, a0, a1, a2, a3]
    · rw [Cert.Reference31Ideal.Read.val_main_v24_eq, a0, a1, a2, a3]

/-- Back through the feed-forward network's first matrix and the normalisation before it. -/
theorem algebraic32 : Cert.algebraic_Kernel32Ideal_Reference32Ideal_pre_finite32 (hKernel32Ideal := Cert.Kernel32Ideal.Gen.facts) (hReference32Ideal := Cert.Reference32Ideal.Gen.facts) (hPre_finite32 := Cert.FiniteRows.facts32) := by
  intro m g m' g' hpre hargs
  have H := fun c => Cert.FiniteRows.real32 _ _ _ _ _ (hpre c).1 (hpre c).2.1 (hpre c).2.2.1 (hpre c).2.2.2
  refine ⟨fun c => Cert.Reference32Ideal.Read.val_main_v38 (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)),
    fun c => Cert.Reference32Ideal.Read.val_main_v40 (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)),
    fun c => Cert.Reference32Ideal.Read.val_main_v41 (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)), ?_, ?_⟩
  · refine (θ_run _ _ _).mono (fun r h c => ?_) (Cert.Kernel32Ideal.Value.run_blocks (F := Ideal) m g)
    obtain ⟨h0, h1, h2, h3⟩ := h c
    exact ⟨h0.trans (Cert.Kernel32Ideal.Dh2.array5 m c (H c).1 (H c).2.1 (H c).2.2.1 (H c).2.2.2), h1.trans (Cert.Kernel32Ideal.Dh2.array6 m c (H c).1 (H c).2.1 (H c).2.2.1 (H c).2.2.2), h2.trans (Cert.Kernel32Ideal.Dh2.array7 m c), h3⟩
  · refine (θ_run _ _ _).mono (fun r h c => ?_) (Cert.Reference32Ideal.Value.run (F := Ideal) m' g')
    obtain ⟨h0, h1, h2, h3⟩ := h c
    obtain ⟨a0, a1, a2, a3, a4⟩ := hargs c
    refine ⟨h0.trans ?_, h1.trans ?_, h2.trans ?_, h3⟩
    · rw [Cert.Reference32Ideal.Read.val_main_v38_eq, a0, a1, a2, a3, a4]
    · rw [Cert.Reference32Ideal.Read.val_main_v40_eq, a0, a1, a2, a3, a4]
    · rw [Cert.Reference32Ideal.Read.val_main_v41_eq, a0, a2, a3]

/-- Back through the step's first normalisation: the gradients of the step's input and of the gain. -/
theorem algebraic33 : Cert.algebraic_Kernel33Ideal_Reference33Ideal_pre_finite33 (hKernel33Ideal := Cert.Kernel33Ideal.Gen.facts) (hReference33Ideal := Cert.Reference33Ideal.Gen.facts) (hPre_finite33 := Cert.FiniteRows.facts33) := by
  intro m g m' g' hpre hargs
  have H := fun c => Cert.FiniteRows.real33 _ _ _ _ (hpre c).1 (hpre c).2.1 (hpre c).2.2
  refine ⟨fun c => Cert.Reference33Ideal.Read.val_main_v36 (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)),
    fun c => Cert.Reference33Ideal.Read.val_main_v37 (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg2)), ?_, ?_⟩
  · refine (θ_run _ _ _).mono (fun r h c => ?_) (Cert.Kernel33Ideal.Value.run_blocks (F := Ideal) m g)
    obtain ⟨h0, h1, h2⟩ := h c
    exact ⟨h0.trans (Cert.Kernel33Ideal.DRms.array4 m c (H c).1 (H c).2.1 (H c).2.2), h1.trans (Cert.Kernel33Ideal.DRms.array5 m c), h2⟩
  · refine (θ_run _ _ _).mono (fun r h c => ?_) (Cert.Reference33Ideal.Value.run (F := Ideal) m' g')
    obtain ⟨h0, h1, h2⟩ := h c
    obtain ⟨a0, a1, a2, a3⟩ := hargs c
    refine ⟨h0.trans ?_, h1.trans ?_, h2⟩
    · rw [Cert.Reference33Ideal.Read.val_main_v36_eq, a0, a1, a2, a3]
    · rw [Cert.Reference33Ideal.Read.val_main_v37_eq, a0, a2]

/-- The causal attention's forward pass: its output and the rows' logarithms. -/
theorem algebraic34 : Cert.algebraic_Kernel34Ideal_Reference34Ideal_pre_finite34 (hKernel34Ideal := Cert.Kernel34Ideal.Gen.facts) (hReference34Ideal := Cert.Reference34Ideal.Gen.facts) (hPre_finite34 := Cert.FiniteRows.facts34) := by
  intro m g m' g' hpre hargs
  have H := fun c => Cert.FiniteRows.real34 _ _ _ (hpre c).1 (hpre c).2
  refine ⟨fun c => Cert.Reference34Ideal.Read.val_main_v26 (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)),
    fun c => Cert.Reference34Ideal.Read.val_main_v34 (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)), ?_, ?_⟩
  · refine (θ_run _ _ _).mono (fun r h c => ?_) (Cert.Kernel34Ideal.Value.run_blocks (F := Ideal) m g)
    obtain ⟨h0, h1, h2⟩ := h c
    exact ⟨h0.trans (Cert.Kernel34Ideal.Fwd.array3 m c (H c)), h1.trans (Cert.Kernel34Ideal.Fwd.array4 m c (H c)), h2⟩
  · refine (θ_run _ _ _).mono (fun r h c => ?_) (Cert.Reference34Ideal.Value.run (F := Ideal) m' g')
    obtain ⟨h0, h1, h2⟩ := h c
    obtain ⟨a0, a1, a2⟩ := hargs c
    refine ⟨h0.trans ?_, h1.trans ?_, h2⟩
    · rw [Cert.Reference34Ideal.Read.val_main_v26_eq, a0, a1, a2]
    · rw [Cert.Reference34Ideal.Read.val_main_v34_eq, a0, a1]

/-- The sum over the devices and the update of the matrix of all the projections. -/
theorem algebraic35 : Cert.algebraic_Kernel35Ideal_Reference35Ideal (hKernel35Ideal := Cert.Kernel35Ideal.Gen.facts) (hReference35Ideal := Cert.Reference35Ideal.Gen.facts) := by
  intro m g m' g' _ hargs
  refine ⟨fun c => Cert.Reference35Ideal.Read.val_main_v2 (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)),
    fun c => Cert.Reference35Ideal.Read.val_main_v26 (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)),
    fun c => Cert.Reference35Ideal.Read.val_main_v7 (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg3)),
    fun c => Cert.Reference35Ideal.Read.val_main_v13 (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg4)), ?_, ?_⟩
  · refine (θ_run _ _ _).mono (fun r h c => ?_) (Cert.Kernel35Ideal.Value.run_blocks (F := Ideal) m g)
    obtain ⟨h0, h1, h2, h3, h4⟩ := h c
    exact ⟨h0.trans (Cert.Kernel35Ideal.SumIn.array5 m c), h1.trans (Cert.Kernel35Ideal.SumIn.array6 m c), h2.trans (Cert.Kernel35Ideal.SumIn.array7 m c), h3.trans (Cert.Kernel35Ideal.SumIn.array8 m c), h4⟩
  · refine (θ_run _ _ _).mono (fun r h c => ?_) (Cert.Reference35Ideal.Value.run (F := Ideal) m' g')
    obtain ⟨h0, h1, h2, h3, h4⟩ := h c
    obtain ⟨a0, a1, a2, a3, a4⟩ := hargs c
    refine ⟨h0.trans ?_, h1.trans ?_, h2.trans ?_, h3.trans ?_, h4⟩
    · rw [Cert.Reference35Ideal.Read.val_main_v2_eq, a0, a1]
    · rw [Cert.Reference35Ideal.Read.val_main_v26_eq, a0, a1, a2, a3, a4]
    · rw [Cert.Reference35Ideal.Read.val_main_v7_eq, a0, a1, a3]
    · rw [Cert.Reference35Ideal.Read.val_main_v13_eq, a0, a1, a4]

/-- The sum over the devices and the update of the queries' matrix. -/
theorem algebraic36 : Cert.algebraic_Kernel36Ideal_Reference36Ideal (hKernel36Ideal := Cert.Kernel36Ideal.Gen.facts) (hReference36Ideal := Cert.Reference36Ideal.Gen.facts) := by
  intro m g m' g' _ hargs
  refine ⟨fun c => Cert.Reference36Ideal.Read.val_main_v1 (F := Ideal) (m ((c.tc : Thread Cert.Kernel36Ideal.nD Cert.Kernel36Ideal.τ).loc Cert.Kernel36Ideal.main_arg0)),
    fun c => Cert.Reference36Ideal.Read.val_main_v25 (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)) (m ((c.tc : Thread Cert.Kernel36Ideal.nD Cert.Kernel36Ideal.τ).loc Cert.Kernel36Ideal.main_arg2)) (m ((c.tc : Thread Cert.Kernel36Ideal.nD Cert.Kernel36Ideal.τ).loc Cert.Kernel36Ideal.main_arg3)),
    fun c => Cert.Reference36Ideal.Read.val_main_v6 (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg2)),
    fun c => Cert.Reference36Ideal.Read.val_main_v12 (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg3)), ?_, ?_⟩
  · refine (θ_run _ _ _).mono (fun r h c => ?_) (Cert.Kernel36Ideal.Value.run_blocks (F := Ideal) m g)
    obtain ⟨h0, h1, h2, h3, h4⟩ := h c
    exact ⟨h0.trans (Cert.Kernel36Ideal.SumUq.array4 m c), h1.trans (Cert.Kernel36Ideal.SumUq.array5 m c), h2.trans (Cert.Kernel36Ideal.SumUq.array6 m c), h3.trans (Cert.Kernel36Ideal.SumUq.array7 m c), h4⟩
  · refine (θ_run _ _ _).mono (fun r h c => ?_) (Cert.Reference36Ideal.Value.run (F := Ideal) m' g')
    obtain ⟨h0, h1, h2, h3, h4⟩ := h c
    obtain ⟨a0, a1, a2, a3⟩ := hargs c
    refine ⟨h0.trans ?_, h1.trans ?_, h2.trans ?_, h3.trans ?_, h4⟩
    · rw [Cert.Reference36Ideal.Read.val_main_v1_eq, a0]
    · rw [Cert.Reference36Ideal.Read.val_main_v25_eq, a0, a1, a2, a3]
    · rw [Cert.Reference36Ideal.Read.val_main_v6_eq, a0, a2]
    · rw [Cert.Reference36Ideal.Read.val_main_v12_eq, a0, a3]

/-- The sum over the devices and the update of the keys' and values' matrix. -/
theorem algebraic37 : Cert.algebraic_Kernel37Ideal_Reference37Ideal (hKernel37Ideal := Cert.Kernel37Ideal.Gen.facts) (hReference37Ideal := Cert.Reference37Ideal.Gen.facts) := by
  intro m g m' g' _ hargs
  refine ⟨fun c => Cert.Reference37Ideal.Read.val_main_v1 (F := Ideal) (m ((c.tc : Thread Cert.Kernel37Ideal.nD Cert.Kernel37Ideal.τ).loc Cert.Kernel37Ideal.main_arg0)),
    fun c => Cert.Reference37Ideal.Read.val_main_v25 (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2)) (m ((c.tc : Thread Cert.Kernel37Ideal.nD Cert.Kernel37Ideal.τ).loc Cert.Kernel37Ideal.main_arg3)),
    fun c => Cert.Reference37Ideal.Read.val_main_v6 (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg2)),
    fun c => Cert.Reference37Ideal.Read.val_main_v12 (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg3)), ?_, ?_⟩
  · refine (θ_run _ _ _).mono (fun r h c => ?_) (Cert.Kernel37Ideal.Value.run_blocks (F := Ideal) m g)
    obtain ⟨h0, h1, h2, h3, h4⟩ := h c
    exact ⟨h0.trans (Cert.Kernel37Ideal.SumUkv.array4 m c), h1.trans (Cert.Kernel37Ideal.SumUkv.array5 m c), h2.trans (Cert.Kernel37Ideal.SumUkv.array6 m c), h3.trans (Cert.Kernel37Ideal.SumUkv.array7 m c), h4⟩
  · refine (θ_run _ _ _).mono (fun r h c => ?_) (Cert.Reference37Ideal.Value.run (F := Ideal) m' g')
    obtain ⟨h0, h1, h2, h3, h4⟩ := h c
    obtain ⟨a0, a1, a2, a3⟩ := hargs c
    refine ⟨h0.trans ?_, h1.trans ?_, h2.trans ?_, h3.trans ?_, h4⟩
    · rw [Cert.Reference37Ideal.Read.val_main_v1_eq, a0]
    · rw [Cert.Reference37Ideal.Read.val_main_v25_eq, a0, a1, a2, a3]
    · rw [Cert.Reference37Ideal.Read.val_main_v6_eq, a0, a2]
    · rw [Cert.Reference37Ideal.Read.val_main_v12_eq, a0, a3]

/-- The sum over the devices and the update of a matrix of 128 rows a device. -/
theorem algebraic38 : Cert.algebraic_Kernel38Ideal_Reference38Ideal (hKernel38Ideal := Cert.Kernel38Ideal.Gen.facts) (hReference38Ideal := Cert.Reference38Ideal.Gen.facts) := by
  intro m g m' g' _ hargs
  refine ⟨fun c => Cert.Reference38Ideal.Read.val_main_v1 (F := Ideal) (m ((c.tc : Thread Cert.Kernel38Ideal.nD Cert.Kernel38Ideal.τ).loc Cert.Kernel38Ideal.main_arg0)),
    fun c => Cert.Reference38Ideal.Read.val_main_v25 (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3)),
    fun c => Cert.Reference38Ideal.Read.val_main_v6 (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg2)),
    fun c => Cert.Reference38Ideal.Read.val_main_v12 (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg3)), ?_, ?_⟩
  · refine (θ_run _ _ _).mono (fun r h c => ?_) (Cert.Kernel38Ideal.Value.run_blocks (F := Ideal) m g)
    obtain ⟨h0, h1, h2, h3, h4⟩ := h c
    exact ⟨h0.trans (Cert.Kernel38Ideal.SumOut.array4 m c), h1.trans (Cert.Kernel38Ideal.SumOut.array5 m c), h2.trans (Cert.Kernel38Ideal.SumOut.array6 m c), h3.trans (Cert.Kernel38Ideal.SumOut.array7 m c), h4⟩
  · refine (θ_run _ _ _).mono (fun r h c => ?_) (Cert.Reference38Ideal.Value.run (F := Ideal) m' g')
    obtain ⟨h0, h1, h2, h3, h4⟩ := h c
    obtain ⟨a0, a1, a2, a3⟩ := hargs c
    refine ⟨h0.trans ?_, h1.trans ?_, h2.trans ?_, h3.trans ?_, h4⟩
    · rw [Cert.Reference38Ideal.Read.val_main_v1_eq, a0]
    · rw [Cert.Reference38Ideal.Read.val_main_v25_eq, a0, a1, a2, a3]
    · rw [Cert.Reference38Ideal.Read.val_main_v6_eq, a0, a2]
    · rw [Cert.Reference38Ideal.Read.val_main_v12_eq, a0, a3]

/-- The sum over the devices and the update of a matrix of 128 columns a device. -/
theorem algebraic39 : Cert.algebraic_Kernel39Ideal_Reference39Ideal (hKernel39Ideal := Cert.Kernel39Ideal.Gen.facts) (hReference39Ideal := Cert.Reference39Ideal.Gen.facts) := by
  intro m g m' g' _ hargs
  refine ⟨fun c => Cert.Reference39Ideal.Read.val_main_v1 (F := Ideal) (m ((c.tc : Thread Cert.Kernel39Ideal.nD Cert.Kernel39Ideal.τ).loc Cert.Kernel39Ideal.main_arg0)),
    fun c => Cert.Reference39Ideal.Read.val_main_v25 (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)),
    fun c => Cert.Reference39Ideal.Read.val_main_v6 (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg2)),
    fun c => Cert.Reference39Ideal.Read.val_main_v12 (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg3)), ?_, ?_⟩
  · refine (θ_run _ _ _).mono (fun r h c => ?_) (Cert.Kernel39Ideal.Value.run_blocks (F := Ideal) m g)
    obtain ⟨h0, h1, h2, h3, h4⟩ := h c
    exact ⟨h0.trans (Cert.Kernel39Ideal.SumOGm.array4 m c), h1.trans (Cert.Kernel39Ideal.SumOGm.array5 m c), h2.trans (Cert.Kernel39Ideal.SumOGm.array6 m c), h3.trans (Cert.Kernel39Ideal.SumOGm.array7 m c), h4⟩
  · refine (θ_run _ _ _).mono (fun r h c => ?_) (Cert.Reference39Ideal.Value.run (F := Ideal) m' g')
    obtain ⟨h0, h1, h2, h3, h4⟩ := h c
    obtain ⟨a0, a1, a2, a3⟩ := hargs c
    refine ⟨h0.trans ?_, h1.trans ?_, h2.trans ?_, h3.trans ?_, h4⟩
    · rw [Cert.Reference39Ideal.Read.val_main_v1_eq, a0]
    · rw [Cert.Reference39Ideal.Read.val_main_v25_eq, a0, a1, a2, a3]
    · rw [Cert.Reference39Ideal.Read.val_main_v6_eq, a0, a2]
    · rw [Cert.Reference39Ideal.Read.val_main_v12_eq, a0, a3]

/-- The sum over the devices and the update of the feed-forward network's first matrix. -/
theorem algebraic40 : Cert.algebraic_Kernel40Ideal_Reference40Ideal (hKernel40Ideal := Cert.Kernel40Ideal.Gen.facts) (hReference40Ideal := Cert.Reference40Ideal.Gen.facts) := by
  intro m g m' g' _ hargs
  refine ⟨fun c => Cert.Reference40Ideal.Read.val_main_v1 (F := Ideal) (m ((c.tc : Thread Cert.Kernel40Ideal.nD Cert.Kernel40Ideal.τ).loc Cert.Kernel40Ideal.main_arg0)),
    fun c => Cert.Reference40Ideal.Read.val_main_v25 (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3)),
    fun c => Cert.Reference40Ideal.Read.val_main_v6 (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg2)),
    fun c => Cert.Reference40Ideal.Read.val_main_v12 (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg3)), ?_, ?_⟩
  · refine (θ_run _ _ _).mono (fun r h c => ?_) (Cert.Kernel40Ideal.Value.run_blocks (F := Ideal) m g)
    obtain ⟨h0, h1, h2, h3, h4⟩ := h c
    exact ⟨h0.trans (Cert.Kernel40Ideal.SumFf1.array4 m c), h1.trans (Cert.Kernel40Ideal.SumFf1.array5 m c), h2.trans (Cert.Kernel40Ideal.SumFf1.array6 m c), h3.trans (Cert.Kernel40Ideal.SumFf1.array7 m c), h4⟩
  · refine (θ_run _ _ _).mono (fun r h c => ?_) (Cert.Reference40Ideal.Value.run (F := Ideal) m' g')
    obtain ⟨h0, h1, h2, h3, h4⟩ := h c
    obtain ⟨a0, a1, a2, a3⟩ := hargs c
    refine ⟨h0.trans ?_, h1.trans ?_, h2.trans ?_, h3.trans ?_, h4⟩
    · rw [Cert.Reference40Ideal.Read.val_main_v1_eq, a0]
    · rw [Cert.Reference40Ideal.Read.val_main_v25_eq, a0, a1, a2, a3]
    · rw [Cert.Reference40Ideal.Read.val_main_v6_eq, a0, a2]
    · rw [Cert.Reference40Ideal.Read.val_main_v12_eq, a0, a3]

/-- The sum over the devices and the update of the feed-forward network's second matrix. -/
theorem algebraic41 : Cert.algebraic_Kernel41Ideal_Reference41Ideal (hKernel41Ideal := Cert.Kernel41Ideal.Gen.facts) (hReference41Ideal := Cert.Reference41Ideal.Gen.facts) := by
  intro m g m' g' _ hargs
  refine ⟨fun c => Cert.Reference41Ideal.Read.val_main_v1 (F := Ideal) (m ((c.tc : Thread Cert.Kernel41Ideal.nD Cert.Kernel41Ideal.τ).loc Cert.Kernel41Ideal.main_arg0)),
    fun c => Cert.Reference41Ideal.Read.val_main_v25 (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2)) (m ((c.tc : Thread Cert.Kernel41Ideal.nD Cert.Kernel41Ideal.τ).loc Cert.Kernel41Ideal.main_arg3)),
    fun c => Cert.Reference41Ideal.Read.val_main_v6 (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg2)),
    fun c => Cert.Reference41Ideal.Read.val_main_v12 (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg3)), ?_, ?_⟩
  · refine (θ_run _ _ _).mono (fun r h c => ?_) (Cert.Kernel41Ideal.Value.run_blocks (F := Ideal) m g)
    obtain ⟨h0, h1, h2, h3, h4⟩ := h c
    exact ⟨h0.trans (Cert.Kernel41Ideal.SumFf2.array4 m c), h1.trans (Cert.Kernel41Ideal.SumFf2.array5 m c), h2.trans (Cert.Kernel41Ideal.SumFf2.array6 m c), h3.trans (Cert.Kernel41Ideal.SumFf2.array7 m c), h4⟩
  · refine (θ_run _ _ _).mono (fun r h c => ?_) (Cert.Reference41Ideal.Value.run (F := Ideal) m' g')
    obtain ⟨h0, h1, h2, h3, h4⟩ := h c
    obtain ⟨a0, a1, a2, a3⟩ := hargs c
    refine ⟨h0.trans ?_, h1.trans ?_, h2.trans ?_, h3.trans ?_, h4⟩
    · rw [Cert.Reference41Ideal.Read.val_main_v1_eq, a0]
    · rw [Cert.Reference41Ideal.Read.val_main_v25_eq, a0, a1, a2, a3]
    · rw [Cert.Reference41Ideal.Read.val_main_v6_eq, a0, a2]
    · rw [Cert.Reference41Ideal.Read.val_main_v12_eq, a0, a3]

/-- Back through the memory attention: the gradients of its queries, keys and values. -/
theorem algebraic42 : Cert.algebraic_Kernel42Ideal_Reference42Ideal_pre_finite42 (hKernel42Ideal := Cert.Kernel42Ideal.Gen.facts) (hReference42Ideal := Cert.Reference42Ideal.Gen.facts) (hPre_finite42 := Cert.FiniteRows.facts42) := by
  intro m g m' g' hpre hargs
  have H := fun c => Cert.FiniteRows.real42 _ _ _ _ (hpre c).1 (hpre c).2.1 (hpre c).2.2.1 (hpre c).2.2.2
  refine ⟨fun c => Cert.Reference42Ideal.Read.val_main_v64 (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1)) (m ((c.tc : Thread Cert.Kernel42Ideal.nD Cert.Kernel42Ideal.τ).loc Cert.Kernel42Ideal.main_arg2)) (m ((c.tc : Thread Cert.Kernel42Ideal.nD Cert.Kernel42Ideal.τ).loc Cert.Kernel42Ideal.main_arg3)),
    fun c => Cert.Reference42Ideal.Read.val_main_v65 (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1)) (m ((c.tc : Thread Cert.Kernel42Ideal.nD Cert.Kernel42Ideal.τ).loc Cert.Kernel42Ideal.main_arg2)) (m ((c.tc : Thread Cert.Kernel42Ideal.nD Cert.Kernel42Ideal.τ).loc Cert.Kernel42Ideal.main_arg3)),
    fun c => Cert.Reference42Ideal.Read.val_main_v66 (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1)) (m ((c.tc : Thread Cert.Kernel42Ideal.nD Cert.Kernel42Ideal.τ).loc Cert.Kernel42Ideal.main_arg3)), ?_, ?_⟩
  · refine (θ_run _ _ _).mono (fun r h c => ?_) (Cert.Kernel42Ideal.Value.run_blocks (F := Ideal) m g)
    obtain ⟨h0, h1, h2, h3⟩ := h c
    exact ⟨h0.trans (Cert.Kernel42Ideal.MemBwd.array6 m c (H c)), h1.trans (Cert.Kernel42Ideal.MemBwd.array7 m c (H c)), h2.trans (Cert.Kernel42Ideal.MemBwd.array8 m c (H c)), h3⟩
  · refine (θ_run _ _ _).mono (fun r h c => ?_) (Cert.Reference42Ideal.Value.run (F := Ideal) m' g')
    obtain ⟨h0, h1, h2, h3⟩ := h c
    obtain ⟨a0, a1, a2, a3⟩ := hargs c
    refine ⟨h0.trans ?_, h1.trans ?_, h2.trans ?_, h3⟩
    · rw [Cert.Reference42Ideal.Read.val_main_v64_eq, a0, a1, a2, a3]
    · rw [Cert.Reference42Ideal.Read.val_main_v65_eq, a0, a1, a2, a3]
    · rw [Cert.Reference42Ideal.Read.val_main_v66_eq, a0, a1, a3]

/-- The memory attention's forward pass: its output and the rows' logarithms. -/
theorem algebraic43 : Cert.algebraic_Kernel43Ideal_Reference43Ideal_pre_finite43 (hKernel43Ideal := Cert.Kernel43Ideal.Gen.facts) (hReference43Ideal := Cert.Reference43Ideal.Gen.facts) (hPre_finite43 := Cert.FiniteRows.facts43) := by
  intro m g m' g' hpre hargs
  have H := fun c => Cert.FiniteRows.real43 _ _ _ (hpre c).1 (hpre c).2
  refine ⟨fun c => Cert.Reference43Ideal.Read.val_main_v19 (F := Ideal) (m ((c.tc : Thread Cert.Kernel43Ideal.nD Cert.Kernel43Ideal.τ).loc Cert.Kernel43Ideal.main_arg0)) (m ((c.tc : Thread Cert.Kernel43Ideal.nD Cert.Kernel43Ideal.τ).loc Cert.Kernel43Ideal.main_arg1)) (m ((c.tc : Thread Cert.Kernel43Ideal.nD Cert.Kernel43Ideal.τ).loc Cert.Kernel43Ideal.main_arg2)),
    fun c => Cert.Reference43Ideal.Read.val_main_v27 (F := Ideal) (m ((c.tc : Thread Cert.Kernel43Ideal.nD Cert.Kernel43Ideal.τ).loc Cert.Kernel43Ideal.main_arg0)) (m ((c.tc : Thread Cert.Kernel43Ideal.nD Cert.Kernel43Ideal.τ).loc Cert.Kernel43Ideal.main_arg1)), ?_, ?_⟩
  · refine (θ_run _ _ _).mono (fun r h c => ?_) (Cert.Kernel43Ideal.Value.run_blocks (F := Ideal) m g)
    obtain ⟨h0, h1, h2⟩ := h c
    exact ⟨h0.trans (Cert.Kernel43Ideal.MemFwd.array3 m c (H c)), h1.trans (Cert.Kernel43Ideal.MemFwd.array4 m c (H c)), h2⟩
  · refine (θ_run _ _ _).mono (fun r h c => ?_) (Cert.Reference43Ideal.Value.run (F := Ideal) m' g')
    obtain ⟨h0, h1, h2⟩ := h c
    obtain ⟨a0, a1, a2⟩ := hargs c
    refine ⟨h0.trans ?_, h1.trans ?_, h2⟩
    · rw [Cert.Reference43Ideal.Read.val_main_v19_eq, a0, a1, a2]
    · rw [Cert.Reference43Ideal.Read.val_main_v27_eq, a0, a1]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Finite.facts, Cert.FiniteRows.facts32, Cert.FiniteRows.facts33, Cert.FiniteRows.facts34, Cert.FiniteRows.facts42, Cert.FiniteRows.facts43,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun _ h => ⟨fun c => (h c).2.2.2, sem_eq_zero_of_no_sems rfl _⟩) (Cert.ReferenceIdeal.Value.run m ρ),
    fun m ρ _ => (θ_run _ _ _).mono (fun _ h => ⟨fun c => (h c).2.2.2, sem_eq_zero_of_no_sems rfl _⟩) (Cert.ReferenceIdeal.Value.run m ρ),
    fun m ρ _ => Cert.Kernel2.Gen.frame m ρ,
    fun m ρ _ => Cert.Kernel2Ideal.Gen.frame m ρ,
    fun m ρ _ => (θ_run _ _ _).mono (fun _ h => ⟨fun c => (h c).2, sem_eq_zero_of_no_sems rfl _⟩) (Cert.Reference2Ideal.Value.run m ρ),
    fun m ρ _ => Cert.Kernel3.Gen.frame m ρ,
    fun m ρ _ => Cert.Kernel3Ideal.Gen.frame m ρ,
    fun m ρ _ => (θ_run _ _ _).mono (fun _ h => ⟨fun c => (h c).2, sem_eq_zero_of_no_sems rfl _⟩) (Cert.Reference3Ideal.Value.run m ρ),
    fun m ρ _ => Cert.Kernel4.Gen.frame m ρ,
    fun m ρ _ => Cert.Kernel4Ideal.Gen.frame m ρ,
    fun m ρ _ => (θ_run _ _ _).mono (fun _ h => ⟨fun c => (h c).2, sem_eq_zero_of_no_sems rfl _⟩) (Cert.Reference4Ideal.Value.run m ρ),
    fun m ρ _ => Cert.Kernel5.Gen.frame m ρ,
    fun m ρ _ => Cert.Kernel5Ideal.Gen.frame m ρ,
    fun m ρ _ => (θ_run _ _ _).mono (fun _ h => ⟨fun c => (h c).2, sem_eq_zero_of_no_sems rfl _⟩) (Cert.Reference5Ideal.Value.run m ρ),
    fun m ρ _ => Cert.Kernel6.Gen.frame m ρ,
    fun m ρ _ => Cert.Kernel6Ideal.Gen.frame m ρ,
    fun m ρ _ => (θ_run _ _ _).mono (fun _ h => ⟨fun c => (h c).2, sem_eq_zero_of_no_sems rfl _⟩) (Cert.Reference6Ideal.Value.run m ρ),
    fun m ρ _ => Cert.Kernel7.Gen.frame m ρ,
    fun m ρ _ => Cert.Kernel7Ideal.Gen.frame m ρ,
    fun m ρ _ => (θ_run _ _ _).mono (fun _ h => ⟨fun c => (h c).2, sem_eq_zero_of_no_sems rfl _⟩) (Cert.Reference7Ideal.Value.run m ρ),
    fun m ρ _ => Cert.Kernel8.Gen.frame m ρ,
    fun m ρ _ => Cert.Kernel8Ideal.Gen.frame m ρ,
    fun m ρ _ => (θ_run _ _ _).mono (fun _ h => ⟨fun c => (h c).2, sem_eq_zero_of_no_sems rfl _⟩) (Cert.Reference8Ideal.Value.run m ρ),
    fun m ρ _ => Cert.Kernel9.Gen.frame m ρ,
    fun m ρ _ => Cert.Kernel9Ideal.Gen.frame m ρ,
    fun m ρ _ => (θ_run _ _ _).mono (fun _ h => ⟨fun c => (h c).2, sem_eq_zero_of_no_sems rfl _⟩) (Cert.Reference9Ideal.Value.run m ρ),
    fun m ρ _ => Cert.Kernel10.Gen.frame m ρ,
    fun m ρ _ => Cert.Kernel10Ideal.Gen.frame m ρ,
    fun m ρ _ => (θ_run _ _ _).mono (fun _ h => ⟨fun c => (h c).2, sem_eq_zero_of_no_sems rfl _⟩) (Cert.Reference10Ideal.Value.run m ρ),
    fun m ρ _ => Cert.Kernel11.Gen.frame m ρ,
    fun m ρ _ => Cert.Kernel11Ideal.Gen.frame m ρ,
    fun m ρ _ => (θ_run _ _ _).mono (fun _ h => ⟨fun c => (h c).2, sem_eq_zero_of_no_sems rfl _⟩) (Cert.Reference11Ideal.Value.run m ρ),
    fun m ρ _ => Cert.Kernel12.Gen.frame m ρ,
    fun m ρ _ => Cert.Kernel12Ideal.Gen.frame m ρ,
    fun m ρ _ => (θ_run _ _ _).mono (fun _ h => ⟨fun c => (h c).2, sem_eq_zero_of_no_sems rfl _⟩) (Cert.Reference12Ideal.Value.run m ρ),
    fun m ρ _ => Cert.Kernel13.Gen.frame m ρ,
    fun m ρ _ => Cert.Kernel13Ideal.Gen.frame m ρ,
    fun m ρ _ => (θ_run _ _ _).mono (fun _ h => ⟨fun c => (h c).2, sem_eq_zero_of_no_sems rfl _⟩) (Cert.Reference13Ideal.Value.run m ρ),
    fun m ρ _ => Cert.Kernel14.Gen.frame m ρ,
    fun m ρ _ => Cert.Kernel14Ideal.Gen.frame m ρ,
    fun m ρ _ => (θ_run _ _ _).mono (fun _ h => ⟨fun c => (h c).2, sem_eq_zero_of_no_sems rfl _⟩) (Cert.Reference14Ideal.Value.run m ρ),
    fun m ρ _ => Cert.Kernel15.Gen.frame m ρ,
    fun m ρ _ => Cert.Kernel15Ideal.Gen.frame m ρ,
    fun m ρ _ => (θ_run _ _ _).mono (fun _ h => ⟨fun c => (h c).2, sem_eq_zero_of_no_sems rfl _⟩) (Cert.Reference15Ideal.Value.run m ρ),
    fun m ρ _ => Cert.Kernel16.Gen.frame m ρ,
    fun m ρ _ => Cert.Kernel16Ideal.Gen.frame m ρ,
    fun m ρ _ => (θ_run _ _ _).mono (fun _ h => ⟨fun c => (h c).2, sem_eq_zero_of_no_sems rfl _⟩) (Cert.Reference16Ideal.Value.run m ρ),
    fun m ρ _ => Cert.Kernel17.Gen.frame m ρ,
    fun m ρ _ => Cert.Kernel17Ideal.Gen.frame m ρ,
    fun m ρ _ => (θ_run _ _ _).mono (fun _ h => ⟨fun c => (h c).2, sem_eq_zero_of_no_sems rfl _⟩) (Cert.Reference17Ideal.Value.run m ρ),
    fun m ρ _ => Cert.Kernel18.Gen.frame m ρ,
    fun m ρ _ => Cert.Kernel18Ideal.Gen.frame m ρ,
    fun m ρ _ => (θ_run _ _ _).mono (fun _ h => ⟨fun c => (h c).2, sem_eq_zero_of_no_sems rfl _⟩) (Cert.Reference18Ideal.Value.run m ρ),
    fun m ρ _ => Cert.Kernel19.Gen.frame m ρ,
    fun m ρ _ => Cert.Kernel19Ideal.Gen.frame m ρ,
    fun m ρ _ => (θ_run _ _ _).mono (fun _ h => ⟨fun c => (h c).2, sem_eq_zero_of_no_sems rfl _⟩) (Cert.Reference19Ideal.Value.run m ρ),
    fun m ρ _ => Cert.Kernel20.Gen.frame m ρ,
    fun m ρ _ => Cert.Kernel20Ideal.Gen.frame m ρ,
    fun m ρ _ => (θ_run _ _ _).mono (fun _ h => ⟨fun c => (h c).2, sem_eq_zero_of_no_sems rfl _⟩) (Cert.Reference20Ideal.Value.run m ρ),
    fun m ρ _ => Cert.Kernel21.Gen.frame m ρ,
    fun m ρ _ => Cert.Kernel21Ideal.Gen.frame m ρ,
    fun m ρ _ => (θ_run _ _ _).mono (fun _ h => ⟨fun c => (h c).2, sem_eq_zero_of_no_sems rfl _⟩) (Cert.Reference21Ideal.Value.run m ρ),
    fun m ρ _ => Cert.Kernel22.Gen.frame m ρ,
    fun m ρ _ => Cert.Kernel22Ideal.Gen.frame m ρ,
    fun m ρ _ => (θ_run _ _ _).mono (fun _ h => ⟨fun c => (h c).2, sem_eq_zero_of_no_sems rfl _⟩) (Cert.Reference22Ideal.Value.run m ρ),
    fun m ρ _ => Cert.Kernel23.Gen.frame m ρ,
    fun m ρ _ => Cert.Kernel23Ideal.Gen.frame m ρ,
    fun m ρ _ => (θ_run _ _ _).mono (fun _ h => ⟨fun c => (h c).2, sem_eq_zero_of_no_sems rfl _⟩) (Cert.Reference23Ideal.Value.run m ρ),
    fun m ρ _ => Cert.Kernel24.Gen.frame m ρ,
    fun m ρ _ => Cert.Kernel24Ideal.Gen.frame m ρ,
    fun m ρ _ => (θ_run _ _ _).mono (fun _ h => ⟨fun c => (h c).2, sem_eq_zero_of_no_sems rfl _⟩) (Cert.Reference24Ideal.Value.run m ρ),
    fun m ρ _ => Cert.Kernel25.Gen.frame m ρ,
    fun m ρ _ => Cert.Kernel25Ideal.Gen.frame m ρ,
    fun m ρ _ => (θ_run _ _ _).mono (fun _ h => ⟨fun c => (h c).2, sem_eq_zero_of_no_sems rfl _⟩) (Cert.Reference25Ideal.Value.run m ρ),
    fun m ρ _ => Cert.Kernel26.Gen.frame m ρ,
    fun m ρ _ => Cert.Kernel26Ideal.Gen.frame m ρ,
    fun m ρ _ => (θ_run _ _ _).mono (fun _ h => ⟨fun c => (h c).2, sem_eq_zero_of_no_sems rfl _⟩) (Cert.Reference26Ideal.Value.run m ρ),
    fun m ρ _ => Cert.Kernel27.Gen.frame m ρ,
    fun m ρ _ => Cert.Kernel27Ideal.Gen.frame m ρ,
    fun m ρ _ => (θ_run _ _ _).mono (fun _ h => ⟨fun c => (h c).2, sem_eq_zero_of_no_sems rfl _⟩) (Cert.Reference27Ideal.Value.run m ρ),
    fun m ρ _ => Cert.Kernel28.Gen.frame m ρ,
    fun m ρ _ => Cert.Kernel28Ideal.Gen.frame m ρ,
    fun m ρ _ => (θ_run _ _ _).mono (fun _ h => ⟨fun c => (h c).2, sem_eq_zero_of_no_sems rfl _⟩) (Cert.Reference28Ideal.Value.run m ρ),
    fun m ρ _ => Cert.Kernel29.Gen.frame m ρ,
    fun m ρ _ => Cert.Kernel29Ideal.Gen.frame m ρ,
    fun m ρ _ => (θ_run _ _ _).mono (fun _ h => ⟨fun c => (h c).2, sem_eq_zero_of_no_sems rfl _⟩) (Cert.Reference29Ideal.Value.run m ρ),
    fun m ρ _ => Cert.Kernel30.Gen.frame m ρ,
    fun m ρ _ => Cert.Kernel30Ideal.Gen.frame m ρ,
    fun m ρ _ => (θ_run _ _ _).mono (fun _ h => ⟨fun c => (h c).2.2, sem_eq_zero_of_no_sems rfl _⟩) (Cert.Reference30Ideal.Value.run m ρ),
    fun m ρ _ => Cert.Kernel31.Gen.frame m ρ,
    fun m ρ _ => Cert.Kernel31Ideal.Gen.frame m ρ,
    fun m ρ _ => (θ_run _ _ _).mono (fun _ h => ⟨fun c => (h c).2.2.2, sem_eq_zero_of_no_sems rfl _⟩) (Cert.Reference31Ideal.Value.run m ρ),
    fun m ρ _ => Cert.Kernel32.Gen.frame m ρ,
    fun m ρ _ => Cert.Kernel32Ideal.Gen.frame m ρ,
    fun m ρ _ => Cert.Kernel32Ideal.Gen.frame m ρ,
    fun m ρ _ => (θ_run _ _ _).mono (fun _ h => ⟨fun c => (h c).2.2.2, sem_eq_zero_of_no_sems rfl _⟩) (Cert.Reference32Ideal.Value.run m ρ),
    fun m ρ _ => (θ_run _ _ _).mono (fun _ h => ⟨fun c => (h c).2.2.2, sem_eq_zero_of_no_sems rfl _⟩) (Cert.Reference32Ideal.Value.run m ρ),
    fun m ρ _ => Cert.Kernel33.Gen.frame m ρ,
    fun m ρ _ => Cert.Kernel33Ideal.Gen.frame m ρ,
    fun m ρ _ => Cert.Kernel33Ideal.Gen.frame m ρ,
    fun m ρ _ => (θ_run _ _ _).mono (fun _ h => ⟨fun c => (h c).2.2, sem_eq_zero_of_no_sems rfl _⟩) (Cert.Reference33Ideal.Value.run m ρ),
    fun m ρ _ => (θ_run _ _ _).mono (fun _ h => ⟨fun c => (h c).2.2, sem_eq_zero_of_no_sems rfl _⟩) (Cert.Reference33Ideal.Value.run m ρ),
    fun m ρ _ => Cert.Kernel34.Gen.frame m ρ,
    fun m ρ _ => Cert.Kernel34Ideal.Gen.frame m ρ,
    fun m ρ _ => Cert.Kernel34Ideal.Gen.frame m ρ,
    fun m ρ _ => (θ_run _ _ _).mono (fun _ h => ⟨fun c => (h c).2.2, sem_eq_zero_of_no_sems rfl _⟩) (Cert.Reference34Ideal.Value.run m ρ),
    fun m ρ _ => (θ_run _ _ _).mono (fun _ h => ⟨fun c => (h c).2.2, sem_eq_zero_of_no_sems rfl _⟩) (Cert.Reference34Ideal.Value.run m ρ),
    fun m ρ _ => Cert.Kernel35.Gen.frame m ρ,
    fun m ρ _ => Cert.Kernel35Ideal.Gen.frame m ρ,
    fun m ρ _ => (θ_run _ _ _).mono (fun _ h => ⟨fun c => (h c).2.2.2.2, sem_eq_zero_of_no_sems rfl _⟩) (Cert.Reference35Ideal.Value.run m ρ),
    fun m ρ _ => Cert.Kernel36.Gen.frame m ρ,
    fun m ρ _ => Cert.Kernel36Ideal.Gen.frame m ρ,
    fun m ρ _ => (θ_run _ _ _).mono (fun _ h => ⟨fun c => (h c).2.2.2.2, sem_eq_zero_of_no_sems rfl _⟩) (Cert.Reference36Ideal.Value.run m ρ),
    fun m ρ _ => Cert.Kernel37.Gen.frame m ρ,
    fun m ρ _ => Cert.Kernel37Ideal.Gen.frame m ρ,
    fun m ρ _ => (θ_run _ _ _).mono (fun _ h => ⟨fun c => (h c).2.2.2.2, sem_eq_zero_of_no_sems rfl _⟩) (Cert.Reference37Ideal.Value.run m ρ),
    fun m ρ _ => Cert.Kernel38.Gen.frame m ρ,
    fun m ρ _ => Cert.Kernel38Ideal.Gen.frame m ρ,
    fun m ρ _ => (θ_run _ _ _).mono (fun _ h => ⟨fun c => (h c).2.2.2.2, sem_eq_zero_of_no_sems rfl _⟩) (Cert.Reference38Ideal.Value.run m ρ),
    fun m ρ _ => Cert.Kernel39.Gen.frame m ρ,
    fun m ρ _ => Cert.Kernel39Ideal.Gen.frame m ρ,
    fun m ρ _ => (θ_run _ _ _).mono (fun _ h => ⟨fun c => (h c).2.2.2.2, sem_eq_zero_of_no_sems rfl _⟩) (Cert.Reference39Ideal.Value.run m ρ),
    fun m ρ _ => Cert.Kernel40.Gen.frame m ρ,
    fun m ρ _ => Cert.Kernel40Ideal.Gen.frame m ρ,
    fun m ρ _ => (θ_run _ _ _).mono (fun _ h => ⟨fun c => (h c).2.2.2.2, sem_eq_zero_of_no_sems rfl _⟩) (Cert.Reference40Ideal.Value.run m ρ),
    fun m ρ _ => Cert.Kernel41.Gen.frame m ρ,
    fun m ρ _ => Cert.Kernel41Ideal.Gen.frame m ρ,
    fun m ρ _ => (θ_run _ _ _).mono (fun _ h => ⟨fun c => (h c).2.2.2.2, sem_eq_zero_of_no_sems rfl _⟩) (Cert.Reference41Ideal.Value.run m ρ),
    fun m ρ _ => Cert.Kernel42.Gen.frame m ρ,
    fun m ρ _ => Cert.Kernel42Ideal.Gen.frame m ρ,
    fun m ρ _ => Cert.Kernel42Ideal.Gen.frame m ρ,
    fun m ρ _ => (θ_run _ _ _).mono (fun _ h => ⟨fun c => (h c).2.2.2, sem_eq_zero_of_no_sems rfl _⟩) (Cert.Reference42Ideal.Value.run m ρ),
    fun m ρ _ => (θ_run _ _ _).mono (fun _ h => ⟨fun c => (h c).2.2.2, sem_eq_zero_of_no_sems rfl _⟩) (Cert.Reference42Ideal.Value.run m ρ),
    fun m ρ _ => Cert.Kernel43.Gen.frame m ρ,
    fun m ρ _ => Cert.Kernel43Ideal.Gen.frame m ρ,
    fun m ρ _ => Cert.Kernel43Ideal.Gen.frame m ρ,
    fun m ρ _ => (θ_run _ _ _).mono (fun _ h => ⟨fun c => (h c).2.2, sem_eq_zero_of_no_sems rfl _⟩) (Cert.Reference43Ideal.Value.run m ρ),
    fun m ρ _ => (θ_run _ _ _).mono (fun _ h => ⟨fun c => (h c).2.2, sem_eq_zero_of_no_sems rfl _⟩) (Cert.Reference43Ideal.Value.run m ρ),
    ⟨IdealRules.named_const.statement Cert.KernelIdeal.κ "mask" .f32 0xF149F2CA#32 ⊥ rfl,
      IdealRules.named_const.statement Cert.KernelIdeal.κ "ln2" .f32 0x3F317218#32 ((Real.log 2 : ℝ) : EReal) rfl⟩,
    algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20,
    trivial, algebraic21,
    trivial, algebraic22,
    trivial, algebraic23,
    trivial, algebraic24,
    trivial, algebraic25,
    trivial, algebraic26,
    trivial, algebraic27,
    trivial, algebraic28,
    trivial, algebraic29,
    trivial, algebraic30,
    trivial, algebraic31,
    trivial, algebraic32,
    trivial, algebraic33,
    ⟨IdealRules.named_const.statement Cert.Kernel34Ideal.κ "mask" .f32 0xF149F2CA#32 ⊥ rfl,
      IdealRules.named_const.statement Cert.Kernel34Ideal.κ "inv_ln2" .f32 0x3FB8AA3B#32 (((Real.log 2)⁻¹ : ℝ) : EReal) rfl⟩, algebraic34,
    trivial, algebraic35,
    trivial, algebraic36,
    trivial, algebraic37,
    trivial, algebraic38,
    trivial, algebraic39,
    trivial, algebraic40,
    trivial, algebraic41,
    IdealRules.named_const.statement Cert.Kernel42Ideal.κ "ln2" .f32 0x3F317218#32 ((Real.log 2 : ℝ) : EReal) rfl, algebraic42,
    IdealRules.named_const.statement Cert.Kernel43Ideal.κ "inv_ln2" .f32 0x3FB8AA3B#32 (((Real.log 2)⁻¹ : ℝ) : EReal) rfl, algebraic43⟩

end Cert.Proof

end
